-- ==== Defs.lean ====
def Pre_LossK (m : (ℓ : Loc Cert.LossK.nD Cert.LossK.τ Cert.LossK.sig) → Buf (Elt Bits) ℓ) : Prop :=
  True

def Pre_LossKIdeal (m : (ℓ : Loc Cert.LossKIdeal.nD Cert.LossKIdeal.τ Cert.LossKIdeal.sig) → Buf (Elt Ideal) ℓ) : Prop :=
  True

def Pre_LossKIdeal_finite_loss [hPre_finite_loss : Cert.Pre_finite_loss.Facts] (m : (ℓ : Loc Cert.LossKIdeal.nD Cert.LossKIdeal.τ Cert.LossKIdeal.sig) → Buf (Elt Ideal) ℓ) : Prop :=
  ∀ c : Dev Cert.LossKIdeal.nD,
    (Cert.Pre_finite_loss.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2))) = (fun _ => 1#1)

def Pre_LossRIdeal (m : (ℓ : Loc Cert.LossRIdeal.nD Cert.LossRIdeal.τ Cert.LossRIdeal.sig) → Buf (Elt Ideal) ℓ) : Prop :=
  True

def Pre_LossRIdeal_finite_loss [hPre_finite_loss : Cert.Pre_finite_loss.Facts] (m : (ℓ : Loc Cert.LossRIdeal.nD Cert.LossRIdeal.τ Cert.LossRIdeal.sig) → Buf (Elt Ideal) ℓ) : Prop :=
  ∀ c : Dev Cert.LossRIdeal.nD,
    (Cert.Pre_finite_loss.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2))) = (fun _ => 1#1)

def Pre_GateK (m : (ℓ : Loc Cert.GateK.nD Cert.GateK.τ Cert.GateK.sig) → Buf (Elt Bits) ℓ) : Prop :=
  True

def Pre_GateKIdeal (m : (ℓ : Loc Cert.GateKIdeal.nD Cert.GateKIdeal.τ Cert.GateKIdeal.sig) → Buf (Elt Ideal) ℓ) : Prop :=
  True

def Pre_GateRIdeal (m : (ℓ : Loc Cert.GateRIdeal.nD Cert.GateRIdeal.τ Cert.GateRIdeal.sig) → Buf (Elt Ideal) ℓ) : Prop :=
  True

def Pre_ConvK (m : (ℓ : Loc Cert.ConvK.nD Cert.ConvK.τ Cert.ConvK.sig) → Buf (Elt Bits) ℓ) : Prop :=
  True

def Pre_ConvKIdeal (m : (ℓ : Loc Cert.ConvKIdeal.nD Cert.ConvKIdeal.τ Cert.ConvKIdeal.sig) → Buf (Elt Ideal) ℓ) : Prop :=
  True

def Pre_ConvRIdeal (m : (ℓ : Loc Cert.ConvRIdeal.nD Cert.ConvRIdeal.τ Cert.ConvRIdeal.sig) → Buf (Elt Ideal) ℓ) : Prop :=
  True

def Pre_DgnK (m : (ℓ : Loc Cert.DgnK.nD Cert.DgnK.τ Cert.DgnK.sig) → Buf (Elt Bits) ℓ) : Prop :=
  True

def Pre_DgnKIdeal (m : (ℓ : Loc Cert.DgnKIdeal.nD Cert.DgnKIdeal.τ Cert.DgnKIdeal.sig) → Buf (Elt Ideal) ℓ) : Prop :=
  True

def Pre_DgnKIdeal_finite_dgn [hPre_finite_dgn : Cert.Pre_finite_dgn.Facts] (m : (ℓ : Loc Cert.DgnKIdeal.nD Cert.DgnKIdeal.τ Cert.DgnKIdeal.sig) → Buf (Elt Ideal) ℓ) : Prop :=
  ∀ c : Dev Cert.DgnKIdeal.nD,
    (Cert.Pre_finite_dgn.fn (F := Ideal) (m ((c.tc : Thread Cert.DgnKIdeal.nD Cert.DgnKIdeal.τ).loc Cert.DgnKIdeal.main_arg0)) (m ((c.tc : Thread Cert.DgnKIdeal.nD Cert.DgnKIdeal.τ).loc Cert.DgnKIdeal.main_arg1)) (m ((c.tc : Thread Cert.DgnKIdeal.nD Cert.DgnKIdeal.τ).loc Cert.DgnKIdeal.main_arg2)) (m ((c.tc : Thread Cert.DgnKIdeal.nD Cert.DgnKIdeal.τ).loc Cert.DgnKIdeal.main_arg3)) (m ((c.tc : Thread Cert.DgnKIdeal.nD Cert.DgnKIdeal.τ).loc Cert.DgnKIdeal.main_arg4))) = (fun _ => 1#1)

def Pre_DgnRIdeal (m : (ℓ : Loc Cert.DgnRIdeal.nD Cert.DgnRIdeal.τ Cert.DgnRIdeal.sig) → Buf (Elt Ideal) ℓ) : Prop :=
  True

def Pre_DgnRIdeal_finite_dgn [hPre_finite_dgn : Cert.Pre_finite_dgn.Facts] (m : (ℓ : Loc Cert.DgnRIdeal.nD Cert.DgnRIdeal.τ Cert.DgnRIdeal.sig) → Buf (Elt Ideal) ℓ) : Prop :=
  ∀ c : Dev Cert.DgnRIdeal.nD,
    (Cert.Pre_finite_dgn.fn (F := Ideal) (m ((c.tc : Thread Cert.DgnRIdeal.nD Cert.DgnRIdeal.τ).loc Cert.DgnRIdeal.main_arg0)) (m ((c.tc : Thread Cert.DgnRIdeal.nD Cert.DgnRIdeal.τ).loc Cert.DgnRIdeal.main_arg1)) (m ((c.tc : Thread Cert.DgnRIdeal.nD Cert.DgnRIdeal.τ).loc Cert.DgnRIdeal.main_arg2)) (m ((c.tc : Thread Cert.DgnRIdeal.nD Cert.DgnRIdeal.τ).loc Cert.DgnRIdeal.main_arg3)) (m ((c.tc : Thread Cert.DgnRIdeal.nD Cert.DgnRIdeal.τ).loc Cert.DgnRIdeal.main_arg4))) = (fun _ => 1#1)

def Pre_MlpbK (m : (ℓ : Loc Cert.MlpbK.nD Cert.MlpbK.τ Cert.MlpbK.sig) → Buf (Elt Bits) ℓ) : Prop :=
  True

def Pre_MlpbKIdeal (m : (ℓ : Loc Cert.MlpbKIdeal.nD Cert.MlpbKIdeal.τ Cert.MlpbKIdeal.sig) → Buf (Elt Ideal) ℓ) : Prop :=
  True

def Pre_MlpbKIdeal_finite_mlpb [hPre_finite_mlpb : Cert.Pre_finite_mlpb.Facts] (m : (ℓ : Loc Cert.MlpbKIdeal.nD Cert.MlpbKIdeal.τ Cert.MlpbKIdeal.sig) → Buf (Elt Ideal) ℓ) : Prop :=
  ∀ c : Dev Cert.MlpbKIdeal.nD,
    (Cert.Pre_finite_mlpb.fn (F := Ideal) (m ((c.tc : Thread Cert.MlpbKIdeal.nD Cert.MlpbKIdeal.τ).loc Cert.MlpbKIdeal.main_arg0)) (m ((c.tc : Thread Cert.MlpbKIdeal.nD Cert.MlpbKIdeal.τ).loc Cert.MlpbKIdeal.main_arg1)) (m ((c.tc : Thread Cert.MlpbKIdeal.nD Cert.MlpbKIdeal.τ).loc Cert.MlpbKIdeal.main_arg2)) (m ((c.tc : Thread Cert.MlpbKIdeal.nD Cert.MlpbKIdeal.τ).loc Cert.MlpbKIdeal.main_arg3)) (m ((c.tc : Thread Cert.MlpbKIdeal.nD Cert.MlpbKIdeal.τ).loc Cert.MlpbKIdeal.main_arg4))) = (fun _ => 1#1)

def Pre_MlpbRIdeal (m : (ℓ : Loc Cert.MlpbRIdeal.nD Cert.MlpbRIdeal.τ Cert.MlpbRIdeal.sig) → Buf (Elt Ideal) ℓ) : Prop :=
  True

def Pre_MlpbRIdeal_finite_mlpb [hPre_finite_mlpb : Cert.Pre_finite_mlpb.Facts] (m : (ℓ : Loc Cert.MlpbRIdeal.nD Cert.MlpbRIdeal.τ Cert.MlpbRIdeal.sig) → Buf (Elt Ideal) ℓ) : Prop :=
  ∀ c : Dev Cert.MlpbRIdeal.nD,
    (Cert.Pre_finite_mlpb.fn (F := Ideal) (m ((c.tc : Thread Cert.MlpbRIdeal.nD Cert.MlpbRIdeal.τ).loc Cert.MlpbRIdeal.main_arg0)) (m ((c.tc : Thread Cert.MlpbRIdeal.nD Cert.MlpbRIdeal.τ).loc Cert.MlpbRIdeal.main_arg1)) (m ((c.tc : Thread Cert.MlpbRIdeal.nD Cert.MlpbRIdeal.τ).loc Cert.MlpbRIdeal.main_arg2)) (m ((c.tc : Thread Cert.MlpbRIdeal.nD Cert.MlpbRIdeal.τ).loc Cert.MlpbRIdeal.main_arg3)) (m ((c.tc : Thread Cert.MlpbRIdeal.nD Cert.MlpbRIdeal.τ).loc Cert.MlpbRIdeal.main_arg4))) = (fun _ => 1#1)

def Pre_Comb1K (m : (ℓ : Loc Cert.Comb1K.nD Cert.Comb1K.τ Cert.Comb1K.sig) → Buf (Elt Bits) ℓ) : Prop :=
  True

def Pre_Comb1KIdeal (m : (ℓ : Loc Cert.Comb1KIdeal.nD Cert.Comb1KIdeal.τ Cert.Comb1KIdeal.sig) → Buf (Elt Ideal) ℓ) : Prop :=
  True

def Pre_Comb1RIdeal (m : (ℓ : Loc Cert.Comb1RIdeal.nD Cert.Comb1RIdeal.τ Cert.Comb1RIdeal.sig) → Buf (Elt Ideal) ℓ) : Prop :=
  True

def Pre_Comb0K (m : (ℓ : Loc Cert.Comb0K.nD Cert.Comb0K.τ Cert.Comb0K.sig) → Buf (Elt Bits) ℓ) : Prop :=
  True

def Pre_Comb0KIdeal (m : (ℓ : Loc Cert.Comb0KIdeal.nD Cert.Comb0KIdeal.τ Cert.Comb0KIdeal.sig) → Buf (Elt Ideal) ℓ) : Prop :=
  True

def Pre_Comb0RIdeal (m : (ℓ : Loc Cert.Comb0RIdeal.nD Cert.Comb0RIdeal.τ Cert.Comb0RIdeal.sig) → Buf (Elt Ideal) ℓ) : Prop :=
  True

def Pre_ConvfK (m : (ℓ : Loc Cert.ConvfK.nD Cert.ConvfK.τ Cert.ConvfK.sig) → Buf (Elt Bits) ℓ) : Prop :=
  True

def Pre_ConvfKIdeal (m : (ℓ : Loc Cert.ConvfKIdeal.nD Cert.ConvfKIdeal.τ Cert.ConvfKIdeal.sig) → Buf (Elt Ideal) ℓ) : Prop :=
  True

def Pre_ConvfRIdeal (m : (ℓ : Loc Cert.ConvfRIdeal.nD Cert.ConvfRIdeal.τ Cert.ConvfRIdeal.sig) → Buf (Elt Ideal) ℓ) : Prop :=
  True

def Pre_GlogK (m : (ℓ : Loc Cert.GlogK.nD Cert.GlogK.τ Cert.GlogK.sig) → Buf (Elt Bits) ℓ) : Prop :=
  True

def Pre_GlogKIdeal (m : (ℓ : Loc Cert.GlogKIdeal.nD Cert.GlogKIdeal.τ Cert.GlogKIdeal.sig) → Buf (Elt Ideal) ℓ) : Prop :=
  True

def Pre_GlogRIdeal (m : (ℓ : Loc Cert.GlogRIdeal.nD Cert.GlogRIdeal.τ Cert.GlogRIdeal.sig) → Buf (Elt Ideal) ℓ) : Prop :=
  True

def Pre_NmmK (m : (ℓ : Loc Cert.NmmK.nD Cert.NmmK.τ Cert.NmmK.sig) → Buf (Elt Bits) ℓ) : Prop :=
  True

def Pre_NmmKIdeal (m : (ℓ : Loc Cert.NmmKIdeal.nD Cert.NmmKIdeal.τ Cert.NmmKIdeal.sig) → Buf (Elt Ideal) ℓ) : Prop :=
  True

def Pre_NmmRIdeal (m : (ℓ : Loc Cert.NmmRIdeal.nD Cert.NmmRIdeal.τ Cert.NmmRIdeal.sig) → Buf (Elt Ideal) ℓ) : Prop :=
  True

def Pre_Mix1K (m : (ℓ : Loc Cert.Mix1K.nD Cert.Mix1K.τ Cert.Mix1K.sig) → Buf (Elt Bits) ℓ) : Prop :=
  True

def Pre_Mix1KIdeal (m : (ℓ : Loc Cert.Mix1KIdeal.nD Cert.Mix1KIdeal.τ Cert.Mix1KIdeal.sig) → Buf (Elt Ideal) ℓ) : Prop :=
  True

def Pre_Mix1RIdeal (m : (ℓ : Loc Cert.Mix1RIdeal.nD Cert.Mix1RIdeal.τ Cert.Mix1RIdeal.sig) → Buf (Elt Ideal) ℓ) : Prop :=
  True

def Pre_Mix0K (m : (ℓ : Loc Cert.Mix0K.nD Cert.Mix0K.τ Cert.Mix0K.sig) → Buf (Elt Bits) ℓ) : Prop :=
  True

def Pre_Mix0KIdeal (m : (ℓ : Loc Cert.Mix0KIdeal.nD Cert.Mix0KIdeal.τ Cert.Mix0KIdeal.sig) → Buf (Elt Ideal) ℓ) : Prop :=
  True

def Pre_Mix0RIdeal (m : (ℓ : Loc Cert.Mix0RIdeal.nD Cert.Mix0RIdeal.τ Cert.Mix0RIdeal.sig) → Buf (Elt Ideal) ℓ) : Prop :=
  True

def Pre_GlafK (m : (ℓ : Loc Cert.GlafK.nD Cert.GlafK.τ Cert.GlafK.sig) → Buf (Elt Bits) ℓ) : Prop :=
  True

def Pre_GlafKIdeal (m : (ℓ : Loc Cert.GlafKIdeal.nD Cert.GlafKIdeal.τ Cert.GlafKIdeal.sig) → Buf (Elt Ideal) ℓ) : Prop :=
  True

def Pre_GlafKIdeal_finite_glaf [hPre_finite_glaf : Cert.Pre_finite_glaf.Facts] (m : (ℓ : Loc Cert.GlafKIdeal.nD Cert.GlafKIdeal.τ Cert.GlafKIdeal.sig) → Buf (Elt Ideal) ℓ) : Prop :=
  ∀ c : Dev Cert.GlafKIdeal.nD,
    (Cert.Pre_finite_glaf.fn (F := Ideal) (m ((c.tc : Thread Cert.GlafKIdeal.nD Cert.GlafKIdeal.τ).loc Cert.GlafKIdeal.main_arg0)) (m ((c.tc : Thread Cert.GlafKIdeal.nD Cert.GlafKIdeal.τ).loc Cert.GlafKIdeal.main_arg1))) = (fun _ => 1#1)

def Pre_GlafRIdeal (m : (ℓ : Loc Cert.GlafRIdeal.nD Cert.GlafRIdeal.τ Cert.GlafRIdeal.sig) → Buf (Elt Ideal) ℓ) : Prop :=
  True

def Pre_GlafRIdeal_finite_glaf [hPre_finite_glaf : Cert.Pre_finite_glaf.Facts] (m : (ℓ : Loc Cert.GlafRIdeal.nD Cert.GlafRIdeal.τ Cert.GlafRIdeal.sig) → Buf (Elt Ideal) ℓ) : Prop :=
  ∀ c : Dev Cert.GlafRIdeal.nD,
    (Cert.Pre_finite_glaf.fn (F := Ideal) (m ((c.tc : Thread Cert.GlafRIdeal.nD Cert.GlafRIdeal.τ).loc Cert.GlafRIdeal.main_arg0)) (m ((c.tc : Thread Cert.GlafRIdeal.nD Cert.GlafRIdeal.τ).loc Cert.GlafRIdeal.main_arg1))) = (fun _ => 1#1)

def Pre_HgfK (m : (ℓ : Loc Cert.HgfK.nD Cert.HgfK.τ Cert.HgfK.sig) → Buf (Elt Bits) ℓ) : Prop :=
  True

def Pre_HgfKIdeal (m : (ℓ : Loc Cert.HgfKIdeal.nD Cert.HgfKIdeal.τ Cert.HgfKIdeal.sig) → Buf (Elt Ideal) ℓ) : Prop :=
  True

def Pre_HgfKIdeal_finite_hgf [hPre_finite_hgf : Cert.Pre_finite_hgf.Facts] (m : (ℓ : Loc Cert.HgfKIdeal.nD Cert.HgfKIdeal.τ Cert.HgfKIdeal.sig) → Buf (Elt Ideal) ℓ) : Prop :=
  ∀ c : Dev Cert.HgfKIdeal.nD,
    (Cert.Pre_finite_hgf.fn (F := Ideal) (m ((c.tc : Thread Cert.HgfKIdeal.nD Cert.HgfKIdeal.τ).loc Cert.HgfKIdeal.main_arg0)) (m ((c.tc : Thread Cert.HgfKIdeal.nD Cert.HgfKIdeal.τ).loc Cert.HgfKIdeal.main_arg1))) = (fun _ => 1#1)

def Pre_HgfRIdeal (m : (ℓ : Loc Cert.HgfRIdeal.nD Cert.HgfRIdeal.τ Cert.HgfRIdeal.sig) → Buf (Elt Ideal) ℓ) : Prop :=
  True

def Pre_HgfRIdeal_finite_hgf [hPre_finite_hgf : Cert.Pre_finite_hgf.Facts] (m : (ℓ : Loc Cert.HgfRIdeal.nD Cert.HgfRIdeal.τ Cert.HgfRIdeal.sig) → Buf (Elt Ideal) ℓ) : Prop :=
  ∀ c : Dev Cert.HgfRIdeal.nD,
    (Cert.Pre_finite_hgf.fn (F := Ideal) (m ((c.tc : Thread Cert.HgfRIdeal.nD Cert.HgfRIdeal.τ).loc Cert.HgfRIdeal.main_arg0)) (m ((c.tc : Thread Cert.HgfRIdeal.nD Cert.HgfRIdeal.τ).loc Cert.HgfRIdeal.main_arg1))) = (fun _ => 1#1)

def Pre_Glab1 (m : (ℓ : Loc Cert.Glab1.nD Cert.Glab1.τ Cert.Glab1.sig) → Buf (Elt Bits) ℓ) : Prop :=
  True

def Pre_Glab1Ideal (m : (ℓ : Loc Cert.Glab1Ideal.nD Cert.Glab1Ideal.τ Cert.Glab1Ideal.sig) → Buf (Elt Ideal) ℓ) : Prop :=
  True

def Pre_Hgb1 (m : (ℓ : Loc Cert.Hgb1.nD Cert.Hgb1.τ Cert.Hgb1.sig) → Buf (Elt Bits) ℓ) : Prop :=
  True

def Pre_Hgb1Ideal (m : (ℓ : Loc Cert.Hgb1Ideal.nD Cert.Hgb1Ideal.τ Cert.Hgb1Ideal.sig) → Buf (Elt Ideal) ℓ) : Prop :=
  True

def Pre_MresK (m : (ℓ : Loc Cert.MresK.nD Cert.MresK.τ Cert.MresK.sig) → Buf (Elt Bits) ℓ) : Prop :=
  True

def Pre_MresKIdeal (m : (ℓ : Loc Cert.MresKIdeal.nD Cert.MresKIdeal.τ Cert.MresKIdeal.sig) → Buf (Elt Ideal) ℓ) : Prop :=
  True

def Pre_MresRIdeal (m : (ℓ : Loc Cert.MresRIdeal.nD Cert.MresRIdeal.τ Cert.MresRIdeal.sig) → Buf (Elt Ideal) ℓ) : Prop :=
  True

def Pre_WgrK (m : (ℓ : Loc Cert.WgrK.nD Cert.WgrK.τ Cert.WgrK.sig) → Buf (Elt Bits) ℓ) : Prop :=
  True

def Pre_WgrKIdeal (m : (ℓ : Loc Cert.WgrKIdeal.nD Cert.WgrKIdeal.τ Cert.WgrKIdeal.sig) → Buf (Elt Ideal) ℓ) : Prop :=
  True

def Pre_WgrRIdeal (m : (ℓ : Loc Cert.WgrRIdeal.nD Cert.WgrRIdeal.τ Cert.WgrRIdeal.sig) → Buf (Elt Ideal) ℓ) : Prop :=
  True

def Pre_AdwK (m : (ℓ : Loc Cert.AdwK.nD Cert.AdwK.τ Cert.AdwK.sig) → Buf (Elt Bits) ℓ) : Prop :=
  True

def Pre_AdwKIdeal (m : (ℓ : Loc Cert.AdwKIdeal.nD Cert.AdwKIdeal.τ Cert.AdwKIdeal.sig) → Buf (Elt Ideal) ℓ) : Prop :=
  True

def Pre_AdwRIdeal (m : (ℓ : Loc Cert.AdwRIdeal.nD Cert.AdwRIdeal.τ Cert.AdwRIdeal.sig) → Buf (Elt Ideal) ℓ) : Prop :=
  True

def Pre_AdlK (m : (ℓ : Loc Cert.AdlK.nD Cert.AdlK.τ Cert.AdlK.sig) → Buf (Elt Bits) ℓ) : Prop :=
  True

def Pre_AdlKIdeal (m : (ℓ : Loc Cert.AdlKIdeal.nD Cert.AdlKIdeal.τ Cert.AdlKIdeal.sig) → Buf (Elt Ideal) ℓ) : Prop :=
  True

def Pre_AdlRIdeal (m : (ℓ : Loc Cert.AdlRIdeal.nD Cert.AdlRIdeal.τ Cert.AdlRIdeal.sig) → Buf (Elt Ideal) ℓ) : Prop :=
  True

def Pre_AdhK (m : (ℓ : Loc Cert.AdhK.nD Cert.AdhK.τ Cert.AdhK.sig) → Buf (Elt Bits) ℓ) : Prop :=
  True

def Pre_AdhKIdeal (m : (ℓ : Loc Cert.AdhKIdeal.nD Cert.AdhKIdeal.τ Cert.AdhKIdeal.sig) → Buf (Elt Ideal) ℓ) : Prop :=
  True

def Pre_AdhRIdeal (m : (ℓ : Loc Cert.AdhRIdeal.nD Cert.AdhRIdeal.τ Cert.AdhRIdeal.sig) → Buf (Elt Ideal) ℓ) : Prop :=
  True

def Pre_SumsK (m : (ℓ : Loc Cert.SumsK.nD Cert.SumsK.τ Cert.SumsK.sig) → Buf (Elt Bits) ℓ) : Prop :=
  True

def Pre_SumsKIdeal (m : (ℓ : Loc Cert.SumsKIdeal.nD Cert.SumsKIdeal.τ Cert.SumsKIdeal.sig) → Buf (Elt Ideal) ℓ) : Prop :=
  True

def Pre_SumsRIdeal (m : (ℓ : Loc Cert.SumsRIdeal.nD Cert.SumsRIdeal.τ Cert.SumsRIdeal.sig) → Buf (Elt Ideal) ℓ) : Prop :=
  True

def Pre_As0K (m : (ℓ : Loc Cert.As0K.nD Cert.As0K.τ Cert.As0K.sig) → Buf (Elt Bits) ℓ) : Prop :=
  True

def Pre_As0KIdeal (m : (ℓ : Loc Cert.As0KIdeal.nD Cert.As0KIdeal.τ Cert.As0KIdeal.sig) → Buf (Elt Ideal) ℓ) : Prop :=
  True

def Pre_As0RIdeal (m : (ℓ : Loc Cert.As0RIdeal.nD Cert.As0RIdeal.τ Cert.As0RIdeal.sig) → Buf (Elt Ideal) ℓ) : Prop :=
  True

def Pre_As1K (m : (ℓ : Loc Cert.As1K.nD Cert.As1K.τ Cert.As1K.sig) → Buf (Elt Bits) ℓ) : Prop :=
  True

def Pre_As1KIdeal (m : (ℓ : Loc Cert.As1KIdeal.nD Cert.As1KIdeal.τ Cert.As1KIdeal.sig) → Buf (Elt Ideal) ℓ) : Prop :=
  True

def Pre_As1RIdeal (m : (ℓ : Loc Cert.As1RIdeal.nD Cert.As1RIdeal.τ Cert.As1RIdeal.sig) → Buf (Elt Ideal) ℓ) : Prop :=
  True

def quiescent_LossK [hLossK : Cert.LossK.Facts] : Prop :=
  ∀ (m : (ℓ : Loc Cert.LossK.nD Cert.LossK.τ Cert.LossK.sig) → Buf (Elt Bits) ℓ) (g : Dev Cert.LossK.nD → PrngReg), Pre_LossK m →
    θ_run (Cert.LossK.defs (F := Bits)) (onTc (τ := Cert.LossK.τ) (Cert.LossK.main (F := Bits))) ⟨m, fun _ => 0, g⟩ (fun r => (∀ c : Dev Cert.LossK.nD,
      r.2.mem ((c.tc : Thread Cert.LossK.nD Cert.LossK.τ).loc Cert.LossK.main_arg0) = m ((c.tc : Thread Cert.LossK.nD Cert.LossK.τ).loc Cert.LossK.main_arg0)
      ∧ r.2.mem ((c.tc : Thread Cert.LossK.nD Cert.LossK.τ).loc Cert.LossK.main_arg1) = m ((c.tc : Thread Cert.LossK.nD Cert.LossK.τ).loc Cert.LossK.main_arg1)
      ∧ r.2.mem ((c.tc : Thread Cert.LossK.nD Cert.LossK.τ).loc Cert.LossK.main_arg2) = m ((c.tc : Thread Cert.LossK.nD Cert.LossK.τ).loc Cert.LossK.main_arg2))
      ∧ r.2.sem = fun _ => 0)

def quiescent_LossKIdeal [hLossKIdeal : Cert.LossKIdeal.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ r.2.sem = fun _ => 0)

def quiescent_LossKIdeal_pre_finite_loss [hLossKIdeal : Cert.LossKIdeal.Facts] [hPre_finite_loss : Cert.Pre_finite_loss.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal_finite_loss m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ r.2.sem = fun _ => 0)

def quiescent_LossRIdeal [hLossRIdeal : Cert.LossRIdeal.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2))
      ∧ r.2.sem = fun _ => 0)

def quiescent_LossRIdeal_pre_finite_loss [hLossRIdeal : Cert.LossRIdeal.Facts] [hPre_finite_loss : Cert.Pre_finite_loss.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal_finite_loss m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2))
      ∧ r.2.sem = fun _ => 0)

def quiescent_GateK [hGateK : Cert.GateK.Facts] : Prop :=
  ∀ (m : (ℓ : Loc Cert.GateK.nD Cert.GateK.τ Cert.GateK.sig) → Buf (Elt Bits) ℓ) (g : Dev Cert.GateK.nD → PrngReg), Pre_GateK m →
    θ_run (Cert.GateK.defs (F := Bits)) (onTc (τ := Cert.GateK.τ) (Cert.GateK.main (F := Bits))) ⟨m, fun _ => 0, g⟩ (fun r => (∀ c : Dev Cert.GateK.nD,
      r.2.mem ((c.tc : Thread Cert.GateK.nD Cert.GateK.τ).loc Cert.GateK.main_arg0) = m ((c.tc : Thread Cert.GateK.nD Cert.GateK.τ).loc Cert.GateK.main_arg0)
      ∧ r.2.mem ((c.tc : Thread Cert.GateK.nD Cert.GateK.τ).loc Cert.GateK.main_arg1) = m ((c.tc : Thread Cert.GateK.nD Cert.GateK.τ).loc Cert.GateK.main_arg1)
      ∧ r.2.mem ((c.tc : Thread Cert.GateK.nD Cert.GateK.τ).loc Cert.GateK.main_arg2) = m ((c.tc : Thread Cert.GateK.nD Cert.GateK.τ).loc Cert.GateK.main_arg2))
      ∧ r.2.sem = fun _ => 0)

def quiescent_GateKIdeal [hGateKIdeal : Cert.GateKIdeal.Facts] : Prop :=
  ∀ (m : (ℓ : Loc Cert.GateKIdeal.nD Cert.GateKIdeal.τ Cert.GateKIdeal.sig) → Buf (Elt Ideal) ℓ) (g : Dev Cert.GateKIdeal.nD → PrngReg), Pre_GateKIdeal m →
    θ_run (Cert.GateKIdeal.defs (F := Ideal)) (onTc (τ := Cert.GateKIdeal.τ) (Cert.GateKIdeal.main (F := Ideal))) ⟨m, fun _ => 0, g⟩ (fun r => (∀ c : Dev Cert.GateKIdeal.nD,
      r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
      ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1)
      ∧ r.2.mem ((c.tc : Thread Cert.GateKIdeal.nD Cert.GateKIdeal.τ).loc Cert.GateKIdeal.main_arg2) = m ((c.tc : Thread Cert.GateKIdeal.nD Cert.GateKIdeal.τ).loc Cert.GateKIdeal.main_arg2))
      ∧ r.2.sem = fun _ => 0)

def quiescent_GateRIdeal [hGateRIdeal : Cert.GateRIdeal.Facts] : Prop :=
  ∀ (m : (ℓ : Loc Cert.GateRIdeal.nD Cert.GateRIdeal.τ Cert.GateRIdeal.sig) → Buf (Elt Ideal) ℓ) (g : Dev Cert.GateRIdeal.nD → PrngReg), Pre_GateRIdeal m →
    θ_run (Cert.GateRIdeal.defs (F := Ideal)) (onTc (τ := Cert.GateRIdeal.τ) (Cert.GateRIdeal.main (F := Ideal))) ⟨m, fun _ => 0, g⟩ (fun r => (∀ c : Dev Cert.GateRIdeal.nD,
      r.2.mem ((c.tc : Thread Cert.GateRIdeal.nD Cert.GateRIdeal.τ).loc Cert.GateRIdeal.main_arg0) = m ((c.tc : Thread Cert.GateRIdeal.nD Cert.GateRIdeal.τ).loc Cert.GateRIdeal.main_arg0)
      ∧ r.2.mem ((c.tc : Thread Cert.GateRIdeal.nD Cert.GateRIdeal.τ).loc Cert.GateRIdeal.main_arg1) = m ((c.tc : Thread Cert.GateRIdeal.nD Cert.GateRIdeal.τ).loc Cert.GateRIdeal.main_arg1)
      ∧ r.2.mem ((c.tc : Thread Cert.GateRIdeal.nD Cert.GateRIdeal.τ).loc Cert.GateRIdeal.main_arg2) = m ((c.tc : Thread Cert.GateRIdeal.nD Cert.GateRIdeal.τ).loc Cert.GateRIdeal.main_arg2))
      ∧ r.2.sem = fun _ => 0)

def quiescent_ConvK [hConvK : Cert.ConvK.Facts] : Prop :=
  ∀ (m : (ℓ : Loc Cert.ConvK.nD Cert.ConvK.τ Cert.ConvK.sig) → Buf (Elt Bits) ℓ) (g : Dev Cert.ConvK.nD → PrngReg), Pre_ConvK m →
    θ_run (Cert.ConvK.defs (F := Bits)) (onTc (τ := Cert.ConvK.τ) (Cert.ConvK.main (F := Bits))) ⟨m, fun _ => 0, g⟩ (fun r => (∀ c : Dev Cert.ConvK.nD,
      r.2.mem ((c.tc : Thread Cert.ConvK.nD Cert.ConvK.τ).loc Cert.ConvK.main_arg0) = m ((c.tc : Thread Cert.ConvK.nD Cert.ConvK.τ).loc Cert.ConvK.main_arg0)
      ∧ r.2.mem ((c.tc : Thread Cert.ConvK.nD Cert.ConvK.τ).loc Cert.ConvK.main_arg1) = m ((c.tc : Thread Cert.ConvK.nD Cert.ConvK.τ).loc Cert.ConvK.main_arg1)
      ∧ r.2.mem ((c.tc : Thread Cert.ConvK.nD Cert.ConvK.τ).loc Cert.ConvK.main_arg2) = m ((c.tc : Thread Cert.ConvK.nD Cert.ConvK.τ).loc Cert.ConvK.main_arg2)
      ∧ r.2.mem ((c.tc : Thread Cert.ConvK.nD Cert.ConvK.τ).loc Cert.ConvK.main_arg3) = m ((c.tc : Thread Cert.ConvK.nD Cert.ConvK.τ).loc Cert.ConvK.main_arg3))
      ∧ r.2.sem = fun _ => 0)

def quiescent_ConvKIdeal [hConvKIdeal : Cert.ConvKIdeal.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
      ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
      ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3))
      ∧ r.2.sem = fun _ => 0)

def quiescent_ConvRIdeal [hConvRIdeal : Cert.ConvRIdeal.Facts] : Prop :=
  ∀ (m : (ℓ : Loc Cert.ConvRIdeal.nD Cert.ConvRIdeal.τ Cert.ConvRIdeal.sig) → Buf (Elt Ideal) ℓ) (g : Dev Cert.ConvRIdeal.nD → PrngReg), Pre_ConvRIdeal m →
    θ_run (Cert.ConvRIdeal.defs (F := Ideal)) (onTc (τ := Cert.ConvRIdeal.τ) (Cert.ConvRIdeal.main (F := Ideal))) ⟨m, fun _ => 0, g⟩ (fun r => (∀ c : Dev Cert.ConvRIdeal.nD,
      r.2.mem ((c.tc : Thread Cert.ConvRIdeal.nD Cert.ConvRIdeal.τ).loc Cert.ConvRIdeal.main_arg0) = m ((c.tc : Thread Cert.ConvRIdeal.nD Cert.ConvRIdeal.τ).loc Cert.ConvRIdeal.main_arg0)
      ∧ r.2.mem ((c.tc : Thread Cert.ConvRIdeal.nD Cert.ConvRIdeal.τ).loc Cert.ConvRIdeal.main_arg1) = m ((c.tc : Thread Cert.ConvRIdeal.nD Cert.ConvRIdeal.τ).loc Cert.ConvRIdeal.main_arg1)
      ∧ r.2.mem ((c.tc : Thread Cert.ConvRIdeal.nD Cert.ConvRIdeal.τ).loc Cert.ConvRIdeal.main_arg2) = m ((c.tc : Thread Cert.ConvRIdeal.nD Cert.ConvRIdeal.τ).loc Cert.ConvRIdeal.main_arg2)
      ∧ r.2.mem ((c.tc : Thread Cert.ConvRIdeal.nD Cert.ConvRIdeal.τ).loc Cert.ConvRIdeal.main_arg3) = m ((c.tc : Thread Cert.ConvRIdeal.nD Cert.ConvRIdeal.τ).loc Cert.ConvRIdeal.main_arg3))
      ∧ r.2.sem = fun _ => 0)

def quiescent_DgnK [hDgnK : Cert.DgnK.Facts] : Prop :=
  ∀ (m : (ℓ : Loc Cert.DgnK.nD Cert.DgnK.τ Cert.DgnK.sig) → Buf (Elt Bits) ℓ) (g : Dev Cert.DgnK.nD → PrngReg), Pre_DgnK m →
    θ_run (Cert.DgnK.defs (F := Bits)) (onTc (τ := Cert.DgnK.τ) (Cert.DgnK.main (F := Bits))) ⟨m, fun _ => 0, g⟩ (fun r => (∀ c : Dev Cert.DgnK.nD,
      r.2.mem ((c.tc : Thread Cert.DgnK.nD Cert.DgnK.τ).loc Cert.DgnK.main_arg0) = m ((c.tc : Thread Cert.DgnK.nD Cert.DgnK.τ).loc Cert.DgnK.main_arg0)
      ∧ r.2.mem ((c.tc : Thread Cert.DgnK.nD Cert.DgnK.τ).loc Cert.DgnK.main_arg1) = m ((c.tc : Thread Cert.DgnK.nD Cert.DgnK.τ).loc Cert.DgnK.main_arg1)
      ∧ r.2.mem ((c.tc : Thread Cert.DgnK.nD Cert.DgnK.τ).loc Cert.DgnK.main_arg2) = m ((c.tc : Thread Cert.DgnK.nD Cert.DgnK.τ).loc Cert.DgnK.main_arg2)
      ∧ r.2.mem ((c.tc : Thread Cert.DgnK.nD Cert.DgnK.τ).loc Cert.DgnK.main_arg3) = m ((c.tc : Thread Cert.DgnK.nD Cert.DgnK.τ).loc Cert.DgnK.main_arg3)
      ∧ r.2.mem ((c.tc : Thread Cert.DgnK.nD Cert.DgnK.τ).loc Cert.DgnK.main_arg4) = m ((c.tc : Thread Cert.DgnK.nD Cert.DgnK.τ).loc Cert.DgnK.main_arg4))
      ∧ r.2.sem = fun _ => 0)

def quiescent_DgnKIdeal [hDgnKIdeal : Cert.DgnKIdeal.Facts] : Prop :=
  ∀ (m : (ℓ : Loc Cert.DgnKIdeal.nD Cert.DgnKIdeal.τ Cert.DgnKIdeal.sig) → Buf (Elt Ideal) ℓ) (g : Dev Cert.DgnKIdeal.nD → PrngReg), Pre_DgnKIdeal m →
    θ_run (Cert.DgnKIdeal.defs (F := Ideal)) (onTc (τ := Cert.DgnKIdeal.τ) (Cert.DgnKIdeal.main (F := Ideal))) ⟨m, fun _ => 0, g⟩ (fun r => (∀ c : Dev Cert.DgnKIdeal.nD,
      r.2.mem ((c.tc : Thread Cert.DgnKIdeal.nD Cert.DgnKIdeal.τ).loc Cert.DgnKIdeal.main_arg0) = m ((c.tc : Thread Cert.DgnKIdeal.nD Cert.DgnKIdeal.τ).loc Cert.DgnKIdeal.main_arg0)
      ∧ r.2.mem ((c.tc : Thread Cert.DgnKIdeal.nD Cert.DgnKIdeal.τ).loc Cert.DgnKIdeal.main_arg1) = m ((c.tc : Thread Cert.DgnKIdeal.nD Cert.DgnKIdeal.τ).loc Cert.DgnKIdeal.main_arg1)
      ∧ r.2.mem ((c.tc : Thread Cert.DgnKIdeal.nD Cert.DgnKIdeal.τ).loc Cert.DgnKIdeal.main_arg2) = m ((c.tc : Thread Cert.DgnKIdeal.nD Cert.DgnKIdeal.τ).loc Cert.DgnKIdeal.main_arg2)
      ∧ r.2.mem ((c.tc : Thread Cert.DgnKIdeal.nD Cert.DgnKIdeal.τ).loc Cert.DgnKIdeal.main_arg3) = m ((c.tc : Thread Cert.DgnKIdeal.nD Cert.DgnKIdeal.τ).loc Cert.DgnKIdeal.main_arg3)
      ∧ r.2.mem ((c.tc : Thread Cert.DgnKIdeal.nD Cert.DgnKIdeal.τ).loc Cert.DgnKIdeal.main_arg4) = m ((c.tc : Thread Cert.DgnKIdeal.nD Cert.DgnKIdeal.τ).loc Cert.DgnKIdeal.main_arg4))
      ∧ r.2.sem = fun _ => 0)

def quiescent_DgnKIdeal_pre_finite_dgn [hDgnKIdeal : Cert.DgnKIdeal.Facts] [hPre_finite_dgn : Cert.Pre_finite_dgn.Facts] : Prop :=
  ∀ (m : (ℓ : Loc Cert.DgnKIdeal.nD Cert.DgnKIdeal.τ Cert.DgnKIdeal.sig) → Buf (Elt Ideal) ℓ) (g : Dev Cert.DgnKIdeal.nD → PrngReg), Pre_DgnKIdeal_finite_dgn m →
    θ_run (Cert.DgnKIdeal.defs (F := Ideal)) (onTc (τ := Cert.DgnKIdeal.τ) (Cert.DgnKIdeal.main (F := Ideal))) ⟨m, fun _ => 0, g⟩ (fun r => (∀ c : Dev Cert.DgnKIdeal.nD,
      r.2.mem ((c.tc : Thread Cert.DgnKIdeal.nD Cert.DgnKIdeal.τ).loc Cert.DgnKIdeal.main_arg0) = m ((c.tc : Thread Cert.DgnKIdeal.nD Cert.DgnKIdeal.τ).loc Cert.DgnKIdeal.main_arg0)
      ∧ r.2.mem ((c.tc : Thread Cert.DgnKIdeal.nD Cert.DgnKIdeal.τ).loc Cert.DgnKIdeal.main_arg1) = m ((c.tc : Thread Cert.DgnKIdeal.nD Cert.DgnKIdeal.τ).loc Cert.DgnKIdeal.main_arg1)
      ∧ r.2.mem ((c.tc : Thread Cert.DgnKIdeal.nD Cert.DgnKIdeal.τ).loc Cert.DgnKIdeal.main_arg2) = m ((c.tc : Thread Cert.DgnKIdeal.nD Cert.DgnKIdeal.τ).loc Cert.DgnKIdeal.main_arg2)
      ∧ r.2.mem ((c.tc : Thread Cert.DgnKIdeal.nD Cert.DgnKIdeal.τ).loc Cert.DgnKIdeal.main_arg3) = m ((c.tc : Thread Cert.DgnKIdeal.nD Cert.DgnKIdeal.τ).loc Cert.DgnKIdeal.main_arg3)
      ∧ r.2.mem ((c.tc : Thread Cert.DgnKIdeal.nD Cert.DgnKIdeal.τ).loc Cert.DgnKIdeal.main_arg4) = m ((c.tc : Thread Cert.DgnKIdeal.nD Cert.DgnKIdeal.τ).loc Cert.DgnKIdeal.main_arg4))
      ∧ r.2.sem = fun _ => 0)

def quiescent_DgnRIdeal [hDgnRIdeal : Cert.DgnRIdeal.Facts] : Prop :=
  ∀ (m : (ℓ : Loc Cert.DgnRIdeal.nD Cert.DgnRIdeal.τ Cert.DgnRIdeal.sig) → Buf (Elt Ideal) ℓ) (g : Dev Cert.DgnRIdeal.nD → PrngReg), Pre_DgnRIdeal m →
    θ_run (Cert.DgnRIdeal.defs (F := Ideal)) (onTc (τ := Cert.DgnRIdeal.τ) (Cert.DgnRIdeal.main (F := Ideal))) ⟨m, fun _ => 0, g⟩ (fun r => (∀ c : Dev Cert.DgnRIdeal.nD,
      r.2.mem ((c.tc : Thread Cert.DgnRIdeal.nD Cert.DgnRIdeal.τ).loc Cert.DgnRIdeal.main_arg0) = m ((c.tc : Thread Cert.DgnRIdeal.nD Cert.DgnRIdeal.τ).loc Cert.DgnRIdeal.main_arg0)
      ∧ r.2.mem ((c.tc : Thread Cert.DgnRIdeal.nD Cert.DgnRIdeal.τ).loc Cert.DgnRIdeal.main_arg1) = m ((c.tc : Thread Cert.DgnRIdeal.nD Cert.DgnRIdeal.τ).loc Cert.DgnRIdeal.main_arg1)
      ∧ r.2.mem ((c.tc : Thread Cert.DgnRIdeal.nD Cert.DgnRIdeal.τ).loc Cert.DgnRIdeal.main_arg2) = m ((c.tc : Thread Cert.DgnRIdeal.nD Cert.DgnRIdeal.τ).loc Cert.DgnRIdeal.main_arg2)
      ∧ r.2.mem ((c.tc : Thread Cert.DgnRIdeal.nD Cert.DgnRIdeal.τ).loc Cert.DgnRIdeal.main_arg3) = m ((c.tc : Thread Cert.DgnRIdeal.nD Cert.DgnRIdeal.τ).loc Cert.DgnRIdeal.main_arg3)
      ∧ r.2.mem ((c.tc : Thread Cert.DgnRIdeal.nD Cert.DgnRIdeal.τ).loc Cert.DgnRIdeal.main_arg4) = m ((c.tc : Thread Cert.DgnRIdeal.nD Cert.DgnRIdeal.τ).loc Cert.DgnRIdeal.main_arg4))
      ∧ r.2.sem = fun _ => 0)

def quiescent_DgnRIdeal_pre_finite_dgn [hDgnRIdeal : Cert.DgnRIdeal.Facts] [hPre_finite_dgn : Cert.Pre_finite_dgn.Facts] : Prop :=
  ∀ (m : (ℓ : Loc Cert.DgnRIdeal.nD Cert.DgnRIdeal.τ Cert.DgnRIdeal.sig) → Buf (Elt Ideal) ℓ) (g : Dev Cert.DgnRIdeal.nD → PrngReg), Pre_DgnRIdeal_finite_dgn m →
    θ_run (Cert.DgnRIdeal.defs (F := Ideal)) (onTc (τ := Cert.DgnRIdeal.τ) (Cert.DgnRIdeal.main (F := Ideal))) ⟨m, fun _ => 0, g⟩ (fun r => (∀ c : Dev Cert.DgnRIdeal.nD,
      r.2.mem ((c.tc : Thread Cert.DgnRIdeal.nD Cert.DgnRIdeal.τ).loc Cert.DgnRIdeal.main_arg0) = m ((c.tc : Thread Cert.DgnRIdeal.nD Cert.DgnRIdeal.τ).loc Cert.DgnRIdeal.main_arg0)
      ∧ r.2.mem ((c.tc : Thread Cert.DgnRIdeal.nD Cert.DgnRIdeal.τ).loc Cert.DgnRIdeal.main_arg1) = m ((c.tc : Thread Cert.DgnRIdeal.nD Cert.DgnRIdeal.τ).loc Cert.DgnRIdeal.main_arg1)
      ∧ r.2.mem ((c.tc : Thread Cert.DgnRIdeal.nD Cert.DgnRIdeal.τ).loc Cert.DgnRIdeal.main_arg2) = m ((c.tc : Thread Cert.DgnRIdeal.nD Cert.DgnRIdeal.τ).loc Cert.DgnRIdeal.main_arg2)
      ∧ r.2.mem ((c.tc : Thread Cert.DgnRIdeal.nD Cert.DgnRIdeal.τ).loc Cert.DgnRIdeal.main_arg3) = m ((c.tc : Thread Cert.DgnRIdeal.nD Cert.DgnRIdeal.τ).loc Cert.DgnRIdeal.main_arg3)
      ∧ r.2.mem ((c.tc : Thread Cert.DgnRIdeal.nD Cert.DgnRIdeal.τ).loc Cert.DgnRIdeal.main_arg4) = m ((c.tc : Thread Cert.DgnRIdeal.nD Cert.DgnRIdeal.τ).loc Cert.DgnRIdeal.main_arg4))
      ∧ r.2.sem = fun _ => 0)

def quiescent_MlpbK [hMlpbK : Cert.MlpbK.Facts] : Prop :=
  ∀ (m : (ℓ : Loc Cert.MlpbK.nD Cert.MlpbK.τ Cert.MlpbK.sig) → Buf (Elt Bits) ℓ) (g : Dev Cert.MlpbK.nD → PrngReg), Pre_MlpbK m →
    θ_run (Cert.MlpbK.defs (F := Bits)) (onTc (τ := Cert.MlpbK.τ) (Cert.MlpbK.main (F := Bits))) ⟨m, fun _ => 0, g⟩ (fun r => (∀ c : Dev Cert.MlpbK.nD,
      r.2.mem ((c.tc : Thread Cert.MlpbK.nD Cert.MlpbK.τ).loc Cert.MlpbK.main_arg0) = m ((c.tc : Thread Cert.MlpbK.nD Cert.MlpbK.τ).loc Cert.MlpbK.main_arg0)
      ∧ r.2.mem ((c.tc : Thread Cert.MlpbK.nD Cert.MlpbK.τ).loc Cert.MlpbK.main_arg1) = m ((c.tc : Thread Cert.MlpbK.nD Cert.MlpbK.τ).loc Cert.MlpbK.main_arg1)
      ∧ r.2.mem ((c.tc : Thread Cert.MlpbK.nD Cert.MlpbK.τ).loc Cert.MlpbK.main_arg2) = m ((c.tc : Thread Cert.MlpbK.nD Cert.MlpbK.τ).loc Cert.MlpbK.main_arg2)
      ∧ r.2.mem ((c.tc : Thread Cert.MlpbK.nD Cert.MlpbK.τ).loc Cert.MlpbK.main_arg3) = m ((c.tc : Thread Cert.MlpbK.nD Cert.MlpbK.τ).loc Cert.MlpbK.main_arg3)
      ∧ r.2.mem ((c.tc : Thread Cert.MlpbK.nD Cert.MlpbK.τ).loc Cert.MlpbK.main_arg4) = m ((c.tc : Thread Cert.MlpbK.nD Cert.MlpbK.τ).loc Cert.MlpbK.main_arg4))
      ∧ r.2.sem = fun _ => 0)

def quiescent_MlpbKIdeal [hMlpbKIdeal : Cert.MlpbKIdeal.Facts] : Prop :=
  ∀ (m : (ℓ : Loc Cert.MlpbKIdeal.nD Cert.MlpbKIdeal.τ Cert.MlpbKIdeal.sig) → Buf (Elt Ideal) ℓ) (g : Dev Cert.MlpbKIdeal.nD → PrngReg), Pre_MlpbKIdeal m →
    θ_run (Cert.MlpbKIdeal.defs (F := Ideal)) (onTc (τ := Cert.MlpbKIdeal.τ) (Cert.MlpbKIdeal.main (F := Ideal))) ⟨m, fun _ => 0, g⟩ (fun r => (∀ c : Dev Cert.MlpbKIdeal.nD,
      r.2.mem ((c.tc : Thread Cert.MlpbKIdeal.nD Cert.MlpbKIdeal.τ).loc Cert.MlpbKIdeal.main_arg0) = m ((c.tc : Thread Cert.MlpbKIdeal.nD Cert.MlpbKIdeal.τ).loc Cert.MlpbKIdeal.main_arg0)
      ∧ r.2.mem ((c.tc : Thread Cert.MlpbKIdeal.nD Cert.MlpbKIdeal.τ).loc Cert.MlpbKIdeal.main_arg1) = m ((c.tc : Thread Cert.MlpbKIdeal.nD Cert.MlpbKIdeal.τ).loc Cert.MlpbKIdeal.main_arg1)
      ∧ r.2.mem ((c.tc : Thread Cert.MlpbKIdeal.nD Cert.MlpbKIdeal.τ).loc Cert.MlpbKIdeal.main_arg2) = m ((c.tc : Thread Cert.MlpbKIdeal.nD Cert.MlpbKIdeal.τ).loc Cert.MlpbKIdeal.main_arg2)
      ∧ r.2.mem ((c.tc : Thread Cert.MlpbKIdeal.nD Cert.MlpbKIdeal.τ).loc Cert.MlpbKIdeal.main_arg3) = m ((c.tc : Thread Cert.MlpbKIdeal.nD Cert.MlpbKIdeal.τ).loc Cert.MlpbKIdeal.main_arg3)
      ∧ r.2.mem ((c.tc : Thread Cert.MlpbKIdeal.nD Cert.MlpbKIdeal.τ).loc Cert.MlpbKIdeal.main_arg4) = m ((c.tc : Thread Cert.MlpbKIdeal.nD Cert.MlpbKIdeal.τ).loc Cert.MlpbKIdeal.main_arg4))
      ∧ r.2.sem = fun _ => 0)

def quiescent_MlpbKIdeal_pre_finite_mlpb [hMlpbKIdeal : Cert.MlpbKIdeal.Facts] [hPre_finite_mlpb : Cert.Pre_finite_mlpb.Facts] : Prop :=
  ∀ (m : (ℓ : Loc Cert.MlpbKIdeal.nD Cert.MlpbKIdeal.τ Cert.MlpbKIdeal.sig) → Buf (Elt Ideal) ℓ) (g : Dev Cert.MlpbKIdeal.nD → PrngReg), Pre_MlpbKIdeal_finite_mlpb m →
    θ_run (Cert.MlpbKIdeal.defs (F := Ideal)) (onTc (τ := Cert.MlpbKIdeal.τ) (Cert.MlpbKIdeal.main (F := Ideal))) ⟨m, fun _ => 0, g⟩ (fun r => (∀ c : Dev Cert.MlpbKIdeal.nD,
      r.2.mem ((c.tc : Thread Cert.MlpbKIdeal.nD Cert.MlpbKIdeal.τ).loc Cert.MlpbKIdeal.main_arg0) = m ((c.tc : Thread Cert.MlpbKIdeal.nD Cert.MlpbKIdeal.τ).loc Cert.MlpbKIdeal.main_arg0)
      ∧ r.2.mem ((c.tc : Thread Cert.MlpbKIdeal.nD Cert.MlpbKIdeal.τ).loc Cert.MlpbKIdeal.main_arg1) = m ((c.tc : Thread Cert.MlpbKIdeal.nD Cert.MlpbKIdeal.τ).loc Cert.MlpbKIdeal.main_arg1)
      ∧ r.2.mem ((c.tc : Thread Cert.MlpbKIdeal.nD Cert.MlpbKIdeal.τ).loc Cert.MlpbKIdeal.main_arg2) = m ((c.tc : Thread Cert.MlpbKIdeal.nD Cert.MlpbKIdeal.τ).loc Cert.MlpbKIdeal.main_arg2)
      ∧ r.2.mem ((c.tc : Thread Cert.MlpbKIdeal.nD Cert.MlpbKIdeal.τ).loc Cert.MlpbKIdeal.main_arg3) = m ((c.tc : Thread Cert.MlpbKIdeal.nD Cert.MlpbKIdeal.τ).loc Cert.MlpbKIdeal.main_arg3)
      ∧ r.2.mem ((c.tc : Thread Cert.MlpbKIdeal.nD Cert.MlpbKIdeal.τ).loc Cert.MlpbKIdeal.main_arg4) = m ((c.tc : Thread Cert.MlpbKIdeal.nD Cert.MlpbKIdeal.τ).loc Cert.MlpbKIdeal.main_arg4))
      ∧ r.2.sem = fun _ => 0)

def quiescent_MlpbRIdeal [hMlpbRIdeal : Cert.MlpbRIdeal.Facts] : Prop :=
  ∀ (m : (ℓ : Loc Cert.MlpbRIdeal.nD Cert.MlpbRIdeal.τ Cert.MlpbRIdeal.sig) → Buf (Elt Ideal) ℓ) (g : Dev Cert.MlpbRIdeal.nD → PrngReg), Pre_MlpbRIdeal m →
    θ_run (Cert.MlpbRIdeal.defs (F := Ideal)) (onTc (τ := Cert.MlpbRIdeal.τ) (Cert.MlpbRIdeal.main (F := Ideal))) ⟨m, fun _ => 0, g⟩ (fun r => (∀ c : Dev Cert.MlpbRIdeal.nD,
      r.2.mem ((c.tc : Thread Cert.MlpbRIdeal.nD Cert.MlpbRIdeal.τ).loc Cert.MlpbRIdeal.main_arg0) = m ((c.tc : Thread Cert.MlpbRIdeal.nD Cert.MlpbRIdeal.τ).loc Cert.MlpbRIdeal.main_arg0)
      ∧ r.2.mem ((c.tc : Thread Cert.MlpbRIdeal.nD Cert.MlpbRIdeal.τ).loc Cert.MlpbRIdeal.main_arg1) = m ((c.tc : Thread Cert.MlpbRIdeal.nD Cert.MlpbRIdeal.τ).loc Cert.MlpbRIdeal.main_arg1)
      ∧ r.2.mem ((c.tc : Thread Cert.MlpbRIdeal.nD Cert.MlpbRIdeal.τ).loc Cert.MlpbRIdeal.main_arg2) = m ((c.tc : Thread Cert.MlpbRIdeal.nD Cert.MlpbRIdeal.τ).loc Cert.MlpbRIdeal.main_arg2)
      ∧ r.2.mem ((c.tc : Thread Cert.MlpbRIdeal.nD Cert.MlpbRIdeal.τ).loc Cert.MlpbRIdeal.main_arg3) = m ((c.tc : Thread Cert.MlpbRIdeal.nD Cert.MlpbRIdeal.τ).loc Cert.MlpbRIdeal.main_arg3)
      ∧ r.2.mem ((c.tc : Thread Cert.MlpbRIdeal.nD Cert.MlpbRIdeal.τ).loc Cert.MlpbRIdeal.main_arg4) = m ((c.tc : Thread Cert.MlpbRIdeal.nD Cert.MlpbRIdeal.τ).loc Cert.MlpbRIdeal.main_arg4))
      ∧ r.2.sem = fun _ => 0)

def quiescent_MlpbRIdeal_pre_finite_mlpb [hMlpbRIdeal : Cert.MlpbRIdeal.Facts] [hPre_finite_mlpb : Cert.Pre_finite_mlpb.Facts] : Prop :=
  ∀ (m : (ℓ : Loc Cert.MlpbRIdeal.nD Cert.MlpbRIdeal.τ Cert.MlpbRIdeal.sig) → Buf (Elt Ideal) ℓ) (g : Dev Cert.MlpbRIdeal.nD → PrngReg), Pre_MlpbRIdeal_finite_mlpb m →
    θ_run (Cert.MlpbRIdeal.defs (F := Ideal)) (onTc (τ := Cert.MlpbRIdeal.τ) (Cert.MlpbRIdeal.main (F := Ideal))) ⟨m, fun _ => 0, g⟩ (fun r => (∀ c : Dev Cert.MlpbRIdeal.nD,
      r.2.mem ((c.tc : Thread Cert.MlpbRIdeal.nD Cert.MlpbRIdeal.τ).loc Cert.MlpbRIdeal.main_arg0) = m ((c.tc : Thread Cert.MlpbRIdeal.nD Cert.MlpbRIdeal.τ).loc Cert.MlpbRIdeal.main_arg0)
      ∧ r.2.mem ((c.tc : Thread Cert.MlpbRIdeal.nD Cert.MlpbRIdeal.τ).loc Cert.MlpbRIdeal.main_arg1) = m ((c.tc : Thread Cert.MlpbRIdeal.nD Cert.MlpbRIdeal.τ).loc Cert.MlpbRIdeal.main_arg1)
      ∧ r.2.mem ((c.tc : Thread Cert.MlpbRIdeal.nD Cert.MlpbRIdeal.τ).loc Cert.MlpbRIdeal.main_arg2) = m ((c.tc : Thread Cert.MlpbRIdeal.nD Cert.MlpbRIdeal.τ).loc Cert.MlpbRIdeal.main_arg2)
      ∧ r.2.mem ((c.tc : Thread Cert.MlpbRIdeal.nD Cert.MlpbRIdeal.τ).loc Cert.MlpbRIdeal.main_arg3) = m ((c.tc : Thread Cert.MlpbRIdeal.nD Cert.MlpbRIdeal.τ).loc Cert.MlpbRIdeal.main_arg3)
      ∧ r.2.mem ((c.tc : Thread Cert.MlpbRIdeal.nD Cert.MlpbRIdeal.τ).loc Cert.MlpbRIdeal.main_arg4) = m ((c.tc : Thread Cert.MlpbRIdeal.nD Cert.MlpbRIdeal.τ).loc Cert.MlpbRIdeal.main_arg4))
      ∧ r.2.sem = fun _ => 0)

def quiescent_Comb1K [hComb1K : Cert.Comb1K.Facts] : Prop :=
  ∀ (m : (ℓ : Loc Cert.Comb1K.nD Cert.Comb1K.τ Cert.Comb1K.sig) → Buf (Elt Bits) ℓ) (g : Dev Cert.Comb1K.nD → PrngReg), Pre_Comb1K m →
    θ_run (Cert.Comb1K.defs (F := Bits)) (onTc (τ := Cert.Comb1K.τ) (Cert.Comb1K.main (F := Bits))) ⟨m, fun _ => 0, g⟩ (fun r => (∀ c : Dev Cert.Comb1K.nD,
      r.2.mem ((c.tc : Thread Cert.Comb1K.nD Cert.Comb1K.τ).loc Cert.Comb1K.main_arg0) = m ((c.tc : Thread Cert.Comb1K.nD Cert.Comb1K.τ).loc Cert.Comb1K.main_arg0)
      ∧ r.2.mem ((c.tc : Thread Cert.Comb1K.nD Cert.Comb1K.τ).loc Cert.Comb1K.main_arg1) = m ((c.tc : Thread Cert.Comb1K.nD Cert.Comb1K.τ).loc Cert.Comb1K.main_arg1)
      ∧ r.2.mem ((c.tc : Thread Cert.Comb1K.nD Cert.Comb1K.τ).loc Cert.Comb1K.main_arg2) = m ((c.tc : Thread Cert.Comb1K.nD Cert.Comb1K.τ).loc Cert.Comb1K.main_arg2)
      ∧ r.2.mem ((c.tc : Thread Cert.Comb1K.nD Cert.Comb1K.τ).loc Cert.Comb1K.main_arg3) = m ((c.tc : Thread Cert.Comb1K.nD Cert.Comb1K.τ).loc Cert.Comb1K.main_arg3)
      ∧ r.2.mem ((c.tc : Thread Cert.Comb1K.nD Cert.Comb1K.τ).loc Cert.Comb1K.main_arg4) = m ((c.tc : Thread Cert.Comb1K.nD Cert.Comb1K.τ).loc Cert.Comb1K.main_arg4)
      ∧ r.2.mem ((c.tc : Thread Cert.Comb1K.nD Cert.Comb1K.τ).loc Cert.Comb1K.main_arg5) = m ((c.tc : Thread Cert.Comb1K.nD Cert.Comb1K.τ).loc Cert.Comb1K.main_arg5))
      ∧ r.2.sem = fun _ => 0)

def quiescent_Comb1KIdeal [hComb1KIdeal : Cert.Comb1KIdeal.Facts] : Prop :=
  ∀ (m : (ℓ : Loc Cert.Comb1KIdeal.nD Cert.Comb1KIdeal.τ Cert.Comb1KIdeal.sig) → Buf (Elt Ideal) ℓ) (g : Dev Cert.Comb1KIdeal.nD → PrngReg), Pre_Comb1KIdeal m →
    θ_run (Cert.Comb1KIdeal.defs (F := Ideal)) (onTc (τ := Cert.Comb1KIdeal.τ) (Cert.Comb1KIdeal.main (F := Ideal))) ⟨m, fun _ => 0, g⟩ (fun r => (∀ c : Dev Cert.Comb1KIdeal.nD,
      r.2.mem ((c.tc : Thread Cert.Comb1KIdeal.nD Cert.Comb1KIdeal.τ).loc Cert.Comb1KIdeal.main_arg0) = m ((c.tc : Thread Cert.Comb1KIdeal.nD Cert.Comb1KIdeal.τ).loc Cert.Comb1KIdeal.main_arg0)
      ∧ r.2.mem ((c.tc : Thread Cert.Comb1KIdeal.nD Cert.Comb1KIdeal.τ).loc Cert.Comb1KIdeal.main_arg1) = m ((c.tc : Thread Cert.Comb1KIdeal.nD Cert.Comb1KIdeal.τ).loc Cert.Comb1KIdeal.main_arg1)
      ∧ r.2.mem ((c.tc : Thread Cert.Comb1KIdeal.nD Cert.Comb1KIdeal.τ).loc Cert.Comb1KIdeal.main_arg2) = m ((c.tc : Thread Cert.Comb1KIdeal.nD Cert.Comb1KIdeal.τ).loc Cert.Comb1KIdeal.main_arg2)
      ∧ r.2.mem ((c.tc : Thread Cert.Comb1KIdeal.nD Cert.Comb1KIdeal.τ).loc Cert.Comb1KIdeal.main_arg3) = m ((c.tc : Thread Cert.Comb1KIdeal.nD Cert.Comb1KIdeal.τ).loc Cert.Comb1KIdeal.main_arg3)
      ∧ r.2.mem ((c.tc : Thread Cert.Comb1KIdeal.nD Cert.Comb1KIdeal.τ).loc Cert.Comb1KIdeal.main_arg4) = m ((c.tc : Thread Cert.Comb1KIdeal.nD Cert.Comb1KIdeal.τ).loc Cert.Comb1KIdeal.main_arg4)
      ∧ r.2.mem ((c.tc : Thread Cert.Comb1KIdeal.nD Cert.Comb1KIdeal.τ).loc Cert.Comb1KIdeal.main_arg5) = m ((c.tc : Thread Cert.Comb1KIdeal.nD Cert.Comb1KIdeal.τ).loc Cert.Comb1KIdeal.main_arg5))
      ∧ r.2.sem = fun _ => 0)

def quiescent_Comb1RIdeal [hComb1RIdeal : Cert.Comb1RIdeal.Facts] : Prop :=
  ∀ (m : (ℓ : Loc Cert.Comb1RIdeal.nD Cert.Comb1RIdeal.τ Cert.Comb1RIdeal.sig) → Buf (Elt Ideal) ℓ) (g : Dev Cert.Comb1RIdeal.nD → PrngReg), Pre_Comb1RIdeal m →
    θ_run (Cert.Comb1RIdeal.defs (F := Ideal)) (onTc (τ := Cert.Comb1RIdeal.τ) (Cert.Comb1RIdeal.main (F := Ideal))) ⟨m, fun _ => 0, g⟩ (fun r => (∀ c : Dev Cert.Comb1RIdeal.nD,
      r.2.mem ((c.tc : Thread Cert.Comb1RIdeal.nD Cert.Comb1RIdeal.τ).loc Cert.Comb1RIdeal.main_arg0) = m ((c.tc : Thread Cert.Comb1RIdeal.nD Cert.Comb1RIdeal.τ).loc Cert.Comb1RIdeal.main_arg0)
      ∧ r.2.mem ((c.tc : Thread Cert.Comb1RIdeal.nD Cert.Comb1RIdeal.τ).loc Cert.Comb1RIdeal.main_arg1) = m ((c.tc : Thread Cert.Comb1RIdeal.nD Cert.Comb1RIdeal.τ).loc Cert.Comb1RIdeal.main_arg1)
      ∧ r.2.mem ((c.tc : Thread Cert.Comb1RIdeal.nD Cert.Comb1RIdeal.τ).loc Cert.Comb1RIdeal.main_arg2) = m ((c.tc : Thread Cert.Comb1RIdeal.nD Cert.Comb1RIdeal.τ).loc Cert.Comb1RIdeal.main_arg2)
      ∧ r.2.mem ((c.tc : Thread Cert.Comb1RIdeal.nD Cert.Comb1RIdeal.τ).loc Cert.Comb1RIdeal.main_arg3) = m ((c.tc : Thread Cert.Comb1RIdeal.nD Cert.Comb1RIdeal.τ).loc Cert.Comb1RIdeal.main_arg3)
      ∧ r.2.mem ((c.tc : Thread Cert.Comb1RIdeal.nD Cert.Comb1RIdeal.τ).loc Cert.Comb1RIdeal.main_arg4) = m ((c.tc : Thread Cert.Comb1RIdeal.nD Cert.Comb1RIdeal.τ).loc Cert.Comb1RIdeal.main_arg4)
      ∧ r.2.mem ((c.tc : Thread Cert.Comb1RIdeal.nD Cert.Comb1RIdeal.τ).loc Cert.Comb1RIdeal.main_arg5) = m ((c.tc : Thread Cert.Comb1RIdeal.nD Cert.Comb1RIdeal.τ).loc Cert.Comb1RIdeal.main_arg5))
      ∧ r.2.sem = fun _ => 0)

def quiescent_Comb0K [hComb0K : Cert.Comb0K.Facts] : Prop :=
  ∀ (m : (ℓ : Loc Cert.Comb0K.nD Cert.Comb0K.τ Cert.Comb0K.sig) → Buf (Elt Bits) ℓ) (g : Dev Cert.Comb0K.nD → PrngReg), Pre_Comb0K m →
    θ_run (Cert.Comb0K.defs (F := Bits)) (onTc (τ := Cert.Comb0K.τ) (Cert.Comb0K.main (F := Bits))) ⟨m, fun _ => 0, g⟩ (fun r => (∀ c : Dev Cert.Comb0K.nD,
      r.2.mem ((c.tc : Thread Cert.Comb0K.nD Cert.Comb0K.τ).loc Cert.Comb0K.main_arg0) = m ((c.tc : Thread Cert.Comb0K.nD Cert.Comb0K.τ).loc Cert.Comb0K.main_arg0)
      ∧ r.2.mem ((c.tc : Thread Cert.Comb0K.nD Cert.Comb0K.τ).loc Cert.Comb0K.main_arg1) = m ((c.tc : Thread Cert.Comb0K.nD Cert.Comb0K.τ).loc Cert.Comb0K.main_arg1)
      ∧ r.2.mem ((c.tc : Thread Cert.Comb0K.nD Cert.Comb0K.τ).loc Cert.Comb0K.main_arg2) = m ((c.tc : Thread Cert.Comb0K.nD Cert.Comb0K.τ).loc Cert.Comb0K.main_arg2)
      ∧ r.2.mem ((c.tc : Thread Cert.Comb0K.nD Cert.Comb0K.τ).loc Cert.Comb0K.main_arg3) = m ((c.tc : Thread Cert.Comb0K.nD Cert.Comb0K.τ).loc Cert.Comb0K.main_arg3)
      ∧ r.2.mem ((c.tc : Thread Cert.Comb0K.nD Cert.Comb0K.τ).loc Cert.Comb0K.main_arg4) = m ((c.tc : Thread Cert.Comb0K.nD Cert.Comb0K.τ).loc Cert.Comb0K.main_arg4)
      ∧ r.2.mem ((c.tc : Thread Cert.Comb0K.nD Cert.Comb0K.τ).loc Cert.Comb0K.main_arg5) = m ((c.tc : Thread Cert.Comb0K.nD Cert.Comb0K.τ).loc Cert.Comb0K.main_arg5)
      ∧ r.2.mem ((c.tc : Thread Cert.Comb0K.nD Cert.Comb0K.τ).loc Cert.Comb0K.main_arg6) = m ((c.tc : Thread Cert.Comb0K.nD Cert.Comb0K.τ).loc Cert.Comb0K.main_arg6)
      ∧ r.2.mem ((c.tc : Thread Cert.Comb0K.nD Cert.Comb0K.τ).loc Cert.Comb0K.main_arg7) = m ((c.tc : Thread Cert.Comb0K.nD Cert.Comb0K.τ).loc Cert.Comb0K.main_arg7)
      ∧ r.2.mem ((c.tc : Thread Cert.Comb0K.nD Cert.Comb0K.τ).loc Cert.Comb0K.main_arg8) = m ((c.tc : Thread Cert.Comb0K.nD Cert.Comb0K.τ).loc Cert.Comb0K.main_arg8))
      ∧ r.2.sem = fun _ => 0)

def quiescent_Comb0KIdeal [hComb0KIdeal : Cert.Comb0KIdeal.Facts] : Prop :=
  ∀ (m : (ℓ : Loc Cert.Comb0KIdeal.nD Cert.Comb0KIdeal.τ Cert.Comb0KIdeal.sig) → Buf (Elt Ideal) ℓ) (g : Dev Cert.Comb0KIdeal.nD → PrngReg), Pre_Comb0KIdeal m →
    θ_run (Cert.Comb0KIdeal.defs (F := Ideal)) (onTc (τ := Cert.Comb0KIdeal.τ) (Cert.Comb0KIdeal.main (F := Ideal))) ⟨m, fun _ => 0, g⟩ (fun r => (∀ c : Dev Cert.Comb0KIdeal.nD,
      r.2.mem ((c.tc : Thread Cert.Comb0KIdeal.nD Cert.Comb0KIdeal.τ).loc Cert.Comb0KIdeal.main_arg0) = m ((c.tc : Thread Cert.Comb0KIdeal.nD Cert.Comb0KIdeal.τ).loc Cert.Comb0KIdeal.main_arg0)
      ∧ r.2.mem ((c.tc : Thread Cert.Comb0KIdeal.nD Cert.Comb0KIdeal.τ).loc Cert.Comb0KIdeal.main_arg1) = m ((c.tc : Thread Cert.Comb0KIdeal.nD Cert.Comb0KIdeal.τ).loc Cert.Comb0KIdeal.main_arg1)
      ∧ r.2.mem ((c.tc : Thread Cert.Comb0KIdeal.nD Cert.Comb0KIdeal.τ).loc Cert.Comb0KIdeal.main_arg2) = m ((c.tc : Thread Cert.Comb0KIdeal.nD Cert.Comb0KIdeal.τ).loc Cert.Comb0KIdeal.main_arg2)
      ∧ r.2.mem ((c.tc : Thread Cert.Comb0KIdeal.nD Cert.Comb0KIdeal.τ).loc Cert.Comb0KIdeal.main_arg3) = m ((c.tc : Thread Cert.Comb0KIdeal.nD Cert.Comb0KIdeal.τ).loc Cert.Comb0KIdeal.main_arg3)
      ∧ r.2.mem ((c.tc : Thread Cert.Comb0KIdeal.nD Cert.Comb0KIdeal.τ).loc Cert.Comb0KIdeal.main_arg4) = m ((c.tc : Thread Cert.Comb0KIdeal.nD Cert.Comb0KIdeal.τ).loc Cert.Comb0KIdeal.main_arg4)
      ∧ r.2.mem ((c.tc : Thread Cert.Comb0KIdeal.nD Cert.Comb0KIdeal.τ).loc Cert.Comb0KIdeal.main_arg5) = m ((c.tc : Thread Cert.Comb0KIdeal.nD Cert.Comb0KIdeal.τ).loc Cert.Comb0KIdeal.main_arg5)
      ∧ r.2.mem ((c.tc : Thread Cert.Comb0KIdeal.nD Cert.Comb0KIdeal.τ).loc Cert.Comb0KIdeal.main_arg6) = m ((c.tc : Thread Cert.Comb0KIdeal.nD Cert.Comb0KIdeal.τ).loc Cert.Comb0KIdeal.main_arg6)
      ∧ r.2.mem ((c.tc : Thread Cert.Comb0KIdeal.nD Cert.Comb0KIdeal.τ).loc Cert.Comb0KIdeal.main_arg7) = m ((c.tc : Thread Cert.Comb0KIdeal.nD Cert.Comb0KIdeal.τ).loc Cert.Comb0KIdeal.main_arg7)
      ∧ r.2.mem ((c.tc : Thread Cert.Comb0KIdeal.nD Cert.Comb0KIdeal.τ).loc Cert.Comb0KIdeal.main_arg8) = m ((c.tc : Thread Cert.Comb0KIdeal.nD Cert.Comb0KIdeal.τ).loc Cert.Comb0KIdeal.main_arg8))
      ∧ r.2.sem = fun _ => 0)

def quiescent_Comb0RIdeal [hComb0RIdeal : Cert.Comb0RIdeal.Facts] : Prop :=
  ∀ (m : (ℓ : Loc Cert.Comb0RIdeal.nD Cert.Comb0RIdeal.τ Cert.Comb0RIdeal.sig) → Buf (Elt Ideal) ℓ) (g : Dev Cert.Comb0RIdeal.nD → PrngReg), Pre_Comb0RIdeal m →
    θ_run (Cert.Comb0RIdeal.defs (F := Ideal)) (onTc (τ := Cert.Comb0RIdeal.τ) (Cert.Comb0RIdeal.main (F := Ideal))) ⟨m, fun _ => 0, g⟩ (fun r => (∀ c : Dev Cert.Comb0RIdeal.nD,
      r.2.mem ((c.tc : Thread Cert.Comb0RIdeal.nD Cert.Comb0RIdeal.τ).loc Cert.Comb0RIdeal.main_arg0) = m ((c.tc : Thread Cert.Comb0RIdeal.nD Cert.Comb0RIdeal.τ).loc Cert.Comb0RIdeal.main_arg0)
      ∧ r.2.mem ((c.tc : Thread Cert.Comb0RIdeal.nD Cert.Comb0RIdeal.τ).loc Cert.Comb0RIdeal.main_arg1) = m ((c.tc : Thread Cert.Comb0RIdeal.nD Cert.Comb0RIdeal.τ).loc Cert.Comb0RIdeal.main_arg1)
      ∧ r.2.mem ((c.tc : Thread Cert.Comb0RIdeal.nD Cert.Comb0RIdeal.τ).loc Cert.Comb0RIdeal.main_arg2) = m ((c.tc : Thread Cert.Comb0RIdeal.nD Cert.Comb0RIdeal.τ).loc Cert.Comb0RIdeal.main_arg2)
      ∧ r.2.mem ((c.tc : Thread Cert.Comb0RIdeal.nD Cert.Comb0RIdeal.τ).loc Cert.Comb0RIdeal.main_arg3) = m ((c.tc : Thread Cert.Comb0RIdeal.nD Cert.Comb0RIdeal.τ).loc Cert.Comb0RIdeal.main_arg3)
      ∧ r.2.mem ((c.tc : Thread Cert.Comb0RIdeal.nD Cert.Comb0RIdeal.τ).loc Cert.Comb0RIdeal.main_arg4) = m ((c.tc : Thread Cert.Comb0RIdeal.nD Cert.Comb0RIdeal.τ).loc Cert.Comb0RIdeal.main_arg4)
      ∧ r.2.mem ((c.tc : Thread Cert.Comb0RIdeal.nD Cert.Comb0RIdeal.τ).loc Cert.Comb0RIdeal.main_arg5) = m ((c.tc : Thread Cert.Comb0RIdeal.nD Cert.Comb0RIdeal.τ).loc Cert.Comb0RIdeal.main_arg5)
      ∧ r.2.mem ((c.tc : Thread Cert.Comb0RIdeal.nD Cert.Comb0RIdeal.τ).loc Cert.Comb0RIdeal.main_arg6) = m ((c.tc : Thread Cert.Comb0RIdeal.nD Cert.Comb0RIdeal.τ).loc Cert.Comb0RIdeal.main_arg6)
      ∧ r.2.mem ((c.tc : Thread Cert.Comb0RIdeal.nD Cert.Comb0RIdeal.τ).loc Cert.Comb0RIdeal.main_arg7) = m ((c.tc : Thread Cert.Comb0RIdeal.nD Cert.Comb0RIdeal.τ).loc Cert.Comb0RIdeal.main_arg7)
      ∧ r.2.mem ((c.tc : Thread Cert.Comb0RIdeal.nD Cert.Comb0RIdeal.τ).loc Cert.Comb0RIdeal.main_arg8) = m ((c.tc : Thread Cert.Comb0RIdeal.nD Cert.Comb0RIdeal.τ).loc Cert.Comb0RIdeal.main_arg8))
      ∧ r.2.sem = fun _ => 0)

def quiescent_ConvfK [hConvfK : Cert.ConvfK.Facts] : Prop :=
  ∀ (m : (ℓ : Loc Cert.ConvfK.nD Cert.ConvfK.τ Cert.ConvfK.sig) → Buf (Elt Bits) ℓ) (g : Dev Cert.ConvfK.nD → PrngReg), Pre_ConvfK m →
    θ_run (Cert.ConvfK.defs (F := Bits)) (onTc (τ := Cert.ConvfK.τ) (Cert.ConvfK.main (F := Bits))) ⟨m, fun _ => 0, g⟩ (fun r => (∀ c : Dev Cert.ConvfK.nD,
      r.2.mem ((c.tc : Thread Cert.ConvfK.nD Cert.ConvfK.τ).loc Cert.ConvfK.main_arg0) = m ((c.tc : Thread Cert.ConvfK.nD Cert.ConvfK.τ).loc Cert.ConvfK.main_arg0)
      ∧ r.2.mem ((c.tc : Thread Cert.ConvfK.nD Cert.ConvfK.τ).loc Cert.ConvfK.main_arg1) = m ((c.tc : Thread Cert.ConvfK.nD Cert.ConvfK.τ).loc Cert.ConvfK.main_arg1)
      ∧ r.2.mem ((c.tc : Thread Cert.ConvfK.nD Cert.ConvfK.τ).loc Cert.ConvfK.main_arg2) = m ((c.tc : Thread Cert.ConvfK.nD Cert.ConvfK.τ).loc Cert.ConvfK.main_arg2))
      ∧ r.2.sem = fun _ => 0)

def quiescent_ConvfKIdeal [hConvfKIdeal : Cert.ConvfKIdeal.Facts] : Prop :=
  ∀ (m : (ℓ : Loc Cert.ConvfKIdeal.nD Cert.ConvfKIdeal.τ Cert.ConvfKIdeal.sig) → Buf (Elt Ideal) ℓ) (g : Dev Cert.ConvfKIdeal.nD → PrngReg), Pre_ConvfKIdeal m →
    θ_run (Cert.ConvfKIdeal.defs (F := Ideal)) (onTc (τ := Cert.ConvfKIdeal.τ) (Cert.ConvfKIdeal.main (F := Ideal))) ⟨m, fun _ => 0, g⟩ (fun r => (∀ c : Dev Cert.ConvfKIdeal.nD,
      r.2.mem ((c.tc : Thread Cert.ConvfKIdeal.nD Cert.ConvfKIdeal.τ).loc Cert.ConvfKIdeal.main_arg0) = m ((c.tc : Thread Cert.ConvfKIdeal.nD Cert.ConvfKIdeal.τ).loc Cert.ConvfKIdeal.main_arg0)
      ∧ r.2.mem ((c.tc : Thread Cert.ConvfKIdeal.nD Cert.ConvfKIdeal.τ).loc Cert.ConvfKIdeal.main_arg1) = m ((c.tc : Thread Cert.ConvfKIdeal.nD Cert.ConvfKIdeal.τ).loc Cert.ConvfKIdeal.main_arg1)
      ∧ r.2.mem ((c.tc : Thread Cert.ConvfKIdeal.nD Cert.ConvfKIdeal.τ).loc Cert.ConvfKIdeal.main_arg2) = m ((c.tc : Thread Cert.ConvfKIdeal.nD Cert.ConvfKIdeal.τ).loc Cert.ConvfKIdeal.main_arg2))
      ∧ r.2.sem = fun _ => 0)

def quiescent_ConvfRIdeal [hConvfRIdeal : Cert.ConvfRIdeal.Facts] : Prop :=
  ∀ (m : (ℓ : Loc Cert.ConvfRIdeal.nD Cert.ConvfRIdeal.τ Cert.ConvfRIdeal.sig) → Buf (Elt Ideal) ℓ) (g : Dev Cert.ConvfRIdeal.nD → PrngReg), Pre_ConvfRIdeal m →
    θ_run (Cert.ConvfRIdeal.defs (F := Ideal)) (onTc (τ := Cert.ConvfRIdeal.τ) (Cert.ConvfRIdeal.main (F := Ideal))) ⟨m, fun _ => 0, g⟩ (fun r => (∀ c : Dev Cert.ConvfRIdeal.nD,
      r.2.mem ((c.tc : Thread Cert.ConvfRIdeal.nD Cert.ConvfRIdeal.τ).loc Cert.ConvfRIdeal.main_arg0) = m ((c.tc : Thread Cert.ConvfRIdeal.nD Cert.ConvfRIdeal.τ).loc Cert.ConvfRIdeal.main_arg0)
      ∧ r.2.mem ((c.tc : Thread Cert.ConvfRIdeal.nD Cert.ConvfRIdeal.τ).loc Cert.ConvfRIdeal.main_arg1) = m ((c.tc : Thread Cert.ConvfRIdeal.nD Cert.ConvfRIdeal.τ).loc Cert.ConvfRIdeal.main_arg1)
      ∧ r.2.mem ((c.tc : Thread Cert.ConvfRIdeal.nD Cert.ConvfRIdeal.τ).loc Cert.ConvfRIdeal.main_arg2) = m ((c.tc : Thread Cert.ConvfRIdeal.nD Cert.ConvfRIdeal.τ).loc Cert.ConvfRIdeal.main_arg2))
      ∧ r.2.sem = fun _ => 0)

def quiescent_GlogK [hGlogK : Cert.GlogK.Facts] : Prop :=
  ∀ (m : (ℓ : Loc Cert.GlogK.nD Cert.GlogK.τ Cert.GlogK.sig) → Buf (Elt Bits) ℓ) (g : Dev Cert.GlogK.nD → PrngReg), Pre_GlogK m →
    θ_run (Cert.GlogK.defs (F := Bits)) (onTc (τ := Cert.GlogK.τ) (Cert.GlogK.main (F := Bits))) ⟨m, fun _ => 0, g⟩ (fun r => (∀ c : Dev Cert.GlogK.nD,
      r.2.mem ((c.tc : Thread Cert.GlogK.nD Cert.GlogK.τ).loc Cert.GlogK.main_arg0) = m ((c.tc : Thread Cert.GlogK.nD Cert.GlogK.τ).loc Cert.GlogK.main_arg0)
      ∧ r.2.mem ((c.tc : Thread Cert.GlogK.nD Cert.GlogK.τ).loc Cert.GlogK.main_arg1) = m ((c.tc : Thread Cert.GlogK.nD Cert.GlogK.τ).loc Cert.GlogK.main_arg1)
      ∧ r.2.mem ((c.tc : Thread Cert.GlogK.nD Cert.GlogK.τ).loc Cert.GlogK.main_arg2) = m ((c.tc : Thread Cert.GlogK.nD Cert.GlogK.τ).loc Cert.GlogK.main_arg2))
      ∧ r.2.sem = fun _ => 0)

def quiescent_GlogKIdeal [hGlogKIdeal : Cert.GlogKIdeal.Facts] : Prop :=
  ∀ (m : (ℓ : Loc Cert.GlogKIdeal.nD Cert.GlogKIdeal.τ Cert.GlogKIdeal.sig) → Buf (Elt Ideal) ℓ) (g : Dev Cert.GlogKIdeal.nD → PrngReg), Pre_GlogKIdeal m →
    θ_run (Cert.GlogKIdeal.defs (F := Ideal)) (onTc (τ := Cert.GlogKIdeal.τ) (Cert.GlogKIdeal.main (F := Ideal))) ⟨m, fun _ => 0, g⟩ (fun r => (∀ c : Dev Cert.GlogKIdeal.nD,
      r.2.mem ((c.tc : Thread Cert.GlogKIdeal.nD Cert.GlogKIdeal.τ).loc Cert.GlogKIdeal.main_arg0) = m ((c.tc : Thread Cert.GlogKIdeal.nD Cert.GlogKIdeal.τ).loc Cert.GlogKIdeal.main_arg0)
      ∧ r.2.mem ((c.tc : Thread Cert.GlogKIdeal.nD Cert.GlogKIdeal.τ).loc Cert.GlogKIdeal.main_arg1) = m ((c.tc : Thread Cert.GlogKIdeal.nD Cert.GlogKIdeal.τ).loc Cert.GlogKIdeal.main_arg1)
      ∧ r.2.mem ((c.tc : Thread Cert.GlogKIdeal.nD Cert.GlogKIdeal.τ).loc Cert.GlogKIdeal.main_arg2) = m ((c.tc : Thread Cert.GlogKIdeal.nD Cert.GlogKIdeal.τ).loc Cert.GlogKIdeal.main_arg2))
      ∧ r.2.sem = fun _ => 0)

def quiescent_GlogRIdeal [hGlogRIdeal : Cert.GlogRIdeal.Facts] : Prop :=
  ∀ (m : (ℓ : Loc Cert.GlogRIdeal.nD Cert.GlogRIdeal.τ Cert.GlogRIdeal.sig) → Buf (Elt Ideal) ℓ) (g : Dev Cert.GlogRIdeal.nD → PrngReg), Pre_GlogRIdeal m →
    θ_run (Cert.GlogRIdeal.defs (F := Ideal)) (onTc (τ := Cert.GlogRIdeal.τ) (Cert.GlogRIdeal.main (F := Ideal))) ⟨m, fun _ => 0, g⟩ (fun r => (∀ c : Dev Cert.GlogRIdeal.nD,
      r.2.mem ((c.tc : Thread Cert.GlogRIdeal.nD Cert.GlogRIdeal.τ).loc Cert.GlogRIdeal.main_arg0) = m ((c.tc : Thread Cert.GlogRIdeal.nD Cert.GlogRIdeal.τ).loc Cert.GlogRIdeal.main_arg0)
      ∧ r.2.mem ((c.tc : Thread Cert.GlogRIdeal.nD Cert.GlogRIdeal.τ).loc Cert.GlogRIdeal.main_arg1) = m ((c.tc : Thread Cert.GlogRIdeal.nD Cert.GlogRIdeal.τ).loc Cert.GlogRIdeal.main_arg1)
      ∧ r.2.mem ((c.tc : Thread Cert.GlogRIdeal.nD Cert.GlogRIdeal.τ).loc Cert.GlogRIdeal.main_arg2) = m ((c.tc : Thread Cert.GlogRIdeal.nD Cert.GlogRIdeal.τ).loc Cert.GlogRIdeal.main_arg2))
      ∧ r.2.sem = fun _ => 0)

def quiescent_NmmK [hNmmK : Cert.NmmK.Facts] : Prop :=
  ∀ (m : (ℓ : Loc Cert.NmmK.nD Cert.NmmK.τ Cert.NmmK.sig) → Buf (Elt Bits) ℓ) (g : Dev Cert.NmmK.nD → PrngReg), Pre_NmmK m →
    θ_run (Cert.NmmK.defs (F := Bits)) (onTc (τ := Cert.NmmK.τ) (Cert.NmmK.main (F := Bits))) ⟨m, fun _ => 0, g⟩ (fun r => (∀ c : Dev Cert.NmmK.nD,
      r.2.mem ((c.tc : Thread Cert.NmmK.nD Cert.NmmK.τ).loc Cert.NmmK.main_arg0) = m ((c.tc : Thread Cert.NmmK.nD Cert.NmmK.τ).loc Cert.NmmK.main_arg0)
      ∧ r.2.mem ((c.tc : Thread Cert.NmmK.nD Cert.NmmK.τ).loc Cert.NmmK.main_arg1) = m ((c.tc : Thread Cert.NmmK.nD Cert.NmmK.τ).loc Cert.NmmK.main_arg1)
      ∧ r.2.mem ((c.tc : Thread Cert.NmmK.nD Cert.NmmK.τ).loc Cert.NmmK.main_arg2) = m ((c.tc : Thread Cert.NmmK.nD Cert.NmmK.τ).loc Cert.NmmK.main_arg2))
      ∧ r.2.sem = fun _ => 0)

def quiescent_NmmKIdeal [hNmmKIdeal : Cert.NmmKIdeal.Facts] : Prop :=
  ∀ (m : (ℓ : Loc Cert.NmmKIdeal.nD Cert.NmmKIdeal.τ Cert.NmmKIdeal.sig) → Buf (Elt Ideal) ℓ) (g : Dev Cert.NmmKIdeal.nD → PrngReg), Pre_NmmKIdeal m →
    θ_run (Cert.NmmKIdeal.defs (F := Ideal)) (onTc (τ := Cert.NmmKIdeal.τ) (Cert.NmmKIdeal.main (F := Ideal))) ⟨m, fun _ => 0, g⟩ (fun r => (∀ c : Dev Cert.NmmKIdeal.nD,
      r.2.mem ((c.tc : Thread Cert.NmmKIdeal.nD Cert.NmmKIdeal.τ).loc Cert.NmmKIdeal.main_arg0) = m ((c.tc : Thread Cert.NmmKIdeal.nD Cert.NmmKIdeal.τ).loc Cert.NmmKIdeal.main_arg0)
      ∧ r.2.mem ((c.tc : Thread Cert.NmmKIdeal.nD Cert.NmmKIdeal.τ).loc Cert.NmmKIdeal.main_arg1) = m ((c.tc : Thread Cert.NmmKIdeal.nD Cert.NmmKIdeal.τ).loc Cert.NmmKIdeal.main_arg1)
      ∧ r.2.mem ((c.tc : Thread Cert.NmmKIdeal.nD Cert.NmmKIdeal.τ).loc Cert.NmmKIdeal.main_arg2) = m ((c.tc : Thread Cert.NmmKIdeal.nD Cert.NmmKIdeal.τ).loc Cert.NmmKIdeal.main_arg2))
      ∧ r.2.sem = fun _ => 0)

def quiescent_NmmRIdeal [hNmmRIdeal : Cert.NmmRIdeal.Facts] : Prop :=
  ∀ (m : (ℓ : Loc Cert.NmmRIdeal.nD Cert.NmmRIdeal.τ Cert.NmmRIdeal.sig) → Buf (Elt Ideal) ℓ) (g : Dev Cert.NmmRIdeal.nD → PrngReg), Pre_NmmRIdeal m →
    θ_run (Cert.NmmRIdeal.defs (F := Ideal)) (onTc (τ := Cert.NmmRIdeal.τ) (Cert.NmmRIdeal.main (F := Ideal))) ⟨m, fun _ => 0, g⟩ (fun r => (∀ c : Dev Cert.NmmRIdeal.nD,
      r.2.mem ((c.tc : Thread Cert.NmmRIdeal.nD Cert.NmmRIdeal.τ).loc Cert.NmmRIdeal.main_arg0) = m ((c.tc : Thread Cert.NmmRIdeal.nD Cert.NmmRIdeal.τ).loc Cert.NmmRIdeal.main_arg0)
      ∧ r.2.mem ((c.tc : Thread Cert.NmmRIdeal.nD Cert.NmmRIdeal.τ).loc Cert.NmmRIdeal.main_arg1) = m ((c.tc : Thread Cert.NmmRIdeal.nD Cert.NmmRIdeal.τ).loc Cert.NmmRIdeal.main_arg1)
      ∧ r.2.mem ((c.tc : Thread Cert.NmmRIdeal.nD Cert.NmmRIdeal.τ).loc Cert.NmmRIdeal.main_arg2) = m ((c.tc : Thread Cert.NmmRIdeal.nD Cert.NmmRIdeal.τ).loc Cert.NmmRIdeal.main_arg2))
      ∧ r.2.sem = fun _ => 0)

def quiescent_Mix1K [hMix1K : Cert.Mix1K.Facts] : Prop :=
  ∀ (m : (ℓ : Loc Cert.Mix1K.nD Cert.Mix1K.τ Cert.Mix1K.sig) → Buf (Elt Bits) ℓ) (g : Dev Cert.Mix1K.nD → PrngReg), Pre_Mix1K m →
    θ_run (Cert.Mix1K.defs (F := Bits)) (onTc (τ := Cert.Mix1K.τ) (Cert.Mix1K.main (F := Bits))) ⟨m, fun _ => 0, g⟩ (fun r => (∀ c : Dev Cert.Mix1K.nD,
      r.2.mem ((c.tc : Thread Cert.Mix1K.nD Cert.Mix1K.τ).loc Cert.Mix1K.main_arg0) = m ((c.tc : Thread Cert.Mix1K.nD Cert.Mix1K.τ).loc Cert.Mix1K.main_arg0)
      ∧ r.2.mem ((c.tc : Thread Cert.Mix1K.nD Cert.Mix1K.τ).loc Cert.Mix1K.main_arg1) = m ((c.tc : Thread Cert.Mix1K.nD Cert.Mix1K.τ).loc Cert.Mix1K.main_arg1)
      ∧ r.2.mem ((c.tc : Thread Cert.Mix1K.nD Cert.Mix1K.τ).loc Cert.Mix1K.main_arg2) = m ((c.tc : Thread Cert.Mix1K.nD Cert.Mix1K.τ).loc Cert.Mix1K.main_arg2)
      ∧ r.2.mem ((c.tc : Thread Cert.Mix1K.nD Cert.Mix1K.τ).loc Cert.Mix1K.main_arg3) = m ((c.tc : Thread Cert.Mix1K.nD Cert.Mix1K.τ).loc Cert.Mix1K.main_arg3))
      ∧ r.2.sem = fun _ => 0)

def quiescent_Mix1KIdeal [hMix1KIdeal : Cert.Mix1KIdeal.Facts] : Prop :=
  ∀ (m : (ℓ : Loc Cert.Mix1KIdeal.nD Cert.Mix1KIdeal.τ Cert.Mix1KIdeal.sig) → Buf (Elt Ideal) ℓ) (g : Dev Cert.Mix1KIdeal.nD → PrngReg), Pre_Mix1KIdeal m →
    θ_run (Cert.Mix1KIdeal.defs (F := Ideal)) (onTc (τ := Cert.Mix1KIdeal.τ) (Cert.Mix1KIdeal.main (F := Ideal))) ⟨m, fun _ => 0, g⟩ (fun r => (∀ c : Dev Cert.Mix1KIdeal.nD,
      r.2.mem ((c.tc : Thread Cert.Mix1KIdeal.nD Cert.Mix1KIdeal.τ).loc Cert.Mix1KIdeal.main_arg0) = m ((c.tc : Thread Cert.Mix1KIdeal.nD Cert.Mix1KIdeal.τ).loc Cert.Mix1KIdeal.main_arg0)
      ∧ r.2.mem ((c.tc : Thread Cert.Mix1KIdeal.nD Cert.Mix1KIdeal.τ).loc Cert.Mix1KIdeal.main_arg1) = m ((c.tc : Thread Cert.Mix1KIdeal.nD Cert.Mix1KIdeal.τ).loc Cert.Mix1KIdeal.main_arg1)
      ∧ r.2.mem ((c.tc : Thread Cert.Mix1KIdeal.nD Cert.Mix1KIdeal.τ).loc Cert.Mix1KIdeal.main_arg2) = m ((c.tc : Thread Cert.Mix1KIdeal.nD Cert.Mix1KIdeal.τ).loc Cert.Mix1KIdeal.main_arg2)
      ∧ r.2.mem ((c.tc : Thread Cert.Mix1KIdeal.nD Cert.Mix1KIdeal.τ).loc Cert.Mix1KIdeal.main_arg3) = m ((c.tc : Thread Cert.Mix1KIdeal.nD Cert.Mix1KIdeal.τ).loc Cert.Mix1KIdeal.main_arg3))
      ∧ r.2.sem = fun _ => 0)

def quiescent_Mix1RIdeal [hMix1RIdeal : Cert.Mix1RIdeal.Facts] : Prop :=
  ∀ (m : (ℓ : Loc Cert.Mix1RIdeal.nD Cert.Mix1RIdeal.τ Cert.Mix1RIdeal.sig) → Buf (Elt Ideal) ℓ) (g : Dev Cert.Mix1RIdeal.nD → PrngReg), Pre_Mix1RIdeal m →
    θ_run (Cert.Mix1RIdeal.defs (F := Ideal)) (onTc (τ := Cert.Mix1RIdeal.τ) (Cert.Mix1RIdeal.main (F := Ideal))) ⟨m, fun _ => 0, g⟩ (fun r => (∀ c : Dev Cert.Mix1RIdeal.nD,
      r.2.mem ((c.tc : Thread Cert.Mix1RIdeal.nD Cert.Mix1RIdeal.τ).loc Cert.Mix1RIdeal.main_arg0) = m ((c.tc : Thread Cert.Mix1RIdeal.nD Cert.Mix1RIdeal.τ).loc Cert.Mix1RIdeal.main_arg0)
      ∧ r.2.mem ((c.tc : Thread Cert.Mix1RIdeal.nD Cert.Mix1RIdeal.τ).loc Cert.Mix1RIdeal.main_arg1) = m ((c.tc : Thread Cert.Mix1RIdeal.nD Cert.Mix1RIdeal.τ).loc Cert.Mix1RIdeal.main_arg1)
      ∧ r.2.mem ((c.tc : Thread Cert.Mix1RIdeal.nD Cert.Mix1RIdeal.τ).loc Cert.Mix1RIdeal.main_arg2) = m ((c.tc : Thread Cert.Mix1RIdeal.nD Cert.Mix1RIdeal.τ).loc Cert.Mix1RIdeal.main_arg2)
      ∧ r.2.mem ((c.tc : Thread Cert.Mix1RIdeal.nD Cert.Mix1RIdeal.τ).loc Cert.Mix1RIdeal.main_arg3) = m ((c.tc : Thread Cert.Mix1RIdeal.nD Cert.Mix1RIdeal.τ).loc Cert.Mix1RIdeal.main_arg3))
      ∧ r.2.sem = fun _ => 0)

def quiescent_Mix0K [hMix0K : Cert.Mix0K.Facts] : Prop :=
  ∀ (m : (ℓ : Loc Cert.Mix0K.nD Cert.Mix0K.τ Cert.Mix0K.sig) → Buf (Elt Bits) ℓ) (g : Dev Cert.Mix0K.nD → PrngReg), Pre_Mix0K m →
    θ_run (Cert.Mix0K.defs (F := Bits)) (onTc (τ := Cert.Mix0K.τ) (Cert.Mix0K.main (F := Bits))) ⟨m, fun _ => 0, g⟩ (fun r => (∀ c : Dev Cert.Mix0K.nD,
      r.2.mem ((c.tc : Thread Cert.Mix0K.nD Cert.Mix0K.τ).loc Cert.Mix0K.main_arg0) = m ((c.tc : Thread Cert.Mix0K.nD Cert.Mix0K.τ).loc Cert.Mix0K.main_arg0)
      ∧ r.2.mem ((c.tc : Thread Cert.Mix0K.nD Cert.Mix0K.τ).loc Cert.Mix0K.main_arg1) = m ((c.tc : Thread Cert.Mix0K.nD Cert.Mix0K.τ).loc Cert.Mix0K.main_arg1)
      ∧ r.2.mem ((c.tc : Thread Cert.Mix0K.nD Cert.Mix0K.τ).loc Cert.Mix0K.main_arg2) = m ((c.tc : Thread Cert.Mix0K.nD Cert.Mix0K.τ).loc Cert.Mix0K.main_arg2)
      ∧ r.2.mem ((c.tc : Thread Cert.Mix0K.nD Cert.Mix0K.τ).loc Cert.Mix0K.main_arg3) = m ((c.tc : Thread Cert.Mix0K.nD Cert.Mix0K.τ).loc Cert.Mix0K.main_arg3)
      ∧ r.2.mem ((c.tc : Thread Cert.Mix0K.nD Cert.Mix0K.τ).loc Cert.Mix0K.main_arg4) = m ((c.tc : Thread Cert.Mix0K.nD Cert.Mix0K.τ).loc Cert.Mix0K.main_arg4)
      ∧ r.2.mem ((c.tc : Thread Cert.Mix0K.nD Cert.Mix0K.τ).loc Cert.Mix0K.main_arg5) = m ((c.tc : Thread Cert.Mix0K.nD Cert.Mix0K.τ).loc Cert.Mix0K.main_arg5)
      ∧ r.2.mem ((c.tc : Thread Cert.Mix0K.nD Cert.Mix0K.τ).loc Cert.Mix0K.main_arg6) = m ((c.tc : Thread Cert.Mix0K.nD Cert.Mix0K.τ).loc Cert.Mix0K.main_arg6))
      ∧ r.2.sem = fun _ => 0)

def quiescent_Mix0KIdeal [hMix0KIdeal : Cert.Mix0KIdeal.Facts] : Prop :=
  ∀ (m : (ℓ : Loc Cert.Mix0KIdeal.nD Cert.Mix0KIdeal.τ Cert.Mix0KIdeal.sig) → Buf (Elt Ideal) ℓ) (g : Dev Cert.Mix0KIdeal.nD → PrngReg), Pre_Mix0KIdeal m →
    θ_run (Cert.Mix0KIdeal.defs (F := Ideal)) (onTc (τ := Cert.Mix0KIdeal.τ) (Cert.Mix0KIdeal.main (F := Ideal))) ⟨m, fun _ => 0, g⟩ (fun r => (∀ c : Dev Cert.Mix0KIdeal.nD,
      r.2.mem ((c.tc : Thread Cert.Mix0KIdeal.nD Cert.Mix0KIdeal.τ).loc Cert.Mix0KIdeal.main_arg0) = m ((c.tc : Thread Cert.Mix0KIdeal.nD Cert.Mix0KIdeal.τ).loc Cert.Mix0KIdeal.main_arg0)
      ∧ r.2.mem ((c.tc : Thread Cert.Mix0KIdeal.nD Cert.Mix0KIdeal.τ).loc Cert.Mix0KIdeal.main_arg1) = m ((c.tc : Thread Cert.Mix0KIdeal.nD Cert.Mix0KIdeal.τ).loc Cert.Mix0KIdeal.main_arg1)
      ∧ r.2.mem ((c.tc : Thread Cert.Mix0KIdeal.nD Cert.Mix0KIdeal.τ).loc Cert.Mix0KIdeal.main_arg2) = m ((c.tc : Thread Cert.Mix0KIdeal.nD Cert.Mix0KIdeal.τ).loc Cert.Mix0KIdeal.main_arg2)
      ∧ r.2.mem ((c.tc : Thread Cert.Mix0KIdeal.nD Cert.Mix0KIdeal.τ).loc Cert.Mix0KIdeal.main_arg3) = m ((c.tc : Thread Cert.Mix0KIdeal.nD Cert.Mix0KIdeal.τ).loc Cert.Mix0KIdeal.main_arg3)
      ∧ r.2.mem ((c.tc : Thread Cert.Mix0KIdeal.nD Cert.Mix0KIdeal.τ).loc Cert.Mix0KIdeal.main_arg4) = m ((c.tc : Thread Cert.Mix0KIdeal.nD Cert.Mix0KIdeal.τ).loc Cert.Mix0KIdeal.main_arg4)
      ∧ r.2.mem ((c.tc : Thread Cert.Mix0KIdeal.nD Cert.Mix0KIdeal.τ).loc Cert.Mix0KIdeal.main_arg5) = m ((c.tc : Thread Cert.Mix0KIdeal.nD Cert.Mix0KIdeal.τ).loc Cert.Mix0KIdeal.main_arg5)
      ∧ r.2.mem ((c.tc : Thread Cert.Mix0KIdeal.nD Cert.Mix0KIdeal.τ).loc Cert.Mix0KIdeal.main_arg6) = m ((c.tc : Thread Cert.Mix0KIdeal.nD Cert.Mix0KIdeal.τ).loc Cert.Mix0KIdeal.main_arg6))
      ∧ r.2.sem = fun _ => 0)

def quiescent_Mix0RIdeal [hMix0RIdeal : Cert.Mix0RIdeal.Facts] : Prop :=
  ∀ (m : (ℓ : Loc Cert.Mix0RIdeal.nD Cert.Mix0RIdeal.τ Cert.Mix0RIdeal.sig) → Buf (Elt Ideal) ℓ) (g : Dev Cert.Mix0RIdeal.nD → PrngReg), Pre_Mix0RIdeal m →
    θ_run (Cert.Mix0RIdeal.defs (F := Ideal)) (onTc (τ := Cert.Mix0RIdeal.τ) (Cert.Mix0RIdeal.main (F := Ideal))) ⟨m, fun _ => 0, g⟩ (fun r => (∀ c : Dev Cert.Mix0RIdeal.nD,
      r.2.mem ((c.tc : Thread Cert.Mix0RIdeal.nD Cert.Mix0RIdeal.τ).loc Cert.Mix0RIdeal.main_arg0) = m ((c.tc : Thread Cert.Mix0RIdeal.nD Cert.Mix0RIdeal.τ).loc Cert.Mix0RIdeal.main_arg0)
      ∧ r.2.mem ((c.tc : Thread Cert.Mix0RIdeal.nD Cert.Mix0RIdeal.τ).loc Cert.Mix0RIdeal.main_arg1) = m ((c.tc : Thread Cert.Mix0RIdeal.nD Cert.Mix0RIdeal.τ).loc Cert.Mix0RIdeal.main_arg1)
      ∧ r.2.mem ((c.tc : Thread Cert.Mix0RIdeal.nD Cert.Mix0RIdeal.τ).loc Cert.Mix0RIdeal.main_arg2) = m ((c.tc : Thread Cert.Mix0RIdeal.nD Cert.Mix0RIdeal.τ).loc Cert.Mix0RIdeal.main_arg2)
      ∧ r.2.mem ((c.tc : Thread Cert.Mix0RIdeal.nD Cert.Mix0RIdeal.τ).loc Cert.Mix0RIdeal.main_arg3) = m ((c.tc : Thread Cert.Mix0RIdeal.nD Cert.Mix0RIdeal.τ).loc Cert.Mix0RIdeal.main_arg3)
      ∧ r.2.mem ((c.tc : Thread Cert.Mix0RIdeal.nD Cert.Mix0RIdeal.τ).loc Cert.Mix0RIdeal.main_arg4) = m ((c.tc : Thread Cert.Mix0RIdeal.nD Cert.Mix0RIdeal.τ).loc Cert.Mix0RIdeal.main_arg4)
      ∧ r.2.mem ((c.tc : Thread Cert.Mix0RIdeal.nD Cert.Mix0RIdeal.τ).loc Cert.Mix0RIdeal.main_arg5) = m ((c.tc : Thread Cert.Mix0RIdeal.nD Cert.Mix0RIdeal.τ).loc Cert.Mix0RIdeal.main_arg5)
      ∧ r.2.mem ((c.tc : Thread Cert.Mix0RIdeal.nD Cert.Mix0RIdeal.τ).loc Cert.Mix0RIdeal.main_arg6) = m ((c.tc : Thread Cert.Mix0RIdeal.nD Cert.Mix0RIdeal.τ).loc Cert.Mix0RIdeal.main_arg6))
      ∧ r.2.sem = fun _ => 0)

def quiescent_GlafK [hGlafK : Cert.GlafK.Facts] : Prop :=
  ∀ (m : (ℓ : Loc Cert.GlafK.nD Cert.GlafK.τ Cert.GlafK.sig) → Buf (Elt Bits) ℓ) (g : Dev Cert.GlafK.nD → PrngReg), Pre_GlafK m →
    θ_run (Cert.GlafK.defs (F := Bits)) (onTc (τ := Cert.GlafK.τ) (Cert.GlafK.main (F := Bits))) ⟨m, fun _ => 0, g⟩ (fun r => (∀ c : Dev Cert.GlafK.nD,
      r.2.mem ((c.tc : Thread Cert.GlafK.nD Cert.GlafK.τ).loc Cert.GlafK.main_arg0) = m ((c.tc : Thread Cert.GlafK.nD Cert.GlafK.τ).loc Cert.GlafK.main_arg0)
      ∧ r.2.mem ((c.tc : Thread Cert.GlafK.nD Cert.GlafK.τ).loc Cert.GlafK.main_arg1) = m ((c.tc : Thread Cert.GlafK.nD Cert.GlafK.τ).loc Cert.GlafK.main_arg1))
      ∧ r.2.sem = fun _ => 0)

def quiescent_GlafKIdeal [hGlafKIdeal : Cert.GlafKIdeal.Facts] : Prop :=
  ∀ (m : (ℓ : Loc Cert.GlafKIdeal.nD Cert.GlafKIdeal.τ Cert.GlafKIdeal.sig) → Buf (Elt Ideal) ℓ) (g : Dev Cert.GlafKIdeal.nD → PrngReg), Pre_GlafKIdeal m →
    θ_run (Cert.GlafKIdeal.defs (F := Ideal)) (onTc (τ := Cert.GlafKIdeal.τ) (Cert.GlafKIdeal.main (F := Ideal))) ⟨m, fun _ => 0, g⟩ (fun r => (∀ c : Dev Cert.GlafKIdeal.nD,
      r.2.mem ((c.tc : Thread Cert.GlafKIdeal.nD Cert.GlafKIdeal.τ).loc Cert.GlafKIdeal.main_arg0) = m ((c.tc : Thread Cert.GlafKIdeal.nD Cert.GlafKIdeal.τ).loc Cert.GlafKIdeal.main_arg0)
      ∧ r.2.mem ((c.tc : Thread Cert.GlafKIdeal.nD Cert.GlafKIdeal.τ).loc Cert.GlafKIdeal.main_arg1) = m ((c.tc : Thread Cert.GlafKIdeal.nD Cert.GlafKIdeal.τ).loc Cert.GlafKIdeal.main_arg1))
      ∧ r.2.sem = fun _ => 0)

def quiescent_GlafKIdeal_pre_finite_glaf [hGlafKIdeal : Cert.GlafKIdeal.Facts] [hPre_finite_glaf : Cert.Pre_finite_glaf.Facts] : Prop :=
  ∀ (m : (ℓ : Loc Cert.GlafKIdeal.nD Cert.GlafKIdeal.τ Cert.GlafKIdeal.sig) → Buf (Elt Ideal) ℓ) (g : Dev Cert.GlafKIdeal.nD → PrngReg), Pre_GlafKIdeal_finite_glaf m →
    θ_run (Cert.GlafKIdeal.defs (F := Ideal)) (onTc (τ := Cert.GlafKIdeal.τ) (Cert.GlafKIdeal.main (F := Ideal))) ⟨m, fun _ => 0, g⟩ (fun r => (∀ c : Dev Cert.GlafKIdeal.nD,
      r.2.mem ((c.tc : Thread Cert.GlafKIdeal.nD Cert.GlafKIdeal.τ).loc Cert.GlafKIdeal.main_arg0) = m ((c.tc : Thread Cert.GlafKIdeal.nD Cert.GlafKIdeal.τ).loc Cert.GlafKIdeal.main_arg0)
      ∧ r.2.mem ((c.tc : Thread Cert.GlafKIdeal.nD Cert.GlafKIdeal.τ).loc Cert.GlafKIdeal.main_arg1) = m ((c.tc : Thread Cert.GlafKIdeal.nD Cert.GlafKIdeal.τ).loc Cert.GlafKIdeal.main_arg1))
      ∧ r.2.sem = fun _ => 0)

def quiescent_GlafRIdeal [hGlafRIdeal : Cert.GlafRIdeal.Facts] : Prop :=
  ∀ (m : (ℓ : Loc Cert.GlafRIdeal.nD Cert.GlafRIdeal.τ Cert.GlafRIdeal.sig) → Buf (Elt Ideal) ℓ) (g : Dev Cert.GlafRIdeal.nD → PrngReg), Pre_GlafRIdeal m →
    θ_run (Cert.GlafRIdeal.defs (F := Ideal)) (onTc (τ := Cert.GlafRIdeal.τ) (Cert.GlafRIdeal.main (F := Ideal))) ⟨m, fun _ => 0, g⟩ (fun r => (∀ c : Dev Cert.GlafRIdeal.nD,
      r.2.mem ((c.tc : Thread Cert.GlafRIdeal.nD Cert.GlafRIdeal.τ).loc Cert.GlafRIdeal.main_arg0) = m ((c.tc : Thread Cert.GlafRIdeal.nD Cert.GlafRIdeal.τ).loc Cert.GlafRIdeal.main_arg0)
      ∧ r.2.mem ((c.tc : Thread Cert.GlafRIdeal.nD Cert.GlafRIdeal.τ).loc Cert.GlafRIdeal.main_arg1) = m ((c.tc : Thread Cert.GlafRIdeal.nD Cert.GlafRIdeal.τ).loc Cert.GlafRIdeal.main_arg1))
      ∧ r.2.sem = fun _ => 0)

def quiescent_GlafRIdeal_pre_finite_glaf [hGlafRIdeal : Cert.GlafRIdeal.Facts] [hPre_finite_glaf : Cert.Pre_finite_glaf.Facts] : Prop :=
  ∀ (m : (ℓ : Loc Cert.GlafRIdeal.nD Cert.GlafRIdeal.τ Cert.GlafRIdeal.sig) → Buf (Elt Ideal) ℓ) (g : Dev Cert.GlafRIdeal.nD → PrngReg), Pre_GlafRIdeal_finite_glaf m →
    θ_run (Cert.GlafRIdeal.defs (F := Ideal)) (onTc (τ := Cert.GlafRIdeal.τ) (Cert.GlafRIdeal.main (F := Ideal))) ⟨m, fun _ => 0, g⟩ (fun r => (∀ c : Dev Cert.GlafRIdeal.nD,
      r.2.mem ((c.tc : Thread Cert.GlafRIdeal.nD Cert.GlafRIdeal.τ).loc Cert.GlafRIdeal.main_arg0) = m ((c.tc : Thread Cert.GlafRIdeal.nD Cert.GlafRIdeal.τ).loc Cert.GlafRIdeal.main_arg0)
      ∧ r.2.mem ((c.tc : Thread Cert.GlafRIdeal.nD Cert.GlafRIdeal.τ).loc Cert.GlafRIdeal.main_arg1) = m ((c.tc : Thread Cert.GlafRIdeal.nD Cert.GlafRIdeal.τ).loc Cert.GlafRIdeal.main_arg1))
      ∧ r.2.sem = fun _ => 0)

def quiescent_HgfK [hHgfK : Cert.HgfK.Facts] : Prop :=
  ∀ (m : (ℓ : Loc Cert.HgfK.nD Cert.HgfK.τ Cert.HgfK.sig) → Buf (Elt Bits) ℓ) (g : Dev Cert.HgfK.nD → PrngReg), Pre_HgfK m →
    θ_run (Cert.HgfK.defs (F := Bits)) (onTc (τ := Cert.HgfK.τ) (Cert.HgfK.main (F := Bits))) ⟨m, fun _ => 0, g⟩ (fun r => (∀ c : Dev Cert.HgfK.nD,
      r.2.mem ((c.tc : Thread Cert.HgfK.nD Cert.HgfK.τ).loc Cert.HgfK.main_arg0) = m ((c.tc : Thread Cert.HgfK.nD Cert.HgfK.τ).loc Cert.HgfK.main_arg0)
      ∧ r.2.mem ((c.tc : Thread Cert.HgfK.nD Cert.HgfK.τ).loc Cert.HgfK.main_arg1) = m ((c.tc : Thread Cert.HgfK.nD Cert.HgfK.τ).loc Cert.HgfK.main_arg1))
      ∧ r.2.sem = fun _ => 0)

def quiescent_HgfKIdeal [hHgfKIdeal : Cert.HgfKIdeal.Facts] : Prop :=
  ∀ (m : (ℓ : Loc Cert.HgfKIdeal.nD Cert.HgfKIdeal.τ Cert.HgfKIdeal.sig) → Buf (Elt Ideal) ℓ) (g : Dev Cert.HgfKIdeal.nD → PrngReg), Pre_HgfKIdeal m →
    θ_run (Cert.HgfKIdeal.defs (F := Ideal)) (onTc (τ := Cert.HgfKIdeal.τ) (Cert.HgfKIdeal.main (F := Ideal))) ⟨m, fun _ => 0, g⟩ (fun r => (∀ c : Dev Cert.HgfKIdeal.nD,
      r.2.mem ((c.tc : Thread Cert.HgfKIdeal.nD Cert.HgfKIdeal.τ).loc Cert.HgfKIdeal.main_arg0) = m ((c.tc : Thread Cert.HgfKIdeal.nD Cert.HgfKIdeal.τ).loc Cert.HgfKIdeal.main_arg0)
      ∧ r.2.mem ((c.tc : Thread Cert.HgfKIdeal.nD Cert.HgfKIdeal.τ).loc Cert.HgfKIdeal.main_arg1) = m ((c.tc : Thread Cert.HgfKIdeal.nD Cert.HgfKIdeal.τ).loc Cert.HgfKIdeal.main_arg1))
      ∧ r.2.sem = fun _ => 0)

def quiescent_HgfKIdeal_pre_finite_hgf [hHgfKIdeal : Cert.HgfKIdeal.Facts] [hPre_finite_hgf : Cert.Pre_finite_hgf.Facts] : Prop :=
  ∀ (m : (ℓ : Loc Cert.HgfKIdeal.nD Cert.HgfKIdeal.τ Cert.HgfKIdeal.sig) → Buf (Elt Ideal) ℓ) (g : Dev Cert.HgfKIdeal.nD → PrngReg), Pre_HgfKIdeal_finite_hgf m →
    θ_run (Cert.HgfKIdeal.defs (F := Ideal)) (onTc (τ := Cert.HgfKIdeal.τ) (Cert.HgfKIdeal.main (F := Ideal))) ⟨m, fun _ => 0, g⟩ (fun r => (∀ c : Dev Cert.HgfKIdeal.nD,
      r.2.mem ((c.tc : Thread Cert.HgfKIdeal.nD Cert.HgfKIdeal.τ).loc Cert.HgfKIdeal.main_arg0) = m ((c.tc : Thread Cert.HgfKIdeal.nD Cert.HgfKIdeal.τ).loc Cert.HgfKIdeal.main_arg0)
      ∧ r.2.mem ((c.tc : Thread Cert.HgfKIdeal.nD Cert.HgfKIdeal.τ).loc Cert.HgfKIdeal.main_arg1) = m ((c.tc : Thread Cert.HgfKIdeal.nD Cert.HgfKIdeal.τ).loc Cert.HgfKIdeal.main_arg1))
      ∧ r.2.sem = fun _ => 0)

def quiescent_HgfRIdeal [hHgfRIdeal : Cert.HgfRIdeal.Facts] : Prop :=
  ∀ (m : (ℓ : Loc Cert.HgfRIdeal.nD Cert.HgfRIdeal.τ Cert.HgfRIdeal.sig) → Buf (Elt Ideal) ℓ) (g : Dev Cert.HgfRIdeal.nD → PrngReg), Pre_HgfRIdeal m →
    θ_run (Cert.HgfRIdeal.defs (F := Ideal)) (onTc (τ := Cert.HgfRIdeal.τ) (Cert.HgfRIdeal.main (F := Ideal))) ⟨m, fun _ => 0, g⟩ (fun r => (∀ c : Dev Cert.HgfRIdeal.nD,
      r.2.mem ((c.tc : Thread Cert.HgfRIdeal.nD Cert.HgfRIdeal.τ).loc Cert.HgfRIdeal.main_arg0) = m ((c.tc : Thread Cert.HgfRIdeal.nD Cert.HgfRIdeal.τ).loc Cert.HgfRIdeal.main_arg0)
      ∧ r.2.mem ((c.tc : Thread Cert.HgfRIdeal.nD Cert.HgfRIdeal.τ).loc Cert.HgfRIdeal.main_arg1) = m ((c.tc : Thread Cert.HgfRIdeal.nD Cert.HgfRIdeal.τ).loc Cert.HgfRIdeal.main_arg1))
      ∧ r.2.sem = fun _ => 0)

def quiescent_HgfRIdeal_pre_finite_hgf [hHgfRIdeal : Cert.HgfRIdeal.Facts] [hPre_finite_hgf : Cert.Pre_finite_hgf.Facts] : Prop :=
  ∀ (m : (ℓ : Loc Cert.HgfRIdeal.nD Cert.HgfRIdeal.τ Cert.HgfRIdeal.sig) → Buf (Elt Ideal) ℓ) (g : Dev Cert.HgfRIdeal.nD → PrngReg), Pre_HgfRIdeal_finite_hgf m →
    θ_run (Cert.HgfRIdeal.defs (F := Ideal)) (onTc (τ := Cert.HgfRIdeal.τ) (Cert.HgfRIdeal.main (F := Ideal))) ⟨m, fun _ => 0, g⟩ (fun r => (∀ c : Dev Cert.HgfRIdeal.nD,
      r.2.mem ((c.tc : Thread Cert.HgfRIdeal.nD Cert.HgfRIdeal.τ).loc Cert.HgfRIdeal.main_arg0) = m ((c.tc : Thread Cert.HgfRIdeal.nD Cert.HgfRIdeal.τ).loc Cert.HgfRIdeal.main_arg0)
      ∧ r.2.mem ((c.tc : Thread Cert.HgfRIdeal.nD Cert.HgfRIdeal.τ).loc Cert.HgfRIdeal.main_arg1) = m ((c.tc : Thread Cert.HgfRIdeal.nD Cert.HgfRIdeal.τ).loc Cert.HgfRIdeal.main_arg1))
      ∧ r.2.sem = fun _ => 0)

def quiescent_Glab1 [hGlab1 : Cert.Glab1.Facts] : Prop :=
  ∀ (m : (ℓ : Loc Cert.Glab1.nD Cert.Glab1.τ Cert.Glab1.sig) → Buf (Elt Bits) ℓ) (g : Dev Cert.Glab1.nD → PrngReg), Pre_Glab1 m →
    θ_run (Cert.Glab1.defs (F := Bits)) (onTc (τ := Cert.Glab1.τ) (Cert.Glab1.main (F := Bits))) ⟨m, fun _ => 0, g⟩ (fun r => (∀ c : Dev Cert.Glab1.nD,
      r.2.mem ((c.tc : Thread Cert.Glab1.nD Cert.Glab1.τ).loc Cert.Glab1.main_arg0) = m ((c.tc : Thread Cert.Glab1.nD Cert.Glab1.τ).loc Cert.Glab1.main_arg0)
      ∧ r.2.mem ((c.tc : Thread Cert.Glab1.nD Cert.Glab1.τ).loc Cert.Glab1.main_arg1) = m ((c.tc : Thread Cert.Glab1.nD Cert.Glab1.τ).loc Cert.Glab1.main_arg1)
      ∧ r.2.mem ((c.tc : Thread Cert.Glab1.nD Cert.Glab1.τ).loc Cert.Glab1.main_arg2) = m ((c.tc : Thread Cert.Glab1.nD Cert.Glab1.τ).loc Cert.Glab1.main_arg2)
      ∧ r.2.mem ((c.tc : Thread Cert.Glab1.nD Cert.Glab1.τ).loc Cert.Glab1.main_arg3) = m ((c.tc : Thread Cert.Glab1.nD Cert.Glab1.τ).loc Cert.Glab1.main_arg3)
      ∧ r.2.mem ((c.tc : Thread Cert.Glab1.nD Cert.Glab1.τ).loc Cert.Glab1.main_arg4) = m ((c.tc : Thread Cert.Glab1.nD Cert.Glab1.τ).loc Cert.Glab1.main_arg4))
      ∧ r.2.sem = fun _ => 0)

def quiescent_Glab1Ideal [hGlab1Ideal : Cert.Glab1Ideal.Facts] : Prop :=
  ∀ (m : (ℓ : Loc Cert.Glab1Ideal.nD Cert.Glab1Ideal.τ Cert.Glab1Ideal.sig) → Buf (Elt Ideal) ℓ) (g : Dev Cert.Glab1Ideal.nD → PrngReg), Pre_Glab1Ideal m →
    θ_run (Cert.Glab1Ideal.defs (F := Ideal)) (onTc (τ := Cert.Glab1Ideal.τ) (Cert.Glab1Ideal.main (F := Ideal))) ⟨m, fun _ => 0, g⟩ (fun r => (∀ c : Dev Cert.Glab1Ideal.nD,
      r.2.mem ((c.tc : Thread Cert.Glab1Ideal.nD Cert.Glab1Ideal.τ).loc Cert.Glab1Ideal.main_arg0) = m ((c.tc : Thread Cert.Glab1Ideal.nD Cert.Glab1Ideal.τ).loc Cert.Glab1Ideal.main_arg0)
      ∧ r.2.mem ((c.tc : Thread Cert.Glab1Ideal.nD Cert.Glab1Ideal.τ).loc Cert.Glab1Ideal.main_arg1) = m ((c.tc : Thread Cert.Glab1Ideal.nD Cert.Glab1Ideal.τ).loc Cert.Glab1Ideal.main_arg1)
      ∧ r.2.mem ((c.tc : Thread Cert.Glab1Ideal.nD Cert.Glab1Ideal.τ).loc Cert.Glab1Ideal.main_arg2) = m ((c.tc : Thread Cert.Glab1Ideal.nD Cert.Glab1Ideal.τ).loc Cert.Glab1Ideal.main_arg2)
      ∧ r.2.mem ((c.tc : Thread Cert.Glab1Ideal.nD Cert.Glab1Ideal.τ).loc Cert.Glab1Ideal.main_arg3) = m ((c.tc : Thread Cert.Glab1Ideal.nD Cert.Glab1Ideal.τ).loc Cert.Glab1Ideal.main_arg3)
      ∧ r.2.mem ((c.tc : Thread Cert.Glab1Ideal.nD Cert.Glab1Ideal.τ).loc Cert.Glab1Ideal.main_arg4) = m ((c.tc : Thread Cert.Glab1Ideal.nD Cert.Glab1Ideal.τ).loc Cert.Glab1Ideal.main_arg4))
      ∧ r.2.sem = fun _ => 0)

def quiescent_Hgb1 [hHgb1 : Cert.Hgb1.Facts] : Prop :=
  ∀ (m : (ℓ : Loc Cert.Hgb1.nD Cert.Hgb1.τ Cert.Hgb1.sig) → Buf (Elt Bits) ℓ) (g : Dev Cert.Hgb1.nD → PrngReg), Pre_Hgb1 m →
    θ_run (Cert.Hgb1.defs (F := Bits)) (onTc (τ := Cert.Hgb1.τ) (Cert.Hgb1.main (F := Bits))) ⟨m, fun _ => 0, g⟩ (fun r => (∀ c : Dev Cert.Hgb1.nD,
      r.2.mem ((c.tc : Thread Cert.Hgb1.nD Cert.Hgb1.τ).loc Cert.Hgb1.main_arg0) = m ((c.tc : Thread Cert.Hgb1.nD Cert.Hgb1.τ).loc Cert.Hgb1.main_arg0)
      ∧ r.2.mem ((c.tc : Thread Cert.Hgb1.nD Cert.Hgb1.τ).loc Cert.Hgb1.main_arg1) = m ((c.tc : Thread Cert.Hgb1.nD Cert.Hgb1.τ).loc Cert.Hgb1.main_arg1)
      ∧ r.2.mem ((c.tc : Thread Cert.Hgb1.nD Cert.Hgb1.τ).loc Cert.Hgb1.main_arg2) = m ((c.tc : Thread Cert.Hgb1.nD Cert.Hgb1.τ).loc Cert.Hgb1.main_arg2)
      ∧ r.2.mem ((c.tc : Thread Cert.Hgb1.nD Cert.Hgb1.τ).loc Cert.Hgb1.main_arg3) = m ((c.tc : Thread Cert.Hgb1.nD Cert.Hgb1.τ).loc Cert.Hgb1.main_arg3)
      ∧ r.2.mem ((c.tc : Thread Cert.Hgb1.nD Cert.Hgb1.τ).loc Cert.Hgb1.main_arg4) = m ((c.tc : Thread Cert.Hgb1.nD Cert.Hgb1.τ).loc Cert.Hgb1.main_arg4))
      ∧ r.2.sem = fun _ => 0)

def quiescent_Hgb1Ideal [hHgb1Ideal : Cert.Hgb1Ideal.Facts] : Prop :=
  ∀ (m : (ℓ : Loc Cert.Hgb1Ideal.nD Cert.Hgb1Ideal.τ Cert.Hgb1Ideal.sig) → Buf (Elt Ideal) ℓ) (g : Dev Cert.Hgb1Ideal.nD → PrngReg), Pre_Hgb1Ideal m →
    θ_run (Cert.Hgb1Ideal.defs (F := Ideal)) (onTc (τ := Cert.Hgb1Ideal.τ) (Cert.Hgb1Ideal.main (F := Ideal))) ⟨m, fun _ => 0, g⟩ (fun r => (∀ c : Dev Cert.Hgb1Ideal.nD,
      r.2.mem ((c.tc : Thread Cert.Hgb1Ideal.nD Cert.Hgb1Ideal.τ).loc Cert.Hgb1Ideal.main_arg0) = m ((c.tc : Thread Cert.Hgb1Ideal.nD Cert.Hgb1Ideal.τ).loc Cert.Hgb1Ideal.main_arg0)
      ∧ r.2.mem ((c.tc : Thread Cert.Hgb1Ideal.nD Cert.Hgb1Ideal.τ).loc Cert.Hgb1Ideal.main_arg1) = m ((c.tc : Thread Cert.Hgb1Ideal.nD Cert.Hgb1Ideal.τ).loc Cert.Hgb1Ideal.main_arg1)
      ∧ r.2.mem ((c.tc : Thread Cert.Hgb1Ideal.nD Cert.Hgb1Ideal.τ).loc Cert.Hgb1Ideal.main_arg2) = m ((c.tc : Thread Cert.Hgb1Ideal.nD Cert.Hgb1Ideal.τ).loc Cert.Hgb1Ideal.main_arg2)
      ∧ r.2.mem ((c.tc : Thread Cert.Hgb1Ideal.nD Cert.Hgb1Ideal.τ).loc Cert.Hgb1Ideal.main_arg3) = m ((c.tc : Thread Cert.Hgb1Ideal.nD Cert.Hgb1Ideal.τ).loc Cert.Hgb1Ideal.main_arg3)
      ∧ r.2.mem ((c.tc : Thread Cert.Hgb1Ideal.nD Cert.Hgb1Ideal.τ).loc Cert.Hgb1Ideal.main_arg4) = m ((c.tc : Thread Cert.Hgb1Ideal.nD Cert.Hgb1Ideal.τ).loc Cert.Hgb1Ideal.main_arg4))
      ∧ r.2.sem = fun _ => 0)

def quiescent_MresK [hMresK : Cert.MresK.Facts] : Prop :=
  ∀ (m : (ℓ : Loc Cert.MresK.nD Cert.MresK.τ Cert.MresK.sig) → Buf (Elt Bits) ℓ) (g : Dev Cert.MresK.nD → PrngReg), Pre_MresK m →
    θ_run (Cert.MresK.defs (F := Bits)) (onTc (τ := Cert.MresK.τ) (Cert.MresK.main (F := Bits))) ⟨m, fun _ => 0, g⟩ (fun r => (∀ c : Dev Cert.MresK.nD,
      r.2.mem ((c.tc : Thread Cert.MresK.nD Cert.MresK.τ).loc Cert.MresK.main_arg0) = m ((c.tc : Thread Cert.MresK.nD Cert.MresK.τ).loc Cert.MresK.main_arg0)
      ∧ r.2.mem ((c.tc : Thread Cert.MresK.nD Cert.MresK.τ).loc Cert.MresK.main_arg1) = m ((c.tc : Thread Cert.MresK.nD Cert.MresK.τ).loc Cert.MresK.main_arg1)
      ∧ r.2.mem ((c.tc : Thread Cert.MresK.nD Cert.MresK.τ).loc Cert.MresK.main_arg2) = m ((c.tc : Thread Cert.MresK.nD Cert.MresK.τ).loc Cert.MresK.main_arg2))
      ∧ r.2.sem = fun _ => 0)

def quiescent_MresKIdeal [hMresKIdeal : Cert.MresKIdeal.Facts] : Prop :=
  ∀ (m : (ℓ : Loc Cert.MresKIdeal.nD Cert.MresKIdeal.τ Cert.MresKIdeal.sig) → Buf (Elt Ideal) ℓ) (g : Dev Cert.MresKIdeal.nD → PrngReg), Pre_MresKIdeal m →
    θ_run (Cert.MresKIdeal.defs (F := Ideal)) (onTc (τ := Cert.MresKIdeal.τ) (Cert.MresKIdeal.main (F := Ideal))) ⟨m, fun _ => 0, g⟩ (fun r => (∀ c : Dev Cert.MresKIdeal.nD,
      r.2.mem ((c.tc : Thread Cert.MresKIdeal.nD Cert.MresKIdeal.τ).loc Cert.MresKIdeal.main_arg0) = m ((c.tc : Thread Cert.MresKIdeal.nD Cert.MresKIdeal.τ).loc Cert.MresKIdeal.main_arg0)
      ∧ r.2.mem ((c.tc : Thread Cert.MresKIdeal.nD Cert.MresKIdeal.τ).loc Cert.MresKIdeal.main_arg1) = m ((c.tc : Thread Cert.MresKIdeal.nD Cert.MresKIdeal.τ).loc Cert.MresKIdeal.main_arg1)
      ∧ r.2.mem ((c.tc : Thread Cert.MresKIdeal.nD Cert.MresKIdeal.τ).loc Cert.MresKIdeal.main_arg2) = m ((c.tc : Thread Cert.MresKIdeal.nD Cert.MresKIdeal.τ).loc Cert.MresKIdeal.main_arg2))
      ∧ r.2.sem = fun _ => 0)

def quiescent_MresRIdeal [hMresRIdeal : Cert.MresRIdeal.Facts] : Prop :=
  ∀ (m : (ℓ : Loc Cert.MresRIdeal.nD Cert.MresRIdeal.τ Cert.MresRIdeal.sig) → Buf (Elt Ideal) ℓ) (g : Dev Cert.MresRIdeal.nD → PrngReg), Pre_MresRIdeal m →
    θ_run (Cert.MresRIdeal.defs (F := Ideal)) (onTc (τ := Cert.MresRIdeal.τ) (Cert.MresRIdeal.main (F := Ideal))) ⟨m, fun _ => 0, g⟩ (fun r => (∀ c : Dev Cert.MresRIdeal.nD,
      r.2.mem ((c.tc : Thread Cert.MresRIdeal.nD Cert.MresRIdeal.τ).loc Cert.MresRIdeal.main_arg0) = m ((c.tc : Thread Cert.MresRIdeal.nD Cert.MresRIdeal.τ).loc Cert.MresRIdeal.main_arg0)
      ∧ r.2.mem ((c.tc : Thread Cert.MresRIdeal.nD Cert.MresRIdeal.τ).loc Cert.MresRIdeal.main_arg1) = m ((c.tc : Thread Cert.MresRIdeal.nD Cert.MresRIdeal.τ).loc Cert.MresRIdeal.main_arg1)
      ∧ r.2.mem ((c.tc : Thread Cert.MresRIdeal.nD Cert.MresRIdeal.τ).loc Cert.MresRIdeal.main_arg2) = m ((c.tc : Thread Cert.MresRIdeal.nD Cert.MresRIdeal.τ).loc Cert.MresRIdeal.main_arg2))
      ∧ r.2.sem = fun _ => 0)

def quiescent_WgrK [hWgrK : Cert.WgrK.Facts] : Prop :=
  ∀ (m : (ℓ : Loc Cert.WgrK.nD Cert.WgrK.τ Cert.WgrK.sig) → Buf (Elt Bits) ℓ) (g : Dev Cert.WgrK.nD → PrngReg), Pre_WgrK m →
    θ_run (Cert.WgrK.defs (F := Bits)) (onTc (τ := Cert.WgrK.τ) (Cert.WgrK.main (F := Bits))) ⟨m, fun _ => 0, g⟩ (fun r => (∀ c : Dev Cert.WgrK.nD,
      r.2.mem ((c.tc : Thread Cert.WgrK.nD Cert.WgrK.τ).loc Cert.WgrK.main_arg0) = m ((c.tc : Thread Cert.WgrK.nD Cert.WgrK.τ).loc Cert.WgrK.main_arg0)
      ∧ r.2.mem ((c.tc : Thread Cert.WgrK.nD Cert.WgrK.τ).loc Cert.WgrK.main_arg1) = m ((c.tc : Thread Cert.WgrK.nD Cert.WgrK.τ).loc Cert.WgrK.main_arg1))
      ∧ r.2.sem = fun _ => 0)

def quiescent_WgrKIdeal [hWgrKIdeal : Cert.WgrKIdeal.Facts] : Prop :=
  ∀ (m : (ℓ : Loc Cert.WgrKIdeal.nD Cert.WgrKIdeal.τ Cert.WgrKIdeal.sig) → Buf (Elt Ideal) ℓ) (g : Dev Cert.WgrKIdeal.nD → PrngReg), Pre_WgrKIdeal m →
    θ_run (Cert.WgrKIdeal.defs (F := Ideal)) (onTc (τ := Cert.WgrKIdeal.τ) (Cert.WgrKIdeal.main (F := Ideal))) ⟨m, fun _ => 0, g⟩ (fun r => (∀ c : Dev Cert.WgrKIdeal.nD,
      r.2.mem ((c.tc : Thread Cert.WgrKIdeal.nD Cert.WgrKIdeal.τ).loc Cert.WgrKIdeal.main_arg0) = m ((c.tc : Thread Cert.WgrKIdeal.nD Cert.WgrKIdeal.τ).loc Cert.WgrKIdeal.main_arg0)
      ∧ r.2.mem ((c.tc : Thread Cert.WgrKIdeal.nD Cert.WgrKIdeal.τ).loc Cert.WgrKIdeal.main_arg1) = m ((c.tc : Thread Cert.WgrKIdeal.nD Cert.WgrKIdeal.τ).loc Cert.WgrKIdeal.main_arg1))
      ∧ r.2.sem = fun _ => 0)

def quiescent_WgrRIdeal [hWgrRIdeal : Cert.WgrRIdeal.Facts] : Prop :=
  ∀ (m : (ℓ : Loc Cert.WgrRIdeal.nD Cert.WgrRIdeal.τ Cert.WgrRIdeal.sig) → Buf (Elt Ideal) ℓ) (g : Dev Cert.WgrRIdeal.nD → PrngReg), Pre_WgrRIdeal m →
    θ_run (Cert.WgrRIdeal.defs (F := Ideal)) (onTc (τ := Cert.WgrRIdeal.τ) (Cert.WgrRIdeal.main (F := Ideal))) ⟨m, fun _ => 0, g⟩ (fun r => (∀ c : Dev Cert.WgrRIdeal.nD,
      r.2.mem ((c.tc : Thread Cert.WgrRIdeal.nD Cert.WgrRIdeal.τ).loc Cert.WgrRIdeal.main_arg0) = m ((c.tc : Thread Cert.WgrRIdeal.nD Cert.WgrRIdeal.τ).loc Cert.WgrRIdeal.main_arg0)
      ∧ r.2.mem ((c.tc : Thread Cert.WgrRIdeal.nD Cert.WgrRIdeal.τ).loc Cert.WgrRIdeal.main_arg1) = m ((c.tc : Thread Cert.WgrRIdeal.nD Cert.WgrRIdeal.τ).loc Cert.WgrRIdeal.main_arg1))
      ∧ r.2.sem = fun _ => 0)

def quiescent_AdwK [hAdwK : Cert.AdwK.Facts] : Prop :=
  ∀ (m : (ℓ : Loc Cert.AdwK.nD Cert.AdwK.τ Cert.AdwK.sig) → Buf (Elt Bits) ℓ) (g : Dev Cert.AdwK.nD → PrngReg), Pre_AdwK m →
    θ_run (Cert.AdwK.defs (F := Bits)) (onTc (τ := Cert.AdwK.τ) (Cert.AdwK.main (F := Bits))) ⟨m, fun _ => 0, g⟩ (fun r => (∀ c : Dev Cert.AdwK.nD,
      r.2.mem ((c.tc : Thread Cert.AdwK.nD Cert.AdwK.τ).loc Cert.AdwK.main_arg0) = m ((c.tc : Thread Cert.AdwK.nD Cert.AdwK.τ).loc Cert.AdwK.main_arg0)
      ∧ r.2.mem ((c.tc : Thread Cert.AdwK.nD Cert.AdwK.τ).loc Cert.AdwK.main_arg1) = m ((c.tc : Thread Cert.AdwK.nD Cert.AdwK.τ).loc Cert.AdwK.main_arg1)
      ∧ r.2.mem ((c.tc : Thread Cert.AdwK.nD Cert.AdwK.τ).loc Cert.AdwK.main_arg2) = m ((c.tc : Thread Cert.AdwK.nD Cert.AdwK.τ).loc Cert.AdwK.main_arg2)
      ∧ r.2.mem ((c.tc : Thread Cert.AdwK.nD Cert.AdwK.τ).loc Cert.AdwK.main_arg3) = m ((c.tc : Thread Cert.AdwK.nD Cert.AdwK.τ).loc Cert.AdwK.main_arg3)
      ∧ r.2.mem ((c.tc : Thread Cert.AdwK.nD Cert.AdwK.τ).loc Cert.AdwK.main_arg4) = m ((c.tc : Thread Cert.AdwK.nD Cert.AdwK.τ).loc Cert.AdwK.main_arg4))
      ∧ r.2.sem = fun _ => 0)

def quiescent_AdwKIdeal [hAdwKIdeal : Cert.AdwKIdeal.Facts] : Prop :=
  ∀ (m : (ℓ : Loc Cert.AdwKIdeal.nD Cert.AdwKIdeal.τ Cert.AdwKIdeal.sig) → Buf (Elt Ideal) ℓ) (g : Dev Cert.AdwKIdeal.nD → PrngReg), Pre_AdwKIdeal m →
    θ_run (Cert.AdwKIdeal.defs (F := Ideal)) (onTc (τ := Cert.AdwKIdeal.τ) (Cert.AdwKIdeal.main (F := Ideal))) ⟨m, fun _ => 0, g⟩ (fun r => (∀ c : Dev Cert.AdwKIdeal.nD,
      r.2.mem ((c.tc : Thread Cert.AdwKIdeal.nD Cert.AdwKIdeal.τ).loc Cert.AdwKIdeal.main_arg0) = m ((c.tc : Thread Cert.AdwKIdeal.nD Cert.AdwKIdeal.τ).loc Cert.AdwKIdeal.main_arg0)
      ∧ r.2.mem ((c.tc : Thread Cert.AdwKIdeal.nD Cert.AdwKIdeal.τ).loc Cert.AdwKIdeal.main_arg1) = m ((c.tc : Thread Cert.AdwKIdeal.nD Cert.AdwKIdeal.τ).loc Cert.AdwKIdeal.main_arg1)
      ∧ r.2.mem ((c.tc : Thread Cert.AdwKIdeal.nD Cert.AdwKIdeal.τ).loc Cert.AdwKIdeal.main_arg2) = m ((c.tc : Thread Cert.AdwKIdeal.nD Cert.AdwKIdeal.τ).loc Cert.AdwKIdeal.main_arg2)
      ∧ r.2.mem ((c.tc : Thread Cert.AdwKIdeal.nD Cert.AdwKIdeal.τ).loc Cert.AdwKIdeal.main_arg3) = m ((c.tc : Thread Cert.AdwKIdeal.nD Cert.AdwKIdeal.τ).loc Cert.AdwKIdeal.main_arg3)
      ∧ r.2.mem ((c.tc : Thread Cert.AdwKIdeal.nD Cert.AdwKIdeal.τ).loc Cert.AdwKIdeal.main_arg4) = m ((c.tc : Thread Cert.AdwKIdeal.nD Cert.AdwKIdeal.τ).loc Cert.AdwKIdeal.main_arg4))
      ∧ r.2.sem = fun _ => 0)

def quiescent_AdwRIdeal [hAdwRIdeal : Cert.AdwRIdeal.Facts] : Prop :=
  ∀ (m : (ℓ : Loc Cert.AdwRIdeal.nD Cert.AdwRIdeal.τ Cert.AdwRIdeal.sig) → Buf (Elt Ideal) ℓ) (g : Dev Cert.AdwRIdeal.nD → PrngReg), Pre_AdwRIdeal m →
    θ_run (Cert.AdwRIdeal.defs (F := Ideal)) (onTc (τ := Cert.AdwRIdeal.τ) (Cert.AdwRIdeal.main (F := Ideal))) ⟨m, fun _ => 0, g⟩ (fun r => (∀ c : Dev Cert.AdwRIdeal.nD,
      r.2.mem ((c.tc : Thread Cert.AdwRIdeal.nD Cert.AdwRIdeal.τ).loc Cert.AdwRIdeal.main_arg0) = m ((c.tc : Thread Cert.AdwRIdeal.nD Cert.AdwRIdeal.τ).loc Cert.AdwRIdeal.main_arg0)
      ∧ r.2.mem ((c.tc : Thread Cert.AdwRIdeal.nD Cert.AdwRIdeal.τ).loc Cert.AdwRIdeal.main_arg1) = m ((c.tc : Thread Cert.AdwRIdeal.nD Cert.AdwRIdeal.τ).loc Cert.AdwRIdeal.main_arg1)
      ∧ r.2.mem ((c.tc : Thread Cert.AdwRIdeal.nD Cert.AdwRIdeal.τ).loc Cert.AdwRIdeal.main_arg2) = m ((c.tc : Thread Cert.AdwRIdeal.nD Cert.AdwRIdeal.τ).loc Cert.AdwRIdeal.main_arg2)
      ∧ r.2.mem ((c.tc : Thread Cert.AdwRIdeal.nD Cert.AdwRIdeal.τ).loc Cert.AdwRIdeal.main_arg3) = m ((c.tc : Thread Cert.AdwRIdeal.nD Cert.AdwRIdeal.τ).loc Cert.AdwRIdeal.main_arg3)
      ∧ r.2.mem ((c.tc : Thread Cert.AdwRIdeal.nD Cert.AdwRIdeal.τ).loc Cert.AdwRIdeal.main_arg4) = m ((c.tc : Thread Cert.AdwRIdeal.nD Cert.AdwRIdeal.τ).loc Cert.AdwRIdeal.main_arg4))
      ∧ r.2.sem = fun _ => 0)

def quiescent_AdlK [hAdlK : Cert.AdlK.Facts] : Prop :=
  ∀ (m : (ℓ : Loc Cert.AdlK.nD Cert.AdlK.τ Cert.AdlK.sig) → Buf (Elt Bits) ℓ) (g : Dev Cert.AdlK.nD → PrngReg), Pre_AdlK m →
    θ_run (Cert.AdlK.defs (F := Bits)) (onTc (τ := Cert.AdlK.τ) (Cert.AdlK.main (F := Bits))) ⟨m, fun _ => 0, g⟩ (fun r => (∀ c : Dev Cert.AdlK.nD,
      r.2.mem ((c.tc : Thread Cert.AdlK.nD Cert.AdlK.τ).loc Cert.AdlK.main_arg0) = m ((c.tc : Thread Cert.AdlK.nD Cert.AdlK.τ).loc Cert.AdlK.main_arg0)
      ∧ r.2.mem ((c.tc : Thread Cert.AdlK.nD Cert.AdlK.τ).loc Cert.AdlK.main_arg1) = m ((c.tc : Thread Cert.AdlK.nD Cert.AdlK.τ).loc Cert.AdlK.main_arg1)
      ∧ r.2.mem ((c.tc : Thread Cert.AdlK.nD Cert.AdlK.τ).loc Cert.AdlK.main_arg2) = m ((c.tc : Thread Cert.AdlK.nD Cert.AdlK.τ).loc Cert.AdlK.main_arg2)
      ∧ r.2.mem ((c.tc : Thread Cert.AdlK.nD Cert.AdlK.τ).loc Cert.AdlK.main_arg3) = m ((c.tc : Thread Cert.AdlK.nD Cert.AdlK.τ).loc Cert.AdlK.main_arg3)
      ∧ r.2.mem ((c.tc : Thread Cert.AdlK.nD Cert.AdlK.τ).loc Cert.AdlK.main_arg4) = m ((c.tc : Thread Cert.AdlK.nD Cert.AdlK.τ).loc Cert.AdlK.main_arg4)
      ∧ r.2.mem ((c.tc : Thread Cert.AdlK.nD Cert.AdlK.τ).loc Cert.AdlK.main_arg5) = m ((c.tc : Thread Cert.AdlK.nD Cert.AdlK.τ).loc Cert.AdlK.main_arg5)
      ∧ r.2.mem ((c.tc : Thread Cert.AdlK.nD Cert.AdlK.τ).loc Cert.AdlK.main_arg6) = m ((c.tc : Thread Cert.AdlK.nD Cert.AdlK.τ).loc Cert.AdlK.main_arg6))
      ∧ r.2.sem = fun _ => 0)

def quiescent_AdlKIdeal [hAdlKIdeal : Cert.AdlKIdeal.Facts] : Prop :=
  ∀ (m : (ℓ : Loc Cert.AdlKIdeal.nD Cert.AdlKIdeal.τ Cert.AdlKIdeal.sig) → Buf (Elt Ideal) ℓ) (g : Dev Cert.AdlKIdeal.nD → PrngReg), Pre_AdlKIdeal m →
    θ_run (Cert.AdlKIdeal.defs (F := Ideal)) (onTc (τ := Cert.AdlKIdeal.τ) (Cert.AdlKIdeal.main (F := Ideal))) ⟨m, fun _ => 0, g⟩ (fun r => (∀ c : Dev Cert.AdlKIdeal.nD,
      r.2.mem ((c.tc : Thread Cert.AdlKIdeal.nD Cert.AdlKIdeal.τ).loc Cert.AdlKIdeal.main_arg0) = m ((c.tc : Thread Cert.AdlKIdeal.nD Cert.AdlKIdeal.τ).loc Cert.AdlKIdeal.main_arg0)
      ∧ r.2.mem ((c.tc : Thread Cert.AdlKIdeal.nD Cert.AdlKIdeal.τ).loc Cert.AdlKIdeal.main_arg1) = m ((c.tc : Thread Cert.AdlKIdeal.nD Cert.AdlKIdeal.τ).loc Cert.AdlKIdeal.main_arg1)
      ∧ r.2.mem ((c.tc : Thread Cert.AdlKIdeal.nD Cert.AdlKIdeal.τ).loc Cert.AdlKIdeal.main_arg2) = m ((c.tc : Thread Cert.AdlKIdeal.nD Cert.AdlKIdeal.τ).loc Cert.AdlKIdeal.main_arg2)
      ∧ r.2.mem ((c.tc : Thread Cert.AdlKIdeal.nD Cert.AdlKIdeal.τ).loc Cert.AdlKIdeal.main_arg3) = m ((c.tc : Thread Cert.AdlKIdeal.nD Cert.AdlKIdeal.τ).loc Cert.AdlKIdeal.main_arg3)
      ∧ r.2.mem ((c.tc : Thread Cert.AdlKIdeal.nD Cert.AdlKIdeal.τ).loc Cert.AdlKIdeal.main_arg4) = m ((c.tc : Thread Cert.AdlKIdeal.nD Cert.AdlKIdeal.τ).loc Cert.AdlKIdeal.main_arg4)
      ∧ r.2.mem ((c.tc : Thread Cert.AdlKIdeal.nD Cert.AdlKIdeal.τ).loc Cert.AdlKIdeal.main_arg5) = m ((c.tc : Thread Cert.AdlKIdeal.nD Cert.AdlKIdeal.τ).loc Cert.AdlKIdeal.main_arg5)
      ∧ r.2.mem ((c.tc : Thread Cert.AdlKIdeal.nD Cert.AdlKIdeal.τ).loc Cert.AdlKIdeal.main_arg6) = m ((c.tc : Thread Cert.AdlKIdeal.nD Cert.AdlKIdeal.τ).loc Cert.AdlKIdeal.main_arg6))
      ∧ r.2.sem = fun _ => 0)

def quiescent_AdlRIdeal [hAdlRIdeal : Cert.AdlRIdeal.Facts] : Prop :=
  ∀ (m : (ℓ : Loc Cert.AdlRIdeal.nD Cert.AdlRIdeal.τ Cert.AdlRIdeal.sig) → Buf (Elt Ideal) ℓ) (g : Dev Cert.AdlRIdeal.nD → PrngReg), Pre_AdlRIdeal m →
    θ_run (Cert.AdlRIdeal.defs (F := Ideal)) (onTc (τ := Cert.AdlRIdeal.τ) (Cert.AdlRIdeal.main (F := Ideal))) ⟨m, fun _ => 0, g⟩ (fun r => (∀ c : Dev Cert.AdlRIdeal.nD,
      r.2.mem ((c.tc : Thread Cert.AdlRIdeal.nD Cert.AdlRIdeal.τ).loc Cert.AdlRIdeal.main_arg0) = m ((c.tc : Thread Cert.AdlRIdeal.nD Cert.AdlRIdeal.τ).loc Cert.AdlRIdeal.main_arg0)
      ∧ r.2.mem ((c.tc : Thread Cert.AdlRIdeal.nD Cert.AdlRIdeal.τ).loc Cert.AdlRIdeal.main_arg1) = m ((c.tc : Thread Cert.AdlRIdeal.nD Cert.AdlRIdeal.τ).loc Cert.AdlRIdeal.main_arg1)
      ∧ r.2.mem ((c.tc : Thread Cert.AdlRIdeal.nD Cert.AdlRIdeal.τ).loc Cert.AdlRIdeal.main_arg2) = m ((c.tc : Thread Cert.AdlRIdeal.nD Cert.AdlRIdeal.τ).loc Cert.AdlRIdeal.main_arg2)
      ∧ r.2.mem ((c.tc : Thread Cert.AdlRIdeal.nD Cert.AdlRIdeal.τ).loc Cert.AdlRIdeal.main_arg3) = m ((c.tc : Thread Cert.AdlRIdeal.nD Cert.AdlRIdeal.τ).loc Cert.AdlRIdeal.main_arg3)
      ∧ r.2.mem ((c.tc : Thread Cert.AdlRIdeal.nD Cert.AdlRIdeal.τ).loc Cert.AdlRIdeal.main_arg4) = m ((c.tc : Thread Cert.AdlRIdeal.nD Cert.AdlRIdeal.τ).loc Cert.AdlRIdeal.main_arg4)
      ∧ r.2.mem ((c.tc : Thread Cert.AdlRIdeal.nD Cert.AdlRIdeal.τ).loc Cert.AdlRIdeal.main_arg5) = m ((c.tc : Thread Cert.AdlRIdeal.nD Cert.AdlRIdeal.τ).loc Cert.AdlRIdeal.main_arg5)
      ∧ r.2.mem ((c.tc : Thread Cert.AdlRIdeal.nD Cert.AdlRIdeal.τ).loc Cert.AdlRIdeal.main_arg6) = m ((c.tc : Thread Cert.AdlRIdeal.nD Cert.AdlRIdeal.τ).loc Cert.AdlRIdeal.main_arg6))
      ∧ r.2.sem = fun _ => 0)

def quiescent_AdhK [hAdhK : Cert.AdhK.Facts] : Prop :=
  ∀ (m : (ℓ : Loc Cert.AdhK.nD Cert.AdhK.τ Cert.AdhK.sig) → Buf (Elt Bits) ℓ) (g : Dev Cert.AdhK.nD → PrngReg), Pre_AdhK m →
    θ_run (Cert.AdhK.defs (F := Bits)) (onTc (τ := Cert.AdhK.τ) (Cert.AdhK.main (F := Bits))) ⟨m, fun _ => 0, g⟩ (fun r => (∀ c : Dev Cert.AdhK.nD,
      r.2.mem ((c.tc : Thread Cert.AdhK.nD Cert.AdhK.τ).loc Cert.AdhK.main_arg0) = m ((c.tc : Thread Cert.AdhK.nD Cert.AdhK.τ).loc Cert.AdhK.main_arg0)
      ∧ r.2.mem ((c.tc : Thread Cert.AdhK.nD Cert.AdhK.τ).loc Cert.AdhK.main_arg1) = m ((c.tc : Thread Cert.AdhK.nD Cert.AdhK.τ).loc Cert.AdhK.main_arg1)
      ∧ r.2.mem ((c.tc : Thread Cert.AdhK.nD Cert.AdhK.τ).loc Cert.AdhK.main_arg2) = m ((c.tc : Thread Cert.AdhK.nD Cert.AdhK.τ).loc Cert.AdhK.main_arg2)
      ∧ r.2.mem ((c.tc : Thread Cert.AdhK.nD Cert.AdhK.τ).loc Cert.AdhK.main_arg3) = m ((c.tc : Thread Cert.AdhK.nD Cert.AdhK.τ).loc Cert.AdhK.main_arg3))
      ∧ r.2.sem = fun _ => 0)

def quiescent_AdhKIdeal [hAdhKIdeal : Cert.AdhKIdeal.Facts] : Prop :=
  ∀ (m : (ℓ : Loc Cert.AdhKIdeal.nD Cert.AdhKIdeal.τ Cert.AdhKIdeal.sig) → Buf (Elt Ideal) ℓ) (g : Dev Cert.AdhKIdeal.nD → PrngReg), Pre_AdhKIdeal m →
    θ_run (Cert.AdhKIdeal.defs (F := Ideal)) (onTc (τ := Cert.AdhKIdeal.τ) (Cert.AdhKIdeal.main (F := Ideal))) ⟨m, fun _ => 0, g⟩ (fun r => (∀ c : Dev Cert.AdhKIdeal.nD,
      r.2.mem ((c.tc : Thread Cert.AdhKIdeal.nD Cert.AdhKIdeal.τ).loc Cert.AdhKIdeal.main_arg0) = m ((c.tc : Thread Cert.AdhKIdeal.nD Cert.AdhKIdeal.τ).loc Cert.AdhKIdeal.main_arg0)
      ∧ r.2.mem ((c.tc : Thread Cert.AdhKIdeal.nD Cert.AdhKIdeal.τ).loc Cert.AdhKIdeal.main_arg1) = m ((c.tc : Thread Cert.AdhKIdeal.nD Cert.AdhKIdeal.τ).loc Cert.AdhKIdeal.main_arg1)
      ∧ r.2.mem ((c.tc : Thread Cert.AdhKIdeal.nD Cert.AdhKIdeal.τ).loc Cert.AdhKIdeal.main_arg2) = m ((c.tc : Thread Cert.AdhKIdeal.nD Cert.AdhKIdeal.τ).loc Cert.AdhKIdeal.main_arg2)
      ∧ r.2.mem ((c.tc : Thread Cert.AdhKIdeal.nD Cert.AdhKIdeal.τ).loc Cert.AdhKIdeal.main_arg3) = m ((c.tc : Thread Cert.AdhKIdeal.nD Cert.AdhKIdeal.τ).loc Cert.AdhKIdeal.main_arg3))
      ∧ r.2.sem = fun _ => 0)

def quiescent_AdhRIdeal [hAdhRIdeal : Cert.AdhRIdeal.Facts] : Prop :=
  ∀ (m : (ℓ : Loc Cert.AdhRIdeal.nD Cert.AdhRIdeal.τ Cert.AdhRIdeal.sig) → Buf (Elt Ideal) ℓ) (g : Dev Cert.AdhRIdeal.nD → PrngReg), Pre_AdhRIdeal m →
    θ_run (Cert.AdhRIdeal.defs (F := Ideal)) (onTc (τ := Cert.AdhRIdeal.τ) (Cert.AdhRIdeal.main (F := Ideal))) ⟨m, fun _ => 0, g⟩ (fun r => (∀ c : Dev Cert.AdhRIdeal.nD,
      r.2.mem ((c.tc : Thread Cert.AdhRIdeal.nD Cert.AdhRIdeal.τ).loc Cert.AdhRIdeal.main_arg0) = m ((c.tc : Thread Cert.AdhRIdeal.nD Cert.AdhRIdeal.τ).loc Cert.AdhRIdeal.main_arg0)
      ∧ r.2.mem ((c.tc : Thread Cert.AdhRIdeal.nD Cert.AdhRIdeal.τ).loc Cert.AdhRIdeal.main_arg1) = m ((c.tc : Thread Cert.AdhRIdeal.nD Cert.AdhRIdeal.τ).loc Cert.AdhRIdeal.main_arg1)
      ∧ r.2.mem ((c.tc : Thread Cert.AdhRIdeal.nD Cert.AdhRIdeal.τ).loc Cert.AdhRIdeal.main_arg2) = m ((c.tc : Thread Cert.AdhRIdeal.nD Cert.AdhRIdeal.τ).loc Cert.AdhRIdeal.main_arg2)
      ∧ r.2.mem ((c.tc : Thread Cert.AdhRIdeal.nD Cert.AdhRIdeal.τ).loc Cert.AdhRIdeal.main_arg3) = m ((c.tc : Thread Cert.AdhRIdeal.nD Cert.AdhRIdeal.τ).loc Cert.AdhRIdeal.main_arg3))
      ∧ r.2.sem = fun _ => 0)

def quiescent_SumsK [hSumsK : Cert.SumsK.Facts] : Prop :=
  ∀ (m : (ℓ : Loc Cert.SumsK.nD Cert.SumsK.τ Cert.SumsK.sig) → Buf (Elt Bits) ℓ) (g : Dev Cert.SumsK.nD → PrngReg), Pre_SumsK m →
    θ_run (Cert.SumsK.defs (F := Bits)) (onTc (τ := Cert.SumsK.τ) (Cert.SumsK.main (F := Bits))) ⟨m, fun _ => 0, g⟩ (fun r => (∀ c : Dev Cert.SumsK.nD,
      r.2.mem ((c.tc : Thread Cert.SumsK.nD Cert.SumsK.τ).loc Cert.SumsK.main_arg0) = m ((c.tc : Thread Cert.SumsK.nD Cert.SumsK.τ).loc Cert.SumsK.main_arg0))
      ∧ r.2.sem = fun _ => 0)

def quiescent_SumsKIdeal [hSumsKIdeal : Cert.SumsKIdeal.Facts] : Prop :=
  ∀ (m : (ℓ : Loc Cert.SumsKIdeal.nD Cert.SumsKIdeal.τ Cert.SumsKIdeal.sig) → Buf (Elt Ideal) ℓ) (g : Dev Cert.SumsKIdeal.nD → PrngReg), Pre_SumsKIdeal m →
    θ_run (Cert.SumsKIdeal.defs (F := Ideal)) (onTc (τ := Cert.SumsKIdeal.τ) (Cert.SumsKIdeal.main (F := Ideal))) ⟨m, fun _ => 0, g⟩ (fun r => (∀ c : Dev Cert.SumsKIdeal.nD,
      r.2.mem ((c.tc : Thread Cert.SumsKIdeal.nD Cert.SumsKIdeal.τ).loc Cert.SumsKIdeal.main_arg0) = m ((c.tc : Thread Cert.SumsKIdeal.nD Cert.SumsKIdeal.τ).loc Cert.SumsKIdeal.main_arg0))
      ∧ r.2.sem = fun _ => 0)

def quiescent_SumsRIdeal [hSumsRIdeal : Cert.SumsRIdeal.Facts] : Prop :=
  ∀ (m : (ℓ : Loc Cert.SumsRIdeal.nD Cert.SumsRIdeal.τ Cert.SumsRIdeal.sig) → Buf (Elt Ideal) ℓ) (g : Dev Cert.SumsRIdeal.nD → PrngReg), Pre_SumsRIdeal m →
    θ_run (Cert.SumsRIdeal.defs (F := Ideal)) (onTc (τ := Cert.SumsRIdeal.τ) (Cert.SumsRIdeal.main (F := Ideal))) ⟨m, fun _ => 0, g⟩ (fun r => (∀ c : Dev Cert.SumsRIdeal.nD,
      r.2.mem ((c.tc : Thread Cert.SumsRIdeal.nD Cert.SumsRIdeal.τ).loc Cert.SumsRIdeal.main_arg0) = m ((c.tc : Thread Cert.SumsRIdeal.nD Cert.SumsRIdeal.τ).loc Cert.SumsRIdeal.main_arg0))
      ∧ r.2.sem = fun _ => 0)

def quiescent_As0K [hAs0K : Cert.As0K.Facts] : Prop :=
  ∀ (m : (ℓ : Loc Cert.As0K.nD Cert.As0K.τ Cert.As0K.sig) → Buf (Elt Bits) ℓ) (g : Dev Cert.As0K.nD → PrngReg), Pre_As0K m →
    θ_run (Cert.As0K.defs (F := Bits)) (onTc (τ := Cert.As0K.τ) (Cert.As0K.main (F := Bits))) ⟨m, fun _ => 0, g⟩ (fun r => (∀ c : Dev Cert.As0K.nD,
      r.2.mem ((c.tc : Thread Cert.As0K.nD Cert.As0K.τ).loc Cert.As0K.main_arg0) = m ((c.tc : Thread Cert.As0K.nD Cert.As0K.τ).loc Cert.As0K.main_arg0)
      ∧ r.2.mem ((c.tc : Thread Cert.As0K.nD Cert.As0K.τ).loc Cert.As0K.main_arg1) = m ((c.tc : Thread Cert.As0K.nD Cert.As0K.τ).loc Cert.As0K.main_arg1)
      ∧ r.2.mem ((c.tc : Thread Cert.As0K.nD Cert.As0K.τ).loc Cert.As0K.main_arg2) = m ((c.tc : Thread Cert.As0K.nD Cert.As0K.τ).loc Cert.As0K.main_arg2)
      ∧ r.2.mem ((c.tc : Thread Cert.As0K.nD Cert.As0K.τ).loc Cert.As0K.main_arg3) = m ((c.tc : Thread Cert.As0K.nD Cert.As0K.τ).loc Cert.As0K.main_arg3)
      ∧ r.2.mem ((c.tc : Thread Cert.As0K.nD Cert.As0K.τ).loc Cert.As0K.main_arg4) = m ((c.tc : Thread Cert.As0K.nD Cert.As0K.τ).loc Cert.As0K.main_arg4)
      ∧ r.2.mem ((c.tc : Thread Cert.As0K.nD Cert.As0K.τ).loc Cert.As0K.main_arg5) = m ((c.tc : Thread Cert.As0K.nD Cert.As0K.τ).loc Cert.As0K.main_arg5)
      ∧ r.2.mem ((c.tc : Thread Cert.As0K.nD Cert.As0K.τ).loc Cert.As0K.main_arg6) = m ((c.tc : Thread Cert.As0K.nD Cert.As0K.τ).loc Cert.As0K.main_arg6)
      ∧ r.2.mem ((c.tc : Thread Cert.As0K.nD Cert.As0K.τ).loc Cert.As0K.main_arg7) = m ((c.tc : Thread Cert.As0K.nD Cert.As0K.τ).loc Cert.As0K.main_arg7)
      ∧ r.2.mem ((c.tc : Thread Cert.As0K.nD Cert.As0K.τ).loc Cert.As0K.main_arg8) = m ((c.tc : Thread Cert.As0K.nD Cert.As0K.τ).loc Cert.As0K.main_arg8))
      ∧ r.2.sem = fun _ => 0)

def quiescent_As0KIdeal [hAs0KIdeal : Cert.As0KIdeal.Facts] : Prop :=
  ∀ (m : (ℓ : Loc Cert.As0KIdeal.nD Cert.As0KIdeal.τ Cert.As0KIdeal.sig) → Buf (Elt Ideal) ℓ) (g : Dev Cert.As0KIdeal.nD → PrngReg), Pre_As0KIdeal m →
    θ_run (Cert.As0KIdeal.defs (F := Ideal)) (onTc (τ := Cert.As0KIdeal.τ) (Cert.As0KIdeal.main (F := Ideal))) ⟨m, fun _ => 0, g⟩ (fun r => (∀ c : Dev Cert.As0KIdeal.nD,
      r.2.mem ((c.tc : Thread Cert.As0KIdeal.nD Cert.As0KIdeal.τ).loc Cert.As0KIdeal.main_arg0) = m ((c.tc : Thread Cert.As0KIdeal.nD Cert.As0KIdeal.τ).loc Cert.As0KIdeal.main_arg0)
      ∧ r.2.mem ((c.tc : Thread Cert.As0KIdeal.nD Cert.As0KIdeal.τ).loc Cert.As0KIdeal.main_arg1) = m ((c.tc : Thread Cert.As0KIdeal.nD Cert.As0KIdeal.τ).loc Cert.As0KIdeal.main_arg1)
      ∧ r.2.mem ((c.tc : Thread Cert.As0KIdeal.nD Cert.As0KIdeal.τ).loc Cert.As0KIdeal.main_arg2) = m ((c.tc : Thread Cert.As0KIdeal.nD Cert.As0KIdeal.τ).loc Cert.As0KIdeal.main_arg2)
      ∧ r.2.mem ((c.tc : Thread Cert.As0KIdeal.nD Cert.As0KIdeal.τ).loc Cert.As0KIdeal.main_arg3) = m ((c.tc : Thread Cert.As0KIdeal.nD Cert.As0KIdeal.τ).loc Cert.As0KIdeal.main_arg3)
      ∧ r.2.mem ((c.tc : Thread Cert.As0KIdeal.nD Cert.As0KIdeal.τ).loc Cert.As0KIdeal.main_arg4) = m ((c.tc : Thread Cert.As0KIdeal.nD Cert.As0KIdeal.τ).loc Cert.As0KIdeal.main_arg4)
      ∧ r.2.mem ((c.tc : Thread Cert.As0KIdeal.nD Cert.As0KIdeal.τ).loc Cert.As0KIdeal.main_arg5) = m ((c.tc : Thread Cert.As0KIdeal.nD Cert.As0KIdeal.τ).loc Cert.As0KIdeal.main_arg5)
      ∧ r.2.mem ((c.tc : Thread Cert.As0KIdeal.nD Cert.As0KIdeal.τ).loc Cert.As0KIdeal.main_arg6) = m ((c.tc : Thread Cert.As0KIdeal.nD Cert.As0KIdeal.τ).loc Cert.As0KIdeal.main_arg6)
      ∧ r.2.mem ((c.tc : Thread Cert.As0KIdeal.nD Cert.As0KIdeal.τ).loc Cert.As0KIdeal.main_arg7) = m ((c.tc : Thread Cert.As0KIdeal.nD Cert.As0KIdeal.τ).loc Cert.As0KIdeal.main_arg7)
      ∧ r.2.mem ((c.tc : Thread Cert.As0KIdeal.nD Cert.As0KIdeal.τ).loc Cert.As0KIdeal.main_arg8) = m ((c.tc : Thread Cert.As0KIdeal.nD Cert.As0KIdeal.τ).loc Cert.As0KIdeal.main_arg8))
      ∧ r.2.sem = fun _ => 0)

def quiescent_As0RIdeal [hAs0RIdeal : Cert.As0RIdeal.Facts] : Prop :=
  ∀ (m : (ℓ : Loc Cert.As0RIdeal.nD Cert.As0RIdeal.τ Cert.As0RIdeal.sig) → Buf (Elt Ideal) ℓ) (g : Dev Cert.As0RIdeal.nD → PrngReg), Pre_As0RIdeal m →
    θ_run (Cert.As0RIdeal.defs (F := Ideal)) (onTc (τ := Cert.As0RIdeal.τ) (Cert.As0RIdeal.main (F := Ideal))) ⟨m, fun _ => 0, g⟩ (fun r => (∀ c : Dev Cert.As0RIdeal.nD,
      r.2.mem ((c.tc : Thread Cert.As0RIdeal.nD Cert.As0RIdeal.τ).loc Cert.As0RIdeal.main_arg0) = m ((c.tc : Thread Cert.As0RIdeal.nD Cert.As0RIdeal.τ).loc Cert.As0RIdeal.main_arg0)
      ∧ r.2.mem ((c.tc : Thread Cert.As0RIdeal.nD Cert.As0RIdeal.τ).loc Cert.As0RIdeal.main_arg1) = m ((c.tc : Thread Cert.As0RIdeal.nD Cert.As0RIdeal.τ).loc Cert.As0RIdeal.main_arg1)
      ∧ r.2.mem ((c.tc : Thread Cert.As0RIdeal.nD Cert.As0RIdeal.τ).loc Cert.As0RIdeal.main_arg2) = m ((c.tc : Thread Cert.As0RIdeal.nD Cert.As0RIdeal.τ).loc Cert.As0RIdeal.main_arg2)
      ∧ r.2.mem ((c.tc : Thread Cert.As0RIdeal.nD Cert.As0RIdeal.τ).loc Cert.As0RIdeal.main_arg3) = m ((c.tc : Thread Cert.As0RIdeal.nD Cert.As0RIdeal.τ).loc Cert.As0RIdeal.main_arg3)
      ∧ r.2.mem ((c.tc : Thread Cert.As0RIdeal.nD Cert.As0RIdeal.τ).loc Cert.As0RIdeal.main_arg4) = m ((c.tc : Thread Cert.As0RIdeal.nD Cert.As0RIdeal.τ).loc Cert.As0RIdeal.main_arg4)
      ∧ r.2.mem ((c.tc : Thread Cert.As0RIdeal.nD Cert.As0RIdeal.τ).loc Cert.As0RIdeal.main_arg5) = m ((c.tc : Thread Cert.As0RIdeal.nD Cert.As0RIdeal.τ).loc Cert.As0RIdeal.main_arg5)
      ∧ r.2.mem ((c.tc : Thread Cert.As0RIdeal.nD Cert.As0RIdeal.τ).loc Cert.As0RIdeal.main_arg6) = m ((c.tc : Thread Cert.As0RIdeal.nD Cert.As0RIdeal.τ).loc Cert.As0RIdeal.main_arg6)
      ∧ r.2.mem ((c.tc : Thread Cert.As0RIdeal.nD Cert.As0RIdeal.τ).loc Cert.As0RIdeal.main_arg7) = m ((c.tc : Thread Cert.As0RIdeal.nD Cert.As0RIdeal.τ).loc Cert.As0RIdeal.main_arg7)
      ∧ r.2.mem ((c.tc : Thread Cert.As0RIdeal.nD Cert.As0RIdeal.τ).loc Cert.As0RIdeal.main_arg8) = m ((c.tc : Thread Cert.As0RIdeal.nD Cert.As0RIdeal.τ).loc Cert.As0RIdeal.main_arg8))
      ∧ r.2.sem = fun _ => 0)

def quiescent_As1K [hAs1K : Cert.As1K.Facts] : Prop :=
  ∀ (m : (ℓ : Loc Cert.As1K.nD Cert.As1K.τ Cert.As1K.sig) → Buf (Elt Bits) ℓ) (g : Dev Cert.As1K.nD → PrngReg), Pre_As1K m →
    θ_run (Cert.As1K.defs (F := Bits)) (onTc (τ := Cert.As1K.τ) (Cert.As1K.main (F := Bits))) ⟨m, fun _ => 0, g⟩ (fun r => (∀ c : Dev Cert.As1K.nD,
      r.2.mem ((c.tc : Thread Cert.As1K.nD Cert.As1K.τ).loc Cert.As1K.main_arg0) = m ((c.tc : Thread Cert.As1K.nD Cert.As1K.τ).loc Cert.As1K.main_arg0)
      ∧ r.2.mem ((c.tc : Thread Cert.As1K.nD Cert.As1K.τ).loc Cert.As1K.main_arg1) = m ((c.tc : Thread Cert.As1K.nD Cert.As1K.τ).loc Cert.As1K.main_arg1)
      ∧ r.2.mem ((c.tc : Thread Cert.As1K.nD Cert.As1K.τ).loc Cert.As1K.main_arg2) = m ((c.tc : Thread Cert.As1K.nD Cert.As1K.τ).loc Cert.As1K.main_arg2)
      ∧ r.2.mem ((c.tc : Thread Cert.As1K.nD Cert.As1K.τ).loc Cert.As1K.main_arg3) = m ((c.tc : Thread Cert.As1K.nD Cert.As1K.τ).loc Cert.As1K.main_arg3)
      ∧ r.2.mem ((c.tc : Thread Cert.As1K.nD Cert.As1K.τ).loc Cert.As1K.main_arg4) = m ((c.tc : Thread Cert.As1K.nD Cert.As1K.τ).loc Cert.As1K.main_arg4)
      ∧ r.2.mem ((c.tc : Thread Cert.As1K.nD Cert.As1K.τ).loc Cert.As1K.main_arg5) = m ((c.tc : Thread Cert.As1K.nD Cert.As1K.τ).loc Cert.As1K.main_arg5)
      ∧ r.2.mem ((c.tc : Thread Cert.As1K.nD Cert.As1K.τ).loc Cert.As1K.main_arg6) = m ((c.tc : Thread Cert.As1K.nD Cert.As1K.τ).loc Cert.As1K.main_arg6)
      ∧ r.2.mem ((c.tc : Thread Cert.As1K.nD Cert.As1K.τ).loc Cert.As1K.main_arg7) = m ((c.tc : Thread Cert.As1K.nD Cert.As1K.τ).loc Cert.As1K.main_arg7))
      ∧ r.2.sem = fun _ => 0)

def quiescent_As1KIdeal [hAs1KIdeal : Cert.As1KIdeal.Facts] : Prop :=
  ∀ (m : (ℓ : Loc Cert.As1KIdeal.nD Cert.As1KIdeal.τ Cert.As1KIdeal.sig) → Buf (Elt Ideal) ℓ) (g : Dev Cert.As1KIdeal.nD → PrngReg), Pre_As1KIdeal m →
    θ_run (Cert.As1KIdeal.defs (F := Ideal)) (onTc (τ := Cert.As1KIdeal.τ) (Cert.As1KIdeal.main (F := Ideal))) ⟨m, fun _ => 0, g⟩ (fun r => (∀ c : Dev Cert.As1KIdeal.nD,
      r.2.mem ((c.tc : Thread Cert.As1KIdeal.nD Cert.As1KIdeal.τ).loc Cert.As1KIdeal.main_arg0) = m ((c.tc : Thread Cert.As1KIdeal.nD Cert.As1KIdeal.τ).loc Cert.As1KIdeal.main_arg0)
      ∧ r.2.mem ((c.tc : Thread Cert.As1KIdeal.nD Cert.As1KIdeal.τ).loc Cert.As1KIdeal.main_arg1) = m ((c.tc : Thread Cert.As1KIdeal.nD Cert.As1KIdeal.τ).loc Cert.As1KIdeal.main_arg1)
      ∧ r.2.mem ((c.tc : Thread Cert.As1KIdeal.nD Cert.As1KIdeal.τ).loc Cert.As1KIdeal.main_arg2) = m ((c.tc : Thread Cert.As1KIdeal.nD Cert.As1KIdeal.τ).loc Cert.As1KIdeal.main_arg2)
      ∧ r.2.mem ((c.tc : Thread Cert.As1KIdeal.nD Cert.As1KIdeal.τ).loc Cert.As1KIdeal.main_arg3) = m ((c.tc : Thread Cert.As1KIdeal.nD Cert.As1KIdeal.τ).loc Cert.As1KIdeal.main_arg3)
      ∧ r.2.mem ((c.tc : Thread Cert.As1KIdeal.nD Cert.As1KIdeal.τ).loc Cert.As1KIdeal.main_arg4) = m ((c.tc : Thread Cert.As1KIdeal.nD Cert.As1KIdeal.τ).loc Cert.As1KIdeal.main_arg4)
      ∧ r.2.mem ((c.tc : Thread Cert.As1KIdeal.nD Cert.As1KIdeal.τ).loc Cert.As1KIdeal.main_arg5) = m ((c.tc : Thread Cert.As1KIdeal.nD Cert.As1KIdeal.τ).loc Cert.As1KIdeal.main_arg5)
      ∧ r.2.mem ((c.tc : Thread Cert.As1KIdeal.nD Cert.As1KIdeal.τ).loc Cert.As1KIdeal.main_arg6) = m ((c.tc : Thread Cert.As1KIdeal.nD Cert.As1KIdeal.τ).loc Cert.As1KIdeal.main_arg6)
      ∧ r.2.mem ((c.tc : Thread Cert.As1KIdeal.nD Cert.As1KIdeal.τ).loc Cert.As1KIdeal.main_arg7) = m ((c.tc : Thread Cert.As1KIdeal.nD Cert.As1KIdeal.τ).loc Cert.As1KIdeal.main_arg7))
      ∧ r.2.sem = fun _ => 0)

def quiescent_As1RIdeal [hAs1RIdeal : Cert.As1RIdeal.Facts] : Prop :=
  ∀ (m : (ℓ : Loc Cert.As1RIdeal.nD Cert.As1RIdeal.τ Cert.As1RIdeal.sig) → Buf (Elt Ideal) ℓ) (g : Dev Cert.As1RIdeal.nD → PrngReg), Pre_As1RIdeal m →
    θ_run (Cert.As1RIdeal.defs (F := Ideal)) (onTc (τ := Cert.As1RIdeal.τ) (Cert.As1RIdeal.main (F := Ideal))) ⟨m, fun _ => 0, g⟩ (fun r => (∀ c : Dev Cert.As1RIdeal.nD,
      r.2.mem ((c.tc : Thread Cert.As1RIdeal.nD Cert.As1RIdeal.τ).loc Cert.As1RIdeal.main_arg0) = m ((c.tc : Thread Cert.As1RIdeal.nD Cert.As1RIdeal.τ).loc Cert.As1RIdeal.main_arg0)
      ∧ r.2.mem ((c.tc : Thread Cert.As1RIdeal.nD Cert.As1RIdeal.τ).loc Cert.As1RIdeal.main_arg1) = m ((c.tc : Thread Cert.As1RIdeal.nD Cert.As1RIdeal.τ).loc Cert.As1RIdeal.main_arg1)
      ∧ r.2.mem ((c.tc : Thread Cert.As1RIdeal.nD Cert.As1RIdeal.τ).loc Cert.As1RIdeal.main_arg2) = m ((c.tc : Thread Cert.As1RIdeal.nD Cert.As1RIdeal.τ).loc Cert.As1RIdeal.main_arg2)
      ∧ r.2.mem ((c.tc : Thread Cert.As1RIdeal.nD Cert.As1RIdeal.τ).loc Cert.As1RIdeal.main_arg3) = m ((c.tc : Thread Cert.As1RIdeal.nD Cert.As1RIdeal.τ).loc Cert.As1RIdeal.main_arg3)
      ∧ r.2.mem ((c.tc : Thread Cert.As1RIdeal.nD Cert.As1RIdeal.τ).loc Cert.As1RIdeal.main_arg4) = m ((c.tc : Thread Cert.As1RIdeal.nD Cert.As1RIdeal.τ).loc Cert.As1RIdeal.main_arg4)
      ∧ r.2.mem ((c.tc : Thread Cert.As1RIdeal.nD Cert.As1RIdeal.τ).loc Cert.As1RIdeal.main_arg5) = m ((c.tc : Thread Cert.As1RIdeal.nD Cert.As1RIdeal.τ).loc Cert.As1RIdeal.main_arg5)
      ∧ r.2.mem ((c.tc : Thread Cert.As1RIdeal.nD Cert.As1RIdeal.τ).loc Cert.As1RIdeal.main_arg6) = m ((c.tc : Thread Cert.As1RIdeal.nD Cert.As1RIdeal.τ).loc Cert.As1RIdeal.main_arg6)
      ∧ r.2.mem ((c.tc : Thread Cert.As1RIdeal.nD Cert.As1RIdeal.τ).loc Cert.As1RIdeal.main_arg7) = m ((c.tc : Thread Cert.As1RIdeal.nD Cert.As1RIdeal.τ).loc Cert.As1RIdeal.main_arg7))
      ∧ r.2.sem = fun _ => 0)

def preserves_LossK_LossKIdeal : Prop :=
  True

def algebraic_LossKIdeal_LossRIdeal_pre_finite_loss [hLossKIdeal : Cert.LossKIdeal.Facts] [hLossRIdeal : Cert.LossRIdeal.Facts] [hPre_finite_loss : Cert.Pre_finite_loss.Facts] : Prop :=
  ∀ (m : (ℓ : Loc Cert.LossKIdeal.nD Cert.LossKIdeal.τ Cert.LossKIdeal.sig) → Buf (Elt Ideal) ℓ) (g : Dev Cert.LossKIdeal.nD → PrngReg)
    (m' : (ℓ : Loc Cert.LossRIdeal.nD Cert.LossRIdeal.τ Cert.LossRIdeal.sig) → Buf (Elt Ideal) ℓ) (g' : Dev Cert.LossRIdeal.nD → PrngReg), Pre_LossKIdeal_finite_loss m →
    (∀ c : Dev Cert.LossKIdeal.nD,
      m' ((c.tc : Thread Cert.LossRIdeal.nD Cert.LossRIdeal.τ).loc Cert.LossRIdeal.main_arg0) = m ((c.tc : Thread Cert.LossKIdeal.nD Cert.LossKIdeal.τ).loc Cert.LossKIdeal.main_arg0)
      ∧ m' ((c.tc : Thread Cert.LossRIdeal.nD Cert.LossRIdeal.τ).loc Cert.LossRIdeal.main_arg1) = m ((c.tc : Thread Cert.LossKIdeal.nD Cert.LossKIdeal.τ).loc Cert.LossKIdeal.main_arg1)
      ∧ m' ((c.tc : Thread Cert.LossRIdeal.nD Cert.LossRIdeal.τ).loc Cert.LossRIdeal.main_arg2) = m ((c.tc : Thread Cert.LossKIdeal.nD Cert.LossKIdeal.τ).loc Cert.LossKIdeal.main_arg2)) →
    ∃ (v0 : (c : Dev Cert.LossKIdeal.nD) → Buf (Elt Ideal) ((c.tc : Thread Cert.LossKIdeal.nD Cert.LossKIdeal.τ).loc Cert.LossKIdeal.main_v1_0)) (v1 : (c : Dev Cert.LossKIdeal.nD) → Buf (Elt Ideal) ((c.tc : Thread Cert.LossKIdeal.nD Cert.LossKIdeal.τ).loc Cert.LossKIdeal.main_v1_1)) (v2 : (c : Dev Cert.LossKIdeal.nD) → Buf (Elt Ideal) ((c.tc : Thread Cert.LossKIdeal.nD Cert.LossKIdeal.τ).loc Cert.LossKIdeal.main_v1_2)) (v3 : (c : Dev Cert.LossKIdeal.nD) → Buf (Elt Ideal) ((c.tc : Thread Cert.LossKIdeal.nD Cert.LossKIdeal.τ).loc Cert.LossKIdeal.main_v1_3)),
      θ_run (Cert.LossKIdeal.defs (F := Ideal)) (onTc (τ := Cert.LossKIdeal.τ) (Cert.LossKIdeal.main (F := Ideal))) ⟨m, fun _ => 0, g⟩ (fun r => ∀ c : Dev Cert.LossKIdeal.nD,
          r.2.mem ((c.tc : Thread Cert.LossKIdeal.nD Cert.LossKIdeal.τ).loc Cert.LossKIdeal.main_v1_0) = v0 c
          ∧ r.2.mem ((c.tc : Thread Cert.LossKIdeal.nD Cert.LossKIdeal.τ).loc Cert.LossKIdeal.main_v1_1) = v1 c
          ∧ r.2.mem ((c.tc : Thread Cert.LossKIdeal.nD Cert.LossKIdeal.τ).loc Cert.LossKIdeal.main_v1_2) = v2 c
          ∧ r.2.mem ((c.tc : Thread Cert.LossKIdeal.nD Cert.LossKIdeal.τ).loc Cert.LossKIdeal.main_v1_3) = v3 c
          ∧ r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
          ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
          ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ θ_run (Cert.LossRIdeal.defs (F := Ideal)) (onTc (τ := Cert.LossRIdeal.τ) (Cert.LossRIdeal.main (F := Ideal))) ⟨m', fun _ => 0, g'⟩ (fun r => ∀ c : Dev Cert.LossRIdeal.nD,
          r.2.mem ((c.tc : Thread Cert.LossRIdeal.nD Cert.LossRIdeal.τ).loc Cert.LossRIdeal.main_v51) = v0 c
          ∧ r.2.mem ((c.tc : Thread Cert.LossRIdeal.nD Cert.LossRIdeal.τ).loc Cert.LossRIdeal.main_v50) = v1 c
          ∧ r.2.mem ((c.tc : Thread Cert.LossRIdeal.nD Cert.LossRIdeal.τ).loc Cert.LossRIdeal.main_v52) = v2 c
          ∧ r.2.mem ((c.tc : Thread Cert.LossRIdeal.nD Cert.LossRIdeal.τ).loc Cert.LossRIdeal.main_v53) = v3 c
          ∧ r.2.mem ((c.tc : Thread Cert.LossRIdeal.nD Cert.LossRIdeal.τ).loc Cert.LossRIdeal.main_arg0) = m' ((c.tc : Thread Cert.LossRIdeal.nD Cert.LossRIdeal.τ).loc Cert.LossRIdeal.main_arg0)
          ∧ r.2.mem ((c.tc : Thread Cert.LossRIdeal.nD Cert.LossRIdeal.τ).loc Cert.LossRIdeal.main_arg1) = m' ((c.tc : Thread Cert.LossRIdeal.nD Cert.LossRIdeal.τ).loc Cert.LossRIdeal.main_arg1)
          ∧ r.2.mem ((c.tc : Thread Cert.LossRIdeal.nD Cert.LossRIdeal.τ).loc Cert.LossRIdeal.main_arg2) = m' ((c.tc : Thread Cert.LossRIdeal.nD Cert.LossRIdeal.τ).loc Cert.LossRIdeal.main_arg2))

def preserves_GateK_GateKIdeal : Prop :=
  True

def algebraic_GateKIdeal_GateRIdeal [hGateKIdeal : Cert.GateKIdeal.Facts] [hGateRIdeal : Cert.GateRIdeal.Facts] : Prop :=
  ∀ (m : (ℓ : Loc Cert.GateKIdeal.nD Cert.GateKIdeal.τ Cert.GateKIdeal.sig) → Buf (Elt Ideal) ℓ) (g : Dev Cert.GateKIdeal.nD → PrngReg)
    (m' : (ℓ : Loc Cert.GateRIdeal.nD Cert.GateRIdeal.τ Cert.GateRIdeal.sig) → Buf (Elt Ideal) ℓ) (g' : Dev Cert.GateRIdeal.nD → PrngReg), Pre_GateKIdeal m →
    (∀ c : Dev Cert.GateKIdeal.nD,
      m' ((c.tc : Thread Cert.GateRIdeal.nD Cert.GateRIdeal.τ).loc Cert.GateRIdeal.main_arg0) = m ((c.tc : Thread Cert.GateKIdeal.nD Cert.GateKIdeal.τ).loc Cert.GateKIdeal.main_arg0)
      ∧ m' ((c.tc : Thread Cert.GateRIdeal.nD Cert.GateRIdeal.τ).loc Cert.GateRIdeal.main_arg1) = m ((c.tc : Thread Cert.GateKIdeal.nD Cert.GateKIdeal.τ).loc Cert.GateKIdeal.main_arg1)
      ∧ m' ((c.tc : Thread Cert.GateRIdeal.nD Cert.GateRIdeal.τ).loc Cert.GateRIdeal.main_arg2) = m ((c.tc : Thread Cert.GateKIdeal.nD Cert.GateKIdeal.τ).loc Cert.GateKIdeal.main_arg2)) →
    ∃ (v0 : (c : Dev Cert.GateKIdeal.nD) → Buf (Elt Ideal) ((c.tc : Thread Cert.GateKIdeal.nD Cert.GateKIdeal.τ).loc Cert.GateKIdeal.main_v13_0)) (v1 : (c : Dev Cert.GateKIdeal.nD) → Buf (Elt Ideal) ((c.tc : Thread Cert.GateKIdeal.nD Cert.GateKIdeal.τ).loc Cert.GateKIdeal.main_v13_1)) (v2 : (c : Dev Cert.GateKIdeal.nD) → Buf (Elt Ideal) ((c.tc : Thread Cert.GateKIdeal.nD Cert.GateKIdeal.τ).loc Cert.GateKIdeal.main_v13_2)),
      θ_run (Cert.GateKIdeal.defs (F := Ideal)) (onTc (τ := Cert.GateKIdeal.τ) (Cert.GateKIdeal.main (F := Ideal))) ⟨m, fun _ => 0, g⟩ (fun r => ∀ c : Dev Cert.GateKIdeal.nD,
          r.2.mem ((c.tc : Thread Cert.GateKIdeal.nD Cert.GateKIdeal.τ).loc Cert.GateKIdeal.main_v13_0) = v0 c
          ∧ r.2.mem ((c.tc : Thread Cert.GateKIdeal.nD Cert.GateKIdeal.τ).loc Cert.GateKIdeal.main_v13_1) = v1 c
          ∧ r.2.mem ((c.tc : Thread Cert.GateKIdeal.nD Cert.GateKIdeal.τ).loc Cert.GateKIdeal.main_v13_2) = v2 c
          ∧ r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
          ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1)
          ∧ r.2.mem ((c.tc : Thread Cert.GateKIdeal.nD Cert.GateKIdeal.τ).loc Cert.GateKIdeal.main_arg2) = m ((c.tc : Thread Cert.GateKIdeal.nD Cert.GateKIdeal.τ).loc Cert.GateKIdeal.main_arg2))
      ∧ θ_run (Cert.GateRIdeal.defs (F := Ideal)) (onTc (τ := Cert.GateRIdeal.τ) (Cert.GateRIdeal.main (F := Ideal))) ⟨m', fun _ => 0, g'⟩ (fun r => ∀ c : Dev Cert.GateRIdeal.nD,
          r.2.mem ((c.tc : Thread Cert.GateRIdeal.nD Cert.GateRIdeal.τ).loc Cert.GateRIdeal.main_v34) = v0 c
          ∧ r.2.mem ((c.tc : Thread Cert.GateRIdeal.nD Cert.GateRIdeal.τ).loc Cert.GateRIdeal.main_v35) = v1 c
          ∧ r.2.mem ((c.tc : Thread Cert.GateRIdeal.nD Cert.GateRIdeal.τ).loc Cert.GateRIdeal.main_v39) = v2 c
          ∧ r.2.mem ((c.tc : Thread Cert.GateRIdeal.nD Cert.GateRIdeal.τ).loc Cert.GateRIdeal.main_arg0) = m' ((c.tc : Thread Cert.GateRIdeal.nD Cert.GateRIdeal.τ).loc Cert.GateRIdeal.main_arg0)
          ∧ r.2.mem ((c.tc : Thread Cert.GateRIdeal.nD Cert.GateRIdeal.τ).loc Cert.GateRIdeal.main_arg1) = m' ((c.tc : Thread Cert.GateRIdeal.nD Cert.GateRIdeal.τ).loc Cert.GateRIdeal.main_arg1)
          ∧ r.2.mem ((c.tc : Thread Cert.GateRIdeal.nD Cert.GateRIdeal.τ).loc Cert.GateRIdeal.main_arg2) = m' ((c.tc : Thread Cert.GateRIdeal.nD Cert.GateRIdeal.τ).loc Cert.GateRIdeal.main_arg2))

def preserves_ConvK_ConvKIdeal : Prop :=
  True

def algebraic_ConvKIdeal_ConvRIdeal [hConvKIdeal : Cert.ConvKIdeal.Facts] [hConvRIdeal : Cert.ConvRIdeal.Facts] : Prop :=
  ∀ (m : (ℓ : Loc Cert.ConvKIdeal.nD Cert.ConvKIdeal.τ Cert.ConvKIdeal.sig) → Buf (Elt Ideal) ℓ) (g : Dev Cert.ConvKIdeal.nD → PrngReg)
    (m' : (ℓ : Loc Cert.ConvRIdeal.nD Cert.ConvRIdeal.τ Cert.ConvRIdeal.sig) → Buf (Elt Ideal) ℓ) (g' : Dev Cert.ConvRIdeal.nD → PrngReg), Pre_ConvKIdeal m →
    (∀ c : Dev Cert.ConvKIdeal.nD,
      m' ((c.tc : Thread Cert.ConvRIdeal.nD Cert.ConvRIdeal.τ).loc Cert.ConvRIdeal.main_arg0) = m ((c.tc : Thread Cert.ConvKIdeal.nD Cert.ConvKIdeal.τ).loc Cert.ConvKIdeal.main_arg0)
      ∧ m' ((c.tc : Thread Cert.ConvRIdeal.nD Cert.ConvRIdeal.τ).loc Cert.ConvRIdeal.main_arg1) = m ((c.tc : Thread Cert.ConvKIdeal.nD Cert.ConvKIdeal.τ).loc Cert.ConvKIdeal.main_arg1)
      ∧ m' ((c.tc : Thread Cert.ConvRIdeal.nD Cert.ConvRIdeal.τ).loc Cert.ConvRIdeal.main_arg2) = m ((c.tc : Thread Cert.ConvKIdeal.nD Cert.ConvKIdeal.τ).loc Cert.ConvKIdeal.main_arg2)
      ∧ m' ((c.tc : Thread Cert.ConvRIdeal.nD Cert.ConvRIdeal.τ).loc Cert.ConvRIdeal.main_arg3) = m ((c.tc : Thread Cert.ConvKIdeal.nD Cert.ConvKIdeal.τ).loc Cert.ConvKIdeal.main_arg3)) →
    ∃ (v0 : (c : Dev Cert.ConvKIdeal.nD) → Buf (Elt Ideal) ((c.tc : Thread Cert.ConvKIdeal.nD Cert.ConvKIdeal.τ).loc Cert.ConvKIdeal.main_v1_0)) (v1 : (c : Dev Cert.ConvKIdeal.nD) → Buf (Elt Ideal) ((c.tc : Thread Cert.ConvKIdeal.nD Cert.ConvKIdeal.τ).loc Cert.ConvKIdeal.main_v1_1)) (v2 : (c : Dev Cert.ConvKIdeal.nD) → Buf (Elt Ideal) ((c.tc : Thread Cert.ConvKIdeal.nD Cert.ConvKIdeal.τ).loc Cert.ConvKIdeal.main_v1_2)),
      θ_run (Cert.ConvKIdeal.defs (F := Ideal)) (onTc (τ := Cert.ConvKIdeal.τ) (Cert.ConvKIdeal.main (F := Ideal))) ⟨m, fun _ => 0, g⟩ (fun r => ∀ c : Dev Cert.ConvKIdeal.nD,
          r.2.mem ((c.tc : Thread Cert.ConvKIdeal.nD Cert.ConvKIdeal.τ).loc Cert.ConvKIdeal.main_v1_0) = v0 c
          ∧ r.2.mem ((c.tc : Thread Cert.ConvKIdeal.nD Cert.ConvKIdeal.τ).loc Cert.ConvKIdeal.main_v1_1) = v1 c
          ∧ r.2.mem ((c.tc : Thread Cert.ConvKIdeal.nD Cert.ConvKIdeal.τ).loc Cert.ConvKIdeal.main_v1_2) = v2 c
          ∧ r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
          ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
          ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
          ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3))
      ∧ θ_run (Cert.ConvRIdeal.defs (F := Ideal)) (onTc (τ := Cert.ConvRIdeal.τ) (Cert.ConvRIdeal.main (F := Ideal))) ⟨m', fun _ => 0, g'⟩ (fun r => ∀ c : Dev Cert.ConvRIdeal.nD,
          r.2.mem ((c.tc : Thread Cert.ConvRIdeal.nD Cert.ConvRIdeal.τ).loc Cert.ConvRIdeal.main_v86) = v0 c
          ∧ r.2.mem ((c.tc : Thread Cert.ConvRIdeal.nD Cert.ConvRIdeal.τ).loc Cert.ConvRIdeal.main_v88) = v1 c
          ∧ r.2.mem ((c.tc : Thread Cert.ConvRIdeal.nD Cert.ConvRIdeal.τ).loc Cert.ConvRIdeal.main_v89) = v2 c
          ∧ r.2.mem ((c.tc : Thread Cert.ConvRIdeal.nD Cert.ConvRIdeal.τ).loc Cert.ConvRIdeal.main_arg0) = m' ((c.tc : Thread Cert.ConvRIdeal.nD Cert.ConvRIdeal.τ).loc Cert.ConvRIdeal.main_arg0)
          ∧ r.2.mem ((c.tc : Thread Cert.ConvRIdeal.nD Cert.ConvRIdeal.τ).loc Cert.ConvRIdeal.main_arg1) = m' ((c.tc : Thread Cert.ConvRIdeal.nD Cert.ConvRIdeal.τ).loc Cert.ConvRIdeal.main_arg1)
          ∧ r.2.mem ((c.tc : Thread Cert.ConvRIdeal.nD Cert.ConvRIdeal.τ).loc Cert.ConvRIdeal.main_arg2) = m' ((c.tc : Thread Cert.ConvRIdeal.nD Cert.ConvRIdeal.τ).loc Cert.ConvRIdeal.main_arg2)
          ∧ r.2.mem ((c.tc : Thread Cert.ConvRIdeal.nD Cert.ConvRIdeal.τ).loc Cert.ConvRIdeal.main_arg3) = m' ((c.tc : Thread Cert.ConvRIdeal.nD Cert.ConvRIdeal.τ).loc Cert.ConvRIdeal.main_arg3))

def preserves_DgnK_DgnKIdeal : Prop :=
  True

def algebraic_DgnKIdeal_DgnRIdeal_pre_finite_dgn [hDgnKIdeal : Cert.DgnKIdeal.Facts] [hDgnRIdeal : Cert.DgnRIdeal.Facts] [hPre_finite_dgn : Cert.Pre_finite_dgn.Facts] : Prop :=
  ∀ (m : (ℓ : Loc Cert.DgnKIdeal.nD Cert.DgnKIdeal.τ Cert.DgnKIdeal.sig) → Buf (Elt Ideal) ℓ) (g : Dev Cert.DgnKIdeal.nD → PrngReg)
    (m' : (ℓ : Loc Cert.DgnRIdeal.nD Cert.DgnRIdeal.τ Cert.DgnRIdeal.sig) → Buf (Elt Ideal) ℓ) (g' : Dev Cert.DgnRIdeal.nD → PrngReg), Pre_DgnKIdeal_finite_dgn m →
    (∀ c : Dev Cert.DgnKIdeal.nD,
      m' ((c.tc : Thread Cert.DgnRIdeal.nD Cert.DgnRIdeal.τ).loc Cert.DgnRIdeal.main_arg0) = m ((c.tc : Thread Cert.DgnKIdeal.nD Cert.DgnKIdeal.τ).loc Cert.DgnKIdeal.main_arg0)
      ∧ m' ((c.tc : Thread Cert.DgnRIdeal.nD Cert.DgnRIdeal.τ).loc Cert.DgnRIdeal.main_arg1) = m ((c.tc : Thread Cert.DgnKIdeal.nD Cert.DgnKIdeal.τ).loc Cert.DgnKIdeal.main_arg1)
      ∧ m' ((c.tc : Thread Cert.DgnRIdeal.nD Cert.DgnRIdeal.τ).loc Cert.DgnRIdeal.main_arg2) = m ((c.tc : Thread Cert.DgnKIdeal.nD Cert.DgnKIdeal.τ).loc Cert.DgnKIdeal.main_arg2)
      ∧ m' ((c.tc : Thread Cert.DgnRIdeal.nD Cert.DgnRIdeal.τ).loc Cert.DgnRIdeal.main_arg3) = m ((c.tc : Thread Cert.DgnKIdeal.nD Cert.DgnKIdeal.τ).loc Cert.DgnKIdeal.main_arg3)
      ∧ m' ((c.tc : Thread Cert.DgnRIdeal.nD Cert.DgnRIdeal.τ).loc Cert.DgnRIdeal.main_arg4) = m ((c.tc : Thread Cert.DgnKIdeal.nD Cert.DgnKIdeal.τ).loc Cert.DgnKIdeal.main_arg4)) →
    ∃ (v0 : (c : Dev Cert.DgnKIdeal.nD) → Buf (Elt Ideal) ((c.tc : Thread Cert.DgnKIdeal.nD Cert.DgnKIdeal.τ).loc Cert.DgnKIdeal.main_v2_0)) (v1 : (c : Dev Cert.DgnKIdeal.nD) → Buf (Elt Ideal) ((c.tc : Thread Cert.DgnKIdeal.nD Cert.DgnKIdeal.τ).loc Cert.DgnKIdeal.main_v2_1)) (v2 : (c : Dev Cert.DgnKIdeal.nD) → Buf (Elt Ideal) ((c.tc : Thread Cert.DgnKIdeal.nD Cert.DgnKIdeal.τ).loc Cert.DgnKIdeal.main_v2_2)),
      θ_run (Cert.DgnKIdeal.defs (F := Ideal)) (onTc (τ := Cert.DgnKIdeal.τ) (Cert.DgnKIdeal.main (F := Ideal))) ⟨m, fun _ => 0, g⟩ (fun r => ∀ c : Dev Cert.DgnKIdeal.nD,
          r.2.mem ((c.tc : Thread Cert.DgnKIdeal.nD Cert.DgnKIdeal.τ).loc Cert.DgnKIdeal.main_v2_0) = v0 c
          ∧ r.2.mem ((c.tc : Thread Cert.DgnKIdeal.nD Cert.DgnKIdeal.τ).loc Cert.DgnKIdeal.main_v2_1) = v1 c
          ∧ r.2.mem ((c.tc : Thread Cert.DgnKIdeal.nD Cert.DgnKIdeal.τ).loc Cert.DgnKIdeal.main_v2_2) = v2 c
          ∧ r.2.mem ((c.tc : Thread Cert.DgnKIdeal.nD Cert.DgnKIdeal.τ).loc Cert.DgnKIdeal.main_arg0) = m ((c.tc : Thread Cert.DgnKIdeal.nD Cert.DgnKIdeal.τ).loc Cert.DgnKIdeal.main_arg0)
          ∧ r.2.mem ((c.tc : Thread Cert.DgnKIdeal.nD Cert.DgnKIdeal.τ).loc Cert.DgnKIdeal.main_arg1) = m ((c.tc : Thread Cert.DgnKIdeal.nD Cert.DgnKIdeal.τ).loc Cert.DgnKIdeal.main_arg1)
          ∧ r.2.mem ((c.tc : Thread Cert.DgnKIdeal.nD Cert.DgnKIdeal.τ).loc Cert.DgnKIdeal.main_arg2) = m ((c.tc : Thread Cert.DgnKIdeal.nD Cert.DgnKIdeal.τ).loc Cert.DgnKIdeal.main_arg2)
          ∧ r.2.mem ((c.tc : Thread Cert.DgnKIdeal.nD Cert.DgnKIdeal.τ).loc Cert.DgnKIdeal.main_arg3) = m ((c.tc : Thread Cert.DgnKIdeal.nD Cert.DgnKIdeal.τ).loc Cert.DgnKIdeal.main_arg3)
          ∧ r.2.mem ((c.tc : Thread Cert.DgnKIdeal.nD Cert.DgnKIdeal.τ).loc Cert.DgnKIdeal.main_arg4) = m ((c.tc : Thread Cert.DgnKIdeal.nD Cert.DgnKIdeal.τ).loc Cert.DgnKIdeal.main_arg4))
      ∧ θ_run (Cert.DgnRIdeal.defs (F := Ideal)) (onTc (τ := Cert.DgnRIdeal.τ) (Cert.DgnRIdeal.main (F := Ideal))) ⟨m', fun _ => 0, g'⟩ (fun r => ∀ c : Dev Cert.DgnRIdeal.nD,
          r.2.mem ((c.tc : Thread Cert.DgnRIdeal.nD Cert.DgnRIdeal.τ).loc Cert.DgnRIdeal.main_v39) = v0 c
          ∧ r.2.mem ((c.tc : Thread Cert.DgnRIdeal.nD Cert.DgnRIdeal.τ).loc Cert.DgnRIdeal.main_v40) = v1 c
          ∧ r.2.mem ((c.tc : Thread Cert.DgnRIdeal.nD Cert.DgnRIdeal.τ).loc Cert.DgnRIdeal.main_v41) = v2 c
          ∧ r.2.mem ((c.tc : Thread Cert.DgnRIdeal.nD Cert.DgnRIdeal.τ).loc Cert.DgnRIdeal.main_arg0) = m' ((c.tc : Thread Cert.DgnRIdeal.nD Cert.DgnRIdeal.τ).loc Cert.DgnRIdeal.main_arg0)
          ∧ r.2.mem ((c.tc : Thread Cert.DgnRIdeal.nD Cert.DgnRIdeal.τ).loc Cert.DgnRIdeal.main_arg1) = m' ((c.tc : Thread Cert.DgnRIdeal.nD Cert.DgnRIdeal.τ).loc Cert.DgnRIdeal.main_arg1)
          ∧ r.2.mem ((c.tc : Thread Cert.DgnRIdeal.nD Cert.DgnRIdeal.τ).loc Cert.DgnRIdeal.main_arg2) = m' ((c.tc : Thread Cert.DgnRIdeal.nD Cert.DgnRIdeal.τ).loc Cert.DgnRIdeal.main_arg2)
          ∧ r.2.mem ((c.tc : Thread Cert.DgnRIdeal.nD Cert.DgnRIdeal.τ).loc Cert.DgnRIdeal.main_arg3) = m' ((c.tc : Thread Cert.DgnRIdeal.nD Cert.DgnRIdeal.τ).loc Cert.DgnRIdeal.main_arg3)
          ∧ r.2.mem ((c.tc : Thread Cert.DgnRIdeal.nD Cert.DgnRIdeal.τ).loc Cert.DgnRIdeal.main_arg4) = m' ((c.tc : Thread Cert.DgnRIdeal.nD Cert.DgnRIdeal.τ).loc Cert.DgnRIdeal.main_arg4))

def preserves_MlpbK_MlpbKIdeal : Prop :=
  True

def algebraic_MlpbKIdeal_MlpbRIdeal_pre_finite_mlpb [hMlpbKIdeal : Cert.MlpbKIdeal.Facts] [hMlpbRIdeal : Cert.MlpbRIdeal.Facts] [hPre_finite_mlpb : Cert.Pre_finite_mlpb.Facts] : Prop :=
  ∀ (m : (ℓ : Loc Cert.MlpbKIdeal.nD Cert.MlpbKIdeal.τ Cert.MlpbKIdeal.sig) → Buf (Elt Ideal) ℓ) (g : Dev Cert.MlpbKIdeal.nD → PrngReg)
    (m' : (ℓ : Loc Cert.MlpbRIdeal.nD Cert.MlpbRIdeal.τ Cert.MlpbRIdeal.sig) → Buf (Elt Ideal) ℓ) (g' : Dev Cert.MlpbRIdeal.nD → PrngReg), Pre_MlpbKIdeal_finite_mlpb m →
    (∀ c : Dev Cert.MlpbKIdeal.nD,
      m' ((c.tc : Thread Cert.MlpbRIdeal.nD Cert.MlpbRIdeal.τ).loc Cert.MlpbRIdeal.main_arg0) = m ((c.tc : Thread Cert.MlpbKIdeal.nD Cert.MlpbKIdeal.τ).loc Cert.MlpbKIdeal.main_arg0)
      ∧ m' ((c.tc : Thread Cert.MlpbRIdeal.nD Cert.MlpbRIdeal.τ).loc Cert.MlpbRIdeal.main_arg1) = m ((c.tc : Thread Cert.MlpbKIdeal.nD Cert.MlpbKIdeal.τ).loc Cert.MlpbKIdeal.main_arg1)
      ∧ m' ((c.tc : Thread Cert.MlpbRIdeal.nD Cert.MlpbRIdeal.τ).loc Cert.MlpbRIdeal.main_arg2) = m ((c.tc : Thread Cert.MlpbKIdeal.nD Cert.MlpbKIdeal.τ).loc Cert.MlpbKIdeal.main_arg2)
      ∧ m' ((c.tc : Thread Cert.MlpbRIdeal.nD Cert.MlpbRIdeal.τ).loc Cert.MlpbRIdeal.main_arg3) = m ((c.tc : Thread Cert.MlpbKIdeal.nD Cert.MlpbKIdeal.τ).loc Cert.MlpbKIdeal.main_arg3)
      ∧ m' ((c.tc : Thread Cert.MlpbRIdeal.nD Cert.MlpbRIdeal.τ).loc Cert.MlpbRIdeal.main_arg4) = m ((c.tc : Thread Cert.MlpbKIdeal.nD Cert.MlpbKIdeal.τ).loc Cert.MlpbKIdeal.main_arg4)) →
    ∃ (v0 : (c : Dev Cert.MlpbKIdeal.nD) → Buf (Elt Ideal) ((c.tc : Thread Cert.MlpbKIdeal.nD Cert.MlpbKIdeal.τ).loc Cert.MlpbKIdeal.main_v5_0)) (v1 : (c : Dev Cert.MlpbKIdeal.nD) → Buf (Elt Ideal) ((c.tc : Thread Cert.MlpbKIdeal.nD Cert.MlpbKIdeal.τ).loc Cert.MlpbKIdeal.main_v5_1)) (v2 : (c : Dev Cert.MlpbKIdeal.nD) → Buf (Elt Ideal) ((c.tc : Thread Cert.MlpbKIdeal.nD Cert.MlpbKIdeal.τ).loc Cert.MlpbKIdeal.main_v5_2)) (v3 : (c : Dev Cert.MlpbKIdeal.nD) → Buf (Elt Ideal) ((c.tc : Thread Cert.MlpbKIdeal.nD Cert.MlpbKIdeal.τ).loc Cert.MlpbKIdeal.main_v7_0)) (v4 : (c : Dev Cert.MlpbKIdeal.nD) → Buf (Elt Ideal) ((c.tc : Thread Cert.MlpbKIdeal.nD Cert.MlpbKIdeal.τ).loc Cert.MlpbKIdeal.main_v7_1)) (v5 : (c : Dev Cert.MlpbKIdeal.nD) → Buf (Elt Ideal) ((c.tc : Thread Cert.MlpbKIdeal.nD Cert.MlpbKIdeal.τ).loc Cert.MlpbKIdeal.main_v7_2)) (v6 : (c : Dev Cert.MlpbKIdeal.nD) → Buf (Elt Ideal) ((c.tc : Thread Cert.MlpbKIdeal.nD Cert.MlpbKIdeal.τ).loc Cert.MlpbKIdeal.main_v7_3)) (v7 : (c : Dev Cert.MlpbKIdeal.nD) → Buf (Elt Ideal) ((c.tc : Thread Cert.MlpbKIdeal.nD Cert.MlpbKIdeal.τ).loc Cert.MlpbKIdeal.main_v7_4)),
      θ_run (Cert.MlpbKIdeal.defs (F := Ideal)) (onTc (τ := Cert.MlpbKIdeal.τ) (Cert.MlpbKIdeal.main (F := Ideal))) ⟨m, fun _ => 0, g⟩ (fun r => ∀ c : Dev Cert.MlpbKIdeal.nD,
          r.2.mem ((c.tc : Thread Cert.MlpbKIdeal.nD Cert.MlpbKIdeal.τ).loc Cert.MlpbKIdeal.main_v5_0) = v0 c
          ∧ r.2.mem ((c.tc : Thread Cert.MlpbKIdeal.nD Cert.MlpbKIdeal.τ).loc Cert.MlpbKIdeal.main_v5_1) = v1 c
          ∧ r.2.mem ((c.tc : Thread Cert.MlpbKIdeal.nD Cert.MlpbKIdeal.τ).loc Cert.MlpbKIdeal.main_v5_2) = v2 c
          ∧ r.2.mem ((c.tc : Thread Cert.MlpbKIdeal.nD Cert.MlpbKIdeal.τ).loc Cert.MlpbKIdeal.main_v7_0) = v3 c
          ∧ r.2.mem ((c.tc : Thread Cert.MlpbKIdeal.nD Cert.MlpbKIdeal.τ).loc Cert.MlpbKIdeal.main_v7_1) = v4 c
          ∧ r.2.mem ((c.tc : Thread Cert.MlpbKIdeal.nD Cert.MlpbKIdeal.τ).loc Cert.MlpbKIdeal.main_v7_2) = v5 c
          ∧ r.2.mem ((c.tc : Thread Cert.MlpbKIdeal.nD Cert.MlpbKIdeal.τ).loc Cert.MlpbKIdeal.main_v7_3) = v6 c
          ∧ r.2.mem ((c.tc : Thread Cert.MlpbKIdeal.nD Cert.MlpbKIdeal.τ).loc Cert.MlpbKIdeal.main_v7_4) = v7 c
          ∧ r.2.mem ((c.tc : Thread Cert.MlpbKIdeal.nD Cert.MlpbKIdeal.τ).loc Cert.MlpbKIdeal.main_arg0) = m ((c.tc : Thread Cert.MlpbKIdeal.nD Cert.MlpbKIdeal.τ).loc Cert.MlpbKIdeal.main_arg0)
          ∧ r.2.mem ((c.tc : Thread Cert.MlpbKIdeal.nD Cert.MlpbKIdeal.τ).loc Cert.MlpbKIdeal.main_arg1) = m ((c.tc : Thread Cert.MlpbKIdeal.nD Cert.MlpbKIdeal.τ).loc Cert.MlpbKIdeal.main_arg1)
          ∧ r.2.mem ((c.tc : Thread Cert.MlpbKIdeal.nD Cert.MlpbKIdeal.τ).loc Cert.MlpbKIdeal.main_arg2) = m ((c.tc : Thread Cert.MlpbKIdeal.nD Cert.MlpbKIdeal.τ).loc Cert.MlpbKIdeal.main_arg2)
          ∧ r.2.mem ((c.tc : Thread Cert.MlpbKIdeal.nD Cert.MlpbKIdeal.τ).loc Cert.MlpbKIdeal.main_arg3) = m ((c.tc : Thread Cert.MlpbKIdeal.nD Cert.MlpbKIdeal.τ).loc Cert.MlpbKIdeal.main_arg3)
          ∧ r.2.mem ((c.tc : Thread Cert.MlpbKIdeal.nD Cert.MlpbKIdeal.τ).loc Cert.MlpbKIdeal.main_arg4) = m ((c.tc : Thread Cert.MlpbKIdeal.nD Cert.MlpbKIdeal.τ).loc Cert.MlpbKIdeal.main_arg4))
      ∧ θ_run (Cert.MlpbRIdeal.defs (F := Ideal)) (onTc (τ := Cert.MlpbRIdeal.τ) (Cert.MlpbRIdeal.main (F := Ideal))) ⟨m', fun _ => 0, g'⟩ (fun r => ∀ c : Dev Cert.MlpbRIdeal.nD,
          r.2.mem ((c.tc : Thread Cert.MlpbRIdeal.nD Cert.MlpbRIdeal.τ).loc Cert.MlpbRIdeal.main_v27) = v0 c
          ∧ r.2.mem ((c.tc : Thread Cert.MlpbRIdeal.nD Cert.MlpbRIdeal.τ).loc Cert.MlpbRIdeal.main_v61) = v1 c
          ∧ r.2.mem ((c.tc : Thread Cert.MlpbRIdeal.nD Cert.MlpbRIdeal.τ).loc Cert.MlpbRIdeal.main_v62) = v2 c
          ∧ r.2.mem ((c.tc : Thread Cert.MlpbRIdeal.nD Cert.MlpbRIdeal.τ).loc Cert.MlpbRIdeal.main_v60) = v3 c
          ∧ r.2.mem ((c.tc : Thread Cert.MlpbRIdeal.nD Cert.MlpbRIdeal.τ).loc Cert.MlpbRIdeal.main_v63) = v4 c
          ∧ r.2.mem ((c.tc : Thread Cert.MlpbRIdeal.nD Cert.MlpbRIdeal.τ).loc Cert.MlpbRIdeal.main_v64) = v5 c
          ∧ r.2.mem ((c.tc : Thread Cert.MlpbRIdeal.nD Cert.MlpbRIdeal.τ).loc Cert.MlpbRIdeal.main_v65) = v6 c
          ∧ r.2.mem ((c.tc : Thread Cert.MlpbRIdeal.nD Cert.MlpbRIdeal.τ).loc Cert.MlpbRIdeal.main_v66) = v7 c
          ∧ r.2.mem ((c.tc : Thread Cert.MlpbRIdeal.nD Cert.MlpbRIdeal.τ).loc Cert.MlpbRIdeal.main_arg0) = m' ((c.tc : Thread Cert.MlpbRIdeal.nD Cert.MlpbRIdeal.τ).loc Cert.MlpbRIdeal.main_arg0)
          ∧ r.2.mem ((c.tc : Thread Cert.MlpbRIdeal.nD Cert.MlpbRIdeal.τ).loc Cert.MlpbRIdeal.main_arg1) = m' ((c.tc : Thread Cert.MlpbRIdeal.nD Cert.MlpbRIdeal.τ).loc Cert.MlpbRIdeal.main_arg1)
          ∧ r.2.mem ((c.tc : Thread Cert.MlpbRIdeal.nD Cert.MlpbRIdeal.τ).loc Cert.MlpbRIdeal.main_arg2) = m' ((c.tc : Thread Cert.MlpbRIdeal.nD Cert.MlpbRIdeal.τ).loc Cert.MlpbRIdeal.main_arg2)
          ∧ r.2.mem ((c.tc : Thread Cert.MlpbRIdeal.nD Cert.MlpbRIdeal.τ).loc Cert.MlpbRIdeal.main_arg3) = m' ((c.tc : Thread Cert.MlpbRIdeal.nD Cert.MlpbRIdeal.τ).loc Cert.MlpbRIdeal.main_arg3)
          ∧ r.2.mem ((c.tc : Thread Cert.MlpbRIdeal.nD Cert.MlpbRIdeal.τ).loc Cert.MlpbRIdeal.main_arg4) = m' ((c.tc : Thread Cert.MlpbRIdeal.nD Cert.MlpbRIdeal.τ).loc Cert.MlpbRIdeal.main_arg4))

def preserves_Comb1K_Comb1KIdeal : Prop :=
  True

def algebraic_Comb1KIdeal_Comb1RIdeal [hComb1KIdeal : Cert.Comb1KIdeal.Facts] [hComb1RIdeal : Cert.Comb1RIdeal.Facts] : Prop :=
  ∀ (m : (ℓ : Loc Cert.Comb1KIdeal.nD Cert.Comb1KIdeal.τ Cert.Comb1KIdeal.sig) → Buf (Elt Ideal) ℓ) (g : Dev Cert.Comb1KIdeal.nD → PrngReg)
    (m' : (ℓ : Loc Cert.Comb1RIdeal.nD Cert.Comb1RIdeal.τ Cert.Comb1RIdeal.sig) → Buf (Elt Ideal) ℓ) (g' : Dev Cert.Comb1RIdeal.nD → PrngReg), Pre_Comb1KIdeal m →
    (∀ c : Dev Cert.Comb1KIdeal.nD,
      m' ((c.tc : Thread Cert.Comb1RIdeal.nD Cert.Comb1RIdeal.τ).loc Cert.Comb1RIdeal.main_arg0) = m ((c.tc : Thread Cert.Comb1KIdeal.nD Cert.Comb1KIdeal.τ).loc Cert.Comb1KIdeal.main_arg0)
      ∧ m' ((c.tc : Thread Cert.Comb1RIdeal.nD Cert.Comb1RIdeal.τ).loc Cert.Comb1RIdeal.main_arg1) = m ((c.tc : Thread Cert.Comb1KIdeal.nD Cert.Comb1KIdeal.τ).loc Cert.Comb1KIdeal.main_arg1)
      ∧ m' ((c.tc : Thread Cert.Comb1RIdeal.nD Cert.Comb1RIdeal.τ).loc Cert.Comb1RIdeal.main_arg2) = m ((c.tc : Thread Cert.Comb1KIdeal.nD Cert.Comb1KIdeal.τ).loc Cert.Comb1KIdeal.main_arg2)
      ∧ m' ((c.tc : Thread Cert.Comb1RIdeal.nD Cert.Comb1RIdeal.τ).loc Cert.Comb1RIdeal.main_arg3) = m ((c.tc : Thread Cert.Comb1KIdeal.nD Cert.Comb1KIdeal.τ).loc Cert.Comb1KIdeal.main_arg3)
      ∧ m' ((c.tc : Thread Cert.Comb1RIdeal.nD Cert.Comb1RIdeal.τ).loc Cert.Comb1RIdeal.main_arg4) = m ((c.tc : Thread Cert.Comb1KIdeal.nD Cert.Comb1KIdeal.τ).loc Cert.Comb1KIdeal.main_arg4)
      ∧ m' ((c.tc : Thread Cert.Comb1RIdeal.nD Cert.Comb1RIdeal.τ).loc Cert.Comb1RIdeal.main_arg5) = m ((c.tc : Thread Cert.Comb1KIdeal.nD Cert.Comb1KIdeal.τ).loc Cert.Comb1KIdeal.main_arg5)) →
    ∃ (v0 : (c : Dev Cert.Comb1KIdeal.nD) → Buf (Elt Ideal) ((c.tc : Thread Cert.Comb1KIdeal.nD Cert.Comb1KIdeal.τ).loc Cert.Comb1KIdeal.main_v5_0)) (v1 : (c : Dev Cert.Comb1KIdeal.nD) → Buf (Elt Ideal) ((c.tc : Thread Cert.Comb1KIdeal.nD Cert.Comb1KIdeal.τ).loc Cert.Comb1KIdeal.main_v5_1)) (v2 : (c : Dev Cert.Comb1KIdeal.nD) → Buf (Elt Ideal) ((c.tc : Thread Cert.Comb1KIdeal.nD Cert.Comb1KIdeal.τ).loc Cert.Comb1KIdeal.main_v5_2)),
      θ_run (Cert.Comb1KIdeal.defs (F := Ideal)) (onTc (τ := Cert.Comb1KIdeal.τ) (Cert.Comb1KIdeal.main (F := Ideal))) ⟨m, fun _ => 0, g⟩ (fun r => ∀ c : Dev Cert.Comb1KIdeal.nD,
          r.2.mem ((c.tc : Thread Cert.Comb1KIdeal.nD Cert.Comb1KIdeal.τ).loc Cert.Comb1KIdeal.main_v5_0) = v0 c
          ∧ r.2.mem ((c.tc : Thread Cert.Comb1KIdeal.nD Cert.Comb1KIdeal.τ).loc Cert.Comb1KIdeal.main_v5_1) = v1 c
          ∧ r.2.mem ((c.tc : Thread Cert.Comb1KIdeal.nD Cert.Comb1KIdeal.τ).loc Cert.Comb1KIdeal.main_v5_2) = v2 c
          ∧ r.2.mem ((c.tc : Thread Cert.Comb1KIdeal.nD Cert.Comb1KIdeal.τ).loc Cert.Comb1KIdeal.main_arg0) = m ((c.tc : Thread Cert.Comb1KIdeal.nD Cert.Comb1KIdeal.τ).loc Cert.Comb1KIdeal.main_arg0)
          ∧ r.2.mem ((c.tc : Thread Cert.Comb1KIdeal.nD Cert.Comb1KIdeal.τ).loc Cert.Comb1KIdeal.main_arg1) = m ((c.tc : Thread Cert.Comb1KIdeal.nD Cert.Comb1KIdeal.τ).loc Cert.Comb1KIdeal.main_arg1)
          ∧ r.2.mem ((c.tc : Thread Cert.Comb1KIdeal.nD Cert.Comb1KIdeal.τ).loc Cert.Comb1KIdeal.main_arg2) = m ((c.tc : Thread Cert.Comb1KIdeal.nD Cert.Comb1KIdeal.τ).loc Cert.Comb1KIdeal.main_arg2)
          ∧ r.2.mem ((c.tc : Thread Cert.Comb1KIdeal.nD Cert.Comb1KIdeal.τ).loc Cert.Comb1KIdeal.main_arg3) = m ((c.tc : Thread Cert.Comb1KIdeal.nD Cert.Comb1KIdeal.τ).loc Cert.Comb1KIdeal.main_arg3)
          ∧ r.2.mem ((c.tc : Thread Cert.Comb1KIdeal.nD Cert.Comb1KIdeal.τ).loc Cert.Comb1KIdeal.main_arg4) = m ((c.tc : Thread Cert.Comb1KIdeal.nD Cert.Comb1KIdeal.τ).loc Cert.Comb1KIdeal.main_arg4)
          ∧ r.2.mem ((c.tc : Thread Cert.Comb1KIdeal.nD Cert.Comb1KIdeal.τ).loc Cert.Comb1KIdeal.main_arg5) = m ((c.tc : Thread Cert.Comb1KIdeal.nD Cert.Comb1KIdeal.τ).loc Cert.Comb1KIdeal.main_arg5))
      ∧ θ_run (Cert.Comb1RIdeal.defs (F := Ideal)) (onTc (τ := Cert.Comb1RIdeal.τ) (Cert.Comb1RIdeal.main (F := Ideal))) ⟨m', fun _ => 0, g'⟩ (fun r => ∀ c : Dev Cert.Comb1RIdeal.nD,
          r.2.mem ((c.tc : Thread Cert.Comb1RIdeal.nD Cert.Comb1RIdeal.τ).loc Cert.Comb1RIdeal.main_v51) = v0 c
          ∧ r.2.mem ((c.tc : Thread Cert.Comb1RIdeal.nD Cert.Comb1RIdeal.τ).loc Cert.Comb1RIdeal.main_v27) = v1 c
          ∧ r.2.mem ((c.tc : Thread Cert.Comb1RIdeal.nD Cert.Comb1RIdeal.τ).loc Cert.Comb1RIdeal.main_v52) = v2 c
          ∧ r.2.mem ((c.tc : Thread Cert.Comb1RIdeal.nD Cert.Comb1RIdeal.τ).loc Cert.Comb1RIdeal.main_arg0) = m' ((c.tc : Thread Cert.Comb1RIdeal.nD Cert.Comb1RIdeal.τ).loc Cert.Comb1RIdeal.main_arg0)
          ∧ r.2.mem ((c.tc : Thread Cert.Comb1RIdeal.nD Cert.Comb1RIdeal.τ).loc Cert.Comb1RIdeal.main_arg1) = m' ((c.tc : Thread Cert.Comb1RIdeal.nD Cert.Comb1RIdeal.τ).loc Cert.Comb1RIdeal.main_arg1)
          ∧ r.2.mem ((c.tc : Thread Cert.Comb1RIdeal.nD Cert.Comb1RIdeal.τ).loc Cert.Comb1RIdeal.main_arg2) = m' ((c.tc : Thread Cert.Comb1RIdeal.nD Cert.Comb1RIdeal.τ).loc Cert.Comb1RIdeal.main_arg2)
          ∧ r.2.mem ((c.tc : Thread Cert.Comb1RIdeal.nD Cert.Comb1RIdeal.τ).loc Cert.Comb1RIdeal.main_arg3) = m' ((c.tc : Thread Cert.Comb1RIdeal.nD Cert.Comb1RIdeal.τ).loc Cert.Comb1RIdeal.main_arg3)
          ∧ r.2.mem ((c.tc : Thread Cert.Comb1RIdeal.nD Cert.Comb1RIdeal.τ).loc Cert.Comb1RIdeal.main_arg4) = m' ((c.tc : Thread Cert.Comb1RIdeal.nD Cert.Comb1RIdeal.τ).loc Cert.Comb1RIdeal.main_arg4)
          ∧ r.2.mem ((c.tc : Thread Cert.Comb1RIdeal.nD Cert.Comb1RIdeal.τ).loc Cert.Comb1RIdeal.main_arg5) = m' ((c.tc : Thread Cert.Comb1RIdeal.nD Cert.Comb1RIdeal.τ).loc Cert.Comb1RIdeal.main_arg5))

def preserves_Comb0K_Comb0KIdeal : Prop :=
  True

def algebraic_Comb0KIdeal_Comb0RIdeal [hComb0KIdeal : Cert.Comb0KIdeal.Facts] [hComb0RIdeal : Cert.Comb0RIdeal.Facts] : Prop :=
  ∀ (m : (ℓ : Loc Cert.Comb0KIdeal.nD Cert.Comb0KIdeal.τ Cert.Comb0KIdeal.sig) → Buf (Elt Ideal) ℓ) (g : Dev Cert.Comb0KIdeal.nD → PrngReg)
    (m' : (ℓ : Loc Cert.Comb0RIdeal.nD Cert.Comb0RIdeal.τ Cert.Comb0RIdeal.sig) → Buf (Elt Ideal) ℓ) (g' : Dev Cert.Comb0RIdeal.nD → PrngReg), Pre_Comb0KIdeal m →
    (∀ c : Dev Cert.Comb0KIdeal.nD,
      m' ((c.tc : Thread Cert.Comb0RIdeal.nD Cert.Comb0RIdeal.τ).loc Cert.Comb0RIdeal.main_arg0) = m ((c.tc : Thread Cert.Comb0KIdeal.nD Cert.Comb0KIdeal.τ).loc Cert.Comb0KIdeal.main_arg0)
      ∧ m' ((c.tc : Thread Cert.Comb0RIdeal.nD Cert.Comb0RIdeal.τ).loc Cert.Comb0RIdeal.main_arg1) = m ((c.tc : Thread Cert.Comb0KIdeal.nD Cert.Comb0KIdeal.τ).loc Cert.Comb0KIdeal.main_arg1)
      ∧ m' ((c.tc : Thread Cert.Comb0RIdeal.nD Cert.Comb0RIdeal.τ).loc Cert.Comb0RIdeal.main_arg2) = m ((c.tc : Thread Cert.Comb0KIdeal.nD Cert.Comb0KIdeal.τ).loc Cert.Comb0KIdeal.main_arg2)
      ∧ m' ((c.tc : Thread Cert.Comb0RIdeal.nD Cert.Comb0RIdeal.τ).loc Cert.Comb0RIdeal.main_arg3) = m ((c.tc : Thread Cert.Comb0KIdeal.nD Cert.Comb0KIdeal.τ).loc Cert.Comb0KIdeal.main_arg3)
      ∧ m' ((c.tc : Thread Cert.Comb0RIdeal.nD Cert.Comb0RIdeal.τ).loc Cert.Comb0RIdeal.main_arg4) = m ((c.tc : Thread Cert.Comb0KIdeal.nD Cert.Comb0KIdeal.τ).loc Cert.Comb0KIdeal.main_arg4)
      ∧ m' ((c.tc : Thread Cert.Comb0RIdeal.nD Cert.Comb0RIdeal.τ).loc Cert.Comb0RIdeal.main_arg5) = m ((c.tc : Thread Cert.Comb0KIdeal.nD Cert.Comb0KIdeal.τ).loc Cert.Comb0KIdeal.main_arg5)
      ∧ m' ((c.tc : Thread Cert.Comb0RIdeal.nD Cert.Comb0RIdeal.τ).loc Cert.Comb0RIdeal.main_arg6) = m ((c.tc : Thread Cert.Comb0KIdeal.nD Cert.Comb0KIdeal.τ).loc Cert.Comb0KIdeal.main_arg6)
      ∧ m' ((c.tc : Thread Cert.Comb0RIdeal.nD Cert.Comb0RIdeal.τ).loc Cert.Comb0RIdeal.main_arg7) = m ((c.tc : Thread Cert.Comb0KIdeal.nD Cert.Comb0KIdeal.τ).loc Cert.Comb0KIdeal.main_arg7)
      ∧ m' ((c.tc : Thread Cert.Comb0RIdeal.nD Cert.Comb0RIdeal.τ).loc Cert.Comb0RIdeal.main_arg8) = m ((c.tc : Thread Cert.Comb0KIdeal.nD Cert.Comb0KIdeal.τ).loc Cert.Comb0KIdeal.main_arg8)) →
    ∃ (v0 : (c : Dev Cert.Comb0KIdeal.nD) → Buf (Elt Ideal) ((c.tc : Thread Cert.Comb0KIdeal.nD Cert.Comb0KIdeal.τ).loc Cert.Comb0KIdeal.main_v6_0)) (v1 : (c : Dev Cert.Comb0KIdeal.nD) → Buf (Elt Ideal) ((c.tc : Thread Cert.Comb0KIdeal.nD Cert.Comb0KIdeal.τ).loc Cert.Comb0KIdeal.main_v6_1)) (v2 : (c : Dev Cert.Comb0KIdeal.nD) → Buf (Elt Ideal) ((c.tc : Thread Cert.Comb0KIdeal.nD Cert.Comb0KIdeal.τ).loc Cert.Comb0KIdeal.main_v6_2)) (v3 : (c : Dev Cert.Comb0KIdeal.nD) → Buf (Elt Ideal) ((c.tc : Thread Cert.Comb0KIdeal.nD Cert.Comb0KIdeal.τ).loc Cert.Comb0KIdeal.main_v6_3)) (v4 : (c : Dev Cert.Comb0KIdeal.nD) → Buf (Elt Ideal) ((c.tc : Thread Cert.Comb0KIdeal.nD Cert.Comb0KIdeal.τ).loc Cert.Comb0KIdeal.main_v6_4)),
      θ_run (Cert.Comb0KIdeal.defs (F := Ideal)) (onTc (τ := Cert.Comb0KIdeal.τ) (Cert.Comb0KIdeal.main (F := Ideal))) ⟨m, fun _ => 0, g⟩ (fun r => ∀ c : Dev Cert.Comb0KIdeal.nD,
          r.2.mem ((c.tc : Thread Cert.Comb0KIdeal.nD Cert.Comb0KIdeal.τ).loc Cert.Comb0KIdeal.main_v6_0) = v0 c
          ∧ r.2.mem ((c.tc : Thread Cert.Comb0KIdeal.nD Cert.Comb0KIdeal.τ).loc Cert.Comb0KIdeal.main_v6_1) = v1 c
          ∧ r.2.mem ((c.tc : Thread Cert.Comb0KIdeal.nD Cert.Comb0KIdeal.τ).loc Cert.Comb0KIdeal.main_v6_2) = v2 c
          ∧ r.2.mem ((c.tc : Thread Cert.Comb0KIdeal.nD Cert.Comb0KIdeal.τ).loc Cert.Comb0KIdeal.main_v6_3) = v3 c
          ∧ r.2.mem ((c.tc : Thread Cert.Comb0KIdeal.nD Cert.Comb0KIdeal.τ).loc Cert.Comb0KIdeal.main_v6_4) = v4 c
          ∧ r.2.mem ((c.tc : Thread Cert.Comb0KIdeal.nD Cert.Comb0KIdeal.τ).loc Cert.Comb0KIdeal.main_arg0) = m ((c.tc : Thread Cert.Comb0KIdeal.nD Cert.Comb0KIdeal.τ).loc Cert.Comb0KIdeal.main_arg0)
          ∧ r.2.mem ((c.tc : Thread Cert.Comb0KIdeal.nD Cert.Comb0KIdeal.τ).loc Cert.Comb0KIdeal.main_arg1) = m ((c.tc : Thread Cert.Comb0KIdeal.nD Cert.Comb0KIdeal.τ).loc Cert.Comb0KIdeal.main_arg1)
          ∧ r.2.mem ((c.tc : Thread Cert.Comb0KIdeal.nD Cert.Comb0KIdeal.τ).loc Cert.Comb0KIdeal.main_arg2) = m ((c.tc : Thread Cert.Comb0KIdeal.nD Cert.Comb0KIdeal.τ).loc Cert.Comb0KIdeal.main_arg2)
          ∧ r.2.mem ((c.tc : Thread Cert.Comb0KIdeal.nD Cert.Comb0KIdeal.τ).loc Cert.Comb0KIdeal.main_arg3) = m ((c.tc : Thread Cert.Comb0KIdeal.nD Cert.Comb0KIdeal.τ).loc Cert.Comb0KIdeal.main_arg3)
          ∧ r.2.mem ((c.tc : Thread Cert.Comb0KIdeal.nD Cert.Comb0KIdeal.τ).loc Cert.Comb0KIdeal.main_arg4) = m ((c.tc : Thread Cert.Comb0KIdeal.nD Cert.Comb0KIdeal.τ).loc Cert.Comb0KIdeal.main_arg4)
          ∧ r.2.mem ((c.tc : Thread Cert.Comb0KIdeal.nD Cert.Comb0KIdeal.τ).loc Cert.Comb0KIdeal.main_arg5) = m ((c.tc : Thread Cert.Comb0KIdeal.nD Cert.Comb0KIdeal.τ).loc Cert.Comb0KIdeal.main_arg5)
          ∧ r.2.mem ((c.tc : Thread Cert.Comb0KIdeal.nD Cert.Comb0KIdeal.τ).loc Cert.Comb0KIdeal.main_arg6) = m ((c.tc : Thread Cert.Comb0KIdeal.nD Cert.Comb0KIdeal.τ).loc Cert.Comb0KIdeal.main_arg6)
          ∧ r.2.mem ((c.tc : Thread Cert.Comb0KIdeal.nD Cert.Comb0KIdeal.τ).loc Cert.Comb0KIdeal.main_arg7) = m ((c.tc : Thread Cert.Comb0KIdeal.nD Cert.Comb0KIdeal.τ).loc Cert.Comb0KIdeal.main_arg7)
          ∧ r.2.mem ((c.tc : Thread Cert.Comb0KIdeal.nD Cert.Comb0KIdeal.τ).loc Cert.Comb0KIdeal.main_arg8) = m ((c.tc : Thread Cert.Comb0KIdeal.nD Cert.Comb0KIdeal.τ).loc Cert.Comb0KIdeal.main_arg8))
      ∧ θ_run (Cert.Comb0RIdeal.defs (F := Ideal)) (onTc (τ := Cert.Comb0RIdeal.τ) (Cert.Comb0RIdeal.main (F := Ideal))) ⟨m', fun _ => 0, g'⟩ (fun r => ∀ c : Dev Cert.Comb0RIdeal.nD,
          r.2.mem ((c.tc : Thread Cert.Comb0RIdeal.nD Cert.Comb0RIdeal.τ).loc Cert.Comb0RIdeal.main_v79) = v0 c
          ∧ r.2.mem ((c.tc : Thread Cert.Comb0RIdeal.nD Cert.Comb0RIdeal.τ).loc Cert.Comb0RIdeal.main_v91) = v1 c
          ∧ r.2.mem ((c.tc : Thread Cert.Comb0RIdeal.nD Cert.Comb0RIdeal.τ).loc Cert.Comb0RIdeal.main_v77) = v2 c
          ∧ r.2.mem ((c.tc : Thread Cert.Comb0RIdeal.nD Cert.Comb0RIdeal.τ).loc Cert.Comb0RIdeal.main_v53) = v3 c
          ∧ r.2.mem ((c.tc : Thread Cert.Comb0RIdeal.nD Cert.Comb0RIdeal.τ).loc Cert.Comb0RIdeal.main_v92) = v4 c
          ∧ r.2.mem ((c.tc : Thread Cert.Comb0RIdeal.nD Cert.Comb0RIdeal.τ).loc Cert.Comb0RIdeal.main_arg0) = m' ((c.tc : Thread Cert.Comb0RIdeal.nD Cert.Comb0RIdeal.τ).loc Cert.Comb0RIdeal.main_arg0)
          ∧ r.2.mem ((c.tc : Thread Cert.Comb0RIdeal.nD Cert.Comb0RIdeal.τ).loc Cert.Comb0RIdeal.main_arg1) = m' ((c.tc : Thread Cert.Comb0RIdeal.nD Cert.Comb0RIdeal.τ).loc Cert.Comb0RIdeal.main_arg1)
          ∧ r.2.mem ((c.tc : Thread Cert.Comb0RIdeal.nD Cert.Comb0RIdeal.τ).loc Cert.Comb0RIdeal.main_arg2) = m' ((c.tc : Thread Cert.Comb0RIdeal.nD Cert.Comb0RIdeal.τ).loc Cert.Comb0RIdeal.main_arg2)
          ∧ r.2.mem ((c.tc : Thread Cert.Comb0RIdeal.nD Cert.Comb0RIdeal.τ).loc Cert.Comb0RIdeal.main_arg3) = m' ((c.tc : Thread Cert.Comb0RIdeal.nD Cert.Comb0RIdeal.τ).loc Cert.Comb0RIdeal.main_arg3)
          ∧ r.2.mem ((c.tc : Thread Cert.Comb0RIdeal.nD Cert.Comb0RIdeal.τ).loc Cert.Comb0RIdeal.main_arg4) = m' ((c.tc : Thread Cert.Comb0RIdeal.nD Cert.Comb0RIdeal.τ).loc Cert.Comb0RIdeal.main_arg4)
          ∧ r.2.mem ((c.tc : Thread Cert.Comb0RIdeal.nD Cert.Comb0RIdeal.τ).loc Cert.Comb0RIdeal.main_arg5) = m' ((c.tc : Thread Cert.Comb0RIdeal.nD Cert.Comb0RIdeal.τ).loc Cert.Comb0RIdeal.main_arg5)
          ∧ r.2.mem ((c.tc : Thread Cert.Comb0RIdeal.nD Cert.Comb0RIdeal.τ).loc Cert.Comb0RIdeal.main_arg6) = m' ((c.tc : Thread Cert.Comb0RIdeal.nD Cert.Comb0RIdeal.τ).loc Cert.Comb0RIdeal.main_arg6)
          ∧ r.2.mem ((c.tc : Thread Cert.Comb0RIdeal.nD Cert.Comb0RIdeal.τ).loc Cert.Comb0RIdeal.main_arg7) = m' ((c.tc : Thread Cert.Comb0RIdeal.nD Cert.Comb0RIdeal.τ).loc Cert.Comb0RIdeal.main_arg7)
          ∧ r.2.mem ((c.tc : Thread Cert.Comb0RIdeal.nD Cert.Comb0RIdeal.τ).loc Cert.Comb0RIdeal.main_arg8) = m' ((c.tc : Thread Cert.Comb0RIdeal.nD Cert.Comb0RIdeal.τ).loc Cert.Comb0RIdeal.main_arg8))

def preserves_ConvfK_ConvfKIdeal : Prop :=
  True

def algebraic_ConvfKIdeal_ConvfRIdeal [hConvfKIdeal : Cert.ConvfKIdeal.Facts] [hConvfRIdeal : Cert.ConvfRIdeal.Facts] : Prop :=
  ∀ (m : (ℓ : Loc Cert.ConvfKIdeal.nD Cert.ConvfKIdeal.τ Cert.ConvfKIdeal.sig) → Buf (Elt Ideal) ℓ) (g : Dev Cert.ConvfKIdeal.nD → PrngReg)
    (m' : (ℓ : Loc Cert.ConvfRIdeal.nD Cert.ConvfRIdeal.τ Cert.ConvfRIdeal.sig) → Buf (Elt Ideal) ℓ) (g' : Dev Cert.ConvfRIdeal.nD → PrngReg), Pre_ConvfKIdeal m →
    (∀ c : Dev Cert.ConvfKIdeal.nD,
      m' ((c.tc : Thread Cert.ConvfRIdeal.nD Cert.ConvfRIdeal.τ).loc Cert.ConvfRIdeal.main_arg0) = m ((c.tc : Thread Cert.ConvfKIdeal.nD Cert.ConvfKIdeal.τ).loc Cert.ConvfKIdeal.main_arg0)
      ∧ m' ((c.tc : Thread Cert.ConvfRIdeal.nD Cert.ConvfRIdeal.τ).loc Cert.ConvfRIdeal.main_arg1) = m ((c.tc : Thread Cert.ConvfKIdeal.nD Cert.ConvfKIdeal.τ).loc Cert.ConvfKIdeal.main_arg1)
      ∧ m' ((c.tc : Thread Cert.ConvfRIdeal.nD Cert.ConvfRIdeal.τ).loc Cert.ConvfRIdeal.main_arg2) = m ((c.tc : Thread Cert.ConvfKIdeal.nD Cert.ConvfKIdeal.τ).loc Cert.ConvfKIdeal.main_arg2)) →
    ∃ (v0 : (c : Dev Cert.ConvfKIdeal.nD) → Buf (Elt Ideal) ((c.tc : Thread Cert.ConvfKIdeal.nD Cert.ConvfKIdeal.τ).loc Cert.ConvfKIdeal.main_v1)),
      θ_run (Cert.ConvfKIdeal.defs (F := Ideal)) (onTc (τ := Cert.ConvfKIdeal.τ) (Cert.ConvfKIdeal.main (F := Ideal))) ⟨m, fun _ => 0, g⟩ (fun r => ∀ c : Dev Cert.ConvfKIdeal.nD,
          r.2.mem ((c.tc : Thread Cert.ConvfKIdeal.nD Cert.ConvfKIdeal.τ).loc Cert.ConvfKIdeal.main_v1) = v0 c
          ∧ r.2.mem ((c.tc : Thread Cert.ConvfKIdeal.nD Cert.ConvfKIdeal.τ).loc Cert.ConvfKIdeal.main_arg0) = m ((c.tc : Thread Cert.ConvfKIdeal.nD Cert.ConvfKIdeal.τ).loc Cert.ConvfKIdeal.main_arg0)
          ∧ r.2.mem ((c.tc : Thread Cert.ConvfKIdeal.nD Cert.ConvfKIdeal.τ).loc Cert.ConvfKIdeal.main_arg1) = m ((c.tc : Thread Cert.ConvfKIdeal.nD Cert.ConvfKIdeal.τ).loc Cert.ConvfKIdeal.main_arg1)
          ∧ r.2.mem ((c.tc : Thread Cert.ConvfKIdeal.nD Cert.ConvfKIdeal.τ).loc Cert.ConvfKIdeal.main_arg2) = m ((c.tc : Thread Cert.ConvfKIdeal.nD Cert.ConvfKIdeal.τ).loc Cert.ConvfKIdeal.main_arg2))
      ∧ θ_run (Cert.ConvfRIdeal.defs (F := Ideal)) (onTc (τ := Cert.ConvfRIdeal.τ) (Cert.ConvfRIdeal.main (F := Ideal))) ⟨m', fun _ => 0, g'⟩ (fun r => ∀ c : Dev Cert.ConvfRIdeal.nD,
          r.2.mem ((c.tc : Thread Cert.ConvfRIdeal.nD Cert.ConvfRIdeal.τ).loc Cert.ConvfRIdeal.main_v36) = v0 c
          ∧ r.2.mem ((c.tc : Thread Cert.ConvfRIdeal.nD Cert.ConvfRIdeal.τ).loc Cert.ConvfRIdeal.main_arg0) = m' ((c.tc : Thread Cert.ConvfRIdeal.nD Cert.ConvfRIdeal.τ).loc Cert.ConvfRIdeal.main_arg0)
          ∧ r.2.mem ((c.tc : Thread Cert.ConvfRIdeal.nD Cert.ConvfRIdeal.τ).loc Cert.ConvfRIdeal.main_arg1) = m' ((c.tc : Thread Cert.ConvfRIdeal.nD Cert.ConvfRIdeal.τ).loc Cert.ConvfRIdeal.main_arg1)
          ∧ r.2.mem ((c.tc : Thread Cert.ConvfRIdeal.nD Cert.ConvfRIdeal.τ).loc Cert.ConvfRIdeal.main_arg2) = m' ((c.tc : Thread Cert.ConvfRIdeal.nD Cert.ConvfRIdeal.τ).loc Cert.ConvfRIdeal.main_arg2))

def preserves_GlogK_GlogKIdeal : Prop :=
  True

def algebraic_GlogKIdeal_GlogRIdeal [hGlogKIdeal : Cert.GlogKIdeal.Facts] [hGlogRIdeal : Cert.GlogRIdeal.Facts] : Prop :=
  ∀ (m : (ℓ : Loc Cert.GlogKIdeal.nD Cert.GlogKIdeal.τ Cert.GlogKIdeal.sig) → Buf (Elt Ideal) ℓ) (g : Dev Cert.GlogKIdeal.nD → PrngReg)
    (m' : (ℓ : Loc Cert.GlogRIdeal.nD Cert.GlogRIdeal.τ Cert.GlogRIdeal.sig) → Buf (Elt Ideal) ℓ) (g' : Dev Cert.GlogRIdeal.nD → PrngReg), Pre_GlogKIdeal m →
    (∀ c : Dev Cert.GlogKIdeal.nD,
      m' ((c.tc : Thread Cert.GlogRIdeal.nD Cert.GlogRIdeal.τ).loc Cert.GlogRIdeal.main_arg0) = m ((c.tc : Thread Cert.GlogKIdeal.nD Cert.GlogKIdeal.τ).loc Cert.GlogKIdeal.main_arg0)
      ∧ m' ((c.tc : Thread Cert.GlogRIdeal.nD Cert.GlogRIdeal.τ).loc Cert.GlogRIdeal.main_arg1) = m ((c.tc : Thread Cert.GlogKIdeal.nD Cert.GlogKIdeal.τ).loc Cert.GlogKIdeal.main_arg1)
      ∧ m' ((c.tc : Thread Cert.GlogRIdeal.nD Cert.GlogRIdeal.τ).loc Cert.GlogRIdeal.main_arg2) = m ((c.tc : Thread Cert.GlogKIdeal.nD Cert.GlogKIdeal.τ).loc Cert.GlogKIdeal.main_arg2)) →
    ∃ (v0 : (c : Dev Cert.GlogKIdeal.nD) → Buf (Elt Ideal) ((c.tc : Thread Cert.GlogKIdeal.nD Cert.GlogKIdeal.τ).loc Cert.GlogKIdeal.main_v15_0)) (v1 : (c : Dev Cert.GlogKIdeal.nD) → Buf (Elt Ideal) ((c.tc : Thread Cert.GlogKIdeal.nD Cert.GlogKIdeal.τ).loc Cert.GlogKIdeal.main_v15_1)),
      θ_run (Cert.GlogKIdeal.defs (F := Ideal)) (onTc (τ := Cert.GlogKIdeal.τ) (Cert.GlogKIdeal.main (F := Ideal))) ⟨m, fun _ => 0, g⟩ (fun r => ∀ c : Dev Cert.GlogKIdeal.nD,
          r.2.mem ((c.tc : Thread Cert.GlogKIdeal.nD Cert.GlogKIdeal.τ).loc Cert.GlogKIdeal.main_v15_0) = v0 c
          ∧ r.2.mem ((c.tc : Thread Cert.GlogKIdeal.nD Cert.GlogKIdeal.τ).loc Cert.GlogKIdeal.main_v15_1) = v1 c
          ∧ r.2.mem ((c.tc : Thread Cert.GlogKIdeal.nD Cert.GlogKIdeal.τ).loc Cert.GlogKIdeal.main_arg0) = m ((c.tc : Thread Cert.GlogKIdeal.nD Cert.GlogKIdeal.τ).loc Cert.GlogKIdeal.main_arg0)
          ∧ r.2.mem ((c.tc : Thread Cert.GlogKIdeal.nD Cert.GlogKIdeal.τ).loc Cert.GlogKIdeal.main_arg1) = m ((c.tc : Thread Cert.GlogKIdeal.nD Cert.GlogKIdeal.τ).loc Cert.GlogKIdeal.main_arg1)
          ∧ r.2.mem ((c.tc : Thread Cert.GlogKIdeal.nD Cert.GlogKIdeal.τ).loc Cert.GlogKIdeal.main_arg2) = m ((c.tc : Thread Cert.GlogKIdeal.nD Cert.GlogKIdeal.τ).loc Cert.GlogKIdeal.main_arg2))
      ∧ θ_run (Cert.GlogRIdeal.defs (F := Ideal)) (onTc (τ := Cert.GlogRIdeal.τ) (Cert.GlogRIdeal.main (F := Ideal))) ⟨m', fun _ => 0, g'⟩ (fun r => ∀ c : Dev Cert.GlogRIdeal.nD,
          r.2.mem ((c.tc : Thread Cert.GlogRIdeal.nD Cert.GlogRIdeal.τ).loc Cert.GlogRIdeal.main_v20) = v0 c
          ∧ r.2.mem ((c.tc : Thread Cert.GlogRIdeal.nD Cert.GlogRIdeal.τ).loc Cert.GlogRIdeal.main_v23) = v1 c
          ∧ r.2.mem ((c.tc : Thread Cert.GlogRIdeal.nD Cert.GlogRIdeal.τ).loc Cert.GlogRIdeal.main_arg0) = m' ((c.tc : Thread Cert.GlogRIdeal.nD Cert.GlogRIdeal.τ).loc Cert.GlogRIdeal.main_arg0)
          ∧ r.2.mem ((c.tc : Thread Cert.GlogRIdeal.nD Cert.GlogRIdeal.τ).loc Cert.GlogRIdeal.main_arg1) = m' ((c.tc : Thread Cert.GlogRIdeal.nD Cert.GlogRIdeal.τ).loc Cert.GlogRIdeal.main_arg1)
          ∧ r.2.mem ((c.tc : Thread Cert.GlogRIdeal.nD Cert.GlogRIdeal.τ).loc Cert.GlogRIdeal.main_arg2) = m' ((c.tc : Thread Cert.GlogRIdeal.nD Cert.GlogRIdeal.τ).loc Cert.GlogRIdeal.main_arg2))

def preserves_NmmK_NmmKIdeal : Prop :=
  True

def algebraic_NmmKIdeal_NmmRIdeal [hNmmKIdeal : Cert.NmmKIdeal.Facts] [hNmmRIdeal : Cert.NmmRIdeal.Facts] : Prop :=
  ∀ (m : (ℓ : Loc Cert.NmmKIdeal.nD Cert.NmmKIdeal.τ Cert.NmmKIdeal.sig) → Buf (Elt Ideal) ℓ) (g : Dev Cert.NmmKIdeal.nD → PrngReg)
    (m' : (ℓ : Loc Cert.NmmRIdeal.nD Cert.NmmRIdeal.τ Cert.NmmRIdeal.sig) → Buf (Elt Ideal) ℓ) (g' : Dev Cert.NmmRIdeal.nD → PrngReg), Pre_NmmKIdeal m →
    (∀ c : Dev Cert.NmmKIdeal.nD,
      m' ((c.tc : Thread Cert.NmmRIdeal.nD Cert.NmmRIdeal.τ).loc Cert.NmmRIdeal.main_arg0) = m ((c.tc : Thread Cert.NmmKIdeal.nD Cert.NmmKIdeal.τ).loc Cert.NmmKIdeal.main_arg0)
      ∧ m' ((c.tc : Thread Cert.NmmRIdeal.nD Cert.NmmRIdeal.τ).loc Cert.NmmRIdeal.main_arg1) = m ((c.tc : Thread Cert.NmmKIdeal.nD Cert.NmmKIdeal.τ).loc Cert.NmmKIdeal.main_arg1)
      ∧ m' ((c.tc : Thread Cert.NmmRIdeal.nD Cert.NmmRIdeal.τ).loc Cert.NmmRIdeal.main_arg2) = m ((c.tc : Thread Cert.NmmKIdeal.nD Cert.NmmKIdeal.τ).loc Cert.NmmKIdeal.main_arg2)) →
    ∃ (v0 : (c : Dev Cert.NmmKIdeal.nD) → Buf (Elt Ideal) ((c.tc : Thread Cert.NmmKIdeal.nD Cert.NmmKIdeal.τ).loc Cert.NmmKIdeal.main_v2_0)) (v1 : (c : Dev Cert.NmmKIdeal.nD) → Buf (Elt Ideal) ((c.tc : Thread Cert.NmmKIdeal.nD Cert.NmmKIdeal.τ).loc Cert.NmmKIdeal.main_v2_1)),
      θ_run (Cert.NmmKIdeal.defs (F := Ideal)) (onTc (τ := Cert.NmmKIdeal.τ) (Cert.NmmKIdeal.main (F := Ideal))) ⟨m, fun _ => 0, g⟩ (fun r => ∀ c : Dev Cert.NmmKIdeal.nD,
          r.2.mem ((c.tc : Thread Cert.NmmKIdeal.nD Cert.NmmKIdeal.τ).loc Cert.NmmKIdeal.main_v2_0) = v0 c
          ∧ r.2.mem ((c.tc : Thread Cert.NmmKIdeal.nD Cert.NmmKIdeal.τ).loc Cert.NmmKIdeal.main_v2_1) = v1 c
          ∧ r.2.mem ((c.tc : Thread Cert.NmmKIdeal.nD Cert.NmmKIdeal.τ).loc Cert.NmmKIdeal.main_arg0) = m ((c.tc : Thread Cert.NmmKIdeal.nD Cert.NmmKIdeal.τ).loc Cert.NmmKIdeal.main_arg0)
          ∧ r.2.mem ((c.tc : Thread Cert.NmmKIdeal.nD Cert.NmmKIdeal.τ).loc Cert.NmmKIdeal.main_arg1) = m ((c.tc : Thread Cert.NmmKIdeal.nD Cert.NmmKIdeal.τ).loc Cert.NmmKIdeal.main_arg1)
          ∧ r.2.mem ((c.tc : Thread Cert.NmmKIdeal.nD Cert.NmmKIdeal.τ).loc Cert.NmmKIdeal.main_arg2) = m ((c.tc : Thread Cert.NmmKIdeal.nD Cert.NmmKIdeal.τ).loc Cert.NmmKIdeal.main_arg2))
      ∧ θ_run (Cert.NmmRIdeal.defs (F := Ideal)) (onTc (τ := Cert.NmmRIdeal.τ) (Cert.NmmRIdeal.main (F := Ideal))) ⟨m', fun _ => 0, g'⟩ (fun r => ∀ c : Dev Cert.NmmRIdeal.nD,
          r.2.mem ((c.tc : Thread Cert.NmmRIdeal.nD Cert.NmmRIdeal.τ).loc Cert.NmmRIdeal.main_v13) = v0 c
          ∧ r.2.mem ((c.tc : Thread Cert.NmmRIdeal.nD Cert.NmmRIdeal.τ).loc Cert.NmmRIdeal.main_v14) = v1 c
          ∧ r.2.mem ((c.tc : Thread Cert.NmmRIdeal.nD Cert.NmmRIdeal.τ).loc Cert.NmmRIdeal.main_arg0) = m' ((c.tc : Thread Cert.NmmRIdeal.nD Cert.NmmRIdeal.τ).loc Cert.NmmRIdeal.main_arg0)
          ∧ r.2.mem ((c.tc : Thread Cert.NmmRIdeal.nD Cert.NmmRIdeal.τ).loc Cert.NmmRIdeal.main_arg1) = m' ((c.tc : Thread Cert.NmmRIdeal.nD Cert.NmmRIdeal.τ).loc Cert.NmmRIdeal.main_arg1)
          ∧ r.2.mem ((c.tc : Thread Cert.NmmRIdeal.nD Cert.NmmRIdeal.τ).loc Cert.NmmRIdeal.main_arg2) = m' ((c.tc : Thread Cert.NmmRIdeal.nD Cert.NmmRIdeal.τ).loc Cert.NmmRIdeal.main_arg2))

def preserves_Mix1K_Mix1KIdeal : Prop :=
  True

def algebraic_Mix1KIdeal_Mix1RIdeal [hMix1KIdeal : Cert.Mix1KIdeal.Facts] [hMix1RIdeal : Cert.Mix1RIdeal.Facts] : Prop :=
  ∀ (m : (ℓ : Loc Cert.Mix1KIdeal.nD Cert.Mix1KIdeal.τ Cert.Mix1KIdeal.sig) → Buf (Elt Ideal) ℓ) (g : Dev Cert.Mix1KIdeal.nD → PrngReg)
    (m' : (ℓ : Loc Cert.Mix1RIdeal.nD Cert.Mix1RIdeal.τ Cert.Mix1RIdeal.sig) → Buf (Elt Ideal) ℓ) (g' : Dev Cert.Mix1RIdeal.nD → PrngReg), Pre_Mix1KIdeal m →
    (∀ c : Dev Cert.Mix1KIdeal.nD,
      m' ((c.tc : Thread Cert.Mix1RIdeal.nD Cert.Mix1RIdeal.τ).loc Cert.Mix1RIdeal.main_arg0) = m ((c.tc : Thread Cert.Mix1KIdeal.nD Cert.Mix1KIdeal.τ).loc Cert.Mix1KIdeal.main_arg0)
      ∧ m' ((c.tc : Thread Cert.Mix1RIdeal.nD Cert.Mix1RIdeal.τ).loc Cert.Mix1RIdeal.main_arg1) = m ((c.tc : Thread Cert.Mix1KIdeal.nD Cert.Mix1KIdeal.τ).loc Cert.Mix1KIdeal.main_arg1)
      ∧ m' ((c.tc : Thread Cert.Mix1RIdeal.nD Cert.Mix1RIdeal.τ).loc Cert.Mix1RIdeal.main_arg2) = m ((c.tc : Thread Cert.Mix1KIdeal.nD Cert.Mix1KIdeal.τ).loc Cert.Mix1KIdeal.main_arg2)
      ∧ m' ((c.tc : Thread Cert.Mix1RIdeal.nD Cert.Mix1RIdeal.τ).loc Cert.Mix1RIdeal.main_arg3) = m ((c.tc : Thread Cert.Mix1KIdeal.nD Cert.Mix1KIdeal.τ).loc Cert.Mix1KIdeal.main_arg3)) →
    ∃ (v0 : (c : Dev Cert.Mix1KIdeal.nD) → Buf (Elt Ideal) ((c.tc : Thread Cert.Mix1KIdeal.nD Cert.Mix1KIdeal.τ).loc Cert.Mix1KIdeal.main_v3)),
      θ_run (Cert.Mix1KIdeal.defs (F := Ideal)) (onTc (τ := Cert.Mix1KIdeal.τ) (Cert.Mix1KIdeal.main (F := Ideal))) ⟨m, fun _ => 0, g⟩ (fun r => ∀ c : Dev Cert.Mix1KIdeal.nD,
          r.2.mem ((c.tc : Thread Cert.Mix1KIdeal.nD Cert.Mix1KIdeal.τ).loc Cert.Mix1KIdeal.main_v3) = v0 c
          ∧ r.2.mem ((c.tc : Thread Cert.Mix1KIdeal.nD Cert.Mix1KIdeal.τ).loc Cert.Mix1KIdeal.main_arg0) = m ((c.tc : Thread Cert.Mix1KIdeal.nD Cert.Mix1KIdeal.τ).loc Cert.Mix1KIdeal.main_arg0)
          ∧ r.2.mem ((c.tc : Thread Cert.Mix1KIdeal.nD Cert.Mix1KIdeal.τ).loc Cert.Mix1KIdeal.main_arg1) = m ((c.tc : Thread Cert.Mix1KIdeal.nD Cert.Mix1KIdeal.τ).loc Cert.Mix1KIdeal.main_arg1)
          ∧ r.2.mem ((c.tc : Thread Cert.Mix1KIdeal.nD Cert.Mix1KIdeal.τ).loc Cert.Mix1KIdeal.main_arg2) = m ((c.tc : Thread Cert.Mix1KIdeal.nD Cert.Mix1KIdeal.τ).loc Cert.Mix1KIdeal.main_arg2)
          ∧ r.2.mem ((c.tc : Thread Cert.Mix1KIdeal.nD Cert.Mix1KIdeal.τ).loc Cert.Mix1KIdeal.main_arg3) = m ((c.tc : Thread Cert.Mix1KIdeal.nD Cert.Mix1KIdeal.τ).loc Cert.Mix1KIdeal.main_arg3))
      ∧ θ_run (Cert.Mix1RIdeal.defs (F := Ideal)) (onTc (τ := Cert.Mix1RIdeal.τ) (Cert.Mix1RIdeal.main (F := Ideal))) ⟨m', fun _ => 0, g'⟩ (fun r => ∀ c : Dev Cert.Mix1RIdeal.nD,
          r.2.mem ((c.tc : Thread Cert.Mix1RIdeal.nD Cert.Mix1RIdeal.τ).loc Cert.Mix1RIdeal.main_v20) = v0 c
          ∧ r.2.mem ((c.tc : Thread Cert.Mix1RIdeal.nD Cert.Mix1RIdeal.τ).loc Cert.Mix1RIdeal.main_arg0) = m' ((c.tc : Thread Cert.Mix1RIdeal.nD Cert.Mix1RIdeal.τ).loc Cert.Mix1RIdeal.main_arg0)
          ∧ r.2.mem ((c.tc : Thread Cert.Mix1RIdeal.nD Cert.Mix1RIdeal.τ).loc Cert.Mix1RIdeal.main_arg1) = m' ((c.tc : Thread Cert.Mix1RIdeal.nD Cert.Mix1RIdeal.τ).loc Cert.Mix1RIdeal.main_arg1)
          ∧ r.2.mem ((c.tc : Thread Cert.Mix1RIdeal.nD Cert.Mix1RIdeal.τ).loc Cert.Mix1RIdeal.main_arg2) = m' ((c.tc : Thread Cert.Mix1RIdeal.nD Cert.Mix1RIdeal.τ).loc Cert.Mix1RIdeal.main_arg2)
          ∧ r.2.mem ((c.tc : Thread Cert.Mix1RIdeal.nD Cert.Mix1RIdeal.τ).loc Cert.Mix1RIdeal.main_arg3) = m' ((c.tc : Thread Cert.Mix1RIdeal.nD Cert.Mix1RIdeal.τ).loc Cert.Mix1RIdeal.main_arg3))

def preserves_Mix0K_Mix0KIdeal : Prop :=
  True

def algebraic_Mix0KIdeal_Mix0RIdeal [hMix0KIdeal : Cert.Mix0KIdeal.Facts] [hMix0RIdeal : Cert.Mix0RIdeal.Facts] : Prop :=
  ∀ (m : (ℓ : Loc Cert.Mix0KIdeal.nD Cert.Mix0KIdeal.τ Cert.Mix0KIdeal.sig) → Buf (Elt Ideal) ℓ) (g : Dev Cert.Mix0KIdeal.nD → PrngReg)
    (m' : (ℓ : Loc Cert.Mix0RIdeal.nD Cert.Mix0RIdeal.τ Cert.Mix0RIdeal.sig) → Buf (Elt Ideal) ℓ) (g' : Dev Cert.Mix0RIdeal.nD → PrngReg), Pre_Mix0KIdeal m →
    (∀ c : Dev Cert.Mix0KIdeal.nD,
      m' ((c.tc : Thread Cert.Mix0RIdeal.nD Cert.Mix0RIdeal.τ).loc Cert.Mix0RIdeal.main_arg0) = m ((c.tc : Thread Cert.Mix0KIdeal.nD Cert.Mix0KIdeal.τ).loc Cert.Mix0KIdeal.main_arg0)
      ∧ m' ((c.tc : Thread Cert.Mix0RIdeal.nD Cert.Mix0RIdeal.τ).loc Cert.Mix0RIdeal.main_arg1) = m ((c.tc : Thread Cert.Mix0KIdeal.nD Cert.Mix0KIdeal.τ).loc Cert.Mix0KIdeal.main_arg1)
      ∧ m' ((c.tc : Thread Cert.Mix0RIdeal.nD Cert.Mix0RIdeal.τ).loc Cert.Mix0RIdeal.main_arg2) = m ((c.tc : Thread Cert.Mix0KIdeal.nD Cert.Mix0KIdeal.τ).loc Cert.Mix0KIdeal.main_arg2)
      ∧ m' ((c.tc : Thread Cert.Mix0RIdeal.nD Cert.Mix0RIdeal.τ).loc Cert.Mix0RIdeal.main_arg3) = m ((c.tc : Thread Cert.Mix0KIdeal.nD Cert.Mix0KIdeal.τ).loc Cert.Mix0KIdeal.main_arg3)
      ∧ m' ((c.tc : Thread Cert.Mix0RIdeal.nD Cert.Mix0RIdeal.τ).loc Cert.Mix0RIdeal.main_arg4) = m ((c.tc : Thread Cert.Mix0KIdeal.nD Cert.Mix0KIdeal.τ).loc Cert.Mix0KIdeal.main_arg4)
      ∧ m' ((c.tc : Thread Cert.Mix0RIdeal.nD Cert.Mix0RIdeal.τ).loc Cert.Mix0RIdeal.main_arg5) = m ((c.tc : Thread Cert.Mix0KIdeal.nD Cert.Mix0KIdeal.τ).loc Cert.Mix0KIdeal.main_arg5)
      ∧ m' ((c.tc : Thread Cert.Mix0RIdeal.nD Cert.Mix0RIdeal.τ).loc Cert.Mix0RIdeal.main_arg6) = m ((c.tc : Thread Cert.Mix0KIdeal.nD Cert.Mix0KIdeal.τ).loc Cert.Mix0KIdeal.main_arg6)) →
    ∃ (v0 : (c : Dev Cert.Mix0KIdeal.nD) → Buf (Elt Ideal) ((c.tc : Thread Cert.Mix0KIdeal.nD Cert.Mix0KIdeal.τ).loc Cert.Mix0KIdeal.main_v4)),
      θ_run (Cert.Mix0KIdeal.defs (F := Ideal)) (onTc (τ := Cert.Mix0KIdeal.τ) (Cert.Mix0KIdeal.main (F := Ideal))) ⟨m, fun _ => 0, g⟩ (fun r => ∀ c : Dev Cert.Mix0KIdeal.nD,
          r.2.mem ((c.tc : Thread Cert.Mix0KIdeal.nD Cert.Mix0KIdeal.τ).loc Cert.Mix0KIdeal.main_v4) = v0 c
          ∧ r.2.mem ((c.tc : Thread Cert.Mix0KIdeal.nD Cert.Mix0KIdeal.τ).loc Cert.Mix0KIdeal.main_arg0) = m ((c.tc : Thread Cert.Mix0KIdeal.nD Cert.Mix0KIdeal.τ).loc Cert.Mix0KIdeal.main_arg0)
          ∧ r.2.mem ((c.tc : Thread Cert.Mix0KIdeal.nD Cert.Mix0KIdeal.τ).loc Cert.Mix0KIdeal.main_arg1) = m ((c.tc : Thread Cert.Mix0KIdeal.nD Cert.Mix0KIdeal.τ).loc Cert.Mix0KIdeal.main_arg1)
          ∧ r.2.mem ((c.tc : Thread Cert.Mix0KIdeal.nD Cert.Mix0KIdeal.τ).loc Cert.Mix0KIdeal.main_arg2) = m ((c.tc : Thread Cert.Mix0KIdeal.nD Cert.Mix0KIdeal.τ).loc Cert.Mix0KIdeal.main_arg2)
          ∧ r.2.mem ((c.tc : Thread Cert.Mix0KIdeal.nD Cert.Mix0KIdeal.τ).loc Cert.Mix0KIdeal.main_arg3) = m ((c.tc : Thread Cert.Mix0KIdeal.nD Cert.Mix0KIdeal.τ).loc Cert.Mix0KIdeal.main_arg3)
          ∧ r.2.mem ((c.tc : Thread Cert.Mix0KIdeal.nD Cert.Mix0KIdeal.τ).loc Cert.Mix0KIdeal.main_arg4) = m ((c.tc : Thread Cert.Mix0KIdeal.nD Cert.Mix0KIdeal.τ).loc Cert.Mix0KIdeal.main_arg4)
          ∧ r.2.mem ((c.tc : Thread Cert.Mix0KIdeal.nD Cert.Mix0KIdeal.τ).loc Cert.Mix0KIdeal.main_arg5) = m ((c.tc : Thread Cert.Mix0KIdeal.nD Cert.Mix0KIdeal.τ).loc Cert.Mix0KIdeal.main_arg5)
          ∧ r.2.mem ((c.tc : Thread Cert.Mix0KIdeal.nD Cert.Mix0KIdeal.τ).loc Cert.Mix0KIdeal.main_arg6) = m ((c.tc : Thread Cert.Mix0KIdeal.nD Cert.Mix0KIdeal.τ).loc Cert.Mix0KIdeal.main_arg6))
      ∧ θ_run (Cert.Mix0RIdeal.defs (F := Ideal)) (onTc (τ := Cert.Mix0RIdeal.τ) (Cert.Mix0RIdeal.main (F := Ideal))) ⟨m', fun _ => 0, g'⟩ (fun r => ∀ c : Dev Cert.Mix0RIdeal.nD,
          r.2.mem ((c.tc : Thread Cert.Mix0RIdeal.nD Cert.Mix0RIdeal.τ).loc Cert.Mix0RIdeal.main_v36) = v0 c
          ∧ r.2.mem ((c.tc : Thread Cert.Mix0RIdeal.nD Cert.Mix0RIdeal.τ).loc Cert.Mix0RIdeal.main_arg0) = m' ((c.tc : Thread Cert.Mix0RIdeal.nD Cert.Mix0RIdeal.τ).loc Cert.Mix0RIdeal.main_arg0)
          ∧ r.2.mem ((c.tc : Thread Cert.Mix0RIdeal.nD Cert.Mix0RIdeal.τ).loc Cert.Mix0RIdeal.main_arg1) = m' ((c.tc : Thread Cert.Mix0RIdeal.nD Cert.Mix0RIdeal.τ).loc Cert.Mix0RIdeal.main_arg1)
          ∧ r.2.mem ((c.tc : Thread Cert.Mix0RIdeal.nD Cert.Mix0RIdeal.τ).loc Cert.Mix0RIdeal.main_arg2) = m' ((c.tc : Thread Cert.Mix0RIdeal.nD Cert.Mix0RIdeal.τ).loc Cert.Mix0RIdeal.main_arg2)
          ∧ r.2.mem ((c.tc : Thread Cert.Mix0RIdeal.nD Cert.Mix0RIdeal.τ).loc Cert.Mix0RIdeal.main_arg3) = m' ((c.tc : Thread Cert.Mix0RIdeal.nD Cert.Mix0RIdeal.τ).loc Cert.Mix0RIdeal.main_arg3)
          ∧ r.2.mem ((c.tc : Thread Cert.Mix0RIdeal.nD Cert.Mix0RIdeal.τ).loc Cert.Mix0RIdeal.main_arg4) = m' ((c.tc : Thread Cert.Mix0RIdeal.nD Cert.Mix0RIdeal.τ).loc Cert.Mix0RIdeal.main_arg4)
          ∧ r.2.mem ((c.tc : Thread Cert.Mix0RIdeal.nD Cert.Mix0RIdeal.τ).loc Cert.Mix0RIdeal.main_arg5) = m' ((c.tc : Thread Cert.Mix0RIdeal.nD Cert.Mix0RIdeal.τ).loc Cert.Mix0RIdeal.main_arg5)
          ∧ r.2.mem ((c.tc : Thread Cert.Mix0RIdeal.nD Cert.Mix0RIdeal.τ).loc Cert.Mix0RIdeal.main_arg6) = m' ((c.tc : Thread Cert.Mix0RIdeal.nD Cert.Mix0RIdeal.τ).loc Cert.Mix0RIdeal.main_arg6))

def preserves_GlafK_GlafKIdeal : Prop :=
  True

def algebraic_GlafKIdeal_GlafRIdeal_pre_finite_glaf [hGlafKIdeal : Cert.GlafKIdeal.Facts] [hGlafRIdeal : Cert.GlafRIdeal.Facts] [hPre_finite_glaf : Cert.Pre_finite_glaf.Facts] : Prop :=
  ∀ (m : (ℓ : Loc Cert.GlafKIdeal.nD Cert.GlafKIdeal.τ Cert.GlafKIdeal.sig) → Buf (Elt Ideal) ℓ) (g : Dev Cert.GlafKIdeal.nD → PrngReg)
    (m' : (ℓ : Loc Cert.GlafRIdeal.nD Cert.GlafRIdeal.τ Cert.GlafRIdeal.sig) → Buf (Elt Ideal) ℓ) (g' : Dev Cert.GlafRIdeal.nD → PrngReg), Pre_GlafKIdeal_finite_glaf m →
    (∀ c : Dev Cert.GlafKIdeal.nD,
      m' ((c.tc : Thread Cert.GlafRIdeal.nD Cert.GlafRIdeal.τ).loc Cert.GlafRIdeal.main_arg0) = m ((c.tc : Thread Cert.GlafKIdeal.nD Cert.GlafKIdeal.τ).loc Cert.GlafKIdeal.main_arg0)
      ∧ m' ((c.tc : Thread Cert.GlafRIdeal.nD Cert.GlafRIdeal.τ).loc Cert.GlafRIdeal.main_arg1) = m ((c.tc : Thread Cert.GlafKIdeal.nD Cert.GlafKIdeal.τ).loc Cert.GlafKIdeal.main_arg1)) →
    ∃ (v0 : (c : Dev Cert.GlafKIdeal.nD) → Buf (Elt Ideal) ((c.tc : Thread Cert.GlafKIdeal.nD Cert.GlafKIdeal.τ).loc Cert.GlafKIdeal.main_v1_0)) (v1 : (c : Dev Cert.GlafKIdeal.nD) → Buf (Elt Ideal) ((c.tc : Thread Cert.GlafKIdeal.nD Cert.GlafKIdeal.τ).loc Cert.GlafKIdeal.main_v1_1)) (v2 : (c : Dev Cert.GlafKIdeal.nD) → Buf (Elt Ideal) ((c.tc : Thread Cert.GlafKIdeal.nD Cert.GlafKIdeal.τ).loc Cert.GlafKIdeal.main_v1_2)) (v3 : (c : Dev Cert.GlafKIdeal.nD) → Buf (Elt Ideal) ((c.tc : Thread Cert.GlafKIdeal.nD Cert.GlafKIdeal.τ).loc Cert.GlafKIdeal.main_v1_3)),
      θ_run (Cert.GlafKIdeal.defs (F := Ideal)) (onTc (τ := Cert.GlafKIdeal.τ) (Cert.GlafKIdeal.main (F := Ideal))) ⟨m, fun _ => 0, g⟩ (fun r => ∀ c : Dev Cert.GlafKIdeal.nD,
          r.2.mem ((c.tc : Thread Cert.GlafKIdeal.nD Cert.GlafKIdeal.τ).loc Cert.GlafKIdeal.main_v1_0) = v0 c
          ∧ r.2.mem ((c.tc : Thread Cert.GlafKIdeal.nD Cert.GlafKIdeal.τ).loc Cert.GlafKIdeal.main_v1_1) = v1 c
          ∧ r.2.mem ((c.tc : Thread Cert.GlafKIdeal.nD Cert.GlafKIdeal.τ).loc Cert.GlafKIdeal.main_v1_2) = v2 c
          ∧ r.2.mem ((c.tc : Thread Cert.GlafKIdeal.nD Cert.GlafKIdeal.τ).loc Cert.GlafKIdeal.main_v1_3) = v3 c
          ∧ r.2.mem ((c.tc : Thread Cert.GlafKIdeal.nD Cert.GlafKIdeal.τ).loc Cert.GlafKIdeal.main_arg0) = m ((c.tc : Thread Cert.GlafKIdeal.nD Cert.GlafKIdeal.τ).loc Cert.GlafKIdeal.main_arg0)
          ∧ r.2.mem ((c.tc : Thread Cert.GlafKIdeal.nD Cert.GlafKIdeal.τ).loc Cert.GlafKIdeal.main_arg1) = m ((c.tc : Thread Cert.GlafKIdeal.nD Cert.GlafKIdeal.τ).loc Cert.GlafKIdeal.main_arg1))
      ∧ θ_run (Cert.GlafRIdeal.defs (F := Ideal)) (onTc (τ := Cert.GlafRIdeal.τ) (Cert.GlafRIdeal.main (F := Ideal))) ⟨m', fun _ => 0, g'⟩ (fun r => ∀ c : Dev Cert.GlafRIdeal.nD,
          r.2.mem ((c.tc : Thread Cert.GlafRIdeal.nD Cert.GlafRIdeal.τ).loc Cert.GlafRIdeal.main_v84) = v0 c
          ∧ r.2.mem ((c.tc : Thread Cert.GlafRIdeal.nD Cert.GlafRIdeal.τ).loc Cert.GlafRIdeal.main_v89) = v1 c
          ∧ r.2.mem ((c.tc : Thread Cert.GlafRIdeal.nD Cert.GlafRIdeal.τ).loc Cert.GlafRIdeal.main_v91) = v2 c
          ∧ r.2.mem ((c.tc : Thread Cert.GlafRIdeal.nD Cert.GlafRIdeal.τ).loc Cert.GlafRIdeal.main_v94) = v3 c
          ∧ r.2.mem ((c.tc : Thread Cert.GlafRIdeal.nD Cert.GlafRIdeal.τ).loc Cert.GlafRIdeal.main_arg0) = m' ((c.tc : Thread Cert.GlafRIdeal.nD Cert.GlafRIdeal.τ).loc Cert.GlafRIdeal.main_arg0)
          ∧ r.2.mem ((c.tc : Thread Cert.GlafRIdeal.nD Cert.GlafRIdeal.τ).loc Cert.GlafRIdeal.main_arg1) = m' ((c.tc : Thread Cert.GlafRIdeal.nD Cert.GlafRIdeal.τ).loc Cert.GlafRIdeal.main_arg1))

def preserves_HgfK_HgfKIdeal : Prop :=
  True

def algebraic_HgfKIdeal_HgfRIdeal_pre_finite_hgf [hHgfKIdeal : Cert.HgfKIdeal.Facts] [hHgfRIdeal : Cert.HgfRIdeal.Facts] [hPre_finite_hgf : Cert.Pre_finite_hgf.Facts] : Prop :=
  ∀ (m : (ℓ : Loc Cert.HgfKIdeal.nD Cert.HgfKIdeal.τ Cert.HgfKIdeal.sig) → Buf (Elt Ideal) ℓ) (g : Dev Cert.HgfKIdeal.nD → PrngReg)
    (m' : (ℓ : Loc Cert.HgfRIdeal.nD Cert.HgfRIdeal.τ Cert.HgfRIdeal.sig) → Buf (Elt Ideal) ℓ) (g' : Dev Cert.HgfRIdeal.nD → PrngReg), Pre_HgfKIdeal_finite_hgf m →
    (∀ c : Dev Cert.HgfKIdeal.nD,
      m' ((c.tc : Thread Cert.HgfRIdeal.nD Cert.HgfRIdeal.τ).loc Cert.HgfRIdeal.main_arg0) = m ((c.tc : Thread Cert.HgfKIdeal.nD Cert.HgfKIdeal.τ).loc Cert.HgfKIdeal.main_arg0)
      ∧ m' ((c.tc : Thread Cert.HgfRIdeal.nD Cert.HgfRIdeal.τ).loc Cert.HgfRIdeal.main_arg1) = m ((c.tc : Thread Cert.HgfKIdeal.nD Cert.HgfKIdeal.τ).loc Cert.HgfKIdeal.main_arg1)) →
    ∃ (v0 : (c : Dev Cert.HgfKIdeal.nD) → Buf (Elt Ideal) ((c.tc : Thread Cert.HgfKIdeal.nD Cert.HgfKIdeal.τ).loc Cert.HgfKIdeal.main_v2_0)) (v1 : (c : Dev Cert.HgfKIdeal.nD) → Buf (Elt Ideal) ((c.tc : Thread Cert.HgfKIdeal.nD Cert.HgfKIdeal.τ).loc Cert.HgfKIdeal.main_v2_1)) (v2 : (c : Dev Cert.HgfKIdeal.nD) → Buf (Elt Ideal) ((c.tc : Thread Cert.HgfKIdeal.nD Cert.HgfKIdeal.τ).loc Cert.HgfKIdeal.main_v2_2)) (v3 : (c : Dev Cert.HgfKIdeal.nD) → Buf (Elt Ideal) ((c.tc : Thread Cert.HgfKIdeal.nD Cert.HgfKIdeal.τ).loc Cert.HgfKIdeal.main_v2_3)),
      θ_run (Cert.HgfKIdeal.defs (F := Ideal)) (onTc (τ := Cert.HgfKIdeal.τ) (Cert.HgfKIdeal.main (F := Ideal))) ⟨m, fun _ => 0, g⟩ (fun r => ∀ c : Dev Cert.HgfKIdeal.nD,
          r.2.mem ((c.tc : Thread Cert.HgfKIdeal.nD Cert.HgfKIdeal.τ).loc Cert.HgfKIdeal.main_v2_0) = v0 c
          ∧ r.2.mem ((c.tc : Thread Cert.HgfKIdeal.nD Cert.HgfKIdeal.τ).loc Cert.HgfKIdeal.main_v2_1) = v1 c
          ∧ r.2.mem ((c.tc : Thread Cert.HgfKIdeal.nD Cert.HgfKIdeal.τ).loc Cert.HgfKIdeal.main_v2_2) = v2 c
          ∧ r.2.mem ((c.tc : Thread Cert.HgfKIdeal.nD Cert.HgfKIdeal.τ).loc Cert.HgfKIdeal.main_v2_3) = v3 c
          ∧ r.2.mem ((c.tc : Thread Cert.HgfKIdeal.nD Cert.HgfKIdeal.τ).loc Cert.HgfKIdeal.main_arg0) = m ((c.tc : Thread Cert.HgfKIdeal.nD Cert.HgfKIdeal.τ).loc Cert.HgfKIdeal.main_arg0)
          ∧ r.2.mem ((c.tc : Thread Cert.HgfKIdeal.nD Cert.HgfKIdeal.τ).loc Cert.HgfKIdeal.main_arg1) = m ((c.tc : Thread Cert.HgfKIdeal.nD Cert.HgfKIdeal.τ).loc Cert.HgfKIdeal.main_arg1))
      ∧ θ_run (Cert.HgfRIdeal.defs (F := Ideal)) (onTc (τ := Cert.HgfRIdeal.τ) (Cert.HgfRIdeal.main (F := Ideal))) ⟨m', fun _ => 0, g'⟩ (fun r => ∀ c : Dev Cert.HgfRIdeal.nD,
          r.2.mem ((c.tc : Thread Cert.HgfRIdeal.nD Cert.HgfRIdeal.τ).loc Cert.HgfRIdeal.main_v144) = v0 c
          ∧ r.2.mem ((c.tc : Thread Cert.HgfRIdeal.nD Cert.HgfRIdeal.τ).loc Cert.HgfRIdeal.main_v149) = v1 c
          ∧ r.2.mem ((c.tc : Thread Cert.HgfRIdeal.nD Cert.HgfRIdeal.τ).loc Cert.HgfRIdeal.main_v151) = v2 c
          ∧ r.2.mem ((c.tc : Thread Cert.HgfRIdeal.nD Cert.HgfRIdeal.τ).loc Cert.HgfRIdeal.main_v154) = v3 c
          ∧ r.2.mem ((c.tc : Thread Cert.HgfRIdeal.nD Cert.HgfRIdeal.τ).loc Cert.HgfRIdeal.main_arg0) = m' ((c.tc : Thread Cert.HgfRIdeal.nD Cert.HgfRIdeal.τ).loc Cert.HgfRIdeal.main_arg0)
          ∧ r.2.mem ((c.tc : Thread Cert.HgfRIdeal.nD Cert.HgfRIdeal.τ).loc Cert.HgfRIdeal.main_arg1) = m' ((c.tc : Thread Cert.HgfRIdeal.nD Cert.HgfRIdeal.τ).loc Cert.HgfRIdeal.main_arg1))

def preserves_Glab1_Glab1Ideal : Prop :=
  True

def preserves_Hgb1_Hgb1Ideal : Prop :=
  True

def preserves_MresK_MresKIdeal : Prop :=
  True

def algebraic_MresKIdeal_MresRIdeal [hMresKIdeal : Cert.MresKIdeal.Facts] [hMresRIdeal : Cert.MresRIdeal.Facts] : Prop :=
  ∀ (m : (ℓ : Loc Cert.MresKIdeal.nD Cert.MresKIdeal.τ Cert.MresKIdeal.sig) → Buf (Elt Ideal) ℓ) (g : Dev Cert.MresKIdeal.nD → PrngReg)
    (m' : (ℓ : Loc Cert.MresRIdeal.nD Cert.MresRIdeal.τ Cert.MresRIdeal.sig) → Buf (Elt Ideal) ℓ) (g' : Dev Cert.MresRIdeal.nD → PrngReg), Pre_MresKIdeal m →
    (∀ c : Dev Cert.MresKIdeal.nD,
      m' ((c.tc : Thread Cert.MresRIdeal.nD Cert.MresRIdeal.τ).loc Cert.MresRIdeal.main_arg0) = m ((c.tc : Thread Cert.MresKIdeal.nD Cert.MresKIdeal.τ).loc Cert.MresKIdeal.main_arg0)
      ∧ m' ((c.tc : Thread Cert.MresRIdeal.nD Cert.MresRIdeal.τ).loc Cert.MresRIdeal.main_arg1) = m ((c.tc : Thread Cert.MresKIdeal.nD Cert.MresKIdeal.τ).loc Cert.MresKIdeal.main_arg1)
      ∧ m' ((c.tc : Thread Cert.MresRIdeal.nD Cert.MresRIdeal.τ).loc Cert.MresRIdeal.main_arg2) = m ((c.tc : Thread Cert.MresKIdeal.nD Cert.MresKIdeal.τ).loc Cert.MresKIdeal.main_arg2)) →
    ∃ (v0 : (c : Dev Cert.MresKIdeal.nD) → Buf (Elt Ideal) ((c.tc : Thread Cert.MresKIdeal.nD Cert.MresKIdeal.τ).loc Cert.MresKIdeal.main_v2)),
      θ_run (Cert.MresKIdeal.defs (F := Ideal)) (onTc (τ := Cert.MresKIdeal.τ) (Cert.MresKIdeal.main (F := Ideal))) ⟨m, fun _ => 0, g⟩ (fun r => ∀ c : Dev Cert.MresKIdeal.nD,
          r.2.mem ((c.tc : Thread Cert.MresKIdeal.nD Cert.MresKIdeal.τ).loc Cert.MresKIdeal.main_v2) = v0 c
          ∧ r.2.mem ((c.tc : Thread Cert.MresKIdeal.nD Cert.MresKIdeal.τ).loc Cert.MresKIdeal.main_arg0) = m ((c.tc : Thread Cert.MresKIdeal.nD Cert.MresKIdeal.τ).loc Cert.MresKIdeal.main_arg0)
          ∧ r.2.mem ((c.tc : Thread Cert.MresKIdeal.nD Cert.MresKIdeal.τ).loc Cert.MresKIdeal.main_arg1) = m ((c.tc : Thread Cert.MresKIdeal.nD Cert.MresKIdeal.τ).loc Cert.MresKIdeal.main_arg1)
          ∧ r.2.mem ((c.tc : Thread Cert.MresKIdeal.nD Cert.MresKIdeal.τ).loc Cert.MresKIdeal.main_arg2) = m ((c.tc : Thread Cert.MresKIdeal.nD Cert.MresKIdeal.τ).loc Cert.MresKIdeal.main_arg2))
      ∧ θ_run (Cert.MresRIdeal.defs (F := Ideal)) (onTc (τ := Cert.MresRIdeal.τ) (Cert.MresRIdeal.main (F := Ideal))) ⟨m', fun _ => 0, g'⟩ (fun r => ∀ c : Dev Cert.MresRIdeal.nD,
          r.2.mem ((c.tc : Thread Cert.MresRIdeal.nD Cert.MresRIdeal.τ).loc Cert.MresRIdeal.main_v1) = v0 c
          ∧ r.2.mem ((c.tc : Thread Cert.MresRIdeal.nD Cert.MresRIdeal.τ).loc Cert.MresRIdeal.main_arg0) = m' ((c.tc : Thread Cert.MresRIdeal.nD Cert.MresRIdeal.τ).loc Cert.MresRIdeal.main_arg0)
          ∧ r.2.mem ((c.tc : Thread Cert.MresRIdeal.nD Cert.MresRIdeal.τ).loc Cert.MresRIdeal.main_arg1) = m' ((c.tc : Thread Cert.MresRIdeal.nD Cert.MresRIdeal.τ).loc Cert.MresRIdeal.main_arg1)
          ∧ r.2.mem ((c.tc : Thread Cert.MresRIdeal.nD Cert.MresRIdeal.τ).loc Cert.MresRIdeal.main_arg2) = m' ((c.tc : Thread Cert.MresRIdeal.nD Cert.MresRIdeal.τ).loc Cert.MresRIdeal.main_arg2))

def preserves_WgrK_WgrKIdeal : Prop :=
  True

def algebraic_WgrKIdeal_WgrRIdeal [hWgrKIdeal : Cert.WgrKIdeal.Facts] [hWgrRIdeal : Cert.WgrRIdeal.Facts] : Prop :=
  ∀ (m : (ℓ : Loc Cert.WgrKIdeal.nD Cert.WgrKIdeal.τ Cert.WgrKIdeal.sig) → Buf (Elt Ideal) ℓ) (g : Dev Cert.WgrKIdeal.nD → PrngReg)
    (m' : (ℓ : Loc Cert.WgrRIdeal.nD Cert.WgrRIdeal.τ Cert.WgrRIdeal.sig) → Buf (Elt Ideal) ℓ) (g' : Dev Cert.WgrRIdeal.nD → PrngReg), Pre_WgrKIdeal m →
    (∀ c : Dev Cert.WgrKIdeal.nD,
      m' ((c.tc : Thread Cert.WgrRIdeal.nD Cert.WgrRIdeal.τ).loc Cert.WgrRIdeal.main_arg0) = m ((c.tc : Thread Cert.WgrKIdeal.nD Cert.WgrKIdeal.τ).loc Cert.WgrKIdeal.main_arg0)
      ∧ m' ((c.tc : Thread Cert.WgrRIdeal.nD Cert.WgrRIdeal.τ).loc Cert.WgrRIdeal.main_arg1) = m ((c.tc : Thread Cert.WgrKIdeal.nD Cert.WgrKIdeal.τ).loc Cert.WgrKIdeal.main_arg1)) →
    ∃ (v0 : (c : Dev Cert.WgrKIdeal.nD) → Buf (Elt Ideal) ((c.tc : Thread Cert.WgrKIdeal.nD Cert.WgrKIdeal.τ).loc Cert.WgrKIdeal.main_v2)),
      θ_run (Cert.WgrKIdeal.defs (F := Ideal)) (onTc (τ := Cert.WgrKIdeal.τ) (Cert.WgrKIdeal.main (F := Ideal))) ⟨m, fun _ => 0, g⟩ (fun r => ∀ c : Dev Cert.WgrKIdeal.nD,
          r.2.mem ((c.tc : Thread Cert.WgrKIdeal.nD Cert.WgrKIdeal.τ).loc Cert.WgrKIdeal.main_v2) = v0 c
          ∧ r.2.mem ((c.tc : Thread Cert.WgrKIdeal.nD Cert.WgrKIdeal.τ).loc Cert.WgrKIdeal.main_arg0) = m ((c.tc : Thread Cert.WgrKIdeal.nD Cert.WgrKIdeal.τ).loc Cert.WgrKIdeal.main_arg0)
          ∧ r.2.mem ((c.tc : Thread Cert.WgrKIdeal.nD Cert.WgrKIdeal.τ).loc Cert.WgrKIdeal.main_arg1) = m ((c.tc : Thread Cert.WgrKIdeal.nD Cert.WgrKIdeal.τ).loc Cert.WgrKIdeal.main_arg1))
      ∧ θ_run (Cert.WgrRIdeal.defs (F := Ideal)) (onTc (τ := Cert.WgrRIdeal.τ) (Cert.WgrRIdeal.main (F := Ideal))) ⟨m', fun _ => 0, g'⟩ (fun r => ∀ c : Dev Cert.WgrRIdeal.nD,
          r.2.mem ((c.tc : Thread Cert.WgrRIdeal.nD Cert.WgrRIdeal.τ).loc Cert.WgrRIdeal.main_v5) = v0 c
          ∧ r.2.mem ((c.tc : Thread Cert.WgrRIdeal.nD Cert.WgrRIdeal.τ).loc Cert.WgrRIdeal.main_arg0) = m' ((c.tc : Thread Cert.WgrRIdeal.nD Cert.WgrRIdeal.τ).loc Cert.WgrRIdeal.main_arg0)
          ∧ r.2.mem ((c.tc : Thread Cert.WgrRIdeal.nD Cert.WgrRIdeal.τ).loc Cert.WgrRIdeal.main_arg1) = m' ((c.tc : Thread Cert.WgrRIdeal.nD Cert.WgrRIdeal.τ).loc Cert.WgrRIdeal.main_arg1))

def preserves_AdwK_AdwKIdeal : Prop :=
  True

def algebraic_AdwKIdeal_AdwRIdeal [hAdwKIdeal : Cert.AdwKIdeal.Facts] [hAdwRIdeal : Cert.AdwRIdeal.Facts] : Prop :=
  ∀ (m : (ℓ : Loc Cert.AdwKIdeal.nD Cert.AdwKIdeal.τ Cert.AdwKIdeal.sig) → Buf (Elt Ideal) ℓ) (g : Dev Cert.AdwKIdeal.nD → PrngReg)
    (m' : (ℓ : Loc Cert.AdwRIdeal.nD Cert.AdwRIdeal.τ Cert.AdwRIdeal.sig) → Buf (Elt Ideal) ℓ) (g' : Dev Cert.AdwRIdeal.nD → PrngReg), Pre_AdwKIdeal m →
    (∀ c : Dev Cert.AdwKIdeal.nD,
      m' ((c.tc : Thread Cert.AdwRIdeal.nD Cert.AdwRIdeal.τ).loc Cert.AdwRIdeal.main_arg0) = m ((c.tc : Thread Cert.AdwKIdeal.nD Cert.AdwKIdeal.τ).loc Cert.AdwKIdeal.main_arg0)
      ∧ m' ((c.tc : Thread Cert.AdwRIdeal.nD Cert.AdwRIdeal.τ).loc Cert.AdwRIdeal.main_arg1) = m ((c.tc : Thread Cert.AdwKIdeal.nD Cert.AdwKIdeal.τ).loc Cert.AdwKIdeal.main_arg1)
      ∧ m' ((c.tc : Thread Cert.AdwRIdeal.nD Cert.AdwRIdeal.τ).loc Cert.AdwRIdeal.main_arg2) = m ((c.tc : Thread Cert.AdwKIdeal.nD Cert.AdwKIdeal.τ).loc Cert.AdwKIdeal.main_arg2)
      ∧ m' ((c.tc : Thread Cert.AdwRIdeal.nD Cert.AdwRIdeal.τ).loc Cert.AdwRIdeal.main_arg3) = m ((c.tc : Thread Cert.AdwKIdeal.nD Cert.AdwKIdeal.τ).loc Cert.AdwKIdeal.main_arg3)
      ∧ m' ((c.tc : Thread Cert.AdwRIdeal.nD Cert.AdwRIdeal.τ).loc Cert.AdwRIdeal.main_arg4) = m ((c.tc : Thread Cert.AdwKIdeal.nD Cert.AdwKIdeal.τ).loc Cert.AdwKIdeal.main_arg4)) →
    ∃ (v0 : (c : Dev Cert.AdwKIdeal.nD) → Buf (Elt Ideal) ((c.tc : Thread Cert.AdwKIdeal.nD Cert.AdwKIdeal.τ).loc Cert.AdwKIdeal.main_v1_0)) (v1 : (c : Dev Cert.AdwKIdeal.nD) → Buf (Elt Ideal) ((c.tc : Thread Cert.AdwKIdeal.nD Cert.AdwKIdeal.τ).loc Cert.AdwKIdeal.main_v1_1)) (v2 : (c : Dev Cert.AdwKIdeal.nD) → Buf (Elt Ideal) ((c.tc : Thread Cert.AdwKIdeal.nD Cert.AdwKIdeal.τ).loc Cert.AdwKIdeal.main_v1_2)) (v3 : (c : Dev Cert.AdwKIdeal.nD) → Buf (Elt Ideal) ((c.tc : Thread Cert.AdwKIdeal.nD Cert.AdwKIdeal.τ).loc Cert.AdwKIdeal.main_v1_3)),
      θ_run (Cert.AdwKIdeal.defs (F := Ideal)) (onTc (τ := Cert.AdwKIdeal.τ) (Cert.AdwKIdeal.main (F := Ideal))) ⟨m, fun _ => 0, g⟩ (fun r => ∀ c : Dev Cert.AdwKIdeal.nD,
          r.2.mem ((c.tc : Thread Cert.AdwKIdeal.nD Cert.AdwKIdeal.τ).loc Cert.AdwKIdeal.main_v1_0) = v0 c
          ∧ r.2.mem ((c.tc : Thread Cert.AdwKIdeal.nD Cert.AdwKIdeal.τ).loc Cert.AdwKIdeal.main_v1_1) = v1 c
          ∧ r.2.mem ((c.tc : Thread Cert.AdwKIdeal.nD Cert.AdwKIdeal.τ).loc Cert.AdwKIdeal.main_v1_2) = v2 c
          ∧ r.2.mem ((c.tc : Thread Cert.AdwKIdeal.nD Cert.AdwKIdeal.τ).loc Cert.AdwKIdeal.main_v1_3) = v3 c
          ∧ r.2.mem ((c.tc : Thread Cert.AdwKIdeal.nD Cert.AdwKIdeal.τ).loc Cert.AdwKIdeal.main_arg0) = m ((c.tc : Thread Cert.AdwKIdeal.nD Cert.AdwKIdeal.τ).loc Cert.AdwKIdeal.main_arg0)
          ∧ r.2.mem ((c.tc : Thread Cert.AdwKIdeal.nD Cert.AdwKIdeal.τ).loc Cert.AdwKIdeal.main_arg1) = m ((c.tc : Thread Cert.AdwKIdeal.nD Cert.AdwKIdeal.τ).loc Cert.AdwKIdeal.main_arg1)
          ∧ r.2.mem ((c.tc : Thread Cert.AdwKIdeal.nD Cert.AdwKIdeal.τ).loc Cert.AdwKIdeal.main_arg2) = m ((c.tc : Thread Cert.AdwKIdeal.nD Cert.AdwKIdeal.τ).loc Cert.AdwKIdeal.main_arg2)
          ∧ r.2.mem ((c.tc : Thread Cert.AdwKIdeal.nD Cert.AdwKIdeal.τ).loc Cert.AdwKIdeal.main_arg3) = m ((c.tc : Thread Cert.AdwKIdeal.nD Cert.AdwKIdeal.τ).loc Cert.AdwKIdeal.main_arg3)
          ∧ r.2.mem ((c.tc : Thread Cert.AdwKIdeal.nD Cert.AdwKIdeal.τ).loc Cert.AdwKIdeal.main_arg4) = m ((c.tc : Thread Cert.AdwKIdeal.nD Cert.AdwKIdeal.τ).loc Cert.AdwKIdeal.main_arg4))
      ∧ θ_run (Cert.AdwRIdeal.defs (F := Ideal)) (onTc (τ := Cert.AdwRIdeal.τ) (Cert.AdwRIdeal.main (F := Ideal))) ⟨m', fun _ => 0, g'⟩ (fun r => ∀ c : Dev Cert.AdwRIdeal.nD,
          r.2.mem ((c.tc : Thread Cert.AdwRIdeal.nD Cert.AdwRIdeal.τ).loc Cert.AdwRIdeal.main_v4) = v0 c
          ∧ r.2.mem ((c.tc : Thread Cert.AdwRIdeal.nD Cert.AdwRIdeal.τ).loc Cert.AdwRIdeal.main_v28) = v1 c
          ∧ r.2.mem ((c.tc : Thread Cert.AdwRIdeal.nD Cert.AdwRIdeal.τ).loc Cert.AdwRIdeal.main_v9) = v2 c
          ∧ r.2.mem ((c.tc : Thread Cert.AdwRIdeal.nD Cert.AdwRIdeal.τ).loc Cert.AdwRIdeal.main_v15) = v3 c
          ∧ r.2.mem ((c.tc : Thread Cert.AdwRIdeal.nD Cert.AdwRIdeal.τ).loc Cert.AdwRIdeal.main_arg0) = m' ((c.tc : Thread Cert.AdwRIdeal.nD Cert.AdwRIdeal.τ).loc Cert.AdwRIdeal.main_arg0)
          ∧ r.2.mem ((c.tc : Thread Cert.AdwRIdeal.nD Cert.AdwRIdeal.τ).loc Cert.AdwRIdeal.main_arg1) = m' ((c.tc : Thread Cert.AdwRIdeal.nD Cert.AdwRIdeal.τ).loc Cert.AdwRIdeal.main_arg1)
          ∧ r.2.mem ((c.tc : Thread Cert.AdwRIdeal.nD Cert.AdwRIdeal.τ).loc Cert.AdwRIdeal.main_arg2) = m' ((c.tc : Thread Cert.AdwRIdeal.nD Cert.AdwRIdeal.τ).loc Cert.AdwRIdeal.main_arg2)
          ∧ r.2.mem ((c.tc : Thread Cert.AdwRIdeal.nD Cert.AdwRIdeal.τ).loc Cert.AdwRIdeal.main_arg3) = m' ((c.tc : Thread Cert.AdwRIdeal.nD Cert.AdwRIdeal.τ).loc Cert.AdwRIdeal.main_arg3)
          ∧ r.2.mem ((c.tc : Thread Cert.AdwRIdeal.nD Cert.AdwRIdeal.τ).loc Cert.AdwRIdeal.main_arg4) = m' ((c.tc : Thread Cert.AdwRIdeal.nD Cert.AdwRIdeal.τ).loc Cert.AdwRIdeal.main_arg4))

def preserves_AdlK_AdlKIdeal : Prop :=
  True

def algebraic_AdlKIdeal_AdlRIdeal [hAdlKIdeal : Cert.AdlKIdeal.Facts] [hAdlRIdeal : Cert.AdlRIdeal.Facts] : Prop :=
  ∀ (m : (ℓ : Loc Cert.AdlKIdeal.nD Cert.AdlKIdeal.τ Cert.AdlKIdeal.sig) → Buf (Elt Ideal) ℓ) (g : Dev Cert.AdlKIdeal.nD → PrngReg)
    (m' : (ℓ : Loc Cert.AdlRIdeal.nD Cert.AdlRIdeal.τ Cert.AdlRIdeal.sig) → Buf (Elt Ideal) ℓ) (g' : Dev Cert.AdlRIdeal.nD → PrngReg), Pre_AdlKIdeal m →
    (∀ c : Dev Cert.AdlKIdeal.nD,
      m' ((c.tc : Thread Cert.AdlRIdeal.nD Cert.AdlRIdeal.τ).loc Cert.AdlRIdeal.main_arg0) = m ((c.tc : Thread Cert.AdlKIdeal.nD Cert.AdlKIdeal.τ).loc Cert.AdlKIdeal.main_arg0)
      ∧ m' ((c.tc : Thread Cert.AdlRIdeal.nD Cert.AdlRIdeal.τ).loc Cert.AdlRIdeal.main_arg1) = m ((c.tc : Thread Cert.AdlKIdeal.nD Cert.AdlKIdeal.τ).loc Cert.AdlKIdeal.main_arg1)
      ∧ m' ((c.tc : Thread Cert.AdlRIdeal.nD Cert.AdlRIdeal.τ).loc Cert.AdlRIdeal.main_arg2) = m ((c.tc : Thread Cert.AdlKIdeal.nD Cert.AdlKIdeal.τ).loc Cert.AdlKIdeal.main_arg2)
      ∧ m' ((c.tc : Thread Cert.AdlRIdeal.nD Cert.AdlRIdeal.τ).loc Cert.AdlRIdeal.main_arg3) = m ((c.tc : Thread Cert.AdlKIdeal.nD Cert.AdlKIdeal.τ).loc Cert.AdlKIdeal.main_arg3)
      ∧ m' ((c.tc : Thread Cert.AdlRIdeal.nD Cert.AdlRIdeal.τ).loc Cert.AdlRIdeal.main_arg4) = m ((c.tc : Thread Cert.AdlKIdeal.nD Cert.AdlKIdeal.τ).loc Cert.AdlKIdeal.main_arg4)
      ∧ m' ((c.tc : Thread Cert.AdlRIdeal.nD Cert.AdlRIdeal.τ).loc Cert.AdlRIdeal.main_arg5) = m ((c.tc : Thread Cert.AdlKIdeal.nD Cert.AdlKIdeal.τ).loc Cert.AdlKIdeal.main_arg5)
      ∧ m' ((c.tc : Thread Cert.AdlRIdeal.nD Cert.AdlRIdeal.τ).loc Cert.AdlRIdeal.main_arg6) = m ((c.tc : Thread Cert.AdlKIdeal.nD Cert.AdlKIdeal.τ).loc Cert.AdlKIdeal.main_arg6)) →
    ∃ (v0 : (c : Dev Cert.AdlKIdeal.nD) → Buf (Elt Ideal) ((c.tc : Thread Cert.AdlKIdeal.nD Cert.AdlKIdeal.τ).loc Cert.AdlKIdeal.main_v2_0)) (v1 : (c : Dev Cert.AdlKIdeal.nD) → Buf (Elt Ideal) ((c.tc : Thread Cert.AdlKIdeal.nD Cert.AdlKIdeal.τ).loc Cert.AdlKIdeal.main_v2_1)) (v2 : (c : Dev Cert.AdlKIdeal.nD) → Buf (Elt Ideal) ((c.tc : Thread Cert.AdlKIdeal.nD Cert.AdlKIdeal.τ).loc Cert.AdlKIdeal.main_v2_2)) (v3 : (c : Dev Cert.AdlKIdeal.nD) → Buf (Elt Ideal) ((c.tc : Thread Cert.AdlKIdeal.nD Cert.AdlKIdeal.τ).loc Cert.AdlKIdeal.main_v2_3)),
      θ_run (Cert.AdlKIdeal.defs (F := Ideal)) (onTc (τ := Cert.AdlKIdeal.τ) (Cert.AdlKIdeal.main (F := Ideal))) ⟨m, fun _ => 0, g⟩ (fun r => ∀ c : Dev Cert.AdlKIdeal.nD,
          r.2.mem ((c.tc : Thread Cert.AdlKIdeal.nD Cert.AdlKIdeal.τ).loc Cert.AdlKIdeal.main_v2_0) = v0 c
          ∧ r.2.mem ((c.tc : Thread Cert.AdlKIdeal.nD Cert.AdlKIdeal.τ).loc Cert.AdlKIdeal.main_v2_1) = v1 c
          ∧ r.2.mem ((c.tc : Thread Cert.AdlKIdeal.nD Cert.AdlKIdeal.τ).loc Cert.AdlKIdeal.main_v2_2) = v2 c
          ∧ r.2.mem ((c.tc : Thread Cert.AdlKIdeal.nD Cert.AdlKIdeal.τ).loc Cert.AdlKIdeal.main_v2_3) = v3 c
          ∧ r.2.mem ((c.tc : Thread Cert.AdlKIdeal.nD Cert.AdlKIdeal.τ).loc Cert.AdlKIdeal.main_arg0) = m ((c.tc : Thread Cert.AdlKIdeal.nD Cert.AdlKIdeal.τ).loc Cert.AdlKIdeal.main_arg0)
          ∧ r.2.mem ((c.tc : Thread Cert.AdlKIdeal.nD Cert.AdlKIdeal.τ).loc Cert.AdlKIdeal.main_arg1) = m ((c.tc : Thread Cert.AdlKIdeal.nD Cert.AdlKIdeal.τ).loc Cert.AdlKIdeal.main_arg1)
          ∧ r.2.mem ((c.tc : Thread Cert.AdlKIdeal.nD Cert.AdlKIdeal.τ).loc Cert.AdlKIdeal.main_arg2) = m ((c.tc : Thread Cert.AdlKIdeal.nD Cert.AdlKIdeal.τ).loc Cert.AdlKIdeal.main_arg2)
          ∧ r.2.mem ((c.tc : Thread Cert.AdlKIdeal.nD Cert.AdlKIdeal.τ).loc Cert.AdlKIdeal.main_arg3) = m ((c.tc : Thread Cert.AdlKIdeal.nD Cert.AdlKIdeal.τ).loc Cert.AdlKIdeal.main_arg3)
          ∧ r.2.mem ((c.tc : Thread Cert.AdlKIdeal.nD Cert.AdlKIdeal.τ).loc Cert.AdlKIdeal.main_arg4) = m ((c.tc : Thread Cert.AdlKIdeal.nD Cert.AdlKIdeal.τ).loc Cert.AdlKIdeal.main_arg4)
          ∧ r.2.mem ((c.tc : Thread Cert.AdlKIdeal.nD Cert.AdlKIdeal.τ).loc Cert.AdlKIdeal.main_arg5) = m ((c.tc : Thread Cert.AdlKIdeal.nD Cert.AdlKIdeal.τ).loc Cert.AdlKIdeal.main_arg5)
          ∧ r.2.mem ((c.tc : Thread Cert.AdlKIdeal.nD Cert.AdlKIdeal.τ).loc Cert.AdlKIdeal.main_arg6) = m ((c.tc : Thread Cert.AdlKIdeal.nD Cert.AdlKIdeal.τ).loc Cert.AdlKIdeal.main_arg6))
      ∧ θ_run (Cert.AdlRIdeal.defs (F := Ideal)) (onTc (τ := Cert.AdlRIdeal.τ) (Cert.AdlRIdeal.main (F := Ideal))) ⟨m', fun _ => 0, g'⟩ (fun r => ∀ c : Dev Cert.AdlRIdeal.nD,
          r.2.mem ((c.tc : Thread Cert.AdlRIdeal.nD Cert.AdlRIdeal.τ).loc Cert.AdlRIdeal.main_v10) = v0 c
          ∧ r.2.mem ((c.tc : Thread Cert.AdlRIdeal.nD Cert.AdlRIdeal.τ).loc Cert.AdlRIdeal.main_v34) = v1 c
          ∧ r.2.mem ((c.tc : Thread Cert.AdlRIdeal.nD Cert.AdlRIdeal.τ).loc Cert.AdlRIdeal.main_v15) = v2 c
          ∧ r.2.mem ((c.tc : Thread Cert.AdlRIdeal.nD Cert.AdlRIdeal.τ).loc Cert.AdlRIdeal.main_v21) = v3 c
          ∧ r.2.mem ((c.tc : Thread Cert.AdlRIdeal.nD Cert.AdlRIdeal.τ).loc Cert.AdlRIdeal.main_arg0) = m' ((c.tc : Thread Cert.AdlRIdeal.nD Cert.AdlRIdeal.τ).loc Cert.AdlRIdeal.main_arg0)
          ∧ r.2.mem ((c.tc : Thread Cert.AdlRIdeal.nD Cert.AdlRIdeal.τ).loc Cert.AdlRIdeal.main_arg1) = m' ((c.tc : Thread Cert.AdlRIdeal.nD Cert.AdlRIdeal.τ).loc Cert.AdlRIdeal.main_arg1)
          ∧ r.2.mem ((c.tc : Thread Cert.AdlRIdeal.nD Cert.AdlRIdeal.τ).loc Cert.AdlRIdeal.main_arg2) = m' ((c.tc : Thread Cert.AdlRIdeal.nD Cert.AdlRIdeal.τ).loc Cert.AdlRIdeal.main_arg2)
          ∧ r.2.mem ((c.tc : Thread Cert.AdlRIdeal.nD Cert.AdlRIdeal.τ).loc Cert.AdlRIdeal.main_arg3) = m' ((c.tc : Thread Cert.AdlRIdeal.nD Cert.AdlRIdeal.τ).loc Cert.AdlRIdeal.main_arg3)
          ∧ r.2.mem ((c.tc : Thread Cert.AdlRIdeal.nD Cert.AdlRIdeal.τ).loc Cert.AdlRIdeal.main_arg4) = m' ((c.tc : Thread Cert.AdlRIdeal.nD Cert.AdlRIdeal.τ).loc Cert.AdlRIdeal.main_arg4)
          ∧ r.2.mem ((c.tc : Thread Cert.AdlRIdeal.nD Cert.AdlRIdeal.τ).loc Cert.AdlRIdeal.main_arg5) = m' ((c.tc : Thread Cert.AdlRIdeal.nD Cert.AdlRIdeal.τ).loc Cert.AdlRIdeal.main_arg5)
          ∧ r.2.mem ((c.tc : Thread Cert.AdlRIdeal.nD Cert.AdlRIdeal.τ).loc Cert.AdlRIdeal.main_arg6) = m' ((c.tc : Thread Cert.AdlRIdeal.nD Cert.AdlRIdeal.τ).loc Cert.AdlRIdeal.main_arg6))

def preserves_AdhK_AdhKIdeal : Prop :=
  True

def algebraic_AdhKIdeal_AdhRIdeal [hAdhKIdeal : Cert.AdhKIdeal.Facts] [hAdhRIdeal : Cert.AdhRIdeal.Facts] : Prop :=
  ∀ (m : (ℓ : Loc Cert.AdhKIdeal.nD Cert.AdhKIdeal.τ Cert.AdhKIdeal.sig) → Buf (Elt Ideal) ℓ) (g : Dev Cert.AdhKIdeal.nD → PrngReg)
    (m' : (ℓ : Loc Cert.AdhRIdeal.nD Cert.AdhRIdeal.τ Cert.AdhRIdeal.sig) → Buf (Elt Ideal) ℓ) (g' : Dev Cert.AdhRIdeal.nD → PrngReg), Pre_AdhKIdeal m →
    (∀ c : Dev Cert.AdhKIdeal.nD,
      m' ((c.tc : Thread Cert.AdhRIdeal.nD Cert.AdhRIdeal.τ).loc Cert.AdhRIdeal.main_arg0) = m ((c.tc : Thread Cert.AdhKIdeal.nD Cert.AdhKIdeal.τ).loc Cert.AdhKIdeal.main_arg0)
      ∧ m' ((c.tc : Thread Cert.AdhRIdeal.nD Cert.AdhRIdeal.τ).loc Cert.AdhRIdeal.main_arg1) = m ((c.tc : Thread Cert.AdhKIdeal.nD Cert.AdhKIdeal.τ).loc Cert.AdhKIdeal.main_arg1)
      ∧ m' ((c.tc : Thread Cert.AdhRIdeal.nD Cert.AdhRIdeal.τ).loc Cert.AdhRIdeal.main_arg2) = m ((c.tc : Thread Cert.AdhKIdeal.nD Cert.AdhKIdeal.τ).loc Cert.AdhKIdeal.main_arg2)
      ∧ m' ((c.tc : Thread Cert.AdhRIdeal.nD Cert.AdhRIdeal.τ).loc Cert.AdhRIdeal.main_arg3) = m ((c.tc : Thread Cert.AdhKIdeal.nD Cert.AdhKIdeal.τ).loc Cert.AdhKIdeal.main_arg3)) →
    ∃ (v0 : (c : Dev Cert.AdhKIdeal.nD) → Buf (Elt Ideal) ((c.tc : Thread Cert.AdhKIdeal.nD Cert.AdhKIdeal.τ).loc Cert.AdhKIdeal.main_v0_0)) (v1 : (c : Dev Cert.AdhKIdeal.nD) → Buf (Elt Ideal) ((c.tc : Thread Cert.AdhKIdeal.nD Cert.AdhKIdeal.τ).loc Cert.AdhKIdeal.main_v0_1)) (v2 : (c : Dev Cert.AdhKIdeal.nD) → Buf (Elt Ideal) ((c.tc : Thread Cert.AdhKIdeal.nD Cert.AdhKIdeal.τ).loc Cert.AdhKIdeal.main_v0_2)) (v3 : (c : Dev Cert.AdhKIdeal.nD) → Buf (Elt Ideal) ((c.tc : Thread Cert.AdhKIdeal.nD Cert.AdhKIdeal.τ).loc Cert.AdhKIdeal.main_v0_3)),
      θ_run (Cert.AdhKIdeal.defs (F := Ideal)) (onTc (τ := Cert.AdhKIdeal.τ) (Cert.AdhKIdeal.main (F := Ideal))) ⟨m, fun _ => 0, g⟩ (fun r => ∀ c : Dev Cert.AdhKIdeal.nD,
          r.2.mem ((c.tc : Thread Cert.AdhKIdeal.nD Cert.AdhKIdeal.τ).loc Cert.AdhKIdeal.main_v0_0) = v0 c
          ∧ r.2.mem ((c.tc : Thread Cert.AdhKIdeal.nD Cert.AdhKIdeal.τ).loc Cert.AdhKIdeal.main_v0_1) = v1 c
          ∧ r.2.mem ((c.tc : Thread Cert.AdhKIdeal.nD Cert.AdhKIdeal.τ).loc Cert.AdhKIdeal.main_v0_2) = v2 c
          ∧ r.2.mem ((c.tc : Thread Cert.AdhKIdeal.nD Cert.AdhKIdeal.τ).loc Cert.AdhKIdeal.main_v0_3) = v3 c
          ∧ r.2.mem ((c.tc : Thread Cert.AdhKIdeal.nD Cert.AdhKIdeal.τ).loc Cert.AdhKIdeal.main_arg0) = m ((c.tc : Thread Cert.AdhKIdeal.nD Cert.AdhKIdeal.τ).loc Cert.AdhKIdeal.main_arg0)
          ∧ r.2.mem ((c.tc : Thread Cert.AdhKIdeal.nD Cert.AdhKIdeal.τ).loc Cert.AdhKIdeal.main_arg1) = m ((c.tc : Thread Cert.AdhKIdeal.nD Cert.AdhKIdeal.τ).loc Cert.AdhKIdeal.main_arg1)
          ∧ r.2.mem ((c.tc : Thread Cert.AdhKIdeal.nD Cert.AdhKIdeal.τ).loc Cert.AdhKIdeal.main_arg2) = m ((c.tc : Thread Cert.AdhKIdeal.nD Cert.AdhKIdeal.τ).loc Cert.AdhKIdeal.main_arg2)
          ∧ r.2.mem ((c.tc : Thread Cert.AdhKIdeal.nD Cert.AdhKIdeal.τ).loc Cert.AdhKIdeal.main_arg3) = m ((c.tc : Thread Cert.AdhKIdeal.nD Cert.AdhKIdeal.τ).loc Cert.AdhKIdeal.main_arg3))
      ∧ θ_run (Cert.AdhRIdeal.defs (F := Ideal)) (onTc (τ := Cert.AdhRIdeal.τ) (Cert.AdhRIdeal.main (F := Ideal))) ⟨m', fun _ => 0, g'⟩ (fun r => ∀ c : Dev Cert.AdhRIdeal.nD,
          r.2.mem ((c.tc : Thread Cert.AdhRIdeal.nD Cert.AdhRIdeal.τ).loc Cert.AdhRIdeal.main_arg1) = v0 c
          ∧ r.2.mem ((c.tc : Thread Cert.AdhRIdeal.nD Cert.AdhRIdeal.τ).loc Cert.AdhRIdeal.main_v23) = v1 c
          ∧ r.2.mem ((c.tc : Thread Cert.AdhRIdeal.nD Cert.AdhRIdeal.τ).loc Cert.AdhRIdeal.main_v4) = v2 c
          ∧ r.2.mem ((c.tc : Thread Cert.AdhRIdeal.nD Cert.AdhRIdeal.τ).loc Cert.AdhRIdeal.main_v10) = v3 c
          ∧ r.2.mem ((c.tc : Thread Cert.AdhRIdeal.nD Cert.AdhRIdeal.τ).loc Cert.AdhRIdeal.main_arg0) = m' ((c.tc : Thread Cert.AdhRIdeal.nD Cert.AdhRIdeal.τ).loc Cert.AdhRIdeal.main_arg0)
          ∧ r.2.mem ((c.tc : Thread Cert.AdhRIdeal.nD Cert.AdhRIdeal.τ).loc Cert.AdhRIdeal.main_arg1) = m' ((c.tc : Thread Cert.AdhRIdeal.nD Cert.AdhRIdeal.τ).loc Cert.AdhRIdeal.main_arg1)
          ∧ r.2.mem ((c.tc : Thread Cert.AdhRIdeal.nD Cert.AdhRIdeal.τ).loc Cert.AdhRIdeal.main_arg2) = m' ((c.tc : Thread Cert.AdhRIdeal.nD Cert.AdhRIdeal.τ).loc Cert.AdhRIdeal.main_arg2)
          ∧ r.2.mem ((c.tc : Thread Cert.AdhRIdeal.nD Cert.AdhRIdeal.τ).loc Cert.AdhRIdeal.main_arg3) = m' ((c.tc : Thread Cert.AdhRIdeal.nD Cert.AdhRIdeal.τ).loc Cert.AdhRIdeal.main_arg3))

def preserves_SumsK_SumsKIdeal : Prop :=
  True

def algebraic_SumsKIdeal_SumsRIdeal [hSumsKIdeal : Cert.SumsKIdeal.Facts] [hSumsRIdeal : Cert.SumsRIdeal.Facts] : Prop :=
  ∀ (m : (ℓ : Loc Cert.SumsKIdeal.nD Cert.SumsKIdeal.τ Cert.SumsKIdeal.sig) → Buf (Elt Ideal) ℓ) (g : Dev Cert.SumsKIdeal.nD → PrngReg)
    (m' : (ℓ : Loc Cert.SumsRIdeal.nD Cert.SumsRIdeal.τ Cert.SumsRIdeal.sig) → Buf (Elt Ideal) ℓ) (g' : Dev Cert.SumsRIdeal.nD → PrngReg), Pre_SumsKIdeal m →
    (∀ c : Dev Cert.SumsKIdeal.nD,
      m' ((c.tc : Thread Cert.SumsRIdeal.nD Cert.SumsRIdeal.τ).loc Cert.SumsRIdeal.main_arg0) = m ((c.tc : Thread Cert.SumsKIdeal.nD Cert.SumsKIdeal.τ).loc Cert.SumsKIdeal.main_arg0)) →
    ∃ (v0 : (c : Dev Cert.SumsKIdeal.nD) → Buf (Elt Ideal) ((c.tc : Thread Cert.SumsKIdeal.nD Cert.SumsKIdeal.τ).loc Cert.SumsKIdeal.main_v0)),
      θ_run (Cert.SumsKIdeal.defs (F := Ideal)) (onTc (τ := Cert.SumsKIdeal.τ) (Cert.SumsKIdeal.main (F := Ideal))) ⟨m, fun _ => 0, g⟩ (fun r => ∀ c : Dev Cert.SumsKIdeal.nD,
          r.2.mem ((c.tc : Thread Cert.SumsKIdeal.nD Cert.SumsKIdeal.τ).loc Cert.SumsKIdeal.main_v0) = v0 c
          ∧ r.2.mem ((c.tc : Thread Cert.SumsKIdeal.nD Cert.SumsKIdeal.τ).loc Cert.SumsKIdeal.main_arg0) = m ((c.tc : Thread Cert.SumsKIdeal.nD Cert.SumsKIdeal.τ).loc Cert.SumsKIdeal.main_arg0))
      ∧ θ_run (Cert.SumsRIdeal.defs (F := Ideal)) (onTc (τ := Cert.SumsRIdeal.τ) (Cert.SumsRIdeal.main (F := Ideal))) ⟨m', fun _ => 0, g'⟩ (fun r => ∀ c : Dev Cert.SumsRIdeal.nD,
          r.2.mem ((c.tc : Thread Cert.SumsRIdeal.nD Cert.SumsRIdeal.τ).loc Cert.SumsRIdeal.main_v0) = v0 c
          ∧ r.2.mem ((c.tc : Thread Cert.SumsRIdeal.nD Cert.SumsRIdeal.τ).loc Cert.SumsRIdeal.main_arg0) = m' ((c.tc : Thread Cert.SumsRIdeal.nD Cert.SumsRIdeal.τ).loc Cert.SumsRIdeal.main_arg0))

def preserves_As0K_As0KIdeal : Prop :=
  True

def algebraic_As0KIdeal_As0RIdeal [hAs0KIdeal : Cert.As0KIdeal.Facts] [hAs0RIdeal : Cert.As0RIdeal.Facts] : Prop :=
  ∀ (m : (ℓ : Loc Cert.As0KIdeal.nD Cert.As0KIdeal.τ Cert.As0KIdeal.sig) → Buf (Elt Ideal) ℓ) (g : Dev Cert.As0KIdeal.nD → PrngReg)
    (m' : (ℓ : Loc Cert.As0RIdeal.nD Cert.As0RIdeal.τ Cert.As0RIdeal.sig) → Buf (Elt Ideal) ℓ) (g' : Dev Cert.As0RIdeal.nD → PrngReg), Pre_As0KIdeal m →
    (∀ c : Dev Cert.As0KIdeal.nD,
      m' ((c.tc : Thread Cert.As0RIdeal.nD Cert.As0RIdeal.τ).loc Cert.As0RIdeal.main_arg0) = m ((c.tc : Thread Cert.As0KIdeal.nD Cert.As0KIdeal.τ).loc Cert.As0KIdeal.main_arg0)
      ∧ m' ((c.tc : Thread Cert.As0RIdeal.nD Cert.As0RIdeal.τ).loc Cert.As0RIdeal.main_arg1) = m ((c.tc : Thread Cert.As0KIdeal.nD Cert.As0KIdeal.τ).loc Cert.As0KIdeal.main_arg1)
      ∧ m' ((c.tc : Thread Cert.As0RIdeal.nD Cert.As0RIdeal.τ).loc Cert.As0RIdeal.main_arg2) = m ((c.tc : Thread Cert.As0KIdeal.nD Cert.As0KIdeal.τ).loc Cert.As0KIdeal.main_arg2)
      ∧ m' ((c.tc : Thread Cert.As0RIdeal.nD Cert.As0RIdeal.τ).loc Cert.As0RIdeal.main_arg3) = m ((c.tc : Thread Cert.As0KIdeal.nD Cert.As0KIdeal.τ).loc Cert.As0KIdeal.main_arg3)
      ∧ m' ((c.tc : Thread Cert.As0RIdeal.nD Cert.As0RIdeal.τ).loc Cert.As0RIdeal.main_arg4) = m ((c.tc : Thread Cert.As0KIdeal.nD Cert.As0KIdeal.τ).loc Cert.As0KIdeal.main_arg4)
      ∧ m' ((c.tc : Thread Cert.As0RIdeal.nD Cert.As0RIdeal.τ).loc Cert.As0RIdeal.main_arg5) = m ((c.tc : Thread Cert.As0KIdeal.nD Cert.As0KIdeal.τ).loc Cert.As0KIdeal.main_arg5)
      ∧ m' ((c.tc : Thread Cert.As0RIdeal.nD Cert.As0RIdeal.τ).loc Cert.As0RIdeal.main_arg6) = m ((c.tc : Thread Cert.As0KIdeal.nD Cert.As0KIdeal.τ).loc Cert.As0KIdeal.main_arg6)
      ∧ m' ((c.tc : Thread Cert.As0RIdeal.nD Cert.As0RIdeal.τ).loc Cert.As0RIdeal.main_arg7) = m ((c.tc : Thread Cert.As0KIdeal.nD Cert.As0KIdeal.τ).loc Cert.As0KIdeal.main_arg7)
      ∧ m' ((c.tc : Thread Cert.As0RIdeal.nD Cert.As0RIdeal.τ).loc Cert.As0RIdeal.main_arg8) = m ((c.tc : Thread Cert.As0KIdeal.nD Cert.As0KIdeal.τ).loc Cert.As0KIdeal.main_arg8)) →
    ∃ (v0 : (c : Dev Cert.As0KIdeal.nD) → Buf (Elt Ideal) ((c.tc : Thread Cert.As0KIdeal.nD Cert.As0KIdeal.τ).loc Cert.As0KIdeal.main_v6)),
      θ_run (Cert.As0KIdeal.defs (F := Ideal)) (onTc (τ := Cert.As0KIdeal.τ) (Cert.As0KIdeal.main (F := Ideal))) ⟨m, fun _ => 0, g⟩ (fun r => ∀ c : Dev Cert.As0KIdeal.nD,
          r.2.mem ((c.tc : Thread Cert.As0KIdeal.nD Cert.As0KIdeal.τ).loc Cert.As0KIdeal.main_v6) = v0 c
          ∧ r.2.mem ((c.tc : Thread Cert.As0KIdeal.nD Cert.As0KIdeal.τ).loc Cert.As0KIdeal.main_arg0) = m ((c.tc : Thread Cert.As0KIdeal.nD Cert.As0KIdeal.τ).loc Cert.As0KIdeal.main_arg0)
          ∧ r.2.mem ((c.tc : Thread Cert.As0KIdeal.nD Cert.As0KIdeal.τ).loc Cert.As0KIdeal.main_arg1) = m ((c.tc : Thread Cert.As0KIdeal.nD Cert.As0KIdeal.τ).loc Cert.As0KIdeal.main_arg1)
          ∧ r.2.mem ((c.tc : Thread Cert.As0KIdeal.nD Cert.As0KIdeal.τ).loc Cert.As0KIdeal.main_arg2) = m ((c.tc : Thread Cert.As0KIdeal.nD Cert.As0KIdeal.τ).loc Cert.As0KIdeal.main_arg2)
          ∧ r.2.mem ((c.tc : Thread Cert.As0KIdeal.nD Cert.As0KIdeal.τ).loc Cert.As0KIdeal.main_arg3) = m ((c.tc : Thread Cert.As0KIdeal.nD Cert.As0KIdeal.τ).loc Cert.As0KIdeal.main_arg3)
          ∧ r.2.mem ((c.tc : Thread Cert.As0KIdeal.nD Cert.As0KIdeal.τ).loc Cert.As0KIdeal.main_arg4) = m ((c.tc : Thread Cert.As0KIdeal.nD Cert.As0KIdeal.τ).loc Cert.As0KIdeal.main_arg4)
          ∧ r.2.mem ((c.tc : Thread Cert.As0KIdeal.nD Cert.As0KIdeal.τ).loc Cert.As0KIdeal.main_arg5) = m ((c.tc : Thread Cert.As0KIdeal.nD Cert.As0KIdeal.τ).loc Cert.As0KIdeal.main_arg5)
          ∧ r.2.mem ((c.tc : Thread Cert.As0KIdeal.nD Cert.As0KIdeal.τ).loc Cert.As0KIdeal.main_arg6) = m ((c.tc : Thread Cert.As0KIdeal.nD Cert.As0KIdeal.τ).loc Cert.As0KIdeal.main_arg6)
          ∧ r.2.mem ((c.tc : Thread Cert.As0KIdeal.nD Cert.As0KIdeal.τ).loc Cert.As0KIdeal.main_arg7) = m ((c.tc : Thread Cert.As0KIdeal.nD Cert.As0KIdeal.τ).loc Cert.As0KIdeal.main_arg7)
          ∧ r.2.mem ((c.tc : Thread Cert.As0KIdeal.nD Cert.As0KIdeal.τ).loc Cert.As0KIdeal.main_arg8) = m ((c.tc : Thread Cert.As0KIdeal.nD Cert.As0KIdeal.τ).loc Cert.As0KIdeal.main_arg8))
      ∧ θ_run (Cert.As0RIdeal.defs (F := Ideal)) (onTc (τ := Cert.As0RIdeal.τ) (Cert.As0RIdeal.main (F := Ideal))) ⟨m', fun _ => 0, g'⟩ (fun r => ∀ c : Dev Cert.As0RIdeal.nD,
          r.2.mem ((c.tc : Thread Cert.As0RIdeal.nD Cert.As0RIdeal.τ).loc Cert.As0RIdeal.main_v3) = v0 c
          ∧ r.2.mem ((c.tc : Thread Cert.As0RIdeal.nD Cert.As0RIdeal.τ).loc Cert.As0RIdeal.main_arg0) = m' ((c.tc : Thread Cert.As0RIdeal.nD Cert.As0RIdeal.τ).loc Cert.As0RIdeal.main_arg0)
          ∧ r.2.mem ((c.tc : Thread Cert.As0RIdeal.nD Cert.As0RIdeal.τ).loc Cert.As0RIdeal.main_arg1) = m' ((c.tc : Thread Cert.As0RIdeal.nD Cert.As0RIdeal.τ).loc Cert.As0RIdeal.main_arg1)
          ∧ r.2.mem ((c.tc : Thread Cert.As0RIdeal.nD Cert.As0RIdeal.τ).loc Cert.As0RIdeal.main_arg2) = m' ((c.tc : Thread Cert.As0RIdeal.nD Cert.As0RIdeal.τ).loc Cert.As0RIdeal.main_arg2)
          ∧ r.2.mem ((c.tc : Thread Cert.As0RIdeal.nD Cert.As0RIdeal.τ).loc Cert.As0RIdeal.main_arg3) = m' ((c.tc : Thread Cert.As0RIdeal.nD Cert.As0RIdeal.τ).loc Cert.As0RIdeal.main_arg3)
          ∧ r.2.mem ((c.tc : Thread Cert.As0RIdeal.nD Cert.As0RIdeal.τ).loc Cert.As0RIdeal.main_arg4) = m' ((c.tc : Thread Cert.As0RIdeal.nD Cert.As0RIdeal.τ).loc Cert.As0RIdeal.main_arg4)
          ∧ r.2.mem ((c.tc : Thread Cert.As0RIdeal.nD Cert.As0RIdeal.τ).loc Cert.As0RIdeal.main_arg5) = m' ((c.tc : Thread Cert.As0RIdeal.nD Cert.As0RIdeal.τ).loc Cert.As0RIdeal.main_arg5)
          ∧ r.2.mem ((c.tc : Thread Cert.As0RIdeal.nD Cert.As0RIdeal.τ).loc Cert.As0RIdeal.main_arg6) = m' ((c.tc : Thread Cert.As0RIdeal.nD Cert.As0RIdeal.τ).loc Cert.As0RIdeal.main_arg6)
          ∧ r.2.mem ((c.tc : Thread Cert.As0RIdeal.nD Cert.As0RIdeal.τ).loc Cert.As0RIdeal.main_arg7) = m' ((c.tc : Thread Cert.As0RIdeal.nD Cert.As0RIdeal.τ).loc Cert.As0RIdeal.main_arg7)
          ∧ r.2.mem ((c.tc : Thread Cert.As0RIdeal.nD Cert.As0RIdeal.τ).loc Cert.As0RIdeal.main_arg8) = m' ((c.tc : Thread Cert.As0RIdeal.nD Cert.As0RIdeal.τ).loc Cert.As0RIdeal.main_arg8))

def preserves_As1K_As1KIdeal : Prop :=
  True

def algebraic_As1KIdeal_As1RIdeal [hAs1KIdeal : Cert.As1KIdeal.Facts] [hAs1RIdeal : Cert.As1RIdeal.Facts] : Prop :=
  ∀ (m : (ℓ : Loc Cert.As1KIdeal.nD Cert.As1KIdeal.τ Cert.As1KIdeal.sig) → Buf (Elt Ideal) ℓ) (g : Dev Cert.As1KIdeal.nD → PrngReg)
    (m' : (ℓ : Loc Cert.As1RIdeal.nD Cert.As1RIdeal.τ Cert.As1RIdeal.sig) → Buf (Elt Ideal) ℓ) (g' : Dev Cert.As1RIdeal.nD → PrngReg), Pre_As1KIdeal m →
    (∀ c : Dev Cert.As1KIdeal.nD,
      m' ((c.tc : Thread Cert.As1RIdeal.nD Cert.As1RIdeal.τ).loc Cert.As1RIdeal.main_arg0) = m ((c.tc : Thread Cert.As1KIdeal.nD Cert.As1KIdeal.τ).loc Cert.As1KIdeal.main_arg0)
      ∧ m' ((c.tc : Thread Cert.As1RIdeal.nD Cert.As1RIdeal.τ).loc Cert.As1RIdeal.main_arg1) = m ((c.tc : Thread Cert.As1KIdeal.nD Cert.As1KIdeal.τ).loc Cert.As1KIdeal.main_arg1)
      ∧ m' ((c.tc : Thread Cert.As1RIdeal.nD Cert.As1RIdeal.τ).loc Cert.As1RIdeal.main_arg2) = m ((c.tc : Thread Cert.As1KIdeal.nD Cert.As1KIdeal.τ).loc Cert.As1KIdeal.main_arg2)
      ∧ m' ((c.tc : Thread Cert.As1RIdeal.nD Cert.As1RIdeal.τ).loc Cert.As1RIdeal.main_arg3) = m ((c.tc : Thread Cert.As1KIdeal.nD Cert.As1KIdeal.τ).loc Cert.As1KIdeal.main_arg3)
      ∧ m' ((c.tc : Thread Cert.As1RIdeal.nD Cert.As1RIdeal.τ).loc Cert.As1RIdeal.main_arg4) = m ((c.tc : Thread Cert.As1KIdeal.nD Cert.As1KIdeal.τ).loc Cert.As1KIdeal.main_arg4)
      ∧ m' ((c.tc : Thread Cert.As1RIdeal.nD Cert.As1RIdeal.τ).loc Cert.As1RIdeal.main_arg5) = m ((c.tc : Thread Cert.As1KIdeal.nD Cert.As1KIdeal.τ).loc Cert.As1KIdeal.main_arg5)
      ∧ m' ((c.tc : Thread Cert.As1RIdeal.nD Cert.As1RIdeal.τ).loc Cert.As1RIdeal.main_arg6) = m ((c.tc : Thread Cert.As1KIdeal.nD Cert.As1KIdeal.τ).loc Cert.As1KIdeal.main_arg6)
      ∧ m' ((c.tc : Thread Cert.As1RIdeal.nD Cert.As1RIdeal.τ).loc Cert.As1RIdeal.main_arg7) = m ((c.tc : Thread Cert.As1KIdeal.nD Cert.As1KIdeal.τ).loc Cert.As1KIdeal.main_arg7)) →
    ∃ (v0 : (c : Dev Cert.As1KIdeal.nD) → Buf (Elt Ideal) ((c.tc : Thread Cert.As1KIdeal.nD Cert.As1KIdeal.τ).loc Cert.As1KIdeal.main_v6)),
      θ_run (Cert.As1KIdeal.defs (F := Ideal)) (onTc (τ := Cert.As1KIdeal.τ) (Cert.As1KIdeal.main (F := Ideal))) ⟨m, fun _ => 0, g⟩ (fun r => ∀ c : Dev Cert.As1KIdeal.nD,
          r.2.mem ((c.tc : Thread Cert.As1KIdeal.nD Cert.As1KIdeal.τ).loc Cert.As1KIdeal.main_v6) = v0 c
          ∧ r.2.mem ((c.tc : Thread Cert.As1KIdeal.nD Cert.As1KIdeal.τ).loc Cert.As1KIdeal.main_arg0) = m ((c.tc : Thread Cert.As1KIdeal.nD Cert.As1KIdeal.τ).loc Cert.As1KIdeal.main_arg0)
          ∧ r.2.mem ((c.tc : Thread Cert.As1KIdeal.nD Cert.As1KIdeal.τ).loc Cert.As1KIdeal.main_arg1) = m ((c.tc : Thread Cert.As1KIdeal.nD Cert.As1KIdeal.τ).loc Cert.As1KIdeal.main_arg1)
          ∧ r.2.mem ((c.tc : Thread Cert.As1KIdeal.nD Cert.As1KIdeal.τ).loc Cert.As1KIdeal.main_arg2) = m ((c.tc : Thread Cert.As1KIdeal.nD Cert.As1KIdeal.τ).loc Cert.As1KIdeal.main_arg2)
          ∧ r.2.mem ((c.tc : Thread Cert.As1KIdeal.nD Cert.As1KIdeal.τ).loc Cert.As1KIdeal.main_arg3) = m ((c.tc : Thread Cert.As1KIdeal.nD Cert.As1KIdeal.τ).loc Cert.As1KIdeal.main_arg3)
          ∧ r.2.mem ((c.tc : Thread Cert.As1KIdeal.nD Cert.As1KIdeal.τ).loc Cert.As1KIdeal.main_arg4) = m ((c.tc : Thread Cert.As1KIdeal.nD Cert.As1KIdeal.τ).loc Cert.As1KIdeal.main_arg4)
          ∧ r.2.mem ((c.tc : Thread Cert.As1KIdeal.nD Cert.As1KIdeal.τ).loc Cert.As1KIdeal.main_arg5) = m ((c.tc : Thread Cert.As1KIdeal.nD Cert.As1KIdeal.τ).loc Cert.As1KIdeal.main_arg5)
          ∧ r.2.mem ((c.tc : Thread Cert.As1KIdeal.nD Cert.As1KIdeal.τ).loc Cert.As1KIdeal.main_arg6) = m ((c.tc : Thread Cert.As1KIdeal.nD Cert.As1KIdeal.τ).loc Cert.As1KIdeal.main_arg6)
          ∧ r.2.mem ((c.tc : Thread Cert.As1KIdeal.nD Cert.As1KIdeal.τ).loc Cert.As1KIdeal.main_arg7) = m ((c.tc : Thread Cert.As1KIdeal.nD Cert.As1KIdeal.τ).loc Cert.As1KIdeal.main_arg7))
      ∧ θ_run (Cert.As1RIdeal.defs (F := Ideal)) (onTc (τ := Cert.As1RIdeal.τ) (Cert.As1RIdeal.main (F := Ideal))) ⟨m', fun _ => 0, g'⟩ (fun r => ∀ c : Dev Cert.As1RIdeal.nD,
          r.2.mem ((c.tc : Thread Cert.As1RIdeal.nD Cert.As1RIdeal.τ).loc Cert.As1RIdeal.main_v4) = v0 c
          ∧ r.2.mem ((c.tc : Thread Cert.As1RIdeal.nD Cert.As1RIdeal.τ).loc Cert.As1RIdeal.main_arg0) = m' ((c.tc : Thread Cert.As1RIdeal.nD Cert.As1RIdeal.τ).loc Cert.As1RIdeal.main_arg0)
          ∧ r.2.mem ((c.tc : Thread Cert.As1RIdeal.nD Cert.As1RIdeal.τ).loc Cert.As1RIdeal.main_arg1) = m' ((c.tc : Thread Cert.As1RIdeal.nD Cert.As1RIdeal.τ).loc Cert.As1RIdeal.main_arg1)
          ∧ r.2.mem ((c.tc : Thread Cert.As1RIdeal.nD Cert.As1RIdeal.τ).loc Cert.As1RIdeal.main_arg2) = m' ((c.tc : Thread Cert.As1RIdeal.nD Cert.As1RIdeal.τ).loc Cert.As1RIdeal.main_arg2)
          ∧ r.2.mem ((c.tc : Thread Cert.As1RIdeal.nD Cert.As1RIdeal.τ).loc Cert.As1RIdeal.main_arg3) = m' ((c.tc : Thread Cert.As1RIdeal.nD Cert.As1RIdeal.τ).loc Cert.As1RIdeal.main_arg3)
          ∧ r.2.mem ((c.tc : Thread Cert.As1RIdeal.nD Cert.As1RIdeal.τ).loc Cert.As1RIdeal.main_arg4) = m' ((c.tc : Thread Cert.As1RIdeal.nD Cert.As1RIdeal.τ).loc Cert.As1RIdeal.main_arg4)
          ∧ r.2.mem ((c.tc : Thread Cert.As1RIdeal.nD Cert.As1RIdeal.τ).loc Cert.As1RIdeal.main_arg5) = m' ((c.tc : Thread Cert.As1RIdeal.nD Cert.As1RIdeal.τ).loc Cert.As1RIdeal.main_arg5)
          ∧ r.2.mem ((c.tc : Thread Cert.As1RIdeal.nD Cert.As1RIdeal.τ).loc Cert.As1RIdeal.main_arg6) = m' ((c.tc : Thread Cert.As1RIdeal.nD Cert.As1RIdeal.τ).loc Cert.As1RIdeal.main_arg6)
          ∧ r.2.mem ((c.tc : Thread Cert.As1RIdeal.nD Cert.As1RIdeal.τ).loc Cert.As1RIdeal.main_arg7) = m' ((c.tc : Thread Cert.As1RIdeal.nD Cert.As1RIdeal.τ).loc Cert.As1RIdeal.main_arg7))

def Claim : Prop :=
  ∃ (hLossK : Cert.LossK.Facts) (hLossKIdeal : Cert.LossKIdeal.Facts) (hLossRIdeal : Cert.LossRIdeal.Facts) (hGateK : Cert.GateK.Facts) (hGateKIdeal : Cert.GateKIdeal.Facts) (hGateRIdeal : Cert.GateRIdeal.Facts) (hConvK : Cert.ConvK.Facts) (hConvKIdeal : Cert.ConvKIdeal.Facts) (hConvRIdeal : Cert.ConvRIdeal.Facts) (hDgnK : Cert.DgnK.Facts) (hDgnKIdeal : Cert.DgnKIdeal.Facts) (hDgnRIdeal : Cert.DgnRIdeal.Facts) (hMlpbK : Cert.MlpbK.Facts) (hMlpbKIdeal : Cert.MlpbKIdeal.Facts) (hMlpbRIdeal : Cert.MlpbRIdeal.Facts) (hComb1K : Cert.Comb1K.Facts) (hComb1KIdeal : Cert.Comb1KIdeal.Facts) (hComb1RIdeal : Cert.Comb1RIdeal.Facts) (hComb0K : Cert.Comb0K.Facts) (hComb0KIdeal : Cert.Comb0KIdeal.Facts) (hComb0RIdeal : Cert.Comb0RIdeal.Facts) (hConvfK : Cert.ConvfK.Facts) (hConvfKIdeal : Cert.ConvfKIdeal.Facts) (hConvfRIdeal : Cert.ConvfRIdeal.Facts) (hGlogK : Cert.GlogK.Facts) (hGlogKIdeal : Cert.GlogKIdeal.Facts) (hGlogRIdeal : Cert.GlogRIdeal.Facts) (hNmmK : Cert.NmmK.Facts) (hNmmKIdeal : Cert.NmmKIdeal.Facts) (hNmmRIdeal : Cert.NmmRIdeal.Facts) (hMix1K : Cert.Mix1K.Facts) (hMix1KIdeal : Cert.Mix1KIdeal.Facts) (hMix1RIdeal : Cert.Mix1RIdeal.Facts) (hMix0K : Cert.Mix0K.Facts) (hMix0KIdeal : Cert.Mix0KIdeal.Facts) (hMix0RIdeal : Cert.Mix0RIdeal.Facts) (hGlafK : Cert.GlafK.Facts) (hGlafKIdeal : Cert.GlafKIdeal.Facts) (hGlafRIdeal : Cert.GlafRIdeal.Facts) (hHgfK : Cert.HgfK.Facts) (hHgfKIdeal : Cert.HgfKIdeal.Facts) (hHgfRIdeal : Cert.HgfRIdeal.Facts) (hGlab1 : Cert.Glab1.Facts) (hGlab1Ideal : Cert.Glab1Ideal.Facts) (hHgb1 : Cert.Hgb1.Facts) (hHgb1Ideal : Cert.Hgb1Ideal.Facts) (hMresK : Cert.MresK.Facts) (hMresKIdeal : Cert.MresKIdeal.Facts) (hMresRIdeal : Cert.MresRIdeal.Facts) (hWgrK : Cert.WgrK.Facts) (hWgrKIdeal : Cert.WgrKIdeal.Facts) (hWgrRIdeal : Cert.WgrRIdeal.Facts) (hAdwK : Cert.AdwK.Facts) (hAdwKIdeal : Cert.AdwKIdeal.Facts) (hAdwRIdeal : Cert.AdwRIdeal.Facts) (hAdlK : Cert.AdlK.Facts) (hAdlKIdeal : Cert.AdlKIdeal.Facts) (hAdlRIdeal : Cert.AdlRIdeal.Facts) (hAdhK : Cert.AdhK.Facts) (hAdhKIdeal : Cert.AdhKIdeal.Facts) (hAdhRIdeal : Cert.AdhRIdeal.Facts) (hSumsK : Cert.SumsK.Facts) (hSumsKIdeal : Cert.SumsKIdeal.Facts) (hSumsRIdeal : Cert.SumsRIdeal.Facts) (hAs0K : Cert.As0K.Facts) (hAs0KIdeal : Cert.As0KIdeal.Facts) (hAs0RIdeal : Cert.As0RIdeal.Facts) (hAs1K : Cert.As1K.Facts) (hAs1KIdeal : Cert.As1KIdeal.Facts) (hAs1RIdeal : Cert.As1RIdeal.Facts) (hPre_finite_loss : Cert.Pre_finite_loss.Facts) (hPre_finite_dgn : Cert.Pre_finite_dgn.Facts) (hPre_finite_mlpb : Cert.Pre_finite_mlpb.Facts) (hPre_finite_glaf : Cert.Pre_finite_glaf.Facts) (hPre_finite_hgf : Cert.Pre_finite_hgf.Facts),
    quiescent_LossK (hLossK := hLossK)
    ∧ quiescent_LossKIdeal (hLossKIdeal := hLossKIdeal)
    ∧ quiescent_LossKIdeal_pre_finite_loss (hLossKIdeal := hLossKIdeal) (hPre_finite_loss := hPre_finite_loss)
    ∧ quiescent_LossRIdeal (hLossRIdeal := hLossRIdeal)
    ∧ quiescent_LossRIdeal_pre_finite_loss (hLossRIdeal := hLossRIdeal) (hPre_finite_loss := hPre_finite_loss)
    ∧ quiescent_GateK (hGateK := hGateK)
    ∧ quiescent_GateKIdeal (hGateKIdeal := hGateKIdeal)
    ∧ quiescent_GateRIdeal (hGateRIdeal := hGateRIdeal)
    ∧ quiescent_ConvK (hConvK := hConvK)
    ∧ quiescent_ConvKIdeal (hConvKIdeal := hConvKIdeal)
    ∧ quiescent_ConvRIdeal (hConvRIdeal := hConvRIdeal)
    ∧ quiescent_DgnK (hDgnK := hDgnK)
    ∧ quiescent_DgnKIdeal (hDgnKIdeal := hDgnKIdeal)
    ∧ quiescent_DgnKIdeal_pre_finite_dgn (hDgnKIdeal := hDgnKIdeal) (hPre_finite_dgn := hPre_finite_dgn)
    ∧ quiescent_DgnRIdeal (hDgnRIdeal := hDgnRIdeal)
    ∧ quiescent_DgnRIdeal_pre_finite_dgn (hDgnRIdeal := hDgnRIdeal) (hPre_finite_dgn := hPre_finite_dgn)
    ∧ quiescent_MlpbK (hMlpbK := hMlpbK)
    ∧ quiescent_MlpbKIdeal (hMlpbKIdeal := hMlpbKIdeal)
    ∧ quiescent_MlpbKIdeal_pre_finite_mlpb (hMlpbKIdeal := hMlpbKIdeal) (hPre_finite_mlpb := hPre_finite_mlpb)
    ∧ quiescent_MlpbRIdeal (hMlpbRIdeal := hMlpbRIdeal)
    ∧ quiescent_MlpbRIdeal_pre_finite_mlpb (hMlpbRIdeal := hMlpbRIdeal) (hPre_finite_mlpb := hPre_finite_mlpb)
    ∧ quiescent_Comb1K (hComb1K := hComb1K)
    ∧ quiescent_Comb1KIdeal (hComb1KIdeal := hComb1KIdeal)
    ∧ quiescent_Comb1RIdeal (hComb1RIdeal := hComb1RIdeal)
    ∧ quiescent_Comb0K (hComb0K := hComb0K)
    ∧ quiescent_Comb0KIdeal (hComb0KIdeal := hComb0KIdeal)
    ∧ quiescent_Comb0RIdeal (hComb0RIdeal := hComb0RIdeal)
    ∧ quiescent_ConvfK (hConvfK := hConvfK)
    ∧ quiescent_ConvfKIdeal (hConvfKIdeal := hConvfKIdeal)
    ∧ quiescent_ConvfRIdeal (hConvfRIdeal := hConvfRIdeal)
    ∧ quiescent_GlogK (hGlogK := hGlogK)
    ∧ quiescent_GlogKIdeal (hGlogKIdeal := hGlogKIdeal)
    ∧ quiescent_GlogRIdeal (hGlogRIdeal := hGlogRIdeal)
    ∧ quiescent_NmmK (hNmmK := hNmmK)
    ∧ quiescent_NmmKIdeal (hNmmKIdeal := hNmmKIdeal)
    ∧ quiescent_NmmRIdeal (hNmmRIdeal := hNmmRIdeal)
    ∧ quiescent_Mix1K (hMix1K := hMix1K)
    ∧ quiescent_Mix1KIdeal (hMix1KIdeal := hMix1KIdeal)
    ∧ quiescent_Mix1RIdeal (hMix1RIdeal := hMix1RIdeal)
    ∧ quiescent_Mix0K (hMix0K := hMix0K)
    ∧ quiescent_Mix0KIdeal (hMix0KIdeal := hMix0KIdeal)
    ∧ quiescent_Mix0RIdeal (hMix0RIdeal := hMix0RIdeal)
    ∧ quiescent_GlafK (hGlafK := hGlafK)
    ∧ quiescent_GlafKIdeal (hGlafKIdeal := hGlafKIdeal)
    ∧ quiescent_GlafKIdeal_pre_finite_glaf (hGlafKIdeal := hGlafKIdeal) (hPre_finite_glaf := hPre_finite_glaf)
    ∧ quiescent_GlafRIdeal (hGlafRIdeal := hGlafRIdeal)
    ∧ quiescent_GlafRIdeal_pre_finite_glaf (hGlafRIdeal := hGlafRIdeal) (hPre_finite_glaf := hPre_finite_glaf)
    ∧ quiescent_HgfK (hHgfK := hHgfK)
    ∧ quiescent_HgfKIdeal (hHgfKIdeal := hHgfKIdeal)
    ∧ quiescent_HgfKIdeal_pre_finite_hgf (hHgfKIdeal := hHgfKIdeal) (hPre_finite_hgf := hPre_finite_hgf)
    ∧ quiescent_HgfRIdeal (hHgfRIdeal := hHgfRIdeal)
    ∧ quiescent_HgfRIdeal_pre_finite_hgf (hHgfRIdeal := hHgfRIdeal) (hPre_finite_hgf := hPre_finite_hgf)
    ∧ quiescent_Glab1 (hGlab1 := hGlab1)
    ∧ quiescent_Glab1Ideal (hGlab1Ideal := hGlab1Ideal)
    ∧ quiescent_Hgb1 (hHgb1 := hHgb1)
    ∧ quiescent_Hgb1Ideal (hHgb1Ideal := hHgb1Ideal)
    ∧ quiescent_MresK (hMresK := hMresK)
    ∧ quiescent_MresKIdeal (hMresKIdeal := hMresKIdeal)
    ∧ quiescent_MresRIdeal (hMresRIdeal := hMresRIdeal)
    ∧ quiescent_WgrK (hWgrK := hWgrK)
    ∧ quiescent_WgrKIdeal (hWgrKIdeal := hWgrKIdeal)
    ∧ quiescent_WgrRIdeal (hWgrRIdeal := hWgrRIdeal)
    ∧ quiescent_AdwK (hAdwK := hAdwK)
    ∧ quiescent_AdwKIdeal (hAdwKIdeal := hAdwKIdeal)
    ∧ quiescent_AdwRIdeal (hAdwRIdeal := hAdwRIdeal)
    ∧ quiescent_AdlK (hAdlK := hAdlK)
    ∧ quiescent_AdlKIdeal (hAdlKIdeal := hAdlKIdeal)
    ∧ quiescent_AdlRIdeal (hAdlRIdeal := hAdlRIdeal)
    ∧ quiescent_AdhK (hAdhK := hAdhK)
    ∧ quiescent_AdhKIdeal (hAdhKIdeal := hAdhKIdeal)
    ∧ quiescent_AdhRIdeal (hAdhRIdeal := hAdhRIdeal)
    ∧ quiescent_SumsK (hSumsK := hSumsK)
    ∧ quiescent_SumsKIdeal (hSumsKIdeal := hSumsKIdeal)
    ∧ quiescent_SumsRIdeal (hSumsRIdeal := hSumsRIdeal)
    ∧ quiescent_As0K (hAs0K := hAs0K)
    ∧ quiescent_As0KIdeal (hAs0KIdeal := hAs0KIdeal)
    ∧ quiescent_As0RIdeal (hAs0RIdeal := hAs0RIdeal)
    ∧ quiescent_As1K (hAs1K := hAs1K)
    ∧ quiescent_As1KIdeal (hAs1KIdeal := hAs1KIdeal)
    ∧ quiescent_As1RIdeal (hAs1RIdeal := hAs1RIdeal)
    ∧ preserves_LossK_LossKIdeal
    ∧ algebraic_LossKIdeal_LossRIdeal_pre_finite_loss (hLossKIdeal := hLossKIdeal) (hLossRIdeal := hLossRIdeal) (hPre_finite_loss := hPre_finite_loss)
    ∧ preserves_GateK_GateKIdeal
    ∧ algebraic_GateKIdeal_GateRIdeal (hGateKIdeal := hGateKIdeal) (hGateRIdeal := hGateRIdeal)
    ∧ preserves_ConvK_ConvKIdeal
    ∧ algebraic_ConvKIdeal_ConvRIdeal (hConvKIdeal := hConvKIdeal) (hConvRIdeal := hConvRIdeal)
    ∧ preserves_DgnK_DgnKIdeal
    ∧ algebraic_DgnKIdeal_DgnRIdeal_pre_finite_dgn (hDgnKIdeal := hDgnKIdeal) (hDgnRIdeal := hDgnRIdeal) (hPre_finite_dgn := hPre_finite_dgn)
    ∧ preserves_MlpbK_MlpbKIdeal
    ∧ algebraic_MlpbKIdeal_MlpbRIdeal_pre_finite_mlpb (hMlpbKIdeal := hMlpbKIdeal) (hMlpbRIdeal := hMlpbRIdeal) (hPre_finite_mlpb := hPre_finite_mlpb)
    ∧ preserves_Comb1K_Comb1KIdeal
    ∧ algebraic_Comb1KIdeal_Comb1RIdeal (hComb1KIdeal := hComb1KIdeal) (hComb1RIdeal := hComb1RIdeal)
    ∧ preserves_Comb0K_Comb0KIdeal
    ∧ algebraic_Comb0KIdeal_Comb0RIdeal (hComb0KIdeal := hComb0KIdeal) (hComb0RIdeal := hComb0RIdeal)
    ∧ preserves_ConvfK_ConvfKIdeal
    ∧ algebraic_ConvfKIdeal_ConvfRIdeal (hConvfKIdeal := hConvfKIdeal) (hConvfRIdeal := hConvfRIdeal)
    ∧ preserves_GlogK_GlogKIdeal
    ∧ algebraic_GlogKIdeal_GlogRIdeal (hGlogKIdeal := hGlogKIdeal) (hGlogRIdeal := hGlogRIdeal)
    ∧ preserves_NmmK_NmmKIdeal
    ∧ algebraic_NmmKIdeal_NmmRIdeal (hNmmKIdeal := hNmmKIdeal) (hNmmRIdeal := hNmmRIdeal)
    ∧ preserves_Mix1K_Mix1KIdeal
    ∧ algebraic_Mix1KIdeal_Mix1RIdeal (hMix1KIdeal := hMix1KIdeal) (hMix1RIdeal := hMix1RIdeal)
    ∧ preserves_Mix0K_Mix0KIdeal
    ∧ algebraic_Mix0KIdeal_Mix0RIdeal (hMix0KIdeal := hMix0KIdeal) (hMix0RIdeal := hMix0RIdeal)
    ∧ preserves_GlafK_GlafKIdeal
    ∧ algebraic_GlafKIdeal_GlafRIdeal_pre_finite_glaf (hGlafKIdeal := hGlafKIdeal) (hGlafRIdeal := hGlafRIdeal) (hPre_finite_glaf := hPre_finite_glaf)
    ∧ preserves_HgfK_HgfKIdeal
    ∧ algebraic_HgfKIdeal_HgfRIdeal_pre_finite_hgf (hHgfKIdeal := hHgfKIdeal) (hHgfRIdeal := hHgfRIdeal) (hPre_finite_hgf := hPre_finite_hgf)
    ∧ preserves_Glab1_Glab1Ideal
    ∧ preserves_Hgb1_Hgb1Ideal
    ∧ preserves_MresK_MresKIdeal
    ∧ algebraic_MresKIdeal_MresRIdeal (hMresKIdeal := hMresKIdeal) (hMresRIdeal := hMresRIdeal)
    ∧ preserves_WgrK_WgrKIdeal
    ∧ algebraic_WgrKIdeal_WgrRIdeal (hWgrKIdeal := hWgrKIdeal) (hWgrRIdeal := hWgrRIdeal)
    ∧ preserves_AdwK_AdwKIdeal
    ∧ algebraic_AdwKIdeal_AdwRIdeal (hAdwKIdeal := hAdwKIdeal) (hAdwRIdeal := hAdwRIdeal)
    ∧ preserves_AdlK_AdlKIdeal
    ∧ algebraic_AdlKIdeal_AdlRIdeal (hAdlKIdeal := hAdlKIdeal) (hAdlRIdeal := hAdlRIdeal)
    ∧ preserves_AdhK_AdhKIdeal
    ∧ algebraic_AdhKIdeal_AdhRIdeal (hAdhKIdeal := hAdhKIdeal) (hAdhRIdeal := hAdhRIdeal)
    ∧ preserves_SumsK_SumsKIdeal
    ∧ algebraic_SumsKIdeal_SumsRIdeal (hSumsKIdeal := hSumsKIdeal) (hSumsRIdeal := hSumsRIdeal)
    ∧ preserves_As0K_As0KIdeal
    ∧ algebraic_As0KIdeal_As0RIdeal (hAs0KIdeal := hAs0KIdeal) (hAs0RIdeal := hAs0RIdeal)
    ∧ preserves_As1K_As1KIdeal
    ∧ algebraic_As1KIdeal_As1RIdeal (hAs1KIdeal := hAs1KIdeal) (hAs1RIdeal := hAs1RIdeal)
-- ==== Pre_finite_dgn.lean ====
abbrev S4096x3584 : Shape := ⟨2, ![4096, 3584]⟩
abbrev S1024x3584 : Shape := ⟨2, ![1024, 3584]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x3584 : S_.BroadcastsInDim S4096x3584 (![] : Fin 0 → Fin S4096x3584.rank)
  reducesTo_S4096x3584_S_d0_1 : S4096x3584.ReducesTo [0, 1] S_
  h_S_ : 0 < S_.numel
  bcast_S_S1024x3584 : S_.BroadcastsInDim S1024x3584 (![] : Fin 0 → Fin S1024x3584.rank)
  reducesTo_S1024x3584_S_d0_1 : S1024x3584.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  main_v19

def fn {F : FTy → Type} [FloatOps F] (main_arg0 : FVec F S4096x3584 .bf16) (main_arg1 : FVec F S1024x3584 .f32) (main_arg2 : FVec F S4096x1024 .f32) (main_arg3 : FVec F S1024 .f32) (main_arg4 : FVec F S4096x1024 .f32) : IVec S_ 1 :=
  let main_v0 : FVec F S4096x3584 .f32 := (extf .f32 · bitsLt_bf16_f32) main_arg0
  let main_v1 : FVec F S4096x3584 .f32 := Host.absf main_v0
  let main_cst : FVec F S_ .f32 := constant S_ .f32 0x7F800000#32
  let main_v2 : FVec F S4096x3584 .f32 := broadcastInDim S4096x3584 ![] bcast_S_S4096x3584 main_cst
  let main_v3 : IVec S4096x3584 1 := cmpf .olt main_v1 main_v2
  let main_c : IVec S_ 1 := constantI S_ 1 1#1
  let main_v4 : IVec S_ 1 := (fun x v => Host.reduce IntOp.andi x v reducesTo_S4096x3584_S_d0_1 h_S_) main_v3 main_c
  let main_v5 : FVec F S1024x3584 .f32 := Host.absf main_arg1
  let main_cst_0 : FVec F S_ .f32 := constant S_ .f32 0x7F800000#32
  let main_v6 : FVec F S1024x3584 .f32 := broadcastInDim S1024x3584 ![] bcast_S_S1024x3584 main_cst_0
  let main_v7 : IVec S1024x3584 1 := cmpf .olt main_v5 main_v6
  let main_c_1 : IVec S_ 1 := constantI S_ 1 1#1
  let main_v8 : IVec S_ 1 := (fun x v => Host.reduce IntOp.andi x v reducesTo_S1024x3584_S_d0_1 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S1024 .f32 := Host.absf main_arg3
  let main_cst_4 : FVec F S_ .f32 := constant S_ .f32 0x7F800000#32
  let main_v16 : FVec F S1024 .f32 := broadcastInDim S1024 ![] bcast_S_S1024 main_cst_4
  fn_part1 (F := F) main_v14 main_v15 main_v16
-- ==== Pre_finite_glaf.lean ====
abbrev S4096x3104 : Shape := ⟨2, ![4096, 3104]⟩
abbrev S2x4096x512 : Shape := ⟨3, ![2, 4096, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel

variable [Facts]

def fn {F : FTy → Type} [FloatOps F] (main_arg0 : FVec F S4096x3104 .f32) (main_arg1 : FVec F S2x4096x512 .f32) : IVec S_ 1 :=
  let main_v0 : FVec F S2x4096x512 .f32 := Host.absf main_arg1
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  main_v3
-- ==== Pre_finite_hgf.lean ====
abbrev S4096x3584 : Shape := ⟨2, ![4096, 3584]⟩
abbrev S2x512 : Shape := ⟨2, ![2, 512]⟩
abbrev S_ : Shape := ⟨0, ![]⟩

class Facts : Prop where
  bcast_S_S2x512 : S_.BroadcastsInDim S2x512 (![] : Fin 0 → Fin S2x512.rank)
  reducesTo_S2x512_S_d0_1 : S2x512.ReducesTo [0, 1] S_
  h_S_ : 0 < S_.numel

variable [Facts]

def fn {F : FTy → Type} [FloatOps F] (main_arg0 : FVec F S4096x3584 .f32) (main_arg1 : FVec F S2x512 .f32) : IVec S_ 1 :=
  let main_v0 : FVec F S2x512 .f32 := Host.absf main_arg1
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  let main_c : IVec S_ 1 := constantI S_ 1 1#1
  let main_v3 : IVec S_ 1 := (fun x v => Host.reduce IntOp.andi x v reducesTo_S2x512_S_d0_1 h_S_) main_v2 main_c
  main_v3
-- ==== Pre_finite_loss.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_finite_mlpb.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg4 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1024 .f32) (main_arg2 : FVec F S1024x4096 .f32) (main_arg3 : FVec F S4096x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== LossK.lean ====
abbrev S4096x1024 : Shape := ⟨2, ![4096, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S8x128, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S8x128, .f32⟩
  | .hbm, ⟨72, _⟩ => ⟨S4096x1024, .bf16⟩
  | .hbm, ⟨73, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== GateK.lean ====
abbrev S2x16x512 : Shape := ⟨3, ![2, 16, 512]⟩
abbrev S4096x512 : Shape := ⟨2, ![4096, 512]⟩
abbrev S_ : Shape := ⟨0, ![]⟩
abbrev S2x128x512 : Shape := ⟨3, ![2, 128, 512]⟩
abbrev S1x16x512 : Shape := ⟨3, ![1, 16, 512]⟩
abbrev S16x512 : Shape := ⟨2, ![16, 512]⟩
abbrev S1 : Shape := ⟨1, ![1]⟩
abbrev S2 : Shape := ⟨1, ![2]⟩
abbrev S4096x128 : Shape := ⟨2, ![4096, 128]⟩
abbrev S2x1x512 : Shape := ⟨3, ![2, 1, 512]⟩
abbrev S2x4096x512 : Shape := ⟨3, ![2, 4096, 512]⟩
abbrev S512x512 : Shape := ⟨2, ![512, 512]⟩
abbrev S512x128 : Shape := ⟨2, ![512, 128]⟩
abbrev S2x512x512 : Shape := ⟨3, ![2, 512, 512]⟩
abbrev S1x512x512 : Shape := ⟨3, ![1, 512, 512]⟩
abbrev S1x128x512 : Shape := ⟨3, ![1, 128, 512]⟩
abbrev S128x512 : Shape := ⟨2, ![128, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 24
  | .vmem => 10
  | .smem => 0
  | _ => 0

abbrev bufTy : (tb : Table) → Fin (tcTables nBuf tb) → BufTy
  | .hbm, ⟨0, _⟩ => ⟨S2x16x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S2x128x512, .f32⟩
  | .hbm, ⟨5, _⟩ => ⟨S1x16x512, .f32⟩
  | .hbm, ⟨6, _⟩ => ⟨S16x512, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S2x128x512, .f32⟩
  | .hbm, ⟨13, _⟩ => ⟨S1x16x512, .f32⟩
  | .hbm, ⟨14, _⟩ => ⟨S16x512, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S2x128x512, .f32⟩
  | .hbm, ⟨21, _⟩ => ⟨S4096x128, .f32⟩
  | .hbm, ⟨22, _⟩ => ⟨S2x1x512, .f32⟩
  | .hbm, ⟨23, _⟩ => ⟨S2x4096x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S2x128x512, .f32⟩
  | .local _ .vmem, ⟨5, _⟩ => ⟨S512x128, .f32⟩
  | .local _ .vmem, ⟨6, _⟩ => ⟨S512x128, .f32⟩
  | .local _ .vmem, ⟨7, _⟩ => ⟨S2x1x512, .f32⟩
  | .local _ .vmem, ⟨8, _⟩ => ⟨S2x512x512, .bf16⟩
  | .local _ .vmem, ⟨9, _⟩ => ⟨S2x512x512, .bf16⟩
  | _, _ => ⟨S2x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateRIdeal.lean ====
abbrev S2x16x512 : Shape := ⟨3, ![2, 16, 512]⟩
abbrev S4096x512 : Shape := ⟨2, ![4096, 512]⟩
abbrev S_ : Shape := ⟨0, ![]⟩
abbrev S4096x16 : Shape := ⟨2, ![4096, 16]⟩
abbrev S2x512 : Shape := ⟨2, ![2, 512]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩
abbrev S4096x32 : Shape := ⟨2, ![4096, 32]⟩
abbrev S4096x128 : Shape := ⟨2, ![4096, 128]⟩
abbrev S2x1x512 : Shape := ⟨3, ![2, 1, 512]⟩
abbrev S1x4096x512 : Shape := ⟨3, ![1, 4096, 512]⟩
abbrev S2x4096x512 : Shape := ⟨3, ![2, 4096, 512]⟩

abbrev nBuf : Space → Nat
  | .hbm => 53
  | .vmem => 0
  | .smem => 0
  | _ => 0

abbrev bufTy : (tb : Table) → Fin (tcTables nBuf tb) → BufTy
  | .hbm, ⟨0, _⟩ => ⟨S2x16x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096x16, .f32⟩
  | .hbm, ⟨5, _⟩ => ⟨S_, .f32⟩
  | .hbm, ⟨6, _⟩ => ⟨S2x512, .f32⟩
  | .hbm, ⟨7, _⟩ => ⟨S1x16x512, .f32⟩
  | .hbm, ⟨8, _⟩ => ⟨S16x512, .f32⟩
  | .hbm, ⟨9, _⟩ => ⟨S1x512, .f32⟩
  | .hbm, ⟨10, _⟩ => ⟨S512, .f32⟩
  | .hbm, ⟨11, _⟩ => ⟨S4096x512, .f32⟩
  | .hbm, ⟨12, _⟩ => ⟨S1x512, .f32⟩
  | .hbm, ⟨13, _⟩ => ⟨S4096x512, .f32⟩
  | .hbm, ⟨14, _⟩ => ⟨S4096x512, .f32⟩
  | .hbm, ⟨15, _⟩ => ⟨S1x16x512, .f32⟩
  | .hbm, ⟨16, _⟩ => ⟨S16x512, .f32⟩
  | .hbm, ⟨17, _⟩ => ⟨S1x512, .f32⟩
  | .hbm, ⟨18, _⟩ => ⟨S512, .f32⟩
  | .hbm, ⟨19, _⟩ => ⟨S4096x512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S512, .f32⟩
  | .hbm, ⟨26, _⟩ => ⟨S1x512, .f32⟩
  | .hbm, ⟨27, _⟩ => ⟨S_, .f32⟩
  | .hbm, ⟨28, _⟩ => ⟨S512, .f32⟩
  | .hbm, ⟨29, _⟩ => ⟨S4096x16, .f32⟩
  | .hbm, ⟨30, _⟩ => ⟨S1x512, .f32⟩
  | .hbm, ⟨31, _⟩ => ⟨S_, .f32⟩
  | .hbm, ⟨32, _⟩ => ⟨S2x512, .f32⟩
  | .hbm, ⟨33, _⟩ => ⟨S4096x512, .f32⟩
  | .hbm, ⟨34, _⟩ => ⟨S_, .f32⟩
  | .hbm, ⟨35, _⟩ => ⟨S512, .f32⟩
  | .hbm, ⟨36, _⟩ => ⟨S1x512, .f32⟩
  | .hbm, ⟨37, _⟩ => ⟨S_, .f32⟩
  | .hbm, ⟨38, _⟩ => ⟨S512, .f32⟩
  | .hbm, ⟨39, _⟩ => ⟨S4096x16, .f32⟩
  | .hbm, ⟨40, _⟩ => ⟨S1x512, .f32⟩
  | .hbm, ⟨41, _⟩ => ⟨S_, .f32⟩
  | .hbm, ⟨42, _⟩ => ⟨S2x512, .f32⟩
  | .hbm, ⟨43, _⟩ => ⟨S2x512, .f32⟩
  | .hbm, ⟨44, _⟩ => ⟨S4096x32, .f32⟩
  | .hbm, ⟨45, _⟩ => ⟨S_, .i32⟩
  | .hbm, ⟨46, _⟩ => ⟨S_, .f32⟩
  | .hbm, ⟨47, _⟩ => ⟨S4096x128, .f32⟩
  | .hbm, ⟨48, _⟩ => ⟨S2x1x512, .f32⟩
  | .hbm, ⟨49, _⟩ => ⟨S1x4096x512, .f32⟩
  | .hbm, ⟨50, _⟩ => ⟨S1x4096x512, .f32⟩
  | .hbm, ⟨51, _⟩ => ⟨S2x4096x512, .f32⟩
  | .hbm, ⟨52, _⟩ => ⟨S2x4096x512, .bf16⟩
  | _, _ => ⟨S2x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_call0_v0 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== ConvK.lean ====
abbrev S4096x3584 : Shape := ⟨2, ![4096, 3584]⟩
abbrev S4x512 : Shape := ⟨2, ![4, 512]⟩
abbrev S4096x512 : Shape := ⟨2, ![4096, 512]⟩
abbrev S_ : Shape := ⟨0, ![]⟩
abbrev S8x512 : Shape := ⟨2, ![8, 512]⟩
abbrev S1x512 : Shape := ⟨2, ![1, 512]⟩
abbrev S512x512 : Shape := ⟨2, ![512, 512]⟩
abbrev S528x512 : Shape := ⟨2, ![528, 512]⟩
abbrev S512 : Shape := ⟨1, ![512]⟩

abbrev nBuf : Space → Nat
  | .hbm => 10
  | .vmem => 23
  | .smem => 0
  | _ => 0

abbrev bufTy : (tb : Table) → Fin (tcTables nBuf tb) → BufTy
  | .hbm, ⟨0, _⟩ => ⟨S4096x3584, .f32⟩
  | .hbm, ⟨1, _⟩ => ⟨S4x512, .f32⟩
  | .hbm, ⟨2, _⟩ => ⟨S4096x512, .f32⟩
  | .hbm, ⟨3, _⟩ => ⟨S4096x512, .f32⟩
  | .hbm, ⟨4, _⟩ => ⟨S_, .i32⟩
  | .hbm, ⟨5, _⟩ => ⟨S_, .f32⟩
  | .hbm, ⟨6, _⟩ => ⟨S8x512, .f32⟩
  | .hbm, ⟨7, _⟩ => ⟨S4096x512, .f32⟩
  | .hbm, ⟨8, _⟩ => ⟨S8x512, .f32⟩
  | .hbm, ⟨9, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S512x512, .f32⟩
  | .local _ .vmem, ⟨13, _⟩ => ⟨S512x512, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S512x512, .f32⟩
  | .local _ .vmem, ⟨20, _⟩ => ⟨S512x512, .f32⟩
  | .local _ .vmem, ⟨21, _⟩ => ⟨S8x512, .f32⟩
  | .local _ .vmem, ⟨22, _⟩ => ⟨S1x512, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem12_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ConvRIdeal.lean ====
abbrev S4096x3584 : Shape := ⟨2, ![4096, 3584]⟩
abbrev S4x512 : Shape := ⟨2, ![4, 512]⟩
abbrev S4096x512 : Shape := ⟨2, ![4096, 512]⟩
abbrev S_ : Shape := ⟨0, ![]⟩
abbrev S512 : Shape := ⟨1, ![512]⟩
abbrev S2x512 : Shape := ⟨2, ![2, 512]⟩
abbrev S1x512 : Shape := ⟨2, ![1, 512]⟩
abbrev S4099x512 : Shape := ⟨2, ![4099, 512]⟩
abbrev S8x512 : Shape := ⟨2, ![8, 512]⟩

abbrev nBuf : Space → Nat
  | .hbm => 120
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S4x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S512, .f32⟩
  | .hbm, ⟨7, _⟩ => ⟨S_, .f32⟩
  | .hbm, ⟨8, _⟩ => ⟨S2x512, .f32⟩
  | .hbm, ⟨9, _⟩ => ⟨S_, .f32⟩
  | .hbm, ⟨10, _⟩ => ⟨S1x512, .f32⟩
  | .hbm, ⟨11, _⟩ => ⟨S4099x512, .f32⟩
  | .hbm, ⟨12, _⟩ => ⟨S_, .f32⟩
  | .hbm, ⟨13, _⟩ => ⟨S2x512, .f32⟩
  | .hbm, ⟨14, _⟩ => ⟨S_, .f32⟩
  | .hbm, ⟨15, _⟩ => ⟨S1x512, .f32⟩
  | .hbm, ⟨16, _⟩ => ⟨S4096x512, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S1x512, .f32⟩
  | .hbm, ⟨27, _⟩ => ⟨S512, .f32⟩
  | .hbm, ⟨28, _⟩ => ⟨S1x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S1x512, .f32⟩
  | .hbm, ⟨34, _⟩ => ⟨S512, .f32⟩
  | .hbm, ⟨35, _⟩ => ⟨S1x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S1x512, .f32⟩
  | .hbm, ⟨41, _⟩ => ⟨S512, .f32⟩
  | .hbm, ⟨42, _⟩ => ⟨S1x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S1x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S_, .f32⟩
  | .hbm, ⟨54, _⟩ => ⟨S512, .f32⟩
  | .hbm, ⟨55, _⟩ => ⟨S4096x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S4096x512, .f32⟩
  | .hbm, ⟨60, _⟩ => ⟨S4096x512, .f32⟩
  | .hbm, ⟨61, _⟩ => ⟨S_, .f32⟩
  | .hbm, ⟨62, _⟩ => ⟨S512, .f32⟩
  | .hbm, ⟨63, _⟩ => ⟨S1x512, .f32⟩
  | .hbm, ⟨64, _⟩ => ⟨S_, .f32⟩
  | .hbm, ⟨65, _⟩ => ⟨S4x512, .f32⟩
  | .hbm, ⟨66, _⟩ => ⟨S_, .f32⟩
  | .hbm, ⟨67, _⟩ => ⟨S4099x512, .f32⟩
  | .hbm, ⟨68, _⟩ => ⟨S4096x512, .f32⟩
  | .hbm, ⟨69, _⟩ => ⟨S_, .f32⟩
  | .hbm, ⟨70, _⟩ => ⟨S512, .f32⟩
  | .hbm, ⟨71, _⟩ => ⟨S1x512, .f32⟩
  | .hbm, ⟨72, _⟩ => ⟨S4096x512, .f32⟩
  | .hbm, ⟨73, _⟩ => ⟨S4096x512, .f32⟩
  | .hbm, ⟨74, _⟩ => ⟨S_, .f32⟩
  | .hbm, ⟨75, _⟩ => ⟨S512, .f32⟩
  | .hbm, ⟨76, _⟩ => ⟨S1x512, .f32⟩
  | .hbm, ⟨77, _⟩ => ⟨S_, .f32⟩
  | .hbm, ⟨78, _⟩ => ⟨S4x512, .f32⟩
  | .hbm, ⟨79, _⟩ => ⟨S4x512, .f32⟩
  | .hbm, ⟨80, _⟩ => ⟨S_, .f32⟩
  | .hbm, ⟨81, _⟩ => ⟨S4099x512, .f32⟩
  | .hbm, ⟨82, _⟩ => ⟨S4099x512, .f32⟩
  | .hbm, ⟨83, _⟩ => ⟨S4096x512, .f32⟩
  | .hbm, ⟨84, _⟩ => ⟨S_, .f32⟩
  | .hbm, ⟨85, _⟩ => ⟨S512, .f32⟩
  | .hbm, ⟨86, _⟩ => ⟨S1x512, .f32⟩
  | .hbm, ⟨87, _⟩ => ⟨S4096x512, .f32⟩
  | .hbm, ⟨88, _⟩ => ⟨S4096x512, .f32⟩
  | .hbm, ⟨89, _⟩ => ⟨S_, .f32⟩
  | .hbm, ⟨90, _⟩ => ⟨S512, .f32⟩
  | .hbm, ⟨91, _⟩ => ⟨S1x512, .f32⟩
  | .hbm, ⟨92, _⟩ => ⟨S_, .f32⟩
  | .hbm, ⟨93, _⟩ => ⟨S4x512, .f32⟩
  | .hbm, ⟨94, _⟩ => ⟨S4x512, .f32⟩
  | .hbm, ⟨95, _⟩ => ⟨S_, .f32⟩
  | .hbm, ⟨96, _⟩ => ⟨S4099x512, .f32⟩
  | .hbm, ⟨97, _⟩ => ⟨S4099x512, .f32⟩
  | .hbm, ⟨98, _⟩ => ⟨S4096x512, .f32⟩
  | .hbm, ⟨99, _⟩ => ⟨S_, .f32⟩
  | .hbm, ⟨100, _⟩ => ⟨S512, .f32⟩
  | .hbm, ⟨101, _⟩ => ⟨S1x512, .f32⟩
  | .hbm, ⟨102, _⟩ => ⟨S4096x512, .f32⟩
  | .hbm, ⟨103, _⟩ => ⟨S4096x512, .f32⟩
  | .hbm, ⟨104, _⟩ => ⟨S_, .f32⟩
  | .hbm, ⟨105, _⟩ => ⟨S512, .f32⟩
  | .hbm, ⟨106, _⟩ => ⟨S1x512, .f32⟩
  | .hbm, ⟨107, _⟩ => ⟨S_, .f32⟩
  | .hbm, ⟨108, _⟩ => ⟨S4x512, .f32⟩
  | .hbm, ⟨109, _⟩ => ⟨S4x512, .f32⟩
  | .hbm, ⟨110, _⟩ => ⟨S_, .f32⟩
  | .hbm, ⟨111, _⟩ => ⟨S4099x512, .f32⟩
  | .hbm, ⟨112, _⟩ => ⟨S4099x512, .f32⟩
  | .hbm, ⟨113, _⟩ => ⟨S2x512, .f32⟩
  | .hbm, ⟨114, _⟩ => ⟨S4096x512, .f32⟩
  | .hbm, ⟨115, _⟩ => ⟨S1x512, .f32⟩
  | .hbm, ⟨116, _⟩ => ⟨S_, .i32⟩
  | .hbm, ⟨117, _⟩ => ⟨S_, .f32⟩
  | .hbm, ⟨118, _⟩ => ⟨S8x512, .f32⟩
  | .hbm, ⟨119, _⟩ => ⟨S1x512, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_cst_13 : Ref sig .tc := ⟨.hbm, 77, rfl⟩
abbrev main_v59 : Ref sig .tc := ⟨.hbm, 78, rfl⟩
abbrev main_v60 : Ref sig .tc := ⟨.hbm, 79, rfl⟩
abbrev main_cst_14 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_15 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_16 : Ref sig .tc := ⟨.hbm, 89, rfl⟩
abbrev main_v68 : Ref sig .tc := ⟨.hbm, 90, rfl⟩
abbrev main_v69 : Ref sig .tc := ⟨.hbm, 91, rfl⟩
abbrev main_cst_17 : Ref sig .tc := ⟨.hbm, 92, rfl⟩
abbrev main_v70 : Ref sig .tc := ⟨.hbm, 93, rfl⟩
abbrev main_v71 : Ref sig .tc := ⟨.hbm, 94, rfl⟩
abbrev main_cst_18 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_19 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_20 : Ref sig .tc := ⟨.hbm, 104, rfl⟩
abbrev main_v79 : Ref sig .tc := ⟨.hbm, 105, rfl⟩
abbrev main_v80 : Ref sig .tc := ⟨.hbm, 106, rfl⟩
abbrev main_cst_21 : Ref sig .tc := ⟨.hbm, 107, rfl⟩
abbrev main_v81 : Ref sig .tc := ⟨.hbm, 108, rfl⟩
abbrev main_v82 : Ref sig .tc := ⟨.hbm, 109, rfl⟩
abbrev main_cst_22 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_c : Ref sig .tc := ⟨.hbm, 116, rfl⟩
abbrev main_call0_v0 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]
-- ==== DgnK.lean ====
abbrev S4096x3584 : Shape := ⟨2, ![4096, 3584]⟩
abbrev S1024x3584 : Shape := ⟨2, ![1024, 3584]⟩
abbrev S4096x1024 : Shape := ⟨2, ![4096, 1024]⟩
abbrev S1024 : Shape := ⟨1, ![1024]⟩
abbrev S1x1024 : Shape := ⟨2, ![1, 1024]⟩
abbrev S512x3584 : Shape := ⟨2, ![512, 3584]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x3584, .bf16⟩
  | .hbm, ⟨1, _⟩ => ⟨S1024x3584, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x3584, .bf16⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S512x3584, .bf16⟩
  | .local _ .vmem, ⟨1, _⟩ => ⟨S512x3584, .bf16⟩
  | .local _ .vmem, ⟨2, _⟩ => ⟨S1024x3584, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DgnRIdeal.lean ====
abbrev S4096x3584 : Shape := ⟨2, ![4096, 3584]⟩
abbrev S1024x3584 : Shape := ⟨2, ![1024, 3584]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S1024x3584, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3584, .f32⟩
  | .hbm, ⟨26, _⟩ => ⟨S4096x3584, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S1x1024, .f32⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== MlpbK.lean ====
abbrev S4096x1024 : Shape := ⟨2, ![4096, 1024]⟩
abbrev S1024 : Shape := ⟨1, ![1024]⟩
abbrev S1024x4096 : Shape := ⟨2, ![1024, 4096]⟩
abbrev S1024x8x512 : Shape := ⟨3, ![1024, 8, 512]⟩
abbrev S8x1024x512 : Shape := ⟨3, ![8, 1024, 512]⟩
abbrev S1x1024 : Shape := ⟨2, ![1, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S256x1024 : Shape := ⟨2, ![256, 1024]⟩
abbrev S256x4096 : Shape := ⟨2, ![256, 4096]⟩
abbrev S256x512 : Shape := ⟨2, ![256, 512]⟩
abbrev S256 : Shape := ⟨1, ![256]⟩
abbrev S256x1 : Shape := ⟨2, ![256, 1]⟩

abbrev nBuf : Space → Nat
  | .hbm => 19
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S1024x8x512, .f32⟩
  | .hbm, ⟨6, _⟩ => ⟨S8x1024x512, .f32⟩
  | .hbm, ⟨7, _⟩ => ⟨S8x1024x512, .bf16⟩
  | .hbm, ⟨8, _⟩ => ⟨S1x1024, .f32⟩
  | .hbm, ⟨9, _⟩ => ⟨S4096x1024, .bf16⟩
  | .hbm, ⟨10, _⟩ => ⟨S4096x1024, .f32⟩
  | .hbm, ⟨11, _⟩ => ⟨S4096x4096, .bf16⟩
  | .hbm, ⟨12, _⟩ => ⟨S4096x1024, .bf16⟩
  | .hbm, ⟨13, _⟩ => ⟨S4096x1024, .bf16⟩
  | .hbm, ⟨14, _⟩ => ⟨S4096x1024, .f32⟩
  | .hbm, ⟨15, _⟩ => ⟨S4096x1024, .bf16⟩
  | .hbm, ⟨16, _⟩ => ⟨S4096x4096, .bf16⟩
  | .hbm, ⟨17, _⟩ => ⟨S4096x4096, .bf16⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S512x4096, .bf16⟩
  | .local _ .vmem, ⟨8, _⟩ => ⟨S512x4096, .bf16⟩
  | .local _ .vmem, ⟨9, _⟩ => ⟨S512x1024, .bf16⟩
  | .local _ .vmem, ⟨10, _⟩ => ⟨S512x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S256x4096, .bf16⟩
  | .local _ .vmem, ⟨19, _⟩ => ⟨S256x4096, .bf16⟩
  | .local _ .vmem, ⟨20, _⟩ => ⟨S8x1024x512, .bf16⟩
  | .local _ .vmem, ⟨21, _⟩ => ⟨S4096x1024, .bf16⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .bf16⟩
  | .local _ .vmem, ⟨26, _⟩ => ⟨S256x4096, .bf16⟩
  | .local _ .vmem, ⟨27, _⟩ => ⟨S256x4096, .bf16⟩
  | .local _ .vmem, ⟨28, _⟩ => ⟨S256x4096, .bf16⟩
  | .local _ .vmem, ⟨29, _⟩ => ⟨S256x4096, .bf16⟩
  | .local _ .vmem, ⟨30, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S8x1024x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4096x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x4096 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x4096 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== MlpbRIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1x1024 : Shape := ⟨2, ![1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .i1⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x4096, .f32⟩
  | .hbm, ⟨45, _⟩ => ⟨S_, .f32⟩
  | .hbm, ⟨46, _⟩ => ⟨S4096x1024, .f32⟩
  | .hbm, ⟨47, _⟩ => ⟨S_, .f32⟩
  | .hbm, ⟨48, _⟩ => ⟨S4096x4096, .f32⟩
  | .hbm, ⟨49, _⟩ => ⟨S4096x1024, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x4096, .bf16⟩
  | .hbm, ⟨86, _⟩ => ⟨S4096x1024, .bf16⟩
  | .hbm, ⟨87, _⟩ => ⟨S4096x1024, .bf16⟩
  | .hbm, ⟨88, _⟩ => ⟨S4096x4096, .bf16⟩
  | .hbm, ⟨89, _⟩ => ⟨S4096x4096, .bf16⟩
  | .hbm, ⟨90, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_v54 : Ref sig .tc := ⟨.hbm, 77, rfl⟩
abbrev main_cst_15 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Comb1K.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096x2048 : Shape := ⟨2, ![4096, 2048]⟩
abbrev S4096x3072 : Shape := ⟨2, ![4096, 3072]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S512x768 : Shape := ⟨2, ![512, 768]⟩
abbrev S512x512 : Shape := ⟨2, ![512, 512]⟩

abbrev nBuf : Space → Nat
  | .hbm => 15
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024x1024, .f32⟩
  | .hbm, ⟨5, _⟩ => ⟨S4096x1024, .f32⟩
  | .hbm, ⟨6, _⟩ => ⟨S_, .f32⟩
  | .hbm, ⟨7, _⟩ => ⟨S4096x2048, .f32⟩
  | .hbm, ⟨8, _⟩ => ⟨S4096x3072, .f32⟩
  | .hbm, ⟨9, _⟩ => ⟨S1x1024, .f32⟩
  | .hbm, ⟨10, _⟩ => ⟨S4096x1024, .bf16⟩
  | .hbm, ⟨11, _⟩ => ⟨S1024x1024, .bf16⟩
  | .hbm, ⟨12, _⟩ => ⟨S4096x1024, .f32⟩
  | .hbm, ⟨13, _⟩ => ⟨S4096x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Comb1RIdeal.lean ====
abbrev S4096x1024 : Shape := ⟨2, ![4096, 1024]⟩
abbrev S1024 : Shape := ⟨1, ![1024]⟩
abbrev S1024x1024 : Shape := ⟨2, ![1024, 1024]⟩
abbrev S4096x4x256 : Shape := ⟨3, ![4096, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S1x1024 : Shape := ⟨2, ![1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x4x256, .f32⟩
  | .hbm, ⟨8, _⟩ => ⟨S4x4096x256, .f32⟩
  | .hbm, ⟨9, _⟩ => ⟨S4x4096x256, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x256, .f32⟩
  | .hbm, ⟨25, _⟩ => ⟨S4x4096x256, .f32⟩
  | .hbm, ⟨26, _⟩ => ⟨S4096x4x256, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x4x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x256, .f32⟩
  | .hbm, ⟨68, _⟩ => ⟨S4x4096x256, .f32⟩
  | .hbm, ⟨69, _⟩ => ⟨S4x4096x1, .f32⟩
  | .hbm, ⟨70, _⟩ => ⟨S_, .f32⟩
  | .hbm, ⟨71, _⟩ => ⟨S4x4096x1, .f32⟩
  | .hbm, ⟨72, _⟩ => ⟨S4x4096x1, .f32⟩
  | .hbm, ⟨73, _⟩ => ⟨S_, .f32⟩
  | .hbm, ⟨74, _⟩ => ⟨S4x4096, .f32⟩
  | .hbm, ⟨75, _⟩ => ⟨S4x4096x256, .f32⟩
  | .hbm, ⟨76, _⟩ => ⟨S4x4096x256, .f32⟩
  | .hbm, ⟨77, _⟩ => ⟨S4x4096x256, .f32⟩
  | .hbm, ⟨78, _⟩ => ⟨S4x4096x256, .f32⟩
  | .hbm, ⟨79, _⟩ => ⟨S4x4096x256, .f32⟩
  | .hbm, ⟨80, _⟩ => ⟨S4096x4x256, .f32⟩
  | .hbm, ⟨81, _⟩ => ⟨S4096x1024, .f32⟩
  | .hbm, ⟨82, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]
-- ==== Comb0K.lean ====
abbrev S4096x512 : Shape := ⟨2, ![4096, 512]⟩
abbrev S512 : Shape := ⟨1, ![512]⟩
abbrev S1024x1024 : Shape := ⟨2, ![1024, 1024]⟩
abbrev S4096x1024 : Shape := ⟨2, ![4096, 1024]⟩
abbrev S_ : Shape := ⟨0, ![]⟩
abbrev S4096x2048 : Shape := ⟨2, ![4096, 2048]⟩
abbrev S4096x3584 : Shape := ⟨2, ![4096, 3584]⟩
abbrev S1x512 : Shape := ⟨2, ![1, 512]⟩
abbrev S512x512 : Shape := ⟨2, ![512, 512]⟩
abbrev S512x1024 : Shape := ⟨2, ![512, 1024]⟩
abbrev S512x128 : Shape := ⟨2, ![512, 128]⟩
abbrev S512x1 : Shape := ⟨2, ![512, 1]⟩
abbrev S512x384 : Shape := ⟨2, ![512, 384]⟩
abbrev S512x256 : Shape := ⟨2, ![512, 256]⟩

abbrev nBuf : Space → Nat
  | .hbm => 22
  | .vmem => 25
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S512, .f32⟩
  | .hbm, ⟨7, _⟩ => ⟨S1024x1024, .f32⟩
  | .hbm, ⟨8, _⟩ => ⟨S4096x1024, .f32⟩
  | .hbm, ⟨9, _⟩ => ⟨S_, .f32⟩
  | .hbm, ⟨10, _⟩ => ⟨S4096x512, .f32⟩
  | .hbm, ⟨11, _⟩ => ⟨S_, .f32⟩
  | .hbm, ⟨12, _⟩ => ⟨S4096x2048, .f32⟩
  | .hbm, ⟨13, _⟩ => ⟨S4096x3584, .f32⟩
  | .hbm, ⟨14, _⟩ => ⟨S1x512, .f32⟩
  | .hbm, ⟨15, _⟩ => ⟨S4096x1024, .bf16⟩
  | .hbm, ⟨16, _⟩ => ⟨S1024x1024, .bf16⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Comb0RIdeal.lean ====
abbrev S4096x512 : Shape := ⟨2, ![4096, 512]⟩
abbrev S512 : Shape := ⟨1, ![512]⟩
abbrev S1024x1024 : Shape := ⟨2, ![1024, 1024]⟩
abbrev S4096x1024 : Shape := ⟨2, ![4096, 1024]⟩
abbrev S_ : Shape := ⟨0, ![]⟩
abbrev S4096x4x128 : Shape := ⟨3, ![4096, 4, 128]⟩
abbrev S4x4096x128 : Shape := ⟨3, ![4, 4096, 128]⟩
abbrev S4x4096 : Shape := ⟨2, ![4, 4096]⟩
abbrev S4x4096x1 : Shape := ⟨3, ![4, 4096, 1]⟩
abbrev S1x512 : Shape := ⟨2, ![1, 512]⟩

abbrev nBuf : Space → Nat
  | .hbm => 136
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S4096x512, .f32⟩
  | 6 => ⟨S512, .f32⟩
  | 7 => ⟨S1024x1024, .f32⟩
  | 8 => ⟨S4096x1024, .f32⟩
  | 9 => ⟨S4096x512, .f32⟩
  | 10 => ⟨S4096x512, .f32⟩
  | 11 => ⟨S4096x512, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S4096x512, .f32⟩
  | 21 => ⟨S_, .f32⟩
  | 22 => ⟨S4096x512, .f32⟩
  | 23 => ⟨S4096x512, .f32⟩
  | 24 => ⟨S4096x512, .f32⟩
  | 25 => ⟨S_, .f32⟩
  | 26 => ⟨S4096x512, .f32⟩
  | 27 => ⟨S4096x512, .f32⟩
  | 28 => ⟨S_, .f32⟩
  | 29 => ⟨S4096x512, .f32⟩
  | 30 => ⟨S4096x512, .f32⟩
  | 31 => ⟨S4096x512, .f32⟩
  | 32 => ⟨S_, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S4096x512, .f32⟩
  | 39 => ⟨S4096x512, .f32⟩
  | 40 => ⟨S4096x4x128, .f32⟩
  | 41 => ⟨S4x4096x128, .f32⟩
  | 42 => ⟨S4x4096x128, .f32⟩
  | 43 => ⟨S_, .f32⟩
  | 44 => ⟨S4x4096, .f32⟩
  | 45 => ⟨S4x4096x1, .f32⟩
  | 46 => ⟨S_, .f32⟩
  | 47 => ⟨S4x4096x1, .f32⟩
  | 48 => ⟨S4x4096x1, .f32⟩
  | 49 => ⟨S_, .f32⟩
  | 50 => ⟨S4x4096x1, .f32⟩
  | 51 => ⟨S4x4096x1, .f32⟩
  | 52 => ⟨S4x4096x1, .f32⟩
  | 53 => ⟨S4x4096x1, .f32⟩
  | 54 => ⟨S_, .f32⟩
  | 55 => ⟨S4x4096x1, .f32⟩
  | 56 => ⟨S4x4096x1, .f32⟩
  | 57 => ⟨S4x4096x128, .f32⟩
  | 58 => ⟨S4x4096x128, .f32⟩
  | 59 => ⟨S4096x4x128, .f32⟩
  | 60 => ⟨S4096x512, .f32⟩
  | 61 => ⟨S1x512, .f32⟩
  | 62 => ⟨S4096x512, .f32⟩
  | 63 => ⟨S4096x512, .f32⟩
  | 64 => ⟨S4096x512, .f32⟩
  | 65 => ⟨S4096x512, .f32⟩
  | 66 => ⟨S_, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S_, .f32⟩
  | 73 => ⟨S4096x512, .f32⟩
  | 74 => ⟨S4096x512, .f32⟩
  | 75 => ⟨S4096x512, .f32⟩
  | 76 => ⟨S4096x512, .f32⟩
  | 77 => ⟨S4096x512, .f32⟩
  | 78 => ⟨S4096x1024, .f32⟩
  | 79 => ⟨S4096x1024, .f32⟩
  | 80 => ⟨S4096x1024, .f32⟩
  | 81 => ⟨S4096x512, .f32⟩
  | 82 => ⟨S4096x512, .f32⟩
  | 83 => ⟨S4096x512, .f32⟩
  | 84 => ⟨S4096x512, .f32⟩
  | 85 => ⟨S4096x512, .f32⟩
  | 86 => ⟨S4096x512, .f32⟩
  | 87 => ⟨S4096x512, .f32⟩
  | 88 => ⟨S4096x512, .f32⟩
  | 89 => ⟨S4096x512, .f32⟩
  | 90 => ⟨S_, .f32⟩
  | 91 => ⟨S512, .f32⟩
  | 92 => ⟨S1x512, .f32⟩
  | 93 => ⟨S4096x512, .f32⟩
  | 94 => ⟨S4096x512, .f32⟩
  | 95 => ⟨S_, .f32⟩
  | 96 => ⟨S512, .f32⟩
  | 97 => ⟨S4096x4x128, .f32⟩
  | 98 => ⟨S4x4096x128, .f32⟩
  | 99 => ⟨S4x4096x128, .f32⟩
  | 100 => ⟨S_, .f32⟩
  | 101 => ⟨S4x4096, .f32⟩
  | 102 => ⟨S4x4096x1, .f32⟩
  | 103 => ⟨S4x4096x128, .f32⟩
  | 104 => ⟨S4x4096x128, .f32⟩
  | 105 => ⟨S4x4096x1, .f32⟩
  | 106 => ⟨S_, .f32⟩
  | 107 => ⟨S4x4096x1, .f32⟩
  | 108 => ⟨S4x4096x1, .f32⟩
  | 109 => ⟨S_, .f32⟩
  | 110 => ⟨S4x4096, .f32⟩
  | 111 => ⟨S4x4096x128, .f32⟩
  | 112 => ⟨S4x4096x128, .f32⟩
  | 113 => ⟨S4x4096x128, .f32⟩
  | 114 => ⟨S4x4096x128, .f32⟩
  | 115 => ⟨S4x4096x128, .f32⟩
  | 116 => ⟨S4096x4x128, .f32⟩
  | 117 => ⟨S4096x512, .f32⟩
  | 118 => ⟨S4096x512, .f32⟩
  | 119 => ⟨S4096x512, .f32⟩
  | 120 => ⟨S4096x512, .f32⟩
  | 121 => ⟨S4096x512, .f32⟩
  | 122 => ⟨S_, .f32⟩
  | 123 => ⟨S4096x512, .f32⟩
  | 124 => ⟨S4096x512, .f32⟩
  | 125 => ⟨S4096x512, .f32⟩
  | 126 => ⟨S_, .f32⟩
  | 127 => ⟨S4096x512, .f32⟩
  | _ => ⟨S4096x512, .f32⟩

abbrev hbmTy0_1 (i : Nat) : BufTy := match i % 128 with
  | 0 => ⟨S4096x512, .f32⟩
  | 1 => ⟨S4096x512, .f32⟩
  | 2 => ⟨S_, .f32⟩
  | 3 => ⟨S4096x512, .f32⟩
  | 4 => ⟨S4096x512, .f32⟩
  | 5 => ⟨S4096x512, .f32⟩
  | 6 => ⟨S4096x512, .f32⟩
  | 7 => ⟨S1x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_v44_2 : Ref sig .tc := ⟨.hbm, 71, rfl⟩
abbrev main_call0_cst_1 : Ref sig .tc := ⟨.hbm, 72, rfl⟩
abbrev main_call0_v6 : Ref sig .tc := ⟨.hbm, 73, rfl⟩
abbrev main_call0_v7 : Ref sig .tc := ⟨.hbm, 74, rfl⟩
abbrev main_v44_1 : Ref sig .tc := ⟨.hbm, 75, rfl⟩
abbrev main_v44_0 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v53 : Ref sig .tc := ⟨.hbm, 88, rfl⟩
abbrev main_v54 : Ref sig .tc := ⟨.hbm, 89, rfl⟩
abbrev main_cst_10 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_11 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_12 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_13 : Ref sig .tc := ⟨.hbm, 106, rfl⟩
abbrev main_v68 : Ref sig .tc := ⟨.hbm, 107, rfl⟩
abbrev main_v69 : Ref sig .tc := ⟨.hbm, 108, rfl⟩
abbrev main_cst_14 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_15 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_16 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_17 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩

abbrev nD : Nat := 1
abbrev τ : Topo := Topo.v7x

variable {F : FTy → Type} [FloatOps F]
-- ==== ConvfK.lean ====
abbrev S4096x3584 : Shape := ⟨2, ![4096, 3584]⟩
abbrev S4x512 : Shape := ⟨2, ![4, 512]⟩
abbrev S1x512 : Shape := ⟨2, ![1, 512]⟩
abbrev S_ : Shape := ⟨0, ![]⟩
abbrev S8x512 : Shape := ⟨2, ![8, 512]⟩
abbrev S4096x512 : Shape := ⟨2, ![4096, 512]⟩
abbrev S512x512 : Shape := ⟨2, ![512, 512]⟩
abbrev S528x512 : Shape := ⟨2, ![528, 512]⟩

abbrev nBuf : Space → Nat
  | .hbm => 7
  | .vmem => 10
  | .smem => 0
  | _ => 0

abbrev bufTy : (tb : Table) → Fin (tcTables nBuf tb) → BufTy
  | .hbm, ⟨0, _⟩ => ⟨S4096x3584, .f32⟩
  | .hbm, ⟨1, _⟩ => ⟨S4x512, .f32⟩
  | .hbm, ⟨2, _⟩ => ⟨S1x512, .f32⟩
  | .hbm, ⟨3, _⟩ => ⟨S_, .i32⟩
  | .hbm, ⟨4, _⟩ => ⟨S_, .f32⟩
  | .hbm, ⟨5, _⟩ => ⟨S8x512, .f32⟩
  | .hbm, ⟨6, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvfRIdeal.lean ====
abbrev S4096x3584 : Shape := ⟨2, ![4096, 3584]⟩
abbrev S4x512 : Shape := ⟨2, ![4, 512]⟩
abbrev S1x512 : Shape := ⟨2, ![1, 512]⟩
abbrev S4096x512 : Shape := ⟨2, ![4096, 512]⟩
abbrev S512 : Shape := ⟨1, ![512]⟩
abbrev S_ : Shape := ⟨0, ![]⟩
abbrev S2x512 : Shape := ⟨2, ![2, 512]⟩
abbrev S4099x512 : Shape := ⟨2, ![4099, 512]⟩

abbrev nBuf : Space → Nat
  | .hbm => 43
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S4x512, .f32⟩
  | .hbm, ⟨2, _⟩ => ⟨S1x512, .f32⟩
  | .hbm, ⟨3, _⟩ => ⟨S4096x512, .f32⟩
  | .hbm, ⟨4, _⟩ => ⟨S512, .f32⟩
  | .hbm, ⟨5, _⟩ => ⟨S_, .f32⟩
  | .hbm, ⟨6, _⟩ => ⟨S2x512, .f32⟩
  | .hbm, ⟨7, _⟩ => ⟨S_, .f32⟩
  | .hbm, ⟨8, _⟩ => ⟨S1x512, .f32⟩
  | .hbm, ⟨9, _⟩ => ⟨S4099x512, .f32⟩
  | .hbm, ⟨10, _⟩ => ⟨S4096x512, .f32⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S1x512, .f32⟩
  | .hbm, ⟨35, _⟩ => ⟨S512, .f32⟩
  | .hbm, ⟨36, _⟩ => ⟨S1x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S1x512, .f32⟩
  | .hbm, ⟨41, _⟩ => ⟨S4096x512, .f32⟩
  | .hbm, ⟨42, _⟩ => ⟨S4096x512, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== GlogK.lean ====
abbrev S4096x3104 : Shape := ⟨2, ![4096, 3104]⟩
abbrev S2x16x512 : Shape := ⟨3, ![2, 16, 512]⟩
abbrev S2x512 : Shape := ⟨2, ![2, 512]⟩
abbrev S_ : Shape := ⟨0, ![]⟩
abbrev S4096x3200 : Shape := ⟨2, ![4096, 3200]⟩
abbrev S2x128x512 : Shape := ⟨3, ![2, 128, 512]⟩
abbrev S1x16x512 : Shape := ⟨3, ![1, 16, 512]⟩
abbrev S16x512 : Shape := ⟨2, ![16, 512]⟩
abbrev S1 : Shape := ⟨1, ![1]⟩
abbrev S2 : Shape := ⟨1, ![2]⟩
abbrev S2x1x512 : Shape := ⟨3, ![2, 1, 512]⟩
abbrev S2x4096x512 : Shape := ⟨3, ![2, 4096, 512]⟩
abbrev S4096x128 : Shape := ⟨2, ![4096, 128]⟩
abbrev S512x128 : Shape := ⟨2, ![512, 128]⟩
abbrev S2x512x512 : Shape := ⟨3, ![2, 512, 512]⟩
abbrev S1x128x512 : Shape := ⟨3, ![1, 128, 512]⟩
abbrev S128x512 : Shape := ⟨2, ![128, 512]⟩
abbrev S512x512 : Shape := ⟨2, ![512, 512]⟩
abbrev S1x1x512 : Shape := ⟨3, ![1, 1, 512]⟩
abbrev S1x512 : Shape := ⟨2, ![1, 512]⟩
abbrev S1x512x512 : Shape := ⟨3, ![1, 512, 512]⟩

abbrev nBuf : Space → Nat
  | .hbm => 27
  | .vmem => 8
  | .smem => 0
  | _ => 0

abbrev bufTy : (tb : Table) → Fin (tcTables nBuf tb) → BufTy
  | .hbm, ⟨0, _⟩ => ⟨S4096x3104, .f32⟩
  | .hbm, ⟨1, _⟩ => ⟨S2x16x512, .f32⟩
  | .hbm, ⟨2, _⟩ => ⟨S2x512, .f32⟩
  | .hbm, ⟨3, _⟩ => ⟨S_, .i32⟩
  | .hbm, ⟨4, _⟩ => ⟨S_, .f32⟩
  | .hbm, ⟨5, _⟩ => ⟨S4096x3200, .f32⟩
  | .hbm, ⟨6, _⟩ => ⟨S_, .f32⟩
  | .hbm, ⟨7, _⟩ => ⟨S2x128x512, .f32⟩
  | .hbm, ⟨8, _⟩ => ⟨S1x16x512, .f32⟩
  | .hbm, ⟨9, _⟩ => ⟨S16x512, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S2x128x512, .f32⟩
  | .hbm, ⟨16, _⟩ => ⟨S1x16x512, .f32⟩
  | .hbm, ⟨17, _⟩ => ⟨S16x512, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S2x128x512, .f32⟩
  | .hbm, ⟨24, _⟩ => ⟨S2x1x512, .f32⟩
  | .hbm, ⟨25, _⟩ => ⟨S2x4096x512, .f32⟩
  | .hbm, ⟨26, _⟩ => ⟨S4096x128, .bf16⟩
  | .local _ .vmem, ⟨0, _⟩ => ⟨S512x128, .f32⟩
  | .local _ .vmem, ⟨1, _⟩ => ⟨S512x128, .f32⟩
  | .local _ .vmem, ⟨2, _⟩ => ⟨S2x128x512, .f32⟩
  | .local _ .vmem, ⟨3, _⟩ => ⟨S2x1x512, .f32⟩
  | .local _ .vmem, ⟨4, _⟩ => ⟨S2x512x512, .f32⟩
  | .local _ .vmem, ⟨5, _⟩ => ⟨S2x512x512, .f32⟩
  | .local _ .vmem, ⟨6, _⟩ => ⟨S512x128, .bf16⟩
  | .local _ .vmem, ⟨7, _⟩ => ⟨S512x128, .bf16⟩
  | _, _ => ⟨S4096x3104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GlogRIdeal.lean ====
abbrev S4096x3104 : Shape := ⟨2, ![4096, 3104]⟩
abbrev S2x16x512 : Shape := ⟨3, ![2, 16, 512]⟩
abbrev S2x512 : Shape := ⟨2, ![2, 512]⟩
abbrev S4096x16 : Shape := ⟨2, ![4096, 16]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩
abbrev S4096x512 : Shape := ⟨2, ![4096, 512]⟩
abbrev S1x4096x512 : Shape := ⟨3, ![1, 4096, 512]⟩
abbrev S2x4096x512 : Shape := ⟨3, ![2, 4096, 512]⟩
abbrev S4096x32 : Shape := ⟨2, ![4096, 32]⟩
abbrev S_ : Shape := ⟨0, ![]⟩
abbrev S4096x128 : Shape := ⟨2, ![4096, 128]⟩

abbrev nBuf : Space → Nat
  | .hbm => 29
  | .vmem => 0
  | .smem => 0
  | _ => 0

abbrev bufTy : (tb : Table) → Fin (tcTables nBuf tb) → BufTy
  | .hbm, ⟨0, _⟩ => ⟨S4096x3104, .f32⟩
  | .hbm, ⟨1, _⟩ => ⟨S2x16x512, .f32⟩
  | .hbm, ⟨2, _⟩ => ⟨S2x512, .f32⟩
  | .hbm, ⟨3, _⟩ => ⟨S4096x16, .f32⟩
  | .hbm, ⟨4, _⟩ => ⟨S4096x16, .f32⟩
  | .hbm, ⟨5, _⟩ => ⟨S1x16x512, .f32⟩
  | .hbm, ⟨6, _⟩ => ⟨S16x512, .f32⟩
  | .hbm, ⟨7, _⟩ => ⟨S1x512, .f32⟩
  | .hbm, ⟨8, _⟩ => ⟨S512, .f32⟩
  | .hbm, ⟨9, _⟩ => ⟨S4096x512, .f32⟩
  | .hbm, ⟨10, _⟩ => ⟨S1x512, .f32⟩
  | .hbm, ⟨11, _⟩ => ⟨S4096x512, .f32⟩
  | .hbm, ⟨12, _⟩ => ⟨S4096x512, .f32⟩
  | .hbm, ⟨13, _⟩ => ⟨S1x16x512, .f32⟩
  | .hbm, ⟨14, _⟩ => ⟨S16x512, .f32⟩
  | .hbm, ⟨15, _⟩ => ⟨S1x512, .f32⟩
  | .hbm, ⟨16, _⟩ => ⟨S512, .f32⟩
  | .hbm, ⟨17, _⟩ => ⟨S4096x512, .f32⟩
  | .hbm, ⟨18, _⟩ => ⟨S1x512, .f32⟩
  | .hbm, ⟨19, _⟩ => ⟨S4096x512, .f32⟩
  | .hbm, ⟨20, _⟩ => ⟨S4096x512, .f32⟩
  | .hbm, ⟨21, _⟩ => ⟨S1x4096x512, .f32⟩
  | .hbm, ⟨22, _⟩ => ⟨S1x4096x512, .f32⟩
  | .hbm, ⟨23, _⟩ => ⟨S2x4096x512, .f32⟩
  | .hbm, ⟨24, _⟩ => ⟨S4096x32, .f32⟩
  | .hbm, ⟨25, _⟩ => ⟨S_, .i32⟩
  | .hbm, ⟨26, _⟩ => ⟨S_, .f32⟩
  | .hbm, ⟨27, _⟩ => ⟨S4096x128, .f32⟩
  | .hbm, ⟨28, _⟩ => ⟨S4096x128, .bf16⟩
  | _, _ => ⟨S4096x3104, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c : Ref sig .tc := ⟨.hbm, 25, rfl⟩
abbrev main_call0_v0 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== NmmK.lean ====
abbrev S4096x1024 : Shape := ⟨2, ![4096, 1024]⟩
abbrev S1024 : Shape := ⟨1, ![1024]⟩
abbrev S1024x3584 : Shape := ⟨2, ![1024, 3584]⟩
abbrev S1x1024 : Shape := ⟨2, ![1, 1024]⟩
abbrev S4096x3584 : Shape := ⟨2, ![4096, 3584]⟩
abbrev S512x1024 : Shape := ⟨2, ![512, 1024]⟩
abbrev S512x3584 : Shape := ⟨2, ![512, 3584]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3584, .f32⟩
  | .hbm, ⟨3, _⟩ => ⟨S1x1024, .f32⟩
  | .hbm, ⟨4, _⟩ => ⟨S1024x3584, .bf16⟩
  | .hbm, ⟨5, _⟩ => ⟨S4096x3584, .f32⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S512x3584, .f32⟩
  | .local _ .vmem, ⟨5, _⟩ => ⟨S512x3584, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NmmRIdeal.lean ====
abbrev S4096x1024 : Shape := ⟨2, ![4096, 1024]⟩
abbrev S1024 : Shape := ⟨1, ![1024]⟩
abbrev S1024x3584 : Shape := ⟨2, ![1024, 3584]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3584 : Shape := ⟨2, ![4096, 3584]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3584, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x3584, .f32⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Mix1K.lean ====
abbrev S4096x1024 : Shape := ⟨2, ![4096, 1024]⟩
abbrev S1024 : Shape := ⟨1, ![1024]⟩
abbrev S_ : Shape := ⟨0, ![]⟩
abbrev S4096x2048 : Shape := ⟨2, ![4096, 2048]⟩
abbrev S4096x3072 : Shape := ⟨2, ![4096, 3072]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S_, .f32⟩
  | .hbm, ⟨5, _⟩ => ⟨S4096x2048, .f32⟩
  | .hbm, ⟨6, _⟩ => ⟨S4096x3072, .f32⟩
  | .hbm, ⟨7, _⟩ => ⟨S1x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Mix1RIdeal.lean ====
abbrev S4096x1024 : Shape := ⟨2, ![4096, 1024]⟩
abbrev S1024 : Shape := ⟨1, ![1024]⟩
abbrev S4096x4x256 : Shape := ⟨3, ![4096, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x4x256, .f32⟩
  | .hbm, ⟨6, _⟩ => ⟨S4x4096x256, .f32⟩
  | .hbm, ⟨7, _⟩ => ⟨S4x4096x256, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x256, .f32⟩
  | .hbm, ⟨19, _⟩ => ⟨S4x4096x256, .f32⟩
  | .hbm, ⟨20, _⟩ => ⟨S4096x4x256, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Mix0K.lean ====
abbrev S4096x512 : Shape := ⟨2, ![4096, 512]⟩
abbrev S512 : Shape := ⟨1, ![512]⟩
abbrev S_ : Shape := ⟨0, ![]⟩
abbrev S4096x2048 : Shape := ⟨2, ![4096, 2048]⟩
abbrev S4096x3584 : Shape := ⟨2, ![4096, 3584]⟩
abbrev S1x512 : Shape := ⟨2, ![1, 512]⟩
abbrev S4096x1024 : Shape := ⟨2, ![4096, 1024]⟩
abbrev S512x512 : Shape := ⟨2, ![512, 512]⟩
abbrev S512x1024 : Shape := ⟨2, ![512, 1024]⟩
abbrev S512x128 : Shape := ⟨2, ![512, 128]⟩
abbrev S512x1 : Shape := ⟨2, ![512, 1]⟩

abbrev nBuf : Space → Nat
  | .hbm => 14
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S512, .f32⟩
  | .hbm, ⟨7, _⟩ => ⟨S_, .f32⟩
  | .hbm, ⟨8, _⟩ => ⟨S4096x512, .f32⟩
  | .hbm, ⟨9, _⟩ => ⟨S_, .f32⟩
  | .hbm, ⟨10, _⟩ => ⟨S4096x2048, .f32⟩
  | .hbm, ⟨11, _⟩ => ⟨S4096x3584, .f32⟩
  | .hbm, ⟨12, _⟩ => ⟨S1x512, .f32⟩
  | .hbm, ⟨13, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S512x1024, .bf16⟩
  | .local _ .vmem, ⟨14, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Mix0RIdeal.lean ====
abbrev S4096x512 : Shape := ⟨2, ![4096, 512]⟩
abbrev S512 : Shape := ⟨1, ![512]⟩
abbrev S_ : Shape := ⟨0, ![]⟩
abbrev S4096x4x128 : Shape := ⟨3, ![4096, 4, 128]⟩
abbrev S4x4096x128 : Shape := ⟨3, ![4, 4096, 128]⟩
abbrev S4x4096 : Shape := ⟨2, ![4, 4096]⟩
abbrev S4x4096x1 : Shape := ⟨3, ![4, 4096, 1]⟩
abbrev S1x512 : Shape := ⟨2, ![1, 512]⟩
abbrev S4096x1024 : Shape := ⟨2, ![4096, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x4x128, .f32⟩
  | .hbm, ⟨28, _⟩ => ⟨S4x4096x128, .f32⟩
  | .hbm, ⟨29, _⟩ => ⟨S4x4096x128, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x128, .f32⟩
  | .hbm, ⟨41, _⟩ => ⟨S4x4096x128, .f32⟩
  | .hbm, ⟨42, _⟩ => ⟨S4096x4x128, .f32⟩
  | .hbm, ⟨43, _⟩ => ⟨S4096x512, .f32⟩
  | .hbm, ⟨44, _⟩ => ⟨S1x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S_, .f32⟩
  | .hbm, ⟨50, _⟩ => ⟨S4096x512, .f32⟩
  | .hbm, ⟨51, _⟩ => ⟨S4096x512, .f32⟩
  | .hbm, ⟨52, _⟩ => ⟨S_, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x1024, .f32⟩
  | .hbm, ⟨58, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== GlafK.lean ====
abbrev S4096x3104 : Shape := ⟨2, ![4096, 3104]⟩
abbrev S2x4096x512 : Shape := ⟨3, ![2, 4096, 512]⟩
abbrev S_ : Shape := ⟨0, ![]⟩
abbrev S4096x3200 : Shape := ⟨2, ![4096, 3200]⟩
abbrev S4096x1024 : Shape := ⟨2, ![4096, 1024]⟩
abbrev S64x4x256x128 : Shape := ⟨4, ![64, 4, 256, 128]⟩
abbrev S256x512 : Shape := ⟨2, ![256, 512]⟩
abbrev S256x1024 : Shape := ⟨2, ![256, 1024]⟩
abbrev S1x256x512 : Shape := ⟨3, ![1, 256, 512]⟩
abbrev S4x4x256x128 : Shape := ⟨4, ![4, 4, 256, 128]⟩
abbrev S2x4x256x128 : Shape := ⟨4, ![2, 4, 256, 128]⟩
abbrev S64x64 : Shape := ⟨2, ![64, 64]⟩
abbrev S64x1 : Shape := ⟨2, ![64, 1]⟩
abbrev S1x1x256x128 : Shape := ⟨4, ![1, 1, 256, 128]⟩
abbrev S256x128 : Shape := ⟨2, ![256, 128]⟩
abbrev S64x512 : Shape := ⟨2, ![64, 512]⟩
abbrev S64x1024 : Shape := ⟨2, ![64, 1024]⟩
abbrev S1x64x512 : Shape := ⟨3, ![1, 64, 512]⟩
abbrev S512 : Shape := ⟨1, ![512]⟩
abbrev S1x512 : Shape := ⟨2, ![1, 512]⟩
abbrev S64x128 : Shape := ⟨2, ![64, 128]⟩
abbrev S64x256 : Shape := ⟨2, ![64, 256]⟩
abbrev S1x128 : Shape := ⟨2, ![1, 128]⟩

abbrev nBuf : Space → Nat
  | .hbm => 9
  | .vmem => 25
  | .smem => 0
  | _ => 0

abbrev bufTy : (tb : Table) → Fin (tcTables nBuf tb) → BufTy
  | .hbm, ⟨0, _⟩ => ⟨S4096x3104, .f32⟩
  | .hbm, ⟨1, _⟩ => ⟨S2x4096x512, .f32⟩
  | .hbm, ⟨2, _⟩ => ⟨S_, .i32⟩
  | .hbm, ⟨3, _⟩ => ⟨S_, .f32⟩
  | .hbm, ⟨4, _⟩ => ⟨S4096x3200, .f32⟩
  | .hbm, ⟨5, _⟩ => ⟨S4096x1024, .f32⟩
  | .hbm, ⟨6, _⟩ => ⟨S4096x1024, .f32⟩
  | .hbm, ⟨7, _⟩ => ⟨S64x4x256x128, .f32⟩
  | .hbm, ⟨8, _⟩ => ⟨S64x4x256x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S1x256x512, .f32⟩
  | .local _ .vmem, ⟨7, _⟩ => ⟨S1x256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x1024, .f32⟩
  | .local _ .vmem, ⟨13, _⟩ => ⟨S256x1024, .f32⟩
  | .local _ .vmem, ⟨14, _⟩ => ⟨S1x256x512, .f32⟩
  | .local _ .vmem, ⟨15, _⟩ => ⟨S1x256x512, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S4x4x256x128, .f32⟩
  | .local _ .vmem, ⟨21, _⟩ => ⟨S4x4x256x128, .f32⟩
  | .local _ .vmem, ⟨22, _⟩ => ⟨S4x4x256x128, .f32⟩
  | .local _ .vmem, ⟨23, _⟩ => ⟨S4x4x256x128, .f32⟩
  | .local _ .vmem, ⟨24, _⟩ => ⟨S2x4x256x128, .f32⟩
  | _, _ => ⟨S4096x3104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_7 (i : grid0.Coords) : Fin 3 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  let c0_i32_0 : BitVec 32 := 0#32
  ![c1_i32.toNat, v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x4x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x4x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GlafRIdeal.lean ====
abbrev S4096x3104 : Shape := ⟨2, ![4096, 3104]⟩
abbrev S2x4096x512 : Shape := ⟨3, ![2, 4096, 512]⟩
abbrev S4096x512 : Shape := ⟨2, ![4096, 512]⟩
abbrev S4096x1024 : Shape := ⟨2, ![4096, 1024]⟩
abbrev S4096x4x128 : Shape := ⟨3, ![4096, 4, 128]⟩
abbrev S4x4096x128 : Shape := ⟨3, ![4, 4096, 128]⟩
abbrev S_ : Shape := ⟨0, ![]⟩
abbrev S4096x4x256 : Shape := ⟨3, ![4096, 4, 256]⟩
abbrev S4x4096x256 : Shape := ⟨3, ![4, 4096, 256]⟩
abbrev S1x4096x512 : Shape := ⟨3, ![1, 4096, 512]⟩
abbrev S1x4x4096x128 : Shape := ⟨4, ![1, 4, 4096, 128]⟩
abbrev S2x4x4096x128 : Shape := ⟨4, ![2, 4, 4096, 128]⟩
abbrev S1x4x4096x256 : Shape := ⟨4, ![1, 4, 4096, 256]⟩
abbrev S2x4x4096x256 : Shape := ⟨4, ![2, 4, 4096, 256]⟩
abbrev S2x4x64x64x128 : Shape := ⟨5, ![2, 4, 64, 64, 128]⟩
abbrev S2x4x64x64x256 : Shape := ⟨5, ![2, 4, 64, 64, 256]⟩
abbrev S2x4x64x1x128 : Shape := ⟨5, ![2, 4, 64, 1, 128]⟩
abbrev S2x4x64x64x64 : Shape := ⟨5, ![2, 4, 64, 64, 64]⟩
abbrev S64x64 : Shape := ⟨2, ![64, 64]⟩
abbrev S2x4x64x128x256 : Shape := ⟨5, ![2, 4, 64, 128, 256]⟩
abbrev S2x4x64x128 : Shape := ⟨4, ![2, 4, 64, 128]⟩
abbrev S2x4x128x256 : Shape := ⟨4, ![2, 4, 128, 256]⟩
abbrev S64x2x4x128 : Shape := ⟨4, ![64, 2, 4, 128]⟩
abbrev S64x2x4x128x256 : Shape := ⟨5, ![64, 2, 4, 128, 256]⟩
abbrev S64x2x4x64x128 : Shape := ⟨5, ![64, 2, 4, 64, 128]⟩
abbrev S64x2x4x64x256 : Shape := ⟨5, ![64, 2, 4, 64, 256]⟩
abbrev S1x2x4x128 : Shape := ⟨4, ![1, 2, 4, 128]⟩
abbrev S2x4x128 : Shape := ⟨3, ![2, 4, 128]⟩
abbrev S1x2x4x128x256 : Shape := ⟨5, ![1, 2, 4, 128, 256]⟩
abbrev S1x2x4x64x128 : Shape := ⟨5, ![1, 2, 4, 64, 128]⟩
abbrev S1x2x4x64x256 : Shape := ⟨5, ![1, 2, 4, 64, 256]⟩
abbrev S2x4x64x256 : Shape := ⟨4, ![2, 4, 64, 256]⟩
abbrev S2x4x128x1 : Shape := ⟨4, ![2, 4, 128, 1]⟩
abbrev S2x64x4x256x128 : Shape := ⟨5, ![2, 64, 4, 256, 128]⟩
abbrev S1x64x4x256x128 : Shape := ⟨5, ![1, 64, 4, 256, 128]⟩
abbrev S64x4x256x128 : Shape := ⟨4, ![64, 4, 256, 128]⟩

abbrev nBuf : Space → Nat
  | .hbm => 201
  | .vmem => 0
  | .smem => 0
  | _ => 0

abbrev hbmTy0_0 (i : Nat) : BufTy := match i % 128 with
  | 0 => ⟨S4096x3104, .f32⟩
  | 1 => ⟨S2x4096x512, .f32⟩
  | 2 => ⟨S4096x512, .f32⟩
  | 3 => ⟨S4096x512, .f32⟩
  | 4 => ⟨S4096x1024, .f32⟩
  | 5 => ⟨S4096x4x128, .f32⟩
  | 6 => ⟨S4x4096x128, .f32⟩
  | 7 => ⟨S_, .f32⟩
  | 8 => ⟨S4x4096x128, .f32⟩
  | 9 => ⟨S4x4096x128, .f32⟩
  | 10 => ⟨S4096x4x128, .f32⟩
  | 11 => ⟨S4x4096x128, .f32⟩
  | 12 => ⟨S4096x4x256, .f32⟩
  | 13 => ⟨S4x4096x256, .f32⟩
  | 14 => ⟨S1x4096x512, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S4096x512, .f32⟩
  | 21 => ⟨S4096x512, .f32⟩
  | 22 => ⟨S4096x512, .i1⟩
  | 23 => ⟨S4096x512, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S4096x512, .f32⟩
  | 31 => ⟨S4096x512, .f32⟩
  | 32 => ⟨S_, .f32⟩
  | 33 => ⟨S4096x512, .f32⟩
  | 34 => ⟨S4096x512, .f32⟩
  | 35 => ⟨S4096x4x128, .f32⟩
  | 36 => ⟨S4x4096x128, .f32⟩
  | 37 => ⟨S1x4096x512, .f32⟩
  | 38 => ⟨S4096x512, .f32⟩
  | 39 => ⟨S4096x512, .f32⟩
  | 40 => ⟨S_, .f32⟩
  | 41 => ⟨S4096x512, .f32⟩
  | 42 => ⟨S4096x512, .f32⟩
  | 43 => ⟨S4096x512, .f32⟩
  | 44 => ⟨S4096x512, .f32⟩
  | 45 => ⟨S4096x512, .i1⟩
  | 46 => ⟨S4096x512, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S4096x512, .f32⟩
  | 53 => ⟨S4096x512, .f32⟩
  | 54 => ⟨S4096x512, .f32⟩
  | 55 => ⟨S_, .f32⟩
  | 56 => ⟨S4096x512, .f32⟩
  | 57 => ⟨S4096x512, .f32⟩
  | 58 => ⟨S4096x4x128, .f32⟩
  | 59 => ⟨S4x4096x128, .f32⟩
  | 60 => ⟨S4x4096x128, .f32⟩
  | 61 => ⟨S1x4x4096x128, .f32⟩
  | 62 => ⟨S1x4x4096x128, .f32⟩
  | 63 => ⟨S2x4x4096x128, .f32⟩
  | 64 => ⟨S4x4096x128, .f32⟩
  | 65 => ⟨S1x4x4096x128, .f32⟩
  | 66 => ⟨S1x4x4096x128, .f32⟩
  | 67 => ⟨S2x4x4096x128, .f32⟩
  | 68 => ⟨S4x4096x256, .f32⟩
  | 69 => ⟨S1x4x4096x256, .f32⟩
  | 70 => ⟨S1x4x4096x256, .f32⟩
  | 71 => ⟨S2x4x4096x256, .f32⟩
  | 72 => ⟨S4x4096x128, .f32⟩
  | 73 => ⟨S1x4x4096x128, .f32⟩
  | 74 => ⟨S1x4x4096x128, .f32⟩
  | 75 => ⟨S2x4x4096x128, .f32⟩
  | 76 => ⟨S2x4x64x64x128, .f32⟩
  | 77 => ⟨S2x4x64x64x128, .f32⟩
  | 78 => ⟨S2x4x64x64x256, .f32⟩
  | 79 => ⟨S2x4x64x64x128, .f32⟩
  | 80 => ⟨S_, .f32⟩
  | 81 => ⟨S_, .f32⟩
  | 82 => ⟨S2x4x64x64x128, .f32⟩
  | 83 => ⟨S2x4x64x1x128, .f32⟩
  | 84 => ⟨S2x4x64x1x128, .f32⟩
  | 85 => ⟨S2x4x64x64x128, .f32⟩
  | 86 => ⟨S2x4x64x64x128, .f32⟩
  | 87 => ⟨S2x4x64x64x128, .f32⟩
  | 88 => ⟨S2x4x64x64x128, .f32⟩
  | 89 => ⟨S2x4x64x64x128, .f32⟩
  | 90 => ⟨S2x4x64x64x128, .f32⟩
  | 91 => ⟨S2x4x64x64x128, .f32⟩
  | 92 => ⟨S2x4x64x64x128, .f32⟩
  | 93 => ⟨S2x4x64x64x64, .f32⟩
  | 94 => ⟨S_, .i1⟩
  | 95 => ⟨S64x64, .i1⟩
  | 96 => ⟨S64x64, .i32⟩
  | 97 => ⟨S_, .i32⟩
  | 98 => ⟨S64x64, .i32⟩
  | 99 => ⟨S64x64, .i32⟩
  | 100 => ⟨S64x64, .i32⟩
  | 101 => ⟨S64x64, .i1⟩
  | 102 => ⟨S_, .i1⟩
  | 103 => ⟨S64x64, .i1⟩
  | 104 => ⟨S64x64, .i1⟩
  | 105 => ⟨S_, .f32⟩
  | 106 => ⟨S_, .f32⟩
  | 107 => ⟨S2x4x64x64x64, .i1⟩
  | 108 => ⟨S2x4x64x64x64, .f32⟩
  | 109 => ⟨S2x4x64x64x64, .f32⟩
  | 110 => ⟨S2x4x64x64x256, .f32⟩
  | 111 => ⟨S2x4x64x64x128, .f32⟩
  | 112 => ⟨S2x4x64x64x128, .f32⟩
  | 113 => ⟨S2x4x64x64x128, .f32⟩
  | 114 => ⟨S2x4x64x64x128, .f32⟩
  | 115 => ⟨S2x4x64x128x256, .f32⟩
  | 116 => ⟨S2x4x64x128, .f32⟩
  | 117 => ⟨S2x4x64x128, .f32⟩
  | 118 => ⟨S_, .f32⟩
  | 119 => ⟨S2x4x128x256, .f32⟩
  | 120 => ⟨S64x2x4x128, .f32⟩
  | 121 => ⟨S64x2x4x128x256, .f32⟩
  | 122 => ⟨S2x4x64x64x128, .f32⟩
  | 123 => ⟨S2x4x64x64x128, .f32⟩
  | 124 => ⟨S64x2x4x64x128, .f32⟩
  | 125 => ⟨S64x2x4x64x256, .f32⟩
  | 126 => ⟨S_, .f32⟩
  | 127 => ⟨S64x2x4x128x256, .f32⟩
  | _ => ⟨S4096x3104, .f32⟩

abbrev hbmTy0_1 (i : Nat) : BufTy := match i % 128 with
  | 0 => ⟨S_, .f32⟩
  | 1 => ⟨S64x2x4x64x256, .f32⟩
  | 2 => ⟨S_, .i32⟩
  | 3 => ⟨S64x2x4x128, .f32⟩
  | 4 => ⟨S64x2x4x128x256, .f32⟩
  | 5 => ⟨S64x2x4x64x128, .f32⟩
  | 6 => ⟨S64x2x4x64x256, .f32⟩
  | 7 => ⟨S_, .i32⟩
  | 8 => ⟨S2x4x128x256, .f32⟩
  | 9 => ⟨S64x2x4x128x256, .f32⟩
  | 10 => ⟨S64x2x4x64x256, .f32⟩
  | 11 => ⟨S_, .i32⟩
  | 12 => ⟨S_, .i1⟩
  | 13 => ⟨S_, .i32⟩
  | 14 => ⟨S_, .i32⟩
  | 15 => ⟨S_, .i32⟩
  | 16 => ⟨S1x2x4x128, .f32⟩
  | 17 => ⟨S2x4x128, .f32⟩
  | 18 => ⟨S_, .i32⟩
  | 19 => ⟨S_, .i32⟩
  | 20 => ⟨S_, .i32⟩
  | 21 => ⟨S_, .i32⟩
  | 22 => ⟨S1x2x4x128x256, .f32⟩
  | 23 => ⟨S2x4x128x256, .f32⟩
  | 24 => ⟨S_, .i32⟩
  | 25 => ⟨S_, .i32⟩
  | 26 => ⟨S_, .i32⟩
  | 27 => ⟨S_, .i32⟩
  | 28 => ⟨S1x2x4x64x128, .f32⟩
  | 29 => ⟨S2x4x64x128, .f32⟩
  | 30 => ⟨S_, .i32⟩
  | 31 => ⟨S_, .i32⟩
  | 32 => ⟨S_, .i32⟩
  | 33 => ⟨S_, .i32⟩
  | 34 => ⟨S1x2x4x64x256, .f32⟩
  | 35 => ⟨S2x4x64x256, .f32⟩
  | 36 => ⟨S2x4x128x1, .f32⟩
  | 37 => ⟨S2x4x128x256, .f32⟩
  | 38 => ⟨S2x4x128x256, .f32⟩
  | 39 => ⟨S2x4x128x256, .f32⟩
  | 40 => ⟨S2x4x64x256, .f32⟩
  | 41 => ⟨S2x4x64x256, .f32⟩
  | 42 => ⟨S1x2x4x128x256, .f32⟩
  | 43 => ⟨S_, .i32⟩
  | 44 => ⟨S_, .i32⟩
  | 45 => ⟨S_, .i32⟩
  | 46 => ⟨S_, .i32⟩
  | 47 => ⟨S64x2x4x128x256, .f32⟩
  | 48 => ⟨S1x2x4x64x256, .f32⟩
  | 49 => ⟨S_, .i32⟩
  | 50 => ⟨S_, .i32⟩
  | 51 => ⟨S_, .i32⟩
  | 52 => ⟨S_, .i32⟩
  | 53 => ⟨S64x2x4x64x256, .f32⟩
  | 54 => ⟨S_, .i32⟩
  | 55 => ⟨S_, .i32⟩
  | 56 => ⟨S2x4x64x64x256, .f32⟩
  | 57 => ⟨S2x4x4096x256, .f32⟩
  | 58 => ⟨S2x64x4x256x128, .f32⟩
  | 59 => ⟨S1x4x4096x256, .f32⟩
  | 60 => ⟨S4x4096x256, .f32⟩
  | 61 => ⟨S4096x4x256, .f32⟩
  | 62 => ⟨S4096x1024, .f32⟩
  | 63 => ⟨S1x4x4096x256, .f32⟩
  | 64 => ⟨S4x4096x256, .f32⟩
  | 65 => ⟨S4x4096x256, .f32⟩
  | 66 => ⟨S4096x4x256, .f32⟩
  | 67 => ⟨S4096x1024, .f32⟩
  | 68 => ⟨S1x64x4x256x128, .f32⟩
  | 69 => ⟨S64x4x256x128, .f32⟩
  | 70 => ⟨S1x64x4x256x128, .f32⟩
  | 71 => ⟨S64x4x256x128, .f32⟩
  | 72 => ⟨S64x4x256x128, .f32⟩
  | _ => ⟨S4096x3104, .f32⟩

abbrev hbmTy (i : Nat) : BufTy := match i / 128 with
  | 0 => hbmTy0_0 i
  | 1 => hbmTy0_1 i
  | _ => ⟨S4096x3104, .f32⟩

abbrev bufTy : (tb : Table) → Fin (tcTables nBuf tb) → BufTy
  | .hbm, ⟨i, _⟩ => hbmTy i
  | _, _ => ⟨S4096x3104, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v20 : Ref sig .tc := ⟨.hbm, 54, rfl⟩
abbrev main_cst_1 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_call6_call0_cst : Ref sig .tc := ⟨.hbm, 80, rfl⟩
abbrev main_call6_call0_v0 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c : Ref sig .tc := ⟨.hbm, 94, rfl⟩
abbrev main_v57 : Ref sig .tc := ⟨.hbm, 95, rfl⟩
abbrev main_call7_v0 : Ref sig .tc := ⟨.hbm, 96, rfl⟩
abbrev main_call7_c : Ref sig .tc := ⟨.hbm, 97, rfl⟩
abbrev main_call7_v1 : Ref sig .tc := ⟨.hbm, 98, rfl⟩
abbrev main_call7_v2 : Ref sig .tc := ⟨.hbm, 99, rfl⟩
abbrev main_call7_v3 : Ref sig .tc := ⟨.hbm, 100, rfl⟩
abbrev main_call7_v4 : Ref sig .tc := ⟨.hbm, 101, rfl⟩
abbrev main_call7_c_0 : Ref sig .tc := ⟨.hbm, 102, rfl⟩
abbrev main_call7_v5 : Ref sig .tc := ⟨.hbm, 103, rfl⟩
abbrev main_v58 : Ref sig .tc := ⟨.hbm, 104, rfl⟩
abbrev main_cst_2 : Ref sig .tc := ⟨.hbm, 105, rfl⟩
abbrev main_call8_v0 : Ref sig .tc := ⟨.hbm, 106, rfl⟩
abbrev main_call8_v1 : Ref sig .tc := ⟨.hbm, 107, rfl⟩
abbrev main_call8_v2 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_cst_3 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_cst_4 : Ref sig .tc := ⟨.hbm, 126, rfl⟩
abbrev main_v75 : Ref sig .tc := ⟨.hbm, 127, rfl⟩
abbrev main_cst_5 : Ref sig .tc := ⟨.hbm, 128, rfl⟩
abbrev main_v76 : Ref sig .tc := ⟨.hbm, 129, rfl⟩
abbrev main_c_6 : Ref sig .tc := ⟨.hbm, 130, rfl⟩
abbrev main_v77_0 : Ref sig .tc := ⟨.hbm, 131, rfl⟩
abbrev main_v77_1 : Ref sig .tc := ⟨.hbm, 132, rfl⟩
abbrev main_v77_2 : Ref sig .tc := ⟨.hbm, 133, rfl⟩
abbrev main_v77_3 : Ref sig .tc := ⟨.hbm, 134, rfl⟩
abbrev main_v77_4 : Ref sig .tc := ⟨.hbm, 135, rfl⟩
abbrev main_v77_5 : Ref sig .tc := ⟨.hbm, 136, rfl⟩
abbrev main_v77_6 : Ref sig .tc := ⟨.hbm, 137, rfl⟩
abbrev main_v77_7 : Ref sig .tc := ⟨.hbm, 138, rfl⟩
abbrev main_while0c_c_14 : Ref sig .tc := ⟨.hbm, 139, rfl⟩
abbrev main_while0c_v95 : Ref sig .tc := ⟨.hbm, 140, rfl⟩
abbrev main_while0b_call9_c : Ref sig .tc := ⟨.hbm, 141, rfl⟩
abbrev main_while0b_call9_c_0 : Ref sig .tc := ⟨.hbm, 142, rfl⟩
abbrev main_while0b_call9_c_1 : Ref sig .tc := ⟨.hbm, 143, rfl⟩
abbrev main_while0b_call9_v0 : Ref sig .tc := ⟨.hbm, 144, rfl⟩
abbrev main_while0b_v95 : Ref sig .tc := ⟨.hbm, 145, rfl⟩
abbrev main_while0b_call10_c : Ref sig .tc := ⟨.hbm, 146, rfl⟩
abbrev main_while0b_call10_c_0 : Ref sig .tc := ⟨.hbm, 147, rfl⟩
abbrev main_while0b_call10_c_1 : Ref sig .tc := ⟨.hbm, 148, rfl⟩
abbrev main_while0b_call10_c_2 : Ref sig .tc := ⟨.hbm, 149, rfl⟩
abbrev main_while0b_call10_v0 : Ref sig .tc := ⟨.hbm, 150, rfl⟩
abbrev main_while0b_v96 : Ref sig .tc := ⟨.hbm, 151, rfl⟩
abbrev main_while0b_call11_c : Ref sig .tc := ⟨.hbm, 152, rfl⟩
abbrev main_while0b_call11_c_0 : Ref sig .tc := ⟨.hbm, 153, rfl⟩
abbrev main_while0b_call11_c_1 : Ref sig .tc := ⟨.hbm, 154, rfl⟩
abbrev main_while0b_call11_c_2 : Ref sig .tc := ⟨.hbm, 155, rfl⟩
abbrev main_while0b_call11_v0 : Ref sig .tc := ⟨.hbm, 156, rfl⟩
abbrev main_while0b_v97 : Ref sig .tc := ⟨.hbm, 157, rfl⟩
abbrev main_while0b_call12_c : Ref sig .tc := ⟨.hbm, 158, rfl⟩
abbrev main_while0b_call12_c_0 : Ref sig .tc := ⟨.hbm, 159, rfl⟩
abbrev main_while0b_call12_c_1 : Ref sig .tc := ⟨.hbm, 160, rfl⟩
abbrev main_while0b_call12_c_2 : Ref sig .tc := ⟨.hbm, 161, rfl⟩
abbrev main_while0b_call12_v0 : Ref sig .tc := ⟨.hbm, 162, rfl⟩
abbrev main_while0b_v98 : Ref sig .tc := ⟨.hbm, 163, rfl⟩
abbrev main_while0b_v99 : Ref sig .tc := ⟨.hbm, 164, rfl⟩
abbrev main_while0b_v100 : Ref sig .tc := ⟨.hbm, 165, rfl⟩
abbrev main_while0b_v101 : Ref sig .tc := ⟨.hbm, 166, rfl⟩
abbrev main_while0b_v102 : Ref sig .tc := ⟨.hbm, 167, rfl⟩
abbrev main_while0b_v103 : Ref sig .tc := ⟨.hbm, 168, rfl⟩
abbrev main_while0b_v104 : Ref sig .tc := ⟨.hbm, 169, rfl⟩
abbrev main_while0b_call13_v0 : Ref sig .tc := ⟨.hbm, 170, rfl⟩
abbrev main_while0b_call13_c : Ref sig .tc := ⟨.hbm, 171, rfl⟩
abbrev main_while0b_call13_c_0 : Ref sig .tc := ⟨.hbm, 172, rfl⟩
abbrev main_while0b_call13_c_1 : Ref sig .tc := ⟨.hbm, 173, rfl⟩
abbrev main_while0b_call13_c_2 : Ref sig .tc := ⟨.hbm, 174, rfl⟩
abbrev main_while0b_v105 : Ref sig .tc := ⟨.hbm, 175, rfl⟩
abbrev main_while0b_call14_v0 : Ref sig .tc := ⟨.hbm, 176, rfl⟩
abbrev main_while0b_call14_c : Ref sig .tc := ⟨.hbm, 177, rfl⟩
abbrev main_while0b_call14_c_0 : Ref sig .tc := ⟨.hbm, 178, rfl⟩
abbrev main_while0b_call14_c_1 : Ref sig .tc := ⟨.hbm, 179, rfl⟩
abbrev main_while0b_call14_c_2 : Ref sig .tc := ⟨.hbm, 180, rfl⟩
abbrev main_while0b_v106 : Ref sig .tc := ⟨.hbm, 181, rfl⟩
abbrev main_while0b_c_14 : Ref sig .tc := ⟨.hbm, 182, rfl⟩
abbrev main_while0b_v107 : Ref sig .tc := ⟨.hbm, 183, rfl⟩
abbrev main_v78 : Ref sig .tc := ⟨.hbm, 184, rfl⟩
abbrev main_v79 : Ref sig .tc := ⟨.hbm, 185, rfl⟩
abbrev main_v80 : Ref sig .tc := ⟨.hbm, 186, rfl⟩
abbrev main_v81 : Ref sig .tc := ⟨.hbm, 187, rfl⟩
abbrev main_v82 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩

abbrev nD : Nat := 1
abbrev τ : Topo := Topo.v7x

variable {F : FTy → Type} [FloatOps F]

abbrev main_while0_count : Scf.Loop 32 := ⟨0#32, 64#32, 1#32⟩
-- ==== HgfK.lean ====
abbrev S4096x3584 : Shape := ⟨2, ![4096, 3584]⟩
abbrev S2x512 : Shape := ⟨2, ![2, 512]⟩
abbrev S1x512 : Shape := ⟨2, ![1, 512]⟩
abbrev S4096x512 : Shape := ⟨2, ![4096, 512]⟩
abbrev S64x4x128x128 : Shape := ⟨4, ![64, 4, 128, 128]⟩
abbrev S256x512 : Shape := ⟨2, ![256, 512]⟩
abbrev S4x4x128x128 : Shape := ⟨4, ![4, 4, 128, 128]⟩
abbrev S2x4x128x128 : Shape := ⟨4, ![2, 4, 128, 128]⟩
abbrev S64x64 : Shape := ⟨2, ![64, 64]⟩
abbrev S64x1 : Shape := ⟨2, ![64, 1]⟩
abbrev S1x1x128x128 : Shape := ⟨4, ![1, 1, 128, 128]⟩
abbrev S128x128 : Shape := ⟨2, ![128, 128]⟩
abbrev S64x512 : Shape := ⟨2, ![64, 512]⟩
abbrev S512 : Shape := ⟨1, ![512]⟩
abbrev S64x128 : Shape := ⟨2, ![64, 128]⟩
abbrev S1x128 : Shape := ⟨2, ![1, 128]⟩

abbrev nBuf : Space → Nat
  | .hbm => 8
  | .vmem => 23
  | .smem => 0
  | _ => 0

abbrev bufTy : (tb : Table) → Fin (tcTables nBuf tb) → BufTy
  | .hbm, ⟨0, _⟩ => ⟨S4096x3584, .f32⟩
  | .hbm, ⟨1, _⟩ => ⟨S2x512, .f32⟩
  | .hbm, ⟨2, _⟩ => ⟨S1x512, .f32⟩
  | .hbm, ⟨3, _⟩ => ⟨S1x512, .f32⟩
  | .hbm, ⟨4, _⟩ => ⟨S4096x512, .f32⟩
  | .hbm, ⟨5, _⟩ => ⟨S4096x512, .f32⟩
  | .hbm, ⟨6, _⟩ => ⟨S64x4x128x128, .f32⟩
  | .hbm, ⟨7, _⟩ => ⟨S64x4x128x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S1x512, .f32⟩
  | .local _ .vmem, ⟨13, _⟩ => ⟨S1x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S4x4x128x128, .f32⟩
  | .local _ .vmem, ⟨19, _⟩ => ⟨S4x4x128x128, .f32⟩
  | .local _ .vmem, ⟨20, _⟩ => ⟨S4x4x128x128, .f32⟩
  | .local _ .vmem, ⟨21, _⟩ => ⟨S4x4x128x128, .f32⟩
  | .local _ .vmem, ⟨22, _⟩ => ⟨S2x4x128x128, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  ![v0.toNat, c4_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c5_i32 : BitVec 32 := 5#32
  let c0_i32 : BitVec 32 := 0#32
  ![v0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== HgfRIdeal.lean ====
abbrev S4096x3584 : Shape := ⟨2, ![4096, 3584]⟩
abbrev S2x512 : Shape := ⟨2, ![2, 512]⟩
abbrev S4096x512 : Shape := ⟨2, ![4096, 512]⟩
abbrev S_ : Shape := ⟨0, ![]⟩
abbrev S512 : Shape := ⟨1, ![512]⟩
abbrev S1x512 : Shape := ⟨2, ![1, 512]⟩
abbrev S4096x4x128 : Shape := ⟨3, ![4096, 4, 128]⟩
abbrev S4x4096x128 : Shape := ⟨3, ![4, 4096, 128]⟩
abbrev S1x4x4096x128 : Shape := ⟨4, ![1, 4, 4096, 128]⟩
abbrev S2x4x4096x128 : Shape := ⟨4, ![2, 4, 4096, 128]⟩
abbrev S2x4x64x64x128 : Shape := ⟨5, ![2, 4, 64, 64, 128]⟩
abbrev S2x4x64x1x128 : Shape := ⟨5, ![2, 4, 64, 1, 128]⟩
abbrev S2x4x64x64x64 : Shape := ⟨5, ![2, 4, 64, 64, 64]⟩
abbrev S64x64 : Shape := ⟨2, ![64, 64]⟩
abbrev S2x4x64x128x128 : Shape := ⟨5, ![2, 4, 64, 128, 128]⟩
abbrev S2x4x64x128 : Shape := ⟨4, ![2, 4, 64, 128]⟩
abbrev S2x4x128x128 : Shape := ⟨4, ![2, 4, 128, 128]⟩
abbrev S64x2x4x128 : Shape := ⟨4, ![64, 2, 4, 128]⟩
abbrev S64x2x4x128x128 : Shape := ⟨5, ![64, 2, 4, 128, 128]⟩
abbrev S64x2x4x64x128 : Shape := ⟨5, ![64, 2, 4, 64, 128]⟩
abbrev S1x2x4x128 : Shape := ⟨4, ![1, 2, 4, 128]⟩
abbrev S2x4x128 : Shape := ⟨3, ![2, 4, 128]⟩
abbrev S1x2x4x128x128 : Shape := ⟨5, ![1, 2, 4, 128, 128]⟩
abbrev S1x2x4x64x128 : Shape := ⟨5, ![1, 2, 4, 64, 128]⟩
abbrev S2x4x128x1 : Shape := ⟨4, ![2, 4, 128, 1]⟩
abbrev S2x64x4x128x128 : Shape := ⟨5, ![2, 64, 4, 128, 128]⟩
abbrev S1x64x4x128x128 : Shape := ⟨5, ![1, 64, 4, 128, 128]⟩
abbrev S64x4x128x128 : Shape := ⟨4, ![64, 4, 128, 128]⟩

abbrev nBuf : Space → Nat
  | .hbm => 253
  | .vmem => 0
  | .smem => 0
  | _ => 0

abbrev hbmTy0_0 (i : Nat) : BufTy := match i % 128 with
  | 0 => ⟨S4096x3584, .f32⟩
  | 1 => ⟨S2x512, .f32⟩
  | 2 => ⟨S4096x512, .f32⟩
  | 3 => ⟨S4096x512, .f32⟩
  | 4 => ⟨S4096x512, .f32⟩
  | 5 => ⟨S4096x512, .f32⟩
  | 6 => ⟨S_, .f32⟩
  | 7 => ⟨S512, .f32⟩
  | 8 => ⟨S_, .f32⟩
  | 9 => ⟨S512, .f32⟩
  | 10 => ⟨S512, .f32⟩
  | 11 => ⟨S1x512, .f32⟩
  | 12 => ⟨S2x512, .f32⟩
  | 13 => ⟨S2x512, .f32⟩
  | 14 => ⟨S2x512, .f32⟩
  | 15 => ⟨S_, .f32⟩
  | 16 => ⟨S512, .f32⟩
  | 17 => ⟨S1x512, .f32⟩
  | 18 => ⟨S2x512, .f32⟩
  | 19 => ⟨S2x512, .f32⟩
  | 20 => ⟨S_, .f32⟩
  | 21 => ⟨S_, .f32⟩
  | 22 => ⟨S2x512, .f32⟩
  | 23 => ⟨S1x512, .f32⟩
  | 24 => ⟨S512, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S_, .f32⟩
  | 31 => ⟨S4096x512, .f32⟩
  | 32 => ⟨S4096x512, .f32⟩
  | 33 => ⟨S4096x512, .f32⟩
  | 34 => ⟨S4096x4x128, .f32⟩
  | 35 => ⟨S4x4096x128, .f32⟩
  | 36 => ⟨S4096x4x128, .f32⟩
  | 37 => ⟨S4x4096x128, .f32⟩
  | 38 => ⟨S_, .f32⟩
  | 39 => ⟨S512, .f32⟩
  | 40 => ⟨S512, .f32⟩
  | 41 => ⟨S4096x512, .f32⟩
  | 42 => ⟨S4096x512, .f32⟩
  | 43 => ⟨S_, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S1x512, .f32⟩
  | 50 => ⟨S4096x512, .f32⟩
  | 51 => ⟨S4096x512, .f32⟩
  | 52 => ⟨S1x512, .f32⟩
  | 53 => ⟨S4096x512, .f32⟩
  | 54 => ⟨S4096x512, .f32⟩
  | 55 => ⟨S4096x512, .f32⟩
  | 56 => ⟨S4096x4x128, .f32⟩
  | 57 => ⟨S4x4096x128, .f32⟩
  | 58 => ⟨S_, .f32⟩
  | 59 => ⟨S512, .f32⟩
  | 60 => ⟨S512, .f32⟩
  | 61 => ⟨S4096x512, .f32⟩
  | 62 => ⟨S4096x512, .f32⟩
  | 63 => ⟨S_, .f32⟩
  | 64 => ⟨S4096x512, .f32⟩
  | 65 => ⟨S4096x512, .f32⟩
  | 66 => ⟨S_, .f32⟩
  | 67 => ⟨S4096x512, .f32⟩
  | 68 => ⟨S4096x512, .f32⟩
  | 69 => ⟨S1x512, .f32⟩
  | 70 => ⟨S4096x512, .f32⟩
  | 71 => ⟨S4096x512, .f32⟩
  | 72 => ⟨S1x512, .f32⟩
  | 73 => ⟨S4096x512, .f32⟩
  | 74 => ⟨S4096x512, .f32⟩
  | 75 => ⟨S4096x512, .f32⟩
  | 76 => ⟨S4096x4x128, .f32⟩
  | 77 => ⟨S4x4096x128, .f32⟩
  | 78 => ⟨S_, .f32⟩
  | 79 => ⟨S512, .f32⟩
  | 80 => ⟨S512, .f32⟩
  | 81 => ⟨S4096x512, .f32⟩
  | 82 => ⟨S4096x512, .f32⟩
  | 83 => ⟨S4096x512, .f32⟩
  | 84 => ⟨S_, .f32⟩
  | 85 => ⟨S4096x512, .f32⟩
  | 86 => ⟨S4096x512, .f32⟩
  | 87 => ⟨S_, .f32⟩
  | 88 => ⟨S4096x512, .f32⟩
  | 89 => ⟨S4096x512, .f32⟩
  | 90 => ⟨S1x512, .f32⟩
  | 91 => ⟨S4096x512, .f32⟩
  | 92 => ⟨S4096x512, .f32⟩
  | 93 => ⟨S4096x4x128, .f32⟩
  | 94 => ⟨S4x4096x128, .f32⟩
  | 95 => ⟨S_, .f32⟩
  | 96 => ⟨S512, .f32⟩
  | 97 => ⟨S512, .f32⟩
  | 98 => ⟨S4096x512, .f32⟩
  | 99 => ⟨S4096x512, .f32⟩
  | 100 => ⟨S4096x512, .f32⟩
  | 101 => ⟨S_, .f32⟩
  | 102 => ⟨S4096x512, .f32⟩
  | 103 => ⟨S4096x512, .f32⟩
  | 104 => ⟨S_, .f32⟩
  | 105 => ⟨S4096x512, .f32⟩
  | 106 => ⟨S4096x512, .f32⟩
  | 107 => ⟨S1x512, .f32⟩
  | 108 => ⟨S4096x512, .f32⟩
  | 109 => ⟨S4096x512, .f32⟩
  | 110 => ⟨S4096x4x128, .f32⟩
  | 111 => ⟨S4x4096x128, .f32⟩
  | 112 => ⟨S4x4096x128, .f32⟩
  | 113 => ⟨S1x4x4096x128, .f32⟩
  | 114 => ⟨S1x4x4096x128, .f32⟩
  | 115 => ⟨S2x4x4096x128, .f32⟩
  | 116 => ⟨S4x4096x128, .f32⟩
  | 117 => ⟨S1x4x4096x128, .f32⟩
  | 118 => ⟨S1x4x4096x128, .f32⟩
  | 119 => ⟨S2x4x4096x128, .f32⟩
  | 120 => ⟨S4x4096x128, .f32⟩
  | 121 => ⟨S1x4x4096x128, .f32⟩
  | 122 => ⟨S1x4x4096x128, .f32⟩
  | 123 => ⟨S2x4x4096x128, .f32⟩
  | 124 => ⟨S4x4096x128, .f32⟩
  | 125 => ⟨S1x4x4096x128, .f32⟩
  | 126 => ⟨S1x4x4096x128, .f32⟩
  | 127 => ⟨S2x4x4096x128, .f32⟩
  | _ => ⟨S4096x3584, .f32⟩

abbrev hbmTy0_1 (i : Nat) : BufTy := match i % 128 with
  | 0 => ⟨S2x4x64x64x128, .f32⟩
  | 1 => ⟨S2x4x64x64x128, .f32⟩
  | 2 => ⟨S2x4x64x64x128, .f32⟩
  | 3 => ⟨S2x4x64x64x128, .f32⟩
  | 4 => ⟨S_, .f32⟩
  | 5 => ⟨S_, .f32⟩
  | 6 => ⟨S2x4x64x64x128, .f32⟩
  | 7 => ⟨S2x4x64x1x128, .f32⟩
  | 8 => ⟨S2x4x64x1x128, .f32⟩
  | 9 => ⟨S2x4x64x64x128, .f32⟩
  | 10 => ⟨S2x4x64x64x128, .f32⟩
  | 11 => ⟨S2x4x64x64x128, .f32⟩
  | 12 => ⟨S2x4x64x64x128, .f32⟩
  | 13 => ⟨S2x4x64x64x128, .f32⟩
  | 14 => ⟨S2x4x64x64x128, .f32⟩
  | 15 => ⟨S2x4x64x64x128, .f32⟩
  | 16 => ⟨S2x4x64x64x128, .f32⟩
  | 17 => ⟨S2x4x64x64x64, .f32⟩
  | 18 => ⟨S_, .i1⟩
  | 19 => ⟨S64x64, .i1⟩
  | 20 => ⟨S64x64, .i32⟩
  | 21 => ⟨S_, .i32⟩
  | 22 => ⟨S64x64, .i32⟩
  | 23 => ⟨S64x64, .i32⟩
  | 24 => ⟨S64x64, .i32⟩
  | 25 => ⟨S64x64, .i1⟩
  | 26 => ⟨S_, .i1⟩
  | 27 => ⟨S64x64, .i1⟩
  | 28 => ⟨S64x64, .i1⟩
  | 29 => ⟨S_, .f32⟩
  | 30 => ⟨S_, .f32⟩
  | 31 => ⟨S2x4x64x64x64, .i1⟩
  | 32 => ⟨S2x4x64x64x64, .f32⟩
  | 33 => ⟨S2x4x64x64x64, .f32⟩
  | 34 => ⟨S2x4x64x64x128, .f32⟩
  | 35 => ⟨S2x4x64x64x128, .f32⟩
  | 36 => ⟨S2x4x64x64x128, .f32⟩
  | 37 => ⟨S2x4x64x64x128, .f32⟩
  | 38 => ⟨S2x4x64x64x128, .f32⟩
  | 39 => ⟨S2x4x64x128x128, .f32⟩
  | 40 => ⟨S2x4x64x128, .f32⟩
  | 41 => ⟨S2x4x64x128, .f32⟩
  | 42 => ⟨S_, .f32⟩
  | 43 => ⟨S2x4x128x128, .f32⟩
  | 44 => ⟨S64x2x4x128, .f32⟩
  | 45 => ⟨S64x2x4x128x128, .f32⟩
  | 46 => ⟨S2x4x64x64x128, .f32⟩
  | 47 => ⟨S2x4x64x64x128, .f32⟩
  | 48 => ⟨S64x2x4x64x128, .f32⟩
  | 49 => ⟨S64x2x4x64x128, .f32⟩
  | 50 => ⟨S_, .f32⟩
  | 51 => ⟨S64x2x4x128x128, .f32⟩
  | 52 => ⟨S_, .f32⟩
  | 53 => ⟨S64x2x4x64x128, .f32⟩
  | 54 => ⟨S_, .i32⟩
  | 55 => ⟨S64x2x4x128, .f32⟩
  | 56 => ⟨S64x2x4x128x128, .f32⟩
  | 57 => ⟨S64x2x4x64x128, .f32⟩
  | 58 => ⟨S64x2x4x64x128, .f32⟩
  | 59 => ⟨S_, .i32⟩
  | 60 => ⟨S2x4x128x128, .f32⟩
  | 61 => ⟨S64x2x4x128x128, .f32⟩
  | 62 => ⟨S64x2x4x64x128, .f32⟩
  | 63 => ⟨S_, .i32⟩
  | 64 => ⟨S_, .i1⟩
  | 65 => ⟨S_, .i32⟩
  | 66 => ⟨S_, .i32⟩
  | 67 => ⟨S_, .i32⟩
  | 68 => ⟨S1x2x4x128, .f32⟩
  | 69 => ⟨S2x4x128, .f32⟩
  | 70 => ⟨S_, .i32⟩
  | 71 => ⟨S_, .i32⟩
  | 72 => ⟨S_, .i32⟩
  | 73 => ⟨S_, .i32⟩
  | 74 => ⟨S1x2x4x128x128, .f32⟩
  | 75 => ⟨S2x4x128x128, .f32⟩
  | 76 => ⟨S_, .i32⟩
  | 77 => ⟨S_, .i32⟩
  | 78 => ⟨S_, .i32⟩
  | 79 => ⟨S_, .i32⟩
  | 80 => ⟨S1x2x4x64x128, .f32⟩
  | 81 => ⟨S2x4x64x128, .f32⟩
  | 82 => ⟨S_, .i32⟩
  | 83 => ⟨S_, .i32⟩
  | 84 => ⟨S_, .i32⟩
  | 85 => ⟨S_, .i32⟩
  | 86 => ⟨S1x2x4x64x128, .f32⟩
  | 87 => ⟨S2x4x64x128, .f32⟩
  | 88 => ⟨S2x4x128x1, .f32⟩
  | 89 => ⟨S2x4x128x128, .f32⟩
  | 90 => ⟨S2x4x128x128, .f32⟩
  | 91 => ⟨S2x4x128x128, .f32⟩
  | 92 => ⟨S2x4x64x128, .f32⟩
  | 93 => ⟨S2x4x64x128, .f32⟩
  | 94 => ⟨S1x2x4x128x128, .f32⟩
  | 95 => ⟨S_, .i32⟩
  | 96 => ⟨S_, .i32⟩
  | 97 => ⟨S_, .i32⟩
  | 98 => ⟨S_, .i32⟩
  | 99 => ⟨S64x2x4x128x128, .f32⟩
  | 100 => ⟨S1x2x4x64x128, .f32⟩
  | 101 => ⟨S_, .i32⟩
  | 102 => ⟨S_, .i32⟩
  | 103 => ⟨S_, .i32⟩
  | 104 => ⟨S_, .i32⟩
  | 105 => ⟨S64x2x4x64x128, .f32⟩
  | 106 => ⟨S_, .i32⟩
  | 107 => ⟨S_, .i32⟩
  | 108 => ⟨S2x4x64x64x128, .f32⟩
  | 109 => ⟨S2x4x4096x128, .f32⟩
  | 110 => ⟨S2x64x4x128x128, .f32⟩
  | 111 => ⟨S1x4x4096x128, .f32⟩
  | 112 => ⟨S4x4096x128, .f32⟩
  | 113 => ⟨S4096x4x128, .f32⟩
  | 114 => ⟨S4096x512, .f32⟩
  | 115 => ⟨S1x4x4096x128, .f32⟩
  | 116 => ⟨S4x4096x128, .f32⟩
  | 117 => ⟨S4x4096x128, .f32⟩
  | 118 => ⟨S4096x4x128, .f32⟩
  | 119 => ⟨S4096x512, .f32⟩
  | 120 => ⟨S1x64x4x128x128, .f32⟩
  | 121 => ⟨S64x4x128x128, .f32⟩
  | 122 => ⟨S1x64x4x128x128, .f32⟩
  | 123 => ⟨S64x4x128x128, .f32⟩
  | 124 => ⟨S64x4x128x128, .f32⟩
  | _ => ⟨S4096x3584, .f32⟩

abbrev hbmTy (i : Nat) : BufTy := match i / 128 with
  | 0 => hbmTy0_0 i
  | 1 => hbmTy0_1 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_call0_cst : Ref sig .tc := ⟨.hbm, 20, rfl⟩
abbrev main_call0_call0_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_8 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_9 : Ref sig .tc := ⟨.hbm, 84, rfl⟩
abbrev main_v62 : Ref sig .tc := ⟨.hbm, 85, rfl⟩
abbrev main_v63 : Ref sig .tc := ⟨.hbm, 86, rfl⟩
abbrev main_cst_10 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_11 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_12 : Ref sig .tc := ⟨.hbm, 101, rfl⟩
abbrev main_v76 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_call6_call0_cst : Ref sig .tc := ⟨.hbm, 132, rfl⟩
abbrev main_call6_call0_v0 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_c : Ref sig .tc := ⟨.hbm, 146, rfl⟩
abbrev main_v117 : Ref sig .tc := ⟨.hbm, 147, rfl⟩
abbrev main_call7_v0 : Ref sig .tc := ⟨.hbm, 148, rfl⟩
abbrev main_call7_c : Ref sig .tc := ⟨.hbm, 149, rfl⟩
abbrev main_call7_v1 : Ref sig .tc := ⟨.hbm, 150, rfl⟩
abbrev main_call7_v2 : Ref sig .tc := ⟨.hbm, 151, rfl⟩
abbrev main_call7_v3 : Ref sig .tc := ⟨.hbm, 152, rfl⟩
abbrev main_call7_v4 : Ref sig .tc := ⟨.hbm, 153, rfl⟩
abbrev main_call7_c_0 : Ref sig .tc := ⟨.hbm, 154, rfl⟩
abbrev main_call7_v5 : Ref sig .tc := ⟨.hbm, 155, rfl⟩
abbrev main_v118 : Ref sig .tc := ⟨.hbm, 156, rfl⟩
abbrev main_cst_14 : Ref sig .tc := ⟨.hbm, 157, rfl⟩
abbrev main_call8_v0 : Ref sig .tc := ⟨.hbm, 158, rfl⟩
abbrev main_call8_v1 : Ref sig .tc := ⟨.hbm, 159, rfl⟩
abbrev main_call8_v2 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_15 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_16 : Ref sig .tc := ⟨.hbm, 178, rfl⟩
abbrev main_v135 : Ref sig .tc := ⟨.hbm, 179, rfl⟩
abbrev main_cst_17 : Ref sig .tc := ⟨.hbm, 180, rfl⟩
abbrev main_v136 : Ref sig .tc := ⟨.hbm, 181, rfl⟩
abbrev main_c_18 : Ref sig .tc := ⟨.hbm, 182, rfl⟩
abbrev main_v137_0 : Ref sig .tc := ⟨.hbm, 183, rfl⟩
abbrev main_v137_1 : Ref sig .tc := ⟨.hbm, 184, rfl⟩
abbrev main_v137_2 : Ref sig .tc := ⟨.hbm, 185, rfl⟩
abbrev main_v137_3 : Ref sig .tc := ⟨.hbm, 186, rfl⟩
abbrev main_v137_4 : Ref sig .tc := ⟨.hbm, 187, rfl⟩
abbrev main_v137_5 : Ref sig .tc := ⟨.hbm, 188, rfl⟩
abbrev main_v137_6 : Ref sig .tc := ⟨.hbm, 189, rfl⟩
abbrev main_v137_7 : Ref sig .tc := ⟨.hbm, 190, rfl⟩
abbrev main_while0c_c_26 : Ref sig .tc := ⟨.hbm, 191, rfl⟩
abbrev main_while0c_v155 : Ref sig .tc := ⟨.hbm, 192, rfl⟩
abbrev main_while0b_call9_c : Ref sig .tc := ⟨.hbm, 193, rfl⟩
abbrev main_while0b_call9_c_0 : Ref sig .tc := ⟨.hbm, 194, rfl⟩
abbrev main_while0b_call9_c_1 : Ref sig .tc := ⟨.hbm, 195, rfl⟩
abbrev main_while0b_call9_v0 : Ref sig .tc := ⟨.hbm, 196, rfl⟩
abbrev main_while0b_v155 : Ref sig .tc := ⟨.hbm, 197, rfl⟩
abbrev main_while0b_call10_c : Ref sig .tc := ⟨.hbm, 198, rfl⟩
abbrev main_while0b_call10_c_0 : Ref sig .tc := ⟨.hbm, 199, rfl⟩
abbrev main_while0b_call10_c_1 : Ref sig .tc := ⟨.hbm, 200, rfl⟩
abbrev main_while0b_call10_c_2 : Ref sig .tc := ⟨.hbm, 201, rfl⟩
abbrev main_while0b_call10_v0 : Ref sig .tc := ⟨.hbm, 202, rfl⟩
abbrev main_while0b_v156 : Ref sig .tc := ⟨.hbm, 203, rfl⟩
abbrev main_while0b_call11_c : Ref sig .tc := ⟨.hbm, 204, rfl⟩
abbrev main_while0b_call11_c_0 : Ref sig .tc := ⟨.hbm, 205, rfl⟩
abbrev main_while0b_call11_c_1 : Ref sig .tc := ⟨.hbm, 206, rfl⟩
abbrev main_while0b_call11_c_2 : Ref sig .tc := ⟨.hbm, 207, rfl⟩
abbrev main_while0b_call11_v0 : Ref sig .tc := ⟨.hbm, 208, rfl⟩
abbrev main_while0b_v157 : Ref sig .tc := ⟨.hbm, 209, rfl⟩
abbrev main_while0b_call12_c : Ref sig .tc := ⟨.hbm, 210, rfl⟩
abbrev main_while0b_call12_c_0 : Ref sig .tc := ⟨.hbm, 211, rfl⟩
abbrev main_while0b_call12_c_1 : Ref sig .tc := ⟨.hbm, 212, rfl⟩
abbrev main_while0b_call12_c_2 : Ref sig .tc := ⟨.hbm, 213, rfl⟩
abbrev main_while0b_call12_v0 : Ref sig .tc := ⟨.hbm, 214, rfl⟩
abbrev main_while0b_v158 : Ref sig .tc := ⟨.hbm, 215, rfl⟩
abbrev main_while0b_v159 : Ref sig .tc := ⟨.hbm, 216, rfl⟩
abbrev main_while0b_v160 : Ref sig .tc := ⟨.hbm, 217, rfl⟩
abbrev main_while0b_v161 : Ref sig .tc := ⟨.hbm, 218, rfl⟩
abbrev main_while0b_v162 : Ref sig .tc := ⟨.hbm, 219, rfl⟩
abbrev main_while0b_v163 : Ref sig .tc := ⟨.hbm, 220, rfl⟩
abbrev main_while0b_v164 : Ref sig .tc := ⟨.hbm, 221, rfl⟩
abbrev main_while0b_call13_v0 : Ref sig .tc := ⟨.hbm, 222, rfl⟩
abbrev main_while0b_call13_c : Ref sig .tc := ⟨.hbm, 223, rfl⟩
abbrev main_while0b_call13_c_0 : Ref sig .tc := ⟨.hbm, 224, rfl⟩
abbrev main_while0b_call13_c_1 : Ref sig .tc := ⟨.hbm, 225, rfl⟩
abbrev main_while0b_call13_c_2 : Ref sig .tc := ⟨.hbm, 226, rfl⟩
abbrev main_while0b_v165 : Ref sig .tc := ⟨.hbm, 227, rfl⟩
abbrev main_while0b_call14_v0 : Ref sig .tc := ⟨.hbm, 228, rfl⟩
abbrev main_while0b_call14_c : Ref sig .tc := ⟨.hbm, 229, rfl⟩
abbrev main_while0b_call14_c_0 : Ref sig .tc := ⟨.hbm, 230, rfl⟩
abbrev main_while0b_call14_c_1 : Ref sig .tc := ⟨.hbm, 231, rfl⟩
abbrev main_while0b_call14_c_2 : Ref sig .tc := ⟨.hbm, 232, rfl⟩
abbrev main_while0b_v166 : Ref sig .tc := ⟨.hbm, 233, rfl⟩
abbrev main_while0b_c_26 : Ref sig .tc := ⟨.hbm, 234, rfl⟩
abbrev main_while0b_v167 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_v141 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩

abbrev nD : Nat := 1
abbrev τ : Topo := Topo.v7x

variable {F : FTy → Type} [FloatOps F]

abbrev main_while0_count : Scf.Loop 32 := ⟨0#32, 64#32, 1#32⟩
-- ==== Glab1.lean ====
abbrev S4096x3104 : Shape := ⟨2, ![4096, 3104]⟩
abbrev S2x4096x512 : Shape := ⟨3, ![2, 4096, 512]⟩
abbrev S4096x1024 : Shape := ⟨2, ![4096, 1024]⟩
abbrev S64x4x256x128 : Shape := ⟨4, ![64, 4, 256, 128]⟩
abbrev S_ : Shape := ⟨0, ![]⟩
abbrev S4096x3200 : Shape := ⟨2, ![4096, 3200]⟩
abbrev S4096x512 : Shape := ⟨2, ![4096, 512]⟩
abbrev S256x512 : Shape := ⟨2, ![256, 512]⟩
abbrev S256x1024 : Shape := ⟨2, ![256, 1024]⟩
abbrev S1x256x512 : Shape := ⟨3, ![1, 256, 512]⟩
abbrev S4x4x256x128 : Shape := ⟨4, ![4, 4, 256, 128]⟩
abbrev S2x4x256x128 : Shape := ⟨4, ![2, 4, 256, 128]⟩
abbrev S64x64 : Shape := ⟨2, ![64, 64]⟩
abbrev S64x1 : Shape := ⟨2, ![64, 1]⟩
abbrev S1x1x256x128 : Shape := ⟨4, ![1, 1, 256, 128]⟩
abbrev S256x128 : Shape := ⟨2, ![256, 128]⟩
abbrev S64x512 : Shape := ⟨2, ![64, 512]⟩
abbrev S64x1024 : Shape := ⟨2, ![64, 1024]⟩
abbrev S1x64x512 : Shape := ⟨3, ![1, 64, 512]⟩
abbrev S512 : Shape := ⟨1, ![512]⟩
abbrev S1x512 : Shape := ⟨2, ![1, 512]⟩
abbrev S64x128 : Shape := ⟨2, ![64, 128]⟩
abbrev S64x256 : Shape := ⟨2, ![64, 256]⟩
abbrev S1x128 : Shape := ⟨2, ![1, 128]⟩
abbrev S64x384 : Shape := ⟨2, ![64, 384]⟩
abbrev S64x768 : Shape := ⟨2, ![64, 768]⟩
abbrev S128 : Shape := ⟨1, ![128]⟩
abbrev S1x384 : Shape := ⟨2, ![1, 384]⟩
abbrev S1x256 : Shape := ⟨2, ![1, 256]⟩

abbrev nBuf : Space → Nat
  | .hbm => 16
  | .vmem => 41
  | .smem => 0
  | _ => 0

abbrev bufTy : (tb : Table) → Fin (tcTables nBuf tb) → BufTy
  | .hbm, ⟨0, _⟩ => ⟨S4096x3104, .f32⟩
  | .hbm, ⟨1, _⟩ => ⟨S2x4096x512, .f32⟩
  | .hbm, ⟨2, _⟩ => ⟨S4096x1024, .f32⟩
  | .hbm, ⟨3, _⟩ => ⟨S64x4x256x128, .f32⟩
  | .hbm, ⟨4, _⟩ => ⟨S64x4x256x128, .f32⟩
  | .hbm, ⟨5, _⟩ => ⟨S_, .i32⟩
  | .hbm, ⟨6, _⟩ => ⟨S_, .f32⟩
  | .hbm, ⟨7, _⟩ => ⟨S4096x3200, .f32⟩
  | .hbm, ⟨8, _⟩ => ⟨S4096x512, .bf16⟩
  | .hbm, ⟨9, _⟩ => ⟨S4096x512, .bf16⟩
  | .hbm, ⟨10, _⟩ => ⟨S4096x1024, .bf16⟩
  | .hbm, ⟨11, _⟩ => ⟨S4096x512, .f32⟩
  | .hbm, ⟨12, _⟩ => ⟨S4096x512, .bf16⟩
  | .hbm, ⟨13, _⟩ => ⟨S4096x512, .bf16⟩
  | .hbm, ⟨14, _⟩ => ⟨S4096x1024, .bf16⟩
  | .hbm, ⟨15, _⟩ => ⟨S4096x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S1x256x512, .f32⟩
  | .local _ .vmem, ⟨7, _⟩ => ⟨S1x256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x1024, .f32⟩
  | .local _ .vmem, ⟨13, _⟩ => ⟨S256x1024, .f32⟩
  | .local _ .vmem, ⟨14, _⟩ => ⟨S1x256x512, .f32⟩
  | .local _ .vmem, ⟨15, _⟩ => ⟨S1x256x512, .f32⟩
  | .local _ .vmem, ⟨16, _⟩ => ⟨S4x4x256x128, .f32⟩
  | .local _ .vmem, ⟨17, _⟩ => ⟨S4x4x256x128, .f32⟩
  | .local _ .vmem, ⟨18, _⟩ => ⟨S4x4x256x128, .f32⟩
  | .local _ .vmem, ⟨19, _⟩ => ⟨S4x4x256x128, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x1024, .bf16⟩
  | .local _ .vmem, ⟨29, _⟩ => ⟨S256x1024, .bf16⟩
  | .local _ .vmem, ⟨30, _⟩ => ⟨S256x512, .f32⟩
  | .local _ .vmem, ⟨31, _⟩ => ⟨S256x512, .f32⟩
  | .local _ .vmem, ⟨32, _⟩ => ⟨S256x512, .bf16⟩
  | .local _ .vmem, ⟨33, _⟩ => ⟨S256x512, .bf16⟩
  | .local _ .vmem, ⟨34, _⟩ => ⟨S256x512, .bf16⟩
  | .local _ .vmem, ⟨35, _⟩ => ⟨S256x512, .bf16⟩
  | .local _ .vmem, ⟨36, _⟩ => ⟨S256x1024, .bf16⟩
  | .local _ .vmem, ⟨37, _⟩ => ⟨S256x1024, .bf16⟩
  | .local _ .vmem, ⟨38, _⟩ => ⟨S256x512, .f32⟩
  | .local _ .vmem, ⟨39, _⟩ => ⟨S256x512, .f32⟩
  | .local _ .vmem, ⟨40, _⟩ => ⟨S2x4x256x128, .f32⟩
  | _, _ => ⟨S4096x3104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x4x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Hgb1.lean ====
abbrev S4096x3584 : Shape := ⟨2, ![4096, 3584]⟩
abbrev S2x512 : Shape := ⟨2, ![2, 512]⟩
abbrev S4096x512 : Shape := ⟨2, ![4096, 512]⟩
abbrev S64x4x128x128 : Shape := ⟨4, ![64, 4, 128, 128]⟩
abbrev S1x512 : Shape := ⟨2, ![1, 512]⟩
abbrev S2x1x512 : Shape := ⟨3, ![2, 1, 512]⟩
abbrev S256x512 : Shape := ⟨2, ![256, 512]⟩
abbrev S4x4x128x128 : Shape := ⟨4, ![4, 4, 128, 128]⟩
abbrev S2x4x128x128 : Shape := ⟨4, ![2, 4, 128, 128]⟩
abbrev S64x64 : Shape := ⟨2, ![64, 64]⟩
abbrev S64x1 : Shape := ⟨2, ![64, 1]⟩
abbrev S1x1x128x128 : Shape := ⟨4, ![1, 1, 128, 128]⟩
abbrev S128x128 : Shape := ⟨2, ![128, 128]⟩
abbrev S64x512 : Shape := ⟨2, ![64, 512]⟩
abbrev S512 : Shape := ⟨1, ![512]⟩
abbrev S64x128 : Shape := ⟨2, ![64, 128]⟩
abbrev S1x128 : Shape := ⟨2, ![1, 128]⟩
abbrev S64x384 : Shape := ⟨2, ![64, 384]⟩
abbrev S128 : Shape := ⟨1, ![128]⟩
abbrev S1x384 : Shape := ⟨2, ![1, 384]⟩
abbrev S64x256 : Shape := ⟨2, ![64, 256]⟩
abbrev S1x256 : Shape := ⟨2, ![1, 256]⟩
abbrev S1x1x512 : Shape := ⟨3, ![1, 1, 512]⟩

abbrev nBuf : Space → Nat
  | .hbm => 15
  | .vmem => 37
  | .smem => 0
  | _ => 0

abbrev bufTy : (tb : Table) → Fin (tcTables nBuf tb) → BufTy
  | .hbm, ⟨0, _⟩ => ⟨S4096x3584, .f32⟩
  | .hbm, ⟨1, _⟩ => ⟨S2x512, .f32⟩
  | .hbm, ⟨2, _⟩ => ⟨S4096x512, .f32⟩
  | .hbm, ⟨3, _⟩ => ⟨S64x4x128x128, .f32⟩
  | .hbm, ⟨4, _⟩ => ⟨S64x4x128x128, .f32⟩
  | .hbm, ⟨5, _⟩ => ⟨S1x512, .f32⟩
  | .hbm, ⟨6, _⟩ => ⟨S1x512, .f32⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S2x1x512, .f32⟩
  | .hbm, ⟨14, _⟩ => ⟨S2x1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S1x512, .f32⟩
  | .local _ .vmem, ⟨13, _⟩ => ⟨S1x512, .f32⟩
  | .local _ .vmem, ⟨14, _⟩ => ⟨S4x4x128x128, .f32⟩
  | .local _ .vmem, ⟨15, _⟩ => ⟨S4x4x128x128, .f32⟩
  | .local _ .vmem, ⟨16, _⟩ => ⟨S4x4x128x128, .f32⟩
  | .local _ .vmem, ⟨17, _⟩ => ⟨S4x4x128x128, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S2x1x512, .f32⟩
  | .local _ .vmem, ⟨35, _⟩ => ⟨S2x1x512, .f32⟩
  | .local _ .vmem, ⟨36, _⟩ => ⟨S2x4x128x128, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev main_v2_6 : Ref sig .tc := ⟨.hbm, 13, rfl⟩
abbrev main_v2_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg19_0 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem19_0 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c5_i32 : BitVec 32 := 5#32
  let c0_i32 : BitVec 32 := 0#32
  ![v0.toNat, c5_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S2x1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== MresK.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MresRIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== WgrK.lean ====
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S8x1024x512, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WgrRIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdwK.lean ====
abbrev S1x1024x448 : Shape := ⟨3, ![1, 1024, 448]⟩
abbrev S1024x448 : Shape := ⟨2, ![1024, 448]⟩
abbrev S3x1024x448 : Shape := ⟨3, ![3, 1024, 448]⟩
abbrev S1x256x448 : Shape := ⟨3, ![1, 256, 448]⟩
abbrev S256x448 : Shape := ⟨2, ![256, 448]⟩
abbrev S3x256x448 : Shape := ⟨3, ![3, 256, 448]⟩

abbrev nBuf : Space → Nat
  | .hbm => 10
  | .vmem => 18
  | .smem => 0
  | _ => 0

abbrev bufTy : (tb : Table) → Fin (tcTables nBuf tb) → BufTy
  | .hbm, ⟨0, _⟩ => ⟨S1x1024x448, .f32⟩
  | .hbm, ⟨1, _⟩ => ⟨S1024x448, .f32⟩
  | .hbm, ⟨2, _⟩ => ⟨S3x1024x448, .f32⟩
  | .hbm, ⟨3, _⟩ => ⟨S1x1024x448, .f32⟩
  | .hbm, ⟨4, _⟩ => ⟨S1x1024x448, .f32⟩
  | .hbm, ⟨5, _⟩ => ⟨S3x1024x448, .bf16⟩
  | .hbm, ⟨6, _⟩ => ⟨S1x1024x448, .f32⟩
  | .hbm, ⟨7, _⟩ => ⟨S1x1024x448, .f32⟩
  | .hbm, ⟨8, _⟩ => ⟨S1x1024x448, .f32⟩
  | .hbm, ⟨9, _⟩ => ⟨S1x1024x448, .f32⟩
  | .local _ .vmem, ⟨0, _⟩ => ⟨S1x256x448, .f32⟩
  | .local _ .vmem, ⟨1, _⟩ => ⟨S1x256x448, .f32⟩
  | .local _ .vmem, ⟨2, _⟩ => ⟨S256x448, .f32⟩
  | .local _ .vmem, ⟨3, _⟩ => ⟨S256x448, .f32⟩
  | .local _ .vmem, ⟨4, _⟩ => ⟨S3x256x448, .bf16⟩
  | .local _ .vmem, ⟨5, _⟩ => ⟨S3x256x448, .bf16⟩
  | .local _ .vmem, ⟨6, _⟩ => ⟨S1x256x448, .f32⟩
  | .local _ .vmem, ⟨7, _⟩ => ⟨S1x256x448, .f32⟩
  | .local _ .vmem, ⟨8, _⟩ => ⟨S1x256x448, .f32⟩
  | .local _ .vmem, ⟨9, _⟩ => ⟨S1x256x448, .f32⟩
  | .local _ .vmem, ⟨10, _⟩ => ⟨S1x256x448, .f32⟩
  | .local _ .vmem, ⟨11, _⟩ => ⟨S1x256x448, .f32⟩
  | .local _ .vmem, ⟨12, _⟩ => ⟨S1x256x448, .f32⟩
  | .local _ .vmem, ⟨13, _⟩ => ⟨S1x256x448, .f32⟩
  | .local _ .vmem, ⟨14, _⟩ => ⟨S1x256x448, .f32⟩
  | .local _ .vmem, ⟨15, _⟩ => ⟨S1x256x448, .f32⟩
  | .local _ .vmem, ⟨16, _⟩ => ⟨S1x256x448, .f32⟩
  | .local _ .vmem, ⟨17, _⟩ => ⟨S1x256x448, .f32⟩
  | _, _ => ⟨S1x1024x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x448 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x448 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdwRIdeal.lean ====
abbrev S1x1024x448 : Shape := ⟨3, ![1, 1024, 448]⟩
abbrev S1024x448 : Shape := ⟨2, ![1024, 448]⟩
abbrev S3x1024x448 : Shape := ⟨3, ![3, 1024, 448]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1x1024x448, .f32⟩
  | .hbm, ⟨1, _⟩ => ⟨S1024x448, .f32⟩
  | .hbm, ⟨2, _⟩ => ⟨S3x1024x448, .f32⟩
  | .hbm, ⟨3, _⟩ => ⟨S1x1024x448, .f32⟩
  | .hbm, ⟨4, _⟩ => ⟨S1x1024x448, .f32⟩
  | .hbm, ⟨5, _⟩ => ⟨S3x1024x448, .bf16⟩
  | .hbm, ⟨6, _⟩ => ⟨S3x1024x448, .f32⟩
  | .hbm, ⟨7, _⟩ => ⟨S_, .f32⟩
  | .hbm, ⟨8, _⟩ => ⟨S1024x448, .f32⟩
  | .hbm, ⟨9, _⟩ => ⟨S1024x448, .f32⟩
  | .hbm, ⟨10, _⟩ => ⟨S1x1024x448, .f32⟩
  | .hbm, ⟨11, _⟩ => ⟨S_, .f32⟩
  | .hbm, ⟨12, _⟩ => ⟨S1x1024x448, .f32⟩
  | .hbm, ⟨13, _⟩ => ⟨S1x1024x448, .f32⟩
  | .hbm, ⟨14, _⟩ => ⟨S_, .f32⟩
  | .hbm, ⟨15, _⟩ => ⟨S1x1024x448, .f32⟩
  | .hbm, ⟨16, _⟩ => ⟨S1x1024x448, .f32⟩
  | .hbm, ⟨17, _⟩ => ⟨S1x1024x448, .f32⟩
  | .hbm, ⟨18, _⟩ => ⟨S_, .f32⟩
  | .hbm, ⟨19, _⟩ => ⟨S1x1024x448, .f32⟩
  | .hbm, ⟨20, _⟩ => ⟨S1x1024x448, .f32⟩
  | .hbm, ⟨21, _⟩ => ⟨S1x1024x448, .f32⟩
  | .hbm, ⟨22, _⟩ => ⟨S_, .f32⟩
  | .hbm, ⟨23, _⟩ => ⟨S1x1024x448, .f32⟩
  | .hbm, ⟨24, _⟩ => ⟨S1x1024x448, .f32⟩
  | .hbm, ⟨25, _⟩ => ⟨S1x1024x448, .f32⟩
  | .hbm, ⟨26, _⟩ => ⟨S_, .f32⟩
  | .hbm, ⟨27, _⟩ => ⟨S1x1024x448, .f32⟩
  | .hbm, ⟨28, _⟩ => ⟨S1x1024x448, .f32⟩
  | .hbm, ⟨29, _⟩ => ⟨S_, .f32⟩
  | .hbm, ⟨30, _⟩ => ⟨S1x1024x448, .f32⟩
  | .hbm, ⟨31, _⟩ => ⟨S1x1024x448, .f32⟩
  | .hbm, ⟨32, _⟩ => ⟨S1x1024x448, .f32⟩
  | .hbm, ⟨33, _⟩ => ⟨S_, .f32⟩
  | .hbm, ⟨34, _⟩ => ⟨S1x1024x448, .f32⟩
  | .hbm, ⟨35, _⟩ => ⟨S1x1024x448, .f32⟩
  | .hbm, ⟨36, _⟩ => ⟨S1x1024x448, .f32⟩
  | .hbm, ⟨37, _⟩ => ⟨S_, .f32⟩
  | .hbm, ⟨38, _⟩ => ⟨S1x1024x448, .f32⟩
  | .hbm, ⟨39, _⟩ => ⟨S1x1024x448, .f32⟩
  | .hbm, ⟨40, _⟩ => ⟨S1x1024x448, .f32⟩
  | .hbm, ⟨41, _⟩ => ⟨S_, .f32⟩
  | .hbm, ⟨42, _⟩ => ⟨S1x1024x448, .f32⟩
  | .hbm, ⟨43, _⟩ => ⟨S1x1024x448, .f32⟩
  | _, _ => ⟨S1x1024x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== AdlK.lean ====
abbrev S2x1024x512 : Shape := ⟨3, ![2, 1024, 512]⟩
abbrev S1024x512 : Shape := ⟨2, ![1024, 512]⟩
abbrev S3x1024x512 : Shape := ⟨3, ![3, 1024, 512]⟩
abbrev S1x256x512 : Shape := ⟨3, ![1, 256, 512]⟩
abbrev S256x512 : Shape := ⟨2, ![256, 512]⟩
abbrev S3x256x512 : Shape := ⟨3, ![3, 256, 512]⟩

abbrev nBuf : Space → Nat
  | .hbm => 13
  | .vmem => 22
  | .smem => 0
  | _ => 0

abbrev bufTy : (tb : Table) → Fin (tcTables nBuf tb) → BufTy
  | .hbm, ⟨0, _⟩ => ⟨S2x1024x512, .f32⟩
  | .hbm, ⟨1, _⟩ => ⟨S1024x512, .f32⟩
  | .hbm, ⟨2, _⟩ => ⟨S3x1024x512, .f32⟩
  | .hbm, ⟨3, _⟩ => ⟨S1024x512, .f32⟩
  | .hbm, ⟨4, _⟩ => ⟨S3x1024x512, .f32⟩
  | .hbm, ⟨5, _⟩ => ⟨S2x1024x512, .f32⟩
  | .hbm, ⟨6, _⟩ => ⟨S2x1024x512, .f32⟩
  | .hbm, ⟨7, _⟩ => ⟨S3x1024x512, .bf16⟩
  | .hbm, ⟨8, _⟩ => ⟨S3x1024x512, .bf16⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .local _ .vmem, ⟨0, _⟩ => ⟨S1x256x512, .f32⟩
  | .local _ .vmem, ⟨1, _⟩ => ⟨S1x256x512, .f32⟩
  | .local _ .vmem, ⟨2, _⟩ => ⟨S256x512, .f32⟩
  | .local _ .vmem, ⟨3, _⟩ => ⟨S256x512, .f32⟩
  | .local _ .vmem, ⟨4, _⟩ => ⟨S3x256x512, .bf16⟩
  | .local _ .vmem, ⟨5, _⟩ => ⟨S3x256x512, .bf16⟩
  | .local _ .vmem, ⟨6, _⟩ => ⟨S256x512, .f32⟩
  | .local _ .vmem, ⟨7, _⟩ => ⟨S256x512, .f32⟩
  | .local _ .vmem, ⟨8, _⟩ => ⟨S3x256x512, .bf16⟩
  | .local _ .vmem, ⟨9, _⟩ => ⟨S3x256x512, .bf16⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdlRIdeal.lean ====
abbrev S2x1024x512 : Shape := ⟨3, ![2, 1024, 512]⟩
abbrev S1024x512 : Shape := ⟨2, ![1024, 512]⟩
abbrev S3x1024x512 : Shape := ⟨3, ![3, 1024, 512]⟩
abbrev S_ : Shape := ⟨0, ![]⟩
abbrev S1x1024x512 : Shape := ⟨3, ![1, 1024, 512]⟩

abbrev nBuf : Space → Nat
  | .hbm => 53
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S1024x512, .f32⟩
  | .hbm, ⟨2, _⟩ => ⟨S3x1024x512, .f32⟩
  | .hbm, ⟨3, _⟩ => ⟨S1024x512, .f32⟩
  | .hbm, ⟨4, _⟩ => ⟨S3x1024x512, .f32⟩
  | .hbm, ⟨5, _⟩ => ⟨S2x1024x512, .f32⟩
  | .hbm, ⟨6, _⟩ => ⟨S2x1024x512, .f32⟩
  | .hbm, ⟨7, _⟩ => ⟨S3x1024x512, .bf16⟩
  | .hbm, ⟨8, _⟩ => ⟨S3x1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S3x1024x512, .bf16⟩
  | .hbm, ⟨13, _⟩ => ⟨S3x1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1x1024x512, .f32⟩
  | .hbm, ⟨18, _⟩ => ⟨S1x1024x512, .f32⟩
  | .hbm, ⟨19, _⟩ => ⟨S2x1024x512, .f32⟩
  | .hbm, ⟨20, _⟩ => ⟨S_, .f32⟩
  | .hbm, ⟨21, _⟩ => ⟨S2x1024x512, .f32⟩
  | .hbm, ⟨22, _⟩ => ⟨S2x1024x512, .f32⟩
  | .hbm, ⟨23, _⟩ => ⟨S_, .f32⟩
  | .hbm, ⟨24, _⟩ => ⟨S2x1024x512, .f32⟩
  | .hbm, ⟨25, _⟩ => ⟨S2x1024x512, .f32⟩
  | .hbm, ⟨26, _⟩ => ⟨S2x1024x512, .f32⟩
  | .hbm, ⟨27, _⟩ => ⟨S_, .f32⟩
  | .hbm, ⟨28, _⟩ => ⟨S2x1024x512, .f32⟩
  | .hbm, ⟨29, _⟩ => ⟨S2x1024x512, .f32⟩
  | .hbm, ⟨30, _⟩ => ⟨S2x1024x512, .f32⟩
  | .hbm, ⟨31, _⟩ => ⟨S_, .f32⟩
  | .hbm, ⟨32, _⟩ => ⟨S2x1024x512, .f32⟩
  | .hbm, ⟨33, _⟩ => ⟨S2x1024x512, .f32⟩
  | .hbm, ⟨34, _⟩ => ⟨S2x1024x512, .f32⟩
  | .hbm, ⟨35, _⟩ => ⟨S_, .f32⟩
  | .hbm, ⟨36, _⟩ => ⟨S2x1024x512, .f32⟩
  | .hbm, ⟨37, _⟩ => ⟨S2x1024x512, .f32⟩
  | .hbm, ⟨38, _⟩ => ⟨S_, .f32⟩
  | .hbm, ⟨39, _⟩ => ⟨S2x1024x512, .f32⟩
  | .hbm, ⟨40, _⟩ => ⟨S2x1024x512, .f32⟩
  | .hbm, ⟨41, _⟩ => ⟨S2x1024x512, .f32⟩
  | .hbm, ⟨42, _⟩ => ⟨S_, .f32⟩
  | .hbm, ⟨43, _⟩ => ⟨S2x1024x512, .f32⟩
  | .hbm, ⟨44, _⟩ => ⟨S2x1024x512, .f32⟩
  | .hbm, ⟨45, _⟩ => ⟨S2x1024x512, .f32⟩
  | .hbm, ⟨46, _⟩ => ⟨S_, .f32⟩
  | .hbm, ⟨47, _⟩ => ⟨S2x1024x512, .f32⟩
  | .hbm, ⟨48, _⟩ => ⟨S2x1024x512, .f32⟩
  | .hbm, ⟨49, _⟩ => ⟨S2x1024x512, .f32⟩
  | .hbm, ⟨50, _⟩ => ⟨S_, .f32⟩
  | .hbm, ⟨51, _⟩ => ⟨S2x1024x512, .f32⟩
  | .hbm, ⟨52, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== AdhK.lean ====
abbrev S1024x64 : Shape := ⟨2, ![1024, 64]⟩

abbrev nBuf : Space → Nat
  | .hbm => 8
  | .vmem => 8
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AdhRIdeal.lean ====
abbrev S1024x64 : Shape := ⟨2, ![1024, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S_, .f32⟩
  | .hbm, ⟨5, _⟩ => ⟨S1024x64, .f32⟩
  | .hbm, ⟨6, _⟩ => ⟨S1024x64, .f32⟩
  | .hbm, ⟨7, _⟩ => ⟨S_, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S_, .f32⟩
  | .hbm, ⟨12, _⟩ => ⟨S1024x64, .f32⟩
  | .hbm, ⟨13, _⟩ => ⟨S1024x64, .f32⟩
  | .hbm, ⟨14, _⟩ => ⟨S1024x64, .f32⟩
  | .hbm, ⟨15, _⟩ => ⟨S_, .f32⟩
  | .hbm, ⟨16, _⟩ => ⟨S1024x64, .f32⟩
  | .hbm, ⟨17, _⟩ => ⟨S1024x64, .f32⟩
  | .hbm, ⟨18, _⟩ => ⟨S1024x64, .f32⟩
  | .hbm, ⟨19, _⟩ => ⟨S_, .f32⟩
  | .hbm, ⟨20, _⟩ => ⟨S1024x64, .f32⟩
  | .hbm, ⟨21, _⟩ => ⟨S1024x64, .f32⟩
  | .hbm, ⟨22, _⟩ => ⟨S_, .f32⟩
  | .hbm, ⟨23, _⟩ => ⟨S1024x64, .f32⟩
  | .hbm, ⟨24, _⟩ => ⟨S1024x64, .f32⟩
  | .hbm, ⟨25, _⟩ => ⟨S1024x64, .f32⟩
  | .hbm, ⟨26, _⟩ => ⟨S_, .f32⟩
  | .hbm, ⟨27, _⟩ => ⟨S1024x64, .f32⟩
  | .hbm, ⟨28, _⟩ => ⟨S1024x64, .f32⟩
  | .hbm, ⟨29, _⟩ => ⟨S1024x64, .f32⟩
  | .hbm, ⟨30, _⟩ => ⟨S_, .f32⟩
  | .hbm, ⟨31, _⟩ => ⟨S1024x64, .f32⟩
  | .hbm, ⟨32, _⟩ => ⟨S1024x64, .f32⟩
  | .hbm, ⟨33, _⟩ => ⟨S1024x64, .f32⟩
  | .hbm, ⟨34, _⟩ => ⟨S_, .f32⟩
  | .hbm, ⟨35, _⟩ => ⟨S1024x64, .f32⟩
  | .hbm, ⟨36, _⟩ => ⟨S1024x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumsK.lean ====
abbrev S8x1280x128 : Shape := ⟨3, ![8, 1280, 128]⟩
abbrev S1280x128 : Shape := ⟨2, ![1280, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x1280x128, .f32⟩
  | .hbm, ⟨1, _⟩ => ⟨S1280x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x1280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumsRIdeal.lean ====
abbrev S8x1280x128 : Shape := ⟨3, ![8, 1280, 128]⟩
abbrev S_ : Shape := ⟨0, ![]⟩
abbrev S1280x128 : Shape := ⟨2, ![1280, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1280x128, .f32⟩
  | .hbm, ⟨1, _⟩ => ⟨S_, .f32⟩
  | .hbm, ⟨2, _⟩ => ⟨S1280x128, .f32⟩
  | _, _ => ⟨S8x1280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== As0K.lean ====
abbrev S4096x512 : Shape := ⟨2, ![4096, 512]⟩
abbrev S4096x3584 : Shape := ⟨2, ![4096, 3584]⟩
abbrev S512x512 : Shape := ⟨2, ![512, 512]⟩
abbrev S512x3584 : Shape := ⟨2, ![512, 3584]⟩

abbrev nBuf : Space → Nat
  | .hbm => 16
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x512, .bf16⟩
  | .hbm, ⟨15, _⟩ => ⟨S4096x3584, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S512x3584, .bf16⟩
  | .local _ .vmem, ⟨19, _⟩ => ⟨S512x3584, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3584 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== As0RIdeal.lean ====
abbrev S4096x512 : Shape := ⟨2, ![4096, 512]⟩
abbrev S4096x3584 : Shape := ⟨2, ![4096, 3584]⟩

abbrev nBuf : Space → Nat
  | .hbm => 13
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x3584, .f32⟩
  | .hbm, ⟨12, _⟩ => ⟨S4096x3584, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩

abbrev nD : Nat := 1
abbrev τ : Topo := Topo.v7x

variable {F : FTy → Type} [FloatOps F]
-- ==== As1K.lean ====
abbrev S4096x512 : Shape := ⟨2, ![4096, 512]⟩
abbrev S4096x1024 : Shape := ⟨2, ![4096, 1024]⟩
abbrev S4096x128 : Shape := ⟨2, ![4096, 128]⟩
abbrev S4096x3200 : Shape := ⟨2, ![4096, 3200]⟩
abbrev S512x512 : Shape := ⟨2, ![512, 512]⟩
abbrev S512x1024 : Shape := ⟨2, ![512, 1024]⟩
abbrev S512x128 : Shape := ⟨2, ![512, 128]⟩
abbrev S512x3200 : Shape := ⟨2, ![512, 3200]⟩

abbrev nBuf : Space → Nat
  | .hbm => 15
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x128, .f32⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x1024, .bf16⟩
  | .hbm, ⟨13, _⟩ => ⟨S4096x1024, .bf16⟩
  | .hbm, ⟨14, _⟩ => ⟨S4096x3200, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | .local _ .vmem, ⟨16, _⟩ => ⟨S512x3200, .bf16⟩
  | .local _ .vmem, ⟨17, _⟩ => ⟨S512x3200, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3200 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== As1RIdeal.lean ====
abbrev S4096x512 : Shape := ⟨2, ![4096, 512]⟩
abbrev S4096x1024 : Shape := ⟨2, ![4096, 1024]⟩
abbrev S4096x128 : Shape := ⟨2, ![4096, 128]⟩
abbrev S4096x3200 : Shape := ⟨2, ![4096, 3200]⟩

abbrev nBuf : Space → Nat
  | .hbm => 13
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x128, .f32⟩
  | .hbm, ⟨8, _⟩ => ⟨S4096x512, .f32⟩
  | .hbm, ⟨9, _⟩ => ⟨S4096x512, .f32⟩
  | .hbm, ⟨10, _⟩ => ⟨S4096x1024, .f32⟩
  | .hbm, ⟨11, _⟩ => ⟨S4096x3200, .f32⟩
  | .hbm, ⟨12, _⟩ => ⟨S4096x3200, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩

abbrev nD : Nat := 1
abbrev τ : Topo := Topo.v7x

variable {F : FTy → Type} [FloatOps F]
-- ==== Proof.Reals.lean ====
/- Finite extended reals: the operations of the ideal reading on arguments that are real numbers, the float
   constants the programs print, and what the finiteness precondition says of an array. -/
module

public import Idealize.ShloMosaic.Lib.Pointwise
public import Idealize.ShloMosaic.Lib.IdealHost
public import Idealize.ShloMosaic.Lib.ReduceAll

@[expose] public section

set_option maxRecDepth 16384

noncomputable section

namespace Cert.Reals

open Idealize.ShloMosaic Idealize.SL.Sem

/-- A sum of real numbers is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A quotient of real numbers by a nonzero one is the real quotient. -/
theorem div_coe_coe {y : ℝ} (hy : y ≠ 0) (x : ℝ) : Ideal.div (x : EReal) (y : EReal) = ((x / y : ℝ) : EReal) := by
  rw [Ideal.div_coe hy, ← EReal.coe_mul]
  congr 1
  field_simp

/-- The reciprocal root of a positive real number. -/
theorem rsqrt_coe {x : ℝ} (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- The exponential of a real number. -/
theorem exp_coe (x : ℝ) : Ideal.exp (x : EReal) = ((Real.exp x : ℝ) : EReal) := rfl

/-- The logistic function of a real number. -/
theorem logistic_coe (x : ℝ) : Ideal.logistic (x : EReal) = ((1 / (1 + Real.exp (-x)) : ℝ) : EReal) := by
  unfold Ideal.logistic
  rw [← EReal.coe_neg, exp_coe, ← EReal.coe_one, ← EReal.coe_add, div_coe_coe (by positivity)]

/-- A sum over the blocks of the sums over their rows is the sum over all rows. -/
theorem sum_blocks {M : Type} [AddCommMonoid M] {N : ℕ} (J B R : ℕ) (hN : N = J) (hR : J * B = R) (f : Fin R → M)
    (row : Fin N → Fin B → Fin R) (hrow : ∀ t r, (row t r).val = t.val * B + r.val) :
    (∑ t : Fin N, ∑ r : Fin B, f (row t r)) = ∑ k : Fin R, f k := by
  subst hN
  subst hR
  rw [← Fintype.sum_prod_type', ← finProdFinEquiv.sum_comp]
  refine Finset.sum_congr rfl fun p _ => congrArg f (Fin.ext ?_)
  rw [hrow]
  simp [finProdFinEquiv]
  ring

/-! ## Constants -/

theorem ofBits_1024 : Ideal.ofBits .f32 0x44800000#32 = ((1024 : ℝ) : EReal) := by
  simp [Ideal.ofBits, Ideal.ieee]
  rw [← EReal.coe_mul, EReal.coe_eq_coe_iff]
  norm_num
theorem ofBits_inv1024 : Ideal.ofBits .f32 0x3A800000#32 = ((1 / 1024 : ℝ) : EReal) := by
  simp [Ideal.ofBits, Ideal.ieee]
  rw [← EReal.coe_mul, EReal.coe_eq_coe_iff]
  norm_num
theorem ofBits_half : Ideal.ofBits .f32 0x3F000000#32 = ((1 / 2 : ℝ) : EReal) := by
  simp [Ideal.ofBits, Ideal.ieee]
  rw [← EReal.coe_mul, EReal.coe_eq_coe_iff]
  norm_num
theorem ofBits_neg_half : Ideal.ofBits .f32 0xBF000000#32 = ((-(1 / 2) : ℝ) : EReal) := by
  simp [Ideal.ofBits, Ideal.ieee]
  rw [← EReal.coe_mul, EReal.coe_eq_coe_iff]
  norm_num
theorem ofBits_two : Ideal.ofBits .f32 0x40000000#32 = ((2 : ℝ) : EReal) := by
  simp [Ideal.ofBits, Ideal.ieee]
  rw [← EReal.coe_mul, EReal.coe_eq_coe_iff]
  norm_num
theorem ofBits_three : Ideal.ofBits .f32 0x40400000#32 = ((3 : ℝ) : EReal) := by
  simp [Ideal.ofBits, Ideal.ieee]
  rw [← EReal.coe_mul, EReal.coe_eq_coe_iff]
  norm_num
/-- Three times an extended real is its sum with itself, twice. -/
theorem three_mul (z : EReal) : ((3 : ℝ) : EReal) * z = z + z + z := by
  induction z with
  | bot => rw [EReal.coe_mul_bot_of_pos (by norm_num)]; rfl
  | top => rw [EReal.coe_mul_top_of_pos (by norm_num)]; rfl
  | coe x => rw [← EReal.coe_mul, ← EReal.coe_add, ← EReal.coe_add]; congr 1; ring
theorem ofBits_inf : Ideal.ofBits .f32 0x7F800000#32 = (⊤ : EReal) := by
  simp [Ideal.ofBits, Ideal.ieee]

/-- The norm's small constant: the float nearest to a millionth, a positive real number. -/
def eps : ℝ := 8796093 / 8796093022208
theorem eps_pos : 0 < eps := by unfold eps; norm_num
theorem ofBits_eps : Ideal.ofBits .f32 0x358637BD#32 = ((eps : ℝ) : EReal) := by
  simp [Ideal.ofBits, Ideal.ieee, eps]
  rw [← EReal.coe_mul, EReal.coe_eq_coe_iff]
  norm_num

/-! ## The norm of a row of 1024 real numbers -/

/-- The mean of the squares plus the small constant is positive. -/
theorem ms_pos {n : ℕ} (f : Fin n → ℝ) : 0 < (∑ x, f x * f x) / 1024 + eps :=
  add_pos_of_nonneg_of_pos (div_nonneg (Finset.sum_nonneg fun x _ => mul_self_nonneg _) (by norm_num)) eps_pos
theorem ms_ne {n : ℕ} (f : Fin n → ℝ) : (∑ x, f x * f x) / 1024 + eps ≠ 0 := (ms_pos f).ne'
theorem div_1024 (x : ℝ) : Ideal.div (x : EReal) ((1024 : ℝ) : EReal) = ((x / 1024 : ℝ) : EReal) :=
  div_coe_coe (by norm_num) x

/-- The reciprocal of a row's norm. -/
def rn {n : ℕ} (f : Fin n → ℝ) : ℝ := (Real.sqrt ((∑ x, f x * f x) / 1024 + eps))⁻¹

theorem rsqrt_ms {n : ℕ} (f : Fin n → ℝ) :
    Ideal.rsqrt (((∑ x, f x * f x) / 1024 + eps : ℝ) : EReal) = ((rn f : ℝ) : EReal) := rsqrt_coe (ms_pos f)

/-- The derivative of the reciprocal root, as the chain rule writes it. -/
theorem rn_div {n : ℕ} (f : Fin n → ℝ) : rn f / ((∑ x, f x * f x) / 1024 + eps) = rn f * (rn f * rn f) := by
  have h : rn f * rn f = ((∑ x, f x * f x) / 1024 + eps)⁻¹ := by
    unfold rn
    rw [← mul_inv, Real.mul_self_sqrt (ms_pos f).le]
  rw [h, div_eq_mul_inv]

/-- The gradient of a normalised row: `f` the row, `d` the gradient of the normalised row. -/
def dnorm {n : ℕ} (f d : Fin n → ℝ) (c : Fin n) : ℝ :=
  rn f * (d c - f c * rn f * ((∑ x, d x * (f x * rn f)) / 1024))

/-- The chain rule's three summands are the gradient of a normalised row. -/
theorem dnorm_eq {n : ℕ} (f d : Fin n → ℝ) (c : Fin n) :
    dnorm f d c = d c * rn f
      + f c * ((∑ x, f x * d x) * (-(1 / 2) * (rn f / ((∑ x, f x * f x) / 1024 + eps))) / 1024)
      + (∑ x, f x * d x) * (-(1 / 2) * (rn f / ((∑ x, f x * f x) / 1024 + eps))) / 1024 * f c := by
  have h : (∑ x, d x * (f x * rn f)) = (∑ x, f x * d x) * rn f := by
    rw [Finset.sum_mul]
    exact Finset.sum_congr rfl fun x _ => by ring
  rw [rn_div, dnorm, h]
  ring

/-! ## Finiteness -/

/-- A finite extended real is a real number. -/
theorem exists_real {x : EReal} (h : max x (-x) < ⊤) : ∃ r : ℝ, x = (r : EReal) := by
  refine ⟨x.toReal, (EReal.coe_toReal ?_ ?_).symm⟩
  · rintro rfl; simp at h
  · rintro rfl; simp at h

/-- An array whose every absolute value is below infinity is an array of real numbers. -/
theorem finite_of_all {s t u : Shape} {axes : List (Fin s.rank)} [Subsingleton t.Idx] (x : FVec Ideal s .f32)
    (hb : (⟨0, ![]⟩ : Shape).BroadcastsInDim s ![]) (init : u.Idx → BitVec 1) (h : s.ReducesTo axes t)
    (hu : 0 < u.numel) (j : t.Idx)
    (e : Host.reduce IntOp.andi (cmpf .olt (Host.absf x) (broadcastInDim s ![] hb (constant ⟨0, ![]⟩ .f32 0x7F800000#32)))
      init h hu j = 1#1) :
    ∃ X : s.Idx → ℝ, x = fun i => ((X i : ℝ) : EReal) := by
  have hi : ∀ i, ∃ r : ℝ, x i = (r : EReal) := fun i => by
    have e' := Host.reduce_andi_all _ init h hu j e i
    refine exists_real ?_
    by_contra hn
    have : Ideal.cmp .olt (max (x i) (-(x i))) (Ideal.ofBits .f32 0x7F800000#32) = 1#1 := e'
    rw [ofBits_inf] at this
    simp [Ideal.cmp, hn] at this
  exact ⟨fun i => (hi i).choose, funext fun i => (hi i).choose_spec⟩

end Cert.Reals

end
-- ==== Proof.LossPay.lean ====
/- The final norm and the loss: what one block of 512 rows computes, on real numbers. -/
module

public import proofs.«01_k».proof.Proof.Gen.LossKIdeal.Skeleton
public import proofs.«01_k».proof.Proof.Reals

@[expose] public section

set_option maxRecDepth 16384

noncomputable section

open Idealize.ShloMosaic Idealize.ShloMosaic.TcCoe Idealize.SL.Sem Cert.Reals

namespace Cert.LossKIdeal.Value

open Cert.LossKIdeal Cert.LossKIdeal.Gen

/-- The error of one entry of a row: the normalised row times the gain, minus the target. -/
def err (f g t : Fin 1024 → ℝ) (c : Fin 1024) : ℝ := f c * rn f * g c - t c

/-- The gradient of the loss in one entry of the normalised row. -/
def dxh (f g t : Fin 1024 → ℝ) (c : Fin 1024) : ℝ := err f g t c * (1 / 1024) * g c

variable {h t : Vec Ideal S512x1024 .f32} {g : Vec Ideal S1x1024 .f32} {r : Fin 512} {H G T : Fin 1024 → ℝ}

/-- The gradient in the block's entry. -/
theorem pay4 (hh : ∀ k, h (ix2 r k) = ((H k : ℝ) : EReal)) (hg : ∀ k, g (ix2 0 k) = ((G k : ℝ) : EReal))
    (ht : ∀ k, t (ix2 r k) = ((T k : ℝ) : EReal)) (c : Fin 1024) :
    k0_pay4 (F := Ideal) h (k0_pay9 h g t) (k0_pay11 g) (ix2 r c) = ((dnorm H (dxh H G T) c : ℝ) : EReal) := by
  pointwise [k0_pay4, k0_pay3, k0_pay2, k0_pay1, k0_pay9, k0_pay11, hh, hg, ht]
  simp only [← EReal.coe_add, ← EReal.coe_mul, ← EReal.coe_sub, ← EReal.coe_neg, coe_sum, div_1024, rsqrt_coe, ms_pos,
    ofBits_1024, ofBits_inv1024, ofBits_eps]
  rfl

/-- The row's part of the gain's gradient: the block adds the parts of its rows. -/
theorem pay6 {H T : Fin 512 → Fin 1024 → ℝ} (hh : ∀ r k, h (ix2 r k) = ((H r k : ℝ) : EReal))
    (hg : ∀ k, g (ix2 0 k) = ((G k : ℝ) : EReal)) (ht : ∀ r k, t (ix2 r k) = ((T r k : ℝ) : EReal))
    (a : Vec Ideal S1x1024 .f32) (i : Fin 1) (c : Fin 1024) :
    k0_pay6 (F := Ideal) h (k0_pay9 h g t) a (ix2 i c) =
      (show EReal from a (ix2 i c)) + ((∑ r, err (H r) G (T r) c * (1 / 1024) * (H r c * rn (H r)) : ℝ) : EReal) := by
  pointwise [k0_pay6, k0_pay3, k0_pay2, k0_pay1, k0_pay9, hh, hg, ht]
  simp only [← EReal.coe_add, ← EReal.coe_mul, ← EReal.coe_sub, ← EReal.coe_neg, coe_sum, div_1024, rsqrt_coe, ms_pos,
    ofBits_1024, ofBits_inv1024, ofBits_eps]
  rfl

/-- The block's part of the loss. -/
theorem pay10 {H T : Fin 512 → Fin 1024 → ℝ} (hh : ∀ r k, h (ix2 r k) = ((H r k : ℝ) : EReal))
    (hg : ∀ k, g (ix2 0 k) = ((G k : ℝ) : EReal)) (ht : ∀ r k, t (ix2 r k) = ((T r k : ℝ) : EReal))
    (a : Vec Ideal S8x128 .f32) (i : Fin 8) (c : Fin 128) :
    k0_pay10 (F := Ideal) h g t a (ix2 i c) =
      (show EReal from a (ix2 i c)) + ((1 / 2 * ∑ r, (∑ k, err (H r) G (T r) k * err (H r) G (T r) k) / 1024 : ℝ) : EReal) := by
  pointwise [k0_pay10, k0_pay9, hh, hg, ht]
  simp only [← EReal.coe_add, ← EReal.coe_mul, ← EReal.coe_sub, ← EReal.coe_neg, coe_sum, div_1024, rsqrt_coe, ms_pos,
    ofBits_1024, ofBits_inv1024, ofBits_eps, ofBits_half]
  rfl

end Cert.LossKIdeal.Value

end
-- ==== Proof.LossKernel.lean ====
/- The final norm and the loss: what the kernel's result arrays hold after the run, on real arguments. -/
module

public import proofs.«01_k».proof.Proof.Gen.LossKIdeal.Value
public import proofs.«01_k».proof.Proof.LossPay
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Reals
open Idealize.ShloMosaic.Pipeline (Dat)

namespace Cert.LossKIdeal.Value

open Cert.LossKIdeal Cert.LossKIdeal.Gen

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ) (c : Dev nD)
variable {H T : Fin 4096 → Fin 1024 → ℝ} {G : Fin 1024 → ℝ}

/-- The row of the array that row `r` of block `t` is. -/
def row (t : Fin cfg0.N) (r : Fin 512) : Fin 4096 := ⟨t.val * 512 + r.val, by have := lt_of_lt_of_eq t.isLt N_0; omega⟩

/-- What the three arguments hold, as real numbers. -/
structure Real (H T : Fin 4096 → Fin 1024 → ℝ) (G : Fin 1024 → ℝ) : Prop where
  h : ∀ r k, m ((c : Thread nD τ).loc main_arg0) (ix2 r k) = ((H r k : ℝ) : EReal)
  g : ∀ k, m ((c : Thread nD τ).loc main_arg1) (ix1 k) = ((G k : ℝ) : EReal)
  t : ∀ r k, m ((c : Thread nD τ).loc main_arg2) (ix2 r k) = ((T r k : ℝ) : EReal)

variable {m c}

theorem blk0 (hr : Real m c H T G) (t : Fin cfg0.N) (r : Fin 512) (k : Fin 1024) :
    iblk m c 0 t (ix2 r k) = ((H (row t r) k : ℝ) : EReal) := by
  rw [← hr.h]
  blk_ext [iblk, V, idx t, row]
theorem blk2 (hr : Real m c H T G) (t : Fin cfg0.N) (r : Fin 512) (k : Fin 1024) :
    iblk m c 2 t (ix2 r k) = ((T (row t r) k : ℝ) : EReal) := by
  rw [← hr.t]
  blk_ext [iblk, V, idx t, row]
theorem blk1 (hr : Real m c H T G) (t : Fin cfg0.N) (k : Fin 1024) :
    iblk m c 1 t (ix2 0 k) = ((G k : ℝ) : EReal) := by
  rw [← hr.g]
  blk_simp [iblk, idx t]
  entry_read
  pointwise
  blk_ext [idx t]

/-- The gradient's array. -/
def grad (H T : Fin 4096 → Fin 1024 → ℝ) (G : Fin 1024 → ℝ) : S4096x1024.Idx → EReal := fun i =>
  ((dnorm (H (i 0)) (dxh (H (i 0)) G (T (i 0))) (i 1) : ℝ) : EReal)

theorem after4 (hr : Real m c H T G) (t : Fin cfg0.N) (y : S512x1024.Idx) :
    (outsAt0 m c t.val t.isLt).2.1 y = grad H T G (ix2 (row t (y 0)) (y 1)) := by
  idx_vars y
  by_cases h0 : t.val % 8 = 0
  · rw [outsAt0_A m c t h0]
    frame_out
    exact pay4 (blk0 hr t _) (blk1 hr t) (blk2 hr t _) _
  · rw [outsAt0_B m c t h0]
    frame_out
    exact pay4 (blk0 hr t _) (blk1 hr t) (blk2 hr t _) _

theorem after5 (hr : Real m c H T G) (t : Fin cfg0.N) (y : S512x1024.Idx) :
    (outsAt0 m c t.val t.isLt).2.2.1 y = grad H T G (ix2 (row t (y 0)) (y 1)) := by
  idx_vars y
  by_cases h0 : t.val % 8 = 0
  · rw [outsAt0_A m c t h0]
    frame_out
    exact pay4 (blk0 hr t _) (blk1 hr t) (blk2 hr t _) _
  · rw [outsAt0_B m c t h0]
    frame_out
    exact pay4 (blk0 hr t _) (blk1 hr t) (blk2 hr t _) _

/-- The gradient's array after the run. -/
theorem final4 (hr : Real m c H T G) : (dats m 0 c).arrAt 4 (cfgs 0).N = grad H T G := by
  refine (dats m 0 c).arrAt_eq_of_covers 4 _ (by decide +kernel) fun t _ y => ?_
  blk_simp
  rw [after0_4, after4 hr]
  blk_ext [idx t, row]

/-- The gradient's narrowed copy after the run. -/
theorem final5 (hr : Real m c H T G) : (dats m 0 c).arrAt 5 (cfgs 0).N = grad H T G := by
  refine (dats m 0 c).arrAt_eq_of_covers 5 _ (by decide +kernel) fun t _ y => ?_
  blk_simp
  rw [after0_5, after5 hr]
  blk_ext [idx t, row]

theorem zero7 (j) : k0_pay7 (F := Ideal) j = 0 := by pointwise [k0_pay7]
theorem zero8 (j) : k0_pay8 (F := Ideal) j = 0 := by pointwise [k0_pay8]

/-- The loss after the run, the same in every entry. -/
theorem final3 (hr : Real m c H T G) : (dats m 0 c).arrAt 3 (cfgs 0).N = fun _ : S8x128.Idx =>
    ((1 / 2 * ∑ r : Fin 4096, (∑ k, err (H r) G (T r) k * err (H r) G (T r) k) / 1024 : ℝ) : EReal) := by
  refine (dats m 0 c).arrAt_eq_of_after_last 3 t0_7 (by decide +kernel) _ fun j => ?_
  blk_simp
  rw [after0_3, Pipeline.eq_sum_fin_of_reset_step_apply_last (fun n h => (outsAt0 m c n h).1) 8 (fun _ => 0)
    (fun t _ => ((1 / 2 * ∑ r, (∑ k, err (H (row t r)) G (T (row t r)) k * err (H (row t r)) G (T (row t r)) k) / 1024 : ℝ) : EReal))
    (fun t h j => by
      idx_vars j
      rw [outsAt0_A m c t h]
      frame_out
      rw [pay10 (fun r => blk0 hr t r) (blk1 hr t) (fun r => blk2 hr t r), zero7])
    (fun t h j => by
      idx_vars j
      rw [outsAt0_B m c t h]
      frame_out
      rw [pay10 (fun r => blk0 hr t r) (blk1 hr t) (fun r => blk2 hr t r)])
    (le_of_eq N_0) t0_7 rfl j, zero_add]
  rw [coe_sum, ← Finset.mul_sum]
  rw [sum_blocks 8 512 4096 N_0 rfl (fun r => (∑ k, err (H r) G (T r) k * err (H r) G (T r) k) / 1024) row fun _ _ => rfl]

/-- The gain's gradient after the run. -/
theorem final6 (hr : Real m c H T G) : (dats m 0 c).arrAt 6 (cfgs 0).N = fun i : S1x1024.Idx =>
    ((∑ r : Fin 4096, err (H r) G (T r) (i 1) * (1 / 1024) * (H r (i 1) * rn (H r)) : ℝ) : EReal) := by
  refine (dats m 0 c).arrAt_eq_of_after_last 6 t0_7 (by decide +kernel) _ fun j => ?_
  blk_simp
  rw [after0_6, Pipeline.eq_sum_fin_of_reset_step_apply_last (fun n h => (outsAt0 m c n h).2.2.2) 8 (fun _ => 0)
    (fun t j => ((∑ r, err (H (row t r)) G (T (row t r)) (j 1) * (1 / 1024) * (H (row t r) (j 1) * rn (H (row t r))) : ℝ) : EReal))
    (fun t h j => by
      idx_vars j
      rw [outsAt0_A m c t h]
      frame_out
      rw [pay6 (fun r => blk0 hr t r) (blk1 hr t) (fun r => blk2 hr t r), zero8])
    (fun t h j => by
      idx_vars j
      rw [outsAt0_B m c t h]
      frame_out
      rw [pay6 (fun r => blk0 hr t r) (blk1 hr t) (fun r => blk2 hr t r)])
    (le_of_eq N_0) t0_7 rfl j, zero_add]
  rw [coe_sum, sum_blocks 8 512 4096 N_0 rfl
    (fun r => err (H r) G (T r) (j 1) * (1 / 1024) * (H r (j 1) * rn (H r))) row fun _ _ => rfl]

end Cert.LossKIdeal.Value

end
-- ==== Proof.LossClaim.lean ====
/- The final norm and the loss: the kernel's results are those of the reference, the value and the gradients of the
   reference's forward lines, on finite arguments. -/
module

public import proofs.«01_k».proof.Defs
public import proofs.«01_k».proof.Proof.LossKernel
public import proofs.«01_k».proof.Proof.Gen.LossRIdeal.Run
public import proofs.«01_k».proof.Proof.Gen.Pre_finite_loss

@[expose] public section

set_option maxRecDepth 16384

noncomputable section

open Idealize.ShloMosaic Idealize.ShloMosaic.TcCoe Idealize.SL.Sem Cert.Reals

namespace Cert.LossClaim

instance : Cert.LossKIdeal.Facts := Cert.LossKIdeal.Gen.facts

/-- The precondition makes the three arguments arrays of real numbers. -/
theorem real {m : (ℓ : Loc Cert.LossKIdeal.nD Cert.LossKIdeal.τ Cert.LossKIdeal.sig) → Buf (Elt Ideal) ℓ}
    (hp : Pre_LossKIdeal_finite_loss (hPre_finite_loss := Cert.Pre_finite_loss.Gen.facts) m) (c : Dev Cert.LossKIdeal.nD) :
    ∃ H T G, Cert.LossKIdeal.Value.Real m c H T G := by
  have h := congrFun (hp c) (Shape.Idx.first (by decide))
  unfold Cert.Pre_finite_loss.fn at h
  obtain ⟨h12, h3⟩ := IntOp.andi_eq_one.1 h
  obtain ⟨h1, h2⟩ := IntOp.andi_eq_one.1 h12
  haveI : Subsingleton Cert.Pre_finite_loss.S_.Idx := ⟨fun a b => funext fun i => i.elim0⟩
  obtain ⟨H, hH⟩ := finite_of_all _ _ _ _ _ _ h1
  obtain ⟨G, hG⟩ := finite_of_all _ _ _ _ _ _ h2
  obtain ⟨T, hT⟩ := finite_of_all _ _ _ _ _ _ h3
  exact ⟨fun r k => H (ix2 r k), fun r k => T (ix2 r k), fun k => G (ix1 k), fun r k => congrFun hH _, fun k => congrFun hG _,
    fun r k => congrFun hT _⟩

section
open Cert.LossKIdeal Cert.LossKIdeal.Value
variable {m : (ℓ : Loc nD τ sig) → Buf (Elt Ideal) ℓ} {m' : (ℓ : Loc Cert.LossRIdeal.nD Cert.LossRIdeal.τ Cert.LossRIdeal.sig) → Buf (Elt Ideal) ℓ}
  {c : Dev nD} {H T : Fin 4096 → Fin 1024 → ℝ} {G : Fin 1024 → ℝ}

/-- The reference's gradient of one entry is the kernel's. -/
theorem ref_grad (hr : Real m c H T G) (h0 : m' ((c : Thread nD τ).loc Cert.LossRIdeal.main_arg0) = m ((c : Thread nD τ).loc main_arg0))
    (h1 : m' ((c : Thread nD τ).loc Cert.LossRIdeal.main_arg1) = m ((c : Thread nD τ).loc main_arg1))
    (h2 : m' ((c : Thread nD τ).loc Cert.LossRIdeal.main_arg2) = m ((c : Thread nD τ).loc main_arg2)) :
    Cert.LossRIdeal.Value.res_main_v50 m' c = grad H T G := by
  funext j
  unfold Cert.LossRIdeal.Value.res_main_v50
  rw [h0, h1, h2]
  idx_vars j
  pointwise [hr.h, hr.g, hr.t]
  simp only [← EReal.coe_add, ← EReal.coe_mul, ← EReal.coe_sub, ← EReal.coe_neg, coe_sum, div_1024, rsqrt_ms, ms_ne,
    div_coe_coe, ne_eq, not_false_eq_true, ofBits_1024, ofBits_inv1024, ofBits_eps, ofBits_half, ofBits_neg_half, ofBits_two]
  have hd : ∀ x, 1 / 2 / 1024 * (2 * (H j0 x * rn (H j0) * G x - T j0 x)) * G x = dxh (H j0) G (T j0) x := fun x => by
    rw [dxh, err]
    ring
  simp only [hd, Finset.univ_unique, Finset.sum_const, Finset.card_singleton, one_smul]
  exact congrArg _ (dnorm_eq (H j0) (dxh (H j0) G (T j0)) j1).symm
end

theorem algebraic : Cert.algebraic_LossKIdeal_LossRIdeal_pre_finite_loss (hLossKIdeal := Cert.LossKIdeal.Gen.facts)
    (hLossRIdeal := Cert.LossRIdeal.Gen.facts) (hPre_finite_loss := Cert.Pre_finite_loss.Gen.facts) := by
  pair_intro
  · run_from Cert.LossKIdeal.Gen.run_main m g
  · run_from Cert.LossRIdeal.Value.run m' g'
    · obtain ⟨H, T, G, hr⟩ := real hpre c
      rw [Cert.LossKIdeal.Value.final3 hr]
      funext j
      idx_vars j
      pointwise [hr.h, hr.g, hr.t]
      simp only [← EReal.coe_add, ← EReal.coe_mul, ← EReal.coe_sub, ← EReal.coe_neg, coe_sum, div_1024, rsqrt_ms,
        ofBits_1024, ofBits_eps, ofBits_half]
      rfl
    · obtain ⟨H, T, G, hr⟩ := real hpre c
      rw [Cert.LossKIdeal.Value.final4 hr]
      exact ref_grad hr (hagree c).1 (hagree c).2.1 (hagree c).2.2
    · obtain ⟨H, T, G, hr⟩ := real hpre c
      rw [Cert.LossKIdeal.Value.final5 hr]
      exact ref_grad hr (hagree c).1 (hagree c).2.1 (hagree c).2.2
    · obtain ⟨H, T, G, hr⟩ := real hpre c
      rw [Cert.LossKIdeal.Value.final6 hr]
      funext j
      idx_vars j
      pointwise [hr.h, hr.g, hr.t]
      simp only [← EReal.coe_add, ← EReal.coe_mul, ← EReal.coe_sub, ← EReal.coe_neg, coe_sum, div_1024, rsqrt_ms,
        ofBits_1024, ofBits_eps, ofBits_half, ofBits_two, Finset.univ_unique, Finset.sum_const, Finset.card_singleton, one_smul]
      refine congrArg _ (Finset.sum_congr rfl fun r _ => ?_)
      rw [Cert.LossKIdeal.Value.err]
      ring

end Cert.LossClaim

end
-- ==== Proof.GateKernel.lean ====
/- The low-rank gate's gradient: what one block of 512 rows computes, and what the kernel's result arrays hold after the
   run. -/
module

public import proofs.«01_k».proof.Proof.Gen.GateKIdeal.Value
public import proofs.«01_k».proof.Proof.Reals
public import Idealize.ShloMosaic.Lib.Pipeline.ValueKit
public import Idealize.ShloMosaic.Lib.Claim
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem Cert.Reals
open Idealize.ShloMosaic.Pipeline (Dat)

namespace Cert.GateKIdeal.Value

open Cert.GateKIdeal Cert.GateKIdeal.Gen Idealize.ShloMosaic.Routing

theorem idx : ∀ t : Fin cfg0.N, win0_0.index t = ![t.val, 0] ∧ win0_1.index t = ![t.val, 0] ∧ win0_2.index t = ![0, 0, 0]
    ∧ win0_3.index t = ![t.val, 0] ∧ win0_4.index t = ![0, 0, 0] ∧ win0_5.index t = ![0, t.val, 0] :=
  (by decide +kernel : ∀ t : Fin grid0.N, _)

variable (m : (ℓ : Loc nD τ sig) → Buf (Elt Ideal) ℓ) (c : Dev nD)

/-- The row of the array that row `r` of block `t` is. -/
def row (t : Fin cfg0.N) (r : Fin 512) : Fin 4096 := ⟨t.val * 512 + r.val, by have := lt_of_lt_of_eq t.isLt N_0; omega⟩

/-- The two cotangents, and the two halves of the weights as the kernel's host lines lay them out. -/
def dz (d : Fin 2) (r : Fin 4096) (k : Fin 512) : EReal :=
  if d.val = 0 then m ((c : Thread nD τ).loc main_arg1) (ix2 r k) else m ((c : Thread nD τ).loc main_arg2) (ix2 r k)
def w (d : Fin 2) (l : Fin 128) (k : Fin 512) : EReal :=
  if h : 16 * d.val ≤ l.val ∧ l.val < 16 * d.val + 16 then m ((c : Thread nD τ).loc main_arg0) (ix3 d ⟨l.val - 16 * d.val, by omega⟩ k) else 0

theorem dz_congr {d d' : Fin 2} {r r' : Fin 4096} {k k' : Fin 512} (hd : d.val = d'.val) (hr : r.val = r'.val) (hk : k.val = k'.val) :
    dz m c d r k = dz m c d' r' k' := by
  obtain rfl := Fin.ext hd
  obtain rfl := Fin.ext hr
  obtain rfl := Fin.ext hk
  rfl

theorem blk0 (t : Fin cfg0.N) (r k : Fin 512) : iblk m c 0 t (ix2 r k) = dz m c 0 (row t r) k := by
  rw [show dz m c 0 (row t r) k = m ((c : Thread nD τ).loc main_arg1) (ix2 (row t r) k) from if_pos rfl]
  blk_ext [iblk, V, idx t, row]
theorem blk1 (t : Fin cfg0.N) (r k : Fin 512) : iblk m c 1 t (ix2 r k) = dz m c 1 (row t r) k := by
  rw [show dz m c 1 (row t r) k = m ((c : Thread nD τ).loc main_arg2) (ix2 (row t r) k) from if_neg (by decide)]
  blk_ext [iblk, V, idx t, row]

/-- Where an entry of the sixteen rows goes that are set at two words. -/
theorem lands (iw : IVec S2 32) (p : Fin 16) (q : Fin 512) (d : Fin 2) (l : Fin 128) (k : Fin 512) :
    scatter_S2x128x512_S2_S16x512_01_0_01_0.resultIdx? (ix2 p q) iw = some (ix3 d l k)
      ↔ (iw (ix1 (0 : Fin 2))).toInt = d.val ∧ (iw (ix1 (1 : Fin 2))).toInt + (p.val : Int) = l.val ∧ q = k := by
  have hs : ∀ b : Fin 2, scatter_S2x128x512_S2_S16x512_01_0_01_0.siIdx (ix2 p q) b = ix1 b := fun b => by
    funext a
    fin_cases a
    rfl
  have h0 : scatter_S2x128x512_S2_S16x512_01_0_01_0.start (ix2 p q) iw 0 = (iw (ix1 (0 : Fin 2))).toInt :=
    congrArg (fun x => (iw x).toInt) (hs 0)
  have h1 : scatter_S2x128x512_S2_S16x512_01_0_01_0.start (ix2 p q) iw 1 = (iw (ix1 (1 : Fin 2))).toInt :=
    congrArg (fun x => (iw x).toInt) (hs 1)
  have h2 : scatter_S2x128x512_S2_S16x512_01_0_01_0.start (ix2 p q) iw 2 = 0 := rfl
  have w0 : scatter_S2x128x512_S2_S16x512_01_0_01_0.window (ix2 p q) 0 = 0 := rfl
  have w1 : scatter_S2x128x512_S2_S16x512_01_0_01_0.window (ix2 p q) 1 = p.val := rfl
  have w2 : scatter_S2x128x512_S2_S16x512_01_0_01_0.window (ix2 p q) 2 = q.val := rfl
  rw [resultIdx?_eq_some]
  constructor
  · intro h
    have a0 := h 0
    have a1 := h 1
    have a2 := h 2
    rw [h0, w0] at a0
    rw [h1, w1] at a1
    rw [h2, w2] at a2
    exact ⟨by simpa using a0, a1, Fin.ext (by simpa using a2)⟩
  · rintro ⟨a0, a1, a2⟩ a
    fin_cases a
    · show scatter_S2x128x512_S2_S16x512_01_0_01_0.start (ix2 p q) iw 0 + (scatter_S2x128x512_S2_S16x512_01_0_01_0.window (ix2 p q) 0 : Int) = _
      rw [h0, w0, a0]
      exact add_zero _
    · show scatter_S2x128x512_S2_S16x512_01_0_01_0.start (ix2 p q) iw 1 + (scatter_S2x128x512_S2_S16x512_01_0_01_0.window (ix2 p q) 1 : Int) = _
      rw [h1, w1, a1]
      rfl
    · show scatter_S2x128x512_S2_S16x512_01_0_01_0.start (ix2 p q) iw 2 + (scatter_S2x128x512_S2_S16x512_01_0_01_0.window (ix2 p q) 2 : Int) = _
      rw [h2, w2, a2]
      exact zero_add _

/-- Sixteen rows set at two words `a`, `16 b`: the rows where they go, the old entry elsewhere. -/
theorem set_rows (x : Vec Ideal S2x128x512 .f32) (iw : IVec S2 32) (u : Vec Ideal S16x512 .f32) (a b : ℕ) (ha : (iw (ix1 (0 : Fin 2))).toInt = a)
    (hb : (iw (ix1 (1 : Fin 2))).toInt = b) (d : Fin 2) (l : Fin 128) (k : Fin 512) :
    Host.scatter scatter_S2x128x512_S2_S16x512_01_0_01_0 (fun _ y => y) x iw u (ix3 d l k)
      = if h : a = d.val ∧ b ≤ l.val ∧ l.val < b + 16 then u (ix2 ⟨l.val - b, by omega⟩ k) else x (ix3 d l k) := by
  by_cases h : a = d.val ∧ b ≤ l.val ∧ l.val < b + 16
  · rw [dif_pos h]
    refine scatter_set_hit _ x iw u _ _ (fun j hj => ?_) (ix2 ⟨l.val - b, by omega⟩ k) ((lands iw _ _ d l k).2 ⟨by omega, ?_, rfl⟩)
    · rw [eq_ix2 j] at hj ⊢
      obtain ⟨e0, e1, e2⟩ := (lands iw _ _ d l k).1 hj
      exact congrArg u (congrArg₂ ix2 (Fin.ext (by show (j 0).val = l.val - b; omega)) e2)
    · show _ + ((l.val - b : ℕ) : Int) = _
      omega
  · rw [dif_neg h]
    refine scatter_set_miss _ x iw u _ fun j hj => h ?_
    rw [eq_ix2 j] at hj
    obtain ⟨e0, e1, e2⟩ := (lands iw _ _ d l k).1 hj
    have := (j 0).isLt
    exact ⟨by omega, by omega, by have : (j 0).val < 16 := (j 0).isLt; omega⟩

theorem blk2 (t : Fin cfg0.N) (d : Fin 2) (l : Fin 128) (k : Fin 512) : iblk m c 2 t (ix3 d l k) = w m c d l k := by
  unfold w
  blk_simp [iblk, idx t]
  entry_read
  pointwise
  rw [show (win0_2.blk t).view.emb (ix3 d l k) = ix3 d l k by blk_ext [idx t]]
  rw [set_rows _ _ _ 1 16 (by decide) (by decide), set_rows _ _ _ 0 0 (by decide) (by decide)]
  pointwise
  fin_cases d
  · simp only [Fin.zero_eta, Fin.val_zero, mul_zero, Nat.zero_le, true_and, zero_add, Nat.sub_zero]
    split_ifs <;> first | rfl | (exfalso; simp_all)
  · by_cases h : 16 ≤ l.val ∧ l.val < 32
    · rw [dif_pos ⟨rfl, h.1, h.2⟩, dif_pos (show 16 * 1 ≤ l.val ∧ l.val < 16 * 1 + 16 by omega)]
      rfl
    · rw [dif_neg fun h' => h ⟨h'.2.1, h'.2.2⟩, dif_neg fun h' => absurd h'.1 (by decide),
        dif_neg (show ¬ (16 * 1 ≤ l.val ∧ l.val < 16 * 1 + 16) by omega)]

/-- What a row of the first result holds. -/
def lr (r : Fin 4096) (l : Fin 128) : EReal := (∑ k, dz m c 0 r k * w m c 0 l k) + ∑ k, dz m c 1 r k * w m c 1 l k

theorem point3 (t : Fin cfg0.N) (r : Fin 512) (l : Fin 128) (hr hr') :
    k0_pay1 (F := Ideal) (k0_pay6 (F := Ideal) (iblk m c 0 t) (View.ld (iblk m c 2 t) (Rect.unit ![0, 0, 0] ![1, 128, 512] hr)))
      (k0_pay8 (F := Ideal) (iblk m c 1 t)) (View.ld (iblk m c 2 t) (Rect.unit ![1, 0, 0] ![1, 128, 512] hr')) (ix2 r l) = lr m c (row t r) l := by
  pointwise [k0_pay1, k0_pay6, k0_pay8, k0_pay4, lr]
  exact congrArg₂ (fun x y : EReal => x + y)
    (Finset.sum_congr rfl fun k _ => congrArg₂ (fun x y : EReal => x * y) (blk0 m c t r k) (blk2 m c t 0 l k))
    (Finset.sum_congr rfl fun k _ => congrArg₂ (fun x y : EReal => x * y) (blk1 m c t r k) (blk2 m c t 1 l k))

theorem after3 (t : Fin cfg0.N) (y : S512x128.Idx) : (outsAt0 m c t.val t.isLt).1 y = lr m c (row t (y 0)) (y 1) := by
  idx_vars y
  by_cases h0 : t.val % 8 = 0
  · rw [outsAt0_A m c t h0]
    frame_out
    exact point3 m c t y0 y1 _ _
  · rw [outsAt0_B m c t h0]
    frame_out
    exact point3 m c t y0 y1 _ _

/-- The block's contribution to the bias gradient. -/
def rs (t : Fin cfg0.N) (d : Fin 2) (k : Fin 512) : EReal := ∑ r : Fin 512, dz m c d (row t r) k

theorem pay7_at (t : Fin cfg0.N) (v : Vec Ideal S1x1x512 .f32) (k : Fin 512) :
    k0_pay7 (F := Ideal) (iblk m c 0 t) v (ix3 0 0 k) = (show EReal from v (ix3 0 0 k)) + rs m c t 0 k := by
  pointwise [k0_pay7, rs]
  exact congrArg (fun x : EReal => v (ix3 0 0 k) + x) (Finset.sum_congr rfl fun r _ => blk0 m c t r k)

theorem pay2_at (t : Fin cfg0.N) (v : Vec Ideal S1x1x512 .f32) (k : Fin 512) :
    k0_pay2 (F := Ideal) (iblk m c 1 t) v (ix3 0 0 k) = (show EReal from v (ix3 0 0 k)) + rs m c t 1 k := by
  pointwise [k0_pay2, rs]
  exact congrArg (fun x : EReal => v (ix3 0 0 k) + x) (Finset.sum_congr rfl fun r _ => blk1 m c t r k)

/-- A row stored last is read back; -/
theorem row_hit (d : Fin 2) (o : Fin 3 → ℕ) (h0 : o 0 = d.val) (h1 : o 1 = 0) (h2 : o 2 = 0) (hr) (P : Vec Ideal S1x1x512 .f32)
    (L : List (View.Piece (Elt Ideal) S2x1x512 .f32)) (k : Fin 512) :
    View.canon ((⟨Rect.unit o ![1, 1, 512] hr, P⟩ : View.Piece (Elt Ideal) S2x1x512 .f32) :: L) (ix3 d 0 k) = P (ix3 0 0 k) := by
  rw [show (ix3 d 0 k : S2x1x512.Idx) = (Rect.unit o ![1, 1, 512] hr).emb (ix3 (0 : Fin 1) (0 : Fin 1) k) from
    funext fun x => by
      fin_cases x
      · exact Fin.ext (by show d.val = o 0 + 1 * 0; omega)
      · exact Fin.ext (by show 0 = o 1 + 1 * 0; omega)
      · exact Fin.ext (by show k.val = o 2 + 1 * k.val; omega)]
  exact View.canon_cons_emb (Rect.unit o ![1, 1, 512] hr) P L _

/-- the other row keeps what was there before. -/
theorem row_miss (d : Fin 2) (o : Fin 3 → ℕ) (h0 : o 0 ≠ d.val) (hr) (P : Vec Ideal S1x1x512 .f32) (L : List (View.Piece (Elt Ideal) S2x1x512 .f32))
    (k : Fin 512) : View.canon ((⟨Rect.unit o ![1, 1, 512] hr, P⟩ : View.Piece (Elt Ideal) S2x1x512 .f32) :: L) (ix3 d 0 k)
      = View.canon L (ix3 d 0 k) := by
  refine View.canon_cons_of_not_mem _ L ?_
  show (ix3 d 0 k : S2x1x512.Idx) ∉ (Rect.unit o ![1, 1, 512] hr).set
  rw [Rect.mem_set_unit]
  intro h
  have h1 : o 0 ≤ d.val ∧ d.val < o 0 + 1 := h 0
  omega

theorem zero_row (d : Fin 2) (hr) (k : Fin 512) :
    View.canon [(⟨Rect.unit ![0, 0, 0] ![2, 1, 512] hr, k0_pay3 (F := Ideal)⟩ : View.Piece (Elt Ideal) S2x1x512 .f32)] (ix3 d 0 k) = (0 : EReal) := by
  refine (congrFun (View.canon_cons_unit_lit' (Val := Elt Ideal) (e := .f32) (S := S2x1x512) hr (k0_pay3 (F := Ideal)) [] (fun a => by fin_cases a <;> rfl)) (ix3 d 0 k)).trans ?_
  pointwise [k0_pay3]

theorem read_row (t : Fin cfg0.N) (d : Fin 2) (o : Fin 3 → ℕ) (h0 : o 0 = d.val) (h1 : o 1 = 0) (h2 : o 2 = 0) (hr : ∀ a : Fin 3, o a + ![1, 1, 512] a ≤ S2x1x512.size a)
    (L : List (View.Piece (Elt Ideal) S2x1x512 .f32)) (k : Fin 512) :
    ((ms0_4 t).view.readCov L (Rect.unit (s := S2x1x512) o ![1, 1, 512] hr).toLoadRect) (ix3 (0 : Fin 1) (0 : Fin 1) k) = View.canon L (ix3 d 0 k) := by
  refine (View.read_writes_junk_apply_eq_canon _ _ L).trans (congrArg (View.canon L) (funext fun x => ?_))
  fin_cases x
  · exact Fin.ext (by show o 0 + 1 * 0 = d.val; omega)
  · exact Fin.ext (by show o 1 + 1 * 0 = 0; omega)
  · exact Fin.ext (by show o 2 + 1 * k.val = k.val; omega)

theorem ld_row (B : Vec Ideal S2x1x512 .f32) (d : Fin 2) (o : Fin 3 → ℕ) (h0 : o 0 = d.val) (h1 : o 1 = 0) (h2 : o 2 = 0) (hr) (k : Fin 512) :
    (View.ld B (Rect.unit o ![1, 1, 512] hr) : Vec Ideal S1x1x512 .f32) (ix3 0 0 k) = B (ix3 d 0 k) := by
  refine (View.ld_apply B _ _).trans (congrArg B (funext fun x => ?_))
  fin_cases x
  · exact Fin.ext (by show o 0 + 1 * 0 = d.val; omega)
  · exact Fin.ext (by show o 1 + 1 * 0 = 0; omega)
  · exact Fin.ext (by show o 2 + 1 * k.val = k.val; omega)

theorem first4 (t : Fin cfg0.N) (h0 : t.val % 8 = 0) (y : S2x1x512.Idx) : (outsAt0 m c t.val t.isLt).2.1 y = 0 + rs m c t (y 0) (y 2) := by
  rw [outsAt0_A m c t h0]
  idx_vars y
  frame_out
  fin_cases y1
  fin_cases y0
  · refine (row_miss 0 _ (by decide) _ _ _ y2).trans ((row_hit 0 _ rfl rfl rfl _ _ _ y2).trans ((pay7_at m c t _ y2).trans ?_))
    exact congrArg (fun x : EReal => x + rs m c t 0 y2) ((read_row t 0 _ rfl rfl rfl _ _ y2).trans (zero_row 0 _ y2))
  · refine (row_hit 1 _ rfl rfl rfl _ _ _ y2).trans ((pay2_at m c t _ y2).trans ?_)
    exact congrArg (fun x : EReal => x + rs m c t 1 y2) ((read_row t 1 _ rfl rfl rfl _ _ y2).trans ((row_miss 1 _ (by decide) _ _ _ y2).trans (zero_row 1 _ y2)))
theorem next4 (t : Fin cfg0.N) (h0 : ¬ t.val % 8 = 0) (y : S2x1x512.Idx) (hp) : (outsAt0 m c t.val t.isLt).2.1 y
    = (show EReal from (outsAt0 m c (t.val - 1) hp).2.1 y) + rs m c t (y 0) (y 2) := by
  rw [outsAt0_B m c t h0]
  idx_vars y
  frame_out
  fin_cases y1
  fin_cases y0
  · refine (row_miss 0 _ (by decide) _ _ _ y2).trans ((row_hit 0 _ rfl rfl rfl _ _ _ y2).trans ((pay7_at m c t _ y2).trans ?_))
    exact congrArg (fun x : EReal => x + rs m c t 0 y2) (ld_row _ 0 _ rfl rfl rfl _ y2)
  · refine (row_hit 1 _ rfl rfl rfl _ _ _ y2).trans ((pay2_at m c t _ y2).trans ?_)
    exact congrArg (fun x : EReal => x + rs m c t 1 y2) (ld_row _ 1 _ rfl rfl rfl _ y2)

theorem after5 (t : Fin cfg0.N) (y : S2x512x512.Idx) : (outsAt0 m c t.val t.isLt).2.2 y = dz m c (y 0) (row t (y 1)) (y 2) := by
  by_cases h0 : t.val % 8 = 0
  · rw [outsAt0_A m c t h0]
    frame_out
    canon_tiles x h
    all_goals (open_payloads; pointwise)
    · rw [show y 0 = (1 : Fin 2) from Fin.ext (by show (y 0).val = 1; omega), show y 1 = x 1 from Fin.ext h1, show y 2 = x 2 from Fin.ext h2]
      exact blk1 m c t (x 1) (x 2)
    · rw [show y 0 = (0 : Fin 2) from Fin.ext (by show (y 0).val = 0; omega), show y 1 = x 1 from Fin.ext h1, show y 2 = x 2 from Fin.ext h2]
      exact blk0 m c t (x 1) (x 2)
  · rw [outsAt0_B m c t h0]
    frame_out
    canon_tiles x h
    all_goals (open_payloads; pointwise)
    · rw [show y 0 = (1 : Fin 2) from Fin.ext (by show (y 0).val = 1; omega), show y 1 = x 1 from Fin.ext h1, show y 2 = x 2 from Fin.ext h2]
      exact blk1 m c t (x 1) (x 2)
    · rw [show y 0 = (0 : Fin 2) from Fin.ext (by show (y 0).val = 0; omega), show y 1 = x 1 from Fin.ext h1, show y 2 = x 2 from Fin.ext h2]
      exact blk0 m c t (x 1) (x 2)

theorem final3 : (dats m 0 c).arrAt 3 (cfgs 0).N = fun i => lr m c (i 0) (i 1) := by
  refine (dats m 0 c).arrAt_eq_of_covers 3 _ (by decide +kernel) fun t _ y => ?_
  rw [after0_3, after3]
  blk_simp [idx t, row]
  refine congrArg₂ (lr m c) (Fin.ext ?_) (Fin.ext ?_) <;> blk_simp [idx t] <;> try omega

theorem final4 : (dats m 0 c).arrAt 4 (cfgs 0).N = fun i => ∑ r : Fin 4096, dz m c (i 0) r (i 2) := by
  refine (dats m 0 c).arrAt_eq_of_after_last 4 t0_7 (by decide +kernel) _ fun j => ?_
  blk_simp
  rw [after0_4, Pipeline.eq_sum_fin_of_reset_step_apply_last (fun n h => (outsAt0 m c n h).2.1) 8 (fun _ => 0)
    (fun t j => rs m c t (j 0) (j 2))
    (fun t h j => first4 m c t h j)
    (fun t h j => next4 m c t h j _) (le_of_eq N_0) t0_7 rfl j, zero_add]
  exact sum_blocks 8 512 4096 N_0 rfl (fun r => dz m c (j 0) r (j 2)) row fun _ _ => rfl

theorem final5 : (dats m 0 c).arrAt 5 (cfgs 0).N = fun i => dz m c (i 0) (i 1) (i 2) := by
  refine (dats m 0 c).arrAt_eq_of_covers 5 _ (by decide +kernel) fun t _ y => ?_
  rw [after0_5, after5]
  blk_simp [idx t, row]
  refine dz_congr m c ?_ ?_ ?_ <;> blk_simp [idx t] <;> try omega

end Cert.GateKIdeal.Value

end
-- ==== Proof.GateClaim.lean ====
/- The low-rank gate's gradient: the kernel's results are those of the reference, for all arguments. -/
module

public import proofs.«01_k».proof.Defs
public import proofs.«01_k».proof.Proof.GateKernel
public import proofs.«01_k».proof.Proof.Gen.GateRIdeal.Run

@[expose] public section

set_option maxRecDepth 16384

noncomputable section

open Idealize.ShloMosaic Idealize.ShloMosaic.TcCoe Idealize.SL.Sem Cert.Reals

namespace Cert.GateClaim

instance : Cert.GateKIdeal.Facts := Cert.GateKIdeal.Gen.facts

open Cert.GateKIdeal.Value

/-- The weights are zero outside their sixteen columns, -/
theorem zero_outside {m : (ℓ : Loc Cert.GateKIdeal.nD Cert.GateKIdeal.τ Cert.GateKIdeal.sig) → Buf (Elt Ideal) ℓ} {c : Dev Cert.GateKIdeal.nD}
    {d : Fin 2} {l : Fin 128} {k : Fin 512} (h : ¬ (16 * d.val ≤ l.val ∧ l.val < 16 * d.val + 16)) : w m c d l k = 0 :=
  dif_neg h

/-- and the given ones within. -/
theorem w_in {m : (ℓ : Loc Cert.GateKIdeal.nD Cert.GateKIdeal.τ Cert.GateKIdeal.sig) → Buf (Elt Ideal) ℓ} {c : Dev Cert.GateKIdeal.nD}
    {d : Fin 2} {l : Fin 128} {k : Fin 512} (l' : Fin 16) (h : l.val = 16 * d.val + l'.val) :
    w m c d l k = m ((c.tc : Thread Cert.GateKIdeal.nD Cert.GateKIdeal.τ).loc Cert.GateKIdeal.main_arg0) (ix3 d l' k) := by
  rw [w, dif_pos (by omega)]
  exact congrArg (fun x => m ((c.tc : Thread Cert.GateKIdeal.nD Cert.GateKIdeal.τ).loc Cert.GateKIdeal.main_arg0) (ix3 d x k))
    (Fin.ext (by show l.val - 16 * d.val = l'.val; omega))

/-- Where they are zero, so is the product's sum. -/
theorem sum_w {m : (ℓ : Loc Cert.GateKIdeal.nD Cert.GateKIdeal.τ Cert.GateKIdeal.sig) → Buf (Elt Ideal) ℓ} {c : Dev Cert.GateKIdeal.nD}
    {d' : Fin 2} {j0 : Fin 4096} {j1 : Fin 128} (h : ∀ k, w m c d' j1 k = 0) : ∑ k, dz m c d' j0 k * w m c d' j1 k = 0 :=
  Finset.sum_eq_zero fun k _ => by rw [h k, mul_zero]

theorem algebraic : Cert.algebraic_GateKIdeal_GateRIdeal (hGateKIdeal := Cert.GateKIdeal.Gen.facts)
    (hGateRIdeal := Cert.GateRIdeal.Gen.facts) := by
  pair_intro
  · run_from Cert.GateKIdeal.Value.run_blocks m g
  · run_from Cert.GateRIdeal.Value.run m' g'
    · rw [Cert.GateKIdeal.Value.final3]
      funext j
      idx_vars j
      pointwise [lr]
      rw [(hagree c).2.2]
      by_cases h : j1.val < 32
      · rw [dif_pos h]
        by_cases h' : j1.val < 16
        · rw [dif_pos h']
          refine Eq.trans ?_ ((congrArg (fun x : EReal => (∑ k, dz m c 0 j0 k * w m c 0 j1 k) + x) (sum_w (d' := 1) (c := c) (m := m) (j1 := j1) (fun _ => zero_outside (by show ¬ (16 * 1 ≤ _ ∧ _); omega)))).trans (add_zero _)).symm
          exact Finset.sum_congr rfl fun k _ => congrArg (fun x : EReal => dz m c 0 j0 k * x) (w_in (d := 0) ⟨j1.val, h'⟩ (by simp)).symm
        · rw [dif_neg h']
          refine Eq.trans ?_ ((congrArg (fun x : EReal => x + (∑ k, dz m c 1 j0 k * w m c 1 j1 k)) (sum_w (d' := 0) (c := c) (m := m) (j1 := j1) (fun _ => zero_outside (by show ¬ (16 * 0 ≤ _ ∧ _ < 16 * 0 + 16); omega)))).trans (zero_add _)).symm
          exact Finset.sum_congr rfl fun k _ => congrArg (fun x : EReal => dz m c 1 j0 k * x)
            (w_in (d := 1) ⟨j1.val - 16, by omega⟩ (by show j1.val = 16 * 1 + (j1.val - 16); omega)).symm
      · rw [dif_neg h, sum_w (d' := 0) (c := c) (m := m) (j1 := j1) (fun _ => zero_outside (by show ¬ (16 * 0 ≤ _ ∧ _ < 16 * 0 + 16); omega)),
          sum_w (d' := 1) (c := c) (m := m) (j1 := j1) (fun _ => zero_outside (by show ¬ (16 * 1 ≤ _ ∧ _); omega)), add_zero]
        simp [FloatOps.sitofp]
    · rw [Cert.GateKIdeal.Value.final4]
      funext j
      idx_vars j
      pointwise
      fin_cases j0
      · simp [dz]
      · simp [dz]
    · rw [Cert.GateKIdeal.Value.final5]
      funext j
      idx_vars j
      pointwise [dz]
      rw [(hagree c).2.1, (hagree c).2.2]
      fin_cases j0 <;> rfl

end Cert.GateClaim

end
-- ==== Proof.ConvPay.lean ====
/- The depthwise convolution's gradient: what one block of 512 rows computes. The block reads eight rows before it and
   eight after it; outside the array they count as zero. -/
module

public import proofs.«01_k».proof.Proof.Gen.ConvKIdeal.Skeleton
public import proofs.«01_k».proof.Proof.Reals

@[expose] public section

set_option maxRecDepth 16384

noncomputable section

open Idealize.ShloMosaic Idealize.ShloMosaic.TcCoe Idealize.SL.Sem Cert.Reals

namespace Cert.ConvKIdeal.Value

open Cert.ConvKIdeal Cert.ConvKIdeal.Gen

/-- Entry `n - b` of a sequence of 4096 entries, zero outside it. -/
def tap (f : Fin 4096 → EReal) (n b : ℕ) : EReal := if h : b ≤ n ∧ n < 4096 + b then f ⟨n - b, by omega⟩ else 0

/-- The two tests of a block's number are the comparisons of natural numbers. -/
theorem gt_word : ∀ t < 8, Scalar.cmpi .sgt (BitVec.ofNat 32 t) 0#32 = if 0 < t then 1#1 else 0#1 := by decide
theorem lt_word : ∀ t < 8, Scalar.cmpi .slt (BitVec.ofNat 32 t) 7#32 = if t < 7 then 1#1 else 0#1 := by decide

theorem tap_eq {f : Fin 4096 → EReal} {n b : ℕ} (k : Fin 4096) (h : n = k.val + b) : f k = tap f n b := by
  rw [tap, dif_pos ⟨by omega, by omega⟩]
  exact congrArg f (Fin.ext (by show k.val = n - b; omega))
theorem tap_zero {f : Fin 4096 → EReal} {n b : ℕ} (h : n < b ∨ 4096 + b ≤ n) : (0 : EReal) = tap f n b := by
  rw [tap, dif_neg (by omega)]

theorem tap_congr {f : Fin 4096 → EReal} {n b n' b' : ℕ} (h : n + b' = n' + b) : tap f n b = tap f n' b' := by
  unfold tap
  by_cases h1 : b ≤ n ∧ n < 4096 + b
  · rw [dif_pos h1, dif_pos (by omega)]
    exact congrArg f (Fin.ext (by show n - b = n' - b'; omega))
  · rw [dif_neg h1, dif_neg (by omega)]

section
variable {i : grid0.Coords} {t : ℕ} (hi : (i 0).val = t) (ht : t < 8) {f g : Fin 4096 → EReal} {c : Fin 512}
include hi ht

/-- A block of one array with its eight rows before and after. -/
theorem ext7 {cur : Vec Ideal S512x512 .f32} {prev next : Vec Ideal S8x512 .f32}
    (hc : ∀ r : Fin 512, cur (ix2 r c) = f ⟨t * 512 + r.val, by omega⟩)
    (hp : ∀ r : Fin 8, 0 < t → prev (ix2 r c) = f ⟨(t * 64 - 1) * 8 + r.val, by omega⟩)
    (hn : ∀ r : Fin 8, (h : t < 7) → next (ix2 r c) = f ⟨(t + 1) * 512 + r.val, by omega⟩) (n : Fin 528) :
    k0_pay7 (F := Ideal) i cur prev next (ix2 n c) = tap f (t * 512 + n.val) 8 := by
  unfold k0_pay7
  rw [hi, gt_word t ht, lt_word t ht]
  have hn' := n.isLt
  by_cases h0 : 0 < t <;> by_cases h7 : t < 7 <;> simp only [h0, h7, if_true, if_false] <;> pointwise <;> split_ifs <;>
    first
      | (rw [hp _ h0]; refine tap_eq _ ?_; dsimp only; omega)
      | (rw [hn _ h7]; refine tap_eq _ ?_; dsimp only; omega)
      | (rw [hc]; refine tap_eq _ ?_; dsimp only; omega)
      | (refine tap_zero ?_; omega)

/-- A block of the sum of two arrays with its eight rows before and after. -/
theorem ext6 {a0 a1 : Vec Ideal S512x512 .f32} {p0 p1 n0 n1 : Vec Ideal S8x512 .f32}
    (ha : ∀ r : Fin 512, a0 (ix2 r c) = f ⟨t * 512 + r.val, by omega⟩)
    (hp : ∀ r : Fin 8, 0 < t → p0 (ix2 r c) = f ⟨(t * 64 - 1) * 8 + r.val, by omega⟩)
    (hn : ∀ r : Fin 8, (h : t < 7) → n0 (ix2 r c) = f ⟨(t + 1) * 512 + r.val, by omega⟩)
    (ha' : ∀ r : Fin 512, a1 (ix2 r c) = g ⟨t * 512 + r.val, by omega⟩)
    (hp' : ∀ r : Fin 8, 0 < t → p1 (ix2 r c) = g ⟨(t * 64 - 1) * 8 + r.val, by omega⟩)
    (hn' : ∀ r : Fin 8, (h : t < 7) → n1 (ix2 r c) = g ⟨(t + 1) * 512 + r.val, by omega⟩) (n : Fin 528) :
    k0_pay6 (F := Ideal) i a0 a1 p0 p1 n0 n1 (ix2 n c) = tap (fun k => f k + g k) (t * 512 + n.val) 8 :=
  ext7 hi ht (f := fun k => f k + g k) (cur := k0_pay5 (F := Ideal) a0 a1) (prev := addf (F := Ideal) p0 p1)
    (next := addf (F := Ideal) n0 n1) (fun r => congrArg₂ (· + ·) (ha r) (ha' r)) (fun r h => congrArg₂ (· + ·) (hp r h) (hp' r h))
    (fun r h => congrArg₂ (· + ·) (hn r h) (hn' r h)) n
end

section
variable {e : FVec Ideal S528x512 .f32} {d : FVec Ideal S512x512 .f32} {t : ℕ} {f : Fin 4096 → EReal} {c : Fin 512}
  (he : ∀ n : Fin 528, e (ix2 n c) = tap f (t * 512 + n.val) 8)
include he

/-- The input's gradient in one entry: four taps of the extended block. -/
theorem pay12 {w0 w1 w2 w3 : Vec Ideal S1x512 .f32} (r : Fin 512) :
    k0_pay12 (F := Ideal) e k0_pay8 w0 w1 w2 w3 (ix2 r c) =
      (show EReal from w0 (ix2 0 c)) * tap f (t * 512 + r.val + 2) 0 + (show EReal from w1 (ix2 0 c)) * tap f (t * 512 + r.val + 1) 0
        + (show EReal from w2 (ix2 0 c)) * tap f (t * 512 + r.val) 0 + (show EReal from w3 (ix2 0 c)) * tap f (t * 512 + r.val) 1 := by
  pointwise [k0_pay12, k0_pay8, he]
  have hr := r.isLt
  rw [tap_congr (n := t * 512 + (8 + r.val + 528 - 526) % 528) (n' := t * 512 + r.val + 2) (b' := 0) (by omega),
    tap_congr (n := t * 512 + (8 + r.val + 528 - 527) % 528) (n' := t * 512 + r.val + 1) (b' := 0) (by omega),
    tap_congr (n := t * 512 + (8 + r.val)) (n' := t * 512 + r.val) (b' := 0) (by omega),
    tap_congr (n := t * 512 + (8 + r.val + 528 - 1) % 528) (n' := t * 512 + r.val) (b' := 1) (by omega)]

/-- The block's part of the weights' gradient: a row of the sums of the products with one tap. -/
theorem pay9 : k0_pay9 (F := Ideal) d e (ix2 0 c) = ∑ r : Fin 512, (show EReal from d (ix2 r c)) * tap f (t * 512 + r.val + 0) 2 := by
  pointwise [k0_pay9, he]
  exact Finset.sum_congr rfl fun r _ => congrArg _ (tap_congr (by omega))
theorem pay10 : k0_pay10 (F := Ideal) d e (ix2 0 c) = ∑ r : Fin 512, (show EReal from d (ix2 r c)) * tap f (t * 512 + r.val + 1) 2 := by
  pointwise [k0_pay10, he]
  exact Finset.sum_congr rfl fun r _ => congrArg _ (tap_congr (by omega))
theorem pay11 : k0_pay11 (F := Ideal) d e (ix2 0 c) = ∑ r : Fin 512, (show EReal from d (ix2 r c)) * tap f (t * 512 + r.val + 2) 2 := by
  pointwise [k0_pay11, he]
  exact Finset.sum_congr rfl fun r _ => congrArg _ (tap_congr (by omega))
theorem pay13 : k0_pay13 (F := Ideal) d e (ix1 c) = ∑ r : Fin 512, (show EReal from d (ix2 r c)) * tap f (t * 512 + r.val + 3) 2 := by
  pointwise [k0_pay13, he]
  exact Finset.sum_congr rfl fun r _ => congrArg _ (tap_congr (by omega))

/-- The block adds its part to the weights' gradient; the four rows of padding stay zero. -/
theorem pay1 (a : Vec Ideal S8x512 .f32) (k : Fin 8) :
    k0_pay1 (F := Ideal) (k0_pay9 d e) (k0_pay10 d e) (k0_pay11 d e) (k0_pay13 d e) a (ix2 k c) = (show EReal from a (ix2 k c))
      + if k.val < 4 then ∑ r : Fin 512, (show EReal from d (ix2 r c)) * tap f (t * 512 + r.val + k.val) 2 else 0 := by
  pointwise [k0_pay1]
  refine congrArg _ ?_
  rcases k with ⟨k, hk⟩
  interval_cases k
  · exact pay9 he
  · exact pay10 he
  · exact pay11 he
  · exact pay13 he
  all_goals rfl
end

/-- The block adds its column sums to the bias's gradient. -/
theorem pay2 {d : FVec Ideal S512x512 .f32} (a : Vec Ideal S1x512 .f32) (i : Fin 1) (c : Fin 512) :
    k0_pay2 (F := Ideal) d a (ix2 i c) = (show EReal from a (ix2 i c)) + ∑ r : Fin 512, (show EReal from d (ix2 r c)) := by
  pointwise [k0_pay2]

end Cert.ConvKIdeal.Value

end
-- ==== Proof.ConvKernel.lean ====
/- The depthwise convolution's gradient: what the kernel's result arrays hold after the run. -/
module

public import proofs.«01_k».proof.Proof.Gen.ConvKIdeal.Value
public import proofs.«01_k».proof.Proof.ConvPay
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Reals
open Idealize.ShloMosaic.Pipeline (Dat)

namespace Cert.ConvKIdeal.Value

open Cert.ConvKIdeal Cert.ConvKIdeal.Gen

theorem idx : ∀ t : Fin cfg0.N, win0_0.index t = ![t.val, 0] ∧ win0_1.index t = ![t.val * 64 - 1, 0] ∧ win0_2.index t = ![min ((t.val + 1) * 64) 511, 0]
    ∧ win0_3.index t = ![t.val, 0] ∧ win0_4.index t = ![t.val * 64 - 1, 0] ∧ win0_5.index t = ![min ((t.val + 1) * 64) 511, 0]
    ∧ win0_6.index t = ![t.val, 0] ∧ win0_7.index t = ![t.val * 64 - 1, 0] ∧ win0_8.index t = ![min ((t.val + 1) * 64) 511, 0]
    ∧ win0_9.index t = ![0, 0] ∧ win0_10.index t = ![t.val, 0] ∧ win0_11.index t = ![0, 0] ∧ win0_12.index t = ![0, 0]
    ∧ (grid0.coords t 0).val = t.val :=
  (by decide +kernel : ∀ t : Fin grid0.N, _)

variable (m : (ℓ : Loc nD τ sig) → Buf (Elt Ideal) ℓ) (c : Dev nD)

/-- The four rows of weights that a block loads. -/
theorem ld0 (B : Vec Ideal S8x512 .f32) (k : Fin 512) : (View.ld B (Rect.unit ![0, 0] ![1, 512] inb_S8x512_S1x512_0_0) : Vec Ideal S1x512 .f32) (ix2 0 k) = B (ix2 0 k) :=
  (View.ld_apply B _ _).trans (congrArg B (funext fun x => by fin_cases x <;> exact Fin.ext (by simp)))
theorem ld1 (B : Vec Ideal S8x512 .f32) (k : Fin 512) : (View.ld B (Rect.unit ![1, 0] ![1, 512] inb_S8x512_S1x512_1_0) : Vec Ideal S1x512 .f32) (ix2 0 k) = B (ix2 1 k) :=
  (View.ld_apply B _ _).trans (congrArg B (funext fun x => by fin_cases x <;> exact Fin.ext (by simp)))
theorem ld2 (B : Vec Ideal S8x512 .f32) (k : Fin 512) : (View.ld B (Rect.unit ![2, 0] ![1, 512] inb_S8x512_S1x512_2_0) : Vec Ideal S1x512 .f32) (ix2 0 k) = B (ix2 2 k) :=
  (View.ld_apply B _ _).trans (congrArg B (funext fun x => by fin_cases x <;> exact Fin.ext (by simp)))
theorem ld3 (B : Vec Ideal S8x512 .f32) (k : Fin 512) : (View.ld B (Rect.unit ![3, 0] ![1, 512] inb_S8x512_S1x512_3_0) : Vec Ideal S1x512 .f32) (ix2 0 k) = B (ix2 3 k) :=
  (View.ld_apply B _ _).trans (congrArg B (funext fun x => by fin_cases x <;> exact Fin.ext (by simp)))

/-- The row of the array that row `r` of block `t` is. -/
def row (t : Fin cfg0.N) (r : Fin 512) : Fin 4096 := ⟨t.val * 512 + r.val, by have := lt_of_lt_of_eq t.isLt N_0; omega⟩

/-- A column of the two cotangents, of the convolution's input, and the weights. -/
def D0 (k : Fin 512) (r : Fin 4096) : EReal := m ((c : Thread nD τ).loc main_arg2) (ix2 r k)
def D1 (k : Fin 512) (r : Fin 4096) : EReal := m ((c : Thread nD τ).loc main_arg3) (ix2 r k)
def D (k : Fin 512) (r : Fin 4096) : EReal := D0 m c k r + D1 m c k r
def X (k : Fin 512) (r : Fin 4096) : EReal := m ((c : Thread nD τ).loc main_arg0) (ix2 r ⟨k.val, by omega⟩)
def W (a : Fin 4) (k : Fin 512) : EReal := m ((c : Thread nD τ).loc main_arg1) (ix2 a k)

section
variable (t : Fin cfg0.N) (k : Fin 512)

theorem lt8 : t.val < 8 := lt_of_lt_of_eq t.isLt N_0

theorem blk0 (r : Fin 512) : iblk m c 0 t (ix2 r k) = D0 m c k ⟨t.val * 512 + r.val, by have := lt8 t; omega⟩ := by
  unfold D0
  blk_ext [iblk, V, idx t]
theorem blk1 (r : Fin 8) (h : 0 < t.val) : iblk m c 1 t (ix2 r k) = D0 m c k ⟨(t.val * 64 - 1) * 8 + r.val, by have := lt8 t; omega⟩ := by
  unfold D0
  blk_ext [iblk, V, idx t]
theorem blk2 (r : Fin 8) (h : t.val < 7) : iblk m c 2 t (ix2 r k) = D0 m c k ⟨(t.val + 1) * 512 + r.val, by omega⟩ := by
  unfold D0
  blk_ext [iblk, V, idx t]
theorem blk3 (r : Fin 512) : iblk m c 3 t (ix2 r k) = D1 m c k ⟨t.val * 512 + r.val, by have := lt8 t; omega⟩ := by
  unfold D1
  blk_ext [iblk, V, idx t]
theorem blk4 (r : Fin 8) (h : 0 < t.val) : iblk m c 4 t (ix2 r k) = D1 m c k ⟨(t.val * 64 - 1) * 8 + r.val, by have := lt8 t; omega⟩ := by
  unfold D1
  blk_ext [iblk, V, idx t]
theorem blk5 (r : Fin 8) (h : t.val < 7) : iblk m c 5 t (ix2 r k) = D1 m c k ⟨(t.val + 1) * 512 + r.val, by omega⟩ := by
  unfold D1
  blk_ext [iblk, V, idx t]
theorem blk6 (r : Fin 512) : iblk m c 6 t (ix2 r k) = X m c k ⟨t.val * 512 + r.val, by have := lt8 t; omega⟩ := by
  unfold X
  blk_ext [iblk, V, idx t]
theorem blk7 (r : Fin 8) (h : 0 < t.val) : iblk m c 7 t (ix2 r k) = X m c k ⟨(t.val * 64 - 1) * 8 + r.val, by have := lt8 t; omega⟩ := by
  unfold X
  blk_ext [iblk, V, idx t]
theorem blk8 (r : Fin 8) (h : t.val < 7) : iblk m c 8 t (ix2 r k) = X m c k ⟨(t.val + 1) * 512 + r.val, by omega⟩ := by
  unfold X
  blk_ext [iblk, V, idx t]
theorem blk9 (a : Fin 4) : iblk m c 9 t (ix2 ⟨a.val, by omega⟩ k) = W m c a k := by
  have h : V m c main_v0 = pad S8x512 ![0, 0] ![4, 0] ![0, 0] (show Vec Ideal S4x512 .f32 from m ((c : Thread nD τ).loc main_arg1))
      (sitofp (F := Ideal) .f32 (constantI S_ 32 0#32)) pads_S4x512_S8x512_040_000 h_S_ := by
    unfold V
    simp only [List.flatten_cons, List.flatten_nil, List.append_nil, List.cons_append, List.nil_append]
    after_results
    try rfl
  unfold W
  rw [iblk, h]
  blk_simp [idx t]
  pointwise
  blk_simp [idx t]
  rw [dif_pos (show (⟨a.val, by omega⟩ : Fin 8).val < 4 from a.isLt)]
  blk_ext [idx t]

/-- The extended blocks at a grid point. -/
theorem extD (n : Fin 528) : k0_pay6 (F := Ideal) (grid0.coords t) (iblk m c 0 t) (iblk m c 3 t) (iblk m c 1 t) (iblk m c 4 t)
    (iblk m c 2 t) (iblk m c 5 t) (ix2 n k) = tap (D m c k) (t.val * 512 + n.val) 8 :=
  ext6 (idx t).2.2.2.2.2.2.2.2.2.2.2.2.2 (lt8 t) (blk0 m c t k) (blk1 m c t k) (blk2 m c t k) (blk3 m c t k) (blk4 m c t k) (blk5 m c t k) n
theorem extX (n : Fin 528) : k0_pay7 (F := Ideal) (grid0.coords t) (iblk m c 6 t) (iblk m c 7 t) (iblk m c 8 t) (ix2 n k)
    = tap (X m c k) (t.val * 512 + n.val) 8 :=
  ext7 (idx t).2.2.2.2.2.2.2.2.2.2.2.2.2 (lt8 t) (blk6 m c t k) (blk7 m c t k) (blk8 m c t k) n
theorem cur (r : Fin 512) : (show EReal from k0_pay5 (F := Ideal) (iblk m c 0 t) (iblk m c 3 t) (ix2 r k)) = D m c k (row t r) :=
  congrArg₂ (· + ·) (blk0 m c t k r) (blk3 m c t k r)
end

/-- The input's gradient. -/
def dxa : S4096x512.Idx → EReal := fun i =>
  W m c 0 (i 1) * tap (D m c (i 1)) ((i 0).val + 2) 0 + W m c 1 (i 1) * tap (D m c (i 1)) ((i 0).val + 1) 0
    + W m c 2 (i 1) * tap (D m c (i 1)) (i 0).val 0 + W m c 3 (i 1) * tap (D m c (i 1)) (i 0).val 1

theorem point10 (t : Fin cfg0.N) (r k : Fin 512) :
    (show EReal from iblk m c 9 t (ix2 0 k)) * tap (D m c k) (t.val * 512 + r.val + 2) 0
      + (show EReal from iblk m c 9 t (ix2 1 k)) * tap (D m c k) (t.val * 512 + r.val + 1) 0
      + (show EReal from iblk m c 9 t (ix2 2 k)) * tap (D m c k) (t.val * 512 + r.val) 0
      + (show EReal from iblk m c 9 t (ix2 3 k)) * tap (D m c k) (t.val * 512 + r.val) 1 = dxa m c (ix2 (row t r) k) := by
  rw [show iblk m c 9 t (ix2 0 k) = W m c 0 k from blk9 m c t k 0, show iblk m c 9 t (ix2 1 k) = W m c 1 k from blk9 m c t k 1,
    show iblk m c 9 t (ix2 2 k) = W m c 2 k from blk9 m c t k 2, show iblk m c 9 t (ix2 3 k) = W m c 3 k from blk9 m c t k 3]
  rfl

theorem after10 (t : Fin cfg0.N) (y : S512x512.Idx) :
    (outsAt0 m c t.val t.isLt).1 y = dxa m c (ix2 (row t (y 0)) (y 1)) := by
  idx_vars y
  by_cases h0 : t.val % 8 = 0
  · rw [outsAt0_A m c t h0]
    frame_out
    rw [pay12 (extD m c t y1), ld0, ld1, ld2, ld3]
    exact point10 m c t y0 y1
  · rw [outsAt0_B m c t h0]
    frame_out
    rw [pay12 (extD m c t y1), ld0, ld1, ld2, ld3]
    exact point10 m c t y0 y1

/-- The input's gradient after the run. -/
theorem final10 : (dats m 0 c).arrAt 10 (cfgs 0).N = dxa m c := by
  refine (dats m 0 c).arrAt_eq_of_covers 10 _ (by decide +kernel) fun t _ y => ?_
  blk_simp
  rw [after0_10, after10]
  blk_ext [idx t, row]

theorem zero3 (j) : k0_pay3 (F := Ideal) j = 0 := by pointwise [k0_pay3]
theorem zero4 (j) : k0_pay4 (F := Ideal) j = 0 := by pointwise [k0_pay4]

/-- The block's part of the weights' gradient. -/
theorem part11 (t : Fin cfg0.N) (a : Vec Ideal S8x512 .f32) (k : Fin 8) (x : Fin 512) :
    k0_pay1 (F := Ideal) (k0_pay9 (k0_pay5 (iblk m c 0 t) (iblk m c 3 t)) (k0_pay7 (grid0.coords t) (iblk m c 6 t) (iblk m c 7 t) (iblk m c 8 t)))
      (k0_pay10 (k0_pay5 (iblk m c 0 t) (iblk m c 3 t)) (k0_pay7 (grid0.coords t) (iblk m c 6 t) (iblk m c 7 t) (iblk m c 8 t)))
      (k0_pay11 (k0_pay5 (iblk m c 0 t) (iblk m c 3 t)) (k0_pay7 (grid0.coords t) (iblk m c 6 t) (iblk m c 7 t) (iblk m c 8 t)))
      (k0_pay13 (k0_pay5 (iblk m c 0 t) (iblk m c 3 t)) (k0_pay7 (grid0.coords t) (iblk m c 6 t) (iblk m c 7 t) (iblk m c 8 t))) a (ix2 k x)
      = (show EReal from a (ix2 k x)) + ∑ r : Fin 512, if k.val < 4 then D m c x (row t r) * tap (X m c x) ((row t r).val + k.val) 2 else 0 := by
  rw [pay1 (extX m c t x)]
  simp only [cur]
  by_cases h : k.val < 4
  · simp only [h, if_true]
    rfl
  · simp only [h, if_false, Finset.sum_const_zero]

/-- The weights' gradient after the run. -/
theorem final11 : (dats m 0 c).arrAt 11 (cfgs 0).N = fun i : S8x512.Idx =>
    ∑ n : Fin 4096, if (i 0).val < 4 then D m c (i 1) n * tap (X m c (i 1)) (n.val + (i 0).val) 2 else 0 := by
  refine (dats m 0 c).arrAt_eq_of_after_last 11 t0_7 (by decide +kernel) _ fun j => ?_
  blk_simp
  rw [after0_11, Pipeline.eq_sum_fin_of_reset_step_apply_last (fun n h => (outsAt0 m c n h).2.1) 8 (fun _ => 0)
    (fun t j => (∑ r : Fin 512, if (j 0).val < 4 then D m c (j 1) (row t r) * tap (X m c (j 1)) ((row t r).val + (j 0).val) 2 else 0 : EReal))
    (fun t h j => by
      idx_vars j
      rw [outsAt0_A m c t h]
      frame_out
      rw [part11, zero3]
      rfl)
    (fun t h j => by
      idx_vars j
      rw [outsAt0_B m c t h]
      frame_out
      rw [part11]
      rfl)
    (le_of_eq N_0) t0_7 rfl j, zero_add]
  exact sum_blocks 8 512 4096 N_0 rfl (fun n : Fin 4096 => if (j 0).val < 4 then D m c (j 1) n * tap (X m c (j 1)) (n.val + (j 0).val) 2 else 0)
    row fun _ _ => rfl

/-- The bias's gradient after the run. -/
theorem final12 : (dats m 0 c).arrAt 12 (cfgs 0).N = fun i : S1x512.Idx => ∑ n : Fin 4096, D m c (i 1) n := by
  refine (dats m 0 c).arrAt_eq_of_after_last 12 t0_7 (by decide +kernel) _ fun j => ?_
  blk_simp
  rw [after0_12, Pipeline.eq_sum_fin_of_reset_step_apply_last (fun n h => (outsAt0 m c n h).2.2) 8 (fun _ => 0)
    (fun t j => (∑ r : Fin 512, D m c (j 1) (row t r) : EReal))
    (fun t h j => by
      idx_vars j
      rw [outsAt0_A m c t h]
      frame_out
      rw [pay2, zero4]
      simp only [cur])
    (fun t h j => by
      idx_vars j
      rw [outsAt0_B m c t h]
      frame_out
      rw [pay2]
      simp only [cur])
    (le_of_eq N_0) t0_7 rfl j, zero_add]
  exact sum_blocks 8 512 4096 N_0 rfl (fun n : Fin 4096 => D m c (j 1) n) row fun _ _ => rfl

end Cert.ConvKIdeal.Value

end
-- ==== Proof.ConvClaim.lean ====
/- The depthwise convolution's gradient: the kernel's results are those of the reference, for all arguments. -/
module

public import proofs.«01_k».proof.Defs
public import proofs.«01_k».proof.Proof.ConvKernel
public import proofs.«01_k».proof.Proof.Gen.ConvRIdeal.Run

@[expose] public section

set_option maxRecDepth 16384

noncomputable section

open Idealize.ShloMosaic Idealize.ShloMosaic.TcCoe Idealize.SL.Sem Cert.Reals

namespace Cert.ConvClaim

instance : Cert.ConvKIdeal.Facts := Cert.ConvKIdeal.Gen.facts

open Cert.ConvKIdeal.Value

/-- A padded product read at an index: the product with the tap. -/
theorem tap_dite {P : Prop} [Decidable P] {f : Fin 4096 → EReal} {n b : ℕ} {w : EReal} (hP : P ↔ b ≤ n ∧ n < 4096 + b) {F : P → EReal}
    (hF : ∀ h : b ≤ n ∧ n < 4096 + b, F (hP.2 h) = f ⟨n - b, by omega⟩ * w) : (if h : P then F h else 0) = w * tap f n b := by
  by_cases h : P
  · rw [dif_pos h, tap, dif_pos (hP.1 h), mul_comm]
    exact hF (hP.1 h)
  · rw [dif_neg h, tap, dif_neg fun h' => h (hP.2 h'), mul_zero]

theorem zero_word : (FloatOps.sitofp FTy.f32 0#32 : Ideal .f32) = (0 : EReal) := by
  simp [FloatOps.sitofp]

set_option maxHeartbeats 1000000 in
theorem algebraic : Cert.algebraic_ConvKIdeal_ConvRIdeal (hConvKIdeal := Cert.ConvKIdeal.Gen.facts)
    (hConvRIdeal := Cert.ConvRIdeal.Gen.facts) := by
  pair_intro
  · run_from Cert.ConvKIdeal.Value.run_blocks m g
  · run_from Cert.ConvRIdeal.Value.run m' g'
    · rw [Cert.ConvKIdeal.Value.final10]
      funext j
      idx_vars j
      pointwise [dxa]
      have hP : ∀ b ≤ 3, (∀ a : Fin 2, ![b, 0] a ≤ ((ix2 (⟨2 + j0.val, by omega⟩ : Fin 4099) j1 : Cert.ConvRIdeal.S4099x512.Idx) a).val
          ∧ (((ix2 (⟨2 + j0.val, by omega⟩ : Fin 4099) j1 : Cert.ConvRIdeal.S4099x512.Idx) a).val - ![b, 0] a) % (![0, 0] a + 1) = 0
          ∧ (((ix2 (⟨2 + j0.val, by omega⟩ : Fin 4099) j1 : Cert.ConvRIdeal.S4099x512.Idx) a).val - ![b, 0] a) / (![0, 0] a + 1) < Cert.ConvRIdeal.S4096x512.size a)
          ↔ b ≤ 2 + j0.val ∧ 2 + j0.val < 4096 + b := fun b hb => by
        rw [Fin.forall_fin_two]
        simp
        omega
      refine (congrArg₂ (· + ·) (congrArg₂ (· + ·) (congrArg₂ (· + ·)
        (tap_dite (f := D m c j1) (w := W m c 3 j1) (hP 3 (by omega)) fun _ => rfl)
        (tap_dite (f := D m c j1) (w := W m c 2 j1) (hP 2 (by omega)) fun _ =>
          congrArg (fun k => D m c j1 k * W m c 2 j1) (Fin.ext (by show j0.val = 2 + j0.val - 2; omega))))
        (tap_dite (f := D m c j1) (w := W m c 1 j1) (hP 1 (by omega)) fun _ => rfl))
        (tap_dite (f := D m c j1) (w := W m c 0 j1) (hP 0 (by omega)) fun _ => rfl)).trans ?_
      rw [tap_congr (n := 2 + j0.val) (b := 3) (n' := j0.val) (b' := 1) (by omega),
        tap_congr (n := 2 + j0.val) (b := 2) (n' := j0.val) (b' := 0) (by omega),
        tap_congr (n := 2 + j0.val) (b := 1) (n' := j0.val + 1) (b' := 0) (by omega),
        tap_congr (n := 2 + j0.val) (b := 0) (n' := j0.val + 2) (b' := 0) (by omega)]
      abel
    · rw [Cert.ConvKIdeal.Value.final11]
      unfold Cert.ConvRIdeal.Value.res_main_v88
      rw [(hagree c).1, (hagree c).2.2.1, (hagree c).2.2.2]
      funext j
      idx_vars j
      pointwise
      rcases j0 with ⟨k, hk⟩
      interval_cases k
      iterate 4
        simp
        show (_ : EReal) = _
        refine Finset.sum_congr rfl fun x _ => ?_
        have hx := x.isLt
        first
          | exact (mul_comm _ _).trans (congrArg (D m c j1 x * ·) (tap_eq (f := X m c j1) x rfl))
          | (split_ifs <;> first
              | exact (mul_zero _).symm.trans (congrArg (D m c j1 x * ·) (tap_zero (by omega)))
              | exact (mul_comm _ _).trans (congrArg (D m c j1 x * ·) (tap_eq (f := X m c j1) ⟨_, by omega⟩ (by dsimp only; omega))))
      all_goals
        simp
        exact zero_word
    · rw [Cert.ConvKIdeal.Value.final12]
      funext j
      idx_vars j
      pointwise
      simp only [Finset.univ_unique, Finset.sum_const, Finset.card_singleton, one_smul]
      rfl

end Cert.ConvClaim

end
-- ==== Proof.DgnKernel.lean ====
/- A projection's input gradient fused with the norm's gradient: what one block of 512 rows computes, and what the
   kernel's result arrays hold after the run, on real arguments (the residual's gradient is any array). -/
module

public import proofs.«01_k».proof.Proof.Gen.DgnKIdeal.Value
public import proofs.«01_k».proof.Proof.Reals
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Reals
open Idealize.ShloMosaic.Pipeline (Dat)

namespace Cert.DgnKIdeal.Value

open Cert.DgnKIdeal Cert.DgnKIdeal.Gen

/-- The gradient of one entry of the normalised and scaled row: the product with the weights. -/
def dy (p : Fin 3584 → ℝ) (w : Fin 1024 → Fin 3584 → ℝ) (c : Fin 1024) : ℝ := ∑ k, p k * w c k

section
variable {p : Vec Ideal S512x3584 .bf16} {w : Vec Ideal S1024x3584 .bf16} {h d : Vec Ideal S512x1024 .f32}
  {g : Vec Ideal S1x1024 .f32} {r : Fin 512} {P : Fin 3584 → ℝ} {W : Fin 1024 → Fin 3584 → ℝ} {H G : Fin 1024 → ℝ}

/-- The gradient in the block's entry. -/
theorem pay8 (hp : ∀ k, p (ix2 r k) = ((P k : ℝ) : EReal)) (hw : ∀ x k, w (ix2 x k) = ((W x k : ℝ) : EReal))
    (hh : ∀ k, h (ix2 r k) = ((H k : ℝ) : EReal)) (hg : ∀ k, g (ix2 0 k) = ((G k : ℝ) : EReal)) (c : Fin 1024) :
    k0_pay8 (F := Ideal) p w h g d (ix2 r c) =
      (show EReal from d (ix2 r c)) + ((dnorm H (fun x => dy P W x * G x) c : ℝ) : EReal) := by
  pointwise [k0_pay8, k0_pay6, k0_pay5, k0_pay4, hp, hw, hh, hg]
  simp only [← EReal.coe_add, ← EReal.coe_mul, ← EReal.coe_sub, ← EReal.coe_neg, coe_sum, div_1024, rsqrt_coe, ms_pos,
    ofBits_1024, ofBits_eps]
  rfl

/-- The block's part of the gain's gradient. -/
theorem pay7 {P : Fin 512 → Fin 3584 → ℝ} {H : Fin 512 → Fin 1024 → ℝ} (hp : ∀ r k, p (ix2 r k) = ((P r k : ℝ) : EReal))
    (hw : ∀ x k, w (ix2 x k) = ((W x k : ℝ) : EReal)) (hh : ∀ r k, h (ix2 r k) = ((H r k : ℝ) : EReal))
    (a : Vec Ideal S1x1024 .f32) (i : Fin 1) (c : Fin 1024) :
    k0_pay2 (F := Ideal) (k0_pay7 p w h) a (ix2 i c) =
      (show EReal from a (ix2 i c)) + ((∑ r, dy (P r) W c * (H r c * rn (H r)) : ℝ) : EReal) := by
  pointwise [k0_pay2, k0_pay7, k0_pay6, k0_pay5, k0_pay4, hp, hw, hh]
  simp only [← EReal.coe_add, ← EReal.coe_mul, ← EReal.coe_sub, ← EReal.coe_neg, coe_sum, div_1024, rsqrt_coe, ms_pos,
    ofBits_1024, ofBits_eps]
  rfl
end

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

variable (m : (ℓ : Loc nD τ sig) → Buf (Elt Ideal) ℓ) (c : Dev nD)

/-- The row of the array that row `r` of block `t` is. -/
def row (t : Fin cfg0.N) (r : Fin 512) : Fin 4096 := ⟨t.val * 512 + r.val, by have := lt_of_lt_of_eq t.isLt N_0; omega⟩

/-- What the arguments hold, as real numbers. -/
structure Real (P : Fin 4096 → Fin 3584 → ℝ) (W : Fin 1024 → Fin 3584 → ℝ) (H : Fin 4096 → Fin 1024 → ℝ) (G : Fin 1024 → ℝ) : Prop where
  p : ∀ r k, m ((c : Thread nD τ).loc main_arg0) (ix2 r k) = ((P r k : ℝ) : EReal)
  w : ∀ r k, m ((c : Thread nD τ).loc main_arg1) (ix2 r k) = ((W r k : ℝ) : EReal)
  h : ∀ r k, m ((c : Thread nD τ).loc main_arg2) (ix2 r k) = ((H r k : ℝ) : EReal)
  g : ∀ k, m ((c : Thread nD τ).loc main_arg3) (ix1 k) = ((G k : ℝ) : EReal)

variable {m c} {P : Fin 4096 → Fin 3584 → ℝ} {W : Fin 1024 → Fin 3584 → ℝ} {H : Fin 4096 → Fin 1024 → ℝ} {G : Fin 1024 → ℝ}

theorem blk0 (hr : Real m c P W H G) (t : Fin cfg0.N) (r : Fin 512) (k : Fin 3584) :
    iblk m c 0 t (ix2 r k) = ((P (row t r) k : ℝ) : EReal) := by
  rw [← hr.p]
  blk_ext [iblk, V, idx t, row]
theorem blk1 (hr : Real m c P W H G) (t : Fin cfg0.N) (x : Fin 1024) (k : Fin 3584) :
    iblk m c 1 t (ix2 x k) = ((W x k : ℝ) : EReal) := by
  rw [← hr.w]
  blk_simp [iblk, idx t]
  entry_read
  pointwise
  blk_ext [idx t]
theorem blk2 (hr : Real m c P W H G) (t : Fin cfg0.N) (r : Fin 512) (k : Fin 1024) :
    iblk m c 2 t (ix2 r k) = ((H (row t r) k : ℝ) : EReal) := by
  rw [← hr.h]
  blk_ext [iblk, V, idx t, row]
theorem blk3 (hr : Real m c P W H G) (t : Fin cfg0.N) (k : Fin 1024) :
    iblk m c 3 t (ix2 0 k) = ((G k : ℝ) : EReal) := by
  rw [← hr.g]
  blk_simp [iblk, idx t]
  entry_read
  pointwise
  blk_ext [idx t]

variable (m c) in
/-- The gradient's array: the residual's gradient plus the norm's. -/
def grad (P : Fin 4096 → Fin 3584 → ℝ) (W : Fin 1024 → Fin 3584 → ℝ) (H : Fin 4096 → Fin 1024 → ℝ) (G : Fin 1024 → ℝ) :
    S4096x1024.Idx → EReal := fun i =>
  (show EReal from m ((c : Thread nD τ).loc main_arg4) i) + ((dnorm (H (i 0)) (fun x => dy (P (i 0)) W x * G x) (i 1) : ℝ) : EReal)

variable (m c) in
theorem blk4 (t : Fin cfg0.N) (r : Fin 512) (k : Fin 1024) :
    iblk m c 4 t (ix2 r k) = m ((c : Thread nD τ).loc main_arg4) (ix2 (row t r) k) := by
  blk_ext [iblk, V, idx t, row]

theorem point (hr : Real m c P W H G) (t : Fin cfg0.N) (r : Fin 512) (k : Fin 1024) :
    k0_pay8 (F := Ideal) (iblk m c 0 t) (iblk m c 1 t) (iblk m c 2 t) (iblk m c 3 t) (iblk m c 4 t) (ix2 r k)
      = grad m c P W H G (ix2 (row t r) k) := by
  rw [pay8 (blk0 hr t _) (blk1 hr t) (blk2 hr t _) (blk3 hr t), blk4]
  rfl

theorem after5 (hr : Real m c P W H G) (t : Fin cfg0.N) (y : S512x1024.Idx) :
    (outsAt0 m c t.val t.isLt).1 y = grad m c P W H G (ix2 (row t (y 0)) (y 1)) := by
  idx_vars y
  by_cases h0 : t.val % 8 = 0
  · rw [outsAt0_A m c t h0]
    frame_out
    exact point hr t _ _
  · rw [outsAt0_B m c t h0]
    frame_out
    exact point hr t _ _

theorem after6 (hr : Real m c P W H G) (t : Fin cfg0.N) (y : S512x1024.Idx) :
    (outsAt0 m c t.val t.isLt).2.1 y = grad m c P W H G (ix2 (row t (y 0)) (y 1)) := by
  idx_vars y
  by_cases h0 : t.val % 8 = 0
  · rw [outsAt0_A m c t h0]
    frame_out
    exact point hr t _ _
  · rw [outsAt0_B m c t h0]
    frame_out
    exact point hr t _ _

/-- The gradient's array after the run. -/
theorem final5 (hr : Real m c P W H G) : (dats m 0 c).arrAt 5 (cfgs 0).N = grad m c P W H G := by
  refine (dats m 0 c).arrAt_eq_of_covers 5 _ (by decide +kernel) fun t _ y => ?_
  blk_simp
  rw [after0_5, after5 hr]
  blk_ext [idx t, row]

/-- The gradient's narrowed copy after the run. -/
theorem final6 (hr : Real m c P W H G) : (dats m 0 c).arrAt 6 (cfgs 0).N = grad m c P W H G := by
  refine (dats m 0 c).arrAt_eq_of_covers 6 _ (by decide +kernel) fun t _ y => ?_
  blk_simp
  rw [after0_6, after6 hr]
  blk_ext [idx t, row]

theorem zero3 (j) : k0_pay3 (F := Ideal) j = 0 := by pointwise [k0_pay3]

/-- The gain's gradient after the run. -/
theorem final7 (hr : Real m c P W H G) : (dats m 0 c).arrAt 7 (cfgs 0).N = fun i : S1x1024.Idx =>
    ((∑ r : Fin 4096, dy (P r) W (i 1) * (H r (i 1) * rn (H r)) : ℝ) : EReal) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun t j => ((∑ r, dy (P (row t r)) W (j 1) * (H (row t r) (j 1) * rn (H (row t r))) : ℝ) : EReal))
    (fun t h j => by
      idx_vars j
      rw [outsAt0_A m c t h]
      frame_out
      rw [pay7 (fun r => blk0 hr t r) (blk1 hr t) (fun r => blk2 hr t r), zero3])
    (fun t h j => by
      idx_vars j
      rw [outsAt0_B m c t h]
      frame_out
      rw [pay7 (fun r => blk0 hr t r) (blk1 hr t) (fun r => blk2 hr t r)])
    (le_of_eq N_0) t0_7 rfl j, zero_add]
  rw [coe_sum, sum_blocks 8 512 4096 N_0 rfl (fun r => dy (P r) W (j 1) * (H r (j 1) * rn (H r))) row fun _ _ => rfl]

end Cert.DgnKIdeal.Value

end
-- ==== Proof.DgnClaim.lean ====
/- A projection's input gradient fused with the norm's gradient: the kernel's results are those of the reference, on
   finite arguments. -/
module

public import proofs.«01_k».proof.Defs
public import proofs.«01_k».proof.Proof.DgnKernel
public import proofs.«01_k».proof.Proof.Gen.DgnRIdeal.Run
public import proofs.«01_k».proof.Proof.Gen.Pre_finite_dgn

@[expose] public section

set_option maxRecDepth 16384

noncomputable section

open Idealize.ShloMosaic Idealize.ShloMosaic.TcCoe Idealize.SL.Sem Cert.Reals

namespace Cert.DgnClaim

instance : Cert.DgnKIdeal.Facts := Cert.DgnKIdeal.Gen.facts

/-- The precondition makes the arguments it names arrays of real numbers. -/
theorem real {m : (ℓ : Loc Cert.DgnKIdeal.nD Cert.DgnKIdeal.τ Cert.DgnKIdeal.sig) → Buf (Elt Ideal) ℓ}
    (hp : Pre_DgnKIdeal_finite_dgn (hPre_finite_dgn := Cert.Pre_finite_dgn.Gen.facts) m) (c : Dev Cert.DgnKIdeal.nD) :
    ∃ P W H G, Cert.DgnKIdeal.Value.Real m c P W H G := by
  have h := congrFun (hp c) (Shape.Idx.first (by decide))
  unfold Cert.Pre_finite_dgn.fn at h
  obtain ⟨h, h4⟩ := IntOp.andi_eq_one.1 h
  obtain ⟨h, h3⟩ := IntOp.andi_eq_one.1 h
  obtain ⟨h1, h2⟩ := IntOp.andi_eq_one.1 h
  haveI : Subsingleton Cert.Pre_finite_dgn.S_.Idx := ⟨fun a b => funext fun i => i.elim0⟩
  obtain ⟨P, hP⟩ := finite_of_all _ _ _ _ _ _ h1
  obtain ⟨W, hW⟩ := finite_of_all _ _ _ _ _ _ h2
  obtain ⟨H, hH⟩ := finite_of_all _ _ _ _ _ _ h3
  obtain ⟨G, hG⟩ := finite_of_all _ _ _ _ _ _ h4
  exact ⟨fun r k => P (ix2 r k), fun r k => W (ix2 r k), fun r k => H (ix2 r k), fun k => G (ix1 k),
    fun r k => congrFun hP _, fun r k => congrFun hW _, fun r k => congrFun hH _, fun k => congrFun hG _⟩

section
open Cert.DgnKIdeal Cert.DgnKIdeal.Value
variable {m : (ℓ : Loc nD τ sig) → Buf (Elt Ideal) ℓ} {m' : (ℓ : Loc Cert.DgnRIdeal.nD Cert.DgnRIdeal.τ Cert.DgnRIdeal.sig) → Buf (Elt Ideal) ℓ}
  {c : Dev nD} {P : Fin 4096 → Fin 3584 → ℝ} {W : Fin 1024 → Fin 3584 → ℝ} {H : Fin 4096 → Fin 1024 → ℝ} {G : Fin 1024 → ℝ}

/-- The reference's gradient of one entry is the kernel's. -/
theorem ref_grad (hr : Real m c P W H G) (h0 : m' ((c : Thread nD τ).loc Cert.DgnRIdeal.main_arg0) = m ((c : Thread nD τ).loc main_arg0))
    (h1 : m' ((c : Thread nD τ).loc Cert.DgnRIdeal.main_arg1) = m ((c : Thread nD τ).loc main_arg1))
    (h2 : m' ((c : Thread nD τ).loc Cert.DgnRIdeal.main_arg2) = m ((c : Thread nD τ).loc main_arg2))
    (h3 : m' ((c : Thread nD τ).loc Cert.DgnRIdeal.main_arg3) = m ((c : Thread nD τ).loc main_arg3))
    (h4 : m' ((c : Thread nD τ).loc Cert.DgnRIdeal.main_arg4) = m ((c : Thread nD τ).loc main_arg4)) :
    Cert.DgnRIdeal.Value.res_main_v39 m' c = grad m c P W H G := by
  funext j
  unfold Cert.DgnRIdeal.Value.res_main_v39
  rw [h0, h1, h2, h3, h4]
  idx_vars j
  pointwise [hr.h, hr.g, hr.p, hr.w]
  simp only [← EReal.coe_add, ← EReal.coe_mul, ← EReal.coe_sub, ← EReal.coe_neg, coe_sum, div_1024, rsqrt_ms, ms_ne,
    div_coe_coe, ne_eq, not_false_eq_true, ofBits_1024, ofBits_inv1024, ofBits_eps, ofBits_half, ofBits_neg_half, ofBits_two]
  simp only [Finset.univ_unique, Finset.sum_const, Finset.card_singleton, one_smul]
  rw [add_assoc, add_assoc, ← EReal.coe_add, ← EReal.coe_add, ← add_assoc]
  exact congrArg (fun x : ℝ => (show EReal from m ((c : Thread nD τ).loc main_arg4) (ix2 j0 j1)) + ((x : ℝ) : EReal))
    (dnorm_eq (H j0) (fun x => dy (P j0) W x * G x) j1).symm
end

theorem algebraic : Cert.algebraic_DgnKIdeal_DgnRIdeal_pre_finite_dgn (hDgnKIdeal := Cert.DgnKIdeal.Gen.facts)
    (hDgnRIdeal := Cert.DgnRIdeal.Gen.facts) (hPre_finite_dgn := Cert.Pre_finite_dgn.Gen.facts) := by
  pair_intro
  · run_from Cert.DgnKIdeal.Gen.run_main m g
  · run_from Cert.DgnRIdeal.Value.run m' g'
    · obtain ⟨P, W, H, G, hr⟩ := real hpre c
      rw [Cert.DgnKIdeal.Value.final5 hr]
      exact ref_grad hr (hagree c).1 (hagree c).2.1 (hagree c).2.2.1 (hagree c).2.2.2.1 (hagree c).2.2.2.2
    · obtain ⟨P, W, H, G, hr⟩ := real hpre c
      rw [Cert.DgnKIdeal.Value.final6 hr]
      exact ref_grad hr (hagree c).1 (hagree c).2.1 (hagree c).2.2.1 (hagree c).2.2.2.1 (hagree c).2.2.2.2
    · obtain ⟨P, W, H, G, hr⟩ := real hpre c
      rw [Cert.DgnKIdeal.Value.final7 hr]
      funext j
      idx_vars j
      pointwise [hr.h, hr.g, hr.p, hr.w]
      simp only [← EReal.coe_add, ← EReal.coe_mul, ← EReal.coe_sub, ← EReal.coe_neg, coe_sum, div_1024, rsqrt_ms,
        ofBits_1024, ofBits_eps, ofBits_half, ofBits_two, Finset.univ_unique, Finset.sum_const, Finset.card_singleton, one_smul]
      exact congrArg _ (Finset.sum_congr rfl fun r _ => mul_comm _ _)

end Cert.DgnClaim

end
-- ==== Proof.MlpbRun.lean ====
/- The squared-ReLU MLP's run: both launches one after the other, each result at what its launch's write-backs leave. -/
module

public import proofs.«01_k».proof.Proof.Gen.MlpbKIdeal.Frame
public import proofs.«01_k».proof.Proof.Gen.MlpbKIdeal.Launch
public import Idealize.ShloMosaic.Lib.Tactic

@[expose] public section

set_option maxRecDepth 16384

noncomputable section

namespace Cert.MlpbKIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A result of the forward launch that the backward launch only reads ends at what the forward launch left. -/
theorem out0_at (c : Dev nD) (w : Fin cfg0.W)
    (h1 : ∀ w' : Fin cfg1.W, Pipeline.arrRef spec1 w' = Pipeline.arrRef spec0 w → (cfg1.win w').isOut = false)
    (h2 : Pipeline.arrRef spec0 w ∉ hostOps1_W) :
    W4 m ρ c (Proc.devRef .tc (Pipeline.arrRef spec0 w)) = (dat0 (V1 m ρ) c).arrAt w cfg0.N :=
  ((W4_of m ρ c _ h1).trans (W3_of m ρ c _ h2)).trans (W2_arr m ρ c w)

/-- The run: every result, and the arguments unchanged. -/
theorem run : θ_run defs (onTc (τ := τ) (main (F := F))) ⟨m, fun _ => 0, ρ⟩ fun r => ∀ c : Dev nD,
      r.2.mem ((c.tc : Thread nD τ).loc main_v5_0) = (dat0 (V1 m ρ) c).arrAt 4 cfg0.N
      ∧ r.2.mem ((c.tc : Thread nD τ).loc main_v5_1) = (dat0 (V1 m ρ) c).arrAt 5 cfg0.N
      ∧ r.2.mem ((c.tc : Thread nD τ).loc main_v5_2) = (dat0 (V1 m ρ) c).arrAt 6 cfg0.N
      ∧ r.2.mem ((c.tc : Thread nD τ).loc main_v7_0) = (dat1 (V3 m ρ) c).arrAt 7 cfg1.N
      ∧ r.2.mem ((c.tc : Thread nD τ).loc main_v7_1) = (dat1 (V3 m ρ) c).arrAt 8 cfg1.N
      ∧ r.2.mem ((c.tc : Thread nD τ).loc main_v7_2) = (dat1 (V3 m ρ) c).arrAt 9 cfg1.N
      ∧ r.2.mem ((c.tc : Thread nD τ).loc main_v7_3) = (dat1 (V3 m ρ) c).arrAt 10 cfg1.N
      ∧ r.2.mem ((c.tc : Thread nD τ).loc main_v7_4) = (dat1 (V3 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => fun c =>
      ⟨(h c _ (mem_uc main_v5_0 (by decide))).trans (out0_at m ρ c 4 (by decide) (by decide)),
       (h c _ (mem_uc main_v5_1 (by decide))).trans (out0_at m ρ c 5 (by decide) (by decide)),
       (h c _ (mem_uc main_v5_2 (by decide))).trans (out0_at m ρ c 6 (by decide) (by decide)),
       (h c _ (mem_uc main_v7_0 (by decide))).trans (W4_arr m ρ c 7),
       (h c _ (mem_uc main_v7_1 (by decide))).trans (W4_arr m ρ c 8),
       (h c _ (mem_uc main_v7_2 (by decide))).trans (W4_arr m ρ c 9),
       (h c _ (mem_uc main_v7_3 (by decide))).trans (W4_arr m ρ c 10),
       (h c _ (mem_uc main_v7_4 (by decide))).trans (W4_arr m ρ c 11),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.MlpbKIdeal.Gen

end
-- ==== Proof.MlpbForward.lean ====
/- The squared-ReLU MLP's forward launch: what one block of 512 rows computes and what the three arrays hold after it,
   on real arguments. -/
module

public import proofs.«01_k».proof.Proof.MlpbRun
public import proofs.«01_k».proof.Proof.Reals
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Reals
open Idealize.ShloMosaic.Pipeline (Dat)

namespace Cert.MlpbKIdeal.Value

open Cert.MlpbKIdeal Cert.MlpbKIdeal.Gen

/-- The positive part of a real number is real. -/
theorem max_zero (x : ℝ) : max (x : EReal) 0 = ((max x 0 : ℝ) : EReal) := (EReal.coe_strictMono.monotone.map_max (a := x) (b := 0)).symm

/-- The normalised and scaled row, -/
def y (h g : Fin 1024 → ℝ) (c : Fin 1024) : ℝ := h c * rn h * g c
/-- its product with the first weights, -/
def pre (h g : Fin 1024 → ℝ) (w : Fin 1024 → Fin 4096 → ℝ) (k : Fin 4096) : ℝ := ∑ c, y h g c * w c k
/-- the activation, -/
def act (h g : Fin 1024 → ℝ) (w : Fin 1024 → Fin 4096 → ℝ) (k : Fin 4096) : ℝ := max (pre h g w k) 0 * max (pre h g w k) 0
/-- and the row that the block returns. -/
def out (h g : Fin 1024 → ℝ) (w : Fin 1024 → Fin 4096 → ℝ) (v : Fin 4096 → Fin 1024 → ℝ) (c : Fin 1024) : ℝ :=
  h c + ∑ k, act h g w k * v k c

/-- Column `k` of the `j`-th eighth of the hidden columns. -/
def col (j : Fin 8) (k : Fin 512) : Fin 4096 := ⟨j.val * 512 + k.val, by omega⟩

theorem col0 (k : Fin 512) (h) : (⟨k.val, h⟩ : Fin 4096) = col 0 k := Fin.ext (by simp [col])
theorem col1 (k : Fin 512) (h) : (⟨512 + k.val, h⟩ : Fin 4096) = col 1 k := Fin.ext (by simp [col])
theorem col2 (k : Fin 512) (h) : (⟨1024 + k.val, h⟩ : Fin 4096) = col 2 k := Fin.ext (by simp [col])
theorem col3 (k : Fin 512) (h) : (⟨1536 + k.val, h⟩ : Fin 4096) = col 3 k := Fin.ext (by simp [col])
theorem col4 (k : Fin 512) (h) : (⟨2048 + k.val, h⟩ : Fin 4096) = col 4 k := Fin.ext (by simp [col])
theorem col5 (k : Fin 512) (h) : (⟨2560 + k.val, h⟩ : Fin 4096) = col 5 k := Fin.ext (by simp [col])
theorem col6 (k : Fin 512) (h) : (⟨3072 + k.val, h⟩ : Fin 4096) = col 6 k := Fin.ext (by simp [col])
theorem col7 (k : Fin 512) (h) : (⟨3584 + k.val, h⟩ : Fin 4096) = col 7 k := Fin.ext (by simp [col])

/-- A sum over the hidden columns, eighth by eighth. -/
theorem sum_cols (f : Fin 4096 → ℝ) : ∑ k, f k = ∑ k, f (col 0 k) + ∑ k, f (col 1 k) + ∑ k, f (col 2 k) + ∑ k, f (col 3 k)
    + ∑ k, f (col 4 k) + ∑ k, f (col 5 k) + ∑ k, f (col 6 k) + ∑ k, f (col 7 k) := by
  rw [← sum_blocks (N := 8) 8 512 4096 rfl rfl f col fun _ _ => rfl, Fin.sum_univ_eight]

section
variable {x0 : Vec Ideal S512x1024 .f32} {x1 : Vec Ideal S1x1024 .f32} {x2 : Vec Ideal S8x1024x512 .bf16} {x3 : Vec Ideal S4096x1024 .bf16}
  {r : Fin 512} {H G : Fin 1024 → ℝ} {W : Fin 1024 → Fin 4096 → ℝ} {U : Fin 4096 → Fin 1024 → ℝ}

theorem pay4 (hh : ∀ k, x0 (ix2 r k) = ((H k : ℝ) : EReal)) (hg : ∀ k, x1 (ix2 0 k) = ((G k : ℝ) : EReal)) (k : Fin 1024) :
    k0_pay4 (F := Ideal) x0 x1 (ix2 r k) = ((y H G k : ℝ) : EReal) := by
  pointwise [k0_pay4, hh, hg]
  simp only [← EReal.coe_add, ← EReal.coe_mul, coe_sum, div_1024, rsqrt_coe, ms_pos, ofBits_1024, ofBits_eps]
  rfl

theorem tile {v : Vec Ideal S512x1024 .bf16} {w : Vec Ideal S1x1024x512 .bf16} {Y : Fin 1024 → ℝ} {w' : Fin 1024 → Fin 512 → ℝ}
    (hy : ∀ k, v (ix2 r k) = ((Y k : ℝ) : EReal)) (hw : ∀ c k, w (ix3 0 c k) = ((w' c k : ℝ) : EReal)) (k : Fin 512) :
    k0_pay10 (F := Ideal) v w (ix2 r k) = ((∑ c, Y c * w' c k : ℝ) : EReal) := by
  pointwise [k0_pay10, hy, hw]
  simp only [← EReal.coe_mul, coe_sum]

theorem out4 (hh : ∀ k, x0 (ix2 r k) = ((H k : ℝ) : EReal)) (hg : ∀ k, x1 (ix2 0 k) = ((G k : ℝ) : EReal))
    (hw : ∀ j c k, x2 (ix3 j c k) = ((W c (col j k) : ℝ) : EReal)) (hu : ∀ k c, x3 (ix2 k c) = ((U k c : ℝ) : EReal)) (c : Fin 1024) :
    out0_4 (F := Ideal) x0 x1 x2 x3 (ix2 r c) = ((out H G W U c : ℝ) : EReal) := by
  unfold out0_4 k0_pay23
  frame_out
  pointwise [k0_pay3, k0_pay20, k0_pay12, k0_pay7, k0_pay8, k0_pay5, k0_pay10, k0_pay13, k0_pay14, k0_pay15, k0_pay16, k0_pay17, k0_pay18, k0_pay19, k0_pay21, k0_pay22, k0_pay1, hh, hw, hu, pay4 hh hg]
  simp only [← EReal.coe_add, ← EReal.coe_mul, coe_sum, max_zero, col0, col1, col2, col3, col4, col5, col6, col7]
  rw [out, sum_cols]
  simp only [← add_assoc]
  rfl

theorem out6 (hh : ∀ k, x0 (ix2 r k) = ((H k : ℝ) : EReal)) (hg : ∀ k, x1 (ix2 0 k) = ((G k : ℝ) : EReal)) (c : Fin 1024) :
    out0_6 (F := Ideal) x0 x1 x2 x3 (ix2 r c) = ((y H G c : ℝ) : EReal) := by
  unfold out0_6
  frame_out
  exact pay4 hh hg c

/-- A tile's entry, at the place where it is stored. -/
theorem tile_at (j : Fin 8) {v : Vec Ideal S512x1024 .bf16} {w : Vec Ideal S1x1024x512 .bf16} {x : Fin 512 → Fin 1024 → ℝ}
    (hv : ∀ r k, v (ix2 r k) = ((y (x r) G k : ℝ) : EReal)) (hw : ∀ c k, w (ix3 0 c k) = ((W c (col j k) : ℝ) : EReal))
    (z : S512x4096.Idx) (a : S512x512.Idx) (h0 : (z 0).val = (a 0).val) (h1 : (z 1).val = j.val * 512 + (a 1).val) :
    k0_pay10 (F := Ideal) v w a = ((pre (x (z 0)) G W (z 1) : ℝ) : EReal) := by
  rw [show z 0 = a 0 from Fin.ext h0, show z 1 = col j (a 1) from Fin.ext h1]
  idx_vars a
  exact tile (hv _) hw _

/-- The `j`-th plane of the weights. -/
theorem plane (x2 : Vec Ideal S8x1024x512 .bf16) (j : Fin 8) (off : Fin 3 → ℕ) (inb) (h0 : off 0 = j.val) (h1 : off 1 = 0) (h2 : off 2 = 0) (c : Fin 1024) (k : Fin 512) :
    View.ld x2 (Rect.unit (s := S8x1024x512) off S1x1024x512.size inb) (ix3 0 c k) = x2 (ix3 j c k) :=
  (View.ld_apply x2 _ _).trans (congrArg x2 (funext fun x => by fin_cases x <;> exact Fin.ext (by simp [h0, h1, h2])))

/-- The stored products, eighth by eighth. -/
theorem out5 {x : Fin 512 → Fin 1024 → ℝ} (hh : ∀ r k, x0 (ix2 r k) = ((x r k : ℝ) : EReal)) (hg : ∀ k, x1 (ix2 0 k) = ((G k : ℝ) : EReal))
    (hw : ∀ j c k, x2 (ix3 j c k) = ((W c (col j k) : ℝ) : EReal)) (z : S512x4096.Idx) :
    out0_5 (F := Ideal) x0 x1 x2 x3 z = ((pre (x (z 0)) G W (z 1) : ℝ) : EReal) := by
  have hy : ∀ r k, k0_pay4 (F := Ideal) (View.ld x0 r0_0) (View.ld x1 r0_1) (ix2 r k) = ((y (x r) G k : ℝ) : EReal) :=
    fun r k => pay4 (fun k => by pointwise [hh]) (fun k => by pointwise [hg]) k
  unfold out0_5 k0_pay23
  canon_tiles a h
  · exact tile_at 7 hy (fun c k => (plane x2 7 _ _ rfl rfl rfl c k).trans (hw 7 c k)) z a (by omega) (by simpa using h1)
  · exact tile_at 6 hy (fun c k => (plane x2 6 _ _ rfl rfl rfl c k).trans (hw 6 c k)) z a (by omega) (by simpa using h1)
  · exact tile_at 5 hy (fun c k => (plane x2 5 _ _ rfl rfl rfl c k).trans (hw 5 c k)) z a (by omega) (by simpa using h1)
  · exact tile_at 4 hy (fun c k => (plane x2 4 _ _ rfl rfl rfl c k).trans (hw 4 c k)) z a (by omega) (by simpa using h1)
  · exact tile_at 3 hy (fun c k => (plane x2 3 _ _ rfl rfl rfl c k).trans (hw 3 c k)) z a (by omega) (by simpa using h1)
  · exact tile_at 2 hy (fun c k => (plane x2 2 _ _ rfl rfl rfl c k).trans (hw 2 c k)) z a (by omega) (by simpa using h1)
  · exact tile_at 1 hy (fun c k => (plane x2 1 _ _ rfl rfl rfl c k).trans (hw 1 c k)) z a (by omega) (by simpa using h1)
  · exact tile_at 0 hy (fun c k => (plane x2 0 _ _ rfl rfl rfl c k).trans (hw 0 c k)) z a (by omega) (by simpa using h1)
end

theorem idx0 : ∀ t : Fin cfg0.N, win0_0.index t = ![t.val, 0] ∧ win0_1.index t = ![0, 0] ∧ win0_2.index t = ![0, 0, 0]
    ∧ win0_3.index t = ![0, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (ρ : Dev nD → PrngReg) (c : Dev nD)

/-- The row of the array that row `r` of block `t` is. -/
def row0 (t : Fin cfg0.N) (r : Fin 512) : Fin 4096 := ⟨t.val * 512 + r.val, by have := lt_of_lt_of_eq t.isLt N_0; omega⟩

/-- What the arguments hold, as real numbers. -/
structure Real (H : Fin 4096 → Fin 1024 → ℝ) (G : Fin 1024 → ℝ) (W : Fin 1024 → Fin 4096 → ℝ) (U : Fin 4096 → Fin 1024 → ℝ)
    (D : Fin 4096 → Fin 1024 → ℝ) : Prop where
  h : ∀ r k, m ((c : Thread nD τ).loc main_arg0) (ix2 r k) = ((H r k : ℝ) : EReal)
  g : ∀ k, m ((c : Thread nD τ).loc main_arg1) (ix1 k) = ((G k : ℝ) : EReal)
  w : ∀ r k, m ((c : Thread nD τ).loc main_arg2) (ix2 r k) = ((W r k : ℝ) : EReal)
  u : ∀ r k, m ((c : Thread nD τ).loc main_arg3) (ix2 r k) = ((U r k : ℝ) : EReal)
  d : ∀ r k, m ((c : Thread nD τ).loc main_arg4) (ix2 r k) = ((D r k : ℝ) : EReal)

variable {m c} {H : Fin 4096 → Fin 1024 → ℝ} {G : Fin 1024 → ℝ} {W : Fin 1024 → Fin 4096 → ℝ} {U : Fin 4096 → Fin 1024 → ℝ}
  {D : Fin 4096 → Fin 1024 → ℝ}

/-- The gain as the host hands it on, -/
theorem host_g (hr : Real m c H G W U D) (k : Fin 1024) : W1 m ρ c (Proc.devRef .tc main_v3) (ix2 0 k) = ((G k : ℝ) : EReal) := by
  rw [← hr.g]
  show StableHlo.after hostOps0 (W0 m ρ c) (Proc.devRef .tc main_v3) (ix2 0 k) = _
  unfold hostOps0
  after_results
  pointwise
/-- the first weights, eighth by eighth of their columns, -/
theorem host_w (hr : Real m c H G W U D) (j : Fin 8) (x : Fin 1024) (k : Fin 512) :
    W1 m ρ c (Proc.devRef .tc main_v2) (ix3 j x k) = ((W x (col j k) : ℝ) : EReal) := by
  rw [← hr.w]
  show StableHlo.after hostOps0 (W0 m ρ c) (Proc.devRef .tc main_v2) (ix3 j x k) = _
  unfold hostOps0
  after_results
  pointwise
  rfl
/-- and the second. -/
theorem host_u (hr : Real m c H G W U D) (r : Fin 4096) (k : Fin 1024) :
    W1 m ρ c (Proc.devRef .tc main_v4) (ix2 r k) = ((U r k : ℝ) : EReal) := by
  rw [← hr.u]
  show StableHlo.after hostOps0 (W0 m ρ c) (Proc.devRef .tc main_v4) (ix2 r k) = _
  unfold hostOps0
  after_results
  pointwise

theorem blk0_0 (hr : Real m c H G W U D) (t : Fin cfg0.N) (r : Fin 512) (k : Fin 1024) :
    iblk0 (V1 m ρ) c 0 t (ix2 r k) = ((H (row0 t r) k : ℝ) : EReal) := by
  rw [← hr.h]
  blk_simp [iblk0, idx0 t]
  rw [show V1 m ρ c main_arg0 = m ((c : Thread nD τ).loc main_arg0) from W1_args m ρ c _ (by decide)]
  blk_ext [idx0 t, row0]
theorem blk0_1 (hr : Real m c H G W U D) (t : Fin cfg0.N) (k : Fin 1024) : iblk0 (V1 m ρ) c 1 t (ix2 0 k) = ((G k : ℝ) : EReal) := by
  rw [← host_g ρ hr]
  blk_ext [iblk0, idx0 t]
theorem blk0_2 (hr : Real m c H G W U D) (t : Fin cfg0.N) (j : Fin 8) (x : Fin 1024) (k : Fin 512) :
    iblk0 (V1 m ρ) c 2 t (ix3 j x k) = ((W x (col j k) : ℝ) : EReal) := by
  rw [← host_w ρ hr]
  blk_ext [iblk0, idx0 t]
theorem blk0_3 (hr : Real m c H G W U D) (t : Fin cfg0.N) (r : Fin 4096) (k : Fin 1024) :
    iblk0 (V1 m ρ) c 3 t (ix2 r k) = ((U r k : ℝ) : EReal) := by
  rw [← host_u ρ hr]
  blk_ext [iblk0, idx0 t]

/-- The MLP's output after the run. -/
theorem final4 (hr : Real m c H G W U D) : (dat0 (V1 m ρ) c).arrAt 4 cfg0.N = fun i : S4096x1024.Idx =>
    ((out (H (i 0)) G W U (i 1) : ℝ) : EReal) := by
  refine (dat0 (V1 m ρ) c).arrAt_eq_of_covers 4 _ (by decide +kernel) fun t _ y => ?_
  blk_simp
  rw [after0_4]
  idx_vars y
  rw [out4 (blk0_0 ρ hr t _) (blk0_1 ρ hr t) (blk0_2 ρ hr t) (blk0_3 ρ hr t)]
  blk_simp [idx0 t, row0]
  refine congrArg₂ (fun a b => ((out (H a) G W U b : ℝ) : EReal)) (Fin.ext ?_) (Fin.ext ?_) <;> blk_simp [idx0 t] <;> try omega

/-- The products with the first weights after the run. -/
theorem final5 (hr : Real m c H G W U D) : (dat0 (V1 m ρ) c).arrAt 5 cfg0.N = fun i : S4096x4096.Idx =>
    ((pre (H (i 0)) G W (i 1) : ℝ) : EReal) := by
  refine (dat0 (V1 m ρ) c).arrAt_eq_of_covers 5 _ (by decide +kernel) fun t _ y => ?_
  blk_simp
  rw [after0_5, out5 (blk0_0 ρ hr t) (blk0_1 ρ hr t) (blk0_2 ρ hr t)]
  blk_simp [idx0 t, row0]
  refine congrArg₂ (fun a b => ((pre (H a) G W b : ℝ) : EReal)) (Fin.ext ?_) (Fin.ext ?_) <;> blk_simp [idx0 t] <;> try omega

/-- The normalised rows after the run. -/
theorem final6 (hr : Real m c H G W U D) : (dat0 (V1 m ρ) c).arrAt 6 cfg0.N = fun i : S4096x1024.Idx =>
    ((y (H (i 0)) G (i 1) : ℝ) : EReal) := by
  refine (dat0 (V1 m ρ) c).arrAt_eq_of_covers 6 _ (by decide +kernel) fun t _ y => ?_
  blk_simp
  rw [after0_6]
  idx_vars y
  rw [out6 (blk0_0 ρ hr t _) (blk0_1 ρ hr t)]
  blk_simp [idx0 t, row0]
  refine congrArg₂ (fun a b => ((y (H a) G b : ℝ) : EReal)) (Fin.ext ?_) (Fin.ext ?_) <;> blk_simp [idx0 t] <;> try omega

end Cert.MlpbKIdeal.Value

end
-- ==== Proof.MlpbBackward.lean ====
/- The squared-ReLU MLP's backward launch: what one block of 256 rows computes and what the five arrays hold after it,
   on real arguments. -/
module

public import proofs.«01_k».proof.Proof.MlpbForward

@[expose] public section

set_option maxRecDepth 16384

noncomputable section

open Idealize.ShloMosaic Idealize.ShloMosaic.TcCoe Idealize.SL.Sem Cert.Reals
open Idealize.ShloMosaic.Pipeline (Dat)

namespace Cert.MlpbKIdeal.Value

open Cert.MlpbKIdeal Cert.MlpbKIdeal.Gen

/-- The gradient of the first product, at one hidden column, -/
def dpre (d : Fin 1024 → ℝ) (u : Fin 4096 → Fin 1024 → ℝ) (q : Fin 4096 → ℝ) (k : Fin 4096) : ℝ := (∑ c, d c * u k c) * (2 * max (q k) 0)
/-- of the normalised row, -/
def dyv (d : Fin 1024 → ℝ) (u : Fin 4096 → Fin 1024 → ℝ) (q : Fin 4096 → ℝ) (w : Fin 1024 → Fin 4096 → ℝ) (c : Fin 1024) : ℝ :=
  ∑ k, dpre d u q k * w c k
/-- and of the layer's input. -/
def dh (h g d : Fin 1024 → ℝ) (u : Fin 4096 → Fin 1024 → ℝ) (q : Fin 4096 → ℝ) (w : Fin 1024 → Fin 4096 → ℝ) (c : Fin 1024) : ℝ :=
  d c + dnorm h (fun x => dyv d u q w x * g x) c

section
variable {b0 b2 : Vec Ideal S256x1024 .f32} {b1 : Vec Ideal S256x1024 .bf16} {b3 : Vec Ideal S1x1024 .f32} {b4 : Vec Ideal S256x4096 .bf16}
  {b5 : Vec Ideal S8x1024x512 .bf16} {b6 : Vec Ideal S4096x1024 .bf16}
  {r : Fin 256} {D H G : Fin 1024 → ℝ} {Q : Fin 4096 → ℝ} {W : Fin 1024 → Fin 4096 → ℝ} {U : Fin 4096 → Fin 1024 → ℝ}

/-- The columns of the normalised row's gradient, without the last eighth's part. -/
def inner (b1 : Vec Ideal S256x1024 .bf16) (b4 : Vec Ideal S256x4096 .bf16) (b5 : Vec Ideal S8x1024x512 .bf16) (b6 : Vec Ideal S4096x1024 .bf16) :
    FVec Ideal S256x1024 .f32 :=
  k1_pay31 (k1_pay3 b1)
    (k1_pay27 (k1_pay3 b1)
      (k1_pay20 (k1_pay3 b1)
        (k1_pay12 (k1_pay3 b1)
          (k1_pay7 b1
            (View.ld b4 (Rect.unit ![0, 0] ![256, 512] inb_S256x4096_S256x512_0_0))
            (View.ld b6 (Rect.unit ![0, 0] ![512, 1024] inb_S4096x1024_S512x1024_0_0))
            (View.ld b5 (Rect.unit ![0, 0, 0] ![1, 1024, 512] inb_S8x1024x512_S1x1024x512_0_0_0)))
          (k1_pay8 (View.ld b4 (Rect.unit ![0, 512] ![256, 512] inb_S256x4096_S256x512_0_512)))
          (k1_pay9 (View.ld b6 (Rect.unit ![512, 0] ![512, 1024] inb_S4096x1024_S512x1024_512_0)))
          (constant S256x512 FTy.f32 0#32)
          (View.ld b5 (Rect.unit ![1, 0, 0] ![1, 1024, 512] inb_S8x1024x512_S1x1024x512_1_0_0)))
        (k1_pay16 (k1_pay3 b1)
          (View.ld b4 (Rect.unit ![0, 1024] ![256, 512] inb_S256x4096_S256x512_0_1024))
          (View.ld b6 (Rect.unit ![1024, 0] ![512, 1024] inb_S4096x1024_S512x1024_1024_0))
          (View.ld b5 (Rect.unit ![2, 0, 0] ![1, 1024, 512] inb_S8x1024x512_S1x1024x512_2_0_0)))
        (View.ld b4 (Rect.unit ![0, 1536] ![256, 512] inb_S256x4096_S256x512_0_1536))
        (View.ld b6 (Rect.unit ![1536, 0] ![512, 1024] inb_S4096x1024_S512x1024_1536_0))
        (View.ld b5 (Rect.unit ![3, 0, 0] ![1, 1024, 512] inb_S8x1024x512_S1x1024x512_3_0_0)))
      (k1_pay22 (k1_pay3 b1)
        (View.ld b4 (Rect.unit ![0, 2048] ![256, 512] inb_S256x4096_S256x512_0_2048))
        (View.ld b6 (Rect.unit ![2048, 0] ![512, 1024] inb_S4096x1024_S512x1024_2048_0)))
      (View.ld b5 (Rect.unit ![4, 0, 0] ![1, 1024, 512] inb_S8x1024x512_S1x1024x512_4_0_0))
      (View.ld b4 (Rect.unit ![0, 2560] ![256, 512] inb_S256x4096_S256x512_0_2560))
      (View.ld b6 (Rect.unit ![2560, 0] ![512, 1024] inb_S4096x1024_S512x1024_2560_0))
      (View.ld b5 (Rect.unit ![5, 0, 0] ![1, 1024, 512] inb_S8x1024x512_S1x1024x512_5_0_0)))
    (k1_pay28 (View.ld b4 (Rect.unit ![0, 3072] ![256, 512] inb_S256x4096_S256x512_0_3072)))
    (View.ld b6 (Rect.unit ![3072, 0] ![512, 1024] inb_S4096x1024_S512x1024_3072_0))
    (View.ld b5 (Rect.unit ![6, 0, 0] ![1, 1024, 512] inb_S8x1024x512_S1x1024x512_6_0_0))

/-- The last eighth of the first product's gradient, -/
def last (b1 : Vec Ideal S256x1024 .bf16) (b4 : Vec Ideal S256x4096 .bf16) (b6 : Vec Ideal S4096x1024 .bf16) : FVec Ideal S256x512 .bf16 :=
  k1_pay33 (k1_pay3 b1)
    (View.ld b4 (Rect.unit ![0, 3584] ![256, 512] inb_S256x4096_S256x512_0_3584))
    (View.ld b6 (Rect.unit ![3584, 0] ![512, 1024] inb_S4096x1024_S512x1024_3584_0))
/-- and of the weights. -/
def lastw (b5 : Vec Ideal S8x1024x512 .bf16) : Vec Ideal S1x1024x512 .bf16 :=
  View.ld b5 (Rect.unit ![7, 0, 0] ![1, 1024, 512] inb_S8x1024x512_S1x1024x512_7_0_0)

/-- The normalised row's gradient. -/
theorem dy_at (h1 : ∀ k, b1 (ix2 r k) = ((D k : ℝ) : EReal)) (h4 : ∀ k, b4 (ix2 r k) = ((Q k : ℝ) : EReal))
    (h5 : ∀ j c k, b5 (ix3 j c k) = ((W c (col j k) : ℝ) : EReal)) (h6 : ∀ k c, b6 (ix2 k c) = ((U k c : ℝ) : EReal)) (c : Fin 1024) :
    k1_pay35 (inner b1 b4 b5 b6) (last b1 b4 b6) (lastw b5) (ix2 r c) = ((dyv D U Q W c : ℝ) : EReal) := by
  unfold inner last lastw
  pointwise [k1_pay35, k1_pay31, k1_pay27, k1_pay20, k1_pay12, k1_pay7, k1_pay5, k1_pay3, k1_pay4, k1_pay8, k1_pay9, k1_pay10, k1_pay16,
    k1_pay14, k1_pay13, k1_pay18, k1_pay17, k1_pay22, k1_pay21, k1_pay25, k1_pay24, k1_pay28, k1_pay29, k1_pay33, k1_pay32, h1, h4, h5, h6]
  simp only [← EReal.coe_add, ← EReal.coe_mul, coe_sum, max_zero, ofBits_two, col0, col1, col2, col3, col4, col5, col6, col7]
  rw [dyv, sum_cols]
  rfl

/-- The input's gradient. -/
theorem dh_at (h0 : ∀ k, b0 (ix2 r k) = ((D k : ℝ) : EReal)) (h1 : ∀ k, b1 (ix2 r k) = ((D k : ℝ) : EReal))
    (h2 : ∀ k, b2 (ix2 r k) = ((H k : ℝ) : EReal)) (h3 : ∀ k, b3 (ix2 0 k) = ((G k : ℝ) : EReal)) (h4 : ∀ k, b4 (ix2 r k) = ((Q k : ℝ) : EReal))
    (h5 : ∀ j c k, b5 (ix3 j c k) = ((W c (col j k) : ℝ) : EReal)) (h6 : ∀ k c, b6 (ix2 k c) = ((U k c : ℝ) : EReal)) (c : Fin 1024) :
    k1_pay39 (inner b1 b4 b5 b6) (last b1 b4 b6) (lastw b5) b2 b3 b0 (ix2 r c) = ((dh H G D U Q W c : ℝ) : EReal) := by
  pointwise [k1_pay39, k1_pay37, k1_pay36, h0, h2, h3, dy_at h1 h4 h5 h6]
  simp only [← EReal.coe_add, ← EReal.coe_mul, ← EReal.coe_sub, ← EReal.coe_neg, coe_sum, div_1024, rsqrt_coe, ms_pos, ofBits_1024, ofBits_eps]
  rfl
end

/-- The block's part of the gain's gradient. -/
theorem dgain_at {b2 : Vec Ideal S256x1024 .f32} {b1 : Vec Ideal S256x1024 .bf16} {b4 : Vec Ideal S256x4096 .bf16}
    {b5 : Vec Ideal S8x1024x512 .bf16} {b6 : Vec Ideal S4096x1024 .bf16} {D H : Fin 256 → Fin 1024 → ℝ} {Q : Fin 256 → Fin 4096 → ℝ}
    {W : Fin 1024 → Fin 4096 → ℝ} {U : Fin 4096 → Fin 1024 → ℝ}
    (h1 : ∀ r k, b1 (ix2 r k) = ((D r k : ℝ) : EReal)) (h2 : ∀ r k, b2 (ix2 r k) = ((H r k : ℝ) : EReal))
    (h4 : ∀ r k, b4 (ix2 r k) = ((Q r k : ℝ) : EReal))
    (h5 : ∀ j c k, b5 (ix3 j c k) = ((W c (col j k) : ℝ) : EReal)) (h6 : ∀ k c, b6 (ix2 k c) = ((U k c : ℝ) : EReal))
    (a : Vec Ideal S1x1024 .f32) (i : Fin 1) (c : Fin 1024) :
    k1_pay1 (k1_pay38 (inner b1 b4 b5 b6) (last b1 b4 b6) (lastw b5) b2) a (ix2 i c) =
      (show EReal from a (ix2 i c)) + ((∑ r, dyv (D r) U (Q r) W c * (H r c * rn (H r)) : ℝ) : EReal) := by
  pointwise [k1_pay1, k1_pay38, k1_pay37, k1_pay36, h2, fun r => dy_at (h1 r) (h4 r) h5 h6]
  simp only [← EReal.coe_add, ← EReal.coe_mul, ← EReal.coe_sub, ← EReal.coe_neg, coe_sum, div_1024, rsqrt_coe, ms_pos, ofBits_1024, ofBits_eps]
  rfl

/-- One entry of the first product's gradient, -/
theorem dpre_at {b1 : Vec Ideal S256x1024 .bf16} {v4 : Vec Ideal S256x512 .bf16} {v6 : Vec Ideal S512x1024 .bf16} {r : Fin 256} {k : Fin 512}
    {D : Fin 1024 → ℝ} {q : ℝ} {u : Fin 1024 → ℝ} (h1 : ∀ c, b1 (ix2 r c) = ((D c : ℝ) : EReal)) (h4 : v4 (ix2 r k) = ((q : ℝ) : EReal))
    (h6 : ∀ c, v6 (ix2 k c) = ((u c : ℝ) : EReal)) :
    k1_pay5 (F := Ideal) b1 v4 v6 (ix2 r k) = (((∑ c, D c * u c) * (2 * max q 0) : ℝ) : EReal) := by
  pointwise [k1_pay5, k1_pay4, k1_pay3, h1, h4, h6]
  simp only [← EReal.coe_mul, coe_sum, max_zero, ofBits_two]

/-- and of the activation. -/
theorem act_at {v4 : Vec Ideal S256x512 .bf16} {r : Fin 256} {k : Fin 512} {q : ℝ} (h4 : v4 (ix2 r k) = ((q : ℝ) : EReal)) :
    k1_pay6 (F := Ideal) v4 (ix2 r k) = ((max q 0 * max q 0 : ℝ) : EReal) := by
  pointwise [k1_pay6, k1_pay4, h4]
  simp only [← EReal.coe_mul, max_zero]

/-- A tile of the first product's gradient, at the place where it is stored. -/
theorem dpre_tile (j : Fin 8) {b1 : Vec Ideal S256x1024 .bf16} {b4 : Vec Ideal S256x4096 .bf16} {b6 : Vec Ideal S4096x1024 .bf16}
    {D : Fin 256 → Fin 1024 → ℝ} {Q : Fin 256 → Fin 4096 → ℝ} {U : Fin 4096 → Fin 1024 → ℝ}
    (h1 : ∀ r k, b1 (ix2 r k) = ((D r k : ℝ) : EReal)) (h4 : ∀ r k, b4 (ix2 r k) = ((Q r k : ℝ) : EReal))
    (h6 : ∀ k c, b6 (ix2 k c) = ((U k c : ℝ) : EReal))
    (o4 : Fin 2 → ℕ) (e40 : o4 0 = 0) (e41 : o4 1 = j.val * 512) (i4) (o6 : Fin 2 → ℕ) (e60 : o6 0 = j.val * 512) (e61 : o6 1 = 0) (i6)
    (z : S256x4096.Idx) (a : S256x512.Idx) (h0 : (z 0).val = (a 0).val) (h : (z 1).val = j.val * 512 + (a 1).val) :
    k1_pay5 (F := Ideal) b1 (View.ld b4 (Rect.unit (s := S256x4096) o4 S256x512.size i4))
      (View.ld b6 (Rect.unit (s := S4096x1024) o6 S512x1024.size i6)) a = ((dpre (D (z 0)) U (Q (z 0)) (z 1) : ℝ) : EReal) := by
  rw [show z 0 = a 0 from Fin.ext h0, show z 1 = col j (a 1) from Fin.ext h]
  idx_vars a
  have l4 : ∀ r k, View.ld b4 (Rect.unit (s := S256x4096) o4 S256x512.size i4) (ix2 r k) = ((Q r (col j k) : ℝ) : EReal) := fun r k =>
    ((View.ld_apply b4 _ _).trans (congrArg b4 (funext fun x => by fin_cases x <;> exact Fin.ext (by simp [e40, e41, col])))).trans (h4 r (col j k))
  have l6 : ∀ k c, View.ld b6 (Rect.unit (s := S4096x1024) o6 S512x1024.size i6) (ix2 k c) = ((U (col j k) c : ℝ) : EReal) := fun k c =>
    ((View.ld_apply b6 _ _).trans (congrArg b6 (funext fun x => by fin_cases x <;> exact Fin.ext (by simp [e60, e61, col])))).trans (h6 (col j k) c)
  exact dpre_at (h1 a0) (l4 a0 a1) (l6 a1)

/-- A tile of the activation, at the place where it is stored. -/
theorem act_tile (j : Fin 8) {b4 : Vec Ideal S256x4096 .bf16} {Q : Fin 256 → Fin 4096 → ℝ}
    (h4 : ∀ r k, b4 (ix2 r k) = ((Q r k : ℝ) : EReal)) (o4 : Fin 2 → ℕ) (e40 : o4 0 = 0) (e41 : o4 1 = j.val * 512) (i4)
    (z : S256x4096.Idx) (a : S256x512.Idx) (h0 : (z 0).val = (a 0).val) (h : (z 1).val = j.val * 512 + (a 1).val) :
    k1_pay6 (F := Ideal) (View.ld b4 (Rect.unit (s := S256x4096) o4 S256x512.size i4)) a
      = ((max (Q (z 0) (z 1)) 0 * max (Q (z 0) (z 1)) 0 : ℝ) : EReal) := by
  rw [show z 0 = a 0 from Fin.ext h0, show z 1 = col j (a 1) from Fin.ext h]
  idx_vars a
  have l4 : ∀ r k, View.ld b4 (Rect.unit (s := S256x4096) o4 S256x512.size i4) (ix2 r k) = ((Q r (col j k) : ℝ) : EReal) := fun r k =>
    ((View.ld_apply b4 _ _).trans (congrArg b4 (funext fun x => by fin_cases x <;> exact Fin.ext (by simp [e40, e41, col])))).trans (h4 r (col j k))
  exact act_at (l4 a0 a1)

theorem idx1 : ∀ t : Fin cfg1.N, win1_0.index t = ![t.val, 0] ∧ win1_1.index t = ![t.val, 0] ∧ win1_2.index t = ![t.val, 0]
    ∧ win1_3.index t = ![0, 0] ∧ win1_4.index t = ![t.val, 0] ∧ win1_5.index t = ![0, 0, 0] ∧ win1_6.index t = ![0, 0]
    ∧ win1_7.index t = ![t.val, 0] ∧ win1_8.index t = ![t.val, 0] ∧ win1_9.index t = ![t.val, 0] ∧ win1_10.index t = ![t.val, 0]
    ∧ win1_11.index t = ![0, 0] :=
  (by decide +kernel : ∀ t : Fin grid1.N, _)

/-- The row of the array that row `r` of block `t` is. -/
def row1 (t : Fin cfg1.N) (r : Fin 256) : Fin 4096 := ⟨t.val * 256 + r.val, by have := lt_of_lt_of_eq t.isLt N_1; omega⟩

variable {m : (ℓ : Loc nD τ sig) → Buf (Elt Ideal) ℓ} (ρ : Dev nD → PrngReg) {c : Dev nD}
  {H : Fin 4096 → Fin 1024 → ℝ} {G : Fin 1024 → ℝ} {W : Fin 1024 → Fin 4096 → ℝ} {U : Fin 4096 → Fin 1024 → ℝ} {D : Fin 4096 → Fin 1024 → ℝ}

/-- The cotangent's narrowed copy as the host hands it on. -/
theorem host_d (hr : Real m c H G W U D) (r : Fin 4096) (k : Fin 1024) : V3 m ρ c main_v6 (ix2 r k) = ((D r k : ℝ) : EReal) := by
  rw [← hr.d]
  show StableHlo.after hostOps1 (W2 m ρ c) (Proc.devRef .tc main_v6) (ix2 r k) = _
  unfold hostOps1
  after_results
  rw [show W2 m ρ c (Proc.devRef .tc main_arg4) = m ((c : Thread nD τ).loc main_arg4) from W2_args m ρ c _ (by decide)]
  rfl

/-- What the forward launch left alone is as the host handed it on. -/
theorem kept (b : Ref sig .tc) (h : b ∉ hostOps1_W) (h' : ∀ w : Fin cfg0.W, Pipeline.arrRef spec0 w = b → (cfg0.win w).isOut = false) :
    V3 m ρ c b = W1 m ρ c (Proc.devRef .tc b) := (W3_of m ρ c b h).trans (W2_of m ρ c b h')

theorem blk1_0 (hr : Real m c H G W U D) (t : Fin cfg1.N) (r : Fin 256) (k : Fin 1024) :
    iblk1 (V3 m ρ) c 0 t (ix2 r k) = ((D (row1 t r) k : ℝ) : EReal) := by
  rw [← hr.d]
  blk_simp [iblk1, idx1 t]
  rw [show V3 m ρ c main_arg4 = m ((c : Thread nD τ).loc main_arg4) from W3_args m ρ c _ (by decide)]
  blk_ext [idx1 t, row1]
theorem blk1_1 (hr : Real m c H G W U D) (t : Fin cfg1.N) (r : Fin 256) (k : Fin 1024) :
    iblk1 (V3 m ρ) c 1 t (ix2 r k) = ((D (row1 t r) k : ℝ) : EReal) := by
  rw [← host_d ρ hr]
  blk_ext [iblk1, idx1 t, row1]
theorem blk1_2 (hr : Real m c H G W U D) (t : Fin cfg1.N) (r : Fin 256) (k : Fin 1024) :
    iblk1 (V3 m ρ) c 2 t (ix2 r k) = ((H (row1 t r) k : ℝ) : EReal) := by
  rw [← hr.h]
  blk_simp [iblk1, idx1 t]
  rw [show V3 m ρ c main_arg0 = m ((c : Thread nD τ).loc main_arg0) from W3_args m ρ c _ (by decide)]
  blk_ext [idx1 t, row1]
theorem blk1_3 (hr : Real m c H G W U D) (t : Fin cfg1.N) (k : Fin 1024) : iblk1 (V3 m ρ) c 3 t (ix2 0 k) = ((G k : ℝ) : EReal) := by
  rw [← host_g ρ hr, ← kept ρ main_v3 (by decide) (by decide)]
  blk_ext [iblk1, idx1 t]
theorem blk1_4 (hr : Real m c H G W U D) (t : Fin cfg1.N) (r : Fin 256) (k : Fin 4096) :
    iblk1 (V3 m ρ) c 4 t (ix2 r k) = ((pre (H (row1 t r)) G W k : ℝ) : EReal) := by
  blk_simp [iblk1, idx1 t]
  rw [show V3 m ρ c main_v5_1 = (dat0 (V1 m ρ) c).arrAt 5 cfg0.N from (W3_of m ρ c _ (by decide)).trans (W2_arr m ρ c 5), final5 ρ hr]
  refine congrArg₂ (fun a b => ((pre (H a) G W b : ℝ) : EReal)) (Fin.ext ?_) (Fin.ext ?_) <;> blk_simp [idx1 t, row1] <;> try omega
theorem blk1_5 (hr : Real m c H G W U D) (t : Fin cfg1.N) (j : Fin 8) (x : Fin 1024) (k : Fin 512) :
    iblk1 (V3 m ρ) c 5 t (ix3 j x k) = ((W x (col j k) : ℝ) : EReal) := by
  rw [← host_w ρ hr, ← kept ρ main_v2 (by decide) (by decide)]
  blk_ext [iblk1, idx1 t]
theorem blk1_6 (hr : Real m c H G W U D) (t : Fin cfg1.N) (r : Fin 4096) (k : Fin 1024) :
    iblk1 (V3 m ρ) c 6 t (ix2 r k) = ((U r k : ℝ) : EReal) := by
  rw [← host_u ρ hr, ← kept ρ main_v4 (by decide) (by decide)]
  blk_ext [iblk1, idx1 t]

theorem after7 (hr : Real m c H G W U D) (t : Fin cfg1.N) (z : S256x1024.Idx) : (outsAt1 (V3 m ρ) c t.val t.isLt).1 z =
    ((dh (H (row1 t (z 0))) G (D (row1 t (z 0))) U (pre (H (row1 t (z 0))) G W) W (z 1) : ℝ) : EReal) := by
  idx_vars z
  by_cases h0 : t.val % 16 = 0
  · rw [outsAt1_A (V3 m ρ) c t h0]
    frame_out
    exact dh_at (blk1_0 ρ hr t _) (blk1_1 ρ hr t _) (blk1_2 ρ hr t _) (blk1_3 ρ hr t) (blk1_4 ρ hr t _) (blk1_5 ρ hr t) (blk1_6 ρ hr t) _
  · rw [outsAt1_B (V3 m ρ) c t h0]
    frame_out
    exact dh_at (blk1_0 ρ hr t _) (blk1_1 ρ hr t _) (blk1_2 ρ hr t _) (blk1_3 ρ hr t) (blk1_4 ρ hr t _) (blk1_5 ρ hr t) (blk1_6 ρ hr t) _
theorem after8 (hr : Real m c H G W U D) (t : Fin cfg1.N) (z : S256x1024.Idx) : (outsAt1 (V3 m ρ) c t.val t.isLt).2.1 z =
    ((dh (H (row1 t (z 0))) G (D (row1 t (z 0))) U (pre (H (row1 t (z 0))) G W) W (z 1) : ℝ) : EReal) := by
  idx_vars z
  by_cases h0 : t.val % 16 = 0
  · rw [outsAt1_A (V3 m ρ) c t h0]
    frame_out
    exact dh_at (blk1_0 ρ hr t _) (blk1_1 ρ hr t _) (blk1_2 ρ hr t _) (blk1_3 ρ hr t) (blk1_4 ρ hr t _) (blk1_5 ρ hr t) (blk1_6 ρ hr t) _
  · rw [outsAt1_B (V3 m ρ) c t h0]
    frame_out
    exact dh_at (blk1_0 ρ hr t _) (blk1_1 ρ hr t _) (blk1_2 ρ hr t _) (blk1_3 ρ hr t) (blk1_4 ρ hr t _) (blk1_5 ρ hr t) (blk1_6 ρ hr t) _
theorem after9 (hr : Real m c H G W U D) (t : Fin cfg1.N) (z : S256x4096.Idx) : (outsAt1 (V3 m ρ) c t.val t.isLt).2.2.1 z =
    ((dpre (D (row1 t (z 0))) U (pre (H (row1 t (z 0))) G W) (z 1) : ℝ) : EReal) := by
  by_cases h0 : t.val % 16 = 0
  · rw [outsAt1_A (V3 m ρ) c t h0]
    frame_out
    canon_tiles a h
    · exact dpre_tile 7 (blk1_1 ρ hr t) (blk1_4 ρ hr t) (blk1_6 ρ hr t) _ rfl rfl _ _ rfl rfl _ z a (by omega) (by simpa using h1)
    · exact dpre_tile 6 (blk1_1 ρ hr t) (blk1_4 ρ hr t) (blk1_6 ρ hr t) _ rfl rfl _ _ rfl rfl _ z a (by omega) (by simpa using h1)
    · exact dpre_tile 5 (blk1_1 ρ hr t) (blk1_4 ρ hr t) (blk1_6 ρ hr t) _ rfl rfl _ _ rfl rfl _ z a (by omega) (by simpa using h1)
    · exact dpre_tile 4 (blk1_1 ρ hr t) (blk1_4 ρ hr t) (blk1_6 ρ hr t) _ rfl rfl _ _ rfl rfl _ z a (by omega) (by simpa using h1)
    · exact dpre_tile 3 (blk1_1 ρ hr t) (blk1_4 ρ hr t) (blk1_6 ρ hr t) _ rfl rfl _ _ rfl rfl _ z a (by omega) (by simpa using h1)
    · exact dpre_tile 2 (blk1_1 ρ hr t) (blk1_4 ρ hr t) (blk1_6 ρ hr t) _ rfl rfl _ _ rfl rfl _ z a (by omega) (by simpa using h1)
    · exact dpre_tile 1 (blk1_1 ρ hr t) (blk1_4 ρ hr t) (blk1_6 ρ hr t) _ rfl rfl _ _ rfl rfl _ z a (by omega) (by simpa using h1)
    · exact dpre_tile 0 (blk1_1 ρ hr t) (blk1_4 ρ hr t) (blk1_6 ρ hr t) _ rfl rfl _ _ rfl rfl _ z a (by omega) (by simpa using h1)
  · rw [outsAt1_B (V3 m ρ) c t h0]
    frame_out
    canon_tiles a h
    · exact dpre_tile 7 (blk1_1 ρ hr t) (blk1_4 ρ hr t) (blk1_6 ρ hr t) _ rfl rfl _ _ rfl rfl _ z a (by omega) (by simpa using h1)
    · exact dpre_tile 6 (blk1_1 ρ hr t) (blk1_4 ρ hr t) (blk1_6 ρ hr t) _ rfl rfl _ _ rfl rfl _ z a (by omega) (by simpa using h1)
    · exact dpre_tile 5 (blk1_1 ρ hr t) (blk1_4 ρ hr t) (blk1_6 ρ hr t) _ rfl rfl _ _ rfl rfl _ z a (by omega) (by simpa using h1)
    · exact dpre_tile 4 (blk1_1 ρ hr t) (blk1_4 ρ hr t) (blk1_6 ρ hr t) _ rfl rfl _ _ rfl rfl _ z a (by omega) (by simpa using h1)
    · exact dpre_tile 3 (blk1_1 ρ hr t) (blk1_4 ρ hr t) (blk1_6 ρ hr t) _ rfl rfl _ _ rfl rfl _ z a (by omega) (by simpa using h1)
    · exact dpre_tile 2 (blk1_1 ρ hr t) (blk1_4 ρ hr t) (blk1_6 ρ hr t) _ rfl rfl _ _ rfl rfl _ z a (by omega) (by simpa using h1)
    · exact dpre_tile 1 (blk1_1 ρ hr t) (blk1_4 ρ hr t) (blk1_6 ρ hr t) _ rfl rfl _ _ rfl rfl _ z a (by omega) (by simpa using h1)
    · exact dpre_tile 0 (blk1_1 ρ hr t) (blk1_4 ρ hr t) (blk1_6 ρ hr t) _ rfl rfl _ _ rfl rfl _ z a (by omega) (by simpa using h1)
theorem after10 (hr : Real m c H G W U D) (t : Fin cfg1.N) (z : S256x4096.Idx) : (outsAt1 (V3 m ρ) c t.val t.isLt).2.2.2.1 z =
    ((act (H (row1 t (z 0))) G W (z 1) : ℝ) : EReal) := by
  by_cases h0 : t.val % 16 = 0
  · rw [outsAt1_A (V3 m ρ) c t h0]
    frame_out
    canon_tiles a h
    · exact act_tile 7 (blk1_4 ρ hr t) _ rfl rfl _ z a (by omega) (by simpa using h1)
    · exact act_tile 6 (blk1_4 ρ hr t) _ rfl rfl _ z a (by omega) (by simpa using h1)
    · exact act_tile 5 (blk1_4 ρ hr t) _ rfl rfl _ z a (by omega) (by simpa using h1)
    · exact act_tile 4 (blk1_4 ρ hr t) _ rfl rfl _ z a (by omega) (by simpa using h1)
    · exact act_tile 3 (blk1_4 ρ hr t) _ rfl rfl _ z a (by omega) (by simpa using h1)
    · exact act_tile 2 (blk1_4 ρ hr t) _ rfl rfl _ z a (by omega) (by simpa using h1)
    · exact act_tile 1 (blk1_4 ρ hr t) _ rfl rfl _ z a (by omega) (by simpa using h1)
    · exact act_tile 0 (blk1_4 ρ hr t) _ rfl rfl _ z a (by omega) (by simpa using h1)
  · rw [outsAt1_B (V3 m ρ) c t h0]
    frame_out
    canon_tiles a h
    · exact act_tile 7 (blk1_4 ρ hr t) _ rfl rfl _ z a (by omega) (by simpa using h1)
    · exact act_tile 6 (blk1_4 ρ hr t) _ rfl rfl _ z a (by omega) (by simpa using h1)
    · exact act_tile 5 (blk1_4 ρ hr t) _ rfl rfl _ z a (by omega) (by simpa using h1)
    · exact act_tile 4 (blk1_4 ρ hr t) _ rfl rfl _ z a (by omega) (by simpa using h1)
    · exact act_tile 3 (blk1_4 ρ hr t) _ rfl rfl _ z a (by omega) (by simpa using h1)
    · exact act_tile 2 (blk1_4 ρ hr t) _ rfl rfl _ z a (by omega) (by simpa using h1)
    · exact act_tile 1 (blk1_4 ρ hr t) _ rfl rfl _ z a (by omega) (by simpa using h1)
    · exact act_tile 0 (blk1_4 ρ hr t) _ rfl rfl _ z a (by omega) (by simpa using h1)

/-- The input's gradient after the run. -/
theorem final7 (hr : Real m c H G W U D) : (dat1 (V3 m ρ) c).arrAt 7 cfg1.N = fun i : S4096x1024.Idx =>
    ((dh (H (i 0)) G (D (i 0)) U (pre (H (i 0)) G W) W (i 1) : ℝ) : EReal) := by
  refine (dat1 (V3 m ρ) c).arrAt_eq_of_covers 7 _ (by decide +kernel) fun t _ y => ?_
  rw [after1_7, after7 ρ hr]
  blk_simp [idx1 t, row1]
  refine congrArg₂ (fun a b => ((dh (H a) G (D a) U (pre (H a) G W) W b : ℝ) : EReal)) (Fin.ext ?_) (Fin.ext ?_) <;> blk_simp [idx1 t] <;> try omega

/-- Its narrowed copy after the run. -/
theorem final8 (hr : Real m c H G W U D) : (dat1 (V3 m ρ) c).arrAt 8 cfg1.N = fun i : S4096x1024.Idx =>
    ((dh (H (i 0)) G (D (i 0)) U (pre (H (i 0)) G W) W (i 1) : ℝ) : EReal) := by
  refine (dat1 (V3 m ρ) c).arrAt_eq_of_covers 8 _ (by decide +kernel) fun t _ y => ?_
  rw [after1_8, after8 ρ hr]
  blk_simp [idx1 t, row1]
  refine congrArg₂ (fun a b => ((dh (H a) G (D a) U (pre (H a) G W) W b : ℝ) : EReal)) (Fin.ext ?_) (Fin.ext ?_) <;> blk_simp [idx1 t] <;> try omega

/-- The first product's gradient after the run. -/
theorem final9 (hr : Real m c H G W U D) : (dat1 (V3 m ρ) c).arrAt 9 cfg1.N = fun i : S4096x4096.Idx =>
    ((dpre (D (i 0)) U (pre (H (i 0)) G W) (i 1) : ℝ) : EReal) := by
  refine (dat1 (V3 m ρ) c).arrAt_eq_of_covers 9 _ (by decide +kernel) fun t _ y => ?_
  rw [after1_9, after9 ρ hr]
  blk_simp [idx1 t, row1]
  refine congrArg₂ (fun a b => ((dpre (D a) U (pre (H a) G W) b : ℝ) : EReal)) (Fin.ext ?_) (Fin.ext ?_) <;> blk_simp [idx1 t] <;> try omega

/-- The activation after the run. -/
theorem final10 (hr : Real m c H G W U D) : (dat1 (V3 m ρ) c).arrAt 10 cfg1.N = fun i : S4096x4096.Idx =>
    ((act (H (i 0)) G W (i 1) : ℝ) : EReal) := by
  refine (dat1 (V3 m ρ) c).arrAt_eq_of_covers 10 _ (by decide +kernel) fun t _ y => ?_
  rw [after1_10, after10 ρ hr]
  blk_simp [idx1 t, row1]
  refine congrArg₂ (fun a b => ((act (H a) G W b : ℝ) : EReal)) (Fin.ext ?_) (Fin.ext ?_) <;> blk_simp [idx1 t] <;> try omega

theorem zero2 (j) : k1_pay2 (F := Ideal) j = 0 := by pointwise [k1_pay2]

/-- The gain's gradient after the run. -/
theorem final11 (hr : Real m c H G W U D) : (dat1 (V3 m ρ) c).arrAt 11 cfg1.N = fun i : S1x1024.Idx =>
    ((∑ r : Fin 4096, dyv (D r) U (pre (H r) G W) W (i 1) * (H r (i 1) * rn (H r)) : ℝ) : EReal) := by
  refine (dat1 (V3 m ρ) c).arrAt_eq_of_after_last 11 t1_15 (by decide +kernel) _ fun j => ?_
  blk_simp
  rw [after1_11, Pipeline.eq_sum_fin_of_reset_step_apply_last (fun n h => (outsAt1 (V3 m ρ) c n h).2.2.2.2) 16 (fun _ => 0)
    (fun t j => ((∑ r, dyv (D (row1 t r)) U (pre (H (row1 t r)) G W) W (j 1) * (H (row1 t r) (j 1) * rn (H (row1 t r))) : ℝ) : EReal))
    (fun t h j => by
      idx_vars j
      rw [outsAt1_A (V3 m ρ) c t h]
      frame_out
      refine (dgain_at (fun r => blk1_1 ρ hr t r) (fun r => blk1_2 ρ hr t r) (fun r => blk1_4 ρ hr t r) (blk1_5 ρ hr t) (blk1_6 ρ hr t) _ _ _).trans ?_
      rw [zero2])
    (fun t h j => by
      idx_vars j
      rw [outsAt1_B (V3 m ρ) c t h]
      frame_out
      exact dgain_at (fun r => blk1_1 ρ hr t r) (fun r => blk1_2 ρ hr t r) (fun r => blk1_4 ρ hr t r) (blk1_5 ρ hr t) (blk1_6 ρ hr t) _ _ _)
    (le_of_eq N_1) t1_15 (by exact N_1.symm) j, zero_add]
  rw [coe_sum, sum_blocks 16 256 4096 N_1 rfl (fun r => dyv (D r) U (pre (H r) G W) W (j 1) * (H r (j 1) * rn (H r))) row1 fun _ _ => rfl]

end Cert.MlpbKIdeal.Value

end
-- ==== Proof.MlpbClaim.lean ====
/- The squared-ReLU MLP, forward and backward: the kernel's results are those of the reference, on finite arguments. -/
module

public import proofs.«01_k».proof.Defs
public import proofs.«01_k».proof.Proof.MlpbBackward
public import proofs.«01_k».proof.Proof.Gen.MlpbRIdeal.Run
public import proofs.«01_k».proof.Proof.Gen.Pre_finite_mlpb

@[expose] public section

set_option maxRecDepth 16384

noncomputable section

open Idealize.ShloMosaic Idealize.ShloMosaic.TcCoe Idealize.SL.Sem Cert.Reals

namespace Cert.MlpbClaim

instance : Cert.MlpbKIdeal.Facts := Cert.MlpbKIdeal.Gen.facts

/-- The precondition makes the arguments arrays of real numbers. -/
theorem real {m : (ℓ : Loc Cert.MlpbKIdeal.nD Cert.MlpbKIdeal.τ Cert.MlpbKIdeal.sig) → Buf (Elt Ideal) ℓ}
    (hp : Pre_MlpbKIdeal_finite_mlpb (hPre_finite_mlpb := Cert.Pre_finite_mlpb.Gen.facts) m) (c : Dev Cert.MlpbKIdeal.nD) :
    ∃ H G W U D, Cert.MlpbKIdeal.Value.Real m c H G W U D := by
  have h := congrFun (hp c) (Shape.Idx.first (by decide))
  unfold Cert.Pre_finite_mlpb.fn at h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  haveI : Subsingleton Cert.Pre_finite_mlpb.S_.Idx := ⟨fun a b => funext fun i => i.elim0⟩
  obtain ⟨H, hH⟩ := finite_of_all _ _ _ _ _ _ h1
  obtain ⟨G, hG⟩ := finite_of_all _ _ _ _ _ _ h2
  obtain ⟨W, hW⟩ := finite_of_all _ _ _ _ _ _ h3
  obtain ⟨U, hU⟩ := finite_of_all _ _ _ _ _ _ h4
  obtain ⟨D, hD⟩ := finite_of_all _ _ _ _ _ _ h5
  exact ⟨fun r k => H (ix2 r k), fun k => G (ix1 k), fun r k => W (ix2 r k), fun r k => U (ix2 r k), fun r k => D (ix2 r k),
    fun r k => congrFun hH _, fun k => congrFun hG _, fun r k => congrFun hW _, fun r k => congrFun hU _, fun r k => congrFun hD _⟩

section
open Cert.MlpbKIdeal Cert.MlpbKIdeal.Value
variable {m : (ℓ : Loc nD τ sig) → Buf (Elt Ideal) ℓ} {m' : (ℓ : Loc Cert.MlpbRIdeal.nD Cert.MlpbRIdeal.τ Cert.MlpbRIdeal.sig) → Buf (Elt Ideal) ℓ}
  {c : Dev nD} {H : Fin 4096 → Fin 1024 → ℝ} {G : Fin 1024 → ℝ} {W : Fin 1024 → Fin 4096 → ℝ} {U : Fin 4096 → Fin 1024 → ℝ}
  {D : Fin 4096 → Fin 1024 → ℝ}

/-- The derivative of the positive part's square, chosen by the sign, is twice the positive part. -/
theorem relu_sel (a d : ℝ) [Decidable ((0 : EReal) < (a : EReal))] :
    (if (0 : EReal) < (a : EReal) then ((d * (2 * max a 0) : ℝ) : EReal) else 0) = ((d * (2 * max a 0) : ℝ) : EReal) := by
  split
  · rfl
  · next h => rw [max_eq_right (not_lt.1 fun h' => h (EReal.coe_pos.2 h')), mul_zero, mul_zero]; rfl

/-- The reference's gradient of one entry is the kernel's. -/
theorem ref_grad (hr : Real m c H G W U D) (h0 : m' ((c : Thread nD τ).loc Cert.MlpbRIdeal.main_arg0) = m ((c : Thread nD τ).loc main_arg0))
    (h1 : m' ((c : Thread nD τ).loc Cert.MlpbRIdeal.main_arg1) = m ((c : Thread nD τ).loc main_arg1))
    (h2 : m' ((c : Thread nD τ).loc Cert.MlpbRIdeal.main_arg2) = m ((c : Thread nD τ).loc main_arg2))
    (h3 : m' ((c : Thread nD τ).loc Cert.MlpbRIdeal.main_arg3) = m ((c : Thread nD τ).loc main_arg3))
    (h4 : m' ((c : Thread nD τ).loc Cert.MlpbRIdeal.main_arg4) = m ((c : Thread nD τ).loc main_arg4)) (j0 : Fin 4096) (j1 : Fin 1024) :
    Cert.MlpbRIdeal.Value.res_main_v60 m' c (ix2 j0 j1) = ((dh (H j0) G (D j0) U (pre (H j0) G W) W j1 : ℝ) : EReal) := by
  unfold Cert.MlpbRIdeal.Value.res_main_v60
  rw [h0, h1, h2, h3, h4]
  pointwise [hr.h, hr.g, hr.w, hr.u, hr.d]
  simp only [← EReal.coe_add, ← EReal.coe_mul, ← EReal.coe_sub, ← EReal.coe_neg, coe_sum, div_1024, rsqrt_ms, ms_ne, max_zero, relu_sel,
    div_coe_coe, ne_eq, not_false_eq_true, ofBits_1024, ofBits_inv1024, ofBits_eps, ofBits_half, ofBits_neg_half, ofBits_two]
  simp only [Finset.univ_unique, Finset.sum_const, Finset.card_singleton, one_smul]
  rw [add_assoc, add_assoc, ← add_assoc (_ * rn (H j0))]
  exact congrArg (fun x : ℝ => ((D j0 j1 + x : ℝ) : EReal))
    (dnorm_eq (H j0) (fun x => dyv (D j0) U (pre (H j0) G W) W x * G x) j1).symm
end

set_option maxHeartbeats 1000000 in
theorem algebraic : Cert.algebraic_MlpbKIdeal_MlpbRIdeal_pre_finite_mlpb (hMlpbKIdeal := Cert.MlpbKIdeal.Gen.facts)
    (hMlpbRIdeal := Cert.MlpbRIdeal.Gen.facts) (hPre_finite_mlpb := Cert.Pre_finite_mlpb.Gen.facts) := by
  pair_intro
  · run_from Cert.MlpbKIdeal.Gen.run m g
  · run_from Cert.MlpbRIdeal.Value.run m' g'
    · obtain ⟨H, G, W, U, D, hr⟩ := real hpre c
      rw [Cert.MlpbKIdeal.Value.final4 g hr]
      funext j
      idx_vars j
      pointwise [hr.h, hr.g, hr.w, hr.u, hr.d]
      simp only [← EReal.coe_add, ← EReal.coe_mul, coe_sum, div_1024, rsqrt_ms, ofBits_1024, ofBits_eps, ofBits_two, Cert.MlpbKIdeal.Value.max_zero, relu_sel]
      rfl
    · obtain ⟨H, G, W, U, D, hr⟩ := real hpre c
      rw [Cert.MlpbKIdeal.Value.final5 g hr]
      funext j
      idx_vars j
      pointwise [hr.h, hr.g, hr.w, hr.u, hr.d]
      simp only [← EReal.coe_add, ← EReal.coe_mul, coe_sum, div_1024, rsqrt_ms, ofBits_1024, ofBits_eps, ofBits_two, Cert.MlpbKIdeal.Value.max_zero, relu_sel]
      rfl
    · obtain ⟨H, G, W, U, D, hr⟩ := real hpre c
      rw [Cert.MlpbKIdeal.Value.final6 g hr]
      funext j
      idx_vars j
      pointwise [hr.h, hr.g, hr.w, hr.u, hr.d]
      simp only [← EReal.coe_add, ← EReal.coe_mul, coe_sum, div_1024, rsqrt_ms, ofBits_1024, ofBits_eps, ofBits_two, Cert.MlpbKIdeal.Value.max_zero, relu_sel]
      rfl
    · obtain ⟨H, G, W, U, D, hr⟩ := real hpre c
      rw [Cert.MlpbKIdeal.Value.final7 g hr]
      funext j
      idx_vars j
      exact ref_grad hr (hagree c).1 (hagree c).2.1 (hagree c).2.2.1 (hagree c).2.2.2.1 (hagree c).2.2.2.2 j0 j1
    · obtain ⟨H, G, W, U, D, hr⟩ := real hpre c
      rw [Cert.MlpbKIdeal.Value.final8 g hr]
      funext j
      idx_vars j
      exact ref_grad hr (hagree c).1 (hagree c).2.1 (hagree c).2.2.1 (hagree c).2.2.2.1 (hagree c).2.2.2.2 j0 j1
    · obtain ⟨H, G, W, U, D, hr⟩ := real hpre c
      rw [Cert.MlpbKIdeal.Value.final9 g hr]
      funext j
      idx_vars j
      pointwise [hr.h, hr.g, hr.w, hr.u, hr.d]
      simp only [← EReal.coe_add, ← EReal.coe_mul, coe_sum, div_1024, rsqrt_ms, ofBits_1024, ofBits_eps, ofBits_two, Cert.MlpbKIdeal.Value.max_zero, relu_sel]
      rfl
    · obtain ⟨H, G, W, U, D, hr⟩ := real hpre c
      rw [Cert.MlpbKIdeal.Value.final10 g hr]
      funext j
      idx_vars j
      pointwise [hr.h, hr.g, hr.w, hr.u, hr.d]
      simp only [← EReal.coe_add, ← EReal.coe_mul, coe_sum, div_1024, rsqrt_ms, ofBits_1024, ofBits_eps, ofBits_two, Cert.MlpbKIdeal.Value.max_zero, relu_sel]
      rfl
    · obtain ⟨H, G, W, U, D, hr⟩ := real hpre c
      rw [Cert.MlpbKIdeal.Value.final11 g hr]
      funext j
      idx_vars j
      pointwise [hr.h, hr.g, hr.w, hr.u, hr.d]
      simp only [← EReal.coe_add, ← EReal.coe_mul, coe_sum, div_1024, rsqrt_ms, ofBits_1024, ofBits_eps, ofBits_two, Cert.MlpbKIdeal.Value.max_zero,
        relu_sel, Finset.univ_unique, Finset.sum_const, Finset.card_singleton, one_smul]
      exact congrArg _ (Finset.sum_congr rfl fun r _ => mul_comm _ _)

end Cert.MlpbClaim

end
-- ==== Proof.HeadNorm.lean ====
/- The norm of one head's entries and its gradient, over the extended reals: the terms that both a kernel's block and a
   reference's array are read down to. -/
module

public import proofs.«01_k».proof.Proof.Reals
public import Idealize.ShloMosaic.Lib.Claim

@[expose] public section

noncomputable section

open Idealize.ShloMosaic

namespace Cert.HeadNorm

variable {n : Nat}

/-- The mean square of a head's `n` entries plus the norm's small constant (`N` is the number `n` as it is written in the program). -/
def ms (N : EReal) (o : Fin n → EReal) : EReal := Ideal.div (∑ x, o x * o x) N + Ideal.ofBits .f32 897988541#32

/-- The part of the gradient that all entries of a head share: the derivative through the mean square. -/
def share (N : EReal) (o d : Fin n → EReal) : EReal :=
  ∑ _ : Fin 1, Ideal.div ((∑ x, o x * d x) * (Ideal.ofBits .f32 3204448256#32 * Ideal.div (Ideal.rsqrt (ms N o)) (ms N o))) N

/-- The gradient of the head's entry `oj`, whose normalised entry has the gradient `dj`. -/
def grad (N : EReal) (o d : Fin n → EReal) (oj dj : EReal) : EReal :=
  dj * Ideal.rsqrt (ms N o) + oj * share N o d + share N o d * oj

/-- The logistic function as both programs write it. -/
def lgs (x : EReal) : EReal := Ideal.div 1 (1 + Ideal.exp (-x))

/-- The first column of the head of `n` columns that column `c` lies in. -/
theorem head_lt {w n k : Nat} (hw : w = k * n) (c : Fin w) (x : Fin n) : c.val / n * n + x.val < w := by
  subst hw
  have h1 : c.val / n < k := Nat.div_lt_of_lt_mul (lt_of_lt_of_eq c.isLt (mul_comm _ _))
  calc c.val / n * n + x.val < c.val / n * n + n := Nat.add_lt_add_left x.isLt _
    _ = (c.val / n + 1) * n := (Nat.succ_mul _ _).symm
    _ ≤ k * n := Nat.mul_le_mul_right _ h1

end Cert.HeadNorm

end
-- ==== Proof.Comb1Kernel.lean ====
/- The gradient of GLA's head norm and output gate: what one block of 512 rows computes, and what the kernel's result
   arrays hold after the run, on any extended reals. -/
module

public import proofs.«01_k».proof.Proof.Gen.Comb1KIdeal.Value
public import proofs.«01_k».proof.Proof.Reals
public import proofs.«01_k».proof.Proof.HeadNorm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Reals
open Idealize.ShloMosaic.Pipeline (Dat)
open Cert.HeadNorm (lgs)

namespace Cert.Comb1KIdeal.Value

open Cert.Comb1KIdeal Cert.Comb1KIdeal.Gen

/-- The number of entries of a head as it is written in both programs. -/
def N : EReal := Ideal.ofBits .f32 1132462080#32

/-- The head of the row that column `c` lies in. -/
def head (f : Fin 1024 → EReal) (c : Fin 1024) : Fin 256 → EReal :=
  fun x => f ⟨c.val / 256 * 256 + x.val, Cert.HeadNorm.head_lt (k := 4) (by norm_num) c x⟩

/-- The normalised entry `c` of a row. -/
def nrm (o : Fin 1024 → EReal) (c : Fin 1024) : EReal := o c * Ideal.rsqrt (Cert.HeadNorm.ms N (head o c))

/-- The gradient of the row's entry: `o` the two directions' sum, `r` the gate's argument, `g` the gain, `d` the gradient of
    the gated row. -/
def gradO (o r g d : Fin 1024 → EReal) (c : Fin 1024) : EReal :=
  Cert.HeadNorm.grad N (head o c) (head (fun y => d y * (r y * lgs (r y)) * g y) c) (o c) (d c * (r c * lgs (r c)) * g c)

/-- The gradient of the gate's argument. -/
def gradR (o r g d : Fin 1024 → EReal) (c : Fin 1024) : EReal :=
  nrm o c * g c * d c * lgs (r c) + r c * (nrm o c * g c * d c) * lgs (r c) * (1 - lgs (r c))

/-- One row's part of the gain's gradient. -/
def gradG (o r d : Fin 1024 → EReal) (c : Fin 1024) : EReal := nrm o c * (d c * (r c * lgs (r c)))

section
variable {a b r : Vec Ideal S512x1024 .f32} {g : Vec Ideal S1x1024 .f32} {q : Vec Ideal S512x1024 .bf16} {w : Vec Ideal S1024x1024 .bf16}

/-- The heads' gradient put together: each head's columns are one summand's, the other summands being zero there. -/
theorem pay37 (i : Fin 512) (v8 : FVec Ideal S1x1024 .f32) (v83 : FVec Ideal S512x1024 .f32) (c : Fin 1024) :
    k0_pay37 (F := Ideal) (k0_pay6 a b) (k0_pay8 a b) (k0_pay9 a b) (k0_pay11 a b) (k0_pay13 a b) (k0_pay14 a b) (k0_pay33 v8 v83) (k0_pay34 v8 v83)
      (k0_pay35 v8 (k0_pay21 (k0_pay5 a b)) (k0_pay23 (k0_pay5 a b)) (k0_pay24 (k0_pay5 a b)) v83) (Scalar.ofBits .f32 0x00000000#32)
      (k0_pay36 v8 (k0_pay16 a b) (k0_pay19 (k0_pay17 a b)) (k0_pay20 (k0_pay17 a b)) v83) (ix2 i c)
    = Cert.HeadNorm.grad N (head (fun y => (show EReal from a (ix2 i y)) + (show EReal from b (ix2 i y))) c)
        (head (fun y => (show EReal from v83 (ix2 i y)) * (show EReal from v8 (ix2 0 y))) c)
        ((show EReal from a (ix2 i c)) + (show EReal from b (ix2 i c))) ((show EReal from v83 (ix2 i c)) * (show EReal from v8 (ix2 0 c))) := by
  pointwise [k0_pay37, k0_pay35, k0_pay36, k0_pay34, k0_pay33, k0_pay32, k0_pay24, k0_pay23, k0_pay22, k0_pay21, k0_pay20, k0_pay19,
    k0_pay18, k0_pay17, k0_pay16, k0_pay14, k0_pay13, k0_pay12, k0_pay11, k0_pay9, k0_pay8, k0_pay7, k0_pay6, k0_pay5]
  unfold Cert.HeadNorm.grad Cert.HeadNorm.share Cert.HeadNorm.ms head N
  have hcl := c.isLt
  rcases (by omega : c.val < 256 ∨ (256 ≤ c.val ∧ c.val < 512) ∨ (512 ≤ c.val ∧ c.val < 768) ∨ 768 ≤ c.val) with h | h | h | h
  · have hd : c.val / 256 * 256 = 0 := by omega
    simp (discharger := omega) only [hd, dif_pos, dif_neg, zero_add, add_zero]
  · have hd : c.val / 256 * 256 = 256 := by omega
    simp (discharger := omega) only [hd, dif_pos, dif_neg, zero_add, add_zero, Nat.sub_sub, Nat.reduceAdd, Nat.add_sub_cancel' h.1]
  · have hd : c.val / 256 * 256 = 512 := by omega
    simp (discharger := omega) only [hd, dif_pos, dif_neg, zero_add, add_zero, Nat.sub_sub, Nat.reduceAdd, Nat.add_sub_cancel' h.1]
  · have hd : c.val / 256 * 256 = 768 := by omega
    simp (discharger := omega) only [hd, dif_pos, dif_neg, zero_add, add_zero, Nat.sub_sub, Nat.reduceAdd, Nat.add_sub_cancel' h]

/-- The normalised block. -/
theorem pay25 (i : Fin 512) (c : Fin 1024) :
    k0_pay25 (F := Ideal) (k0_pay5 a b) (k0_pay10 a b) (k0_pay15 a b) (k0_pay16 a b) (k0_pay17 a b) (ix2 i c)
      = nrm (fun y => (show EReal from a (ix2 i y)) + (show EReal from b (ix2 i y))) c := by
  pointwise [k0_pay25, k0_pay23, k0_pay22, k0_pay21, k0_pay19, k0_pay18, k0_pay17, k0_pay16, k0_pay15, k0_pay13, k0_pay12, k0_pay11,
    k0_pay10, k0_pay8, k0_pay7, k0_pay6, k0_pay5]
  unfold nrm Cert.HeadNorm.ms head N
  have hcl := c.isLt
  rcases (by omega : c.val < 256 ∨ (256 ≤ c.val ∧ c.val < 512) ∨ (512 ≤ c.val ∧ c.val < 768) ∨ 768 ≤ c.val) with h | h | h | h
  · have hd : c.val / 256 * 256 = 0 := by omega
    simp (discharger := omega) only [hd, dif_pos, dif_neg, zero_add, add_zero]
  · have hd : c.val / 256 * 256 = 256 := by omega
    simp (discharger := omega) only [hd, dif_pos, dif_neg, zero_add, add_zero, Nat.sub_sub, Nat.reduceAdd, Nat.add_sub_cancel' h.1]
  · have hd : c.val / 256 * 256 = 512 := by omega
    simp (discharger := omega) only [hd, dif_pos, dif_neg, zero_add, add_zero, Nat.sub_sub, Nat.reduceAdd, Nat.add_sub_cancel' h.1]
  · have hd : c.val / 256 * 256 = 768 := by omega
    simp (discharger := omega) only [hd, dif_pos, dif_neg, zero_add, add_zero, Nat.sub_sub, Nat.reduceAdd, Nat.add_sub_cancel' h]

variable {A B R D : Fin 1024 → EReal} {G : Fin 1024 → EReal} {i : Fin 512}

theorem sig26 (hr : ∀ y, r (ix2 i y) = R y) (c : Fin 1024) : k0_pay26 (F := Ideal) (k0_pay3 r) (ix2 i c) = lgs (R c) := by
  pointwise [k0_pay26, k0_pay3, hr]
  rw [zero_sub]
  rfl

theorem pay29 {Q : Fin 1024 → EReal} {W : Fin 1024 → Fin 1024 → EReal} (hr : ∀ y, r (ix2 i y) = R y) (hq : ∀ k, q (ix2 i k) = Q k)
    (hw : ∀ y k, w (ix2 y k) = W y k) (c : Fin 1024) :
    k0_pay29 (F := Ideal) (k0_pay3 r) q w (ix2 i c) = (∑ k, Q k * W c k) * (R c * lgs (R c)) := by
  pointwise [k0_pay29, k0_pay27, k0_pay26, k0_pay3, hr, hq, hw]
  rw [zero_sub]
  rfl

theorem pay28 {Q : Fin 1024 → EReal} {W : Fin 1024 → Fin 1024 → EReal} (ha : ∀ y, a (ix2 i y) = A y) (hb : ∀ y, b (ix2 i y) = B y)
    (hg : ∀ y, g (ix2 0 y) = G y) (hq : ∀ k, q (ix2 i k) = Q k) (hw : ∀ y k, w (ix2 y k) = W y k) (c : Fin 1024) :
    k0_pay28 (F := Ideal) (k0_pay4 g) (k0_pay5 a b) (k0_pay10 a b) (k0_pay15 a b) (k0_pay16 a b) (k0_pay17 a b) q w (ix2 i c)
      = nrm (fun y => A y + B y) c * G c * (∑ k, Q k * W c k) := by
  have h := pay25 (a := a) (b := b) i c
  simp only [ha, hb] at h
  rw [← h]
  pointwise [k0_pay28, k0_pay27, k0_pay4, hg, hq, hw]

/-- The gate's argument's gradient in the block's entry. -/
theorem pay30 {Q : Fin 1024 → EReal} {W : Fin 1024 → Fin 1024 → EReal} (ha : ∀ y, a (ix2 i y) = A y) (hb : ∀ y, b (ix2 i y) = B y)
    (hr : ∀ y, r (ix2 i y) = R y) (hg : ∀ y, g (ix2 0 y) = G y) (hq : ∀ k, q (ix2 i k) = Q k) (hw : ∀ y k, w (ix2 y k) = W y k) (c : Fin 1024) :
    k0_pay30 (F := Ideal) (k0_pay3 r) (k0_pay26 (k0_pay3 r))
      (k0_pay28 (k0_pay4 g) (k0_pay5 a b) (k0_pay10 a b) (k0_pay15 a b) (k0_pay16 a b) (k0_pay17 a b) q w) (ix2 i c)
      = gradR (fun y => A y + B y) R G (fun y => ∑ k, Q k * W y k) c := by
  unfold gradR
  rw [← pay28 ha hb hg hq hw, ← sig26 hr]
  pointwise [k0_pay30, k0_pay3, hr]

/-- The sum's gradient in the block's entry. -/
theorem pay37' {Q : Fin 1024 → EReal} {W : Fin 1024 → Fin 1024 → EReal} (ha : ∀ y, a (ix2 i y) = A y) (hb : ∀ y, b (ix2 i y) = B y)
    (hr : ∀ y, r (ix2 i y) = R y) (hg : ∀ y, g (ix2 0 y) = G y) (hq : ∀ k, q (ix2 i k) = Q k) (hw : ∀ y k, w (ix2 y k) = W y k) (c : Fin 1024) :
    k0_pay37 (F := Ideal) (k0_pay6 a b) (k0_pay8 a b) (k0_pay9 a b) (k0_pay11 a b) (k0_pay13 a b) (k0_pay14 a b)
      (k0_pay33 (k0_pay4 g) (k0_pay29 (k0_pay3 r) q w)) (k0_pay34 (k0_pay4 g) (k0_pay29 (k0_pay3 r) q w))
      (k0_pay35 (k0_pay4 g) (k0_pay21 (k0_pay5 a b)) (k0_pay23 (k0_pay5 a b)) (k0_pay24 (k0_pay5 a b)) (k0_pay29 (k0_pay3 r) q w)) (Scalar.ofBits .f32 0x00000000#32)
      (k0_pay36 (k0_pay4 g) (k0_pay16 a b) (k0_pay19 (k0_pay17 a b)) (k0_pay20 (k0_pay17 a b)) (k0_pay29 (k0_pay3 r) q w)) (ix2 i c)
      = gradO (fun y => A y + B y) R G (fun y => ∑ k, Q k * W y k) c := by
  have h4 : ∀ y, k0_pay4 (F := Ideal) g (ix2 0 y) = G y := fun y => by pointwise [k0_pay4, hg]
  rw [pay37]
  simp only [ha, hb, h4, pay29 hr hq hw]
  rfl

/-- The block's part of the gain's gradient. -/
theorem pay1 {A B R : Fin 512 → Fin 1024 → EReal} {Q : Fin 512 → Fin 1024 → EReal} {W : Fin 1024 → Fin 1024 → EReal} (ha : ∀ i y, a (ix2 i y) = A i y) (hb : ∀ i y, b (ix2 i y) = B i y)
    (hr : ∀ i y, r (ix2 i y) = R i y) (hq : ∀ i k, q (ix2 i k) = Q i k) (hw : ∀ y k, w (ix2 y k) = W y k) (p : Vec Ideal S1x1024 .f32) (k : Fin 1) (c : Fin 1024) :
    k0_pay1 (F := Ideal) (k0_pay31 (k0_pay25 (k0_pay5 a b) (k0_pay10 a b) (k0_pay15 a b) (k0_pay16 a b) (k0_pay17 a b)) (k0_pay29 (k0_pay3 r) q w)) p (ix2 k c)
      = (show EReal from p (ix2 k c)) + ∑ i, gradG (fun y => A i y + B i y) (R i) (fun y => ∑ k, Q i k * W y k) c := by
  pointwise [k0_pay1, k0_pay31]
  refine congrArg (fun x : EReal => (show EReal from p (ix2 k c)) + x) (Finset.sum_congr rfl fun i _ => ?_)
  refine (congrArg₂ (fun x y : EReal => x * y) (pay25 i c) (pay29 (hr i) (hq i) hw c)).trans ?_
  simp only [ha, hb]
  rfl
end

theorem idx : ∀ t : Fin cfg0.N, win0_0.index t = ![t.val, 0] ∧ win0_1.index t = ![t.val, 0] ∧ win0_2.index t = ![t.val, 2]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

variable (m : (ℓ : Loc nD τ sig) → Buf (Elt Ideal) ℓ) (c : Dev nD)

/-- The row of the array that row `r` of block `t` is. -/
def row (t : Fin cfg0.N) (r : Fin 512) : Fin 4096 := ⟨t.val * 512 + r.val, by have := lt_of_lt_of_eq t.isLt N_0; omega⟩

/-- The rows of the arguments. -/
def aF (i : Fin 4096) (y : Fin 1024) : EReal := m ((c : Thread nD τ).loc main_arg0) (ix2 i y)
def aB (i : Fin 4096) (y : Fin 1024) : EReal := m ((c : Thread nD τ).loc main_arg1) (ix2 i y)
def aR (i : Fin 4096) (y : Fin 1024) : EReal := m ((c : Thread nD τ).loc main_arg2) (ix2 i y)
def aG (y : Fin 1024) : EReal := m ((c : Thread nD τ).loc main_arg3) (ix1 y)
def aW (y k : Fin 1024) : EReal := m ((c : Thread nD τ).loc main_arg4) (ix2 y k)
def aQ (i : Fin 4096) (k : Fin 1024) : EReal := m ((c : Thread nD τ).loc main_arg5) (ix2 i k)

variable (t : Fin cfg0.N) (r : Fin 512)

theorem blk0 (y : Fin 1024) : iblk m c 0 t (ix2 r y) = aF m c (row t r) y := by
  unfold aF
  blk_ext [iblk, V, idx t, row]
theorem blk1 (y : Fin 1024) : iblk m c 1 t (ix2 r y) = aB m c (row t r) y := by
  unfold aB
  blk_ext [iblk, V, idx t, row]
theorem blk2 (y : Fin 1024) : iblk m c 2 t (ix2 r y) = aR m c (row t r) y := by
  unfold aR
  blk_simp [iblk, idx t]
  entry_read
  pointwise
  blk_simp [idx t]
  rw [dif_neg (by simp)]
  blk_ext [idx t, row]
theorem blk3 (y : Fin 1024) : iblk m c 3 t (ix2 0 y) = aG m c y := by
  unfold aG
  blk_simp [iblk, idx t]
  entry_read
  pointwise
  blk_ext [idx t]
theorem blk4 (k : Fin 1024) : iblk m c 4 t (ix2 r k) = aQ m c (row t r) k := by
  unfold aQ
  blk_simp [iblk, idx t]
  entry_read
  pointwise
  blk_ext [idx t, row]
theorem blk5 (y k : Fin 1024) : iblk m c 5 t (ix2 y k) = aW m c y k := by
  unfold aW
  blk_simp [iblk, idx t]
  entry_read
  pointwise
  blk_ext [idx t]

/-- The sum of the two directions, and the gradient of the gated row. -/
def aO (i : Fin 4096) (y : Fin 1024) : EReal := aF m c i y + aB m c i y
def aD (i : Fin 4096) (y : Fin 1024) : EReal := ∑ k, aQ m c i k * aW m c y k

/-- The three results. -/
def dO : S4096x1024.Idx → EReal := fun i => gradO (aO m c (i 0)) (aR m c (i 0)) (aG m c) (aD m c (i 0)) (i 1)
def dR : S4096x1024.Idx → EReal := fun i => gradR (aO m c (i 0)) (aR m c (i 0)) (aG m c) (aD m c (i 0)) (i 1)
def dG : S1x1024.Idx → EReal := fun i => ∑ n : Fin 4096, gradG (aO m c n) (aR m c n) (aD m c n) (i 1)

theorem after6 (y : S512x1024.Idx) : (outsAt0 m c t.val t.isLt).1 y = dO m c (ix2 (row t (y 0)) (y 1)) := by
  idx_vars y
  by_cases h0 : t.val % 8 = 0
  · rw [outsAt0_A m c t h0]
    frame_out
    exact pay37' (blk0 m c t _) (blk1 m c t _) (blk2 m c t _) (blk3 m c t) (blk4 m c t _) (blk5 m c t) _
  · rw [outsAt0_B m c t h0]
    frame_out
    exact pay37' (blk0 m c t _) (blk1 m c t _) (blk2 m c t _) (blk3 m c t) (blk4 m c t _) (blk5 m c t) _

theorem after7 (y : S512x1024.Idx) : (outsAt0 m c t.val t.isLt).2.1 y = dR m c (ix2 (row t (y 0)) (y 1)) := by
  idx_vars y
  by_cases h0 : t.val % 8 = 0
  · rw [outsAt0_A m c t h0]
    frame_out
    exact pay30 (blk0 m c t _) (blk1 m c t _) (blk2 m c t _) (blk3 m c t) (blk4 m c t _) (blk5 m c t) _
  · rw [outsAt0_B m c t h0]
    frame_out
    exact pay30 (blk0 m c t _) (blk1 m c t _) (blk2 m c t _) (blk3 m c t) (blk4 m c t _) (blk5 m c t) _

/-- The sum's gradient after the run. -/
theorem final6 : (dats m 0 c).arrAt 6 (cfgs 0).N = dO m c := by
  refine (dats m 0 c).arrAt_eq_of_covers 6 _ (by decide +kernel) fun t _ y => ?_
  blk_simp
  rw [after0_6, after6]
  blk_ext [idx t, row]

/-- The gate's argument's gradient after the run. -/
theorem final7 : (dats m 0 c).arrAt 7 (cfgs 0).N = dR m c := by
  refine (dats m 0 c).arrAt_eq_of_covers 7 _ (by decide +kernel) fun t _ y => ?_
  blk_simp
  rw [after0_7, after7]
  blk_ext [idx t, row]

theorem zero2 (j) : k0_pay2 (F := Ideal) j = 0 := by pointwise [k0_pay2]

/-- The gain's gradient after the run. -/
theorem final8 : (dats m 0 c).arrAt 8 (cfgs 0).N = dG m c := by
  refine (dats m 0 c).arrAt_eq_of_after_last 8 t0_7 (by decide +kernel) _ fun j => ?_
  blk_simp
  rw [after0_8, Pipeline.eq_sum_fin_of_reset_step_apply_last (fun n h => (outsAt0 m c n h).2.2) 8 (fun _ => 0)
    (fun t j => (∑ r : Fin 512, gradG (aO m c (row t r)) (aR m c (row t r)) (aD m c (row t r)) (j 1) : EReal))
    (fun t h j => by
      idx_vars j
      rw [outsAt0_A m c t h]
      frame_out
      rw [pay1 (fun i => blk0 m c t i) (fun i => blk1 m c t i) (fun i => blk2 m c t i) (fun i => blk4 m c t i) (blk5 m c t), zero2]
      rfl)
    (fun t h j => by
      idx_vars j
      rw [outsAt0_B m c t h]
      frame_out
      rw [pay1 (fun i => blk0 m c t i) (fun i => blk1 m c t i) (fun i => blk2 m c t i) (fun i => blk4 m c t i) (blk5 m c t)]
      rfl)
    (le_of_eq N_0) t0_7 rfl j, zero_add]
  exact sum_blocks 8 512 4096 N_0 rfl (fun n : Fin 4096 => gradG (aO m c n) (aR m c n) (aD m c n) (j 1)) row fun _ _ => rfl

end Cert.Comb1KIdeal.Value

end
-- ==== Proof.Comb1Claim.lean ====
/- The gradient of GLA's head norm and output gate: the kernel's results are those of the reference, on any extended reals. -/
module

public import proofs.«01_k».proof.Defs
public import proofs.«01_k».proof.Proof.Comb1Kernel
public import proofs.«01_k».proof.Proof.Gen.Comb1RIdeal.Run

@[expose] public section

set_option maxRecDepth 16384

noncomputable section

open Idealize.ShloMosaic Idealize.ShloMosaic.TcCoe Idealize.SL.Sem Cert.Reals

namespace Cert.Comb1Claim

instance : Cert.Comb1KIdeal.Facts := Cert.Comb1KIdeal.Gen.facts

set_option maxHeartbeats 2000000 in
open Cert.Comb1KIdeal.Value in
theorem algebraic : Cert.algebraic_Comb1KIdeal_Comb1RIdeal (hComb1KIdeal := Cert.Comb1KIdeal.Gen.facts)
    (hComb1RIdeal := Cert.Comb1RIdeal.Gen.facts) := by
  pair_intro
  · run_from Cert.Comb1KIdeal.Gen.run_main m g
  · run_from Cert.Comb1RIdeal.Value.run m' g'
    · rw [Cert.Comb1KIdeal.Value.final6]
      unfold Cert.Comb1RIdeal.Value.res_main_v51
      rw [(hagree c).1, (hagree c).2.1, (hagree c).2.2.1, (hagree c).2.2.2.1, (hagree c).2.2.2.2.1, (hagree c).2.2.2.2.2]
      funext j
      idx_vars j
      pointwise
      rfl
    · rw [Cert.Comb1KIdeal.Value.final7]
      funext j
      idx_vars j
      pointwise
      exact congrArg₂ (fun x y : EReal => x + y) rfl (mul_assoc _ _ _).symm
    · rw [Cert.Comb1KIdeal.Value.final8]
      funext j
      idx_vars j
      pointwise
      simp only [Finset.univ_unique, Finset.sum_const, Finset.card_singleton, one_smul]
      rfl

end Cert.Comb1Claim

end
-- ==== Proof.Comb0Kernel.lean ====
/- The gradient of the first layer's outputs (the gelu gate of the recurrent half, the head norm and output gate of the other half): what one block of 512 rows computes, and what the kernel's result
   arrays hold after the run, on any extended reals. -/
module

public import proofs.«01_k».proof.Proof.Gen.Comb0KIdeal.Value
public import proofs.«01_k».proof.Proof.Reals
public import proofs.«01_k».proof.Proof.HeadNorm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Reals
open Idealize.ShloMosaic.Pipeline (Dat)
open Cert.HeadNorm (lgs)

namespace Cert.Comb0KIdeal.Value

open Cert.Comb0KIdeal Cert.Comb0KIdeal.Gen

/-- The number of entries of a head as it is written in both programs. -/
def N : EReal := Ideal.ofBits .f32 1124073472#32

/-- The head of the row that column `c` lies in. -/
def head (f : Fin 512 → EReal) (c : Fin 512) : Fin 128 → EReal :=
  fun x => f ⟨c.val / 128 * 128 + x.val, Cert.HeadNorm.head_lt (k := 4) (by norm_num) c x⟩

/-- The normalised entry `c` of a row. -/
def nrm (o : Fin 512 → EReal) (c : Fin 512) : EReal := o c * Ideal.rsqrt (Cert.HeadNorm.ms N (head o c))

/-- The gradient of the row's entry: `o` the two directions' sum, `r` the gate's argument, `g` the gain, `d` the gradient of
    the gated row. -/
def gradO (o r g d : Fin 512 → EReal) (c : Fin 512) : EReal :=
  Cert.HeadNorm.grad N (head o c) (head (fun y => d y * (r y * lgs (r y)) * g y) c) (o c) (d c * (r c * lgs (r c)) * g c)

/-- The gradient of the gate's argument. -/
def gradR (o r g d : Fin 512 → EReal) (c : Fin 512) : EReal :=
  nrm o c * g c * d c * lgs (r c) + r c * (nrm o c * g c * d c) * lgs (r c) * (1 - lgs (r c))

/-- One row's part of the gain's gradient. -/
def gradG (o r d : Fin 512 → EReal) (c : Fin 512) : EReal := nrm o c * (d c * (r c * lgs (r c)))

/-- The hyperbolic tangent that gelu takes. -/
def th (x : EReal) : EReal := Ideal.tanh (Ideal.ofBits .f32 1061962282#32 * (x + Ideal.ofBits .f32 1027024659#32 * (x * x * x)))

/-- Gelu. -/
def gelu (x : EReal) : EReal := Ideal.ofBits .f32 1056964608#32 * x * (1 + th x)

/-- The derivative through gelu's hyperbolic tangent: what its argument's two summands share. -/
def inner (x d : EReal) : EReal := Ideal.ofBits .f32 1061962282#32 * (Ideal.ofBits .f32 1056964608#32 * x * d * ((1 + th x) * (1 - th x)))

/-- The gradient of gelu's argument `x`, whose gelu has the gradient `d`. -/
def geluGrad (x d : EReal) : EReal :=
  inner x d + Ideal.ofBits .f32 1027024659#32 * inner x d * (((3 : ℝ) : EReal) * (x * x)) + Ideal.ofBits .f32 1056964608#32 * (d * (1 + th x))

section
variable {u v x a b g : Vec Ideal S512x512 .f32} {n : Vec Ideal S1x512 .f32} {q : Vec Ideal S512x1024 .bf16} {w : Vec Ideal S1024x1024 .bf16}

/-- The heads' gradient put together: each head's columns are one summand's, the other summands being zero there. -/
theorem pay53 (i c : Fin 512) :
    k0_pay53 (F := Ideal) (k0_pay14 a b) (k0_pay17 (k0_pay15 a b)) (k0_pay18 (k0_pay15 a b)) (k0_pay44 (k0_pay4 g) (k0_pay5 n) q w)
      (k0_pay50 (k0_pay25 (k0_pay13 a b)) (k0_pay27 (k0_pay13 a b)) (k0_pay28 (k0_pay13 a b)) (k0_pay30 (k0_pay13 a b)) (k0_pay34 (k0_pay31 (k0_pay13 a b)) (Scalar.ofBits .f32 0x358637BD#32))
        (k0_pay46 (k0_pay4 g) (k0_pay5 n) q w) (k0_pay47 (k0_pay4 g) (k0_pay5 n) q w) (k0_pay48 (k0_pay4 g) (k0_pay5 n) (k0_pay30 (k0_pay13 a b)) q w) (k0_pay49 (k0_pay31 (k0_pay13 a b)) (Scalar.ofBits .f32 0x358637BD#32)))
      (k0_pay51 (k0_pay20 (k0_pay13 a b)) (k0_pay22 (k0_pay13 a b)) (k0_pay23 (k0_pay13 a b)) (k0_pay45 (k0_pay4 g) (k0_pay5 n) q w))
      (Scalar.ofBits .f32 0x00000000#32) (k0_pay52 (F := Ideal)) (ix2 i c)
    = Cert.HeadNorm.grad N (head (fun y => (show EReal from a (ix2 i y)) + (show EReal from b (ix2 i y))) c)
        (head (fun y => k0_pay43 (F := Ideal) (k0_pay4 g) (k0_pay5 n) q w (ix2 i y)) c)
        ((show EReal from a (ix2 i c)) + (show EReal from b (ix2 i c))) (k0_pay43 (F := Ideal) (k0_pay4 g) (k0_pay5 n) q w (ix2 i c)) := by
  pointwise [k0_pay53, k0_pay52, k0_pay51, k0_pay50, k0_pay49, k0_pay48, k0_pay47, k0_pay46, k0_pay45, k0_pay44, k0_pay34, k0_pay33,
    k0_pay32, k0_pay31, k0_pay30, k0_pay28, k0_pay27, k0_pay26, k0_pay25, k0_pay23, k0_pay22, k0_pay21, k0_pay20, k0_pay18, k0_pay17,
    k0_pay16, k0_pay15, k0_pay14, k0_pay13]
  unfold Cert.HeadNorm.grad Cert.HeadNorm.share Cert.HeadNorm.ms head N
  have hcl := c.isLt
  rcases (by omega : c.val < 128 ∨ (128 ≤ c.val ∧ c.val < 256) ∨ (256 ≤ c.val ∧ c.val < 384) ∨ 384 ≤ c.val) with h | h | h | h
  · have hd : c.val / 128 * 128 = 0 := by omega
    simp (discharger := omega) only [hd, dif_pos, dif_neg, zero_add, add_zero]
  · have hd : c.val / 128 * 128 = 128 := by omega
    simp (discharger := omega) only [hd, dif_pos, dif_neg, zero_add, add_zero, Nat.sub_sub, Nat.reduceAdd, Nat.add_sub_cancel' h.1]
  · have hd : c.val / 128 * 128 = 256 := by omega
    simp (discharger := omega) only [hd, dif_pos, dif_neg, zero_add, add_zero, Nat.sub_sub, Nat.reduceAdd, Nat.add_sub_cancel' h.1]
  · have hd : c.val / 128 * 128 = 384 := by omega
    simp (discharger := omega) only [hd, dif_pos, dif_neg, zero_add, add_zero, Nat.sub_sub, Nat.reduceAdd, Nat.add_sub_cancel' h]

/-- The normalised block. -/
theorem pay35 (i c : Fin 512) :
    k0_pay35 (F := Ideal) (k0_pay19 (k0_pay14 a b) (k0_pay15 a b)) (k0_pay24 (k0_pay13 a b)) (k0_pay29 (k0_pay13 a b)) (k0_pay30 (k0_pay13 a b)) (k0_pay31 (k0_pay13 a b)) (Scalar.ofBits .f32 0x358637BD#32) (ix2 i c)
      = nrm (fun y => (show EReal from a (ix2 i y)) + (show EReal from b (ix2 i y))) c := by
  pointwise [k0_pay35, k0_pay33, k0_pay32, k0_pay31, k0_pay30, k0_pay29, k0_pay27, k0_pay26, k0_pay25, k0_pay24, k0_pay22, k0_pay21,
    k0_pay20, k0_pay19, k0_pay17, k0_pay16, k0_pay15, k0_pay14, k0_pay13]
  unfold nrm Cert.HeadNorm.ms head N
  have hcl := c.isLt
  rcases (by omega : c.val < 128 ∨ (128 ≤ c.val ∧ c.val < 256) ∨ (256 ≤ c.val ∧ c.val < 384) ∨ 384 ≤ c.val) with h | h | h | h
  · have hd : c.val / 128 * 128 = 0 := by omega
    simp (discharger := omega) only [hd, dif_pos, dif_neg, zero_add, add_zero]
  · have hd : c.val / 128 * 128 = 128 := by omega
    simp (discharger := omega) only [hd, dif_pos, dif_neg, zero_add, add_zero, Nat.sub_sub, Nat.reduceAdd, Nat.add_sub_cancel' h.1]
  · have hd : c.val / 128 * 128 = 256 := by omega
    simp (discharger := omega) only [hd, dif_pos, dif_neg, zero_add, add_zero, Nat.sub_sub, Nat.reduceAdd, Nat.add_sub_cancel' h.1]
  · have hd : c.val / 128 * 128 = 384 := by omega
    simp (discharger := omega) only [hd, dif_pos, dif_neg, zero_add, add_zero, Nat.sub_sub, Nat.reduceAdd, Nat.add_sub_cancel' h]

variable {U V X A B R G : Fin 512 → EReal} {Q : Fin 1024 → EReal} {W : Fin 1024 → Fin 1024 → EReal} {i : Fin 512}

/-- The two halves' columns of the gradient's row. -/
def lo (d : Fin 1024 → EReal) (c : Fin 512) : EReal := d ⟨c.val, by omega⟩
def hi (d : Fin 1024 → EReal) (c : Fin 512) : EReal := d ⟨512 + c.val, by omega⟩

theorem lgs36 (hr : ∀ y, g (ix2 i y) = R y) (c : Fin 512) : k0_pay36 (F := Ideal) (k0_pay4 g) (ix2 i c) = lgs (R c) := by
  pointwise [k0_pay36, k0_pay4, hr]
  rw [zero_sub]
  rfl

theorem pay40 (hr : ∀ y, g (ix2 i y) = R y) (hq : ∀ k, q (ix2 i k) = Q k) (hw : ∀ y k, w (ix2 y k) = W y k) (c : Fin 512) :
    k0_pay40 (F := Ideal) (k0_pay4 g) q w (ix2 i c) = hi (fun y => ∑ k, Q k * W y k) c * (R c * lgs (R c)) := by
  pointwise [k0_pay40, k0_pay39, k0_pay37, k0_pay36, k0_pay4, hr, hq, hw]
  rw [zero_sub]
  rfl

theorem pay43 (hr : ∀ y, g (ix2 i y) = R y) (hg : ∀ y, n (ix2 0 y) = G y) (hq : ∀ k, q (ix2 i k) = Q k) (hw : ∀ y k, w (ix2 y k) = W y k) (c : Fin 512) :
    k0_pay43 (F := Ideal) (k0_pay4 g) (k0_pay5 n) q w (ix2 i c) = hi (fun y => ∑ k, Q k * W y k) c * (R c * lgs (R c)) * G c := by
  rw [← pay40 hr hq hw]
  pointwise [k0_pay43, k0_pay5, hg]

/-- The sum's gradient in the block's entry. -/
theorem pay53' (ha : ∀ y, a (ix2 i y) = A y) (hb : ∀ y, b (ix2 i y) = B y)
    (hr : ∀ y, g (ix2 i y) = R y) (hg : ∀ y, n (ix2 0 y) = G y) (hq : ∀ k, q (ix2 i k) = Q k) (hw : ∀ y k, w (ix2 y k) = W y k) (c : Fin 512) :
    k0_pay53 (F := Ideal) (k0_pay14 a b) (k0_pay17 (k0_pay15 a b)) (k0_pay18 (k0_pay15 a b)) (k0_pay44 (k0_pay4 g) (k0_pay5 n) q w)
      (k0_pay50 (k0_pay25 (k0_pay13 a b)) (k0_pay27 (k0_pay13 a b)) (k0_pay28 (k0_pay13 a b)) (k0_pay30 (k0_pay13 a b)) (k0_pay34 (k0_pay31 (k0_pay13 a b)) (Scalar.ofBits .f32 0x358637BD#32))
        (k0_pay46 (k0_pay4 g) (k0_pay5 n) q w) (k0_pay47 (k0_pay4 g) (k0_pay5 n) q w) (k0_pay48 (k0_pay4 g) (k0_pay5 n) (k0_pay30 (k0_pay13 a b)) q w) (k0_pay49 (k0_pay31 (k0_pay13 a b)) (Scalar.ofBits .f32 0x358637BD#32)))
      (k0_pay51 (k0_pay20 (k0_pay13 a b)) (k0_pay22 (k0_pay13 a b)) (k0_pay23 (k0_pay13 a b)) (k0_pay45 (k0_pay4 g) (k0_pay5 n) q w))
      (Scalar.ofBits .f32 0x00000000#32) (k0_pay52 (F := Ideal)) (ix2 i c)
      = gradO (fun y => A y + B y) R G (hi fun y => ∑ k, Q k * W y k) c := by
  rw [pay53]
  simp only [ha, hb, pay43 hr hg hq hw]
  rfl

/-- The gate's argument's gradient in the block's entry. -/
theorem pay41 (ha : ∀ y, a (ix2 i y) = A y) (hb : ∀ y, b (ix2 i y) = B y)
    (hr : ∀ y, g (ix2 i y) = R y) (hg : ∀ y, n (ix2 0 y) = G y) (hq : ∀ k, q (ix2 i k) = Q k) (hw : ∀ y k, w (ix2 y k) = W y k) (c : Fin 512) :
    k0_pay41 (F := Ideal) (k0_pay4 g) (k0_pay5 n) (k0_pay19 (k0_pay14 a b) (k0_pay15 a b)) (k0_pay24 (k0_pay13 a b)) (k0_pay29 (k0_pay13 a b)) (k0_pay30 (k0_pay13 a b)) (k0_pay31 (k0_pay13 a b)) (Scalar.ofBits .f32 0x358637BD#32) q w (ix2 i c)
      = gradR (fun y => A y + B y) R G (hi fun y => ∑ k, Q k * W y k) c := by
  have h := pay35 (a := a) (b := b) i c
  simp only [ha, hb] at h
  unfold gradR hi
  rw [← h, ← lgs36 hr]
  pointwise [k0_pay41, k0_pay39, k0_pay37, k0_pay5, k0_pay4, hr, hg, hq, hw]

/-- The recurrent half's gradient in the block's entry. -/
theorem pay54 (hx : ∀ y, x (ix2 i y) = X y) (hq : ∀ k, q (ix2 i k) = Q k) (hw : ∀ y k, w (ix2 y k) = W y k) (c : Fin 512) :
    k0_pay54 (F := Ideal) (k0_pay12 x) (k0_pay38 q w) (ix2 i c) = lo (fun y => ∑ k, Q k * W y k) c * gelu (X c) := by
  pointwise [k0_pay54, k0_pay38, k0_pay37, k0_pay12, k0_pay11, k0_pay9, k0_pay8, k0_pay7, k0_pay3, hx, hq, hw]
  rfl

/-- The three products of the block's sum are three times one product. -/
theorem gelu_sum (p z x h : EReal) : p + x * x * z + x * (z * x) + z * x * x + h = p + z * (((3 : ℝ) : EReal) * (x * x)) + h := by
  rw [mul_left_comm z, three_mul, mul_comm (x * x) z, mul_left_comm x z x, mul_assoc z x x, add_assoc p, add_assoc p, add_assoc]

/-- The gelu gate's argument's gradient in the block's entry. -/
theorem pay55 (hu : ∀ y, u (ix2 i y) = U y) (hv : ∀ y, v (ix2 i y) = V y) (hx : ∀ y, x (ix2 i y) = X y) (hq : ∀ k, q (ix2 i k) = Q k)
    (hw : ∀ y k, w (ix2 y k) = W y k) (c : Fin 512) :
    k0_pay55 (F := Ideal) (k0_pay3 x) (k0_pay6 u v) (k0_pay7 x) (k0_pay8 x) (k0_pay10 x) (k0_pay11 x) (k0_pay38 q w) (ix2 i c)
      = geluGrad (X c) ((U c + V c) * lo (fun y => ∑ k, Q k * W y k) c) := by
  pointwise [k0_pay55, k0_pay38, k0_pay37, k0_pay11, k0_pay10, k0_pay9, k0_pay8, k0_pay7, k0_pay6, k0_pay3, hu, hv, hx, hq, hw]
  exact gelu_sum _ _ _ _

/-- The block's part of the gain's gradient. -/
theorem pay1 {A B R : Fin 512 → Fin 512 → EReal} {Q : Fin 512 → Fin 1024 → EReal} (ha : ∀ i y, a (ix2 i y) = A i y) (hb : ∀ i y, b (ix2 i y) = B i y)
    (hr : ∀ i y, g (ix2 i y) = R i y) (hq : ∀ i k, q (ix2 i k) = Q i k) (hw : ∀ y k, w (ix2 y k) = W y k) (p : Vec Ideal S1x512 .f32) (k : Fin 1) (c : Fin 512) :
    k0_pay1 (F := Ideal) (k0_pay42 (k0_pay4 g) (k0_pay19 (k0_pay14 a b) (k0_pay15 a b)) (k0_pay24 (k0_pay13 a b)) (k0_pay29 (k0_pay13 a b)) (k0_pay30 (k0_pay13 a b)) (k0_pay31 (k0_pay13 a b)) (Scalar.ofBits .f32 0x358637BD#32) q w) p (ix2 k c)
      = (show EReal from p (ix2 k c)) + ∑ i, gradG (fun y => A i y + B i y) (R i) (hi fun y => ∑ k, Q i k * W y k) c := by
  pointwise [k0_pay1, k0_pay42]
  refine congrArg (fun x : EReal => (show EReal from p (ix2 k c)) + x) (Finset.sum_congr rfl fun i _ => ?_)
  refine (congrArg₂ (fun x y : EReal => x * y) (pay35 i c) (pay40 (hr i) (hq i) hw c)).trans ?_
  simp only [ha, hb]
  rfl
end

theorem idx : ∀ t : Fin cfg0.N, win0_0.index t = ![t.val, 0] ∧ win0_1.index t = ![t.val, 0] ∧ win0_2.index t = ![t.val, 1]
    ∧ win0_3.index t = ![t.val, 0] ∧ win0_4.index t = ![t.val, 0] ∧ win0_5.index t = ![t.val, 6] ∧ win0_6.index t = ![0, 0]
    ∧ win0_7.index t = ![t.val, 0] ∧ win0_8.index t = ![0, 0] ∧ win0_9.index t = ![t.val, 0] ∧ win0_10.index t = ![t.val, 0]
    ∧ win0_11.index t = ![t.val, 0] ∧ win0_12.index t = ![t.val, 0] ∧ win0_13.index t = ![0, 0] :=
  (by decide +kernel : ∀ t : Fin grid0.N, _)

variable (m : (ℓ : Loc nD τ sig) → Buf (Elt Ideal) ℓ) (c : Dev nD)

/-- The row of the array that row `r` of block `t` is. -/
def row (t : Fin cfg0.N) (r : Fin 512) : Fin 4096 := ⟨t.val * 512 + r.val, by have := lt_of_lt_of_eq t.isLt N_0; omega⟩

/-- The rows of the arguments. -/
def aU (i : Fin 4096) (y : Fin 512) : EReal := m ((c : Thread nD τ).loc main_arg0) (ix2 i y)
def aV (i : Fin 4096) (y : Fin 512) : EReal := m ((c : Thread nD τ).loc main_arg1) (ix2 i y)
def aX (i : Fin 4096) (y : Fin 512) : EReal := m ((c : Thread nD τ).loc main_arg2) (ix2 i y)
def aF (i : Fin 4096) (y : Fin 512) : EReal := m ((c : Thread nD τ).loc main_arg3) (ix2 i y)
def aB (i : Fin 4096) (y : Fin 512) : EReal := m ((c : Thread nD τ).loc main_arg4) (ix2 i y)
def aR (i : Fin 4096) (y : Fin 512) : EReal := m ((c : Thread nD τ).loc main_arg5) (ix2 i y)
def aG (y : Fin 512) : EReal := m ((c : Thread nD τ).loc main_arg6) (ix1 y)
def aW (y k : Fin 1024) : EReal := m ((c : Thread nD τ).loc main_arg7) (ix2 y k)
def aQ (i : Fin 4096) (k : Fin 1024) : EReal := m ((c : Thread nD τ).loc main_arg8) (ix2 i k)

variable (t : Fin cfg0.N) (r : Fin 512)

theorem blk0 (y : Fin 512) : iblk m c 0 t (ix2 r y) = aU m c (row t r) y := by
  unfold aU
  blk_ext [iblk, V, idx t, row]
theorem blk1 (y : Fin 512) : iblk m c 1 t (ix2 r y) = aV m c (row t r) y := by
  unfold aV
  blk_ext [iblk, V, idx t, row]
/-- Equal pieces make equal concatenations. -/
theorem cat_congr {a a' : Vec Ideal S4096x512 .f32} {b b' : Vec Ideal S4096x512 .f32} {d d' : Vec Ideal S4096x2048 .f32}
    {e e' : Vec Ideal S4096x512 .f32} (ha : a = a') (hb : b = b') (hd : d = d') (he : e = e') :
    concatenate S4096x3584 1 [⟨S4096x512, a⟩, ⟨S4096x512, b⟩, ⟨S4096x2048, d⟩, ⟨S4096x512, e⟩]
        concatenates_S4096x512_S4096x512_S4096x2048_S4096x512_S4096x3584_d1
      = concatenate S4096x3584 1 [⟨S4096x512, a'⟩, ⟨S4096x512, b'⟩, ⟨S4096x2048, d'⟩, ⟨S4096x512, e'⟩]
        concatenates_S4096x512_S4096x512_S4096x2048_S4096x512_S4096x3584_d1 := by
  subst ha hb hd he
  rfl
/-- The array of the gates' column ranges, as the host lays it out. -/
theorem gates : V m c main_v2 = concatenate S4096x3584 1
    [⟨S4096x512, broadcastInDim S4096x512 ![] bcast_S_S4096x512 (constant (F := Ideal) S_ .f32 0x00000000#32)⟩,
      ⟨S4096x512, (show Vec Ideal S4096x512 .f32 from m ((c : Thread nD τ).loc main_arg2))⟩,
      ⟨S4096x2048, broadcastInDim S4096x2048 ![] bcast_S_S4096x2048 (constant (F := Ideal) S_ .f32 0x00000000#32)⟩,
      ⟨S4096x512, (show Vec Ideal S4096x512 .f32 from m ((c : Thread nD τ).loc main_arg5))⟩]
    concatenates_S4096x512_S4096x512_S4096x2048_S4096x512_S4096x3584_d1 := by
  unfold V
  rw [hostOps0]
  after_results
  refine cat_congr ?_ ?_ ?_ ?_
  · show HloOp.result _ _ (Proc.tc.devRef main_v0) = _
    after_results_simp
  · show HloOp.result _ _ (Proc.tc.devRef main_arg2) = _
    after_results_simp
  · show HloOp.result _ _ (Proc.tc.devRef main_v1) = _
    after_results_simp
  · show HloOp.result _ _ (Proc.tc.devRef main_arg5) = _
    after_results_simp
theorem blk2 (y : Fin 512) : iblk m c 2 t (ix2 r y) = aX m c (row t r) y := by
  unfold aX
  rw [iblk, gates]
  blk_simp [idx t]
  pointwise
  blk_simp [idx t]
  rw [dif_neg (by simp), dif_pos (by simp)]
  blk_ext [idx t, row]
theorem blk3 (y : Fin 512) : iblk m c 3 t (ix2 r y) = aF m c (row t r) y := by
  unfold aF
  blk_ext [iblk, V, idx t, row]
theorem blk4 (y : Fin 512) : iblk m c 4 t (ix2 r y) = aB m c (row t r) y := by
  unfold aB
  blk_ext [iblk, V, idx t, row]
theorem blk5 (y : Fin 512) : iblk m c 5 t (ix2 r y) = aR m c (row t r) y := by
  unfold aR
  rw [iblk, gates]
  blk_simp [idx t]
  pointwise
  blk_simp [idx t]
  rw [dif_neg (by simp; omega), dif_neg (by simp; omega), dif_neg (by simp; omega)]
  blk_ext [idx t, row]
theorem blk6 (y : Fin 512) : iblk m c 6 t (ix2 0 y) = aG m c y := by
  unfold aG
  blk_simp [iblk, idx t]
  entry_read
  pointwise
  blk_ext [idx t]
theorem blk7 (k : Fin 1024) : iblk m c 7 t (ix2 r k) = aQ m c (row t r) k := by
  unfold aQ
  blk_simp [iblk, idx t]
  entry_read
  pointwise
  blk_ext [idx t, row]
theorem blk8 (y k : Fin 1024) : iblk m c 8 t (ix2 y k) = aW m c y k := by
  unfold aW
  blk_simp [iblk, idx t]
  entry_read
  pointwise
  blk_ext [idx t]

/-- The sum of the two directions, and the gradient of the gated row. -/
def aO (i : Fin 4096) (y : Fin 512) : EReal := aF m c i y + aB m c i y
def aD (i : Fin 4096) (y : Fin 1024) : EReal := ∑ k, aQ m c i k * aW m c y k

/-- The five results. -/
def dH : S4096x512.Idx → EReal := fun i => lo (aD m c (i 0)) (i 1) * gelu (aX m c (i 0) (i 1))
def dX : S4096x512.Idx → EReal := fun i => geluGrad (aX m c (i 0) (i 1)) ((aU m c (i 0) (i 1) + aV m c (i 0) (i 1)) * lo (aD m c (i 0)) (i 1))
def dO : S4096x512.Idx → EReal := fun i => gradO (aO m c (i 0)) (aR m c (i 0)) (aG m c) (hi (aD m c (i 0))) (i 1)
def dR : S4096x512.Idx → EReal := fun i => gradR (aO m c (i 0)) (aR m c (i 0)) (aG m c) (hi (aD m c (i 0))) (i 1)
def dG : S1x512.Idx → EReal := fun i => ∑ n : Fin 4096, gradG (aO m c n) (aR m c n) (hi (aD m c n)) (i 1)

theorem after9 (y : S512x512.Idx) : (outsAt0 m c t.val t.isLt).1 y = dH m c (ix2 (row t (y 0)) (y 1)) := by
  idx_vars y
  by_cases h0 : t.val % 8 = 0
  · rw [outsAt0_A m c t h0]
    frame_out
    exact pay54 (blk2 m c t _) (blk7 m c t _) (blk8 m c t) _
  · rw [outsAt0_B m c t h0]
    frame_out
    exact pay54 (blk2 m c t _) (blk7 m c t _) (blk8 m c t) _

/-- The recurrent half's gradient after the run. -/
theorem final9 : (dats m 0 c).arrAt 9 (cfgs 0).N = dH m c := by
  refine (dats m 0 c).arrAt_eq_of_covers 9 _ (by decide +kernel) fun t _ y => ?_
  blk_simp
  rw [after0_9, after9]
  blk_ext [idx t, row]

theorem after10 (y : S512x512.Idx) : (outsAt0 m c t.val t.isLt).2.1 y = dX m c (ix2 (row t (y 0)) (y 1)) := by
  idx_vars y
  by_cases h0 : t.val % 8 = 0
  · rw [outsAt0_A m c t h0]
    frame_out
    exact pay55 (blk0 m c t _) (blk1 m c t _) (blk2 m c t _) (blk7 m c t _) (blk8 m c t) _
  · rw [outsAt0_B m c t h0]
    frame_out
    exact pay55 (blk0 m c t _) (blk1 m c t _) (blk2 m c t _) (blk7 m c t _) (blk8 m c t) _

/-- The gelu gate's argument's gradient after the run. -/
theorem final10 : (dats m 0 c).arrAt 10 (cfgs 0).N = dX m c := by
  refine (dats m 0 c).arrAt_eq_of_covers 10 _ (by decide +kernel) fun t _ y => ?_
  blk_simp
  rw [after0_10, after10]
  blk_ext [idx t, row]

theorem after11 (y : S512x512.Idx) : (outsAt0 m c t.val t.isLt).2.2.1 y = dO m c (ix2 (row t (y 0)) (y 1)) := by
  idx_vars y
  by_cases h0 : t.val % 8 = 0
  · rw [outsAt0_A m c t h0]
    frame_out
    exact pay53' (blk3 m c t _) (blk4 m c t _) (blk5 m c t _) (blk6 m c t) (blk7 m c t _) (blk8 m c t) _
  · rw [outsAt0_B m c t h0]
    frame_out
    exact pay53' (blk3 m c t _) (blk4 m c t _) (blk5 m c t _) (blk6 m c t) (blk7 m c t _) (blk8 m c t) _

/-- The normalised half's gradient after the run. -/
theorem final11 : (dats m 0 c).arrAt 11 (cfgs 0).N = dO m c := by
  refine (dats m 0 c).arrAt_eq_of_covers 11 _ (by decide +kernel) fun t _ y => ?_
  blk_simp
  rw [after0_11, after11]
  blk_ext [idx t, row]

theorem after12 (y : S512x512.Idx) : (outsAt0 m c t.val t.isLt).2.2.2.1 y = dR m c (ix2 (row t (y 0)) (y 1)) := by
  idx_vars y
  by_cases h0 : t.val % 8 = 0
  · rw [outsAt0_A m c t h0]
    frame_out
    exact pay41 (blk3 m c t _) (blk4 m c t _) (blk5 m c t _) (blk6 m c t) (blk7 m c t _) (blk8 m c t) _
  · rw [outsAt0_B m c t h0]
    frame_out
    exact pay41 (blk3 m c t _) (blk4 m c t _) (blk5 m c t _) (blk6 m c t) (blk7 m c t _) (blk8 m c t) _

/-- The output gate's argument's gradient after the run. -/
theorem final12 : (dats m 0 c).arrAt 12 (cfgs 0).N = dR m c := by
  refine (dats m 0 c).arrAt_eq_of_covers 12 _ (by decide +kernel) fun t _ y => ?_
  blk_simp
  rw [after0_12, after12]
  blk_ext [idx t, row]

theorem zero2 (j) : k0_pay2 (F := Ideal) j = 0 := by pointwise [k0_pay2]

/-- The gain's gradient after the run. -/
theorem final13 : (dats m 0 c).arrAt 13 (cfgs 0).N = dG m c := by
  refine (dats m 0 c).arrAt_eq_of_after_last 13 t0_7 (by decide +kernel) _ fun j => ?_
  blk_simp
  rw [after0_13, Pipeline.eq_sum_fin_of_reset_step_apply_last (fun n h => (outsAt0 m c n h).2.2.2.2) 8 (fun _ => 0)
    (fun t j => (∑ r : Fin 512, gradG (aO m c (row t r)) (aR m c (row t r)) (hi (aD m c (row t r))) (j 1) : EReal))
    (fun t h j => by
      idx_vars j
      rw [outsAt0_A m c t h]
      frame_out
      rw [pay1 (fun i => blk3 m c t i) (fun i => blk4 m c t i) (fun i => blk5 m c t i) (fun i => blk7 m c t i) (blk8 m c t), zero2]
      rfl)
    (fun t h j => by
      idx_vars j
      rw [outsAt0_B m c t h]
      frame_out
      rw [pay1 (fun i => blk3 m c t i) (fun i => blk4 m c t i) (fun i => blk5 m c t i) (fun i => blk7 m c t i) (blk8 m c t)]
      rfl)
    (le_of_eq N_0) t0_7 rfl j, zero_add]
  exact sum_blocks 8 512 4096 N_0 rfl (fun n : Fin 4096 => gradG (aO m c n) (aR m c n) (hi (aD m c n)) (j 1)) row fun _ _ => rfl

end Cert.Comb0KIdeal.Value

end
-- ==== Proof.Comb0Claim.lean ====
/- The gradient of the first layer's outputs: the kernel's results are those of the reference, on any extended reals. -/
module

public import proofs.«01_k».proof.Defs
public import proofs.«01_k».proof.Proof.Comb0Kernel
public import proofs.«01_k».proof.Proof.Gen.Comb0RIdeal.Run

@[expose] public section

set_option maxRecDepth 16384

noncomputable section

open Idealize.ShloMosaic Idealize.ShloMosaic.TcCoe Idealize.SL.Sem Cert.Reals

namespace Cert.Comb0Claim

instance : Cert.Comb0KIdeal.Facts := Cert.Comb0KIdeal.Gen.facts

/-- The reference writes the products of gelu's gradient in another order. -/
theorem gelu_ref (k h x d z s u a : EReal) : d * (h * s) + k * (h * (x * d) * u) + a * (k * (h * (x * d) * u)) * z
    = k * (h * x * d * u) + a * (k * (h * x * d * u)) * z + h * (d * s) := by
  rw [mul_assoc h x d, mul_left_comm d h s, add_assoc, add_comm]

set_option maxHeartbeats 2000000 in
open Cert.Comb0KIdeal.Value in
theorem algebraic : Cert.algebraic_Comb0KIdeal_Comb0RIdeal (hComb0KIdeal := Cert.Comb0KIdeal.Gen.facts)
    (hComb0RIdeal := Cert.Comb0RIdeal.Gen.facts) := by
  pair_intro
  · run_from Cert.Comb0KIdeal.Gen.run_main m g
  · run_from Cert.Comb0RIdeal.Value.run m' g'
    · rw [Cert.Comb0KIdeal.Value.final9]
      funext j
      idx_vars j
      pointwise
      exact congrArg (fun x : EReal => lo (aD m c j0) j1 * x)
        ((mul_left_comm _ _ _).trans (mul_assoc _ _ _).symm)
    · rw [Cert.Comb0KIdeal.Value.final10]
      unfold Cert.Comb0RIdeal.Value.res_main_v91
      rw [(hagree c).1, (hagree c).2.1, (hagree c).2.2.1, (hagree c).2.2.2.2.2.2.2.1, (hagree c).2.2.2.2.2.2.2.2]
      funext j
      idx_vars j
      pointwise
      rw [ofBits_three]
      exact gelu_ref _ _ _ _ _ _ _ _
    · rw [Cert.Comb0KIdeal.Value.final11]
      unfold Cert.Comb0RIdeal.Value.res_main_v77
      rw [(hagree c).2.2.2.1, (hagree c).2.2.2.2.1, (hagree c).2.2.2.2.2.1, (hagree c).2.2.2.2.2.2.1, (hagree c).2.2.2.2.2.2.2.1, (hagree c).2.2.2.2.2.2.2.2]
      funext j
      idx_vars j
      pointwise
      rfl
    · rw [Cert.Comb0KIdeal.Value.final12]
      unfold Cert.Comb0RIdeal.Value.res_main_v53
      rw [(hagree c).2.2.2.1, (hagree c).2.2.2.2.1, (hagree c).2.2.2.2.2.1, (hagree c).2.2.2.2.2.2.1, (hagree c).2.2.2.2.2.2.2.1, (hagree c).2.2.2.2.2.2.2.2]
      funext j
      idx_vars j
      pointwise
      exact congrArg₂ (fun x y : EReal => x + y) rfl (mul_assoc _ _ _).symm
    · rw [Cert.Comb0KIdeal.Value.final13]
      funext j
      idx_vars j
      pointwise
      simp only [Finset.univ_unique, Finset.sum_const, Finset.card_singleton, one_smul]
      rfl

end Cert.Comb0Claim

end
-- ==== Proof.ConvfKernel.lean ====
/- The depthwise convolution: what one block of 512 rows computes, and what the kernel's result array holds after the run. -/
module

public import proofs.«01_k».proof.Proof.Gen.ConvfKIdeal.Value
public import proofs.«01_k».proof.Proof.ConvPay
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Reals
open Idealize.ShloMosaic.Pipeline (Dat)

namespace Cert.ConvfKIdeal.Value

open Cert.ConvfKIdeal Cert.ConvfKIdeal.Gen

open Cert.ConvKIdeal.Value (tap tap_congr tap_eq tap_zero ext7)

/-- The block with its eight rows before and after, in one column of the input. -/
theorem ext2 {i : grid0.Coords} {t : ℕ} (hi : (i 0).val = t) (ht : t < 8) {f : Fin 4096 → EReal} {c : Fin 512}
    {cur : Vec Ideal S512x512 .f32} {prev next : Vec Ideal S8x512 .f32}
    (hc : ∀ r : Fin 512, cur (ix2 r c) = f ⟨t * 512 + r.val, by omega⟩)
    (hp : ∀ r : Fin 8, 0 < t → prev (ix2 r c) = f ⟨(t * 64 - 1) * 8 + r.val, by omega⟩)
    (hn : ∀ r : Fin 8, (h : t < 7) → next (ix2 r c) = f ⟨(t + 1) * 512 + r.val, by omega⟩) (n : Fin 528) :
    k0_pay2 (F := Ideal) i cur prev next (ix2 n c) = tap f (t * 512 + n.val) 8 :=
  ext7 hi ht hc hp hn n

/-- An entry of the convolution: the bias and four taps. -/
theorem pay1 {i : grid0.Coords} {t : ℕ} {f : Fin 4096 → EReal} {c : Fin 512}
    {cur : Vec Ideal S512x512 .f32} {prev next : Vec Ideal S8x512 .f32} {b w0 w1 w2 w3 : Vec Ideal S1x512 .f32}
    (he : ∀ n : Fin 528, k0_pay2 (F := Ideal) i cur prev next (ix2 n c) = tap f (t * 512 + n.val) 8) (r : Fin 512) :
    k0_pay1 (F := Ideal) (k0_pay3 i cur prev next b w0 w1 w2) (k0_pay4 w3) (k0_pay5 i cur prev next) (ix2 r c)
      = (show EReal from b (ix2 0 c)) + (show EReal from w0 (ix2 0 c)) * tap f (t * 512 + r.val) 2
        + (show EReal from w1 (ix2 0 c)) * tap f (t * 512 + r.val + 1) 2
        + (show EReal from w2 (ix2 0 c)) * tap f (t * 512 + r.val + 2) 2 + (show EReal from w3 (ix2 0 c)) * tap f (t * 512 + r.val + 3) 2 := by
  pointwise [k0_pay1, k0_pay3, k0_pay4, k0_pay5, he]
  have hr := r.isLt
  rw [tap_congr (n := t * 512 + (8 + r.val + 528 - 2) % 528) (n' := t * 512 + r.val) (b' := 2) (by omega),
    tap_congr (n := t * 512 + (8 + r.val + 528 - 1) % 528) (n' := t * 512 + r.val + 1) (b' := 2) (by omega),
    tap_congr (n := t * 512 + (8 + r.val)) (n' := t * 512 + r.val + 2) (b' := 2) (by omega),
    tap_congr (n := t * 512 + (8 + r.val + 528 - 527) % 528) (n' := t * 512 + r.val + 3) (b' := 2) (by omega)]

theorem idx : ∀ t : Fin cfg0.N, win0_0.index t = ![t.val, 0] ∧ win0_1.index t = ![t.val * 64 - 1, 0] ∧ win0_2.index t = ![min ((t.val + 1) * 64) 511, 0]
    ∧ win0_3.index t = ![0, 0] ∧ win0_4.index t = ![0, 0] ∧ win0_5.index t = ![t.val, 0] ∧ (grid0.coords t 0).val = t.val :=
  (by decide +kernel : ∀ t : Fin grid0.N, _)

variable (m : (ℓ : Loc nD τ sig) → Buf (Elt Ideal) ℓ) (c : Dev nD)

/-- The row of the array that row `r` of block `t` is. -/
def row (t : Fin cfg0.N) (r : Fin 512) : Fin 4096 := ⟨t.val * 512 + r.val, by have := lt_of_lt_of_eq t.isLt N_0; omega⟩

/-- A column of the input, the weights, the bias. -/
def X (k : Fin 512) (r : Fin 4096) : EReal := m ((c : Thread nD τ).loc main_arg0) (ix2 r ⟨k.val, by omega⟩)
def W (a : Fin 4) (k : Fin 512) : EReal := m ((c : Thread nD τ).loc main_arg1) (ix2 a k)
def B (k : Fin 512) : EReal := m ((c : Thread nD τ).loc main_arg2) (ix2 0 k)

variable (t : Fin cfg0.N) (k : Fin 512)

theorem lt8 : t.val < 8 := lt_of_lt_of_eq t.isLt N_0

theorem blk0 (r : Fin 512) : iblk m c 0 t (ix2 r k) = X m c k ⟨t.val * 512 + r.val, by have := lt8 t; omega⟩ := by
  unfold X
  blk_ext [iblk, V, idx t]
theorem blk1 (r : Fin 8) (h : 0 < t.val) : iblk m c 1 t (ix2 r k) = X m c k ⟨(t.val * 64 - 1) * 8 + r.val, by have := lt8 t; omega⟩ := by
  unfold X
  blk_ext [iblk, V, idx t]
theorem blk2 (r : Fin 8) (h : t.val < 7) : iblk m c 2 t (ix2 r k) = X m c k ⟨(t.val + 1) * 512 + r.val, by omega⟩ := by
  unfold X
  blk_ext [iblk, V, idx t]
theorem blk3 (a : Fin 4) : iblk m c 3 t (ix2 ⟨a.val, by omega⟩ k) = W m c a k := by
  have h : V m c main_v0 = pad S8x512 ![0, 0] ![4, 0] ![0, 0] (show Vec Ideal S4x512 .f32 from m ((c : Thread nD τ).loc main_arg1))
      (sitofp (F := Ideal) .f32 (constantI S_ 32 0#32)) pads_S4x512_S8x512_040_000 h_S_ := by
    unfold V
    simp only [List.flatten_cons, List.flatten_nil, List.append_nil, List.cons_append, List.nil_append]
    after_results
    try rfl
  unfold W
  rw [iblk, h]
  blk_simp [idx t]
  pointwise
  blk_simp [idx t]
  rw [dif_pos (show (⟨a.val, by omega⟩ : Fin 8).val < 4 from a.isLt)]
  blk_ext [idx t]
theorem blk4 : iblk m c 4 t (ix2 0 k) = B m c k := by
  unfold B
  blk_ext [iblk, V, idx t]

/-- A loaded row of the weights. -/
theorem ldw (o : Fin 2 → ℕ) (a : Fin 4) (h0 : o 0 = a.val) (h1 : o 1 = 0) (hr) :
    (View.ld (iblk m c 3 t) (Rect.unit (s := S8x512) o ![1, 512] hr) : Vec Ideal S1x512 .f32) (ix2 0 k) = W m c a k := by
  refine (View.ld_apply _ _ _).trans ((congrArg (iblk m c 3 t) (funext fun x => ?_)).trans (blk3 m c t k a))
  fin_cases x
  · exact Fin.ext (by show o 0 + 1 * 0 = a.val; omega)
  · exact Fin.ext (by show o 1 + 1 * k.val = k.val; omega)

/-- The convolution's entry. -/
def conv (i : Fin 4096) : EReal :=
  B m c k + W m c 0 k * tap (X m c k) i.val 2 + W m c 1 k * tap (X m c k) (i.val + 1) 2 + W m c 2 k * tap (X m c k) (i.val + 2) 2
    + W m c 3 k * tap (X m c k) (i.val + 3) 2

theorem after5 (y : S512x512.Idx) : (dats m 0 c).after 5 t y = conv m c (y 1) (row t (y 0)) := by
  rw [after0_5]
  idx_vars y
  frame_out
  refine (pay1 (f := X m c y1) (ext2 (idx t).2.2.2.2.2.2 (lt8 t) (blk0 m c t y1) (blk1 m c t y1) (blk2 m c t y1)) y0).trans ?_
  rw [blk4, ldw m c t y1 _ 0 rfl rfl, ldw m c t y1 _ 1 rfl rfl, ldw m c t y1 _ 2 rfl rfl, ldw m c t y1 _ 3 rfl rfl]
  rfl

/-- The result after the run. -/
theorem final5 : (dats m 0 c).arrAt 5 (cfgs 0).N = fun i => conv m c (i 1) (i 0) := by
  refine (dats m 0 c).arrAt_eq_of_covers 5 _ (by decide +kernel) fun t _ y => ?_
  rw [after5]
  blk_simp [idx t, row]
  refine congrArg₂ (conv m c) (Fin.ext ?_) (Fin.ext ?_) <;> blk_simp [idx t] <;> try omega

end Cert.ConvfKIdeal.Value

end
-- ==== Proof.ConvfClaim.lean ====
/- The depthwise convolution: the kernel's result is that of the reference, for all arguments. -/
module

public import proofs.«01_k».proof.Defs
public import proofs.«01_k».proof.Proof.ConvfKernel
public import proofs.«01_k».proof.Proof.Gen.ConvfRIdeal.Run

@[expose] public section

set_option maxRecDepth 16384

noncomputable section

open Idealize.ShloMosaic Idealize.ShloMosaic.TcCoe Idealize.SL.Sem Cert.Reals

namespace Cert.ConvfClaim

instance : Cert.ConvfKIdeal.Facts := Cert.ConvfKIdeal.Gen.facts

open Cert.ConvfKIdeal.Value

open Cert.ConvKIdeal.Value (tap tap_congr tap_eq tap_zero)

/-- The row two before row `n` of the padded array is a tap. -/
theorem pad_tap {f : Fin 4096 → EReal} {n : ℕ} :
    (if h : n < 2 then (0 : EReal) else if h' : n - 2 < 4096 then f ⟨n - 2, h'⟩ else 0) = tap f n 2 := by
  by_cases h : n < 2
  · rw [dif_pos h]
    exact tap_zero (Or.inl h)
  · rw [dif_neg h]
    by_cases h' : n - 2 < 4096
    · rw [dif_pos h']
      exact tap_eq _ (by show n = n - 2 + 2; omega)
    · rw [dif_neg h']
      exact tap_zero (Or.inr (by omega))

/-- The reference adds the bias last. -/
theorem reorder (a b c d w x y z e : EReal) : a * w + b * x + c * y + d * z + e = e + w * a + x * b + y * c + z * d := by
  rw [mul_comm a, mul_comm b, mul_comm c, mul_comm d]
  abel

set_option maxHeartbeats 2000000 in
theorem algebraic : Cert.algebraic_ConvfKIdeal_ConvfRIdeal (hConvfKIdeal := Cert.ConvfKIdeal.Gen.facts)
    (hConvfRIdeal := Cert.ConvfRIdeal.Gen.facts) := by
  pair_intro
  · run_from Cert.ConvfKIdeal.Value.run_blocks m g
  · run_from Cert.ConvfRIdeal.Value.run m' g'
    · rw [Cert.ConvfKIdeal.Value.final5]
      funext j
      idx_vars j
      pointwise [conv]
      refine (congrArg₂ (· + ·) (congrArg₂ (· + ·) (congrArg₂ (· + ·) (congrArg₂ (· + ·)
        (congrArg₂ (· * ·) (pad_tap (f := X m c j1)) rfl) (congrArg₂ (· * ·) (pad_tap (f := X m c j1)) rfl))
        (congrArg₂ (· * ·) (tap_eq (f := X m c j1) (n := j0.val + 2) (b := 2) j0 rfl) rfl))
        (congrArg₂ (· * ·) (pad_tap (f := X m c j1)) rfl)) rfl).trans ((reorder _ _ _ _ _ _ _ _ _).trans ?_)
      rw [tap_congr (n := 1 + j0.val) (b := 2) (n' := j0.val + 1) (b' := 2) (by omega),
        tap_congr (n := 3 + j0.val) (b := 2) (n' := j0.val + 3) (b' := 2) (by omega)]
      rfl

end Cert.ConvfClaim

end
-- ==== Proof.GlogKernel.lean ====
/- The low-rank gate's logits: what one block of 512 rows computes, and what the kernel's result arrays hold after the run. -/
module

public import proofs.«01_k».proof.Proof.Gen.GlogKIdeal.Value
public import proofs.«01_k».proof.Proof.GateKernel
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Reals
open Idealize.ShloMosaic.Pipeline (Dat)

namespace Cert.GlogKIdeal.Value

open Cert.GlogKIdeal Cert.GlogKIdeal.Gen

theorem idx : ∀ t : Fin cfg0.N, win0_0.index t = ![t.val, 24] ∧ win0_1.index t = ![0, 0, 0] ∧ win0_2.index t = ![0, 0, 0]
    ∧ win0_3.index t = ![0, t.val, 0] ∧ win0_4.index t = ![t.val, 0] :=
  (by decide +kernel : ∀ t : Fin grid0.N, _)

variable (m : (ℓ : Loc nD τ sig) → Buf (Elt Ideal) ℓ) (c : Dev nD)

/-- The row of the array that row `r` of block `t` is. -/
def row (t : Fin cfg0.N) (r : Fin 512) : Fin 4096 := ⟨t.val * 512 + r.val, by have := lt_of_lt_of_eq t.isLt N_0; omega⟩

/-- The low-rank columns with their padding, the weights as the host lines lay them out, the bias. -/
def lr (i : Fin 4096) (l : Fin 128) : EReal :=
  if h : l.val < 32 then m ((c : Thread nD τ).loc main_arg0) (ix2 i ⟨3072 + l.val, by omega⟩) else 0
def w (d : Fin 2) (l : Fin 128) (k : Fin 512) : EReal :=
  if h : 16 * d.val ≤ l.val ∧ l.val < 16 * d.val + 16 then m ((c : Thread nD τ).loc main_arg1) (ix3 d ⟨l.val - 16 * d.val, by omega⟩ k) else 0
def bias (d : Fin 2) (k : Fin 512) : EReal := m ((c : Thread nD τ).loc main_arg2) (ix2 d k)

variable (t : Fin cfg0.N) (r : Fin 512)

theorem blk0 (l : Fin 128) : iblk m c 0 t (ix2 r l) = lr m c (row t r) l := by
  have h : V m c main_v0 = pad S4096x3200 ![0, 0] ![0, 96] ![0, 0] (show Vec Ideal S4096x3104 .f32 from m ((c : Thread nD τ).loc main_arg0))
      (sitofp (F := Ideal) .f32 (constantI S_ 32 0#32)) pads_S4096x3104_S4096x3200_000_0960 h_S_ := by
    unfold V
    simp only [List.flatten_cons, List.flatten_nil, List.append_nil, List.cons_append, List.nil_append]
    after_results
    try rfl
  unfold lr
  rw [iblk, h]
  blk_simp [idx t]
  pointwise
  blk_simp [idx t]
  by_cases hl : l.val < 32
  · rw [dif_pos hl, dif_pos (by first | omega | (simp; omega))]
    blk_ext [idx t, row]
  · rw [dif_neg hl, dif_neg (by first | omega | (simp; omega))]
    simp [FloatOps.sitofp]
/-- The weights as the host lays them out. -/
theorem wV : (V m c main_v13 : Vec Ideal S2x128x512 .f32) = fun i => w m c (i 0) (i 1) (i 2) := by
  unfold V
  simp only [List.flatten_cons, List.flatten_nil, List.append_nil, List.cons_append, List.nil_append]
  after_results
  funext i
  obtain ⟨d, l, k, rfl⟩ : ∃ d l k, i = ix3 d l k := ⟨i 0, i 1, i 2, eq_ix3 i⟩
  refine (Cert.GateKIdeal.Value.set_rows _ _ _ 1 16 (by decide) (by decide) d l k).trans ?_
  refine (dite_congr rfl (fun _ => rfl) (fun _ => Cert.GateKIdeal.Value.set_rows _ _ _ 0 0 (by decide) (by decide) d l k)).trans ?_
  pointwise
  show _ = w m c d l k
  unfold w
  fin_cases d
  · simp only [Fin.zero_eta, Fin.val_zero, mul_zero, Nat.zero_le, true_and, zero_add, Nat.sub_zero]
    split_ifs <;> first | rfl | (exfalso; simp_all)
  · by_cases h : 16 ≤ l.val ∧ l.val < 32
    · rw [dif_pos ⟨rfl, h.1, h.2⟩, dif_pos (show 16 * 1 ≤ l.val ∧ l.val < 16 * 1 + 16 by omega)]
      rfl
    · rw [dif_neg fun h' => h ⟨h'.2.1, h'.2.2⟩, dif_neg fun h' => absurd h'.1 (by decide),
        dif_neg (show ¬ (16 * 1 ≤ l.val ∧ l.val < 16 * 1 + 16) by omega)]
theorem blk1 (d : Fin 2) (l : Fin 128) (k : Fin 512) : iblk m c 1 t (ix3 d l k) = w m c d l k := by
  have e : (win0_1.blk t).view.emb (ix3 d l k) = ix3 d l k := by blk_ext [idx t]
  exact (congrArg (V m c main_v13) e).trans (congrFun (wV m c) (ix3 d l k))
theorem blk2 (d : Fin 2) (k : Fin 512) : iblk m c 2 t (ix3 d 0 k) = bias m c d k := by
  have h : V m c main_v14 = shapeCast S2x1x512 (show Vec Ideal S2x512 .f32 from m ((c : Thread nD τ).loc main_arg2)) shapeCasts_S2x512_S2x1x512 := by
    unfold V
    simp only [List.flatten_cons, List.flatten_nil, List.append_nil, List.cons_append, List.nil_append]
    after_results
    try rfl
  unfold bias
  rw [iblk, h]
  blk_simp [idx t]
  pointwise
  blk_ext [idx t]

/-- A logit. -/
def logit (d : Fin 2) (i : Fin 4096) (k : Fin 512) : EReal := (∑ l, lr m c i l * w m c d l k) + bias m c d k

theorem logit_eq (d : Fin 2) (r k : Fin 512) : (∑ l, (show EReal from iblk m c 0 t (ix2 r l)) * iblk m c 1 t (ix3 d l k)) + (show EReal from iblk m c 2 t (ix3 d 0 k))
    = logit m c d (row t r) k := by
  unfold logit
  exact congrArg₂ (fun x y : EReal => x + y)
    (Finset.sum_congr rfl fun l _ => congrArg₂ (fun x y : EReal => x * y) (blk0 m c t r l) (blk1 m c t d l k)) (blk2 m c t d k)

theorem after3 (y : S2x512x512.Idx) : (dats m 0 c).after 3 t y = logit m c (y 0) (row t (y 1)) (y 2) := by
  rw [after0_3]
  frame_out
  canon_tiles x h
  all_goals (open_payloads; pointwise)
  · rw [show y 0 = (1 : Fin 2) from Fin.ext (by show (y 0).val = 1; omega), show y 1 = x 1 from Fin.ext h1, show y 2 = x 2 from Fin.ext h2]
    exact logit_eq m c t 1 (x 1) (x 2)
  · rw [show y 0 = (0 : Fin 2) from Fin.ext (by show (y 0).val = 0; omega), show y 1 = x 1 from Fin.ext h1, show y 2 = x 2 from Fin.ext h2]
    exact logit_eq m c t 0 (x 1) (x 2)

theorem after4 (y : S512x128.Idx) : (dats m 0 c).after 4 t y = lr m c (row t (y 0)) (y 1) := by
  rw [after0_4]
  idx_vars y
  frame_out
  pointwise [k0_pay1]
  exact blk0 m c t y0 y1

theorem logit_congr {d d' : Fin 2} {i i' : Fin 4096} {k k' : Fin 512} (hd : d.val = d'.val) (hi : i.val = i'.val) (hk : k.val = k'.val) :
    logit m c d i k = logit m c d' i' k' := by
  obtain rfl := Fin.ext hd
  obtain rfl := Fin.ext hi
  obtain rfl := Fin.ext hk
  rfl

/-- The logits after the run. -/
theorem final3 : (dats m 0 c).arrAt 3 (cfgs 0).N = fun i => logit m c (i 0) (i 1) (i 2) := by
  refine (dats m 0 c).arrAt_eq_of_covers 3 _ (by decide +kernel) fun t _ y => ?_
  rw [after3]
  blk_simp [idx t, row]
  refine logit_congr m c ?_ ?_ ?_ <;> blk_simp [idx t] <;> try omega

/-- The low-rank columns after the run. -/
theorem final4 : (dats m 0 c).arrAt 4 (cfgs 0).N = fun i => lr m c (i 0) (i 1) := by
  refine (dats m 0 c).arrAt_eq_of_covers 4 _ (by decide +kernel) fun t _ y => ?_
  rw [after4]
  blk_simp [idx t, row]
  refine congrArg₂ (lr m c) (Fin.ext ?_) (Fin.ext ?_) <;> blk_simp [idx t] <;> try omega

end Cert.GlogKIdeal.Value

end
-- ==== Proof.GlogClaim.lean ====
/- The low-rank gate's logits: the kernel's results are those of the reference, for all arguments. -/
module

public import proofs.«01_k».proof.Defs
public import proofs.«01_k».proof.Proof.GlogKernel
public import proofs.«01_k».proof.Proof.Gen.GlogRIdeal.Run

@[expose] public section

set_option maxRecDepth 16384

noncomputable section

open Idealize.ShloMosaic Idealize.ShloMosaic.TcCoe Idealize.SL.Sem Cert.Reals

namespace Cert.GlogClaim

instance : Cert.GlogKIdeal.Facts := Cert.GlogKIdeal.Gen.facts

open Cert.GlogKIdeal.Value

/-- The sum over the 128 padded columns is the one over the direction's sixteen: the weights of the others are zero. -/
theorem sum_logit {m : (ℓ : Loc Cert.GlogKIdeal.nD Cert.GlogKIdeal.τ Cert.GlogKIdeal.sig) → Buf (Elt Ideal) ℓ} {c : Dev Cert.GlogKIdeal.nD}
    (d : Fin 2) (i : Fin 4096) (k : Fin 512) {f : Fin 16 → EReal}
    (hf : ∀ x : Fin 16, f x = (show EReal from m ((c.tc : Thread Cert.GlogKIdeal.nD Cert.GlogKIdeal.τ).loc Cert.GlogKIdeal.main_arg0)
        (ix2 i ⟨3072 + (16 * d.val + x.val), by omega⟩))
      * (show EReal from m ((c.tc : Thread Cert.GlogKIdeal.nD Cert.GlogKIdeal.τ).loc Cert.GlogKIdeal.main_arg1) (ix3 d x k))) :
    ∑ x, f x = ∑ l, lr m c i l * w m c d l k := by
  refine Fintype.sum_of_injective (fun x : Fin 16 => (⟨16 * d.val + x.val, by omega⟩ : Fin 128))
    (fun x y h => Fin.ext (by have := congrArg Fin.val h; simpa using this)) _ _ (fun l hl => ?_) fun x => ?_
  · have : w m c d l k = 0 := dif_neg fun h => hl ⟨⟨l.val - 16 * d.val, by omega⟩, Fin.ext (by show 16 * d.val + (l.val - 16 * d.val) = l.val; omega)⟩
    rw [this, mul_zero]
  · rw [hf]
    have hx := x.isLt
    have hd := d.isLt
    refine congrArg₂ (fun x y : EReal => x * y) ?_ ?_
    · rw [lr, dif_pos (show 16 * d.val + x.val < 32 by omega)]
    · rw [w, dif_pos (show 16 * d.val ≤ 16 * d.val + x.val ∧ 16 * d.val + x.val < 16 * d.val + 16 by omega)]
      exact congrArg (fun y => m ((c.tc : Thread Cert.GlogKIdeal.nD Cert.GlogKIdeal.τ).loc Cert.GlogKIdeal.main_arg1) (ix3 d y k))
        (Fin.ext (by show x.val = 16 * d.val + x.val - 16 * d.val; omega))

set_option maxHeartbeats 2000000 in
theorem algebraic : Cert.algebraic_GlogKIdeal_GlogRIdeal (hGlogKIdeal := Cert.GlogKIdeal.Gen.facts)
    (hGlogRIdeal := Cert.GlogRIdeal.Gen.facts) := by
  pair_intro
  · run_from Cert.GlogKIdeal.Value.run_blocks m g
  · run_from Cert.GlogRIdeal.Value.run m' g'
    · rw [Cert.GlogKIdeal.Value.final3]
      funext j
      idx_vars j
      pointwise [logit]
      obtain ⟨h0, h1, h2⟩ := hagree c
      rw [h2]
      let col (d : Fin 2) (x : Fin 16) (y : Fin 3104) : EReal :=
        (show EReal from m ((c.tc : Thread Cert.GlogKIdeal.nD Cert.GlogKIdeal.τ).loc Cert.GlogKIdeal.main_arg0) (ix2 j1 y))
          * (show EReal from m ((c.tc : Thread Cert.GlogKIdeal.nD Cert.GlogKIdeal.τ).loc Cert.GlogKIdeal.main_arg1) (ix3 d x j2))
      fin_cases j0
      · refine (dif_pos (by decide)).trans (congrArg (fun x : EReal => x + bias m c 0 j2) (sum_logit 0 j1 j2 fun x => ?_))
        exact congrArg (col 0 x) (Fin.ext (by show 3072 + x.val = 3072 + (16 * 0 + x.val); omega))
      · refine (dif_neg (by decide)).trans (congrArg (fun x : EReal => x + bias m c 1 j2) (sum_logit 1 j1 j2 fun x => ?_))
        exact congrArg (col 1 x) (Fin.ext (by show 3088 + x.val = 3072 + (16 * 1 + x.val); omega))
    · rw [Cert.GlogKIdeal.Value.final4]
      funext j
      idx_vars j
      pointwise [lr]
      simp [FloatOps.sitofp]

end Cert.GlogClaim

end
-- ==== Proof.NmmKernel.lean ====
/- The norm and the projection behind it: what one block of 512 rows computes, and what the kernel's result arrays hold after
   the run, on any extended reals. -/
module

public import proofs.«01_k».proof.Proof.Gen.NmmKIdeal.Value
public import proofs.«01_k».proof.Proof.Reals
public import proofs.«01_k».proof.Proof.HeadNorm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Reals
open Idealize.ShloMosaic.Pipeline (Dat)

namespace Cert.NmmKIdeal.Value

open Cert.NmmKIdeal Cert.NmmKIdeal.Gen

/-- An entry of the normalised and scaled row. -/
def nrm (x g : Fin 1024 → EReal) (k : Fin 1024) : EReal :=
  x k * Ideal.rsqrt (Cert.HeadNorm.ms (Ideal.ofBits .f32 1149239296#32) x) * g k

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

variable (m : (ℓ : Loc nD τ sig) → Buf (Elt Ideal) ℓ) (c : Dev nD)

/-- The row of the array that row `r` of block `t` is. -/
def row (t : Fin cfg0.N) (r : Fin 512) : Fin 4096 := ⟨t.val * 512 + r.val, by have := lt_of_lt_of_eq t.isLt N_0; omega⟩

/-- The rows of the arguments. -/
def aH (i : Fin 4096) (k : Fin 1024) : EReal := m ((c : Thread nD τ).loc main_arg0) (ix2 i k)
def aG (k : Fin 1024) : EReal := m ((c : Thread nD τ).loc main_arg1) (ix1 k)
def aW (k : Fin 1024) (n : Fin 3584) : EReal := m ((c : Thread nD τ).loc main_arg2) (ix2 k n)

variable (t : Fin cfg0.N) (r : Fin 512)

theorem blk0 (k : Fin 1024) : iblk m c 0 t (ix2 r k) = aH m c (row t r) k := by
  unfold aH
  blk_ext [iblk, V, idx t, row]
theorem blk1 (k : Fin 1024) : iblk m c 1 t (ix2 0 k) = aG m c k := by
  unfold aG
  blk_simp [iblk, idx t]
  entry_read
  pointwise
  blk_ext [idx t]
theorem blk2 (k : Fin 1024) (n : Fin 3584) : iblk m c 2 t (ix2 k n) = aW m c k n := by
  unfold aW
  blk_simp [iblk, idx t]
  entry_read
  pointwise
  blk_ext [idx t]

/-- A row of the normalised array, and an entry of the product. -/
def yn (i : Fin 4096) (k : Fin 1024) : EReal := nrm (aH m c i) (aG m c) k
def prod (i : Fin 4096) (n : Fin 3584) : EReal := ∑ k, yn m c i k * aW m c k n

theorem pay1 (k : Fin 1024) : k0_pay1 (F := Ideal) (iblk m c 0 t) (iblk m c 1 t) (ix2 r k) = yn m c (row t r) k := by
  unfold yn nrm Cert.HeadNorm.ms
  pointwise [k0_pay1, blk0, blk1]

theorem pay2 (n : Fin 3584) : k0_pay2 (F := Ideal) (iblk m c 0 t) (iblk m c 1 t) (iblk m c 2 t) (ix2 r n) = prod m c (row t r) n := by
  unfold prod
  pointwise [k0_pay2, pay1, blk2]

theorem after3 (y : S512x3584.Idx) : (dats m 0 c).after 3 t y = prod m c (row t (y 0)) (y 1) := by
  rw [after0_3]
  idx_vars y
  frame_out
  exact pay2 m c t y0 y1
theorem after4 (y : S512x1024.Idx) : (dats m 0 c).after 4 t y = yn m c (row t (y 0)) (y 1) := by
  rw [after0_4]
  idx_vars y
  frame_out
  exact pay1 m c t y0 y1

/-- The product after the run. -/
theorem final3 : (dats m 0 c).arrAt 3 (cfgs 0).N = fun i => prod m c (i 0) (i 1) := by
  refine (dats m 0 c).arrAt_eq_of_covers 3 _ (by decide +kernel) fun t _ y => ?_
  rw [after3]
  blk_simp [idx t, row]
  refine congrArg₂ (prod m c) (Fin.ext ?_) (Fin.ext ?_) <;> blk_simp [idx t] <;> try omega

/-- The normalised rows after the run. -/
theorem final4 : (dats m 0 c).arrAt 4 (cfgs 0).N = fun i => yn m c (i 0) (i 1) := by
  refine (dats m 0 c).arrAt_eq_of_covers 4 _ (by decide +kernel) fun t _ y => ?_
  rw [after4]
  blk_simp [idx t, row]
  refine congrArg₂ (yn m c) (Fin.ext ?_) (Fin.ext ?_) <;> blk_simp [idx t] <;> try omega

end Cert.NmmKIdeal.Value

end
-- ==== Proof.NmmClaim.lean ====
/- The norm and the projection behind it: the kernel's results are those of the reference, on any extended reals. -/
module

public import proofs.«01_k».proof.Defs
public import proofs.«01_k».proof.Proof.NmmKernel
public import proofs.«01_k».proof.Proof.Gen.NmmRIdeal.Run

@[expose] public section

set_option maxRecDepth 16384

noncomputable section

open Idealize.ShloMosaic Idealize.ShloMosaic.TcCoe Idealize.SL.Sem Cert.Reals

namespace Cert.NmmClaim

instance : Cert.NmmKIdeal.Facts := Cert.NmmKIdeal.Gen.facts

open Cert.NmmKIdeal.Value

set_option maxHeartbeats 2000000 in
theorem algebraic : Cert.algebraic_NmmKIdeal_NmmRIdeal (hNmmKIdeal := Cert.NmmKIdeal.Gen.facts)
    (hNmmRIdeal := Cert.NmmRIdeal.Gen.facts) := by
  pair_intro
  · run_from Cert.NmmKIdeal.Value.run_blocks m g
  · run_from Cert.NmmRIdeal.Value.run m' g'
    · rw [Cert.NmmKIdeal.Value.final3]
      funext j
      idx_vars j
      pointwise
      show _ = _
      rfl
    · rw [Cert.NmmKIdeal.Value.final4]
      funext j
      idx_vars j
      pointwise
      show _ = _
      rfl

end Cert.NmmClaim

end
-- ==== Proof.Mix1Kernel.lean ====
/- GLA's head norm and output gate: what one block of 512 rows computes, and what the kernel's result array holds after the
   run, on any extended reals. -/
module

public import proofs.«01_k».proof.Proof.Gen.Mix1KIdeal.Value
public import proofs.«01_k».proof.Proof.Reals
public import proofs.«01_k».proof.Proof.HeadNorm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Reals
open Cert.HeadNorm (lgs)
open Idealize.ShloMosaic.Pipeline (Dat)

namespace Cert.Mix1KIdeal.Value

open Cert.Mix1KIdeal Cert.Mix1KIdeal.Gen

/-- The gated entry `c` of a row: `o` the two directions' sum, `r` the gate's argument, `g` the gain. -/
def mix (o r g : Fin 1024 → EReal) (c : Fin 1024) : EReal :=
  o c * Ideal.rsqrt (Cert.HeadNorm.ms (Ideal.ofBits .f32 1132462080#32)
    fun x : Fin 256 => o ⟨c.val / 256 * 256 + x.val, Cert.HeadNorm.head_lt (k := 4) (by norm_num) c x⟩) * g c * (r c * lgs (r c))

/-- The block's entry. -/
theorem pay1 {a b r : Vec Ideal S512x1024 .f32} {g : Vec Ideal S1x1024 .f32} (i : Fin 512) (c : Fin 1024) :
    k0_pay1 (F := Ideal) (k0_pay2 r) (k0_pay3 g) (k0_pay5 a b) (k0_pay6 a b) (k0_pay7 a b) (k0_pay8 a b) (k0_pay9 a b) (ix2 i c)
      = mix (fun y => (show EReal from a (ix2 i y)) + (show EReal from b (ix2 i y))) (fun y => r (ix2 i y)) (fun y => g (ix2 0 y)) c := by
  pointwise [k0_pay1, k0_pay9, k0_pay8, k0_pay7, k0_pay6, k0_pay5, k0_pay4, k0_pay3, k0_pay2]
  unfold mix Cert.HeadNorm.ms lgs
  rw [zero_sub]
  have hcl := c.isLt
  rcases (by omega : c.val < 256 ∨ (256 ≤ c.val ∧ c.val < 512) ∨ (512 ≤ c.val ∧ c.val < 768) ∨ 768 ≤ c.val) with h | h | h | h
  · have hd : c.val / 256 * 256 = 0 := by omega
    simp (discharger := omega) only [hd, dif_pos, dif_neg, zero_add, add_zero]
  · have hd : c.val / 256 * 256 = 256 := by omega
    simp (discharger := omega) only [hd, dif_pos, dif_neg, zero_add, add_zero, Nat.sub_sub, Nat.reduceAdd, Nat.add_sub_cancel' h.1]
  · have hd : c.val / 256 * 256 = 512 := by omega
    simp (discharger := omega) only [hd, dif_pos, dif_neg, zero_add, add_zero, Nat.sub_sub, Nat.reduceAdd, Nat.add_sub_cancel' h.1]
  · have hd : c.val / 256 * 256 = 768 := by omega
    simp (discharger := omega) only [hd, dif_pos, dif_neg, zero_add, add_zero, Nat.sub_sub, Nat.reduceAdd, Nat.add_sub_cancel' h]

theorem idx : ∀ t : Fin cfg0.N, win0_0.index t = ![t.val, 0] ∧ win0_1.index t = ![t.val, 0] ∧ win0_2.index t = ![t.val, 2]
    ∧ win0_3.index t = ![0, 0] ∧ win0_4.index t = ![t.val, 0] :=
  (by decide +kernel : ∀ t : Fin grid0.N, _)

variable (m : (ℓ : Loc nD τ sig) → Buf (Elt Ideal) ℓ) (c : Dev nD)

/-- The row of the array that row `r` of block `t` is. -/
def row (t : Fin cfg0.N) (r : Fin 512) : Fin 4096 := ⟨t.val * 512 + r.val, by have := lt_of_lt_of_eq t.isLt N_0; omega⟩

/-- The rows of the arguments. -/
def aF (i : Fin 4096) (y : Fin 1024) : EReal := m ((c : Thread nD τ).loc main_arg0) (ix2 i y)
def aB (i : Fin 4096) (y : Fin 1024) : EReal := m ((c : Thread nD τ).loc main_arg1) (ix2 i y)
def aR (i : Fin 4096) (y : Fin 1024) : EReal := m ((c : Thread nD τ).loc main_arg2) (ix2 i y)
def aG (y : Fin 1024) : EReal := m ((c : Thread nD τ).loc main_arg3) (ix1 y)

variable (t : Fin cfg0.N) (r : Fin 512)

theorem blk0 (y : Fin 1024) : iblk m c 0 t (ix2 r y) = aF m c (row t r) y := by
  unfold aF
  blk_ext [iblk, V, idx t, row]
theorem blk1 (y : Fin 1024) : iblk m c 1 t (ix2 r y) = aB m c (row t r) y := by
  unfold aB
  blk_ext [iblk, V, idx t, row]
theorem blk2 (y : Fin 1024) : iblk m c 2 t (ix2 r y) = aR m c (row t r) y := by
  unfold aR
  blk_simp [iblk, idx t]
  entry_read
  pointwise
  blk_simp [idx t]
  rw [dif_neg (by simp)]
  blk_ext [idx t, row]
theorem blk3 (y : Fin 1024) : iblk m c 3 t (ix2 0 y) = aG m c y := by
  unfold aG
  blk_simp [iblk, idx t]
  entry_read
  pointwise
  blk_ext [idx t]

/-- An entry of the result. -/
def out (i : Fin 4096) (x : Fin 1024) : EReal := mix (fun y => aF m c i y + aB m c i y) (aR m c i) (aG m c) x

theorem after4 (y : S512x1024.Idx) : (dats m 0 c).after 4 t y = out m c (row t (y 0)) (y 1) := by
  rw [after0_4]
  idx_vars y
  frame_out
  refine (pay1 y0 y1).trans ?_
  simp only [blk0, blk1, blk2, blk3]
  rfl

/-- The result after the run. -/
theorem final4 : (dats m 0 c).arrAt 4 (cfgs 0).N = fun i => out m c (i 0) (i 1) := by
  refine (dats m 0 c).arrAt_eq_of_covers 4 _ (by decide +kernel) fun t _ y => ?_
  rw [after4]
  blk_simp [idx t, row]
  refine congrArg₂ (out m c) (Fin.ext ?_) (Fin.ext ?_) <;> blk_simp [idx t] <;> try omega

end Cert.Mix1KIdeal.Value

end
-- ==== Proof.Mix1Claim.lean ====
/- GLA's head norm and output gate: the kernel's result is that of the reference, on any extended reals. -/
module

public import proofs.«01_k».proof.Defs
public import proofs.«01_k».proof.Proof.Mix1Kernel
public import proofs.«01_k».proof.Proof.Gen.Mix1RIdeal.Run

@[expose] public section

set_option maxRecDepth 16384

noncomputable section

open Idealize.ShloMosaic Idealize.ShloMosaic.TcCoe Idealize.SL.Sem Cert.Reals

namespace Cert.Mix1Claim

instance : Cert.Mix1KIdeal.Facts := Cert.Mix1KIdeal.Gen.facts

open Cert.Mix1KIdeal.Value

set_option maxHeartbeats 2000000 in
theorem algebraic : Cert.algebraic_Mix1KIdeal_Mix1RIdeal (hMix1KIdeal := Cert.Mix1KIdeal.Gen.facts)
    (hMix1RIdeal := Cert.Mix1RIdeal.Gen.facts) := by
  pair_intro
  · run_from Cert.Mix1KIdeal.Value.run_blocks m g
  · run_from Cert.Mix1RIdeal.Value.run m' g'
    · rw [Cert.Mix1KIdeal.Value.final4]
      funext j
      idx_vars j
      pointwise
      show _ = _
      rfl

end Cert.Mix1Claim

end
-- ==== Proof.Mix0Kernel.lean ====
/- The first layer's combination: what one block of 512 rows computes, and what the kernel's result array holds after the
   run, on any extended reals. -/
module

public import proofs.«01_k».proof.Proof.Gen.Mix0KIdeal.Value
public import proofs.«01_k».proof.Proof.Reals
public import proofs.«01_k».proof.Proof.HeadNorm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Reals
open Cert.HeadNorm (lgs)
open Idealize.ShloMosaic.Pipeline (Dat)

namespace Cert.Mix0KIdeal.Value

open Cert.Mix0KIdeal Cert.Mix0KIdeal.Gen

/-- The gelu as the kernel writes it. -/
def gelu (x : EReal) : EReal :=
  Ideal.ofBits .f32 1056964608#32 * x
    * (1 + Ideal.tanh (Ideal.ofBits .f32 1061962282#32 * (x + Ideal.ofBits .f32 1027024659#32 * (x * x * x))))

/-- The second half's entry `c`: `o` the two directions' sum, `r` the gate's argument, `g` the gain. -/
def mix (o r g : Fin 512 → EReal) (c : Fin 512) : EReal :=
  o c * Ideal.rsqrt (Cert.HeadNorm.ms (Ideal.ofBits .f32 1124073472#32)
    fun x : Fin 128 => o ⟨c.val / 128 * 128 + x.val, Cert.HeadNorm.head_lt (k := 4) (by norm_num) c x⟩) * g c * (r c * lgs (r c))

/-- The block's entry in the first half; -/
theorem pay_lo {f b z p q r : Vec Ideal S512x512 .f32} {g : Vec Ideal S1x512 .f32} (i : Fin 512) (c : Fin 512) :
    k0_pay7 (F := Ideal) (k0_pay1 r) (k0_pay2 g) (k0_pay3 f b z) (k0_pay4 p q) (k0_pay5 p q) (k0_pay6 p q) (ix2 i ⟨c.val, by omega⟩)
      = ((show EReal from f (ix2 i c)) + (show EReal from b (ix2 i c))) * gelu (z (ix2 i c)) := by
  have hc := c.isLt
  pointwise [k0_pay7, k0_pay3]
  unfold gelu
  simp (discharger := omega) only [dif_pos]

/-- and in the second. -/
theorem pay_hi {f b z p q r : Vec Ideal S512x512 .f32} {g : Vec Ideal S1x512 .f32} (i : Fin 512) (c : Fin 512) :
    k0_pay7 (F := Ideal) (k0_pay1 r) (k0_pay2 g) (k0_pay3 f b z) (k0_pay4 p q) (k0_pay5 p q) (k0_pay6 p q) (ix2 i ⟨512 + c.val, by omega⟩)
      = mix (fun y => (show EReal from p (ix2 i y)) + (show EReal from q (ix2 i y))) (fun y => r (ix2 i y)) (fun y => g (ix2 0 y)) c := by
  pointwise [k0_pay7, k0_pay6, k0_pay5, k0_pay4, k0_pay2, k0_pay1]
  unfold mix Cert.HeadNorm.ms lgs
  rw [zero_sub]
  have hcl := c.isLt
  rcases (by omega : c.val < 128 ∨ (128 ≤ c.val ∧ c.val < 256) ∨ (256 ≤ c.val ∧ c.val < 384) ∨ 384 ≤ c.val) with h | h | h | h
  · have hd : c.val / 128 * 128 = 0 := by omega
    simp (discharger := omega) only [hd, dif_pos, dif_neg, zero_add, add_zero]
  · have hd : c.val / 128 * 128 = 128 := by omega
    have h1 : 128 + (c.val - 128) = c.val := by omega
    simp (discharger := omega) only [hd, h1, dif_pos, dif_neg, zero_add, add_zero, Nat.sub_sub, Nat.reduceAdd]
  · have hd : c.val / 128 * 128 = 256 := by omega
    have h1 : 256 + (c.val - 256) = c.val := by omega
    simp (discharger := omega) only [hd, h1, dif_pos, dif_neg, zero_add, add_zero, Nat.sub_sub, Nat.reduceAdd]
  · have hd : c.val / 128 * 128 = 384 := by omega
    have h1 : 384 + (c.val - 384) = c.val := by omega
    simp (discharger := omega) only [hd, h1, dif_pos, dif_neg, zero_add, add_zero, Nat.sub_sub, Nat.reduceAdd]

theorem idx : ∀ t : Fin cfg0.N, win0_0.index t = ![t.val, 0]
    ∧ win0_1.index t = ![t.val, 0]
    ∧ win0_2.index t = ![t.val, 1]
    ∧ win0_3.index t = ![t.val, 0]
    ∧ win0_4.index t = ![t.val, 0]
    ∧ win0_5.index t = ![t.val, 6]
    ∧ win0_6.index t = ![0, 0] ∧ win0_7.index t = ![t.val, 0] :=
  (by decide +kernel : ∀ t : Fin grid0.N, _)

variable (m : (ℓ : Loc nD τ sig) → Buf (Elt Ideal) ℓ) (c : Dev nD)

/-- The row of the array that row `r` of block `t` is. -/
def row (t : Fin cfg0.N) (r : Fin 512) : Fin 4096 := ⟨t.val * 512 + r.val, by have := lt_of_lt_of_eq t.isLt N_0; omega⟩

/-- The rows of the arguments. -/
def aF (i : Fin 4096) (y : Fin 512) : EReal := m ((c : Thread nD τ).loc main_arg0) (ix2 i y)
def aB (i : Fin 4096) (y : Fin 512) : EReal := m ((c : Thread nD τ).loc main_arg1) (ix2 i y)
def aA (i : Fin 4096) (y : Fin 512) : EReal := m ((c : Thread nD τ).loc main_arg2) (ix2 i y)
def aP (i : Fin 4096) (y : Fin 512) : EReal := m ((c : Thread nD τ).loc main_arg3) (ix2 i y)
def aQ (i : Fin 4096) (y : Fin 512) : EReal := m ((c : Thread nD τ).loc main_arg4) (ix2 i y)
def aR (i : Fin 4096) (y : Fin 512) : EReal := m ((c : Thread nD τ).loc main_arg5) (ix2 i y)
def aG (y : Fin 512) : EReal := m ((c : Thread nD τ).loc main_arg6) (ix1 y)

variable (t : Fin cfg0.N) (r : Fin 512)

theorem blk0 (y : Fin 512) : iblk m c 0 t (ix2 r y) = aF m c (row t r) y := by
  unfold aF
  blk_ext [iblk, V, idx t, row]
theorem blk1 (y : Fin 512) : iblk m c 1 t (ix2 r y) = aB m c (row t r) y := by
  unfold aB
  blk_ext [iblk, V, idx t, row]
/-- Equal pieces make equal concatenations. -/
theorem cat_congr {a a' : Vec Ideal S4096x512 .f32} {b b' : Vec Ideal S4096x512 .f32} {d d' : Vec Ideal S4096x2048 .f32}
    {e e' : Vec Ideal S4096x512 .f32} (ha : a = a') (hb : b = b') (hd : d = d') (he : e = e') :
    concatenate S4096x3584 1 [⟨S4096x512, a⟩, ⟨S4096x512, b⟩, ⟨S4096x2048, d⟩, ⟨S4096x512, e⟩]
        concatenates_S4096x512_S4096x512_S4096x2048_S4096x512_S4096x3584_d1
      = concatenate S4096x3584 1 [⟨S4096x512, a'⟩, ⟨S4096x512, b'⟩, ⟨S4096x2048, d'⟩, ⟨S4096x512, e'⟩]
        concatenates_S4096x512_S4096x512_S4096x2048_S4096x512_S4096x3584_d1 := by
  subst ha hb hd he
  rfl
/-- The array of the gates' column ranges, as the host lays it out. -/
theorem gates : V m c main_v2 = concatenate S4096x3584 1
    [⟨S4096x512, broadcastInDim S4096x512 ![] bcast_S_S4096x512 (constant (F := Ideal) S_ .f32 0x00000000#32)⟩,
      ⟨S4096x512, (show Vec Ideal S4096x512 .f32 from m ((c : Thread nD τ).loc main_arg2))⟩,
      ⟨S4096x2048, broadcastInDim S4096x2048 ![] bcast_S_S4096x2048 (constant (F := Ideal) S_ .f32 0x00000000#32)⟩,
      ⟨S4096x512, (show Vec Ideal S4096x512 .f32 from m ((c : Thread nD τ).loc main_arg5))⟩]
    concatenates_S4096x512_S4096x512_S4096x2048_S4096x512_S4096x3584_d1 := by
  unfold V
  rw [hostOps0]
  after_results
  refine cat_congr ?_ ?_ ?_ ?_
  · show HloOp.result _ _ (Proc.tc.devRef main_v0) = _
    after_results_simp
  · show HloOp.result _ _ (Proc.tc.devRef main_arg2) = _
    after_results_simp
  · show HloOp.result _ _ (Proc.tc.devRef main_v1) = _
    after_results_simp
  · show HloOp.result _ _ (Proc.tc.devRef main_arg5) = _
    after_results_simp
theorem blk2 (y : Fin 512) : iblk m c 2 t (ix2 r y) = aA m c (row t r) y := by
  unfold aA
  rw [iblk, gates]
  blk_simp [idx t]
  pointwise
  blk_simp [idx t]
  rw [dif_neg (by simp), dif_pos (by simp)]
  blk_ext [idx t, row]
theorem blk3 (y : Fin 512) : iblk m c 3 t (ix2 r y) = aP m c (row t r) y := by
  unfold aP
  blk_ext [iblk, V, idx t, row]
theorem blk4 (y : Fin 512) : iblk m c 4 t (ix2 r y) = aQ m c (row t r) y := by
  unfold aQ
  blk_ext [iblk, V, idx t, row]
theorem blk5 (y : Fin 512) : iblk m c 5 t (ix2 r y) = aR m c (row t r) y := by
  unfold aR
  rw [iblk, gates]
  blk_simp [idx t]
  pointwise
  blk_simp [idx t]
  rw [dif_neg (by simp; omega), dif_neg (by simp; omega), dif_neg (by simp; omega)]
  blk_ext [idx t, row]
theorem blk6 (y : Fin 512) : iblk m c 6 t (ix2 0 y) = aG m c y := by
  unfold aG
  blk_simp [iblk, idx t]
  entry_read
  pointwise
  blk_ext [idx t]

/-- The result: the HGRU half beside the RG-LRU half. -/
def out (i : Fin 4096) (x : Fin 1024) : EReal :=
  if h : x.val < 512 then (aF m c i ⟨x.val, h⟩ + aB m c i ⟨x.val, h⟩) * gelu (aA m c i ⟨x.val, h⟩)
  else mix (fun y => aP m c i y + aQ m c i y) (aR m c i) (aG m c) ⟨x.val - 512, by omega⟩

theorem after7 (y : S512x1024.Idx) : (dats m 0 c).after 7 t y = out m c (row t (y 0)) (y 1) := by
  rw [after0_7]
  idx_vars y
  frame_out
  unfold out
  by_cases h : y1.val < 512
  · rw [dif_pos h]
    refine (pay_lo y0 ⟨y1.val, h⟩).trans ?_
    simp only [blk0, blk1, blk2]
  · rw [dif_neg h]
    refine (congrArg _ (congrArg (ix2 y0) (Fin.ext (by show y1.val = 512 + (y1.val - 512); omega)))).trans ((pay_hi y0 ⟨y1.val - 512, by omega⟩).trans ?_)
    simp only [blk3, blk4, blk5, blk6]

/-- The result after the run. -/
theorem final7 : (dats m 0 c).arrAt 7 (cfgs 0).N = fun i => out m c (i 0) (i 1) := by
  refine (dats m 0 c).arrAt_eq_of_covers 7 _ (by decide +kernel) fun t _ y => ?_
  rw [after7]
  blk_simp [idx t, row]
  refine congrArg₂ (out m c) (Fin.ext ?_) (Fin.ext ?_) <;> blk_simp [idx t] <;> try omega

end Cert.Mix0KIdeal.Value

end
-- ==== Proof.Mix0Claim.lean ====
/- The first layer's combination: the kernel's result is that of the reference, on any extended reals. -/
module

public import proofs.«01_k».proof.Defs
public import proofs.«01_k».proof.Proof.Mix0Kernel
public import proofs.«01_k».proof.Proof.Gen.Mix0RIdeal.Run

@[expose] public section

set_option maxRecDepth 16384

noncomputable section

open Idealize.ShloMosaic Idealize.ShloMosaic.TcCoe Idealize.SL.Sem Cert.Reals

namespace Cert.Mix0Claim

instance : Cert.Mix0KIdeal.Facts := Cert.Mix0KIdeal.Gen.facts

open Cert.Mix0KIdeal.Value

set_option maxHeartbeats 2000000 in
theorem algebraic : Cert.algebraic_Mix0KIdeal_Mix0RIdeal (hMix0KIdeal := Cert.Mix0KIdeal.Gen.facts)
    (hMix0RIdeal := Cert.Mix0RIdeal.Gen.facts) := by
  pair_intro
  · run_from Cert.Mix0KIdeal.Value.run_blocks m g
  · run_from Cert.Mix0RIdeal.Value.run m' g'
    · rw [Cert.Mix0KIdeal.Value.final7]
      funext j
      idx_vars j
      pointwise [out]
      obtain ⟨h0, h1, h2, h3, h4, h5, h6⟩ := hagree c
      by_cases h : j1.val < 512
      · rw [dif_pos h, dif_pos h]
        exact congrArg (fun x : EReal => (aF m c j0 ⟨j1.val, h⟩ + aB m c j0 ⟨j1.val, h⟩) * x) ((mul_left_comm _ _ _).trans (mul_assoc _ _ _).symm)
      · rw [dif_neg h, dif_neg h]
        rw [h4, h5, h6]
        refine congrArg₂ (fun x y : EReal => x * y) (congrArg₂ (fun x y : EReal => x * y) (congrArg₂ (fun x y : EReal => x * y) ?_ ?_) ?_) ?_
        · exact congrArg (fun y => aP m c j0 y + aQ m c j0 y) (Fin.ext (Nat.div_add_mod' _ _))
        · rfl
        · rfl
        · rfl

end Cert.Mix0Claim

end
-- ==== Proof.GlafStep.lean ====
module
public import proofs.«01_k».proof.Proof.Gen.GlafKIdeal.Value
public import Idealize.ShloMosaic.Lib.Pipeline.ValueKit
public import Idealize.ShloMosaic.Lib.Pipeline.ReadBack
public import Idealize.ShloMosaic.Lib.Pointwise

/-! What one grid point of the forward gated linear attention computes. A point takes a block of four chunks of 64
    rows in each direction; a chunk turns its queries, keys, values and gate logits and the state of the four heads into
    its output and the next state. The functions here are the operations of one chunk; the theorems say that a point's
    outputs and its carried scratch are these functions of its input blocks and of what the scratch held. -/

@[expose] public section
noncomputable section
namespace Cert.GlafKIdeal.Step
open Cert.GlafKIdeal Cert.GlafKIdeal.Gen Idealize.ShloMosaic Idealize.ShloMosaic.TcCoe Idealize.SL.Sem
open Idealize.ShloMosaic.Pipeline (Dat)
variable {F : FTy → Type} [FloatOps F]

/-- One head's 128 columns of a chunk's 512. -/
def headC (h : Fin 4) (x : FVec F S64x512 .f32) : FVec F S64x128 .f32 :=
  match h with
  | 0 => extractStridedSlice S64x128 ![0, 0] x slices_S64x512_o0_0_S64x128
  | 1 => extractStridedSlice S64x128 ![0, 128] x slices_S64x512_o0_128_S64x128
  | 2 => extractStridedSlice S64x128 ![0, 256] x slices_S64x512_o0_256_S64x128
  | 3 => extractStridedSlice S64x128 ![0, 384] x slices_S64x512_o0_384_S64x128

/-- One head's 256 value columns of a chunk's 1024. -/
def headV (h : Fin 4) (x : FVec F S64x1024 .f32) : FVec F S64x256 .f32 :=
  match h with
  | 0 => extractStridedSlice S64x256 ![0, 0] x slices_S64x1024_o0_0_S64x256
  | 1 => extractStridedSlice S64x256 ![0, 256] x slices_S64x1024_o0_256_S64x256
  | 2 => extractStridedSlice S64x256 ![0, 512] x slices_S64x1024_o0_512_S64x256
  | 3 => extractStridedSlice S64x256 ![0, 768] x slices_S64x1024_o0_768_S64x256

/-- One head's 128 columns of a row of 512. -/
def headD (h : Fin 4) (x : FVec F S1x512 .f32) : FVec F S1x128 .f32 :=
  match h with
  | 0 => extractStridedSlice S1x128 ![0, 0] x slices_S1x512_o0_0_S1x128
  | 1 => extractStridedSlice S1x128 ![0, 128] x slices_S1x512_o0_128_S1x128
  | 2 => extractStridedSlice S1x128 ![0, 256] x slices_S1x512_o0_256_S1x128
  | 3 => extractStridedSlice S1x128 ![0, 384] x slices_S1x512_o0_384_S1x128

/-- The logarithms of a chunk's decays, from its gate logits. -/
def lgs (z : Vec F S1x64x512 .f32) : FVec F S64x512 .f32 := k0_pay15 z

/-- The running sums of the decays' logarithms within a chunk, the first part and the remainder of each summed apart. -/
def cums (tri : FVec F S64x64 .f32) (z : Vec F S1x64x512 .f32) : FVec F S64x512 .f32 :=
  k0_pay21 (k0_pay18 z) (k0_pay19 tri) (k0_pay20 tri z)

/-- The scaled queries of a chunk. -/
def qsc (q : Vec F S64x512 .f32) : FVec F S64x512 .f32 := k0_pay16 q

/-- The scaled queries times the decay from the middle row. -/
def qins (tri : FVec F S64x64 .f32) (mr : FVec F S64x1 .f32) (q : Vec F S64x512 .f32) (z : Vec F S1x64x512 .f32) : FVec F S64x512 .f32 :=
  mulf (qsc q) (exp (subf (cums tri z) (broadcastTo S64x512 (k0_pay22 mr (lgs z)) broadcasts_S1x512_S64x512)))

/-- The keys times the decay to the middle row. -/
def kins (tri : FVec F S64x64 .f32) (mr : FVec F S64x1 .f32) (k : Vec F S64x512 .f32) (z : Vec F S1x64x512 .f32) : FVec F S64x512 .f32 :=
  mulf (k0_pay13 k) (exp (subf (broadcastTo S64x512 (k0_pay22 mr (lgs z)) broadcasts_S1x512_S64x512) (cums tri z)))

/-- The keys times the decay to the chunk's end. -/
def ksts (tri : FVec F S64x64 .f32) (k : Vec F S64x512 .f32) (z : Vec F S1x64x512 .f32) : FVec F S64x512 .f32 :=
  mulf (k0_pay13 k) (exp (subf (broadcastTo S64x512 (k0_pay23 (lgs z)) broadcasts_S1x512_S64x512) (cums tri z)))

/-- The scaled queries times the decay from the chunk's start. -/
def qdcs (tri : FVec F S64x64 .f32) (q : Vec F S64x512 .f32) (z : Vec F S1x64x512 .f32) : FVec F S64x512 .f32 :=
  mulf (qsc q) (exp (cums tri z))

/-- The state of the four heads after a chunk. -/
def chunkS (tri : FVec F S64x64 .f32) (k : Vec F S64x512 .f32) (v : Vec F S64x1024 .f32) (z : Vec F S1x64x512 .f32)
    (st : Fin 4 → FVec F S256x128 .f32) (h : Fin 4) : FVec F S256x128 .f32 :=
  addf (mulf (st h) (broadcastTo S256x128 (headD h (exp (k0_pay23 (lgs z)))) broadcasts_S1x128_S256x128))
    (matmul dot_S64x256_S64x128_S256x128_0_0_1_1_n_n none (truncf .bf16 (headV h (k0_pay14 v)) bitsLt_bf16_f32)
      (truncf .bf16 (headC h (ksts tri k z)) bitsLt_bf16_f32) (constant S256x128 .f32 0x00000000#32))

/-- One head's output of a chunk: the masked products within the chunk and the product with the state before it. -/
def chunkOh (tri : FVec F S64x64 .f32) (mr : FVec F S64x1 .f32) (q k : Vec F S64x512 .f32) (v : Vec F S64x1024 .f32)
    (z : Vec F S1x64x512 .f32) (st : Fin 4 → FVec F S256x128 .f32) (h : Fin 4) : FVec F S64x256 .f32 :=
  addf (matmul dot_S64x64_S64x256_S64x256_1_0_0_1_n_n none
      (truncf .bf16 (mulf (matmul dot_S64x128_S64x128_S64x64_1_1_0_0_n_n none (truncf .bf16 (headC h (qins tri mr q z)) bitsLt_bf16_f32)
        (truncf .bf16 (headC h (kins tri mr k z)) bitsLt_bf16_f32) (constant S64x64 .f32 0x00000000#32)) tri) bitsLt_bf16_f32)
      (truncf .bf16 (headV h (k0_pay14 v)) bitsLt_bf16_f32) (constant S64x256 .f32 0x00000000#32))
    (matmul dot_S64x128_S256x128_S64x256_1_1_0_0_n_n none (truncf .bf16 (headC h (qdcs tri q z)) bitsLt_bf16_f32)
      (truncf .bf16 (st h) bitsLt_bf16_f32) (constant S64x256 .f32 0x00000000#32))

/-- A chunk's output: the heads side by side. -/
def chunkO (tri : FVec F S64x64 .f32) (mr : FVec F S64x1 .f32) (q k : Vec F S64x512 .f32) (v : Vec F S64x1024 .f32)
    (z : Vec F S1x64x512 .f32) (st : Fin 4 → FVec F S256x128 .f32) : FVec F S64x1024 .f32 :=
  concatenate S64x1024 1 [⟨S64x256, chunkOh tri mr q k v z st 0⟩, ⟨S64x256, chunkOh tri mr q k v z st 1⟩,
    ⟨S64x256, chunkOh tri mr q k v z st 2⟩, ⟨S64x256, chunkOh tri mr q k v z st 3⟩] concatenates_S64x256_S64x256_S64x256_S64x256_S64x1024_d1

/-- Four consecutive chunks' rows of a block of 256 rows and 512 columns. -/
def subQ (s : Fin 4) (x : Vec F S256x512 .f32) : Vec F S64x512 .f32 :=
  match s with
  | 0 => View.ld x (Rect.unit (s := S256x512) ![0, 0] S64x512.size inb_S256x512_S64x512_0_0)
  | 1 => View.ld x (Rect.unit (s := S256x512) ![64, 0] S64x512.size inb_S256x512_S64x512_64_0)
  | 2 => View.ld x (Rect.unit (s := S256x512) ![128, 0] S64x512.size inb_S256x512_S64x512_128_0)
  | 3 => View.ld x (Rect.unit (s := S256x512) ![192, 0] S64x512.size inb_S256x512_S64x512_192_0)

/-- One chunk's rows of a block of values. -/
def subV (s : Fin 4) (x : Vec F S256x1024 .f32) : Vec F S64x1024 .f32 :=
  match s with
  | 0 => View.ld x (Rect.unit (s := S256x1024) ![0, 0] S64x1024.size inb_S256x1024_S64x1024_0_0)
  | 1 => View.ld x (Rect.unit (s := S256x1024) ![64, 0] S64x1024.size inb_S256x1024_S64x1024_64_0)
  | 2 => View.ld x (Rect.unit (s := S256x1024) ![128, 0] S64x1024.size inb_S256x1024_S64x1024_128_0)
  | 3 => View.ld x (Rect.unit (s := S256x1024) ![192, 0] S64x1024.size inb_S256x1024_S64x1024_192_0)

/-- One chunk's rows of a block of gate logits. -/
def subZ (s : Fin 4) (x : Vec F S1x256x512 .f32) : Vec F S1x64x512 .f32 :=
  match s with
  | 0 => View.ld x (Rect.unit (s := S1x256x512) ![0, 0, 0] S1x64x512.size inb_S1x256x512_S1x64x512_0_0_0)
  | 1 => View.ld x (Rect.unit (s := S1x256x512) ![0, 64, 0] S1x64x512.size inb_S1x256x512_S1x64x512_0_64_0)
  | 2 => View.ld x (Rect.unit (s := S1x256x512) ![0, 128, 0] S1x64x512.size inb_S1x256x512_S1x64x512_0_128_0)
  | 3 => View.ld x (Rect.unit (s := S1x256x512) ![0, 192, 0] S1x64x512.size inb_S1x256x512_S1x64x512_0_192_0)

/-- The four heads' states held by the carried scratch for the forward direction. -/
def scr0 (X : Vec F S2x4x256x128 .f32) (h : Fin 4) : FVec F S256x128 .f32 :=
  match h with
  | 0 => k0_pay5 (View.ld X (Rect.unit (s := S2x4x256x128) ![0, 0, 0, 0] S1x1x256x128.size inb_S2x4x256x128_S1x1x256x128_0_0_0_0))
  | 1 => k0_pay5 (View.ld X (Rect.unit (s := S2x4x256x128) ![0, 1, 0, 0] S1x1x256x128.size inb_S2x4x256x128_S1x1x256x128_0_1_0_0))
  | 2 => k0_pay5 (View.ld X (Rect.unit (s := S2x4x256x128) ![0, 2, 0, 0] S1x1x256x128.size inb_S2x4x256x128_S1x1x256x128_0_2_0_0))
  | 3 => k0_pay5 (View.ld X (Rect.unit (s := S2x4x256x128) ![0, 3, 0, 0] S1x1x256x128.size inb_S2x4x256x128_S1x1x256x128_0_3_0_0))

/-- The four heads' states held by the carried scratch for the reverse direction. -/
def scr1 (X : Vec F S2x4x256x128 .f32) (h : Fin 4) : FVec F S256x128 .f32 :=
  match h with
  | 0 => k0_pay5 (View.ld X (Rect.unit (s := S2x4x256x128) ![1, 0, 0, 0] S1x1x256x128.size inb_S2x4x256x128_S1x1x256x128_1_0_0_0))
  | 1 => k0_pay5 (View.ld X (Rect.unit (s := S2x4x256x128) ![1, 1, 0, 0] S1x1x256x128.size inb_S2x4x256x128_S1x1x256x128_1_1_0_0))
  | 2 => k0_pay5 (View.ld X (Rect.unit (s := S2x4x256x128) ![1, 2, 0, 0] S1x1x256x128.size inb_S2x4x256x128_S1x1x256x128_1_2_0_0))
  | 3 => k0_pay5 (View.ld X (Rect.unit (s := S2x4x256x128) ![1, 3, 0, 0] S1x1x256x128.size inb_S2x4x256x128_S1x1x256x128_1_3_0_0))

/-- The mask of the rows at or before a row, and of the rows up to the middle one. -/
def tri0 : FVec F S64x64 .f32 := k0_pay3
/-- The rows up to the middle one. -/
def mid0 : FVec F S64x1 .f32 := k0_pay4
/-- The mask of the rows at or after a row. -/
def tri1 : FVec F S64x64 .f32 := k0_pay128
/-- The rows from the middle one on. -/
def mid1 : FVec F S64x1 .f32 := k0_pay130 (iota .tc S64x1 32 [0] iota_S64x1_d0_w32) k0_pay129

/-- Two places of a chunk with the same row and column are the same. -/
theorem ext64 {x y : S64x1024.Idx} (h0 : (x 0).val = (y 0).val) (h1 : (x 1).val = (y 1).val) : x = y := by
  funext a
  fin_cases a
  · exact Fin.ext h0
  · exact Fin.ext h1

/-- An output block written chunk by chunk from the last chunk down reads, in chunk `s`, what was written there. -/
theorem tiles_down (p : Fin 4 → Vec F S64x1024 .f32) {p0 p1 p2 p3 : Vec F S64x1024 .f32} (s : Fin 4) (y : S256x1024.Idx) (x : S64x1024.Idx)
    (e0 : (y 0).val = 64 * s.val + (x 0).val) (e1 : (y 1).val = (x 1).val)
    (h3 : p3 = p 3) (h2 : p2 = p 2) (h1 : p1 = p 1) (h0 : p0 = p 0) :
    View.canon (Val := Elt F) [⟨Rect.unit (s := S256x1024) ![192, 0] S64x1024.size inb_S256x1024_S64x1024_192_0, p3⟩,
      ⟨Rect.unit (s := S256x1024) ![128, 0] S64x1024.size inb_S256x1024_S64x1024_128_0, p2⟩,
      ⟨Rect.unit (s := S256x1024) ![64, 0] S64x1024.size inb_S256x1024_S64x1024_64_0, p1⟩,
      ⟨Rect.unit (s := S256x1024) ![0, 0] S64x1024.size inb_S256x1024_S64x1024_0_0, p0⟩] y = p s x := by
  subst h0 h1 h2 h3
  have hx : (x 0).val < 64 := (x 0).isLt
  have hs : s.val < 4 := s.isLt
  canon_tiles x' h
  all_goals
    obtain rfl : x' = x := ext64 (by omega) (by omega)
    first
      | (obtain rfl : s = 0 := Fin.ext (show s.val = 0 by omega); rfl)
      | (obtain rfl : s = 1 := Fin.ext (show s.val = 1 by omega); rfl)
      | (obtain rfl : s = 2 := Fin.ext (show s.val = 2 by omega); rfl)
      | (obtain rfl : s = 3 := Fin.ext (show s.val = 3 by omega); rfl)

/-- The same written from the first chunk up. -/
theorem tiles_up (p : Fin 4 → Vec F S64x1024 .f32) {p0 p1 p2 p3 : Vec F S64x1024 .f32} (s : Fin 4) (y : S256x1024.Idx) (x : S64x1024.Idx)
    (e0 : (y 0).val = 64 * s.val + (x 0).val) (e1 : (y 1).val = (x 1).val)
    (h3 : p3 = p 3) (h2 : p2 = p 2) (h1 : p1 = p 1) (h0 : p0 = p 0) :
    View.canon (Val := Elt F) [⟨Rect.unit (s := S256x1024) ![0, 0] S64x1024.size inb_S256x1024_S64x1024_0_0, p0⟩,
      ⟨Rect.unit (s := S256x1024) ![64, 0] S64x1024.size inb_S256x1024_S64x1024_64_0, p1⟩,
      ⟨Rect.unit (s := S256x1024) ![128, 0] S64x1024.size inb_S256x1024_S64x1024_128_0, p2⟩,
      ⟨Rect.unit (s := S256x1024) ![192, 0] S64x1024.size inb_S256x1024_S64x1024_192_0, p3⟩] y = p s x := by
  subst h0 h1 h2 h3
  have hx : (x 0).val < 64 := (x 0).isLt
  have hs : s.val < 4 := s.isLt
  canon_tiles x' h
  all_goals
    obtain rfl : x' = x := ext64 (by omega) (by omega)
    first
      | (obtain rfl : s = 0 := Fin.ext (show s.val = 0 by omega); rfl)
      | (obtain rfl : s = 1 := Fin.ext (show s.val = 1 by omega); rfl)
      | (obtain rfl : s = 2 := Fin.ext (show s.val = 2 by omega); rfl)
      | (obtain rfl : s = 3 := Fin.ext (show s.val = 3 by omega); rfl)

/-- Two places of a block of one state with the same row and column are the same. -/
theorem ext11 {x y : S1x1x256x128.Idx} (h2 : (x 2).val = (y 2).val) (h3 : (x 3).val = (y 3).val) : x = y := by
  funext a
  fin_cases a
  · exact Subsingleton.elim (α := Fin 1) _ _
  · exact Subsingleton.elim (α := Fin 1) _ _
  · exact Fin.ext h2
  · exact Fin.ext h3

/-- A family of blocks at equal places is equal. -/
theorem pick {n : ℕ} (p : Fin n → Fin 4 → Vec F S1x1x256x128 .f32) (x : S1x1x256x128.Idx) {a s : Fin n} {b h : Fin 4}
    (ha : a.val = s.val) (hb : b.val = h.val) : p a b x = p s h x := by
  obtain rfl := Fin.ext ha
  obtain rfl := Fin.ext hb
  rfl

/-- Saved states written from the last chunk down read, for each chunk and head, what was written there. -/
theorem states_down (p : Fin 4 → Fin 4 → Vec F S1x1x256x128 .f32) {p33 p32 p31 p30 p23 p22 p21 p20 p13 p12 p11 p10 p03 p02 p01 p00 : Vec F S1x1x256x128 .f32} (s : Fin 4) (h : Fin 4) (x : S1x1x256x128.Idx)
    (h33 : p33 = p 3 3) (h32 : p32 = p 3 2) (h31 : p31 = p 3 1) (h30 : p30 = p 3 0) (h23 : p23 = p 2 3) (h22 : p22 = p 2 2) (h21 : p21 = p 2 1) (h20 : p20 = p 2 0) (h13 : p13 = p 1 3) (h12 : p12 = p 1 2) (h11 : p11 = p 1 1) (h10 : p10 = p 1 0) (h03 : p03 = p 0 3) (h02 : p02 = p 0 2) (h01 : p01 = p 0 1) (h00 : p00 = p 0 0) :
    View.canon (Val := Elt F) [⟨Rect.unit (s := S4x4x256x128) ![3, 3, 0, 0] S1x1x256x128.size inb_S4x4x256x128_S1x1x256x128_3_3_0_0, p33⟩,
      ⟨Rect.unit (s := S4x4x256x128) ![3, 2, 0, 0] S1x1x256x128.size inb_S4x4x256x128_S1x1x256x128_3_2_0_0, p32⟩,
      ⟨Rect.unit (s := S4x4x256x128) ![3, 1, 0, 0] S1x1x256x128.size inb_S4x4x256x128_S1x1x256x128_3_1_0_0, p31⟩,
      ⟨Rect.unit (s := S4x4x256x128) ![3, 0, 0, 0] S1x1x256x128.size inb_S4x4x256x128_S1x1x256x128_3_0_0_0, p30⟩,
      ⟨Rect.unit (s := S4x4x256x128) ![2, 3, 0, 0] S1x1x256x128.size inb_S4x4x256x128_S1x1x256x128_2_3_0_0, p23⟩,
      ⟨Rect.unit (s := S4x4x256x128) ![2, 2, 0, 0] S1x1x256x128.size inb_S4x4x256x128_S1x1x256x128_2_2_0_0, p22⟩,
      ⟨Rect.unit (s := S4x4x256x128) ![2, 1, 0, 0] S1x1x256x128.size inb_S4x4x256x128_S1x1x256x128_2_1_0_0, p21⟩,
      ⟨Rect.unit (s := S4x4x256x128) ![2, 0, 0, 0] S1x1x256x128.size inb_S4x4x256x128_S1x1x256x128_2_0_0_0, p20⟩,
      ⟨Rect.unit (s := S4x4x256x128) ![1, 3, 0, 0] S1x1x256x128.size inb_S4x4x256x128_S1x1x256x128_1_3_0_0, p13⟩,
      ⟨Rect.unit (s := S4x4x256x128) ![1, 2, 0, 0] S1x1x256x128.size inb_S4x4x256x128_S1x1x256x128_1_2_0_0, p12⟩,
      ⟨Rect.unit (s := S4x4x256x128) ![1, 1, 0, 0] S1x1x256x128.size inb_S4x4x256x128_S1x1x256x128_1_1_0_0, p11⟩,
      ⟨Rect.unit (s := S4x4x256x128) ![1, 0, 0, 0] S1x1x256x128.size inb_S4x4x256x128_S1x1x256x128_1_0_0_0, p10⟩,
      ⟨Rect.unit (s := S4x4x256x128) ![0, 3, 0, 0] S1x1x256x128.size inb_S4x4x256x128_S1x1x256x128_0_3_0_0, p03⟩,
      ⟨Rect.unit (s := S4x4x256x128) ![0, 2, 0, 0] S1x1x256x128.size inb_S4x4x256x128_S1x1x256x128_0_2_0_0, p02⟩,
      ⟨Rect.unit (s := S4x4x256x128) ![0, 1, 0, 0] S1x1x256x128.size inb_S4x4x256x128_S1x1x256x128_0_1_0_0, p01⟩,
      ⟨Rect.unit (s := S4x4x256x128) ![0, 0, 0, 0] S1x1x256x128.size inb_S4x4x256x128_S1x1x256x128_0_0_0_0, p00⟩] (ix4 s h (x 2) (x 3)) = p s h x := by
  subst h33 h32 h31 h30 h23 h22 h21 h20 h13 h12 h11 h10 h03 h02 h01 h00
  generalize hy : (ix4 s h (x 2) (x 3) : S4x4x256x128.Idx) = y
  have e0 : (y 0).val = s.val := by rw [← hy]; rfl
  have e1 : (y 1).val = h.val := by rw [← hy]; rfl
  have e2 : (y 2).val = (x 2).val := by rw [← hy]; rfl
  have e3 : (y 3).val = (x 3).val := by rw [← hy]; rfl
  clear hy
  canon_tiles x' g
  all_goals
    obtain rfl : x' = x := ext11 (by omega) (by omega)
    exact pick p x' (by simp; omega) (by simp; omega)

/-- Saved states written from the first chunk up read what was written. -/
theorem states_up (p : Fin 4 → Fin 4 → Vec F S1x1x256x128 .f32) {p03 p02 p01 p00 p13 p12 p11 p10 p23 p22 p21 p20 p33 p32 p31 p30 : Vec F S1x1x256x128 .f32} (s : Fin 4) (h : Fin 4) (x : S1x1x256x128.Idx)
    (h03 : p03 = p 0 3) (h02 : p02 = p 0 2) (h01 : p01 = p 0 1) (h00 : p00 = p 0 0) (h13 : p13 = p 1 3) (h12 : p12 = p 1 2) (h11 : p11 = p 1 1) (h10 : p10 = p 1 0) (h23 : p23 = p 2 3) (h22 : p22 = p 2 2) (h21 : p21 = p 2 1) (h20 : p20 = p 2 0) (h33 : p33 = p 3 3) (h32 : p32 = p 3 2) (h31 : p31 = p 3 1) (h30 : p30 = p 3 0) :
    View.canon (Val := Elt F) [⟨Rect.unit (s := S4x4x256x128) ![0, 3, 0, 0] S1x1x256x128.size inb_S4x4x256x128_S1x1x256x128_0_3_0_0, p03⟩,
      ⟨Rect.unit (s := S4x4x256x128) ![0, 2, 0, 0] S1x1x256x128.size inb_S4x4x256x128_S1x1x256x128_0_2_0_0, p02⟩,
      ⟨Rect.unit (s := S4x4x256x128) ![0, 1, 0, 0] S1x1x256x128.size inb_S4x4x256x128_S1x1x256x128_0_1_0_0, p01⟩,
      ⟨Rect.unit (s := S4x4x256x128) ![0, 0, 0, 0] S1x1x256x128.size inb_S4x4x256x128_S1x1x256x128_0_0_0_0, p00⟩,
      ⟨Rect.unit (s := S4x4x256x128) ![1, 3, 0, 0] S1x1x256x128.size inb_S4x4x256x128_S1x1x256x128_1_3_0_0, p13⟩,
      ⟨Rect.unit (s := S4x4x256x128) ![1, 2, 0, 0] S1x1x256x128.size inb_S4x4x256x128_S1x1x256x128_1_2_0_0, p12⟩,
      ⟨Rect.unit (s := S4x4x256x128) ![1, 1, 0, 0] S1x1x256x128.size inb_S4x4x256x128_S1x1x256x128_1_1_0_0, p11⟩,
      ⟨Rect.unit (s := S4x4x256x128) ![1, 0, 0, 0] S1x1x256x128.size inb_S4x4x256x128_S1x1x256x128_1_0_0_0, p10⟩,
      ⟨Rect.unit (s := S4x4x256x128) ![2, 3, 0, 0] S1x1x256x128.size inb_S4x4x256x128_S1x1x256x128_2_3_0_0, p23⟩,
      ⟨Rect.unit (s := S4x4x256x128) ![2, 2, 0, 0] S1x1x256x128.size inb_S4x4x256x128_S1x1x256x128_2_2_0_0, p22⟩,
      ⟨Rect.unit (s := S4x4x256x128) ![2, 1, 0, 0] S1x1x256x128.size inb_S4x4x256x128_S1x1x256x128_2_1_0_0, p21⟩,
      ⟨Rect.unit (s := S4x4x256x128) ![2, 0, 0, 0] S1x1x256x128.size inb_S4x4x256x128_S1x1x256x128_2_0_0_0, p20⟩,
      ⟨Rect.unit (s := S4x4x256x128) ![3, 3, 0, 0] S1x1x256x128.size inb_S4x4x256x128_S1x1x256x128_3_3_0_0, p33⟩,
      ⟨Rect.unit (s := S4x4x256x128) ![3, 2, 0, 0] S1x1x256x128.size inb_S4x4x256x128_S1x1x256x128_3_2_0_0, p32⟩,
      ⟨Rect.unit (s := S4x4x256x128) ![3, 1, 0, 0] S1x1x256x128.size inb_S4x4x256x128_S1x1x256x128_3_1_0_0, p31⟩,
      ⟨Rect.unit (s := S4x4x256x128) ![3, 0, 0, 0] S1x1x256x128.size inb_S4x4x256x128_S1x1x256x128_3_0_0_0, p30⟩] (ix4 s h (x 2) (x 3)) = p s h x := by
  subst h03 h02 h01 h00 h13 h12 h11 h10 h23 h22 h21 h20 h33 h32 h31 h30
  generalize hy : (ix4 s h (x 2) (x 3) : S4x4x256x128.Idx) = y
  have e0 : (y 0).val = s.val := by rw [← hy]; rfl
  have e1 : (y 1).val = h.val := by rw [← hy]; rfl
  have e2 : (y 2).val = (x 2).val := by rw [← hy]; rfl
  have e3 : (y 3).val = (x 3).val := by rw [← hy]; rfl
  clear hy
  canon_tiles x' g
  all_goals
    obtain rfl : x' = x := ext11 (by omega) (by omega)
    exact pick p x' (by simp; omega) (by simp; omega)

/-- The scratch reads, for each direction and head, what was written there last. -/
theorem scratch (p : Fin 2 → Fin 4 → Vec F S1x1x256x128 .f32) {p13 p12 p11 p10 p03 p02 p01 p00 : Vec F S1x1x256x128 .f32} (s : Fin 2) (h : Fin 4) (x : S1x1x256x128.Idx)
    (h13 : p13 = p 1 3) (h12 : p12 = p 1 2) (h11 : p11 = p 1 1) (h10 : p10 = p 1 0) (h03 : p03 = p 0 3) (h02 : p02 = p 0 2) (h01 : p01 = p 0 1) (h00 : p00 = p 0 0) :
    View.canon (Val := Elt F) [⟨Rect.unit (s := S2x4x256x128) ![1, 3, 0, 0] S1x1x256x128.size inb_S2x4x256x128_S1x1x256x128_1_3_0_0, p13⟩,
      ⟨Rect.unit (s := S2x4x256x128) ![1, 2, 0, 0] S1x1x256x128.size inb_S2x4x256x128_S1x1x256x128_1_2_0_0, p12⟩,
      ⟨Rect.unit (s := S2x4x256x128) ![1, 1, 0, 0] S1x1x256x128.size inb_S2x4x256x128_S1x1x256x128_1_1_0_0, p11⟩,
      ⟨Rect.unit (s := S2x4x256x128) ![1, 0, 0, 0] S1x1x256x128.size inb_S2x4x256x128_S1x1x256x128_1_0_0_0, p10⟩,
      ⟨Rect.unit (s := S2x4x256x128) ![0, 3, 0, 0] S1x1x256x128.size inb_S2x4x256x128_S1x1x256x128_0_3_0_0, p03⟩,
      ⟨Rect.unit (s := S2x4x256x128) ![0, 2, 0, 0] S1x1x256x128.size inb_S2x4x256x128_S1x1x256x128_0_2_0_0, p02⟩,
      ⟨Rect.unit (s := S2x4x256x128) ![0, 1, 0, 0] S1x1x256x128.size inb_S2x4x256x128_S1x1x256x128_0_1_0_0, p01⟩,
      ⟨Rect.unit (s := S2x4x256x128) ![0, 0, 0, 0] S1x1x256x128.size inb_S2x4x256x128_S1x1x256x128_0_0_0_0, p00⟩] (ix4 s h (x 2) (x 3)) = p s h x := by
  subst h13 h12 h11 h10 h03 h02 h01 h00
  generalize hy : (ix4 s h (x 2) (x 3) : S2x4x256x128.Idx) = y
  have e0 : (y 0).val = s.val := by rw [← hy]; rfl
  have e1 : (y 1).val = h.val := by rw [← hy]; rfl
  have e2 : (y 2).val = (x 2).val := by rw [← hy]; rfl
  have e3 : (y 3).val = (x 3).val := by rw [← hy]; rfl
  clear hy
  canon_tiles x' g
  all_goals
    obtain rfl : x' = x := ext11 (by omega) (by omega)
    exact pick p x' (by simp; omega) (by simp; omega)

/-- Stores under others that cover the place do not matter there. -/
theorem canon_tail {S : Shape} (L' : List (View.Piece (Elt F) S .f32)) : ∀ (L : List (View.Piece (Elt F) S .f32)) (y : S.Idx),
    (∃ p ∈ L, y ∈ p.1.set) → View.canon L y = View.canon (L ++ L') y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_tail L' L y ?_
      obtain ⟨q, hq, hyq⟩ := hy
      rcases List.mem_cons.mp hq with rfl | hq'
      · exact absurd hyq hm
      · exact ⟨q, hq', hyq⟩

/-- The same over a fill of the whole scratch. -/
theorem scratch_fill (p : Fin 2 → Fin 4 → Vec F S1x1x256x128 .f32) {w : Vec F S2x4x256x128 .f32} {p13 p12 p11 p10 p03 p02 p01 p00 : Vec F S1x1x256x128 .f32} (s : Fin 2) (h : Fin 4) (x : S1x1x256x128.Idx)
    (h13 : p13 = p 1 3) (h12 : p12 = p 1 2) (h11 : p11 = p 1 1) (h10 : p10 = p 1 0) (h03 : p03 = p 0 3) (h02 : p02 = p 0 2) (h01 : p01 = p 0 1) (h00 : p00 = p 0 0) :
    View.canon (Val := Elt F) [⟨Rect.unit (s := S2x4x256x128) ![1, 3, 0, 0] S1x1x256x128.size inb_S2x4x256x128_S1x1x256x128_1_3_0_0, p13⟩,
      ⟨Rect.unit (s := S2x4x256x128) ![1, 2, 0, 0] S1x1x256x128.size inb_S2x4x256x128_S1x1x256x128_1_2_0_0, p12⟩,
      ⟨Rect.unit (s := S2x4x256x128) ![1, 1, 0, 0] S1x1x256x128.size inb_S2x4x256x128_S1x1x256x128_1_1_0_0, p11⟩,
      ⟨Rect.unit (s := S2x4x256x128) ![1, 0, 0, 0] S1x1x256x128.size inb_S2x4x256x128_S1x1x256x128_1_0_0_0, p10⟩,
      ⟨Rect.unit (s := S2x4x256x128) ![0, 3, 0, 0] S1x1x256x128.size inb_S2x4x256x128_S1x1x256x128_0_3_0_0, p03⟩,
      ⟨Rect.unit (s := S2x4x256x128) ![0, 2, 0, 0] S1x1x256x128.size inb_S2x4x256x128_S1x1x256x128_0_2_0_0, p02⟩,
      ⟨Rect.unit (s := S2x4x256x128) ![0, 1, 0, 0] S1x1x256x128.size inb_S2x4x256x128_S1x1x256x128_0_1_0_0, p01⟩,
      ⟨Rect.unit (s := S2x4x256x128) ![0, 0, 0, 0] S1x1x256x128.size inb_S2x4x256x128_S1x1x256x128_0_0_0_0, p00⟩,
      ⟨Rect.unit (s := S2x4x256x128) ![0, 0, 0, 0] S2x4x256x128.size inb_S2x4x256x128_S2x4x256x128_0_0_0_0, w⟩] (ix4 s h (x 2) (x 3)) = p s h x := by
  refine Eq.trans ?_ (scratch p s h x h13 h12 h11 h10 h03 h02 h01 h00)
  symm
  exact canon_tail [⟨Rect.unit (s := S2x4x256x128) ![0, 0, 0, 0] S2x4x256x128.size inb_S2x4x256x128_S2x4x256x128_0_0_0_0, w⟩] _ _
    (View.cover_of_tiled_head _ _ _ (by rfl) _)

variable (q k : Vec F S256x512 .f32) (v : Vec F S256x1024 .f32) (z : Vec F S1x256x512 .f32) (st : Fin 4 → FVec F S256x128 .f32)

/-- The chunk of a block that the forward direction takes after `n` others, and the one the reverse direction takes. -/
def nthF : ℕ → Fin 4
  | 0 => 0
  | 1 => 1
  | 2 => 2
  | _ => 3
/-- The chunk of a block that the reverse direction takes after `n` others. -/
def nthR : ℕ → Fin 4
  | 0 => 3
  | 1 => 2
  | 2 => 1
  | _ => 0

/-- The forward direction's states after `n` chunks of a block. -/
def stF : ℕ → Fin 4 → FVec F S256x128 .f32
  | 0 => st
  | n + 1 => chunkS tri0 (subQ (nthF n) k) (subV (nthF n) v) (subZ (nthF n) z) (stF n)

/-- The reverse direction's states after `n` chunks of a block, from its end. -/
def stR : ℕ → Fin 4 → FVec F S256x128 .f32
  | 0 => st
  | n + 1 => chunkS tri1 (subQ (nthR n) k) (subV (nthR n) v) (subZ (nthR n) z) (stR n)

/-- The scratch after the forward direction's states `a` were stored over a fill `w`. -/
def over (a : Fin 4 → Vec F S1x1x256x128 .f32) (w : Vec F S2x4x256x128 .f32) : Vec F S2x4x256x128 .f32 :=
  View.canon (Val := Elt F) [⟨Rect.unit (s := S2x4x256x128) ![0, 3, 0, 0] S1x1x256x128.size inb_S2x4x256x128_S1x1x256x128_0_3_0_0, a 3⟩,
    ⟨Rect.unit (s := S2x4x256x128) ![0, 2, 0, 0] S1x1x256x128.size inb_S2x4x256x128_S1x1x256x128_0_2_0_0, a 2⟩,
    ⟨Rect.unit (s := S2x4x256x128) ![0, 1, 0, 0] S1x1x256x128.size inb_S2x4x256x128_S1x1x256x128_0_1_0_0, a 1⟩,
    ⟨Rect.unit (s := S2x4x256x128) ![0, 0, 0, 0] S1x1x256x128.size inb_S2x4x256x128_S1x1x256x128_0_0_0_0, a 0⟩,
    ⟨Rect.unit (s := S2x4x256x128) ![0, 0, 0, 0] S2x4x256x128.size inb_S2x4x256x128_S2x4x256x128_0_0_0_0, w⟩]

/-- Away from the forward direction's part it holds the fill. -/
theorem over_apply (a : Fin 4 → Vec F S1x1x256x128 .f32) (w : Vec F S2x4x256x128 .f32) (y : S2x4x256x128.Idx) (hy : (y 0).val = 1) :
    over a w y = w y := by
  unfold over
  obtain ⟨q, hq, hy'⟩ := View.cover_of_tiled_head (Rect.unit (s := S2x4x256x128) ![0, 0, 0, 0] S2x4x256x128.size inb_S2x4x256x128_S2x4x256x128_0_0_0_0) w []
    (by rfl) y
  canon_tiles x g using ⟨q, List.mem_append_right [_, _, _, _] hq, hy'⟩
  case piece4 =>
    have e : x = y := by
      funext i
      fin_cases i
      · exact Fin.ext g0.symm
      · exact Fin.ext g1.symm
      · exact Fin.ext g2.symm
      · exact Fin.ext g3.symm
    rw [e]
  all_goals
    exfalso
    omega

/-- The reverse direction's states are those of the fill. -/
theorem scr1_over (a : Fin 4 → Vec F S1x1x256x128 .f32) (w : Vec F S2x4x256x128 .f32) : scr1 (over a w) = scr1 w := by
  funext h
  have hl (o : Fin 4 → ℕ) (inb : ∀ i, o i + S1x1x256x128.size i ≤ S2x4x256x128.size i) (ho : o 0 = 1) :
      View.ld (over a w) (Rect.unit (s := S2x4x256x128) o S1x1x256x128.size inb) = View.ld w (Rect.unit (s := S2x4x256x128) o S1x1x256x128.size inb) := by
    funext j
    refine over_apply a w _ ?_
    rw [Rect.idx_unit_val, ho, show (j 0).val = 0 from Nat.lt_one_iff.mp (j 0).isLt]
  fin_cases h
  · exact congrArg k0_pay5 (hl _ inb_S2x4x256x128_S1x1x256x128_1_0_0_0 rfl)
  · exact congrArg k0_pay5 (hl _ inb_S2x4x256x128_S1x1x256x128_1_1_0_0 rfl)
  · exact congrArg k0_pay5 (hl _ inb_S2x4x256x128_S1x1x256x128_1_2_0_0 rfl)
  · exact congrArg k0_pay5 (hl _ inb_S2x4x256x128_S1x1x256x128_1_3_0_0 rfl)

variable (m : (ℓ : Loc nD τ sig) → Buf (Elt F) ℓ) (c : Dev nD)

/-- What the scratch holds when point `t` begins its chunks: zeros at the first point, else what the point before left. -/
def before (t : Fin cfg0.N) : Vec F S2x4x256x128 .f32 :=
  if t.val % 16 = 0 then k0_pay2 else (outsAt0 m c (t.val - 1) (Nat.lt_of_le_of_lt (Nat.sub_le _ _) t.isLt)).2.2.2.2

/-- A state stood up as a block of one chunk and one head. -/
def stand (s : FVec F S256x128 .f32) : Vec F S1x1x256x128 .f32 := shapeCast S1x1x256x128 s shapeCasts_S256x128_S1x1x256x128

/-- A point's states for the forward direction over what the scratch held. -/
def fF (X : Vec F S2x4x256x128 .f32) (t : Fin cfg0.N) (n : ℕ) : Fin 4 → FVec F S256x128 .f32 :=
  stF (X0_1 m c t) (X0_2 m c t) (iblk m c 3 t) (scr0 X) n

/-- A point's states for the reverse direction over what the scratch held. -/
def fR (X : Vec F S2x4x256x128 .f32) (t : Fin cfg0.N) (n : ℕ) : Fin 4 → FVec F S256x128 .f32 :=
  stR (X0_5 m c t) (X0_6 m c t) (iblk m c 7 t) (scr1 X) n

/-- A point's forward output in its chunk `s`. -/
def oF (X : Vec F S2x4x256x128 .f32) (t : Fin cfg0.N) (s : Fin 4) : FVec F S64x1024 .f32 :=
  chunkO tri0 mid0 (subQ s (X0_0 m c t)) (subQ s (X0_1 m c t)) (subV s (X0_2 m c t)) (subZ s (iblk m c 3 t)) (fF m c X t s.val)

/-- A point's reverse output in its chunk `s`. -/
def oR (X : Vec F S2x4x256x128 .f32) (t : Fin cfg0.N) (s : Fin 4) : FVec F S64x1024 .f32 :=
  chunkO tri1 mid1 (subQ s (X0_4 m c t)) (subQ s (X0_5 m c t)) (subV s (X0_6 m c t)) (subZ s (iblk m c 7 t)) (fR m c X t (3 - s.val))

set_option maxHeartbeats 400000

/-- The forward direction's output of a point, chunk by chunk. -/
theorem out8 (t : Fin cfg0.N) (s : Fin 4) (y : S256x1024.Idx) (x : S64x1024.Idx) (e0 : (y 0).val = 64 * s.val + (x 0).val) (e1 : (y 1).val = (x 1).val) :
    (outsAt0 m c t.val t.isLt).1 y = oF m c (before m c t) t s x := by
  unfold before
  by_cases hz : t.val % 16 = 0
  · rw [outsAt0_A m c t hz, if_pos hz]
    frame_out
    simp only [View.readCov_eq_canon', View.canon_cons_unit_lit (S := S2x4x256x128) (off := ![0, 0, 0, 0]) inb_S2x4x256x128_S2x4x256x128_0_0_0_0 _ [] (by decide)]
    refine tiles_down (oF m c _ t) s y x e0 e1 ?_ ?_ ?_ ?_ <;> rfl
  · rw [outsAt0_B m c t hz, if_neg hz]
    frame_out
    simp only [read_unread_whole]
    refine tiles_down (oF m c _ t) s y x e0 e1 ?_ ?_ ?_ ?_ <;> rfl

/-- At the first point the reverse direction starts over the scratch the forward direction has stored its states in. -/
def atR (t : Fin cfg0.N) : Vec F S2x4x256x128 .f32 := over (fun h => stand (fF m c k0_pay2 t 4 h)) k0_pay2

theorem fR_over (t : Fin cfg0.N) (n : ℕ) : fR m c (atR m c t) t n = fR m c k0_pay2 t n := by
  unfold fR atR
  rw [scr1_over]

theorem oR_over (t : Fin cfg0.N) (s : Fin 4) : oR m c (atR m c t) t s = oR m c k0_pay2 t s := by
  unfold oR
  rw [fR_over]

/-- The reverse direction's output of a point, chunk by chunk. -/
theorem out9 (t : Fin cfg0.N) (s : Fin 4) (y : S256x1024.Idx) (x : S64x1024.Idx) (e0 : (y 0).val = 64 * s.val + (x 0).val) (e1 : (y 1).val = (x 1).val) :
    (outsAt0 m c t.val t.isLt).2.1 y = oR m c (before m c t) t s x := by
  unfold before
  by_cases hz : t.val % 16 = 0
  · rw [outsAt0_A m c t hz, if_pos hz]
    frame_out
    simp only [View.readCov_eq_canon', View.canon_cons_unit_lit (S := S2x4x256x128) (off := ![0, 0, 0, 0]) inb_S2x4x256x128_S2x4x256x128_0_0_0_0 _ [] (by decide)]
    rw [← oR_over]
    refine tiles_up (oR m c (atR m c t) t) s y x e0 e1 ?_ ?_ ?_ ?_ <;> rfl
  · rw [outsAt0_B m c t hz, if_neg hz]
    frame_out
    simp only [read_unread_whole]
    refine tiles_up (oR m c _ t) s y x e0 e1 ?_ ?_ ?_ ?_ <;> rfl

/-- The forward direction's saved states of a point. -/
theorem out10 (t : Fin cfg0.N) (s h : Fin 4) (x : S1x1x256x128.Idx) :
    (outsAt0 m c t.val t.isLt).2.2.1 (ix4 s h (x 2) (x 3)) = stand (fF m c (before m c t) t s.val h) x := by
  unfold before
  by_cases hz : t.val % 16 = 0
  · rw [outsAt0_A m c t hz, if_pos hz]
    frame_out
    simp only [View.readCov_eq_canon', View.canon_cons_unit_lit (S := S2x4x256x128) (off := ![0, 0, 0, 0]) inb_S2x4x256x128_S2x4x256x128_0_0_0_0 _ [] (by decide)]
    refine states_down (fun s h => stand (fF m c _ t s.val h)) s h x ?_ ?_ ?_ ?_ ?_ ?_ ?_ ?_ ?_ ?_ ?_ ?_ ?_ ?_ ?_ ?_ <;> rfl
  · rw [outsAt0_B m c t hz, if_neg hz]
    frame_out
    simp only [read_unread_whole]
    refine states_down (fun s h => stand (fF m c _ t s.val h)) s h x ?_ ?_ ?_ ?_ ?_ ?_ ?_ ?_ ?_ ?_ ?_ ?_ ?_ ?_ ?_ ?_ <;> rfl

/-- The reverse direction's saved states of a point. -/
theorem out11 (t : Fin cfg0.N) (s h : Fin 4) (x : S1x1x256x128.Idx) :
    (outsAt0 m c t.val t.isLt).2.2.2.1 (ix4 s h (x 2) (x 3)) = stand (fR m c (before m c t) t (3 - s.val) h) x := by
  unfold before
  by_cases hz : t.val % 16 = 0
  · rw [outsAt0_A m c t hz, if_pos hz]
    frame_out
    simp only [View.readCov_eq_canon', View.canon_cons_unit_lit (S := S2x4x256x128) (off := ![0, 0, 0, 0]) inb_S2x4x256x128_S2x4x256x128_0_0_0_0 _ [] (by decide)]
    rw [← fR_over]
    refine states_up (fun s h => stand (fR m c (atR m c t) t (3 - s.val) h)) s h x ?_ ?_ ?_ ?_ ?_ ?_ ?_ ?_ ?_ ?_ ?_ ?_ ?_ ?_ ?_ ?_ <;> rfl
  · rw [outsAt0_B m c t hz, if_neg hz]
    frame_out
    simp only [read_unread_whole]
    refine states_up (fun s h => stand (fR m c _ t (3 - s.val) h)) s h x ?_ ?_ ?_ ?_ ?_ ?_ ?_ ?_ ?_ ?_ ?_ ?_ ?_ ?_ ?_ ?_ <;> rfl

/-- The states a point leaves in the scratch, of both directions. -/
def left (X Y : Vec F S2x4x256x128 .f32) (t : Fin cfg0.N) (d : Fin 2) (h : Fin 4) : Vec F S1x1x256x128 .f32 :=
  match d with
  | 0 => stand (fF m c X t 4 h)
  | 1 => stand (fR m c Y t 4 h)

theorem left_over (t : Fin cfg0.N) (d : Fin 2) (h : Fin 4) : left m c k0_pay2 (atR m c t) t d h = left m c k0_pay2 k0_pay2 t d h := by
  fin_cases d
  · rfl
  · exact congrArg stand (congrFun (fR_over m c t 4) h)

/-- What a point leaves in the scratch. -/
theorem scratch_after (t : Fin cfg0.N) (d : Fin 2) (h : Fin 4) (x : S1x1x256x128.Idx) :
    (outsAt0 m c t.val t.isLt).2.2.2.2 (ix4 d h (x 2) (x 3)) = left m c (before m c t) (before m c t) t d h x := by
  unfold before
  by_cases hz : t.val % 16 = 0
  · rw [outsAt0_A m c t hz, if_pos hz]
    frame_out
    simp only [View.readCov_eq_canon', View.canon_cons_unit_lit (S := S2x4x256x128) (off := ![0, 0, 0, 0]) inb_S2x4x256x128_S2x4x256x128_0_0_0_0 _ [] (by decide)]
    rw [← left_over]
    refine scratch_fill (left m c k0_pay2 (atR m c t) t) d h x ?_ ?_ ?_ ?_ ?_ ?_ ?_ ?_ <;> rfl
  · rw [outsAt0_B m c t hz, if_neg hz]
    frame_out
    simp only [read_unread_whole]
    refine scratch (left m c _ _ t) d h x ?_ ?_ ?_ ?_ ?_ ?_ ?_ ?_ <;> rfl
end Cert.GlafKIdeal.Step
-- ==== Proof.GlafMath.lean ====
module
public import proofs.«01_k».proof.Proof.Reals

/-! Gated linear attention in chunks of 64 rows, as functions of extended reals: a chunk's running decays, the state after
    it and its output. Both programs are read down to these. `q` holds the scaled queries, `k` the keys, `v` the values and
    `g` the logarithms of the decays, all in the order in which the direction walks the chunk's rows; `h` is a head. -/

@[expose] public section
noncomputable section
namespace Cert.Glaf
open Idealize.ShloMosaic Cert.Reals

/-- Column `c` of head `h`, among the heads' 128 columns each. -/
def col (h : Fin 4) (c : Fin 128) : Fin 512 := ⟨128 * h.val + c.val, by omega⟩
/-- Column `e` of head `h`, among the heads' 256 value columns each. -/
def vcol (h : Fin 4) (e : Fin 256) : Fin 1024 := ⟨256 * h.val + e.val, by omega⟩

/-- The running sum of the logarithms of the decays up to row `l`. -/
def cum (g : Fin 64 → Fin 512 → EReal) (l : Fin 64) (c : Fin 512) : EReal := ∑ m, if m ≤ l then g m c else 0
/-- The sum over the whole chunk. -/
def tot (g : Fin 64 → Fin 512 → EReal) (c : Fin 512) : EReal := ∑ m, g m c

/-- What a chunk adds to the state. -/
def upd (k : Fin 64 → Fin 512 → EReal) (v : Fin 64 → Fin 1024 → EReal) (g : Fin 64 → Fin 512 → EReal) (h : Fin 4) (e : Fin 256) (c : Fin 128) : EReal :=
  ∑ l, v l (vcol h e) * (k l (col h c) * Ideal.exp (tot g (col h c) - cum g l (col h c)))

/-- The state after a chunk. -/
def stepS (k : Fin 64 → Fin 512 → EReal) (v : Fin 64 → Fin 1024 → EReal) (g : Fin 64 → Fin 512 → EReal)
    (S : Fin 4 → Fin 256 → Fin 128 → EReal) (h : Fin 4) (e : Fin 256) (c : Fin 128) : EReal :=
  S h e c * Ideal.exp (tot g (col h c)) + upd k v g h e c

/-- The product of row `l`'s query and row `m`'s key, decayed from `m` to `l` through the middle row. -/
def score (q k : Fin 64 → Fin 512 → EReal) (g : Fin 64 → Fin 512 → EReal) (h : Fin 4) (l m : Fin 64) : EReal :=
  ∑ c, (q l (col h c) * Ideal.exp (cum g l (col h c) - cum g 32 (col h c))) * (k m (col h c) * Ideal.exp (cum g 32 (col h c) - cum g m (col h c)))

/-- A chunk's output: what its own earlier rows give, and what the state before it gives. -/
def outO (q k : Fin 64 → Fin 512 → EReal) (v : Fin 64 → Fin 1024 → EReal) (g : Fin 64 → Fin 512 → EReal)
    (S : Fin 4 → Fin 256 → Fin 128 → EReal) (h : Fin 4) (l : Fin 64) (e : Fin 256) : EReal :=
  (∑ m, (if m ≤ l then score q k g h l m else 0) * v m (vcol h e))
    + ∑ c, (q l (col h c) * Ideal.exp (cum g l (col h c))) * S h e c

/-- The states before chunk `n`, from zero. -/
def states (k : ℕ → Fin 64 → Fin 512 → EReal) (v : ℕ → Fin 64 → Fin 1024 → EReal) (g : ℕ → Fin 64 → Fin 512 → EReal) :
    ℕ → Fin 4 → Fin 256 → Fin 128 → EReal
  | 0 => fun _ _ _ => 0
  | n + 1 => stepS (k n) (v n) (g n) (states k v g n)

/-- A direction's order of a chunk's rows: as they are, or reversed. -/
def ord (d : Fin 2) : Equiv.Perm (Fin 64) := if d.val = 0 then Equiv.refl _ else Fin.revPerm

/-- The chunk of the array that direction `d` takes after `n` others, for `n` below 64: its row `l`, in the walk's order. -/
def rowOf (d : Fin 2) (n : ℕ) (l : Fin 64) : ℕ := if d.val = 0 then 64 * n + l.val else 4095 - (64 * n + l.val)

end Cert.Glaf
-- ==== Proof.GlafChunk.lean ====
module
public import proofs.«01_k».proof.Proof.GlafStep
public import proofs.«01_k».proof.Proof.GlafMath

/-! One chunk of the forward gated linear attention over the extended reals: its operations at an index, in the terms of
    the mathematics. -/

@[expose] public section
noncomputable section
namespace Cert.GlafKIdeal.Step
open Cert.GlafKIdeal Cert.GlafKIdeal.Gen Idealize.ShloMosaic Idealize.ShloMosaic.TcCoe Idealize.SL.Sem Cert.Reals Cert.Glaf

/-- The logarithm of a decay, from the gate's logit. -/
def lgK (z : EReal) : EReal :=
  (min z 0 - Ideal.log (1 + Ideal.exp (0 - FloatOps.absf (F := Ideal) (φ := .f32) z))) * Ideal.ofBits .f32 0x3D800000#32

theorem lgs_apply (z : Vec Ideal S1x64x512 .f32) (l : Fin 64) (c : Fin 512) : lgs (F := Ideal) z (ix2 l c) = lgK (z (ix3 0 l c)) := by
  pointwise [lgs, k0_pay15, lgK]

theorem headC_apply (h : Fin 4) (x : FVec Ideal S64x512 .f32) (l : Fin 64) (c : Fin 128) : headC h x (ix2 l c) = x (ix2 l (col h c)) := by
  fin_cases h <;> pointwise [headC, col]
theorem headV_apply (h : Fin 4) (x : FVec Ideal S64x1024 .f32) (l : Fin 64) (c : Fin 256) : headV h x (ix2 l c) = x (ix2 l (vcol h c)) := by
  fin_cases h <;> pointwise [headV, vcol]
theorem headD_apply (h : Fin 4) (x : FVec Ideal S1x512 .f32) (c : Fin 128) : headD h x (ix2 0 c) = x (ix2 0 (col h c)) := by
  fin_cases h <;> pointwise [headD, col]

theorem cums_apply (tri : FVec Ideal S64x64 .f32) (z : Vec Ideal S1x64x512 .f32) (l : Fin 64) (c : Fin 512) :
    cums (F := Ideal) tri z (ix2 l c) = (∑ m, (show EReal from tri (ix2 l m)) * lgK (z (ix3 0 m c)))
      + ∑ m, (show EReal from tri (ix2 l m)) * (lgK (z (ix3 0 m c)) - lgK (z (ix3 0 m c))) := by
  pointwise [cums, k0_pay21, k0_pay20, k0_pay19, k0_pay18, k0_pay17, k0_pay15, lgK]

theorem mids_apply (mr : FVec Ideal S64x1 .f32) (x : FVec Ideal S64x512 .f32) (c : Fin 512) :
    k0_pay22 (F := Ideal) mr x (ix2 0 c) = ∑ m, (show EReal from x (ix2 m c)) * (show EReal from mr (ix2 m 0)) := by
  pointwise [k0_pay22]
theorem tots_apply (x : FVec Ideal S64x512 .f32) (c : Fin 512) :
    k0_pay23 (F := Ideal) x (ix2 0 c) = ∑ m, (show EReal from x (ix2 m c)) := by
  pointwise [k0_pay23]

/-- The mask of a direction: which rows come no later than a row. -/
def triD (d : Fin 2) : FVec Ideal S64x64 .f32 := match d with | 0 => tri0 | 1 => tri1
/-- The mask of the rows no later than the middle one. -/
def midD (d : Fin 2) : FVec Ideal S64x1 .f32 := match d with | 0 => mid0 | 1 => mid1

/-- A bit, as a float: one or zero. -/
theorem bit_float (p : Prop) [Decidable p] : FloatOps.sitofp (F := Ideal) .f32 (if p then 1#32 else 0#32) = if p then (1 : EReal) else 0 := by
  split
  · show ((((1#32 : BitVec 32).toInt : ℤ) : ℝ) : EReal) = 1
    norm_num
  · show ((((0#32 : BitVec 32).toInt : ℤ) : ℝ) : EReal) = 0
    norm_num
theorem sge_bit : ∀ l m : Fin 64, BitVec.setWidth 32 (IntOp.cmpi .sge (BitVec.ofNat 32 l.val) (BitVec.ofNat 32 m.val)) = if m ≤ l then 1#32 else 0#32 := by
  decide +kernel
theorem sle_bit : ∀ l m : Fin 64, BitVec.setWidth 32 (IntOp.cmpi .sle (BitVec.ofNat 32 (Fin.revPerm l).val) (BitVec.ofNat 32 (Fin.revPerm m).val))
    = if m ≤ l then 1#32 else 0#32 := by
  decide +kernel
theorem mid_bit : ∀ m : Fin 64, BitVec.setWidth 32 (IntOp.cmpi .sle (BitVec.ofNat 32 m.val) 32#32) = if m ≤ 32 then 1#32 else 0#32 := by
  decide +kernel
theorem mid_rev_bit : ∀ m : Fin 64, BitVec.setWidth 32 (IntOp.cmpi .sge (BitVec.ofNat 32 (Fin.revPerm m).val) 31#32) = if m ≤ 32 then 1#32 else 0#32 := by
  decide +kernel

theorem triD_apply (d : Fin 2) (l m : Fin 64) : triD d (ix2 (ord d l) (ord d m)) = if m ≤ l then (1 : EReal) else 0 := by
  fin_cases d
  · pointwise [triD, tri0, k0_pay3, ord]
    exact (congrArg _ (sge_bit l m)).trans (bit_float _)
  · pointwise [triD, tri1, k0_pay128, ord]
    exact (congrArg _ (sle_bit l m)).trans (bit_float _)
theorem midD_apply (d : Fin 2) (m : Fin 64) : midD d (ix2 (ord d m) 0) = if m ≤ 32 then (1 : EReal) else 0 := by
  fin_cases d
  · pointwise [midD, mid0, k0_pay4, ord]
    exact (congrArg _ (mid_bit m)).trans (bit_float _)
  · pointwise [midD, mid1, k0_pay130, k0_pay129, ord]
    exact (congrArg _ (mid_rev_bit m)).trans (bit_float _)

theorem qsc_apply (q : Vec Ideal S64x512 .f32) (l : Fin 64) (c : Fin 512) : qsc (F := Ideal) q (ix2 l c) = q (ix2 l c) * Ideal.ofBits .f32 0x3DB504F3#32 := by
  pointwise [qsc, k0_pay16]

section
variable (tri : FVec Ideal S64x64 .f32) (mr : FVec Ideal S64x1 .f32) (q k : Vec Ideal S64x512 .f32) (v : Vec Ideal S64x1024 .f32)
  (z : Vec Ideal S1x64x512 .f32) (st : Fin 4 → FVec Ideal S256x128 .f32)

theorem qins_apply (l : Fin 64) (c : Fin 512) : qins tri mr q z (ix2 l c)
    = qsc q (ix2 l c) * Ideal.exp ((show EReal from cums tri z (ix2 l c)) - k0_pay22 mr (lgs z) (ix2 0 c)) := by
  pointwise [qins]
theorem kins_apply (l : Fin 64) (c : Fin 512) : kins tri mr k z (ix2 l c)
    = k (ix2 l c) * Ideal.exp ((show EReal from k0_pay22 mr (lgs z) (ix2 0 c)) - cums tri z (ix2 l c)) := by
  pointwise [kins, k0_pay13]
theorem ksts_apply (l : Fin 64) (c : Fin 512) : ksts tri k z (ix2 l c)
    = k (ix2 l c) * Ideal.exp ((show EReal from k0_pay23 (lgs z) (ix2 0 c)) - cums tri z (ix2 l c)) := by
  pointwise [ksts, k0_pay13]
theorem qdcs_apply (l : Fin 64) (c : Fin 512) : qdcs tri q z (ix2 l c)
    = qsc q (ix2 l c) * Ideal.exp (show EReal from cums tri z (ix2 l c)) := by
  pointwise [qdcs]
theorem chunkS_at (h : Fin 4) (e : Fin 256) (c : Fin 128) : chunkS tri k v z st h (ix2 e c)
    = (show EReal from st h (ix2 e c)) * Ideal.exp (show EReal from k0_pay23 (lgs z) (ix2 0 (col h c)))
      + ∑ l, (show EReal from v (ix2 l (vcol h e))) * ksts tri k z (ix2 l (col h c)) := by
  pointwise [chunkS, headD_apply, headC_apply, headV_apply, k0_pay14]
theorem chunkOh_at (h : Fin 4) (l : Fin 64) (e : Fin 256) : chunkOh tri mr q k v z st h (ix2 l e)
    = (∑ m, ((∑ c, (show EReal from qins tri mr q z (ix2 l (col h c))) * kins tri mr k z (ix2 m (col h c))) * (show EReal from tri (ix2 l m)))
        * (show EReal from v (ix2 m (vcol h e))))
      + ∑ c, (show EReal from qdcs tri q z (ix2 l (col h c))) * st h (ix2 e c) := by
  pointwise [chunkOh, headC_apply, headV_apply, k0_pay14]
theorem chunkO_at (h : Fin 4) (l : Fin 64) (e : Fin 256) : chunkO tri mr q k v z st (ix2 l (vcol h e)) = chunkOh tri mr q k v z st h (ix2 l e) := by
  fin_cases h <;> pointwise [chunkO, vcol]
  · rw [dif_neg (by omega), dif_neg (by omega), dif_pos (by omega)]
    congr 3
    omega
  · rw [dif_neg (by omega), dif_neg (by omega), dif_neg (by omega)]
    congr 3
    omega
end

/-! ## With real decays -/

section
variable (d : Fin 2) (q k : Vec Ideal S64x512 .f32) (v : Vec Ideal S64x1024 .f32)
  (z : Vec Ideal S1x64x512 .f32) (st : Fin 4 → FVec Ideal S256x128 .f32) (g : Fin 64 → Fin 512 → ℝ)
  (hg : ∀ l c, lgK (z (ix3 0 (ord d l) c)) = (g l c : EReal))
include hg

/-- The running sums are those of the decays, the remainder of the split being zero. -/
theorem cums_ord (l : Fin 64) (c : Fin 512) : cums (triD d) z (ix2 (ord d l) c) = cum (fun l c => (g l c : EReal)) l c := by
  rw [cums_apply, ← Equiv.sum_comp (ord d), ← Equiv.sum_comp (ord d) (fun m => (show EReal from triD d (ix2 (ord d l) m)) * (lgK (z (ix3 0 m c)) - lgK (z (ix3 0 m c))))]
  simp only [triD_apply, hg]
  have h0 : ∀ m : Fin 64, (if m ≤ l then (1 : EReal) else 0) * ((g m c : EReal) - (g m c : EReal)) = 0 := fun m => by
    rw [← EReal.coe_sub, sub_self, EReal.coe_zero, mul_zero]
  simp only [h0, Finset.sum_const_zero, add_zero, ite_mul, one_mul, zero_mul]
  rfl
theorem mids_ord (c : Fin 512) : k0_pay22 (F := Ideal) (midD d) (lgs z) (ix2 0 c) = cum (fun l c => (g l c : EReal)) 32 c := by
  rw [mids_apply, ← Equiv.sum_comp (ord d)]
  simp only [midD_apply, lgs_apply, hg, mul_ite, mul_one, mul_zero]
  rfl
theorem tots_ord (c : Fin 512) : k0_pay23 (F := Ideal) (lgs z) (ix2 0 c) = tot (fun l c => (g l c : EReal)) c := by
  rw [tots_apply, ← Equiv.sum_comp (ord d)]
  simp only [lgs_apply, hg]
  rfl

/-- The state after a chunk. -/
theorem chunkS_ord (h : Fin 4) (e : Fin 256) (c : Fin 128) : chunkS (triD d) k v z st h (ix2 e c)
    = stepS (fun l c => k (ix2 (ord d l) c)) (fun l e => v (ix2 (ord d l) e)) (fun l c => (g l c : EReal)) (fun h e c => st h (ix2 e c)) h e c := by
  rw [chunkS_at, ← Equiv.sum_comp (ord d)]
  simp only [ksts_apply, cums_ord d z g hg, tots_ord d z g hg]
  rfl

/-- A chunk's output. -/
theorem chunkO_ord (h : Fin 4) (l : Fin 64) (e : Fin 256) : chunkO (triD d) (midD d) q k v z st (ix2 (ord d l) (vcol h e))
    = outO (fun l c => q (ix2 (ord d l) c) * Ideal.ofBits .f32 0x3DB504F3#32) (fun l c => k (ix2 (ord d l) c)) (fun l e => v (ix2 (ord d l) e))
        (fun l c => (g l c : EReal)) (fun h e c => st h (ix2 e c)) h l e := by
  rw [chunkO_at, chunkOh_at, ← Equiv.sum_comp (ord d)]
  simp only [qins_apply, kins_apply, qdcs_apply, qsc_apply, cums_ord d z g hg, mids_ord d z g hg, triD_apply, mul_ite, mul_one, mul_zero]
  rfl
end
end Cert.GlafKIdeal.Step
-- ==== Proof.GlafBlocks.lean ====
module
public import proofs.«01_k».proof.Proof.GlafChunk
public import Idealize.ShloMosaic.Lib.Claim

/-! The blocks of the forward gated linear attention: the entries of the two arguments that a grid point's input blocks
    hold. -/

@[expose] public section
noncomputable section
namespace Cert.GlafKIdeal.Value
open Cert.GlafKIdeal Cert.GlafKIdeal.Gen Idealize.ShloMosaic Idealize.ShloMosaic.TcCoe Idealize.SL.Sem Cert.Reals Cert.Glaf
open Idealize.ShloMosaic.Pipeline (Dat)

theorem idx : ∀ t : Fin cfg0.N, win0_0.index t = ![t.val, 0] ∧ win0_1.index t = ![t.val, 1] ∧ win0_2.index t = ![t.val, 1]
    ∧ win0_3.index t = ![0, t.val, 0] ∧ win0_4.index t = ![15 - t.val, 0] ∧ win0_5.index t = ![15 - t.val, 1] ∧ win0_6.index t = ![15 - t.val, 1]
    ∧ win0_7.index t = ![1, 15 - t.val, 0] :=
  (by decide +kernel : ∀ t : Fin grid0.N, _)
theorem idxO : ∀ t : Fin cfg0.N, win0_8.index t = ![t.val, 0] ∧ win0_9.index t = ![15 - t.val, 0] ∧ win0_10.index t = ![t.val, 0, 0, 0]
    ∧ win0_11.index t = ![15 - t.val, 0, 0, 0] :=
  (by decide +kernel : ∀ t : Fin grid0.N, _)

variable (m : (ℓ : Loc nD τ sig) → Buf (Elt Ideal) ℓ) (c : Dev nD)

/-- Row `r` of block `t`, and of the block that the reverse direction takes at point `t`. -/
def rowF (t : Fin cfg0.N) (r : Fin 256) : Fin 4096 := ⟨256 * t.val + r.val, by have := lt_of_lt_of_eq t.isLt N_0; omega⟩
def rowR (t : Fin cfg0.N) (r : Fin 256) : Fin 4096 := ⟨256 * (15 - t.val) + r.val, by omega⟩

/-- An entry of the projections: queries, keys and values side by side. -/
def P (r : Fin 4096) (j : Fin 3104) : EReal := m ((c : Thread nD τ).loc main_arg0) (ix2 r j)
/-- An entry of the gate logits of a direction. -/
def Z (d : Fin 2) (r : Fin 4096) (j : Fin 512) : EReal := m ((c : Thread nD τ).loc main_arg1) (ix3 d r j)

def qcol (j : Fin 512) : Fin 3104 := ⟨j.val, by omega⟩
def kcol (j : Fin 512) : Fin 3104 := ⟨512 + j.val, by omega⟩
def vvcol (j : Fin 1024) : Fin 3104 := ⟨1024 + j.val, by omega⟩

theorem padded (r : Fin 4096) (j : Fin 3200) (h : j.val < 3104) : V m c main_v0 (ix2 r j) = P m c r ⟨j.val, h⟩ := by
  have hp : V m c main_v0 = pad S4096x3200 ![0, 0] ![0, 96] ![0, 0] (show Vec Ideal S4096x3104 .f32 from m ((c : Thread nD τ).loc main_arg0))
      (sitofp (F := Ideal) .f32 (constantI S_ 32 0#32)) pads_S4096x3104_S4096x3200_000_0960 h_S_ := by
    unfold V
    simp only [List.flatten_cons, List.flatten_nil, List.append_nil, List.cons_append, List.nil_append]
    after_results
    try rfl
  unfold P
  rw [hp]
  pointwise
  rw [dif_pos h]

theorem x0 (t : Fin cfg0.N) (r : Fin 256) (j : Fin 512) : X0_0 m c t (ix2 r j) = P m c (rowF t r) (qcol j) := by
  unfold X0_0 Pipeline.Window.fill
  rw [dif_pos (moved0_0 t _)]
  refine Eq.trans (b := V m c main_v0 (ix2 (rowF t r) ⟨j.val, by omega⟩)) ?_ (padded m c _ ⟨j.val, by omega⟩ (by show j.val < 3104; omega))
  blk_ext [iblk, idx t, rowF]
theorem x1 (t : Fin cfg0.N) (r : Fin 256) (j : Fin 512) : X0_1 m c t (ix2 r j) = P m c (rowF t r) (kcol j) := by
  unfold X0_1 Pipeline.Window.fill
  rw [dif_pos (moved0_1 t _)]
  refine Eq.trans (b := V m c main_v0 (ix2 (rowF t r) ⟨512 + j.val, by omega⟩)) ?_ (padded m c _ ⟨512 + j.val, by omega⟩ (by show 512 + j.val < 3104; omega))
  blk_ext [iblk, idx t, rowF]
theorem x2 (t : Fin cfg0.N) (r : Fin 256) (j : Fin 1024) : X0_2 m c t (ix2 r j) = P m c (rowF t r) (vvcol j) := by
  unfold X0_2 Pipeline.Window.fill
  rw [dif_pos (moved0_2 t _)]
  refine Eq.trans (b := V m c main_v0 (ix2 (rowF t r) ⟨1024 + j.val, by omega⟩)) ?_ (padded m c _ ⟨1024 + j.val, by omega⟩ (by show 1024 + j.val < 3104; omega))
  blk_ext [iblk, idx t, rowF]
theorem x4 (t : Fin cfg0.N) (r : Fin 256) (j : Fin 512) : X0_4 m c t (ix2 r j) = P m c (rowR t r) (qcol j) := by
  unfold X0_4 Pipeline.Window.fill
  rw [dif_pos (moved0_4 t _)]
  refine Eq.trans (b := V m c main_v0 (ix2 (rowR t r) ⟨j.val, by omega⟩)) ?_ (padded m c _ ⟨j.val, by omega⟩ (by show j.val < 3104; omega))
  blk_ext [iblk, idx t, rowR]
theorem x5 (t : Fin cfg0.N) (r : Fin 256) (j : Fin 512) : X0_5 m c t (ix2 r j) = P m c (rowR t r) (kcol j) := by
  unfold X0_5 Pipeline.Window.fill
  rw [dif_pos (moved0_5 t _)]
  refine Eq.trans (b := V m c main_v0 (ix2 (rowR t r) ⟨512 + j.val, by omega⟩)) ?_ (padded m c _ ⟨512 + j.val, by omega⟩ (by show 512 + j.val < 3104; omega))
  blk_ext [iblk, idx t, rowR]
theorem x6 (t : Fin cfg0.N) (r : Fin 256) (j : Fin 1024) : X0_6 m c t (ix2 r j) = P m c (rowR t r) (vvcol j) := by
  unfold X0_6 Pipeline.Window.fill
  rw [dif_pos (moved0_6 t _)]
  refine Eq.trans (b := V m c main_v0 (ix2 (rowR t r) ⟨1024 + j.val, by omega⟩)) ?_ (padded m c _ ⟨1024 + j.val, by omega⟩ (by show 1024 + j.val < 3104; omega))
  blk_ext [iblk, idx t, rowR]
theorem z3 (t : Fin cfg0.N) (r : Fin 256) (j : Fin 512) : iblk m c 3 t (ix3 0 r j) = Z m c 0 (rowF t r) j := by
  unfold Z
  blk_ext [iblk, V, idx t, rowF]
theorem z7 (t : Fin cfg0.N) (r : Fin 256) (j : Fin 512) : iblk m c 7 t (ix3 0 r j) = Z m c 1 (rowR t r) j := by
  unfold Z
  blk_ext [iblk, V, idx t, rowR]

/-! ## A chunk of a block -/

theorem subQ_apply (s : Fin 4) (x : Vec Ideal S256x512 .f32) (l : Fin 64) (j : Fin 512) :
    Step.subQ s x (ix2 l j) = x (ix2 ⟨64 * s.val + l.val, by omega⟩ j) := by
  fin_cases s <;> pointwise [Step.subQ]
theorem subV_apply (s : Fin 4) (x : Vec Ideal S256x1024 .f32) (l : Fin 64) (j : Fin 1024) :
    Step.subV s x (ix2 l j) = x (ix2 ⟨64 * s.val + l.val, by omega⟩ j) := by
  fin_cases s <;> pointwise [Step.subV]
theorem subZ_apply (s : Fin 4) (x : Vec Ideal S1x256x512 .f32) (l : Fin 64) (j : Fin 512) :
    Step.subZ s x (ix3 0 l j) = x (ix3 0 ⟨64 * s.val + l.val, by omega⟩ j) := by
  fin_cases s <;> pointwise [Step.subZ]
theorem scr0_apply (X : Vec Ideal S2x4x256x128 .f32) (h : Fin 4) (e : Fin 256) (k : Fin 128) : Step.scr0 X h (ix2 e k) = X (ix4 0 h e k) := by
  fin_cases h <;> pointwise [Step.scr0, k0_pay5]
theorem scr1_apply (X : Vec Ideal S2x4x256x128 .f32) (h : Fin 4) (e : Fin 256) (k : Fin 128) : Step.scr1 X h (ix2 e k) = X (ix4 1 h e k) := by
  fin_cases h <;> pointwise [Step.scr1, k0_pay5]
theorem stand_apply (s : FVec Ideal S256x128 .f32) (a b : Fin 1) (e : Fin 256) (k : Fin 128) : Step.stand s (ix4 a b e k) = s (ix2 e k) := by
  pointwise [Step.stand]

/-! ## Both directions at once -/

def rowB (d : Fin 2) (t : Fin cfg0.N) (r : Fin 256) : Fin 4096 := match d with | 0 => rowF t r | 1 => rowR t r
def xq (d : Fin 2) (t : Fin cfg0.N) : Vec Ideal S256x512 .f32 := match d with | 0 => X0_0 m c t | 1 => X0_4 m c t
def xk (d : Fin 2) (t : Fin cfg0.N) : Vec Ideal S256x512 .f32 := match d with | 0 => X0_1 m c t | 1 => X0_5 m c t
def xv (d : Fin 2) (t : Fin cfg0.N) : Vec Ideal S256x1024 .f32 := match d with | 0 => X0_2 m c t | 1 => X0_6 m c t
def xz (d : Fin 2) (t : Fin cfg0.N) : Vec Ideal S1x256x512 .f32 := match d with | 0 => iblk m c 3 t | 1 => iblk m c 7 t

theorem xq_apply (d : Fin 2) (t : Fin cfg0.N) (r : Fin 256) (j : Fin 512) : xq m c d t (ix2 r j) = P m c (rowB d t r) (qcol j) := by
  fin_cases d
  · exact x0 m c t r j
  · exact x4 m c t r j
theorem xk_apply (d : Fin 2) (t : Fin cfg0.N) (r : Fin 256) (j : Fin 512) : xk m c d t (ix2 r j) = P m c (rowB d t r) (kcol j) := by
  fin_cases d
  · exact x1 m c t r j
  · exact x5 m c t r j
theorem xv_apply (d : Fin 2) (t : Fin cfg0.N) (r : Fin 256) (j : Fin 1024) : xv m c d t (ix2 r j) = P m c (rowB d t r) (vvcol j) := by
  fin_cases d
  · exact x2 m c t r j
  · exact x6 m c t r j
theorem xz_apply (d : Fin 2) (t : Fin cfg0.N) (r : Fin 256) (j : Fin 512) : xz m c d t (ix3 0 r j) = Z m c d (rowB d t r) j := by
  fin_cases d
  · exact z3 m c t r j
  · exact z7 m c t r j

/-- The chunk of a block that a direction takes after `n` others. -/
def nth (d : Fin 2) (n : ℕ) : Fin 4 := match d with | 0 => Step.nthF n | 1 => Step.nthR n
/-- Row `l` of the chunk that a direction takes after `n` others, in the direction's order. -/
def rowD (d : Fin 2) (n : ℕ) (l : Fin 64) : Fin 4096 := ⟨rowOf d n l % 4096, Nat.mod_lt _ (by decide)⟩

theorem row_nth (d : Fin 2) (t : Fin cfg0.N) (n : ℕ) (hn : n < 4) (l : Fin 64) :
    rowB d t ⟨64 * (nth d n).val + (ord d l).val, by omega⟩ = rowD d (4 * t.val + n) l := by
  have ht := lt_of_lt_of_eq t.isLt N_0
  apply Fin.ext
  fin_cases d <;> interval_cases n <;> simp [rowB, rowF, rowR, nth, Step.nthF, Step.nthR, ord, rowD, rowOf, Fin.rev] <;> omega

/-- The keys, the values and the logarithms of the decays of that chunk. -/
def KD (d : Fin 2) (n : ℕ) (l : Fin 64) (j : Fin 512) : EReal := P m c (rowD d n l) (kcol j)
def VD (d : Fin 2) (n : ℕ) (l : Fin 64) (j : Fin 1024) : EReal := P m c (rowD d n l) (vvcol j)
def QD (d : Fin 2) (n : ℕ) (l : Fin 64) (j : Fin 512) : EReal := P m c (rowD d n l) (qcol j) * Ideal.ofBits .f32 0x3DB504F3#32
def GD (d : Fin 2) (n : ℕ) (l : Fin 64) (j : Fin 512) : EReal := Step.lgK (Z m c d (rowD d n l) j)
/-- The state before that chunk. -/
def SD (d : Fin 2) (n : ℕ) : Fin 4 → Fin 256 → Fin 128 → EReal := states (KD m c d) (VD m c d) (GD m c d) n

def stD (d : Fin 2) (k : Vec Ideal S256x512 .f32) (v : Vec Ideal S256x1024 .f32) (z : Vec Ideal S1x256x512 .f32) (st : Fin 4 → FVec Ideal S256x128 .f32)
    (n : ℕ) : Fin 4 → FVec Ideal S256x128 .f32 := match d with | 0 => Step.stF k v z st n | 1 => Step.stR k v z st n
theorem stD_zero (d : Fin 2) (k : Vec Ideal S256x512 .f32) (v : Vec Ideal S256x1024 .f32) (z : Vec Ideal S1x256x512 .f32) (st : Fin 4 → FVec Ideal S256x128 .f32) :
    stD d k v z st 0 = st := by
  fin_cases d <;> rfl
theorem stD_succ (d : Fin 2) (k : Vec Ideal S256x512 .f32) (v : Vec Ideal S256x1024 .f32) (z : Vec Ideal S1x256x512 .f32) (st : Fin 4 → FVec Ideal S256x128 .f32)
    (n : ℕ) : stD d k v z st (n + 1)
      = Step.chunkS (Step.triD d) (Step.subQ (nth d n) k) (Step.subV (nth d n) v) (Step.subZ (nth d n) z) (stD d k v z st n) := by
  fin_cases d <;> rfl

section
variable (g : Fin 2 → Fin 4096 → Fin 512 → ℝ) (hg : ∀ d r j, Step.lgK (Z m c d r j) = (g d r j : EReal))
include hg

/-- The states within a block, over the state before it. -/
theorem stD_ord (d : Fin 2) (t : Fin cfg0.N) (st : Fin 4 → FVec Ideal S256x128 .f32) (hst : ∀ h e k, st h (ix2 e k) = SD m c d (4 * t.val) h e k) (n : ℕ) (hn : n ≤ 4)
    (h : Fin 4) (e : Fin 256) (k : Fin 128) : stD d (xk m c d t) (xv m c d t) (xz m c d t) st n h (ix2 e k) = SD m c d (4 * t.val + n) h e k := by
  induction n generalizing h e k with
  | zero => rw [stD_zero, hst]; rfl
  | succ n ih =>
    have hz : ∀ l j, Step.lgK (Step.subZ (nth d n) (xz m c d t) (ix3 0 (ord d l) j)) = (g d (rowD d (4 * t.val + n) l) j : EReal) := fun l j => by
      rw [subZ_apply, xz_apply, row_nth d t n (by omega), hg]
    rw [stD_succ, Step.chunkS_ord d _ _ _ _ _ hz]
    simp only [subQ_apply, subV_apply, xk_apply, xv_apply, row_nth d t n (by omega), ih (by omega)]
    simp only [← hg]
    rfl
end
end Cert.GlafKIdeal.Value
-- ==== Proof.GlafKernel.lean ====
module
public import proofs.«01_k».proof.Proof.GlafBlocks

/-! What the result arrays of the forward gated linear attention hold after the run: per direction the chunks' outputs and
    the states before the chunks. -/

@[expose] public section
noncomputable section
namespace Cert.GlafKIdeal.Value
open Cert.GlafKIdeal Cert.GlafKIdeal.Gen Idealize.ShloMosaic Idealize.ShloMosaic.TcCoe Idealize.SL.Sem Cert.Reals Cert.Glaf
open Idealize.ShloMosaic.Pipeline (Dat)

variable (m : (ℓ : Loc nD τ sig) → Buf (Elt Ideal) ℓ) (c : Dev nD)

/-- How many chunks a direction takes before the one that row `r` is in, and where in it the row is. -/
def chunkOf (d : Fin 2) (r : Fin 4096) : ℕ := if d.val = 0 then r.val / 64 else (4095 - r.val) / 64
def inChunk (d : Fin 2) (r : Fin 4096) : Fin 64 := if d.val = 0 then ⟨r.val % 64, by omega⟩ else ⟨(4095 - r.val) % 64, by omega⟩
/-- The head and the column in it of a value column. -/
def headOf (j : Fin 1024) : Fin 4 := ⟨j.val / 256, by omega⟩
def inHead (j : Fin 1024) : Fin 256 := ⟨j.val % 256, by omega⟩
theorem vcol_headOf (j : Fin 1024) : vcol (headOf j) (inHead j) = j := Fin.ext (by show 256 * (j.val / 256) + j.val % 256 = j.val; omega)

/-- A direction's output. -/
def OD (d : Fin 2) (r : Fin 4096) (j : Fin 1024) : EReal :=
  outO (QD m c d (chunkOf d r)) (KD m c d (chunkOf d r)) (VD m c d (chunkOf d r)) (GD m c d (chunkOf d r)) (SD m c d (chunkOf d r))
    (headOf j) (inChunk d r) (inHead j)
/-- The states before the array's chunks: the reverse direction begins with the last. -/
def TD (d : Fin 2) (n : Fin 64) : Fin 4 → Fin 256 → Fin 128 → EReal := SD m c d (if d.val = 0 then n.val else 63 - n.val)

theorem nth_zero (n : ℕ) (hn : n < 4) : nth 0 n = ⟨n, hn⟩ := by
  interval_cases n <;> rfl
theorem nth_one (n : ℕ) (hn : n < 4) : nth 1 (3 - n) = ⟨n, hn⟩ := by
  interval_cases n <;> rfl

section
variable (g : Fin 2 → Fin 4096 → Fin 512 → ℝ) (hg : ∀ d r j, Step.lgK (Z m c d r j) = (g d r j : EReal))
include hg

/-- What the scratch holds before a point's chunks: the states so far. -/
theorem before_eq (n : ℕ) : ∀ (hn : n < cfg0.N) (d : Fin 2) (h : Fin 4) (e : Fin 256) (k : Fin 128),
    Step.before m c ⟨n, hn⟩ (ix4 d h e k) = SD m c d (4 * n) h e k := by
  induction n with
  | zero =>
    intro hn d h e k
    unfold Step.before
    rw [if_pos (Nat.zero_mod _)]
    pointwise [k0_pay2]
    rfl
  | succ n ih =>
    intro hn d h e k
    have hN := lt_of_lt_of_eq hn N_0
    unfold Step.before
    rw [if_neg (show ¬ (n + 1) % 16 = 0 by omega)]
    have hs := Step.scratch_after m c ⟨n, by omega⟩ d h (ix4 0 0 e k)
    refine Eq.trans hs ?_
    have hst : ∀ d h e k, Step.before m c ⟨n, by omega⟩ (ix4 d h e k) = SD m c d (4 * n) h e k := ih (by omega)
    fin_cases d
    · refine (stand_apply _ 0 0 e k).trans ?_
      exact stD_ord m c g hg 0 ⟨n, by omega⟩ _ (fun h e k => (scr0_apply _ h e k).trans (hst 0 h e k)) 4 le_rfl h e k
    · refine (stand_apply _ 0 0 e k).trans ?_
      exact stD_ord m c g hg 1 ⟨n, by omega⟩ _ (fun h e k => (scr1_apply _ h e k).trans (hst 1 h e k)) 4 le_rfl h e k

/-- A point's states. -/
theorem fF_eq (t : Fin cfg0.N) (n : ℕ) (hn : n ≤ 4) (h : Fin 4) (e : Fin 256) (k : Fin 128) :
    Step.fF m c (Step.before m c t) t n h (ix2 e k) = SD m c 0 (4 * t.val + n) h e k :=
  stD_ord m c g hg 0 t _ (fun h e k => (scr0_apply _ h e k).trans (before_eq m c g hg t.val t.isLt 0 h e k)) n hn h e k
theorem fR_eq (t : Fin cfg0.N) (n : ℕ) (hn : n ≤ 4) (h : Fin 4) (e : Fin 256) (k : Fin 128) :
    Step.fR m c (Step.before m c t) t n h (ix2 e k) = SD m c 1 (4 * t.val + n) h e k :=
  stD_ord m c g hg 1 t _ (fun h e k => (scr1_apply _ h e k).trans (before_eq m c g hg t.val t.isLt 1 h e k)) n hn h e k

/-- The output of the chunk that a direction takes after `n` others of a block. -/
theorem chunk_out (d : Fin 2) (t : Fin cfg0.N) (n : ℕ) (hn : n < 4) (st : Fin 4 → FVec Ideal S256x128 .f32)
    (hst : ∀ h e k, st h (ix2 e k) = SD m c d (4 * t.val + n) h e k) (h : Fin 4) (l : Fin 64) (e : Fin 256) :
    Step.chunkO (Step.triD d) (Step.midD d) (Step.subQ (nth d n) (xq m c d t)) (Step.subQ (nth d n) (xk m c d t)) (Step.subV (nth d n) (xv m c d t))
      (Step.subZ (nth d n) (xz m c d t)) st (ix2 (ord d l) (vcol h e))
      = outO (QD m c d (4 * t.val + n)) (KD m c d (4 * t.val + n)) (VD m c d (4 * t.val + n)) (GD m c d (4 * t.val + n)) (SD m c d (4 * t.val + n)) h l e := by
  have hz : ∀ l j, Step.lgK (Step.subZ (nth d n) (xz m c d t) (ix3 0 (ord d l) j)) = (g d (rowD d (4 * t.val + n) l) j : EReal) := fun l j => by
    rw [subZ_apply, xz_apply, row_nth d t n hn, hg]
  rw [Step.chunkO_ord d _ _ _ _ _ _ hz]
  simp only [subQ_apply, subV_apply, xq_apply, xk_apply, xv_apply, row_nth d t n hn, hst]
  simp only [← hg]
  rfl

theorem after8 (t : Fin cfg0.N) (r : Fin 256) (j : Fin 1024) : (outsAt0 m c t.val t.isLt).1 (ix2 r j) = OD m c 0 (rowF t r) j := by
  have ht := lt_of_lt_of_eq t.isLt N_0
  have hr := r.isLt
  refine (Step.out8 m c t ⟨r.val / 64, by omega⟩ (ix2 r j) (ix2 ⟨r.val % 64, by omega⟩ j) (by show r.val = 64 * (r.val / 64) + r.val % 64; omega) rfl).trans ?_
  have hx : (⟨r.val / 64, by omega⟩ : Fin 4) = nth 0 (r.val / 64) := (nth_zero _ (by omega)).symm
  have := chunk_out m c g hg 0 t (r.val / 64) (by omega) _ (fun h e k => fF_eq m c g hg t (r.val / 64) (by omega) h e k) (headOf j) ⟨r.val % 64, by omega⟩ (inHead j)
  rw [vcol_headOf] at this
  have hc : chunkOf 0 (rowF t r) = 4 * t.val + r.val / 64 := by
    show (256 * t.val + r.val) / 64 = _
    omega
  have hi : inChunk 0 (rowF t r) = ⟨r.val % 64, by omega⟩ := Fin.ext (by show (256 * t.val + r.val) % 64 = r.val % 64; omega)
  unfold OD
  rw [hc, hi, ← this, ← hx]
  rfl
theorem after9 (t : Fin cfg0.N) (r : Fin 256) (j : Fin 1024) : (outsAt0 m c t.val t.isLt).2.1 (ix2 r j) = OD m c 1 (rowR t r) j := by
  have ht := lt_of_lt_of_eq t.isLt N_0
  have hr := r.isLt
  refine (Step.out9 m c t ⟨r.val / 64, by omega⟩ (ix2 r j) (ix2 ⟨r.val % 64, by omega⟩ j) (by show r.val = 64 * (r.val / 64) + r.val % 64; omega) rfl).trans ?_
  have hx : (⟨r.val / 64, by omega⟩ : Fin 4) = nth 1 (3 - r.val / 64) := (nth_one _ (by omega)).symm
  have := chunk_out m c g hg 1 t (3 - r.val / 64) (by omega) _ (fun h e k => fR_eq m c g hg t (3 - r.val / 64) (by omega) h e k) (headOf j) ⟨63 - r.val % 64, by omega⟩ (inHead j)
  rw [vcol_headOf] at this
  have hc : chunkOf 1 (rowR t r) = 4 * t.val + (3 - r.val / 64) := by
    show (4095 - (256 * (15 - t.val) + r.val)) / 64 = _
    omega
  have hi : inChunk 1 (rowR t r) = ⟨63 - r.val % 64, by omega⟩ :=
    Fin.ext (by show (4095 - (256 * (15 - t.val) + r.val)) % 64 = 63 - r.val % 64; omega)
  have ho : ord 1 (⟨63 - r.val % 64, by omega⟩ : Fin 64) = ⟨r.val % 64, by omega⟩ :=
    Fin.ext (by show 64 - (63 - r.val % 64 + 1) = r.val % 64; omega)
  rw [ho] at this
  unfold OD
  rw [hc, hi, ← this, ← hx]
  rfl

theorem after10 (t : Fin cfg0.N) (s h : Fin 4) (e : Fin 256) (k : Fin 128) : (outsAt0 m c t.val t.isLt).2.2.1 (ix4 s h e k)
    = TD m c 0 ⟨4 * t.val + s.val, by have := lt_of_lt_of_eq t.isLt N_0; omega⟩ h e k :=
  (Step.out10 m c t s h (ix4 0 0 e k)).trans ((stand_apply _ 0 0 e k).trans (fF_eq m c g hg t s.val (by omega) h e k))
theorem after11 (t : Fin cfg0.N) (s h : Fin 4) (e : Fin 256) (k : Fin 128) : (outsAt0 m c t.val t.isLt).2.2.2.1 (ix4 s h e k)
    = TD m c 1 ⟨4 * (15 - t.val) + s.val, by omega⟩ h e k := by
  have ht := lt_of_lt_of_eq t.isLt N_0
  refine (Step.out11 m c t s h (ix4 0 0 e k)).trans ((stand_apply _ 0 0 e k).trans ((fR_eq m c g hg t (3 - s.val) (by omega) h e k).trans ?_))
  have : 63 - (4 * (15 - t.val) + s.val) = 4 * t.val + (3 - s.val) := by omega
  unfold TD
  rw [if_neg (by decide), this]

/-- The forward and the reverse output after the run. -/
theorem final8 : (dats m 0 c).arrAt 8 (cfgs 0).N = fun y => OD m c 0 (y 0) (y 1) := by
  refine (dats m 0 c).arrAt_eq_of_covers 8 _ (by decide +kernel) fun t _ y => ?_
  blk_simp
  rw [after0_8]
  have hy : (win0_8.blk t).view.emb y = ix2 (rowF t (y 0)) (y 1) := by blk_ext [idxO t, rowF]
  rw [hy]
  exact (congrArg _ (eq_ix2 y)).trans (after8 m c g hg t (y 0) (y 1))
theorem final9 : (dats m 0 c).arrAt 9 (cfgs 0).N = fun y => OD m c 1 (y 0) (y 1) := by
  refine (dats m 0 c).arrAt_eq_of_covers 9 _ (by decide +kernel) fun t _ y => ?_
  blk_simp
  rw [after0_9]
  have hy : (win0_9.blk t).view.emb y = ix2 (rowR t (y 0)) (y 1) := by blk_ext [idxO t, rowR]
  rw [hy]
  exact (congrArg _ (eq_ix2 y)).trans (after9 m c g hg t (y 0) (y 1))
/-- The forward and the reverse states after the run. -/
theorem final10 : (dats m 0 c).arrAt 10 (cfgs 0).N = fun y => TD m c 0 (y 0) (y 1) (y 2) (y 3) := by
  refine (dats m 0 c).arrAt_eq_of_covers 10 _ (by decide +kernel) fun t _ y => ?_
  blk_simp
  rw [after0_10]
  have hy : (win0_10.blk t).view.emb y = ix4 ⟨4 * t.val + (y 0).val, by have := lt_of_lt_of_eq t.isLt N_0; have : (y 0).val < 4 := (y 0).isLt; omega⟩ (y 1) (y 2) (y 3) := by blk_ext [idxO t]
  rw [hy]
  exact (congrArg _ (eq_ix4 y)).trans (after10 m c g hg t (y 0) (y 1) (y 2) (y 3))
theorem final11 : (dats m 0 c).arrAt 11 (cfgs 0).N = fun y => TD m c 1 (y 0) (y 1) (y 2) (y 3) := by
  refine (dats m 0 c).arrAt_eq_of_covers 11 _ (by decide +kernel) fun t _ y => ?_
  blk_simp
  rw [after0_11]
  have hy : (win0_11.blk t).view.emb y = ix4 ⟨4 * (15 - t.val) + (y 0).val, by have : (y 0).val < 4 := (y 0).isLt; omega⟩ (y 1) (y 2) (y 3) := by blk_ext [idxO t]
  rw [hy]
  exact (congrArg _ (eq_ix4 y)).trans (after11 m c g hg t (y 0) (y 1) (y 2) (y 3))
end
end Cert.GlafKIdeal.Value
-- ==== Proof.GlafCum.lean ====
module
public import proofs.«01_k».proof.Proof.Gen.GlafRIdeal.Run
public import proofs.«01_k».proof.Proof.GlafMath
public import Idealize.ShloMosaic.Lib.Pointwise
public import Idealize.ShloMosaic.Lib.Claim

/-! The reference's running sums: a window of 64 rows, padded by 63 rows of zeros before the first, adds up the rows
at most the own one. -/

@[expose] public section
noncomputable section
namespace Cert.GlafRIdeal.Value
open Cert.GlafRIdeal Cert.GlafRIdeal.Gen Idealize.ShloMosaic Idealize.ShloMosaic.TcCoe Idealize.SL.Sem Cert.Glaf

/-- A fold by addition is its start and the sum of what it adds. -/
theorem foldl_add {n : ℕ} (f : Fin n → EReal) (v : EReal) : (List.finRange n).foldl (fun r i => r + f i) v = v + ∑ i, f i := by
  have : ∀ (l : List (Fin n)) (v : EReal), l.foldl (fun r i => r + f i) v = v + (l.map f).sum := by
    intro l
    induction l with
    | nil => intro v; simp
    | cons a l ih => intro v; rw [List.foldl_cons, ih, List.map_cons, List.sum_cons, add_assoc]
  rw [this]
  congr 1

/-- The rows of a padded window, counted from its own last one, are the rows at most its own. -/
theorem window_sum (f : ℕ → EReal) (l : Fin 64) :
    ∑ w : Fin 64, (if 63 ≤ l.val + w.val then f (l.val + w.val - 63) else 0) = ∑ m : Fin 64, if m ≤ l then f m.val else 0 := by
  rw [← Finset.sum_filter, ← Finset.sum_filter]
  refine Finset.sum_nbij' (fun w => ⟨l.val + w.val - 63, by omega⟩) (fun m => ⟨(m.val + 63 - l.val) % 64, Nat.mod_lt _ (by decide)⟩) ?_ ?_ ?_ ?_ ?_
  · intro w hw
    have := (Finset.mem_filter.1 hw).2
    exact Finset.mem_filter.2 ⟨Finset.mem_univ _, Fin.le_def.2 (by show l.val + w.val - 63 ≤ l.val; omega)⟩
  · intro m hm
    have : m.val ≤ l.val := (Finset.mem_filter.1 hm).2
    exact Finset.mem_filter.2 ⟨Finset.mem_univ _, by show 63 ≤ l.val + (m.val + 63 - l.val) % 64; omega⟩
  · intro w hw
    have := (Finset.mem_filter.1 hw).2
    exact Fin.ext (by show (l.val + w.val - 63 + 63 - l.val) % 64 = w.val; omega)
  · intro m hm
    have : m.val ≤ l.val := (Finset.mem_filter.1 hm).2
    exact Fin.ext (by show l.val + (m.val + 63 - l.val) % 64 - 63 = m.val; omega)
  · intro w _
    rfl

/-- The running sums down the rows of every chunk. -/
theorem cumsum_apply (x : S2x4x64x64x128.Idx → EReal) (init : S_.Idx → EReal) (h0 : init (Shape.Idx.first h_S_) = 0)
    (d : Fin 2) (h : Fin 4) (n l : Fin 64) (c : Fin 128) :
    Host.reduceWindowAdd (F := Ideal) (φ := .f32) ![1, 1, 1, 64, 1] ![1, 1, 1, 1, 1] ![0, 0, 0, 63, 0] ![0, 0, 0, 0, 0] x init
      reduceWindows_S2x4x64x64x128_S2x4x64x64x128_w1s1p0_0_w1s1p0_0_w1s1p0_0_w64s1p63_0_w1s1p0_0 h_S_ (ix5 d h n l c)
      = ∑ m : Fin 64, if m ≤ l then x (ix5 d h n m c) else 0 := by
  unfold Host.reduceWindowAdd
  show Ideal.hostReduceWindowAdd _ _ _ _ _ x (init (Shape.Idx.first h_S_)) _ = _
  unfold Ideal.hostReduceWindowAdd Host.reduceWindow
  dsimp only
  rw [h0]
  refine (foldl_add _ _).trans ?_
  rw [zero_add]
  refine Eq.trans (Finset.sum_congr rfl fun i _ => dite_congr rfl (fun _ => rfl) (fun _ => rfl)) ((Equiv.sum_comp (Shape.rowMajor ⟨5, ![1, 1, 1, 64, 1]⟩).symm (fun i => if hin : ∀ a : Fin 5, (![0, 0, 0, 63, 0] : Fin 5 → ℕ) a ≤ (ix5 d h n l c a).val * (![1, 1, 1, 1, 1] : Fin 5 → ℕ) a + (i a).val
      ∧ (ix5 d h n l c a).val * (![1, 1, 1, 1, 1] : Fin 5 → ℕ) a + (i a).val - (![0, 0, 0, 63, 0] : Fin 5 → ℕ) a < S2x4x64x64x128.size a then
      x (fun a => ⟨(ix5 d h n l c a).val * (![1, 1, 1, 1, 1] : Fin 5 → ℕ) a + (i a).val - (![0, 0, 0, 63, 0] : Fin 5 → ℕ) a, (hin a).2⟩) else 0)).trans ?_)
  rw [sum_idx5]
  simp only [Finset.univ_unique, Finset.sum_singleton]
  refine Eq.trans (Finset.sum_congr rfl fun w _ => ?_) ((window_sum (fun r => x (ix5 d h n ⟨r % 64, Nat.mod_lt _ (by decide)⟩ c)) l).trans
    (Finset.sum_congr rfl fun m _ => ?_))
  · have hw := w.isLt
    have hl := l.isLt
    by_cases hc : 63 ≤ l.val + w.val
    · rw [if_pos hc]
      refine (dif_pos ?_).trans ?_
      · intro a
        match a with
        | ⟨0, _⟩ => exact ⟨Nat.zero_le _, by show d.val * 1 + 0 - 0 < 2; omega⟩
        | ⟨1, _⟩ => exact ⟨Nat.zero_le _, by show h.val * 1 + 0 - 0 < 4; omega⟩
        | ⟨2, _⟩ => exact ⟨Nat.zero_le _, by show n.val * 1 + 0 - 0 < 64; omega⟩
        | ⟨3, _⟩ => exact ⟨by show 63 ≤ l.val * 1 + w.val; omega, by show l.val * 1 + w.val - 63 < 64; omega⟩
        | ⟨4, _⟩ => exact ⟨Nat.zero_le _, by show c.val * 1 + 0 - 0 < 128; omega⟩
      · refine congrArg x (funext fun a => Fin.ext ?_)
        match a with
        | ⟨0, _⟩ => show d.val * 1 + 0 - 0 = d.val; omega
        | ⟨1, _⟩ => show h.val * 1 + 0 - 0 = h.val; omega
        | ⟨2, _⟩ => show n.val * 1 + 0 - 0 = n.val; omega
        | ⟨3, _⟩ => show l.val * 1 + w.val - 63 = (l.val + w.val - 63) % 64; omega
        | ⟨4, _⟩ => show c.val * 1 + 0 - 0 = c.val; omega
    · rw [if_neg hc]
      refine dif_neg fun hin => hc ?_
      have := (hin 3).1
      change 63 ≤ l.val * 1 + w.val at this
      omega
  · show (if m ≤ l then x (ix5 d h n ⟨m.val % 64, _⟩ c) else 0) = _
    rw [show (⟨m.val % 64, Nat.mod_lt _ (by decide)⟩ : Fin 64) = m from Fin.ext (Nat.mod_eq_of_lt m.isLt)]
end Cert.GlafRIdeal.Value
-- ==== Proof.GlafTail.lean ====
module
public import proofs.«01_k».proof.Proof.GlafCum

/-! What the reference computes of its chunks before its loop: the decays and updates of the states, the scaled
queries and the outputs inside a chunk. -/

@[expose] public section
noncomputable section
namespace Cert.GlafRIdeal.Value
open Cert.GlafRIdeal Cert.GlafRIdeal.Gen Idealize.ShloMosaic Idealize.ShloMosaic.TcCoe Idealize.SL.Sem Cert.Glaf
open Idealize.ShloMosaic.StableHlo

variable (U : Valuation τ sig (Elt Ideal))

set_option maxRecDepth 8192
set_option maxHeartbeats 2000000

/-- The operations from the running sums to the loop. -/
abbrev preB : List (List (HloOp τ sig (Elt Ideal))) := [hostOps0_13, hostOps0_14, hostOps0_15, hostOps0_16, hostOps0_17, hostOps0_18]

/-- Queries, keys and log decays: heads, chunks, rows. -/
abbrev Q5 : Type := S2x4x64x64x128.Idx → EReal

/-- Values: heads, chunks, rows. -/
abbrev V5 : Type := S2x4x64x64x256.Idx → EReal

/-- The running sums. -/
def cumT (g : Q5) : Q5 :=
  Host.reduceWindowAdd (F := Ideal) (φ := .f32) ![1, 1, 1, 64, 1] ![1, 1, 1, 1, 1] ![0, 0, 0, 63, 0] ![0, 0, 0, 0, 0] g
    (broadcastInDim S_ ![] bcast_S_S_ (constant (F := Ideal) S_ .f32 0x00000000#32))
    reduceWindows_S2x4x64x64x128_S2x4x64x64x128_w1s1p0_0_w1s1p0_0_w1s1p0_0_w64s1p63_0_w1s1p0_0 h_S_

/-- The sums at row 32 of each chunk. -/
def midT (g : Q5) : S2x4x64x1x128.Idx → EReal :=
  extractStridedSlice S2x4x64x1x128 ![0, 0, 0, 32, 0] (cumT g) slices_S2x4x64x64x128_S2x4x64x1x128_0_0_0_32_0

/-- The sums at the last row of each chunk. -/
def lastT (g : Q5) : S2x4x64x1x128.Idx → EReal :=
  extractStridedSlice S2x4x64x1x128 ![0, 0, 0, 63, 0] (cumT g) slices_S2x4x64x64x128_S2x4x64x1x128_0_0_0_63_0

/-- One row at every row of its chunk. -/
def rowsT (x : S2x4x64x1x128.Idx → EReal) : Q5 := broadcastInDim S2x4x64x64x128 ![0, 1, 2, 3, 4] bcast_S2x4x64x1x128_S2x4x64x64x128_0_1_2_3_4 x

/-- The scores of the rows of a chunk. -/
def scoreT (q k g : Q5) : S2x4x64x64x64.Idx → EReal :=
  Host.dotGeneral (F := Ideal) (φ₁ := .f32) (φ₂ := .f32) dot_S2x4x64x64x128_S2x4x64x64x128_S2x4x64x64x64_4_4_3_3_012_012 none
    (mulf (F := Ideal) (φ := .f32) q (Host.exp (F := Ideal) (φ := .f32) (subf (F := Ideal) (φ := .f32) (cumT g) (rowsT (midT g)))))
    (mulf (F := Ideal) (φ := .f32) k (Host.exp (F := Ideal) (φ := .f32) (subf (F := Ideal) (φ := .f32) (rowsT (midT g)) (cumT g))))

/-- The rows at most the own one. -/
def maskT : S64x64.Idx → BitVec 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- The outputs inside a chunk. -/
def intraT (q k : Q5) (v : V5) (g : Q5) : V5 :=
  Host.dotGeneral (F := Ideal) (φ₁ := .f32) (φ₂ := .f32) dot_S2x4x64x64x64_S2x4x64x64x256_S2x4x64x64x256_4_3_3_4_012_012 none
    (select (broadcastInDim S2x4x64x64x64 ![3, 4] bcast_S64x64_S2x4x64x64x64_3_4 maskT) (scoreT q k g)
      (broadcastInDim S2x4x64x64x64 ![] bcast_S_S2x4x64x64x64 (id (constant (F := Ideal) S_ .f32 0x00000000#32)))) v

/-- The updates of the states. -/
def updT (k : Q5) (v : V5) (g : Q5) : S2x4x64x128x256.Idx → EReal :=
  Host.dotGeneral (F := Ideal) (φ₁ := .f32) (φ₂ := .f32) dot_S2x4x64x64x128_S2x4x64x64x256_S2x4x64x128x256_3_3_4_4_012_012 none
    (mulf (F := Ideal) (φ := .f32) k (Host.exp (F := Ideal) (φ := .f32) (subf (F := Ideal) (φ := .f32) (rowsT (lastT g)) (cumT g)))) v

theorem b0 : afterL preB U (Proc.devRef .tc main_v77_0) = transpose S64x2x4x128 [2, 0, 1, 3]
    (Host.exp (F := Ideal) (φ := .f32) (shapeCast S2x4x64x128 (lastT (U (Proc.devRef .tc main_v44))) shapeCasts_S2x4x64x1x128_S2x4x64x128))
    transposes_S2x4x64x128_S64x2x4x128_2_0_1_3 := by
  simp only [preB, afterL_cons, afterL_nil]
  after_results
  rfl

theorem b1 : afterL preB U (Proc.devRef .tc main_v77_1) = transpose S64x2x4x128x256 [2, 0, 1, 3, 4]
    (updT (U (Proc.devRef .tc main_v42)) (U (Proc.devRef .tc main_v43)) (U (Proc.devRef .tc main_v44))) transposes_S2x4x64x128x256_S64x2x4x128x256_2_0_1_3_4 := by
  simp only [preB, afterL_cons, afterL_nil]
  after_results
  rfl

theorem b2 : afterL preB U (Proc.devRef .tc main_v77_2) = transpose S64x2x4x64x128 [2, 0, 1, 3, 4]
    (mulf (F := Ideal) (φ := .f32) (U (Proc.devRef .tc main_v41)) (Host.exp (F := Ideal) (φ := .f32) (cumT (U (Proc.devRef .tc main_v44)))))
    transposes_S2x4x64x64x128_S64x2x4x64x128_2_0_1_3_4 := by
  simp only [preB, afterL_cons, afterL_nil]
  after_results
  rfl

theorem b3 : afterL preB U (Proc.devRef .tc main_v77_3) = transpose S64x2x4x64x256 [2, 0, 1, 3, 4]
    (intraT (U (Proc.devRef .tc main_v41)) (U (Proc.devRef .tc main_v42)) (U (Proc.devRef .tc main_v43)) (U (Proc.devRef .tc main_v44)))
    transposes_S2x4x64x64x256_S64x2x4x64x256_2_0_1_3_4 := by
  simp only [preB, afterL_cons, afterL_nil]
  after_results
  rfl

theorem b5 : afterL preB U (Proc.devRef .tc main_v77_5) = broadcastInDim S2x4x128x256 ![] bcast_S_S2x4x128x256 (constant (F := Ideal) S_ .f32 0x00000000#32) := by
  simp only [preB, afterL_cons, afterL_nil]
  after_results
  rfl

theorem cumT_apply (g : Q5) (d : Fin 2) (h : Fin 4) (n l : Fin 64) (c : Fin 128) : cumT g (ix5 d h n l c) = ∑ m : Fin 64, if m ≤ l then g (ix5 d h n m c) else 0 := by
  unfold cumT
  exact cumsum_apply g _ (by pointwise []) d h n l c

theorem tril_bit : ∀ l m : Fin 64, Scalar.select (IntOp.cmpi .sge (IntOp.addi (BitVec.ofNat 32 l.val) 0#32) (BitVec.ofNat 32 m.val)) 1#1 0#1
    = if m ≤ l then 1#1 else 0#1 := by decide +kernel

theorem mask_apply (l m : Fin 64) : maskT (ix2 l m) = if m ≤ l then 1#1 else 0#1 := by
  pointwise [maskT]
  exact tril_bit l m

theorem score_apply (q k g : Q5) (d : Fin 2) (h : Fin 4) (n l m : Fin 64) : scoreT q k g (ix5 d h n l m)
    = ∑ c : Fin 128, (q (ix5 d h n l c) * Ideal.exp (cumT g (ix5 d h n l c) - cumT g (ix5 d h n 32 c)))
      * (k (ix5 d h n m c) * Ideal.exp (cumT g (ix5 d h n 32 c) - cumT g (ix5 d h n m c))) := by
  pointwise [scoreT, rowsT, midT]

theorem intra_apply (q k : Q5) (v : V5) (g : Q5) (d : Fin 2) (h : Fin 4) (n l : Fin 64) (e : Fin 256) : intraT q k v g (ix5 d h n l e)
    = ∑ m : Fin 64, (if m ≤ l then scoreT q k g (ix5 d h n l m) else 0) * v (ix5 d h n m e) := by
  have hz : id (constant (F := Ideal) S_ .f32 0x00000000#32) ix0 = (0 : EReal) := by
    show (constant (F := Ideal) S_ .f32 0x00000000#32) ix0 = (0 : EReal)
    pointwise []
  pointwise [intraT, mask_apply]
  refine Finset.sum_congr rfl fun m _ => congrArg (· * _) ?_
  by_cases hm : m ≤ l
  · rw [if_pos hm, if_pos hm]
    rfl
  · rw [if_neg hm, if_neg hm]
    exact hz

theorem upd_apply (k : Q5) (v : V5) (g : Q5) (d : Fin 2) (h : Fin 4) (n : Fin 64) (c : Fin 128) (e : Fin 256) : updT k v g (ix5 d h n c e)
    = ∑ l : Fin 64, (k (ix5 d h n l c) * Ideal.exp (cumT g (ix5 d h n 63 c) - cumT g (ix5 d h n l c))) * v (ix5 d h n l e) := by
  pointwise [updT, rowsT, lastT]

end Cert.GlafRIdeal.Value
-- ==== Proof.GlafLoop.lean ====
module
public import proofs.«01_k».proof.Proof.GlafTail

/-! One pass of the reference's loop, and all of them. -/

@[expose] public section
noncomputable section
namespace Cert.GlafRIdeal.Value
open Cert.GlafRIdeal Cert.GlafRIdeal.Gen Idealize.ShloMosaic Idealize.ShloMosaic.TcCoe Idealize.SL.Sem Cert.Glaf
open Idealize.ShloMosaic.StableHlo

set_option maxRecDepth 8192
set_option maxHeartbeats 2000000

theorem toInt_ofNat : ∀ k : Fin 64, (BitVec.ofNat 32 k.val).toInt = (k.val : ℤ) := by decide +kernel

/-- One of 64 layers, read at its number. -/
theorem layer4 {A B C : ℕ} (x : (⟨4, ![64, A, B, C]⟩ : Shape).Idx → EReal) (start : Fin 4 → ℤ) (k : Fin 64) (h0 : start 0 = (k.val : ℤ))
    (h1 : start 1 = 0) (h2 : start 2 = 0) (h3 : start 3 = 0) (hs : (⟨4, ![64, A, B, C]⟩ : Shape).Slices (fun _ => 0) ⟨4, ![1, A, B, C]⟩) :
    Host.dynamicSlice ⟨4, ![1, A, B, C]⟩ x start hs = fun j => x (ix4 k (j 1) (j 2) (j 3)) := by
  funext j
  rw [eq_ix4 j]
  generalize j 0 = z, j 1 = a, j 2 = b, j 3 = c
  have hk := k.isLt
  have hz : z.val < 1 := z.isLt
  have e0 : Host.clampedStart ⟨4, ![64, A, B, C]⟩ ⟨4, ![1, A, B, C]⟩ hs.1 start 0 = k.val := Host.clampedStart_of_le _ _ _ _ h0 (by show k.val + 1 ≤ 64; omega)
  have e1 : Host.clampedStart ⟨4, ![64, A, B, C]⟩ ⟨4, ![1, A, B, C]⟩ hs.1 start 1 = 0 := Host.clampedStart_of_le _ _ _ _ h1 (by show 0 + A ≤ A; omega)
  have e2 : Host.clampedStart ⟨4, ![64, A, B, C]⟩ ⟨4, ![1, A, B, C]⟩ hs.1 start 2 = 0 := Host.clampedStart_of_le _ _ _ _ h2 (by show 0 + B ≤ B; omega)
  have e3 : Host.clampedStart ⟨4, ![64, A, B, C]⟩ ⟨4, ![1, A, B, C]⟩ hs.1 start 3 = 0 := Host.clampedStart_of_le _ _ _ _ h3 (by show 0 + C ≤ C; omega)
  rw [Host.dynamicSlice_apply]
  refine congrArg x (funext fun i => Fin.ext ?_)
  match i with
  | ⟨0, _⟩ => exact (congrArg (· + z.val) e0).trans (by show k.val + z.val = k.val; omega)
  | ⟨1, _⟩ => exact (congrArg (· + a.val) e1).trans (Nat.zero_add _)
  | ⟨2, _⟩ => exact (congrArg (· + b.val) e2).trans (Nat.zero_add _)
  | ⟨3, _⟩ => exact (congrArg (· + c.val) e3).trans (Nat.zero_add _)

/-- Where the window of one of 64 layers starts. -/
theorem starts5 {A B C D : ℕ} (start : Fin 5 → ℤ) (k : Fin 64) (h0 : start 0 = (k.val : ℤ))
    (h1 : start 1 = 0) (h2 : start 2 = 0) (h3 : start 3 = 0) (h4 : start 4 = 0) (hs : (⟨5, ![1, A, B, C, D]⟩ : Shape).rank = (⟨5, ![64, A, B, C, D]⟩ : Shape).rank) :
    Host.clampedStart ⟨5, ![64, A, B, C, D]⟩ ⟨5, ![1, A, B, C, D]⟩ hs start 0 = k.val
    ∧ Host.clampedStart ⟨5, ![64, A, B, C, D]⟩ ⟨5, ![1, A, B, C, D]⟩ hs start 1 = 0
    ∧ Host.clampedStart ⟨5, ![64, A, B, C, D]⟩ ⟨5, ![1, A, B, C, D]⟩ hs start 2 = 0
    ∧ Host.clampedStart ⟨5, ![64, A, B, C, D]⟩ ⟨5, ![1, A, B, C, D]⟩ hs start 3 = 0
    ∧ Host.clampedStart ⟨5, ![64, A, B, C, D]⟩ ⟨5, ![1, A, B, C, D]⟩ hs start 4 = 0 := by
  have hk := k.isLt
  exact ⟨Host.clampedStart_of_le _ _ _ _ h0 (by show k.val + 1 ≤ 64; omega), Host.clampedStart_of_le _ _ _ _ h1 (by show 0 + A ≤ A; omega),
    Host.clampedStart_of_le _ _ _ _ h2 (by show 0 + B ≤ B; omega), Host.clampedStart_of_le _ _ _ _ h3 (by show 0 + C ≤ C; omega),
    Host.clampedStart_of_le _ _ _ _ h4 (by show 0 + D ≤ D; omega)⟩

/-- One of 64 layers of rank four, read at its number. -/
theorem layer5 {A B C D : ℕ} (x : (⟨5, ![64, A, B, C, D]⟩ : Shape).Idx → EReal) (start : Fin 5 → ℤ) (k : Fin 64) (h0 : start 0 = (k.val : ℤ))
    (h1 : start 1 = 0) (h2 : start 2 = 0) (h3 : start 3 = 0) (h4 : start 4 = 0) (hs : (⟨5, ![64, A, B, C, D]⟩ : Shape).Slices (fun _ => 0) ⟨5, ![1, A, B, C, D]⟩) :
    Host.dynamicSlice ⟨5, ![1, A, B, C, D]⟩ x start hs = fun j => x (ix5 k (j 1) (j 2) (j 3) (j 4)) := by
  funext j
  rw [eq_ix5 j]
  generalize j 0 = z, j 1 = a, j 2 = b, j 3 = c, j 4 = d
  have hz : z.val < 1 := z.isLt
  obtain ⟨e0, e1, e2, e3, e4⟩ := starts5 (A := A) (B := B) (C := C) (D := D) start k h0 h1 h2 h3 h4 hs.1
  rw [Host.dynamicSlice_apply]
  refine congrArg x (funext fun i => Fin.ext ?_)
  match i with
  | ⟨0, _⟩ => exact (congrArg (· + z.val) e0).trans (by show k.val + z.val = k.val; omega)
  | ⟨1, _⟩ => exact (congrArg (· + a.val) e1).trans (Nat.zero_add _)
  | ⟨2, _⟩ => exact (congrArg (· + b.val) e2).trans (Nat.zero_add _)
  | ⟨3, _⟩ => exact (congrArg (· + c.val) e3).trans (Nat.zero_add _)
  | ⟨4, _⟩ => exact (congrArg (· + d.val) e4).trans (Nat.zero_add _)

/-- One of 64 layers, written at its number. -/
theorem put5_at {A B C D : ℕ} (x : (⟨5, ![64, A, B, C, D]⟩ : Shape).Idx → EReal) (u : (⟨5, ![1, A, B, C, D]⟩ : Shape).Idx → EReal) (start : Fin 5 → ℤ) (k : Fin 64) (h0 : start 0 = (k.val : ℤ))
    (h1 : start 1 = 0) (h2 : start 2 = 0) (h3 : start 3 = 0) (h4 : start 4 = 0) (hs : (⟨5, ![64, A, B, C, D]⟩ : Shape).Slices (fun _ => 0) ⟨5, ![1, A, B, C, D]⟩)
    (n : Fin 64) (a : Fin A) (b : Fin B) (c : Fin C) (d : Fin D) : Host.dynamicUpdateSlice x u start hs (ix5 n a b c d)
      = if n = k then u (ix5 0 a b c d) else x (ix5 n a b c d) := by
  obtain ⟨e0, e1, e2, e3, e4⟩ := starts5 (A := A) (B := B) (C := C) (D := D) start k h0 h1 h2 h3 h4 hs.1
  rw [Host.dynamicUpdateSlice_apply]
  by_cases hn : n = k
  · rw [if_pos hn]
    subst hn
    refine (dif_pos ?_).trans ?_
    · intro i
      match i with
      | ⟨0, _⟩ => exact ⟨le_of_eq e0, by rw [show Host.clampedStart _ _ hs.1 start ⟨0, _⟩ = n.val from e0]; show n.val < n.val + 1; omega⟩
      | ⟨1, _⟩ => exact ⟨(le_of_eq e1).trans (Nat.zero_le _), by rw [show Host.clampedStart _ _ hs.1 start ⟨1, _⟩ = 0 from e1]; show a.val < 0 + A; omega⟩
      | ⟨2, _⟩ => exact ⟨(le_of_eq e2).trans (Nat.zero_le _), by rw [show Host.clampedStart _ _ hs.1 start ⟨2, _⟩ = 0 from e2]; show b.val < 0 + B; omega⟩
      | ⟨3, _⟩ => exact ⟨(le_of_eq e3).trans (Nat.zero_le _), by rw [show Host.clampedStart _ _ hs.1 start ⟨3, _⟩ = 0 from e3]; show c.val < 0 + C; omega⟩
      | ⟨4, _⟩ => exact ⟨(le_of_eq e4).trans (Nat.zero_le _), by rw [show Host.clampedStart _ _ hs.1 start ⟨4, _⟩ = 0 from e4]; show d.val < 0 + D; omega⟩
    · refine congrArg u (funext fun i => Fin.ext ?_)
      match i with
      | ⟨0, _⟩ => exact (congrArg (n.val - ·) e0).trans (Nat.sub_self _)
      | ⟨1, _⟩ => exact (congrArg (a.val - ·) e1).trans (Nat.sub_zero _)
      | ⟨2, _⟩ => exact (congrArg (b.val - ·) e2).trans (Nat.sub_zero _)
      | ⟨3, _⟩ => exact (congrArg (c.val - ·) e3).trans (Nat.sub_zero _)
      | ⟨4, _⟩ => exact (congrArg (d.val - ·) e4).trans (Nat.sub_zero _)
  · rw [if_neg hn]
    refine dif_neg fun hin => hn (Fin.ext ?_)
    have h := hin 0
    rw [e0] at h
    have h1 : k.val ≤ n.val := h.1
    have h2 : n.val < k.val + 1 := h.2
    omega

/-- The array with one of its layers written. -/
theorem put5 {A B C D : ℕ} (x : (⟨5, ![64, A, B, C, D]⟩ : Shape).Idx → EReal) (u : (⟨5, ![1, A, B, C, D]⟩ : Shape).Idx → EReal) (start : Fin 5 → ℤ) (k : Fin 64) (h0 : start 0 = (k.val : ℤ))
    (h1 : start 1 = 0) (h2 : start 2 = 0) (h3 : start 3 = 0) (h4 : start 4 = 0) (hs : (⟨5, ![64, A, B, C, D]⟩ : Shape).Slices (fun _ => 0) ⟨5, ![1, A, B, C, D]⟩) :
    Host.dynamicUpdateSlice x u start hs = fun j => if (show Fin 64 from j 0) = k then u (ix5 0 (j 1) (j 2) (j 3) (j 4)) else x (ix5 (j 0) (j 1) (j 2) (j 3) (j 4)) :=
  funext fun j => (congrArg _ (eq_ix5 j)).trans (put5_at x u start k h0 h1 h2 h3 h4 hs (j 0) (j 1) (j 2) (j 3) (j 4))

variable (W : Valuation τ sig (Elt Ideal)) (k : Fin 64) (hk : W (Proc.devRef .tc main_v77_4) = fun _ => BitVec.ofNat 32 k.val)
include hk

theorem counter_at : (W (Proc.devRef .tc main_v77_4) (Shape.Idx.first h_S_)).toInt = (k.val : ℤ) := by
  rw [hk]
  exact toInt_ofNat k

theorem step5 (d : Fin 2) (h : Fin 4) (c : Fin 128) (e : Fin 256) : step_main_v77_5 W (ix4 d h c e)
    = (show EReal from W (Proc.devRef .tc main_v77_0) (ix4 k d h c)) * (show EReal from W (Proc.devRef .tc main_v77_5) (ix4 d h c e))
      + (show EReal from W (Proc.devRef .tc main_v77_1) (ix5 k d h c e)) := by
  unfold step_main_v77_5
  rw [id_eq, layer4 (W (Proc.devRef .tc main_v77_0)) _ k ?_ ?_ ?_ ?_, layer5 (W (Proc.devRef .tc main_v77_1)) _ k ?_ ?_ ?_ ?_ ?_]
  · pointwise []
  all_goals first | exact counter_at W k hk | rfl

theorem step6 (n : Fin 64) (d : Fin 2) (h : Fin 4) (c : Fin 128) (e : Fin 256) : step_main_v77_6 W (ix5 n d h c e)
    = if n = k then W (Proc.devRef .tc main_v77_5) (ix4 d h c e) else W (Proc.devRef .tc main_v77_6) (ix5 n d h c e) := by
  unfold step_main_v77_6
  rw [id_eq, put5 (W (Proc.devRef .tc main_v77_6)) _ _ k ?_ ?_ ?_ ?_ ?_]
  · pointwise []
  all_goals first | exact counter_at W k hk | rfl

theorem step7 (n : Fin 64) (d : Fin 2) (h : Fin 4) (l : Fin 64) (e : Fin 256) : step_main_v77_7 W (ix5 n d h l e)
    = if n = k then (show EReal from W (Proc.devRef .tc main_v77_3) (ix5 k d h l e))
        + ∑ c : Fin 128, (show EReal from W (Proc.devRef .tc main_v77_2) (ix5 k d h l c)) * (show EReal from W (Proc.devRef .tc main_v77_5) (ix4 d h c e))
      else W (Proc.devRef .tc main_v77_7) (ix5 n d h l e) := by
  unfold step_main_v77_7
  rw [id_eq, put5 (W (Proc.devRef .tc main_v77_7)) _ _ k ?_ ?_ ?_ ?_ ?_, layer5 (W (Proc.devRef .tc main_v77_3)) _ k ?_ ?_ ?_ ?_ ?_,
    layer5 (W (Proc.devRef .tc main_v77_2)) _ k ?_ ?_ ?_ ?_ ?_]
  · pointwise []
  all_goals first | exact counter_at W k hk | rfl

omit hk in
theorem toNat_succ : ∀ k : Fin 64, IntOp.addi (BitVec.ofNat 32 k.val) 1#32 = BitVec.ofNat 32 (k.val + 1) := by decide +kernel

theorem step4 : step_main_v77_4 W = fun _ => BitVec.ofNat 32 (k.val + 1) := by
  unfold step_main_v77_4
  rw [id_eq, hk]
  funext j
  exact toNat_succ k
end Cert.GlafRIdeal.Value
-- ==== Proof.GlafLog.lean ====
module
public import proofs.«01_k».proof.Proof.GlafMath
public import proofs.«01_k».proof.Proof.Reals
public import Idealize.ShloMosaic.Lib.Pointwise

/-! The logarithm of a decay, as a number: the two ways in which the programs write it. -/

@[expose] public section
noncomputable section
namespace Cert.Glaf
open Idealize.ShloMosaic Cert.Reals

/-- The logarithm of the decay that the gate `a` makes. -/
def lg (a : ℝ) : ℝ := (min a 0 - Real.log (1 + Real.exp (-|a|))) / 16

/-- Sixteen, as the reference writes it. -/
theorem ofBits_16 : Ideal.ofBits .f32 0x41800000#32 = ((16 : ℝ) : EReal) := by
  simp [Ideal.ofBits, Ideal.ieee]
  rw [← EReal.coe_mul, EReal.coe_eq_coe_iff]
  norm_num

/-- A sixteenth, as the kernel writes it. -/
theorem ofBits_inv16 : Ideal.ofBits .f32 0x3D800000#32 = ((1 / 16 : ℝ) : EReal) := by
  simp [Ideal.ofBits, Ideal.ieee]
  rw [← EReal.coe_mul, EReal.coe_eq_coe_iff]
  norm_num

theorem absf_coe (a : ℝ) : FloatOps.absf (F := Ideal) (φ := .f32) (a : EReal) = ((|a| : ℝ) : EReal) := by
  show max (a : EReal) (-(a : EReal)) = _
  rw [← EReal.coe_neg, ← EReal.coe_strictMono.monotone.map_max]
  rfl

/-- The logarithm of one and an exponential. -/
theorem log_coe (a : ℝ) : Ideal.log (1 + Ideal.exp ((-|a| : ℝ) : EReal)) = ((Real.log (1 + Real.exp (-|a|)) : ℝ) : EReal) := by
  rw [exp_coe, ← EReal.coe_one, ← EReal.coe_add]
  exact if_neg (not_le.mpr (by positivity))

/-- The reference's. -/
theorem refGate (a : ℝ) : Ideal.div
      (-(if -(a : EReal) ≠ -(a : EReal) then -(a : EReal)
        else max (-(a : EReal)) 0 + Ideal.log1p (Ideal.exp (-(FloatOps.absf (F := Ideal) (φ := .f32) (-(a : EReal)))))))
      (Ideal.ofBits .f32 0x41800000#32) = ((lg a : ℝ) : EReal) := by
  rw [if_neg (fun h => h rfl), ← EReal.coe_neg, absf_coe, abs_neg, ← EReal.coe_neg, Ideal.log1p]
  rw [log_coe, ofBits_16, ← EReal.coe_zero, ← EReal.coe_strictMono.monotone.map_max, ← EReal.coe_add, ← EReal.coe_neg, div_coe_coe (by norm_num)]
  congr 1
  unfold lg
  rw [show max (-a) 0 = -min a 0 by rw [← neg_zero, max_neg_neg, neg_zero]]
  ring

/-- The kernel's. -/
theorem kerGate (a : ℝ) : (min (a : EReal) 0 - Ideal.log (1 + Ideal.exp (0 - FloatOps.absf (F := Ideal) (φ := .f32) (a : EReal)))) * Ideal.ofBits .f32 0x3D800000#32
    = ((lg a : ℝ) : EReal) := by
  rw [absf_coe, zero_sub, ← EReal.coe_neg, log_coe, ofBits_inv16, ← EReal.coe_zero, ← EReal.coe_strictMono.monotone.map_min, ← EReal.coe_sub, ← EReal.coe_mul]
  congr 1
  unfold lg
  ring
end Cert.Glaf
-- ==== Proof.GlafPre.lean ====
module
public import proofs.«01_k».proof.Proof.Gen.GlafRIdeal.Run
public import proofs.«01_k».proof.Proof.GlafLog
public import Idealize.ShloMosaic.Lib.Pointwise
public import Idealize.ShloMosaic.Lib.Claim

/-! What the reference of the forward gated linear attention computes before its loop. -/

@[expose] public section
noncomputable section
namespace Cert.GlafRIdeal.Value
open Cert.GlafRIdeal Cert.GlafRIdeal.Gen Idealize.ShloMosaic Idealize.ShloMosaic.TcCoe Idealize.SL.Sem Cert.Reals Cert.Glaf
open Idealize.ShloMosaic.StableHlo

variable (V : Valuation τ sig (Elt Ideal))

set_option maxRecDepth 8192
set_option maxHeartbeats 2000000

/-- The operations before the running sums. -/
abbrev preA : List (List (HloOp τ sig (Elt Ideal))) := [hostOps0, hostOps0_1, hostOps0_2, hostOps0_3, hostOps0_4, hostOps0_5, hostOps0_6, hostOps0_7,
  hostOps0_8, hostOps0_9, hostOps0_10, hostOps0_11, hostOps0_12]

/-- The heads of an array of 512 columns. -/
def heads (x : S4096x512.Idx → EReal) : S4x4096x128.Idx → EReal :=
  transpose S4x4096x128 [1, 0, 2] (shapeCast S4096x4x128 x shapeCasts_S4096x512_S4096x4x128) transposes_S4096x4x128_S4x4096x128_1_0_2

/-- The heads of an array of 1024 columns. -/
def headsV (x : S4096x1024.Idx → EReal) : S4x4096x256.Idx → EReal :=
  transpose S4x4096x256 [1, 0, 2] (shapeCast S4096x4x256 x shapeCasts_S4096x1024_S4096x4x256) transposes_S4096x4x256_S4x4096x256_1_0_2

/-- One array as it stands over another turned round, cut into chunks. -/
def pair (x y : S4x4096x128.Idx → EReal) : S2x4x64x64x128.Idx → EReal :=
  shapeCast S2x4x64x64x128 (concatenate S2x4x4096x128 0
    [⟨S1x4x4096x128, broadcastInDim S1x4x4096x128 ![1, 2, 3] bcast_S4x4096x128_S1x4x4096x128_1_2_3 x⟩,
     ⟨S1x4x4096x128, broadcastInDim S1x4x4096x128 ![1, 2, 3] bcast_S4x4096x128_S1x4x4096x128_1_2_3 (Host.reverse [1] y)⟩]
    concatenates_S1x4x4096x128_S1x4x4096x128_S2x4x4096x128_d0) shapeCasts_S2x4x4096x128_S2x4x64x64x128

/-- The same of the values. -/
def pairV (x y : S4x4096x256.Idx → EReal) : S2x4x64x64x256.Idx → EReal :=
  shapeCast S2x4x64x64x256 (concatenate S2x4x4096x256 0
    [⟨S1x4x4096x256, broadcastInDim S1x4x4096x256 ![1, 2, 3] bcast_S4x4096x256_S1x4x4096x256_1_2_3 x⟩,
     ⟨S1x4x4096x256, broadcastInDim S1x4x4096x256 ![1, 2, 3] bcast_S4x4096x256_S1x4x4096x256_1_2_3 (Host.reverse [1] y)⟩]
    concatenates_S1x4x4096x256_S1x4x4096x256_S2x4x4096x256_d0) shapeCasts_S2x4x4096x256_S2x4x64x64x256

/-- The logarithm of `1 + exp x`, as the reference writes it. -/
def softp (x : S4096x512.Idx → EReal) : S4096x512.Idx → EReal :=
  let zero : S4096x512.Idx → EReal := broadcastInDim S4096x512 ![] bcast_S_S4096x512 (constant (F := Ideal) S_ .f32 0x00000000#32)
  let y : S4096x512.Idx → EReal := subf (F := Ideal) (φ := .f32) x zero
  select (cmpf (F := Ideal) (φ := .f32) .une y y) (addf (F := Ideal) (φ := .f32) x zero)
    (addf (F := Ideal) (φ := .f32) (maximumf (F := Ideal) (φ := .f32) x zero)
      (Host.log1p (F := Ideal) (φ := .f32) (Host.exp (F := Ideal) (φ := .f32) (Host.negf (F := Ideal) (φ := .f32) (Host.absf (F := Ideal) (φ := .f32) y)))))

/-- The logarithm of the decay. -/
def logDecay (z : S4096x512.Idx → EReal) : S4096x512.Idx → EReal :=
  Host.divf (F := Ideal) (φ := .f32) (Host.negf (F := Ideal) (φ := .f32) (softp (Host.negf (F := Ideal) (φ := .f32) z)))
    (broadcastInDim S4096x512 ![] bcast_S_S4096x512 (constant (F := Ideal) S_ .f32 0x41800000#32))

/-- The gates of one direction. -/
def gates0 (z : S2x4096x512.Idx → EReal) : S4096x512.Idx → EReal :=
  shapeCast S4096x512 (extractStridedSlice S1x4096x512 ![0, 0, 0] z slices_S2x4096x512_S1x4096x512_0_0_0) shapeCasts_S1x4096x512_S4096x512

/-- The gates of the other direction. -/
def gates1 (z : S2x4096x512.Idx → EReal) : S4096x512.Idx → EReal :=
  shapeCast S4096x512 (extractStridedSlice S1x4096x512 ![1, 0, 0] z slices_S2x4096x512_S1x4096x512_1_0_0) shapeCasts_S1x4096x512_S4096x512

/-- The scaled heads of the queries. -/
def queries (p : S4096x3104.Idx → EReal) : S4x4096x128.Idx → EReal :=
  mulf (F := Ideal) (φ := .f32) (heads (extractStridedSlice S4096x512 ![0, 0] p slices_S4096x3104_S4096x512_0_0))
    (broadcastInDim S4x4096x128 ![] bcast_S_S4x4096x128 (constant (F := Ideal) S_ .f32 0x3DB504F3#32))

/-- The heads of the keys. -/
def keys (p : S4096x3104.Idx → EReal) : S4x4096x128.Idx → EReal :=
  heads (extractStridedSlice S4096x512 ![0, 512] p slices_S4096x3104_S4096x512_0_512)

/-- The heads of the values. -/
def vals (p : S4096x3104.Idx → EReal) : S4x4096x256.Idx → EReal :=
  headsV (extractStridedSlice S4096x1024 ![0, 1024] p slices_S4096x3104_S4096x1024_0_1024)

theorem a41 : (afterL preA V (Proc.devRef .tc main_v41)) = pair (queries (V (Proc.devRef .tc main_arg0))) (queries (V (Proc.devRef .tc main_arg0))) := by
  simp only [preA, afterL_cons, afterL_nil]
  after_results
  rfl

theorem a42 : (afterL preA V (Proc.devRef .tc main_v42)) = pair (keys (V (Proc.devRef .tc main_arg0))) (keys (V (Proc.devRef .tc main_arg0))) := by
  simp only [preA, afterL_cons, afterL_nil]
  after_results
  rfl

theorem a43 : (afterL preA V (Proc.devRef .tc main_v43)) = pairV (vals (V (Proc.devRef .tc main_arg0))) (vals (V (Proc.devRef .tc main_arg0))) := by
  simp only [preA, afterL_cons, afterL_nil]
  after_results
  rfl

theorem a44 : (afterL preA V (Proc.devRef .tc main_v44)) = pair (heads (logDecay (gates0 (V (Proc.devRef .tc main_arg1))))) (heads (logDecay (gates1 (V (Proc.devRef .tc main_arg1))))) := by
  simp only [preA, afterL_cons, afterL_nil]
  after_results
  rfl

/-- The row of the array at which direction `d` stands after `r` others. -/
def turn (d : Fin 2) (r : Fin 4096) : Fin 4096 := if d.val = 0 then r else r.rev

theorem pair_apply (x y : S4x4096x128.Idx → EReal) (d : Fin 2) (h : Fin 4) (n l : Fin 64) (c : Fin 128) :
    pair x y (ix5 d h n l c) = (if d.val = 0 then x else y) (ix3 h (turn d ⟨64 * n.val + l.val, by omega⟩) c) := by
  have e : (⟨n.val * 64 + l.val, by omega⟩ : Fin 4096) = ⟨64 * n.val + l.val, by omega⟩ := Fin.ext (by show n.val * 64 + l.val = 64 * n.val + l.val; omega)
  fin_cases d <;> pointwise [pair, turn, e] <;> rfl

theorem pairV_apply (x y : S4x4096x256.Idx → EReal) (d : Fin 2) (h : Fin 4) (n l : Fin 64) (c : Fin 256) :
    pairV x y (ix5 d h n l c) = (if d.val = 0 then x else y) (ix3 h (turn d ⟨64 * n.val + l.val, by omega⟩) c) := by
  have e : (⟨n.val * 64 + l.val, by omega⟩ : Fin 4096) = ⟨64 * n.val + l.val, by omega⟩ := Fin.ext (by show n.val * 64 + l.val = 64 * n.val + l.val; omega)
  fin_cases d <;> pointwise [pairV, turn, e] <;> rfl

theorem heads_apply (x : S4096x512.Idx → EReal) (h : Fin 4) (r : Fin 4096) (c : Fin 128) : heads x (ix3 h r c) = x (ix2 r (col h c)) := by
  have e : (⟨h.val * 128 + c.val, by omega⟩ : Fin 512) = col h c := Fin.ext (by show h.val * 128 + c.val = 128 * h.val + c.val; omega)
  pointwise [heads, e]

theorem headsV_apply (x : S4096x1024.Idx → EReal) (h : Fin 4) (r : Fin 4096) (c : Fin 256) : headsV x (ix3 h r c) = x (ix2 r (vcol h c)) := by
  have e : (⟨h.val * 256 + c.val, by omega⟩ : Fin 1024) = vcol h c := Fin.ext (by show h.val * 256 + c.val = 256 * h.val + c.val; omega)
  pointwise [headsV, e]

theorem queries_apply (p : S4096x3104.Idx → EReal) (h : Fin 4) (r : Fin 4096) (c : Fin 128) :
    queries p (ix3 h r c) = p (ix2 r ⟨(col h c).val, by omega⟩) * Ideal.ofBits .f32 0x3DB504F3#32 := by
  pointwise [queries, heads_apply]

theorem keys_apply (p : S4096x3104.Idx → EReal) (h : Fin 4) (r : Fin 4096) (c : Fin 128) :
    keys p (ix3 h r c) = p (ix2 r ⟨512 + (col h c).val, by omega⟩) := by
  pointwise [keys, heads_apply]

theorem vals_apply (p : S4096x3104.Idx → EReal) (h : Fin 4) (r : Fin 4096) (c : Fin 256) :
    vals p (ix3 h r c) = p (ix2 r ⟨1024 + (vcol h c).val, by omega⟩) := by
  pointwise [vals, headsV_apply]

theorem gates0_apply (z : S2x4096x512.Idx → EReal) (r : Fin 4096) (c : Fin 512) : gates0 z (ix2 r c) = z (ix3 0 r c) := by
  pointwise [gates0]

theorem gates1_apply (z : S2x4096x512.Idx → EReal) (r : Fin 4096) (c : Fin 512) : gates1 z (ix2 r c) = z (ix3 1 r c) := by
  pointwise [gates1]

theorem logDecay_apply (z : S4096x512.Idx → EReal) (r : Fin 4096) (c : Fin 512) (a : ℝ) (ha : z (ix2 r c) = (a : EReal)) :
    logDecay z (ix2 r c) = ((lg a : ℝ) : EReal) := by
  pointwise [logDecay, softp, ha]
  exact refGate a
end Cert.GlafRIdeal.Value
-- ==== Proof.GlafEntry.lean ====
module
public import proofs.«01_k».proof.Proof.GlafPre
public import proofs.«01_k».proof.Proof.GlafTail

/-! The arrays over which the reference's loop runs, as functions of the arguments. -/

@[expose] public section
noncomputable section
namespace Cert.GlafRIdeal.Value
open Cert.GlafRIdeal Cert.GlafRIdeal.Gen Idealize.ShloMosaic Idealize.ShloMosaic.TcCoe Idealize.SL.Sem Cert.Reals Cert.Glaf
open Idealize.ShloMosaic.StableHlo

set_option maxRecDepth 8192
set_option maxHeartbeats 2000000

/-- Row `l` of the chunk at which direction `d` stands after `n` others. -/
def rowA (d : Fin 2) (n : ℕ) (l : Fin 64) : Fin 4096 := ⟨rowOf d n l % 4096, Nat.mod_lt _ (by decide)⟩

/-- The scaled queries of that chunk. -/
def QA (p : S4096x3104.Idx → EReal) (d : Fin 2) (n : ℕ) (l : Fin 64) (j : Fin 512) : EReal := p (ix2 (rowA d n l) ⟨j.val, by omega⟩) * Ideal.ofBits .f32 0x3DB504F3#32

/-- Its keys. -/
def KA (p : S4096x3104.Idx → EReal) (d : Fin 2) (n : ℕ) (l : Fin 64) (j : Fin 512) : EReal := p (ix2 (rowA d n l) ⟨512 + j.val, by omega⟩)

/-- Its values. -/
def VA (p : S4096x3104.Idx → EReal) (d : Fin 2) (n : ℕ) (l : Fin 64) (j : Fin 1024) : EReal := p (ix2 (rowA d n l) ⟨1024 + j.val, by omega⟩)

/-- The logarithms of its decays. -/
def GA (a : Fin 2 → Fin 4096 → Fin 512 → ℝ) (d : Fin 2) (n : ℕ) (l : Fin 64) (j : Fin 512) : EReal := ((lg (a d (rowA d n l) j) : ℝ) : EReal)

theorem turn_row (d : Fin 2) (n l : Fin 64) : turn d ⟨64 * n.val + l.val, by omega⟩ = rowA d n.val l := by
  apply Fin.ext
  unfold turn rowA rowOf
  split
  · show 64 * n.val + l.val = (64 * n.val + l.val) % 4096
    omega
  · rw [Fin.val_rev]
    show 4096 - (64 * n.val + l.val + 1) = (4095 - (64 * n.val + l.val)) % 4096
    omega

section
variable (V : Valuation τ sig (Elt Ideal)) (p : S4096x3104.Idx → EReal) (hp : V (Proc.devRef .tc main_arg0) = p)
  (a : Fin 2 → Fin 4096 → Fin 512 → ℝ) (ha : ∀ d r j, V (Proc.devRef .tc main_arg1) (ix3 d r j) = (a d r j : EReal))
include hp
theorem q_entry (d : Fin 2) (h : Fin 4) (n l : Fin 64) (c : Fin 128) : afterL preA V (Proc.devRef .tc main_v41) (ix5 d h n l c) = QA p d n.val l (col h c) := by
  rw [a41, hp, pair_apply, ite_self, turn_row, queries_apply]
  rfl
theorem k_entry (d : Fin 2) (h : Fin 4) (n l : Fin 64) (c : Fin 128) : afterL preA V (Proc.devRef .tc main_v42) (ix5 d h n l c) = KA p d n.val l (col h c) := by
  rw [a42, hp, pair_apply, ite_self, turn_row, keys_apply]
  rfl
theorem v_entry (d : Fin 2) (h : Fin 4) (n l : Fin 64) (c : Fin 256) : afterL preA V (Proc.devRef .tc main_v43) (ix5 d h n l c) = VA p d n.val l (vcol h c) := by
  rw [a43, hp, pairV_apply, ite_self, turn_row, vals_apply]
  rfl
omit hp
include ha
theorem g_entry (d : Fin 2) (h : Fin 4) (n l : Fin 64) (c : Fin 128) : afterL preA V (Proc.devRef .tc main_v44) (ix5 d h n l c) = GA a d n.val l (col h c) := by
  rw [a44, pair_apply, turn_row]
  by_cases hd : d.val = 0
  · rw [if_pos hd, heads_apply, logDecay_apply _ _ _ _ ((gates0_apply _ _ _).trans (ha 0 _ _))]
    rw [show d = 0 from Fin.ext hd]
    rfl
  · rw [if_neg hd, heads_apply, logDecay_apply _ _ _ _ ((gates1_apply _ _ _).trans (ha 1 _ _))]
    rw [show d = 1 from Fin.ext (by have := d.isLt; show d.val = 1; omega)]
    rfl
end

section
variable (U : Valuation τ sig (Elt Ideal)) (q k g : Fin 2 → ℕ → Fin 64 → Fin 512 → EReal) (v : Fin 2 → ℕ → Fin 64 → Fin 1024 → EReal)
  (hq : ∀ (d : Fin 2) (h : Fin 4) (n l : Fin 64) (c : Fin 128), U (Proc.devRef .tc main_v41) (ix5 d h n l c) = q d n.val l (col h c))
  (hk : ∀ (d : Fin 2) (h : Fin 4) (n l : Fin 64) (c : Fin 128), U (Proc.devRef .tc main_v42) (ix5 d h n l c) = k d n.val l (col h c))
  (hv : ∀ (d : Fin 2) (h : Fin 4) (n l : Fin 64) (e : Fin 256), U (Proc.devRef .tc main_v43) (ix5 d h n l e) = v d n.val l (vcol h e))
  (hg : ∀ (d : Fin 2) (h : Fin 4) (n l : Fin 64) (c : Fin 128), U (Proc.devRef .tc main_v44) (ix5 d h n l c) = g d n.val l (col h c))

include hg
theorem cum_entry (d : Fin 2) (h : Fin 4) (n l : Fin 64) (c : Fin 128) : cumT (U (Proc.devRef .tc main_v44)) (ix5 d h n l c) = cum (g d n.val) l (col h c) := by
  rw [cumT_apply]
  unfold cum
  exact Finset.sum_congr rfl fun m _ => by rw [hg]

theorem tot_entry (d : Fin 2) (h : Fin 4) (n : Fin 64) (c : Fin 128) : cumT (U (Proc.devRef .tc main_v44)) (ix5 d h n 63 c) = tot (g d n.val) (col h c) := by
  rw [cum_entry U g hg]
  unfold cum tot
  exact Finset.sum_congr rfl fun m _ => if_pos (Fin.le_def.2 (by have := m.isLt; show m.val ≤ 63; omega))

theorem e0 (n : Fin 64) (d : Fin 2) (h : Fin 4) (c : Fin 128) : afterL preB U (Proc.devRef .tc main_v77_0) (ix4 n d h c) = Ideal.exp (tot (g d n.val) (col h c)) := by
  rw [b0, ← tot_entry U g hg]
  pointwise [lastT]

include hk hv
theorem e1 (n : Fin 64) (d : Fin 2) (h : Fin 4) (c : Fin 128) (e : Fin 256) : afterL preB U (Proc.devRef .tc main_v77_1) (ix5 n d h c e)
    = upd (k d n.val) (v d n.val) (g d n.val) h e c := by
  rw [b1]
  refine Eq.trans (b := updT (U (Proc.devRef .tc main_v42)) (U (Proc.devRef .tc main_v43)) (U (Proc.devRef .tc main_v44)) (ix5 d h n c e)) (by pointwise []) ?_
  rw [upd_apply]
  unfold upd
  exact Finset.sum_congr rfl fun l _ => by rw [hk, hv, tot_entry U g hg, cum_entry U g hg, mul_comm]

include hq
omit hk hv in
theorem e2 (n : Fin 64) (d : Fin 2) (h : Fin 4) (l : Fin 64) (c : Fin 128) : afterL preB U (Proc.devRef .tc main_v77_2) (ix5 n d h l c)
    = q d n.val l (col h c) * Ideal.exp (cum (g d n.val) l (col h c)) := by
  rw [b2, ← hq, ← cum_entry U g hg]
  pointwise []

theorem e3 (n : Fin 64) (d : Fin 2) (h : Fin 4) (l : Fin 64) (e : Fin 256) : afterL preB U (Proc.devRef .tc main_v77_3) (ix5 n d h l e)
    = ∑ m, (if m ≤ l then score (q d n.val) (k d n.val) (g d n.val) h l m else 0) * v d n.val m (vcol h e) := by
  rw [b3]
  refine Eq.trans (b := intraT (U (Proc.devRef .tc main_v41)) (U (Proc.devRef .tc main_v42)) (U (Proc.devRef .tc main_v43)) (U (Proc.devRef .tc main_v44)) (ix5 d h n l e)) (by pointwise []) ?_
  rw [intra_apply]
  refine Finset.sum_congr rfl fun m _ => ?_
  rw [hv, score_apply]
  unfold score
  refine congrArg (fun x => (if m ≤ l then x else 0) * _) (Finset.sum_congr rfl fun c _ => ?_)
  rw [hq, hk, cum_entry U g hg, cum_entry U g hg, cum_entry U g hg]
end

end Cert.GlafRIdeal.Value
-- ==== Proof.GlafAll.lean ====
module
public import proofs.«01_k».proof.Proof.GlafLoop
public import proofs.«01_k».proof.Proof.GlafEntry

/-! What the reference's loop has done after any number of passes, and what the reference returns. -/

@[expose] public section
noncomputable section
namespace Cert.GlafRIdeal.Value
open Cert.GlafRIdeal Cert.GlafRIdeal.Gen Idealize.ShloMosaic Idealize.ShloMosaic.TcCoe Idealize.SL.Sem Cert.Glaf
open Idealize.ShloMosaic.StableHlo

set_option maxRecDepth 8192
set_option maxHeartbeats 2000000

/-- What the loop's buffers hold after `s` passes. -/
structure Held (q k g : Fin 2 → ℕ → Fin 64 → Fin 512 → EReal) (v : Fin 2 → ℕ → Fin 64 → Fin 1024 → EReal) (s : ℕ) (W : Valuation τ sig (Elt Ideal)) : Prop where
  decay : ∀ (n : Fin 64) (d : Fin 2) (h : Fin 4) (c : Fin 128), W (Proc.devRef .tc main_v77_0) (ix4 n d h c) = Ideal.exp (tot (g d n.val) (col h c))
  update : ∀ (n : Fin 64) (d : Fin 2) (h : Fin 4) (c : Fin 128) (e : Fin 256), W (Proc.devRef .tc main_v77_1) (ix5 n d h c e) = upd (k d n.val) (v d n.val) (g d n.val) h e c
  query : ∀ (n : Fin 64) (d : Fin 2) (h : Fin 4) (l : Fin 64) (c : Fin 128), W (Proc.devRef .tc main_v77_2) (ix5 n d h l c) = q d n.val l (col h c) * Ideal.exp (cum (g d n.val) l (col h c))
  inside : ∀ (n : Fin 64) (d : Fin 2) (h : Fin 4) (l : Fin 64) (e : Fin 256), W (Proc.devRef .tc main_v77_3) (ix5 n d h l e)
    = ∑ m, (if m ≤ l then score (q d n.val) (k d n.val) (g d n.val) h l m else 0) * v d n.val m (vcol h e)
  count : W (Proc.devRef .tc main_v77_4) = fun _ => BitVec.ofNat 32 s
  state : ∀ (d : Fin 2) (h : Fin 4) (c : Fin 128) (e : Fin 256), W (Proc.devRef .tc main_v77_5) (ix4 d h c e) = states (k d) (v d) (g d) s h e c
  kept : ∀ (n : Fin 64), n.val < s → ∀ (d : Fin 2) (h : Fin 4) (c : Fin 128) (e : Fin 256), W (Proc.devRef .tc main_v77_6) (ix5 n d h c e) = states (k d) (v d) (g d) n.val h e c
  out : ∀ (n : Fin 64), n.val < s → ∀ (d : Fin 2) (h : Fin 4) (l : Fin 64) (e : Fin 256), W (Proc.devRef .tc main_v77_7) (ix5 n d h l e)
    = outO (q d n.val) (k d n.val) (v d n.val) (g d n.val) (states (k d) (v d) (g d) n.val) h l e

variable (q k g : Fin 2 → ℕ → Fin 64 → Fin 512 → EReal) (v : Fin 2 → ℕ → Fin 64 → Fin 1024 → EReal)

/-- One pass. -/
theorem Held.step {s : ℕ} (hs : s < 64) {W : Valuation τ sig (Elt Ideal)} (H : Held q k g v s W) : Held q k g v (s + 1) (STEP W) where
  decay := by rw [STEP_main_v77_0]; exact H.decay
  update := by rw [STEP_main_v77_1]; exact H.update
  query := by rw [STEP_main_v77_2]; exact H.query
  inside := by rw [STEP_main_v77_3]; exact H.inside
  count := by rw [STEP_main_v77_4]; exact step4 W ⟨s, hs⟩ H.count
  state := by
    intro d h c e
    rw [STEP_main_v77_5, step5 W ⟨s, hs⟩ H.count, H.decay, H.update, H.state]
    show _ = stepS (k d s) (v d s) (g d s) (states (k d) (v d) (g d) s) h e c
    unfold stepS
    rw [mul_comm]
  kept := by
    intro n hn d h c e
    rw [STEP_main_v77_6, step6 W ⟨s, hs⟩ H.count]
    split
    · next hc => subst hc; exact H.state d h c e
    · next hc => exact H.kept n (by have : n.val ≠ s := fun hh => hc (Fin.ext hh); omega) d h c e
  out := by
    intro n hn d h l e
    rw [STEP_main_v77_7, step7 W ⟨s, hs⟩ H.count]
    split
    · next hc =>
      subst hc
      rw [H.inside]
      unfold outO
      refine congrArg (_ + ·) (Finset.sum_congr rfl fun c _ => ?_)
      rw [H.query, H.state]
    · next hc => exact H.out n (by have : n.val ≠ s := fun hh => hc (Fin.ext hh); omega) d h l e

/-- Any number of passes. -/
theorem Held.passes {W : Valuation τ sig (Elt Ideal)} (H : Held q k g v 0 W) : ∀ s, s ≤ 64 → Held q k g v s (STEP^[s] W)
  | 0, _ => H
  | s + 1, hs => by
    rw [Function.iterate_succ_apply']
    exact (Held.passes H s (by omega)).step q k g v (by omega)

variable (m : (ℓ : Loc nD τ sig) → Buf (Elt Ideal) ℓ) (c : Dev nD)
  (a : Fin 2 → Fin 4096 → Fin 512 → ℝ) (ha : ∀ d r j, m (c, Proc.devRef .tc main_arg1) (ix3 d r j) = (a d r j : EReal))

include ha
/-- Before the first. -/
theorem held_entry : Held (QA (m (c, Proc.devRef .tc main_arg0))) (KA (m (c, Proc.devRef .tc main_arg0))) (GA a) (VA (m (c, Proc.devRef .tc main_arg0))) 0 (entryContents preI m c) := by
  have hE : (entryContents preI m c : Valuation τ sig (Elt Ideal)) = afterL preB (afterL preA (launchContents m c)) := rfl
  have hq := q_entry (launchContents m c) _ rfl
  have hk := k_entry (launchContents m c) _ rfl
  have hv := v_entry (launchContents m c) _ rfl
  have hg := g_entry (launchContents m c) a ha
  exact {
    decay := e0 _ _ hg
    update := e1 _ _ _ _ hk hv hg
    query := e2 _ _ _ hq hg
    inside := e3 _ _ _ _ _ hq hk hv hg
    count := ctr_entry m c
    state := by
      intro d h x e
      rw [hE, b5]
      pointwise []
      rfl
    kept := fun n hn => absurd hn (Nat.not_lt_zero _)
    out := fun n hn => absurd hn (Nat.not_lt_zero _) }

/-- What the buffers hold when the loop is done. -/
@[irreducible] def done : Valuation τ sig (Elt Ideal) := STEP^[64] (entryContents preI m c)

omit ha in
/-- The run, with what its loop leaves under a name. -/
theorem run_done (ρ : Dev nD → PrngReg) : θ_run (defs (F := Ideal)) (onTc (τ := τ) (main (F := Ideal))) ⟨m, fun _ => 0, ρ⟩ fun r => ∀ c : Dev nD,
      r.2.mem ((c.tc : Thread nD τ).loc main_v84) = out_main_v84 (done m c)
      ∧ r.2.mem ((c.tc : Thread nD τ).loc main_v89) = out_main_v89 (done m c)
      ∧ r.2.mem ((c.tc : Thread nD τ).loc main_v91) = out_main_v91 (done m c)
      ∧ r.2.mem ((c.tc : Thread nD τ).loc main_v94) = out_main_v94 (done m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold done
  exact run m ρ

/-- After all of them. -/
theorem held_end : Held (QA (m (c, Proc.devRef .tc main_arg0))) (KA (m (c, Proc.devRef .tc main_arg0))) (GA a) (VA (m (c, Proc.devRef .tc main_arg0))) 64 (done m c) := by
  unfold done
  exact Held.passes _ _ _ _ (held_entry m c a ha) 64 le_rfl
omit ha
section
variable (W : Valuation τ sig (Elt Ideal))
theorem out84 (r : Fin 4096) (j : Fin 1024) : out_main_v84 W (ix2 r j) = W (Proc.devRef .tc main_v77_7)
    (ix5 ⟨r.val / 64, by omega⟩ 0 ⟨j.val / 256, by omega⟩ ⟨r.val % 64, by omega⟩ ⟨j.val % 256, by omega⟩) := by
  pointwise [out_main_v84]
theorem out89 (r : Fin 4096) (j : Fin 1024) : out_main_v89 W (ix2 r j) = W (Proc.devRef .tc main_v77_7)
    (ix5 ⟨r.rev.val / 64, by omega⟩ 1 ⟨j.val / 256, by omega⟩ ⟨r.rev.val % 64, by omega⟩ ⟨j.val % 256, by omega⟩) := by
  pointwise [out_main_v89]
  rfl
theorem out91 (n : Fin 64) (h : Fin 4) (e : Fin 256) (x : Fin 128) : out_main_v91 W (ix4 n h e x) = W (Proc.devRef .tc main_v77_6) (ix5 n 0 h x e) := by
  pointwise [out_main_v91]
theorem out94 (n : Fin 64) (h : Fin 4) (e : Fin 256) (x : Fin 128) : out_main_v94 W (ix4 n h e x) = W (Proc.devRef .tc main_v77_6) (ix5 n.rev 1 h x e) := by
  pointwise [out_main_v94]
  rfl
end
end Cert.GlafRIdeal.Value
-- ==== Proof.GlafClaim.lean ====
/- The forward gated linear attention: the kernel's outputs and saved states are the reference's, on finite gates. -/
module

public import proofs.«01_k».proof.Defs
public import proofs.«01_k».proof.Proof.GlafKernel
public import proofs.«01_k».proof.Proof.GlafAll
public import proofs.«01_k».proof.Proof.Gen.GlafKIdeal.Value
public import proofs.«01_k».proof.Proof.Gen.Pre_finite_glaf

@[expose] public section

set_option maxRecDepth 16384

noncomputable section

open Idealize.ShloMosaic Idealize.ShloMosaic.TcCoe Idealize.SL.Sem Cert.Reals Cert.Glaf

namespace Cert.GlafClaim

instance : Cert.GlafKIdeal.Facts := Cert.GlafKIdeal.Gen.facts

/-- The precondition makes the gates an array of real numbers. -/
theorem real {m : (ℓ : Loc Cert.GlafKIdeal.nD Cert.GlafKIdeal.τ Cert.GlafKIdeal.sig) → Buf (Elt Ideal) ℓ}
    (hp : Pre_GlafKIdeal_finite_glaf (hPre_finite_glaf := Cert.Pre_finite_glaf.Gen.facts) m) (c : Dev Cert.GlafKIdeal.nD) :
    ∃ a : Fin 2 → Fin 4096 → Fin 512 → ℝ, ∀ d r j, m ((c : Thread Cert.GlafKIdeal.nD Cert.GlafKIdeal.τ).loc Cert.GlafKIdeal.main_arg1) (ix3 d r j) = (a d r j : EReal) := by
  have h := congrFun (hp c) (Shape.Idx.first (by decide))
  unfold Cert.Pre_finite_glaf.fn at h
  haveI : Subsingleton Cert.Pre_finite_glaf.S_.Idx := ⟨fun a b => funext fun i => i.elim0⟩
  obtain ⟨Z, hZ⟩ := finite_of_all _ _ _ _ _ _ h
  exact ⟨fun d r j => Z (ix3 d r j), fun d r j => congrFun hZ _⟩

section
open Cert.GlafKIdeal Cert.GlafKIdeal.Value
variable {m : (ℓ : Loc nD τ sig) → Buf (Elt Ideal) ℓ} {m' : (ℓ : Loc Cert.GlafRIdeal.nD Cert.GlafRIdeal.τ Cert.GlafRIdeal.sig) → Buf (Elt Ideal) ℓ}
  {c : Dev nD} {a : Fin 2 → Fin 4096 → Fin 512 → ℝ}

theorem gate_real (ha : ∀ d r j, m ((c : Thread nD τ).loc main_arg1) (ix3 d r j) = (a d r j : EReal)) (d : Fin 2) (r : Fin 4096) (j : Fin 512) :
    Step.lgK (Z m c d r j) = ((lg (a d r j) : ℝ) : EReal) := by
  refine (congrArg Step.lgK (ha d r j)).trans ?_
  unfold Step.lgK
  exact kerGate (a d r j)

theorem gates_eq (ha : ∀ d r j, m ((c : Thread nD τ).loc main_arg1) (ix3 d r j) = (a d r j : EReal)) (d : Fin 2) :
    GD m c d = Cert.GlafRIdeal.Value.GA a d := by
  funext n l j
  exact gate_real ha d (rowD d n l) j

/-- The reference's output row is the kernel's. -/
theorem out_row (ha : ∀ d r j, m ((c : Thread nD τ).loc main_arg1) (ix3 d r j) = (a d r j : EReal)) (d : Fin 2) (r : Fin 4096) (j : Fin 1024) :
    OD m c d r j = outO (Cert.GlafRIdeal.Value.QA (m ((c : Thread nD τ).loc main_arg0)) d (chunkOf d r)) (Cert.GlafRIdeal.Value.KA (m ((c : Thread nD τ).loc main_arg0)) d (chunkOf d r))
      (Cert.GlafRIdeal.Value.VA (m ((c : Thread nD τ).loc main_arg0)) d (chunkOf d r)) (Cert.GlafRIdeal.Value.GA a d (chunkOf d r))
      (states (Cert.GlafRIdeal.Value.KA (m ((c : Thread nD τ).loc main_arg0)) d) (Cert.GlafRIdeal.Value.VA (m ((c : Thread nD τ).loc main_arg0)) d) (Cert.GlafRIdeal.Value.GA a d) (chunkOf d r))
      (headOf j) (inChunk d r) (inHead j) := by
  unfold OD SD
  rw [gates_eq ha]
  rfl

/-- The reference's saved state is the kernel's. -/
theorem state_at (ha : ∀ d r j, m ((c : Thread nD τ).loc main_arg1) (ix3 d r j) = (a d r j : EReal)) (d : Fin 2) (n : Fin 64) :
    TD m c d n = states (Cert.GlafRIdeal.Value.KA (m ((c : Thread nD τ).loc main_arg0)) d) (Cert.GlafRIdeal.Value.VA (m ((c : Thread nD τ).loc main_arg0)) d) (Cert.GlafRIdeal.Value.GA a d)
      (if d.val = 0 then n.val else 63 - n.val) := by
  unfold TD SD
  rw [gates_eq ha]
  rfl

/-- The same of the reverse direction, its rows counted from the last. -/
theorem out_row1 (ha : ∀ d r j, m ((c : Thread nD τ).loc main_arg1) (ix3 d r j) = (a d r j : EReal)) (r : Fin 4096) (j : Fin 1024) :
    OD m c 1 r j = outO (Cert.GlafRIdeal.Value.QA (m ((c : Thread nD τ).loc main_arg0)) 1 (r.rev.val / 64)) (Cert.GlafRIdeal.Value.KA (m ((c : Thread nD τ).loc main_arg0)) 1 (r.rev.val / 64))
      (Cert.GlafRIdeal.Value.VA (m ((c : Thread nD τ).loc main_arg0)) 1 (r.rev.val / 64)) (Cert.GlafRIdeal.Value.GA a 1 (r.rev.val / 64))
      (states (Cert.GlafRIdeal.Value.KA (m ((c : Thread nD τ).loc main_arg0)) 1) (Cert.GlafRIdeal.Value.VA (m ((c : Thread nD τ).loc main_arg0)) 1) (Cert.GlafRIdeal.Value.GA a 1) (r.rev.val / 64))
      (headOf j) ⟨r.rev.val % 64, by omega⟩ (inHead j) := by
  have hc : chunkOf 1 r = r.rev.val / 64 := congrArg (· / 64) (show 4095 - r.val = r.rev.val by rw [Fin.val_rev]; omega)
  have hi : inChunk 1 r = ⟨r.rev.val % 64, by omega⟩ := Fin.ext (congrArg (· % 64) (show 4095 - r.val = r.rev.val by rw [Fin.val_rev]; omega))
  rw [out_row ha, hc, hi]

/-- The reverse direction's states, its chunks counted from the last. -/
theorem state_at1 (ha : ∀ d r j, m ((c : Thread nD τ).loc main_arg1) (ix3 d r j) = (a d r j : EReal)) (n : Fin 64) :
    TD m c 1 n = states (Cert.GlafRIdeal.Value.KA (m ((c : Thread nD τ).loc main_arg0)) 1) (Cert.GlafRIdeal.Value.VA (m ((c : Thread nD τ).loc main_arg0)) 1) (Cert.GlafRIdeal.Value.GA a 1) n.rev.val := by
  have hn : (if (1 : Fin 2).val = 0 then n.val else 63 - n.val) = n.rev.val := by
    rw [if_neg (by decide), Fin.val_rev]
    omega
  rw [state_at ha, hn]
end

set_option maxHeartbeats 400000 in
theorem algebraic : Cert.algebraic_GlafKIdeal_GlafRIdeal_pre_finite_glaf (hGlafKIdeal := Cert.GlafKIdeal.Gen.facts)
    (hGlafRIdeal := Cert.GlafRIdeal.Gen.facts) (hPre_finite_glaf := Cert.Pre_finite_glaf.Gen.facts) := by
  pair_intro
  · run_from Cert.GlafKIdeal.Value.run_blocks m g
  · refine (θ_run _ _ _).mono (fun r h c => ?_) (Cert.GlafRIdeal.Value.run_done m' g')
    obtain ⟨a, ha⟩ := real hpre c
    have H := Cert.GlafRIdeal.Value.held_end m' c a (fun d r j => (congrFun (hagree c).2 _).trans (ha d r j))
    have e0 : m' (c, Proc.devRef .tc Cert.GlafRIdeal.main_arg0) = m ((c : Thread Cert.GlafKIdeal.nD Cert.GlafKIdeal.τ).loc Cert.GlafKIdeal.main_arg0) := (hagree c).1
    rw [e0] at H
    have hg := gate_real ha
    refine ⟨(h c).1.trans ?_, (h c).2.1.trans ?_, (h c).2.2.1.trans ?_, (h c).2.2.2.1.trans ?_, (h c).2.2.2.2.1, (h c).2.2.2.2.2⟩
    · refine Eq.trans ?_ (Cert.GlafKIdeal.Value.final8 m c _ hg).symm
      funext j
      idx_vars j
      exact (Cert.GlafRIdeal.Value.out84 _ _ _).trans ((H.out _ (Fin.isLt _) _ _ _ _).trans (out_row ha 0 j0 j1).symm)
    · refine Eq.trans ?_ (Cert.GlafKIdeal.Value.final9 m c _ hg).symm
      funext j
      idx_vars j
      exact (Cert.GlafRIdeal.Value.out89 _ _ _).trans ((H.out _ (Fin.isLt _) _ _ _ _).trans (out_row1 ha j0 j1).symm)
    · refine Eq.trans ?_ (Cert.GlafKIdeal.Value.final10 m c _ hg).symm
      funext j
      idx_vars j
      exact (Cert.GlafRIdeal.Value.out91 _ _ _ _ _).trans ((H.kept _ (Fin.isLt _) _ _ _ _).trans (congrFun (congrFun (congrFun (state_at ha 0 j0) j1) j2) j3).symm)
    · refine Eq.trans ?_ (Cert.GlafKIdeal.Value.final11 m c _ hg).symm
      funext j
      idx_vars j
      exact (Cert.GlafRIdeal.Value.out94 _ _ _ _ _).trans ((H.kept _ (Fin.isLt _) _ _ _ _).trans (congrFun (congrFun (congrFun (state_at1 ha j0) j1) j2) j3).symm)

end Cert.GlafClaim

end
-- ==== Proof.HgfStep.lean ====
module
public import proofs.«01_k».proof.Proof.Gen.HgfKIdeal.Value
public import Idealize.ShloMosaic.Lib.Pipeline.ValueKit
public import Idealize.ShloMosaic.Lib.Pipeline.ReadBack
public import Idealize.ShloMosaic.Lib.Pointwise

/-! What one grid point of the forward HGRU recurrence computes. A point takes a block of four chunks of 64
    rows in each direction; a chunk turns its query, forget and value columns and the state of the four heads into
    its output and the next state. The functions here are the operations of one chunk; the theorems say that a point's
    outputs and its carried scratch are these functions of its input blocks and of what the scratch held. -/

@[expose] public section
noncomputable section
namespace Cert.HgfKIdeal.Step
open Cert.HgfKIdeal Cert.HgfKIdeal.Gen Idealize.ShloMosaic Idealize.ShloMosaic.TcCoe Idealize.SL.Sem
open Idealize.ShloMosaic.Pipeline (Dat)
variable {F : FTy → Type} [FloatOps F]

/-- One head's 128 columns of a chunk's 512. -/
def headC (h : Fin 4) (x : FVec F S64x512 .f32) : FVec F S64x128 .f32 :=
  match h with
  | 0 => extractStridedSlice S64x128 ![0, 0] x slices_S64x512_o0_0_S64x128
  | 1 => extractStridedSlice S64x128 ![0, 128] x slices_S64x512_o0_128_S64x128
  | 2 => extractStridedSlice S64x128 ![0, 256] x slices_S64x512_o0_256_S64x128
  | 3 => extractStridedSlice S64x128 ![0, 384] x slices_S64x512_o0_384_S64x128

/-- One head's 128 columns of a row of 512. -/
def headD (h : Fin 4) (x : FVec F S1x512 .f32) : FVec F S1x128 .f32 :=
  match h with
  | 0 => extractStridedSlice S1x128 ![0, 0] x slices_S1x512_o0_0_S1x128
  | 1 => extractStridedSlice S1x128 ![0, 128] x slices_S1x512_o0_128_S1x128
  | 2 => extractStridedSlice S1x128 ![0, 256] x slices_S1x512_o0_256_S1x128
  | 3 => extractStridedSlice S1x128 ![0, 384] x slices_S1x512_o0_384_S1x128

/-- The lower bound of the decays, from the two rows of logits. -/
def lbs (l0 l1 : Vec F S1x512 .f32) : FVec F S1x512 .f32 :=
  k0_pay15 l0 l1

/-- The logarithms of a chunk's decays, from their lower bound and the forget logits. -/
def lgs (lb : FVec F S1x512 .f32) (f : Vec F S64x512 .f32) : FVec F S64x512 .f32 := k0_pay19 lb (k0_pay16 f)

/-- The running sums of the decays' logarithms within a chunk. -/
def cums (tri : FVec F S64x64 .f32) (lb : FVec F S1x512 .f32) (f : Vec F S64x512 .f32) : FVec F S64x512 .f32 := k0_pay21 tri lb (k0_pay16 f)

/-- The activated queries of a chunk. -/
def qsc (q : Vec F S64x512 .f32) : FVec F S64x512 .f32 := k0_pay18 q (k0_pay17 q) (Scalar.ofBits .f32 0x3F800000#32)

/-- The activated queries times the decay from the middle row. -/
def qins (tri : FVec F S64x64 .f32) (mr : FVec F S64x1 .f32) (lb : FVec F S1x512 .f32) (q f : Vec F S64x512 .f32) : FVec F S64x512 .f32 :=
  k0_pay24 tri mr q lb (k0_pay16 f) (k0_pay17 q) (Scalar.ofBits .f32 0x3F800000#32)

/-- The keys times the decay to the middle row. -/
def kins (tri : FVec F S64x64 .f32) (mr : FVec F S64x1 .f32) (lb : FVec F S1x512 .f32) (f : Vec F S64x512 .f32) : FVec F S64x512 .f32 :=
  k0_pay25 tri mr lb (k0_pay16 f)

/-- The keys times the decay to the chunk's end. -/
def ksts (tri : FVec F S64x64 .f32) (lb : FVec F S1x512 .f32) (f : Vec F S64x512 .f32) : FVec F S64x512 .f32 := k0_pay26 tri lb (k0_pay16 f)

/-- The activated queries times the decay from the chunk's start. -/
def qdcs (tri : FVec F S64x64 .f32) (lb : FVec F S1x512 .f32) (q f : Vec F S64x512 .f32) : FVec F S64x512 .f32 :=
  k0_pay27 tri q lb (k0_pay16 f) (k0_pay17 q) (Scalar.ofBits .f32 0x3F800000#32)

/-- The state of the four heads after a chunk. -/
def chunkS (tri : FVec F S64x64 .f32) (lb : FVec F S1x512 .f32) (f v : Vec F S64x512 .f32)
    (st : Fin 4 → FVec F S128x128 .f32) (h : Fin 4) : FVec F S128x128 .f32 :=
  addf (mulf (st h) (broadcastTo S128x128 (headD h (k0_pay28 lb (k0_pay16 f))) broadcasts_S1x128_S128x128))
    (matmul dot_S64x128_S64x128_S128x128_0_0_1_1_n_n none (truncf .bf16 (headC h v) bitsLt_bf16_f32)
      (truncf .bf16 (headC h (ksts tri lb f)) bitsLt_bf16_f32) (constant S128x128 .f32 0x00000000#32))

/-- One head's output of a chunk: the masked products within the chunk and the product with the state before it. -/
def chunkOh (tri : FVec F S64x64 .f32) (mr : FVec F S64x1 .f32) (lb : FVec F S1x512 .f32) (q f v : Vec F S64x512 .f32)
    (st : Fin 4 → FVec F S128x128 .f32) (h : Fin 4) : FVec F S64x128 .f32 :=
  addf (matmul dot_S64x64_S64x128_S64x128_1_0_0_1_n_n none
      (truncf .bf16 (mulf (matmul dot_S64x128_S64x128_S64x64_1_1_0_0_n_n none (truncf .bf16 (headC h (qins tri mr lb q f)) bitsLt_bf16_f32)
        (truncf .bf16 (headC h (kins tri mr lb f)) bitsLt_bf16_f32) (constant S64x64 .f32 0x00000000#32)) tri) bitsLt_bf16_f32)
      (truncf .bf16 (headC h v) bitsLt_bf16_f32) (constant S64x128 .f32 0x00000000#32))
    (matmul dot_S64x128_S128x128_S64x128_1_1_0_0_n_n none (truncf .bf16 (headC h (qdcs tri lb q f)) bitsLt_bf16_f32)
      (truncf .bf16 (st h) bitsLt_bf16_f32) (constant S64x128 .f32 0x00000000#32))

/-- A chunk's output: the heads side by side. -/
def chunkO (tri : FVec F S64x64 .f32) (mr : FVec F S64x1 .f32) (lb : FVec F S1x512 .f32) (q f v : Vec F S64x512 .f32)
    (st : Fin 4 → FVec F S128x128 .f32) : FVec F S64x512 .f32 :=
  concatenate S64x512 1 [⟨S64x128, chunkOh tri mr lb q f v st 0⟩, ⟨S64x128, chunkOh tri mr lb q f v st 1⟩,
    ⟨S64x128, chunkOh tri mr lb q f v st 2⟩, ⟨S64x128, chunkOh tri mr lb q f v st 3⟩] concatenates_S64x128_S64x128_S64x128_S64x128_S64x512_d1

/-- Four consecutive chunks' rows of a block of 256 rows and 512 columns. -/
def subQ (s : Fin 4) (x : Vec F S256x512 .f32) : Vec F S64x512 .f32 :=
  match s with
  | 0 => View.ld x (Rect.unit (s := S256x512) ![0, 0] S64x512.size inb_S256x512_S64x512_0_0)
  | 1 => View.ld x (Rect.unit (s := S256x512) ![64, 0] S64x512.size inb_S256x512_S64x512_64_0)
  | 2 => View.ld x (Rect.unit (s := S256x512) ![128, 0] S64x512.size inb_S256x512_S64x512_128_0)
  | 3 => View.ld x (Rect.unit (s := S256x512) ![192, 0] S64x512.size inb_S256x512_S64x512_192_0)

/-- The four heads' states held by the carried scratch for the forward direction. -/
def scr0 (X : Vec F S2x4x128x128 .f32) (h : Fin 4) : FVec F S128x128 .f32 :=
  match h with
  | 0 => k0_pay7 (View.ld X (Rect.unit (s := S2x4x128x128) ![0, 0, 0, 0] S1x1x128x128.size inb_S2x4x128x128_S1x1x128x128_0_0_0_0))
  | 1 => k0_pay7 (View.ld X (Rect.unit (s := S2x4x128x128) ![0, 1, 0, 0] S1x1x128x128.size inb_S2x4x128x128_S1x1x128x128_0_1_0_0))
  | 2 => k0_pay7 (View.ld X (Rect.unit (s := S2x4x128x128) ![0, 2, 0, 0] S1x1x128x128.size inb_S2x4x128x128_S1x1x128x128_0_2_0_0))
  | 3 => k0_pay7 (View.ld X (Rect.unit (s := S2x4x128x128) ![0, 3, 0, 0] S1x1x128x128.size inb_S2x4x128x128_S1x1x128x128_0_3_0_0))

/-- The four heads' states held by the carried scratch for the reverse direction. -/
def scr1 (X : Vec F S2x4x128x128 .f32) (h : Fin 4) : FVec F S128x128 .f32 :=
  match h with
  | 0 => k0_pay7 (View.ld X (Rect.unit (s := S2x4x128x128) ![1, 0, 0, 0] S1x1x128x128.size inb_S2x4x128x128_S1x1x128x128_1_0_0_0))
  | 1 => k0_pay7 (View.ld X (Rect.unit (s := S2x4x128x128) ![1, 1, 0, 0] S1x1x128x128.size inb_S2x4x128x128_S1x1x128x128_1_1_0_0))
  | 2 => k0_pay7 (View.ld X (Rect.unit (s := S2x4x128x128) ![1, 2, 0, 0] S1x1x128x128.size inb_S2x4x128x128_S1x1x128x128_1_2_0_0))
  | 3 => k0_pay7 (View.ld X (Rect.unit (s := S2x4x128x128) ![1, 3, 0, 0] S1x1x128x128.size inb_S2x4x128x128_S1x1x128x128_1_3_0_0))

/-- The mask of the rows at or before a row, and of the rows up to the middle one. -/
def tri0 : FVec F S64x64 .f32 := k0_pay5
/-- The rows up to the middle one. -/
def mid0 : FVec F S64x1 .f32 := k0_pay6
/-- The mask of the rows at or after a row. -/
def tri1 : FVec F S64x64 .f32 := k0_pay135
/-- The rows from the middle one on. -/
def mid1 : FVec F S64x1 .f32 := k0_pay136

/-- Two places of a chunk with the same row and column are the same. -/
theorem ext64 {x y : S64x512.Idx} (h0 : (x 0).val = (y 0).val) (h1 : (x 1).val = (y 1).val) : x = y := by
  funext a
  fin_cases a
  · exact Fin.ext h0
  · exact Fin.ext h1

/-- An output block written chunk by chunk from the last chunk down reads, in chunk `s`, what was written there. -/
theorem tiles_down (p : Fin 4 → Vec F S64x512 .f32) {p0 p1 p2 p3 : Vec F S64x512 .f32} (s : Fin 4) (y : S256x512.Idx) (x : S64x512.Idx)
    (e0 : (y 0).val = 64 * s.val + (x 0).val) (e1 : (y 1).val = (x 1).val)
    (h3 : p3 = p 3) (h2 : p2 = p 2) (h1 : p1 = p 1) (h0 : p0 = p 0) :
    View.canon (Val := Elt F) [⟨Rect.unit (s := S256x512) ![192, 0] S64x512.size inb_S256x512_S64x512_192_0, p3⟩,
      ⟨Rect.unit (s := S256x512) ![128, 0] S64x512.size inb_S256x512_S64x512_128_0, p2⟩,
      ⟨Rect.unit (s := S256x512) ![64, 0] S64x512.size inb_S256x512_S64x512_64_0, p1⟩,
      ⟨Rect.unit (s := S256x512) ![0, 0] S64x512.size inb_S256x512_S64x512_0_0, p0⟩] y = p s x := by
  subst h0 h1 h2 h3
  have hx : (x 0).val < 64 := (x 0).isLt
  have hs : s.val < 4 := s.isLt
  canon_tiles x' h
  all_goals
    obtain rfl : x' = x := ext64 (by omega) (by omega)
    first
      | (obtain rfl : s = 0 := Fin.ext (show s.val = 0 by omega); rfl)
      | (obtain rfl : s = 1 := Fin.ext (show s.val = 1 by omega); rfl)
      | (obtain rfl : s = 2 := Fin.ext (show s.val = 2 by omega); rfl)
      | (obtain rfl : s = 3 := Fin.ext (show s.val = 3 by omega); rfl)

/-- The same written from the first chunk up. -/
theorem tiles_up (p : Fin 4 → Vec F S64x512 .f32) {p0 p1 p2 p3 : Vec F S64x512 .f32} (s : Fin 4) (y : S256x512.Idx) (x : S64x512.Idx)
    (e0 : (y 0).val = 64 * s.val + (x 0).val) (e1 : (y 1).val = (x 1).val)
    (h3 : p3 = p 3) (h2 : p2 = p 2) (h1 : p1 = p 1) (h0 : p0 = p 0) :
    View.canon (Val := Elt F) [⟨Rect.unit (s := S256x512) ![0, 0] S64x512.size inb_S256x512_S64x512_0_0, p0⟩,
      ⟨Rect.unit (s := S256x512) ![64, 0] S64x512.size inb_S256x512_S64x512_64_0, p1⟩,
      ⟨Rect.unit (s := S256x512) ![128, 0] S64x512.size inb_S256x512_S64x512_128_0, p2⟩,
      ⟨Rect.unit (s := S256x512) ![192, 0] S64x512.size inb_S256x512_S64x512_192_0, p3⟩] y = p s x := by
  subst h0 h1 h2 h3
  have hx : (x 0).val < 64 := (x 0).isLt
  have hs : s.val < 4 := s.isLt
  canon_tiles x' h
  all_goals
    obtain rfl : x' = x := ext64 (by omega) (by omega)
    first
      | (obtain rfl : s = 0 := Fin.ext (show s.val = 0 by omega); rfl)
      | (obtain rfl : s = 1 := Fin.ext (show s.val = 1 by omega); rfl)
      | (obtain rfl : s = 2 := Fin.ext (show s.val = 2 by omega); rfl)
      | (obtain rfl : s = 3 := Fin.ext (show s.val = 3 by omega); rfl)

/-- Two places of a block of one state with the same row and column are the same. -/
theorem ext11 {x y : S1x1x128x128.Idx} (h2 : (x 2).val = (y 2).val) (h3 : (x 3).val = (y 3).val) : x = y := by
  funext a
  fin_cases a
  · exact Subsingleton.elim (α := Fin 1) _ _
  · exact Subsingleton.elim (α := Fin 1) _ _
  · exact Fin.ext h2
  · exact Fin.ext h3

/-- A family of blocks at equal places is equal. -/
theorem pick {n : ℕ} (p : Fin n → Fin 4 → Vec F S1x1x128x128 .f32) (x : S1x1x128x128.Idx) {a s : Fin n} {b h : Fin 4}
    (ha : a.val = s.val) (hb : b.val = h.val) : p a b x = p s h x := by
  obtain rfl := Fin.ext ha
  obtain rfl := Fin.ext hb
  rfl

/-- Saved states written from the last chunk down read, for each chunk and head, what was written there. -/
theorem states_down (p : Fin 4 → Fin 4 → Vec F S1x1x128x128 .f32) {p33 p32 p31 p30 p23 p22 p21 p20 p13 p12 p11 p10 p03 p02 p01 p00 : Vec F S1x1x128x128 .f32} (s : Fin 4) (h : Fin 4) (x : S1x1x128x128.Idx)
    (h33 : p33 = p 3 3) (h32 : p32 = p 3 2) (h31 : p31 = p 3 1) (h30 : p30 = p 3 0) (h23 : p23 = p 2 3) (h22 : p22 = p 2 2) (h21 : p21 = p 2 1) (h20 : p20 = p 2 0) (h13 : p13 = p 1 3) (h12 : p12 = p 1 2) (h11 : p11 = p 1 1) (h10 : p10 = p 1 0) (h03 : p03 = p 0 3) (h02 : p02 = p 0 2) (h01 : p01 = p 0 1) (h00 : p00 = p 0 0) :
    View.canon (Val := Elt F) [⟨Rect.unit (s := S4x4x128x128) ![3, 3, 0, 0] S1x1x128x128.size inb_S4x4x128x128_S1x1x128x128_3_3_0_0, p33⟩,
      ⟨Rect.unit (s := S4x4x128x128) ![3, 2, 0, 0] S1x1x128x128.size inb_S4x4x128x128_S1x1x128x128_3_2_0_0, p32⟩,
      ⟨Rect.unit (s := S4x4x128x128) ![3, 1, 0, 0] S1x1x128x128.size inb_S4x4x128x128_S1x1x128x128_3_1_0_0, p31⟩,
      ⟨Rect.unit (s := S4x4x128x128) ![3, 0, 0, 0] S1x1x128x128.size inb_S4x4x128x128_S1x1x128x128_3_0_0_0, p30⟩,
      ⟨Rect.unit (s := S4x4x128x128) ![2, 3, 0, 0] S1x1x128x128.size inb_S4x4x128x128_S1x1x128x128_2_3_0_0, p23⟩,
      ⟨Rect.unit (s := S4x4x128x128) ![2, 2, 0, 0] S1x1x128x128.size inb_S4x4x128x128_S1x1x128x128_2_2_0_0, p22⟩,
      ⟨Rect.unit (s := S4x4x128x128) ![2, 1, 0, 0] S1x1x128x128.size inb_S4x4x128x128_S1x1x128x128_2_1_0_0, p21⟩,
      ⟨Rect.unit (s := S4x4x128x128) ![2, 0, 0, 0] S1x1x128x128.size inb_S4x4x128x128_S1x1x128x128_2_0_0_0, p20⟩,
      ⟨Rect.unit (s := S4x4x128x128) ![1, 3, 0, 0] S1x1x128x128.size inb_S4x4x128x128_S1x1x128x128_1_3_0_0, p13⟩,
      ⟨Rect.unit (s := S4x4x128x128) ![1, 2, 0, 0] S1x1x128x128.size inb_S4x4x128x128_S1x1x128x128_1_2_0_0, p12⟩,
      ⟨Rect.unit (s := S4x4x128x128) ![1, 1, 0, 0] S1x1x128x128.size inb_S4x4x128x128_S1x1x128x128_1_1_0_0, p11⟩,
      ⟨Rect.unit (s := S4x4x128x128) ![1, 0, 0, 0] S1x1x128x128.size inb_S4x4x128x128_S1x1x128x128_1_0_0_0, p10⟩,
      ⟨Rect.unit (s := S4x4x128x128) ![0, 3, 0, 0] S1x1x128x128.size inb_S4x4x128x128_S1x1x128x128_0_3_0_0, p03⟩,
      ⟨Rect.unit (s := S4x4x128x128) ![0, 2, 0, 0] S1x1x128x128.size inb_S4x4x128x128_S1x1x128x128_0_2_0_0, p02⟩,
      ⟨Rect.unit (s := S4x4x128x128) ![0, 1, 0, 0] S1x1x128x128.size inb_S4x4x128x128_S1x1x128x128_0_1_0_0, p01⟩,
      ⟨Rect.unit (s := S4x4x128x128) ![0, 0, 0, 0] S1x1x128x128.size inb_S4x4x128x128_S1x1x128x128_0_0_0_0, p00⟩] (ix4 s h (x 2) (x 3)) = p s h x := by
  subst h33 h32 h31 h30 h23 h22 h21 h20 h13 h12 h11 h10 h03 h02 h01 h00
  generalize hy : (ix4 s h (x 2) (x 3) : S4x4x128x128.Idx) = y
  have e0 : (y 0).val = s.val := by rw [← hy]; rfl
  have e1 : (y 1).val = h.val := by rw [← hy]; rfl
  have e2 : (y 2).val = (x 2).val := by rw [← hy]; rfl
  have e3 : (y 3).val = (x 3).val := by rw [← hy]; rfl
  clear hy
  canon_tiles x' g
  all_goals
    obtain rfl : x' = x := ext11 (by omega) (by omega)
    exact pick p x' (by simp; omega) (by simp; omega)

/-- Saved states written from the first chunk up read what was written. -/
theorem states_up (p : Fin 4 → Fin 4 → Vec F S1x1x128x128 .f32) {p03 p02 p01 p00 p13 p12 p11 p10 p23 p22 p21 p20 p33 p32 p31 p30 : Vec F S1x1x128x128 .f32} (s : Fin 4) (h : Fin 4) (x : S1x1x128x128.Idx)
    (h03 : p03 = p 0 3) (h02 : p02 = p 0 2) (h01 : p01 = p 0 1) (h00 : p00 = p 0 0) (h13 : p13 = p 1 3) (h12 : p12 = p 1 2) (h11 : p11 = p 1 1) (h10 : p10 = p 1 0) (h23 : p23 = p 2 3) (h22 : p22 = p 2 2) (h21 : p21 = p 2 1) (h20 : p20 = p 2 0) (h33 : p33 = p 3 3) (h32 : p32 = p 3 2) (h31 : p31 = p 3 1) (h30 : p30 = p 3 0) :
    View.canon (Val := Elt F) [⟨Rect.unit (s := S4x4x128x128) ![0, 3, 0, 0] S1x1x128x128.size inb_S4x4x128x128_S1x1x128x128_0_3_0_0, p03⟩,
      ⟨Rect.unit (s := S4x4x128x128) ![0, 2, 0, 0] S1x1x128x128.size inb_S4x4x128x128_S1x1x128x128_0_2_0_0, p02⟩,
      ⟨Rect.unit (s := S4x4x128x128) ![0, 1, 0, 0] S1x1x128x128.size inb_S4x4x128x128_S1x1x128x128_0_1_0_0, p01⟩,
      ⟨Rect.unit (s := S4x4x128x128) ![0, 0, 0, 0] S1x1x128x128.size inb_S4x4x128x128_S1x1x128x128_0_0_0_0, p00⟩,
      ⟨Rect.unit (s := S4x4x128x128) ![1, 3, 0, 0] S1x1x128x128.size inb_S4x4x128x128_S1x1x128x128_1_3_0_0, p13⟩,
      ⟨Rect.unit (s := S4x4x128x128) ![1, 2, 0, 0] S1x1x128x128.size inb_S4x4x128x128_S1x1x128x128_1_2_0_0, p12⟩,
      ⟨Rect.unit (s := S4x4x128x128) ![1, 1, 0, 0] S1x1x128x128.size inb_S4x4x128x128_S1x1x128x128_1_1_0_0, p11⟩,
      ⟨Rect.unit (s := S4x4x128x128) ![1, 0, 0, 0] S1x1x128x128.size inb_S4x4x128x128_S1x1x128x128_1_0_0_0, p10⟩,
      ⟨Rect.unit (s := S4x4x128x128) ![2, 3, 0, 0] S1x1x128x128.size inb_S4x4x128x128_S1x1x128x128_2_3_0_0, p23⟩,
      ⟨Rect.unit (s := S4x4x128x128) ![2, 2, 0, 0] S1x1x128x128.size inb_S4x4x128x128_S1x1x128x128_2_2_0_0, p22⟩,
      ⟨Rect.unit (s := S4x4x128x128) ![2, 1, 0, 0] S1x1x128x128.size inb_S4x4x128x128_S1x1x128x128_2_1_0_0, p21⟩,
      ⟨Rect.unit (s := S4x4x128x128) ![2, 0, 0, 0] S1x1x128x128.size inb_S4x4x128x128_S1x1x128x128_2_0_0_0, p20⟩,
      ⟨Rect.unit (s := S4x4x128x128) ![3, 3, 0, 0] S1x1x128x128.size inb_S4x4x128x128_S1x1x128x128_3_3_0_0, p33⟩,
      ⟨Rect.unit (s := S4x4x128x128) ![3, 2, 0, 0] S1x1x128x128.size inb_S4x4x128x128_S1x1x128x128_3_2_0_0, p32⟩,
      ⟨Rect.unit (s := S4x4x128x128) ![3, 1, 0, 0] S1x1x128x128.size inb_S4x4x128x128_S1x1x128x128_3_1_0_0, p31⟩,
      ⟨Rect.unit (s := S4x4x128x128) ![3, 0, 0, 0] S1x1x128x128.size inb_S4x4x128x128_S1x1x128x128_3_0_0_0, p30⟩] (ix4 s h (x 2) (x 3)) = p s h x := by
  subst h03 h02 h01 h00 h13 h12 h11 h10 h23 h22 h21 h20 h33 h32 h31 h30
  generalize hy : (ix4 s h (x 2) (x 3) : S4x4x128x128.Idx) = y
  have e0 : (y 0).val = s.val := by rw [← hy]; rfl
  have e1 : (y 1).val = h.val := by rw [← hy]; rfl
  have e2 : (y 2).val = (x 2).val := by rw [← hy]; rfl
  have e3 : (y 3).val = (x 3).val := by rw [← hy]; rfl
  clear hy
  canon_tiles x' g
  all_goals
    obtain rfl : x' = x := ext11 (by omega) (by omega)
    exact pick p x' (by simp; omega) (by simp; omega)

/-- The scratch reads, for each direction and head, what was written there last. -/
theorem scratch (p : Fin 2 → Fin 4 → Vec F S1x1x128x128 .f32) {p13 p12 p11 p10 p03 p02 p01 p00 : Vec F S1x1x128x128 .f32} (s : Fin 2) (h : Fin 4) (x : S1x1x128x128.Idx)
    (h13 : p13 = p 1 3) (h12 : p12 = p 1 2) (h11 : p11 = p 1 1) (h10 : p10 = p 1 0) (h03 : p03 = p 0 3) (h02 : p02 = p 0 2) (h01 : p01 = p 0 1) (h00 : p00 = p 0 0) :
    View.canon (Val := Elt F) [⟨Rect.unit (s := S2x4x128x128) ![1, 3, 0, 0] S1x1x128x128.size inb_S2x4x128x128_S1x1x128x128_1_3_0_0, p13⟩,
      ⟨Rect.unit (s := S2x4x128x128) ![1, 2, 0, 0] S1x1x128x128.size inb_S2x4x128x128_S1x1x128x128_1_2_0_0, p12⟩,
      ⟨Rect.unit (s := S2x4x128x128) ![1, 1, 0, 0] S1x1x128x128.size inb_S2x4x128x128_S1x1x128x128_1_1_0_0, p11⟩,
      ⟨Rect.unit (s := S2x4x128x128) ![1, 0, 0, 0] S1x1x128x128.size inb_S2x4x128x128_S1x1x128x128_1_0_0_0, p10⟩,
      ⟨Rect.unit (s := S2x4x128x128) ![0, 3, 0, 0] S1x1x128x128.size inb_S2x4x128x128_S1x1x128x128_0_3_0_0, p03⟩,
      ⟨Rect.unit (s := S2x4x128x128) ![0, 2, 0, 0] S1x1x128x128.size inb_S2x4x128x128_S1x1x128x128_0_2_0_0, p02⟩,
      ⟨Rect.unit (s := S2x4x128x128) ![0, 1, 0, 0] S1x1x128x128.size inb_S2x4x128x128_S1x1x128x128_0_1_0_0, p01⟩,
      ⟨Rect.unit (s := S2x4x128x128) ![0, 0, 0, 0] S1x1x128x128.size inb_S2x4x128x128_S1x1x128x128_0_0_0_0, p00⟩] (ix4 s h (x 2) (x 3)) = p s h x := by
  subst h13 h12 h11 h10 h03 h02 h01 h00
  generalize hy : (ix4 s h (x 2) (x 3) : S2x4x128x128.Idx) = y
  have e0 : (y 0).val = s.val := by rw [← hy]; rfl
  have e1 : (y 1).val = h.val := by rw [← hy]; rfl
  have e2 : (y 2).val = (x 2).val := by rw [← hy]; rfl
  have e3 : (y 3).val = (x 3).val := by rw [← hy]; rfl
  clear hy
  canon_tiles x' g
  all_goals
    obtain rfl : x' = x := ext11 (by omega) (by omega)
    exact pick p x' (by simp; omega) (by simp; omega)

/-- Stores under others that cover the place do not matter there. -/
theorem canon_tail {S : Shape} (L' : List (View.Piece (Elt F) S .f32)) : ∀ (L : List (View.Piece (Elt F) S .f32)) (y : S.Idx),
    (∃ p ∈ L, y ∈ p.1.set) → View.canon L y = View.canon (L ++ L') y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_tail L' L y ?_
      obtain ⟨q, hq, hyq⟩ := hy
      rcases List.mem_cons.mp hq with rfl | hq'
      · exact absurd hyq hm
      · exact ⟨q, hq', hyq⟩

/-- The same over a fill of the whole scratch. -/
theorem scratch_fill (p : Fin 2 → Fin 4 → Vec F S1x1x128x128 .f32) {w : Vec F S2x4x128x128 .f32} {p13 p12 p11 p10 p03 p02 p01 p00 : Vec F S1x1x128x128 .f32} (s : Fin 2) (h : Fin 4) (x : S1x1x128x128.Idx)
    (h13 : p13 = p 1 3) (h12 : p12 = p 1 2) (h11 : p11 = p 1 1) (h10 : p10 = p 1 0) (h03 : p03 = p 0 3) (h02 : p02 = p 0 2) (h01 : p01 = p 0 1) (h00 : p00 = p 0 0) :
    View.canon (Val := Elt F) [⟨Rect.unit (s := S2x4x128x128) ![1, 3, 0, 0] S1x1x128x128.size inb_S2x4x128x128_S1x1x128x128_1_3_0_0, p13⟩,
      ⟨Rect.unit (s := S2x4x128x128) ![1, 2, 0, 0] S1x1x128x128.size inb_S2x4x128x128_S1x1x128x128_1_2_0_0, p12⟩,
      ⟨Rect.unit (s := S2x4x128x128) ![1, 1, 0, 0] S1x1x128x128.size inb_S2x4x128x128_S1x1x128x128_1_1_0_0, p11⟩,
      ⟨Rect.unit (s := S2x4x128x128) ![1, 0, 0, 0] S1x1x128x128.size inb_S2x4x128x128_S1x1x128x128_1_0_0_0, p10⟩,
      ⟨Rect.unit (s := S2x4x128x128) ![0, 3, 0, 0] S1x1x128x128.size inb_S2x4x128x128_S1x1x128x128_0_3_0_0, p03⟩,
      ⟨Rect.unit (s := S2x4x128x128) ![0, 2, 0, 0] S1x1x128x128.size inb_S2x4x128x128_S1x1x128x128_0_2_0_0, p02⟩,
      ⟨Rect.unit (s := S2x4x128x128) ![0, 1, 0, 0] S1x1x128x128.size inb_S2x4x128x128_S1x1x128x128_0_1_0_0, p01⟩,
      ⟨Rect.unit (s := S2x4x128x128) ![0, 0, 0, 0] S1x1x128x128.size inb_S2x4x128x128_S1x1x128x128_0_0_0_0, p00⟩,
      ⟨Rect.unit (s := S2x4x128x128) ![0, 0, 0, 0] S2x4x128x128.size inb_S2x4x128x128_S2x4x128x128_0_0_0_0, w⟩] (ix4 s h (x 2) (x 3)) = p s h x := by
  refine Eq.trans ?_ (scratch p s h x h13 h12 h11 h10 h03 h02 h01 h00)
  symm
  exact canon_tail [⟨Rect.unit (s := S2x4x128x128) ![0, 0, 0, 0] S2x4x128x128.size inb_S2x4x128x128_S2x4x128x128_0_0_0_0, w⟩] _ _
    (View.cover_of_tiled_head _ _ _ (by rfl) _)

variable (lb : FVec F S1x512 .f32) (f v : Vec F S256x512 .f32) (st : Fin 4 → FVec F S128x128 .f32)

/-- The chunk of a block that the forward direction takes after `n` others, and the one the reverse direction takes. -/
def nthF : ℕ → Fin 4
  | 0 => 0
  | 1 => 1
  | 2 => 2
  | _ => 3
/-- The chunk of a block that the reverse direction takes after `n` others. -/
def nthR : ℕ → Fin 4
  | 0 => 3
  | 1 => 2
  | 2 => 1
  | _ => 0

/-- The forward direction's states after `n` chunks of a block. -/
def stF : ℕ → Fin 4 → FVec F S128x128 .f32
  | 0 => st
  | n + 1 => chunkS tri0 lb (subQ (nthF n) f) (subQ (nthF n) v) (stF n)

/-- The reverse direction's states after `n` chunks of a block, from its end. -/
def stR : ℕ → Fin 4 → FVec F S128x128 .f32
  | 0 => st
  | n + 1 => chunkS tri1 lb (subQ (nthR n) f) (subQ (nthR n) v) (stR n)

/-- The scratch after the forward direction's states `a` were stored over a fill `w`. -/
def over (a : Fin 4 → Vec F S1x1x128x128 .f32) (w : Vec F S2x4x128x128 .f32) : Vec F S2x4x128x128 .f32 :=
  View.canon (Val := Elt F) [⟨Rect.unit (s := S2x4x128x128) ![0, 3, 0, 0] S1x1x128x128.size inb_S2x4x128x128_S1x1x128x128_0_3_0_0, a 3⟩,
    ⟨Rect.unit (s := S2x4x128x128) ![0, 2, 0, 0] S1x1x128x128.size inb_S2x4x128x128_S1x1x128x128_0_2_0_0, a 2⟩,
    ⟨Rect.unit (s := S2x4x128x128) ![0, 1, 0, 0] S1x1x128x128.size inb_S2x4x128x128_S1x1x128x128_0_1_0_0, a 1⟩,
    ⟨Rect.unit (s := S2x4x128x128) ![0, 0, 0, 0] S1x1x128x128.size inb_S2x4x128x128_S1x1x128x128_0_0_0_0, a 0⟩,
    ⟨Rect.unit (s := S2x4x128x128) ![0, 0, 0, 0] S2x4x128x128.size inb_S2x4x128x128_S2x4x128x128_0_0_0_0, w⟩]

/-- Away from the forward direction's part it holds the fill. -/
theorem over_apply (a : Fin 4 → Vec F S1x1x128x128 .f32) (w : Vec F S2x4x128x128 .f32) (y : S2x4x128x128.Idx) (hy : (y 0).val = 1) :
    over a w y = w y := by
  unfold over
  obtain ⟨q, hq, hy'⟩ := View.cover_of_tiled_head (Rect.unit (s := S2x4x128x128) ![0, 0, 0, 0] S2x4x128x128.size inb_S2x4x128x128_S2x4x128x128_0_0_0_0) w []
    (by rfl) y
  canon_tiles x g using ⟨q, List.mem_append_right [_, _, _, _] hq, hy'⟩
  case piece4 =>
    have e : x = y := by
      funext i
      fin_cases i
      · exact Fin.ext g0.symm
      · exact Fin.ext g1.symm
      · exact Fin.ext g2.symm
      · exact Fin.ext g3.symm
    rw [e]
  all_goals
    exfalso
    omega

/-- The reverse direction's states are those of the fill. -/
theorem scr1_over (a : Fin 4 → Vec F S1x1x128x128 .f32) (w : Vec F S2x4x128x128 .f32) : scr1 (over a w) = scr1 w := by
  funext h
  have hl (o : Fin 4 → ℕ) (inb : ∀ i, o i + S1x1x128x128.size i ≤ S2x4x128x128.size i) (ho : o 0 = 1) :
      View.ld (over a w) (Rect.unit (s := S2x4x128x128) o S1x1x128x128.size inb) = View.ld w (Rect.unit (s := S2x4x128x128) o S1x1x128x128.size inb) := by
    funext j
    refine over_apply a w _ ?_
    rw [Rect.idx_unit_val, ho, show (j 0).val = 0 from Nat.lt_one_iff.mp (j 0).isLt]
  fin_cases h
  · exact congrArg k0_pay7 (hl _ inb_S2x4x128x128_S1x1x128x128_1_0_0_0 rfl)
  · exact congrArg k0_pay7 (hl _ inb_S2x4x128x128_S1x1x128x128_1_1_0_0 rfl)
  · exact congrArg k0_pay7 (hl _ inb_S2x4x128x128_S1x1x128x128_1_2_0_0 rfl)
  · exact congrArg k0_pay7 (hl _ inb_S2x4x128x128_S1x1x128x128_1_3_0_0 rfl)

variable (m : (ℓ : Loc nD τ sig) → Buf (Elt F) ℓ) (c : Dev nD)

/-- What the scratch holds when point `t` begins its chunks: zeros at the first point, else what the point before left. -/
def before (t : Fin cfg0.N) : Vec F S2x4x128x128 .f32 :=
  if t.val % 16 = 0 then k0_pay4 else (outsAt0 m c (t.val - 1) (Nat.lt_of_le_of_lt (Nat.sub_le _ _) t.isLt)).2.2.2.2

/-- A state stood up as a block of one chunk and one head. -/
def stand (s : FVec F S128x128 .f32) : Vec F S1x1x128x128 .f32 := shapeCast S1x1x128x128 s shapeCasts_S128x128_S1x1x128x128

/-- A point's states for the forward direction over what the scratch held. -/
def fF (X : Vec F S2x4x128x128 .f32) (t : Fin cfg0.N) (n : ℕ) : Fin 4 → FVec F S128x128 .f32 :=
  stF (lbs (iblk m c 6 t) (iblk m c 7 t)) (iblk m c 1 t) (iblk m c 2 t) (scr0 X) n

/-- A point's states for the reverse direction over what the scratch held. -/
def fR (X : Vec F S2x4x128x128 .f32) (t : Fin cfg0.N) (n : ℕ) : Fin 4 → FVec F S128x128 .f32 :=
  stR (lbs (iblk m c 6 t) (iblk m c 7 t)) (iblk m c 4 t) (iblk m c 5 t) (scr1 X) n

/-- A point's forward output in its chunk `s`. -/
def oF (X : Vec F S2x4x128x128 .f32) (t : Fin cfg0.N) (s : Fin 4) : FVec F S64x512 .f32 :=
  chunkO tri0 mid0 (lbs (iblk m c 6 t) (iblk m c 7 t)) (subQ s (iblk m c 0 t)) (subQ s (iblk m c 1 t)) (subQ s (iblk m c 2 t)) (fF m c X t s.val)

/-- A point's reverse output in its chunk `s`. -/
def oR (X : Vec F S2x4x128x128 .f32) (t : Fin cfg0.N) (s : Fin 4) : FVec F S64x512 .f32 :=
  chunkO tri1 mid1 (lbs (iblk m c 6 t) (iblk m c 7 t)) (subQ s (iblk m c 3 t)) (subQ s (iblk m c 4 t)) (subQ s (iblk m c 5 t)) (fR m c X t (3 - s.val))

set_option maxHeartbeats 400000

/-- The forward direction's output of a point, chunk by chunk. -/
theorem out8 (t : Fin cfg0.N) (s : Fin 4) (y : S256x512.Idx) (x : S64x512.Idx) (e0 : (y 0).val = 64 * s.val + (x 0).val) (e1 : (y 1).val = (x 1).val) :
    (outsAt0 m c t.val t.isLt).1 y = oF m c (before m c t) t s x := by
  unfold before
  by_cases hz : t.val % 16 = 0
  · rw [outsAt0_A m c t hz, if_pos hz]
    frame_out
    simp only [View.readCov_eq_canon', View.canon_cons_unit_lit (S := S2x4x128x128) (off := ![0, 0, 0, 0]) inb_S2x4x128x128_S2x4x128x128_0_0_0_0 _ [] (by decide)]
    refine tiles_down (oF m c _ t) s y x e0 e1 ?_ ?_ ?_ ?_ <;> rfl
  · rw [outsAt0_B m c t hz, if_neg hz]
    frame_out
    simp only [read_unread_whole]
    refine tiles_down (oF m c _ t) s y x e0 e1 ?_ ?_ ?_ ?_ <;> rfl

/-- At the first point the reverse direction starts over the scratch the forward direction has stored its states in. -/
def atR (t : Fin cfg0.N) : Vec F S2x4x128x128 .f32 := over (fun h => stand (fF m c k0_pay4 t 4 h)) k0_pay4

theorem fR_over (t : Fin cfg0.N) (n : ℕ) : fR m c (atR m c t) t n = fR m c k0_pay4 t n := by
  unfold fR atR
  rw [scr1_over]

theorem oR_over (t : Fin cfg0.N) (s : Fin 4) : oR m c (atR m c t) t s = oR m c k0_pay4 t s := by
  unfold oR
  rw [fR_over]

/-- The reverse direction's output of a point, chunk by chunk. -/
theorem out9 (t : Fin cfg0.N) (s : Fin 4) (y : S256x512.Idx) (x : S64x512.Idx) (e0 : (y 0).val = 64 * s.val + (x 0).val) (e1 : (y 1).val = (x 1).val) :
    (outsAt0 m c t.val t.isLt).2.1 y = oR m c (before m c t) t s x := by
  unfold before
  by_cases hz : t.val % 16 = 0
  · rw [outsAt0_A m c t hz, if_pos hz]
    frame_out
    simp only [View.readCov_eq_canon', View.canon_cons_unit_lit (S := S2x4x128x128) (off := ![0, 0, 0, 0]) inb_S2x4x128x128_S2x4x128x128_0_0_0_0 _ [] (by decide)]
    rw [← oR_over]
    refine tiles_up (oR m c (atR m c t) t) s y x e0 e1 ?_ ?_ ?_ ?_ <;> rfl
  · rw [outsAt0_B m c t hz, if_neg hz]
    frame_out
    simp only [read_unread_whole]
    refine tiles_up (oR m c _ t) s y x e0 e1 ?_ ?_ ?_ ?_ <;> rfl

/-- The forward direction's saved states of a point. -/
theorem out10 (t : Fin cfg0.N) (s h : Fin 4) (x : S1x1x128x128.Idx) :
    (outsAt0 m c t.val t.isLt).2.2.1 (ix4 s h (x 2) (x 3)) = stand (fF m c (before m c t) t s.val h) x := by
  unfold before
  by_cases hz : t.val % 16 = 0
  · rw [outsAt0_A m c t hz, if_pos hz]
    frame_out
    simp only [View.readCov_eq_canon', View.canon_cons_unit_lit (S := S2x4x128x128) (off := ![0, 0, 0, 0]) inb_S2x4x128x128_S2x4x128x128_0_0_0_0 _ [] (by decide)]
    refine states_down (fun s h => stand (fF m c _ t s.val h)) s h x ?_ ?_ ?_ ?_ ?_ ?_ ?_ ?_ ?_ ?_ ?_ ?_ ?_ ?_ ?_ ?_ <;> rfl
  · rw [outsAt0_B m c t hz, if_neg hz]
    frame_out
    simp only [read_unread_whole]
    refine states_down (fun s h => stand (fF m c _ t s.val h)) s h x ?_ ?_ ?_ ?_ ?_ ?_ ?_ ?_ ?_ ?_ ?_ ?_ ?_ ?_ ?_ ?_ <;> rfl

/-- The reverse direction's saved states of a point. -/
theorem out11 (t : Fin cfg0.N) (s h : Fin 4) (x : S1x1x128x128.Idx) :
    (outsAt0 m c t.val t.isLt).2.2.2.1 (ix4 s h (x 2) (x 3)) = stand (fR m c (before m c t) t (3 - s.val) h) x := by
  unfold before
  by_cases hz : t.val % 16 = 0
  · rw [outsAt0_A m c t hz, if_pos hz]
    frame_out
    simp only [View.readCov_eq_canon', View.canon_cons_unit_lit (S := S2x4x128x128) (off := ![0, 0, 0, 0]) inb_S2x4x128x128_S2x4x128x128_0_0_0_0 _ [] (by decide)]
    rw [← fR_over]
    refine states_up (fun s h => stand (fR m c (atR m c t) t (3 - s.val) h)) s h x ?_ ?_ ?_ ?_ ?_ ?_ ?_ ?_ ?_ ?_ ?_ ?_ ?_ ?_ ?_ ?_ <;> rfl
  · rw [outsAt0_B m c t hz, if_neg hz]
    frame_out
    simp only [read_unread_whole]
    refine states_up (fun s h => stand (fR m c _ t (3 - s.val) h)) s h x ?_ ?_ ?_ ?_ ?_ ?_ ?_ ?_ ?_ ?_ ?_ ?_ ?_ ?_ ?_ ?_ <;> rfl

/-- The states a point leaves in the scratch, of both directions. -/
def left (X Y : Vec F S2x4x128x128 .f32) (t : Fin cfg0.N) (d : Fin 2) (h : Fin 4) : Vec F S1x1x128x128 .f32 :=
  match d with
  | 0 => stand (fF m c X t 4 h)
  | 1 => stand (fR m c Y t 4 h)

theorem left_over (t : Fin cfg0.N) (d : Fin 2) (h : Fin 4) : left m c k0_pay4 (atR m c t) t d h = left m c k0_pay4 k0_pay4 t d h := by
  fin_cases d
  · rfl
  · exact congrArg stand (congrFun (fR_over m c t 4) h)

/-- What a point leaves in the scratch. -/
theorem scratch_after (t : Fin cfg0.N) (d : Fin 2) (h : Fin 4) (x : S1x1x128x128.Idx) :
    (outsAt0 m c t.val t.isLt).2.2.2.2 (ix4 d h (x 2) (x 3)) = left m c (before m c t) (before m c t) t d h x := by
  unfold before
  by_cases hz : t.val % 16 = 0
  · rw [outsAt0_A m c t hz, if_pos hz]
    frame_out
    simp only [View.readCov_eq_canon', View.canon_cons_unit_lit (S := S2x4x128x128) (off := ![0, 0, 0, 0]) inb_S2x4x128x128_S2x4x128x128_0_0_0_0 _ [] (by decide)]
    rw [← left_over]
    refine scratch_fill (left m c k0_pay4 (atR m c t) t) d h x ?_ ?_ ?_ ?_ ?_ ?_ ?_ ?_ <;> rfl
  · rw [outsAt0_B m c t hz, if_neg hz]
    frame_out
    simp only [read_unread_whole]
    refine scratch (left m c _ _ t) d h x ?_ ?_ ?_ ?_ ?_ ?_ ?_ ?_ <;> rfl
end Cert.HgfKIdeal.Step
-- ==== Proof.HgfMath.lean ====
module
public import proofs.«01_k».proof.Proof.GlafMath

/-! The HGRU recurrence in chunks of 64 rows, as functions of extended reals. The running decays and the products of a
    chunk's rows are those of gated linear attention; a head has 128 value columns here. -/

@[expose] public section
noncomputable section
namespace Cert.Hgf
open Idealize.ShloMosaic Cert.Reals Cert.Glaf

/-- The sigmoid, as the kernel writes it. -/
def sg (x : EReal) : EReal := Ideal.div 1 (1 + Ideal.exp (0 - x))
/-- The lower bound of the decays, from its two logits. -/
def lowK (l0 l1 : EReal) : EReal := sg (l0 - l1)
/-- The logarithm of a decay, from its lower bound and the forget logit. -/
def lgK (lb f : EReal) : EReal := Ideal.log (lb + (1 - lb) * sg f)
/-- The key: one less the decay. -/
def keyK (lb f : EReal) : EReal := (1 - lb) * (1 - sg f)
/-- The activated query. -/
def actK (q : EReal) : EReal := q * sg q

/-- What a chunk adds to the state. -/
def upd (k v g : Fin 64 → Fin 512 → EReal) (h : Fin 4) (e c : Fin 128) : EReal :=
  ∑ l, v l (col h e) * (k l (col h c) * Ideal.exp (tot g (col h c) - cum g l (col h c)))

/-- The state after a chunk. -/
def stepS (k v g : Fin 64 → Fin 512 → EReal) (S : Fin 4 → Fin 128 → Fin 128 → EReal) (h : Fin 4) (e c : Fin 128) : EReal :=
  S h e c * Ideal.exp (tot g (col h c)) + upd k v g h e c

/-- A chunk's output: what its own earlier rows give, and what the state before it gives. -/
def outO (q k v g : Fin 64 → Fin 512 → EReal) (S : Fin 4 → Fin 128 → Fin 128 → EReal) (h : Fin 4) (l : Fin 64) (e : Fin 128) : EReal :=
  (∑ m, (if m ≤ l then score q k g h l m else 0) * v m (col h e)) + ∑ c, (q l (col h c) * Ideal.exp (cum g l (col h c))) * S h e c

/-- The states before chunk `n`, from zero. -/
def states (k v g : ℕ → Fin 64 → Fin 512 → EReal) : ℕ → Fin 4 → Fin 128 → Fin 128 → EReal
  | 0 => fun _ _ _ => 0
  | n + 1 => stepS (k n) (v n) (g n) (states k v g n)

end Cert.Hgf
-- ==== Proof.HgfChunk.lean ====
module
public import proofs.«01_k».proof.Proof.HgfStep
public import proofs.«01_k».proof.Proof.HgfMath

/-! One chunk of the forward HGRU recurrence over the extended reals: its operations at an index, in the terms of the
    mathematics. -/

@[expose] public section
noncomputable section
namespace Cert.HgfKIdeal.Step
open Cert.HgfKIdeal Cert.HgfKIdeal.Gen Idealize.ShloMosaic Idealize.ShloMosaic.TcCoe Idealize.SL.Sem Cert.Reals Cert.Hgf
open Cert.Glaf (col cum tot score ord)

theorem lbs_apply (l0 l1 : Vec Ideal S1x512 .f32) (c : Fin 512) : lbs (F := Ideal) l0 l1 (ix2 0 c) = lowK (l0 (ix2 0 c)) (l1 (ix2 0 c)) := by
  pointwise [lbs, k0_pay15, lowK, sg]
theorem lgs_apply (lb : FVec Ideal S1x512 .f32) (f : Vec Ideal S64x512 .f32) (l : Fin 64) (c : Fin 512) :
    lgs (F := Ideal) lb f (ix2 l c) = lgK (lb (ix2 0 c)) (f (ix2 l c)) := by
  pointwise [lgs, k0_pay19, k0_pay16, lgK, sg]
theorem keys_apply (lb : FVec Ideal S1x512 .f32) (f : Vec Ideal S64x512 .f32) (l : Fin 64) (c : Fin 512) :
    k0_pay20 (F := Ideal) lb (k0_pay16 f) (ix2 l c) = keyK (lb (ix2 0 c)) (f (ix2 l c)) := by
  pointwise [k0_pay20, k0_pay16, keyK, sg]
theorem qsc_apply (q : Vec Ideal S64x512 .f32) (l : Fin 64) (c : Fin 512) : qsc (F := Ideal) q (ix2 l c) = actK (q (ix2 l c)) := by
  pointwise [qsc, k0_pay18, k0_pay17, actK, sg]

theorem headC_apply (h : Fin 4) (x : FVec Ideal S64x512 .f32) (l : Fin 64) (c : Fin 128) : headC h x (ix2 l c) = x (ix2 l (col h c)) := by
  fin_cases h <;> pointwise [headC, col]
theorem headD_apply (h : Fin 4) (x : FVec Ideal S1x512 .f32) (c : Fin 128) : headD h x (ix2 0 c) = x (ix2 0 (col h c)) := by
  fin_cases h <;> pointwise [headD, col]

theorem cums_apply (tri : FVec Ideal S64x64 .f32) (lb : FVec Ideal S1x512 .f32) (f : Vec Ideal S64x512 .f32) (l : Fin 64) (c : Fin 512) :
    cums (F := Ideal) tri lb f (ix2 l c) = (∑ m, (show EReal from tri (ix2 l m)) * lgs lb f (ix2 m c))
      + ∑ m, (show EReal from tri (ix2 l m)) * ((show EReal from lgs lb f (ix2 m c)) - lgs lb f (ix2 m c)) := by
  pointwise [cums, k0_pay21, lgs]
theorem mids_apply (mr : FVec Ideal S64x1 .f32) (lb : FVec Ideal S1x512 .f32) (f : Vec Ideal S64x512 .f32) (c : Fin 512) :
    k0_pay22 (F := Ideal) mr lb (k0_pay16 f) (ix2 0 c) = ∑ m, (show EReal from lgs lb f (ix2 m c)) * (show EReal from mr (ix2 m 0)) := by
  pointwise [k0_pay22, lgs]
theorem tots_apply (lb : FVec Ideal S1x512 .f32) (f : Vec Ideal S64x512 .f32) (c : Fin 512) :
    k0_pay23 (F := Ideal) lb (k0_pay16 f) (ix2 0 c) = ∑ m, (show EReal from lgs lb f (ix2 m c)) := by
  pointwise [k0_pay23, lgs]

/-- The mask of a direction: which rows come no later than a row. -/
def triD (d : Fin 2) : FVec Ideal S64x64 .f32 := match d with | 0 => tri0 | 1 => tri1
/-- The mask of the rows no later than the middle one. -/
def midD (d : Fin 2) : FVec Ideal S64x1 .f32 := match d with | 0 => mid0 | 1 => mid1

/-- A bit, as a float: one or zero. -/
theorem bit_float (p : Prop) [Decidable p] : FloatOps.sitofp (F := Ideal) .f32 (if p then 1#32 else 0#32) = if p then (1 : EReal) else 0 := by
  split
  · show ((((1#32 : BitVec 32).toInt : ℤ) : ℝ) : EReal) = 1
    norm_num
  · show ((((0#32 : BitVec 32).toInt : ℤ) : ℝ) : EReal) = 0
    norm_num
theorem sge_bit : ∀ l m : Fin 64, BitVec.setWidth 32 (IntOp.cmpi .sge (BitVec.ofNat 32 l.val) (BitVec.ofNat 32 m.val)) = if m ≤ l then 1#32 else 0#32 := by
  decide +kernel
theorem sle_bit : ∀ l m : Fin 64, BitVec.setWidth 32 (IntOp.cmpi .sle (BitVec.ofNat 32 (Fin.revPerm l).val) (BitVec.ofNat 32 (Fin.revPerm m).val))
    = if m ≤ l then 1#32 else 0#32 := by
  decide +kernel
theorem mid_bit : ∀ m : Fin 64, BitVec.setWidth 32 (IntOp.cmpi .sle (BitVec.ofNat 32 m.val) 32#32) = if m ≤ 32 then 1#32 else 0#32 := by
  decide +kernel
theorem mid_rev_bit : ∀ m : Fin 64, BitVec.setWidth 32 (IntOp.cmpi .sge (BitVec.ofNat 32 (Fin.revPerm m).val) 31#32) = if m ≤ 32 then 1#32 else 0#32 := by
  decide +kernel

theorem triD_apply (d : Fin 2) (l m : Fin 64) : triD d (ix2 (ord d l) (ord d m)) = if m ≤ l then (1 : EReal) else 0 := by
  fin_cases d
  · pointwise [triD, tri0, k0_pay5, ord]
    exact (congrArg _ (sge_bit l m)).trans (bit_float _)
  · pointwise [triD, tri1, k0_pay135, ord]
    exact (congrArg _ (sle_bit l m)).trans (bit_float _)
theorem midD_apply (d : Fin 2) (m : Fin 64) : midD d (ix2 (ord d m) 0) = if m ≤ 32 then (1 : EReal) else 0 := by
  fin_cases d
  · pointwise [midD, mid0, k0_pay6, ord]
    exact (congrArg _ (mid_bit m)).trans (bit_float _)
  · pointwise [midD, mid1, k0_pay136, ord]
    exact (congrArg _ (mid_rev_bit m)).trans (bit_float _)

section
variable (tri : FVec Ideal S64x64 .f32) (mr : FVec Ideal S64x1 .f32) (lb : FVec Ideal S1x512 .f32) (q f v : Vec Ideal S64x512 .f32)
  (st : Fin 4 → FVec Ideal S128x128 .f32)

theorem qins_apply (l : Fin 64) (c : Fin 512) : qins tri mr lb q f (ix2 l c)
    = qsc q (ix2 l c) * Ideal.exp ((show EReal from cums tri lb f (ix2 l c)) - k0_pay22 mr lb (k0_pay16 f) (ix2 0 c)) := by
  pointwise [qins, k0_pay24, cums, qsc]
theorem kins_apply (l : Fin 64) (c : Fin 512) : kins tri mr lb f (ix2 l c)
    = k0_pay20 (F := Ideal) lb (k0_pay16 f) (ix2 l c) * Ideal.exp ((show EReal from k0_pay22 mr lb (k0_pay16 f) (ix2 0 c)) - cums tri lb f (ix2 l c)) := by
  pointwise [kins, k0_pay25, cums]
theorem ksts_apply (l : Fin 64) (c : Fin 512) : ksts tri lb f (ix2 l c)
    = k0_pay20 (F := Ideal) lb (k0_pay16 f) (ix2 l c) * Ideal.exp ((show EReal from k0_pay23 lb (k0_pay16 f) (ix2 0 c)) - cums tri lb f (ix2 l c)) := by
  pointwise [ksts, k0_pay26, cums]
theorem qdcs_apply (l : Fin 64) (c : Fin 512) : qdcs tri lb q f (ix2 l c)
    = qsc q (ix2 l c) * Ideal.exp (show EReal from cums tri lb f (ix2 l c)) := by
  pointwise [qdcs, k0_pay27, cums, qsc]
theorem chunkS_at (h : Fin 4) (e : Fin 128) (c : Fin 128) : chunkS tri lb f v st h (ix2 e c)
    = (show EReal from st h (ix2 e c)) * Ideal.exp (show EReal from k0_pay23 lb (k0_pay16 f) (ix2 0 (col h c)))
      + ∑ l, (show EReal from v (ix2 l (col h e))) * ksts tri lb f (ix2 l (col h c)) := by
  pointwise [chunkS, headD_apply, headC_apply, k0_pay28]
theorem chunkOh_at (h : Fin 4) (l : Fin 64) (e : Fin 128) : chunkOh tri mr lb q f v st h (ix2 l e)
    = (∑ m, ((∑ c, (show EReal from qins tri mr lb q f (ix2 l (col h c))) * kins tri mr lb f (ix2 m (col h c))) * (show EReal from tri (ix2 l m)))
        * (show EReal from v (ix2 m (col h e))))
      + ∑ c, (show EReal from qdcs tri lb q f (ix2 l (col h c))) * st h (ix2 e c) := by
  pointwise [chunkOh, headC_apply]
theorem chunkO_at (h : Fin 4) (l : Fin 64) (e : Fin 128) : chunkO tri mr lb q f v st (ix2 l (col h e)) = chunkOh tri mr lb q f v st h (ix2 l e) := by
  fin_cases h <;> pointwise [chunkO, col]
  · rw [dif_neg (by omega), dif_neg (by omega), dif_pos (by omega)]
    congr 3
    omega
  · rw [dif_neg (by omega), dif_neg (by omega), dif_neg (by omega)]
    congr 3
    omega
end

/-! ## With real decays -/

section
variable (d : Fin 2) (lb : FVec Ideal S1x512 .f32) (q f v : Vec Ideal S64x512 .f32)
  (st : Fin 4 → FVec Ideal S128x128 .f32) (g : Fin 64 → Fin 512 → ℝ)
  (hg : ∀ l c, lgK (lb (ix2 0 c)) (f (ix2 (ord d l) c)) = (g l c : EReal))
include hg

/-- The running sums are those of the decays, the remainder of the split being zero. -/
theorem cums_ord (l : Fin 64) (c : Fin 512) : cums (triD d) lb f (ix2 (ord d l) c) = cum (fun l c => (g l c : EReal)) l c := by
  rw [cums_apply, ← Equiv.sum_comp (ord d), ← Equiv.sum_comp (ord d) (fun m => (show EReal from triD d (ix2 (ord d l) m)) * ((show EReal from lgs lb f (ix2 m c)) - lgs lb f (ix2 m c)))]
  simp only [triD_apply, lgs_apply, hg]
  have h0 : ∀ m : Fin 64, (if m ≤ l then (1 : EReal) else 0) * ((g m c : EReal) - (g m c : EReal)) = 0 := fun m => by
    rw [← EReal.coe_sub, sub_self, EReal.coe_zero, mul_zero]
  simp only [h0, Finset.sum_const_zero, add_zero, ite_mul, one_mul, zero_mul]
  rfl
theorem mids_ord (c : Fin 512) : k0_pay22 (F := Ideal) (midD d) lb (k0_pay16 f) (ix2 0 c) = cum (fun l c => (g l c : EReal)) 32 c := by
  rw [mids_apply, ← Equiv.sum_comp (ord d)]
  simp only [midD_apply, lgs_apply, hg, mul_ite, mul_one, mul_zero]
  rfl
theorem tots_ord (c : Fin 512) : k0_pay23 (F := Ideal) lb (k0_pay16 f) (ix2 0 c) = tot (fun l c => (g l c : EReal)) c := by
  rw [tots_apply, ← Equiv.sum_comp (ord d)]
  simp only [lgs_apply, hg]
  rfl

/-- The state after a chunk. -/
theorem chunkS_ord (h : Fin 4) (e : Fin 128) (c : Fin 128) : chunkS (triD d) lb f v st h (ix2 e c)
    = stepS (fun l c => keyK (lb (ix2 0 c)) (f (ix2 (ord d l) c))) (fun l e => v (ix2 (ord d l) e)) (fun l c => (g l c : EReal)) (fun h e c => st h (ix2 e c)) h e c := by
  rw [chunkS_at, ← Equiv.sum_comp (ord d)]
  simp only [ksts_apply, keys_apply, cums_ord d lb f g hg, tots_ord d lb f g hg]
  rfl

/-- A chunk's output. -/
theorem chunkO_ord (h : Fin 4) (l : Fin 64) (e : Fin 128) : chunkO (triD d) (midD d) lb q f v st (ix2 (ord d l) (col h e))
    = outO (fun l c => actK (q (ix2 (ord d l) c))) (fun l c => keyK (lb (ix2 0 c)) (f (ix2 (ord d l) c))) (fun l e => v (ix2 (ord d l) e))
        (fun l c => (g l c : EReal)) (fun h e c => st h (ix2 e c)) h l e := by
  rw [chunkO_at, chunkOh_at, ← Equiv.sum_comp (ord d)]
  simp only [qins_apply, kins_apply, qdcs_apply, qsc_apply, keys_apply, cums_ord d lb f g hg, mids_ord d lb f g hg, triD_apply, mul_ite, mul_one, mul_zero]
  rfl
end
end Cert.HgfKIdeal.Step
-- ==== Proof.HgfBlocks.lean ====
module
public import proofs.«01_k».proof.Proof.HgfChunk
public import Idealize.ShloMosaic.Lib.Claim

/-! The blocks of the forward HGRU recurrence: the entries of the two arguments that a grid point's input blocks
    hold. -/

@[expose] public section
noncomputable section
namespace Cert.HgfKIdeal.Value
open Cert.HgfKIdeal Cert.HgfKIdeal.Gen Idealize.ShloMosaic Idealize.ShloMosaic.TcCoe Idealize.SL.Sem Cert.Reals Cert.Hgf
open Cert.Glaf (col cum tot score ord rowOf)
open Idealize.ShloMosaic.Pipeline (Dat)

theorem idx : ∀ t : Fin cfg0.N, win0_0.index t = ![t.val, 2] ∧ win0_1.index t = ![t.val, 3] ∧ win0_2.index t = ![t.val, 5]
    ∧ win0_3.index t = ![15 - t.val, 2] ∧ win0_4.index t = ![15 - t.val, 4] ∧ win0_5.index t = ![15 - t.val, 5]
    ∧ win0_6.index t = ![0, 0] ∧ win0_7.index t = ![0, 0] :=
  (by decide +kernel : ∀ t : Fin grid0.N, _)
theorem idxO : ∀ t : Fin cfg0.N, win0_8.index t = ![t.val, 0] ∧ win0_9.index t = ![15 - t.val, 0] ∧ win0_10.index t = ![t.val, 0, 0, 0]
    ∧ win0_11.index t = ![15 - t.val, 0, 0, 0] :=
  (by decide +kernel : ∀ t : Fin grid0.N, _)

variable (m : (ℓ : Loc nD τ sig) → Buf (Elt Ideal) ℓ) (c : Dev nD)

/-- Row `r` of block `t`, and of the block that the reverse direction takes at point `t`. -/
def rowF (t : Fin cfg0.N) (r : Fin 256) : Fin 4096 := ⟨256 * t.val + r.val, by have := lt_of_lt_of_eq t.isLt N_0; omega⟩
def rowR (t : Fin cfg0.N) (r : Fin 256) : Fin 4096 := ⟨256 * (15 - t.val) + r.val, by omega⟩

/-- An entry of the projections, with the queries, the two directions' forget logits and the values among the columns. -/
def P (r : Fin 4096) (j : Fin 3584) : EReal := m ((c : Thread nD τ).loc main_arg0) (ix2 r j)
/-- The lower bound of the decays of a column. -/
def lo (j : Fin 512) : EReal := lowK (m ((c : Thread nD τ).loc main_arg1) (ix2 0 j)) (m ((c : Thread nD τ).loc main_arg1) (ix2 1 j))

def qcol (j : Fin 512) : Fin 3584 := ⟨1024 + j.val, by omega⟩
/-- A direction's forget logits. -/
def fcol (d : Fin 2) (j : Fin 512) : Fin 3584 := ⟨1536 + 512 * d.val + j.val, by omega⟩
def vvcol (j : Fin 512) : Fin 3584 := ⟨2560 + j.val, by omega⟩

theorem x0 (t : Fin cfg0.N) (r : Fin 256) (j : Fin 512) : iblk m c 0 t (ix2 r j) = P m c (rowF t r) (qcol j) := by
  unfold P
  blk_ext [iblk, V, idx t, rowF, qcol]
theorem x1 (t : Fin cfg0.N) (r : Fin 256) (j : Fin 512) : iblk m c 1 t (ix2 r j) = P m c (rowF t r) (fcol 0 j) := by
  unfold P
  blk_ext [iblk, V, idx t, rowF, fcol]
theorem x2 (t : Fin cfg0.N) (r : Fin 256) (j : Fin 512) : iblk m c 2 t (ix2 r j) = P m c (rowF t r) (vvcol j) := by
  unfold P
  blk_ext [iblk, V, idx t, rowF, vvcol]
theorem x3 (t : Fin cfg0.N) (r : Fin 256) (j : Fin 512) : iblk m c 3 t (ix2 r j) = P m c (rowR t r) (qcol j) := by
  unfold P
  blk_ext [iblk, V, idx t, rowR, qcol]
theorem x4 (t : Fin cfg0.N) (r : Fin 256) (j : Fin 512) : iblk m c 4 t (ix2 r j) = P m c (rowR t r) (fcol 1 j) := by
  unfold P
  blk_ext [iblk, V, idx t, rowR, fcol]
theorem x5 (t : Fin cfg0.N) (r : Fin 256) (j : Fin 512) : iblk m c 5 t (ix2 r j) = P m c (rowR t r) (vvcol j) := by
  unfold P
  blk_ext [iblk, V, idx t, rowR, vvcol]

theorem rows_of (j : Fin 512) : V m c main_v0 (ix2 0 j) = m ((c : Thread nD τ).loc main_arg1) (ix2 0 j)
    ∧ V m c main_v1 (ix2 0 j) = m ((c : Thread nD τ).loc main_arg1) (ix2 1 j) := by
  have h0 : V m c main_v0 = extractStridedSlice S1x512 ![0, 0] (show Vec Ideal S2x512 .f32 from m ((c : Thread nD τ).loc main_arg1)) slices_S2x512_S1x512_0_0 := by
    unfold V
    simp only [List.flatten_cons, List.flatten_nil, List.append_nil, List.cons_append, List.nil_append]
    after_results
    try rfl
  have h1 : V m c main_v1 = extractStridedSlice S1x512 ![1, 0] (show Vec Ideal S2x512 .f32 from m ((c : Thread nD τ).loc main_arg1)) slices_S2x512_S1x512_1_0 := by
    unfold V
    simp only [List.flatten_cons, List.flatten_nil, List.append_nil, List.cons_append, List.nil_append]
    after_results
    try rfl
  rw [h0, h1]
  constructor <;> pointwise

/-- The lower bounds that a point uses. -/
theorem lb_eq (t : Fin cfg0.N) (j : Fin 512) : Step.lbs (F := Ideal) (iblk m c 6 t) (iblk m c 7 t) (ix2 0 j) = lo m c j := by
  have h6 : iblk m c 6 t (ix2 0 j) = V m c main_v0 (ix2 0 j) := by blk_ext [iblk, idx t]
  have h7 : iblk m c 7 t (ix2 0 j) = V m c main_v1 (ix2 0 j) := by blk_ext [iblk, idx t]
  rw [Step.lbs_apply, h6, h7, (rows_of m c j).1, (rows_of m c j).2]
  rfl

/-! ## A chunk of a block -/

theorem subQ_apply (s : Fin 4) (x : Vec Ideal S256x512 .f32) (l : Fin 64) (j : Fin 512) :
    Step.subQ s x (ix2 l j) = x (ix2 ⟨64 * s.val + l.val, by omega⟩ j) := by
  fin_cases s <;> pointwise [Step.subQ]
theorem scr0_apply (X : Vec Ideal S2x4x128x128 .f32) (h : Fin 4) (e k : Fin 128) : Step.scr0 X h (ix2 e k) = X (ix4 0 h e k) := by
  fin_cases h <;> pointwise [Step.scr0, k0_pay7]
theorem scr1_apply (X : Vec Ideal S2x4x128x128 .f32) (h : Fin 4) (e k : Fin 128) : Step.scr1 X h (ix2 e k) = X (ix4 1 h e k) := by
  fin_cases h <;> pointwise [Step.scr1, k0_pay7]
theorem stand_apply (s : FVec Ideal S128x128 .f32) (a b : Fin 1) (e k : Fin 128) : Step.stand s (ix4 a b e k) = s (ix2 e k) := by
  pointwise [Step.stand]

/-! ## Both directions at once -/

def rowB (d : Fin 2) (t : Fin cfg0.N) (r : Fin 256) : Fin 4096 := match d with | 0 => rowF t r | 1 => rowR t r
def xq (d : Fin 2) (t : Fin cfg0.N) : Vec Ideal S256x512 .f32 := match d with | 0 => iblk m c 0 t | 1 => iblk m c 3 t
def xf (d : Fin 2) (t : Fin cfg0.N) : Vec Ideal S256x512 .f32 := match d with | 0 => iblk m c 1 t | 1 => iblk m c 4 t
def xv (d : Fin 2) (t : Fin cfg0.N) : Vec Ideal S256x512 .f32 := match d with | 0 => iblk m c 2 t | 1 => iblk m c 5 t
/-- The lower bounds that a point uses. -/
def xl (t : Fin cfg0.N) : FVec Ideal S1x512 .f32 := Step.lbs (F := Ideal) (iblk m c 6 t) (iblk m c 7 t)

theorem xq_apply (d : Fin 2) (t : Fin cfg0.N) (r : Fin 256) (j : Fin 512) : xq m c d t (ix2 r j) = P m c (rowB d t r) (qcol j) := by
  fin_cases d
  · exact x0 m c t r j
  · exact x3 m c t r j
theorem xf_apply (d : Fin 2) (t : Fin cfg0.N) (r : Fin 256) (j : Fin 512) : xf m c d t (ix2 r j) = P m c (rowB d t r) (fcol d j) := by
  fin_cases d
  · exact x1 m c t r j
  · exact x4 m c t r j
theorem xv_apply (d : Fin 2) (t : Fin cfg0.N) (r : Fin 256) (j : Fin 512) : xv m c d t (ix2 r j) = P m c (rowB d t r) (vvcol j) := by
  fin_cases d
  · exact x2 m c t r j
  · exact x5 m c t r j
theorem xl_apply (t : Fin cfg0.N) (j : Fin 512) : xl m c t (ix2 0 j) = lo m c j := lb_eq m c t j

/-- The chunk of a block that a direction takes after `n` others. -/
def nth (d : Fin 2) (n : ℕ) : Fin 4 := match d with | 0 => Step.nthF n | 1 => Step.nthR n
/-- Row `l` of the chunk that a direction takes after `n` others, in the direction's order. -/
def rowD (d : Fin 2) (n : ℕ) (l : Fin 64) : Fin 4096 := ⟨rowOf d n l % 4096, Nat.mod_lt _ (by decide)⟩

theorem row_nth (d : Fin 2) (t : Fin cfg0.N) (n : ℕ) (hn : n < 4) (l : Fin 64) :
    rowB d t ⟨64 * (nth d n).val + (ord d l).val, by omega⟩ = rowD d (4 * t.val + n) l := by
  have ht := lt_of_lt_of_eq t.isLt N_0
  apply Fin.ext
  fin_cases d <;> interval_cases n <;> simp [rowB, rowF, rowR, nth, Step.nthF, Step.nthR, ord, rowD, rowOf, Fin.rev] <;> omega

/-- The keys, the values, the activated queries and the logarithms of the decays of that chunk. -/
def KD (d : Fin 2) (n : ℕ) (l : Fin 64) (j : Fin 512) : EReal := keyK (lo m c j) (P m c (rowD d n l) (fcol d j))
def VD (d : Fin 2) (n : ℕ) (l : Fin 64) (j : Fin 512) : EReal := P m c (rowD d n l) (vvcol j)
def QD (d : Fin 2) (n : ℕ) (l : Fin 64) (j : Fin 512) : EReal := actK (P m c (rowD d n l) (qcol j))
def GD (d : Fin 2) (n : ℕ) (l : Fin 64) (j : Fin 512) : EReal := lgK (lo m c j) (P m c (rowD d n l) (fcol d j))
/-- The state before that chunk. -/
def SD (d : Fin 2) (n : ℕ) : Fin 4 → Fin 128 → Fin 128 → EReal := states (KD m c d) (VD m c d) (GD m c d) n

def stD (d : Fin 2) (lb : FVec Ideal S1x512 .f32) (f v : Vec Ideal S256x512 .f32) (st : Fin 4 → FVec Ideal S128x128 .f32)
    (n : ℕ) : Fin 4 → FVec Ideal S128x128 .f32 := match d with | 0 => Step.stF lb f v st n | 1 => Step.stR lb f v st n
theorem stD_zero (d : Fin 2) (lb : FVec Ideal S1x512 .f32) (f v : Vec Ideal S256x512 .f32) (st : Fin 4 → FVec Ideal S128x128 .f32) :
    stD d lb f v st 0 = st := by
  fin_cases d <;> rfl
theorem stD_succ (d : Fin 2) (lb : FVec Ideal S1x512 .f32) (f v : Vec Ideal S256x512 .f32) (st : Fin 4 → FVec Ideal S128x128 .f32)
    (n : ℕ) : stD d lb f v st (n + 1)
      = Step.chunkS (Step.triD d) lb (Step.subQ (nth d n) f) (Step.subQ (nth d n) v) (stD d lb f v st n) := by
  fin_cases d <;> rfl

section
variable (g : Fin 2 → Fin 4096 → Fin 512 → ℝ) (hg : ∀ d r j, lgK (lo m c j) (P m c r (fcol d j)) = (g d r j : EReal))
include hg

/-- The states within a block, over the state before it. -/
theorem stD_ord (d : Fin 2) (t : Fin cfg0.N) (st : Fin 4 → FVec Ideal S128x128 .f32) (hst : ∀ h e k, st h (ix2 e k) = SD m c d (4 * t.val) h e k) (n : ℕ) (hn : n ≤ 4)
    (h : Fin 4) (e k : Fin 128) : stD d (xl m c t) (xf m c d t) (xv m c d t) st n h (ix2 e k) = SD m c d (4 * t.val + n) h e k := by
  induction n generalizing h e k with
  | zero => rw [stD_zero, hst]; rfl
  | succ n ih =>
    have hz : ∀ l j, lgK (xl m c t (ix2 0 j)) (Step.subQ (nth d n) (xf m c d t) (ix2 (ord d l) j)) = (g d (rowD d (4 * t.val + n) l) j : EReal) := fun l j => by
      rw [subQ_apply, xf_apply, xl_apply, row_nth d t n (by omega), hg]
    rw [stD_succ, Step.chunkS_ord d _ _ _ _ _ hz]
    simp only [subQ_apply, xf_apply, xl_apply, xv_apply, row_nth d t n (by omega), ih (by omega)]
    simp only [← hg]
    rfl
end
end Cert.HgfKIdeal.Value
-- ==== Proof.HgfKernel.lean ====
module
public import proofs.«01_k».proof.Proof.HgfBlocks

/-! What the result arrays of the forward HGRU recurrence hold after the run: per direction the chunks' outputs and
    the states before the chunks. -/

@[expose] public section
noncomputable section
namespace Cert.HgfKIdeal.Value
open Cert.HgfKIdeal Cert.HgfKIdeal.Gen Idealize.ShloMosaic Idealize.ShloMosaic.TcCoe Idealize.SL.Sem Cert.Reals Cert.Hgf
open Cert.Glaf (col cum tot score ord rowOf)
open Idealize.ShloMosaic.Pipeline (Dat)

variable (m : (ℓ : Loc nD τ sig) → Buf (Elt Ideal) ℓ) (c : Dev nD)

/-- How many chunks a direction takes before the one that row `r` is in, and where in it the row is. -/
def chunkOf (d : Fin 2) (r : Fin 4096) : ℕ := if d.val = 0 then r.val / 64 else (4095 - r.val) / 64
def inChunk (d : Fin 2) (r : Fin 4096) : Fin 64 := if d.val = 0 then ⟨r.val % 64, by omega⟩ else ⟨(4095 - r.val) % 64, by omega⟩
/-- The head and the column in it of a value column. -/
def headOf (j : Fin 512) : Fin 4 := ⟨j.val / 128, by omega⟩
def inHead (j : Fin 512) : Fin 128 := ⟨j.val % 128, by omega⟩
theorem col_headOf (j : Fin 512) : col (headOf j) (inHead j) = j := Fin.ext (by show 128 * (j.val / 128) + j.val % 128 = j.val; omega)

/-- A direction's output. -/
def OD (d : Fin 2) (r : Fin 4096) (j : Fin 512) : EReal :=
  outO (QD m c d (chunkOf d r)) (KD m c d (chunkOf d r)) (VD m c d (chunkOf d r)) (GD m c d (chunkOf d r)) (SD m c d (chunkOf d r))
    (headOf j) (inChunk d r) (inHead j)
/-- The states before the array's chunks: the reverse direction begins with the last. -/
def TD (d : Fin 2) (n : Fin 64) : Fin 4 → Fin 128 → Fin 128 → EReal := SD m c d (if d.val = 0 then n.val else 63 - n.val)

theorem nth_zero (n : ℕ) (hn : n < 4) : nth 0 n = ⟨n, hn⟩ := by
  interval_cases n <;> rfl
theorem nth_one (n : ℕ) (hn : n < 4) : nth 1 (3 - n) = ⟨n, hn⟩ := by
  interval_cases n <;> rfl

section
variable (g : Fin 2 → Fin 4096 → Fin 512 → ℝ) (hg : ∀ d r j, lgK (lo m c j) (P m c r (fcol d j)) = (g d r j : EReal))
include hg

/-- What the scratch holds before a point's chunks: the states so far. -/
theorem before_eq (n : ℕ) : ∀ (hn : n < cfg0.N) (d : Fin 2) (h : Fin 4) (e k : Fin 128),
    Step.before m c ⟨n, hn⟩ (ix4 d h e k) = SD m c d (4 * n) h e k := by
  induction n with
  | zero =>
    intro hn d h e k
    unfold Step.before
    rw [if_pos (Nat.zero_mod _)]
    pointwise [k0_pay4]
    rfl
  | succ n ih =>
    intro hn d h e k
    have hN := lt_of_lt_of_eq hn N_0
    unfold Step.before
    rw [if_neg (show ¬ (n + 1) % 16 = 0 by omega)]
    have hs := Step.scratch_after m c ⟨n, by omega⟩ d h (ix4 0 0 e k)
    refine Eq.trans hs ?_
    have hst : ∀ d h e k, Step.before m c ⟨n, by omega⟩ (ix4 d h e k) = SD m c d (4 * n) h e k := ih (by omega)
    fin_cases d
    · refine (stand_apply _ 0 0 e k).trans ?_
      exact stD_ord m c g hg 0 ⟨n, by omega⟩ _ (fun h e k => (scr0_apply _ h e k).trans (hst 0 h e k)) 4 le_rfl h e k
    · refine (stand_apply _ 0 0 e k).trans ?_
      exact stD_ord m c g hg 1 ⟨n, by omega⟩ _ (fun h e k => (scr1_apply _ h e k).trans (hst 1 h e k)) 4 le_rfl h e k

/-- A point's states. -/
theorem fF_eq (t : Fin cfg0.N) (n : ℕ) (hn : n ≤ 4) (h : Fin 4) (e k : Fin 128) :
    Step.fF m c (Step.before m c t) t n h (ix2 e k) = SD m c 0 (4 * t.val + n) h e k :=
  stD_ord m c g hg 0 t _ (fun h e k => (scr0_apply _ h e k).trans (before_eq m c g hg t.val t.isLt 0 h e k)) n hn h e k
theorem fR_eq (t : Fin cfg0.N) (n : ℕ) (hn : n ≤ 4) (h : Fin 4) (e k : Fin 128) :
    Step.fR m c (Step.before m c t) t n h (ix2 e k) = SD m c 1 (4 * t.val + n) h e k :=
  stD_ord m c g hg 1 t _ (fun h e k => (scr1_apply _ h e k).trans (before_eq m c g hg t.val t.isLt 1 h e k)) n hn h e k

/-- The output of the chunk that a direction takes after `n` others of a block. -/
theorem chunk_out (d : Fin 2) (t : Fin cfg0.N) (n : ℕ) (hn : n < 4) (st : Fin 4 → FVec Ideal S128x128 .f32)
    (hst : ∀ h e k, st h (ix2 e k) = SD m c d (4 * t.val + n) h e k) (h : Fin 4) (l : Fin 64) (e : Fin 128) :
    Step.chunkO (Step.triD d) (Step.midD d) (xl m c t) (Step.subQ (nth d n) (xq m c d t)) (Step.subQ (nth d n) (xf m c d t))
      (Step.subQ (nth d n) (xv m c d t)) st (ix2 (ord d l) (col h e))
      = outO (QD m c d (4 * t.val + n)) (KD m c d (4 * t.val + n)) (VD m c d (4 * t.val + n)) (GD m c d (4 * t.val + n)) (SD m c d (4 * t.val + n)) h l e := by
  have hz : ∀ l j, lgK (xl m c t (ix2 0 j)) (Step.subQ (nth d n) (xf m c d t) (ix2 (ord d l) j)) = (g d (rowD d (4 * t.val + n) l) j : EReal) := fun l j => by
    rw [subQ_apply, xf_apply, xl_apply, row_nth d t n hn, hg]
  rw [Step.chunkO_ord d _ _ _ _ _ _ hz]
  simp only [subQ_apply, xq_apply, xf_apply, xl_apply, xv_apply, row_nth d t n hn, hst]
  simp only [← hg]
  rfl

theorem after8 (t : Fin cfg0.N) (r : Fin 256) (j : Fin 512) : (outsAt0 m c t.val t.isLt).1 (ix2 r j) = OD m c 0 (rowF t r) j := by
  have ht := lt_of_lt_of_eq t.isLt N_0
  have hr := r.isLt
  refine (Step.out8 m c t ⟨r.val / 64, by omega⟩ (ix2 r j) (ix2 ⟨r.val % 64, by omega⟩ j) (by show r.val = 64 * (r.val / 64) + r.val % 64; omega) rfl).trans ?_
  have hx : (⟨r.val / 64, by omega⟩ : Fin 4) = nth 0 (r.val / 64) := (nth_zero _ (by omega)).symm
  have := chunk_out m c g hg 0 t (r.val / 64) (by omega) _ (fun h e k => fF_eq m c g hg t (r.val / 64) (by omega) h e k) (headOf j) ⟨r.val % 64, by omega⟩ (inHead j)
  rw [col_headOf] at this
  have hc : chunkOf 0 (rowF t r) = 4 * t.val + r.val / 64 := by
    show (256 * t.val + r.val) / 64 = _
    omega
  have hi : inChunk 0 (rowF t r) = ⟨r.val % 64, by omega⟩ := Fin.ext (by show (256 * t.val + r.val) % 64 = r.val % 64; omega)
  unfold OD
  rw [hc, hi, ← this, ← hx]
  rfl
theorem after9 (t : Fin cfg0.N) (r : Fin 256) (j : Fin 512) : (outsAt0 m c t.val t.isLt).2.1 (ix2 r j) = OD m c 1 (rowR t r) j := by
  have ht := lt_of_lt_of_eq t.isLt N_0
  have hr := r.isLt
  refine (Step.out9 m c t ⟨r.val / 64, by omega⟩ (ix2 r j) (ix2 ⟨r.val % 64, by omega⟩ j) (by show r.val = 64 * (r.val / 64) + r.val % 64; omega) rfl).trans ?_
  have hx : (⟨r.val / 64, by omega⟩ : Fin 4) = nth 1 (3 - r.val / 64) := (nth_one _ (by omega)).symm
  have := chunk_out m c g hg 1 t (3 - r.val / 64) (by omega) _ (fun h e k => fR_eq m c g hg t (3 - r.val / 64) (by omega) h e k) (headOf j) ⟨63 - r.val % 64, by omega⟩ (inHead j)
  rw [col_headOf] at this
  have hc : chunkOf 1 (rowR t r) = 4 * t.val + (3 - r.val / 64) := by
    show (4095 - (256 * (15 - t.val) + r.val)) / 64 = _
    omega
  have hi : inChunk 1 (rowR t r) = ⟨63 - r.val % 64, by omega⟩ :=
    Fin.ext (by show (4095 - (256 * (15 - t.val) + r.val)) % 64 = 63 - r.val % 64; omega)
  have ho : ord 1 (⟨63 - r.val % 64, by omega⟩ : Fin 64) = ⟨r.val % 64, by omega⟩ :=
    Fin.ext (by show 64 - (63 - r.val % 64 + 1) = r.val % 64; omega)
  rw [ho] at this
  unfold OD
  rw [hc, hi, ← this, ← hx]
  rfl

theorem after10 (t : Fin cfg0.N) (s h : Fin 4) (e k : Fin 128) : (outsAt0 m c t.val t.isLt).2.2.1 (ix4 s h e k)
    = TD m c 0 ⟨4 * t.val + s.val, by have := lt_of_lt_of_eq t.isLt N_0; omega⟩ h e k :=
  (Step.out10 m c t s h (ix4 0 0 e k)).trans ((stand_apply _ 0 0 e k).trans (fF_eq m c g hg t s.val (by omega) h e k))
theorem after11 (t : Fin cfg0.N) (s h : Fin 4) (e k : Fin 128) : (outsAt0 m c t.val t.isLt).2.2.2.1 (ix4 s h e k)
    = TD m c 1 ⟨4 * (15 - t.val) + s.val, by omega⟩ h e k := by
  have ht := lt_of_lt_of_eq t.isLt N_0
  refine (Step.out11 m c t s h (ix4 0 0 e k)).trans ((stand_apply _ 0 0 e k).trans ((fR_eq m c g hg t (3 - s.val) (by omega) h e k).trans ?_))
  have : 63 - (4 * (15 - t.val) + s.val) = 4 * t.val + (3 - s.val) := by omega
  unfold TD
  rw [if_neg (by decide), this]

/-- The forward and the reverse output after the run. -/
theorem final8 : (dats m 0 c).arrAt 8 (cfgs 0).N = fun y => OD m c 0 (y 0) (y 1) := by
  refine (dats m 0 c).arrAt_eq_of_covers 8 _ (by decide +kernel) fun t _ y => ?_
  blk_simp
  rw [after0_8]
  have hy : (win0_8.blk t).view.emb y = ix2 (rowF t (y 0)) (y 1) := by blk_ext [idxO t, rowF]
  rw [hy]
  exact (congrArg _ (eq_ix2 y)).trans (after8 m c g hg t (y 0) (y 1))
theorem final9 : (dats m 0 c).arrAt 9 (cfgs 0).N = fun y => OD m c 1 (y 0) (y 1) := by
  refine (dats m 0 c).arrAt_eq_of_covers 9 _ (by decide +kernel) fun t _ y => ?_
  blk_simp
  rw [after0_9]
  have hy : (win0_9.blk t).view.emb y = ix2 (rowR t (y 0)) (y 1) := by blk_ext [idxO t, rowR]
  rw [hy]
  exact (congrArg _ (eq_ix2 y)).trans (after9 m c g hg t (y 0) (y 1))
/-- The forward and the reverse states after the run. -/
theorem final10 : (dats m 0 c).arrAt 10 (cfgs 0).N = fun y => TD m c 0 (y 0) (y 1) (y 2) (y 3) := by
  refine (dats m 0 c).arrAt_eq_of_covers 10 _ (by decide +kernel) fun t _ y => ?_
  blk_simp
  rw [after0_10]
  have hy : (win0_10.blk t).view.emb y = ix4 ⟨4 * t.val + (y 0).val, by have := lt_of_lt_of_eq t.isLt N_0; have : (y 0).val < 4 := (y 0).isLt; omega⟩ (y 1) (y 2) (y 3) := by blk_ext [idxO t]
  rw [hy]
  exact (congrArg _ (eq_ix4 y)).trans (after10 m c g hg t (y 0) (y 1) (y 2) (y 3))
theorem final11 : (dats m 0 c).arrAt 11 (cfgs 0).N = fun y => TD m c 1 (y 0) (y 1) (y 2) (y 3) := by
  refine (dats m 0 c).arrAt_eq_of_covers 11 _ (by decide +kernel) fun t _ y => ?_
  blk_simp
  rw [after0_11]
  have hy : (win0_11.blk t).view.emb y = ix4 ⟨4 * (15 - t.val) + (y 0).val, by have : (y 0).val < 4 := (y 0).isLt; omega⟩ (y 1) (y 2) (y 3) := by blk_ext [idxO t]
  rw [hy]
  exact (congrArg _ (eq_ix4 y)).trans (after11 m c g hg t (y 0) (y 1) (y 2) (y 3))
end
end Cert.HgfKIdeal.Value
-- ==== Proof.HgfLog.lean ====
module
public import proofs.«01_k».proof.Proof.HgfMath
public import proofs.«01_k».proof.Proof.Reals

/-! The sigmoid and the logarithm of a decay, as numbers. -/

@[expose] public section
noncomputable section
namespace Cert.Hgf
open Idealize.ShloMosaic Cert.Reals

/-- The least of the extended reals, as the reference writes it. -/
theorem ofBits_bot : Ideal.ofBits .f32 0xFF800000#32 = (⊥ : EReal) := by
  simp [Ideal.ofBits, Ideal.ieee]

/-- The sigmoid of a real number. -/
theorem sg_coe (x : ℝ) : sg (x : EReal) = ((1 / (1 + Real.exp (-x)) : ℝ) : EReal) := by
  unfold sg
  rw [zero_sub]
  exact logistic_coe x

theorem sg_top : sg ⊤ = 1 := by
  unfold sg
  rw [zero_sub, EReal.neg_top, show Ideal.exp ⊥ = 0 from rfl, add_zero, ← EReal.coe_one, div_coe_coe one_ne_zero, div_one]

theorem sg_bot : sg ⊥ = 0 := by
  unfold sg
  rw [zero_sub, EReal.neg_bot, show Ideal.exp ⊤ = ⊤ from rfl, EReal.add_top_of_ne_bot (by decide)]
  simp [Ideal.div]

/-- The sigmoid of the negative is one less the sigmoid. -/
theorem sg_neg (x : EReal) : sg (-x) = 1 - sg x := by
  induction x with
  | bot => rw [EReal.neg_bot, sg_top, sg_bot, sub_zero]
  | top => rw [EReal.neg_top, sg_top, sg_bot, ← EReal.coe_one, ← EReal.coe_sub, sub_self, EReal.coe_zero]
  | coe x =>
    rw [← EReal.coe_neg, sg_coe, sg_coe, ← EReal.coe_one, ← EReal.coe_sub, neg_neg]
    congr 1
    have := Real.exp_pos x
    rw [Real.exp_neg]
    field_simp
    ring

/-- The sigmoid is a number between zero and one. -/
theorem sg_real (x : EReal) : ∃ s : ℝ, 0 ≤ s ∧ s ≤ 1 ∧ sg x = (s : EReal) := by
  induction x with
  | bot => exact ⟨0, le_refl _, zero_le_one, sg_bot⟩
  | top => exact ⟨1, zero_le_one, le_refl _, sg_top⟩
  | coe x =>
    have := Real.exp_pos (-x)
    exact ⟨_, by positivity, by rw [div_le_one (by positivity)]; linarith, sg_coe x⟩

/-- With a real lower bound that is positive and at most one, a decay's logarithm is a number. -/
theorem lgK_real (a b : ℝ) (f : EReal) : ∃ g : ℝ, lgK (lowK (a : EReal) (b : EReal)) f = (g : EReal) := by
  obtain ⟨s, h0, h1, hs⟩ := sg_real f
  have hp := Real.exp_pos (-(a - b))
  have hl : lowK (a : EReal) (b : EReal) = ((1 / (1 + Real.exp (-(a - b))) : ℝ) : EReal) := by
    unfold lowK
    rw [← EReal.coe_sub, sg_coe]
  generalize hb : 1 / (1 + Real.exp (-(a - b))) = lb at hl
  have hb0 : 0 < lb := by rw [← hb]; positivity
  have hb1 : lb ≤ 1 := by rw [← hb, div_le_one (by positivity)]; linarith
  refine ⟨Real.log (lb + (1 - lb) * s), ?_⟩
  unfold lgK
  rw [hl, hs, ← EReal.coe_one, ← EReal.coe_sub, ← EReal.coe_mul, ← EReal.coe_add]
  have : 0 ≤ (1 - lb) * s := mul_nonneg (by linarith) h0
  exact if_neg (not_le.mpr (by linarith))

/-- The first of two parts of a softmax is the sigmoid of the difference. -/
theorem soft_two (a b M : ℝ) : Ideal.div (Ideal.exp ((a : EReal) - (M : EReal))) (Ideal.exp ((a : EReal) - (M : EReal)) + Ideal.exp ((b : EReal) - (M : EReal)))
    = lowK (a : EReal) (b : EReal) := by
  unfold lowK
  rw [← EReal.coe_sub, ← EReal.coe_sub, ← EReal.coe_sub, exp_coe, exp_coe, ← EReal.coe_add, div_coe_coe (by positivity), sg_coe]
  congr 1
  have h1 := Real.exp_pos (a - M)
  rw [show b - M = (a - M) + -(a - b) by ring, Real.exp_add]
  have h2 := Real.exp_pos (-(a - b))
  field_simp
end Cert.Hgf
-- ==== Proof.HgfPre.lean ====
module
public import proofs.«01_k».proof.Proof.Gen.HgfRIdeal.Run
public import proofs.«01_k».proof.Proof.HgfLog
public import proofs.«01_k».proof.Proof.GlafEntry

/-! What the reference of the forward HGRU recurrence computes before its loop. -/

@[expose] public section
noncomputable section
namespace Cert.HgfRIdeal.Value
open Cert.HgfRIdeal Cert.HgfRIdeal.Gen Idealize.ShloMosaic Idealize.ShloMosaic.TcCoe Idealize.SL.Sem Cert.Reals Cert.Hgf
open Cert.Glaf (col)
open Cert.GlafRIdeal.Value (heads pair heads_apply pair_apply turn foldl_add)
open Idealize.ShloMosaic.StableHlo

variable (V : Valuation τ sig (Elt Ideal))

set_option maxRecDepth 8192
set_option maxHeartbeats 2000000

/-- The operations before the running sums. -/
abbrev preA : List (List (HloOp τ sig (Elt Ideal))) := [hostOps0, hostOps0_1, hostOps0_2, hostOps0_3, hostOps0_4, hostOps0_5, hostOps0_6, hostOps0_7,
  hostOps0_8, hostOps0_9, hostOps0_10, hostOps0_11, hostOps0_12]

/-- One, everywhere. -/
def ones : S4096x512.Idx → EReal := broadcastInDim S4096x512 ![] bcast_S_S4096x512 (constant (F := Ideal) S_ .f32 0x3F800000#32)

/-- The larger of the two logits of a column. -/
def top (L : S2x512.Idx → EReal) : S512.Idx → EReal :=
  maximumf (F := Ideal) (φ := .f32) (broadcastInDim S512 ![] bcast_S_S512 (constant (F := Ideal) S_ .f32 0xFF800000#32))
    (Host.reduce (FloatOps.maximumf (F := Ideal) (φ := .f32)) L (constant (F := Ideal) S_ .f32 0xFF800000#32) reducesTo_S2x512_S512_d0 h_S_)

/-- The exponentials of the logits, the larger taken away. -/
def expo (L : S2x512.Idx → EReal) : S2x512.Idx → EReal :=
  Host.exp (F := Ideal) (φ := .f32) (subf (F := Ideal) (φ := .f32) L (broadcastInDim S2x512 ![0, 1] bcast_S1x512_S2x512_0_1 (broadcastInDim S1x512 ![1] bcast_S512_S1x512_1 (top L))))

/-- The softmax down the two rows. -/
def soft (L : S2x512.Idx → EReal) : S2x512.Idx → EReal :=
  Host.divf (F := Ideal) (φ := .f32) (expo L) (broadcastInDim S2x512 ![0, 1] bcast_S1x512_S2x512_0_1 (broadcastInDim S1x512 ![1] bcast_S512_S1x512_1
    (Host.reduceAdd (F := Ideal) (φ := .f32) (expo L) (constant (F := Ideal) S_ .f32 0x00000000#32) reducesTo_S2x512_S512_d0 h_S_)))

/-- The running sums of two rows. -/
def sum2 (x : S2x512.Idx → EReal) : S2x512.Idx → EReal :=
  Host.reduceWindowAdd (F := Ideal) (φ := .f32) ![2, 1] ![1, 1] ![1, 0] ![0, 0] x
    (broadcastInDim S_ ![] bcast_S_S_ (constant (F := Ideal) S_ .f32 0x00000000#32)) reduceWindows_S2x512_S2x512_w2s1p1_0_w1s1p0_0 h_S_

/-- The lower bound of the decays. -/
def low (L : S2x512.Idx → EReal) : S512.Idx → EReal :=
  shapeCast S512 (extractStridedSlice S1x512 ![0, 0] (sum2 (soft L)) slices_S2x512_S1x512_0_0) shapeCasts_S1x512_S512

/-- A row at every row. -/
def rows (x : S512.Idx → EReal) : S4096x512.Idx → EReal :=
  broadcastInDim S4096x512 ![0, 1] bcast_S1x512_S4096x512_0_1 (broadcastInDim S1x512 ![1] bcast_S512_S1x512_1 x)

/-- One less the lower bound. -/
def rest (L : S2x512.Idx → EReal) : S512.Idx → EReal :=
  subf (F := Ideal) (φ := .f32) (broadcastInDim S512 ![] bcast_S_S512 (constant (F := Ideal) S_ .f32 0x3F800000#32)) (low L)

/-- The sigmoid. -/
def sigm (x : S4096x512.Idx → EReal) : S4096x512.Idx → EReal :=
  Host.divf (F := Ideal) (φ := .f32) ones (addf (F := Ideal) (φ := .f32) ones (Host.exp (F := Ideal) (φ := .f32) (Host.negf (F := Ideal) (φ := .f32) x)))

/-- The logarithms of the decays of a direction, from its forget logits. -/
def logd (L : S2x512.Idx → EReal) (f : S4096x512.Idx → EReal) : S4096x512.Idx → EReal :=
  Host.log (F := Ideal) (φ := .f32) (addf (F := Ideal) (φ := .f32) (rows (low L)) (mulf (F := Ideal) (φ := .f32) (rows (rest L)) (sigm f)))

/-- Its keys. -/
def keys (L : S2x512.Idx → EReal) (f : S4096x512.Idx → EReal) : S4096x512.Idx → EReal :=
  mulf (F := Ideal) (φ := .f32) (rows (rest L)) (sigm (Host.negf (F := Ideal) (φ := .f32) f))

/-- The forget logits of one direction. -/
def fg0 (p : S4096x3584.Idx → EReal) : S4096x512.Idx → EReal := extractStridedSlice S4096x512 ![0, 1536] p slices_S4096x3584_S4096x512_0_1536

/-- The forget logits of the other. -/
def fg1 (p : S4096x3584.Idx → EReal) : S4096x512.Idx → EReal := extractStridedSlice S4096x512 ![0, 2048] p slices_S4096x3584_S4096x512_0_2048

/-- The values. -/
def vals (p : S4096x3584.Idx → EReal) : S4096x512.Idx → EReal := extractStridedSlice S4096x512 ![0, 2560] p slices_S4096x3584_S4096x512_0_2560

/-- The activated queries. -/
def acts (p : S4096x3584.Idx → EReal) : S4096x512.Idx → EReal :=
  mulf (F := Ideal) (φ := .f32) (extractStridedSlice S4096x512 ![0, 1024] p slices_S4096x3584_S4096x512_0_1024)
    (sigm (extractStridedSlice S4096x512 ![0, 1024] p slices_S4096x3584_S4096x512_0_1024))

theorem a101 : (afterL preA V (Proc.devRef .tc main_v101)) = pair (heads (acts (V (Proc.devRef .tc main_arg0)))) (heads (acts (V (Proc.devRef .tc main_arg0)))) := by
  simp only [preA, afterL_cons, afterL_nil]
  after_results
  rfl

theorem a102 : (afterL preA V (Proc.devRef .tc main_v102)) = pair (heads (keys (V (Proc.devRef .tc main_arg1)) (fg0 (V (Proc.devRef .tc main_arg0)))))
    (heads (keys (V (Proc.devRef .tc main_arg1)) (fg1 (V (Proc.devRef .tc main_arg0))))) := by
  simp only [preA, afterL_cons, afterL_nil]
  after_results
  rfl

theorem a103 : (afterL preA V (Proc.devRef .tc main_v103)) = pair (heads (vals (V (Proc.devRef .tc main_arg0)))) (heads (vals (V (Proc.devRef .tc main_arg0)))) := by
  simp only [preA, afterL_cons, afterL_nil]
  after_results
  rfl

theorem a104 : (afterL preA V (Proc.devRef .tc main_v104)) = pair (heads (logd (V (Proc.devRef .tc main_arg1)) (fg0 (V (Proc.devRef .tc main_arg0)))))
    (heads (logd (V (Proc.devRef .tc main_arg1)) (fg1 (V (Proc.devRef .tc main_arg0))))) := by
  simp only [preA, afterL_cons, afterL_nil]
  after_results
  rfl

theorem sigm_apply (x : S4096x512.Idx → EReal) (r : Fin 4096) (j : Fin 512) : sigm x (ix2 r j) = sg (x (ix2 r j)) := by
  unfold sg
  rw [zero_sub]
  pointwise [sigm, ones]

theorem acts_apply (p : S4096x3584.Idx → EReal) (r : Fin 4096) (j : Fin 512) : acts p (ix2 r j) = actK (p (ix2 r ⟨1024 + j.val, by omega⟩)) := by
  unfold actK
  pointwise [acts, sigm_apply]

theorem vals_apply (p : S4096x3584.Idx → EReal) (r : Fin 4096) (j : Fin 512) : vals p (ix2 r j) = p (ix2 r ⟨2560 + j.val, by omega⟩) := by
  pointwise [vals]

theorem fg0_apply (p : S4096x3584.Idx → EReal) (r : Fin 4096) (j : Fin 512) : fg0 p (ix2 r j) = p (ix2 r ⟨1536 + j.val, by omega⟩) := by
  pointwise [fg0]

theorem fg1_apply (p : S4096x3584.Idx → EReal) (r : Fin 4096) (j : Fin 512) : fg1 p (ix2 r j) = p (ix2 r ⟨2048 + j.val, by omega⟩) := by
  pointwise [fg1]

theorem logd_apply (L : S2x512.Idx → EReal) (f : S4096x512.Idx → EReal) (r : Fin 4096) (j : Fin 512) : logd L f (ix2 r j) = lgK (low L (ix1 j)) (f (ix2 r j)) := by
  unfold lgK
  pointwise [logd, rows, rest, sigm_apply]

theorem keys_apply (L : S2x512.Idx → EReal) (f : S4096x512.Idx → EReal) (r : Fin 4096) (j : Fin 512) : keys L f (ix2 r j) = keyK (low L (ix1 j)) (f (ix2 r j)) := by
  unfold keyK
  rw [← sg_neg]
  pointwise [keys, rows, rest, sigm_apply]

/-- The first running sum is the first row. -/
theorem sum2_first (x : S2x512.Idx → EReal) (j : Fin 512) : sum2 x (ix2 0 j) = x (ix2 0 j) := by
  unfold sum2 Host.reduceWindowAdd
  show Ideal.hostReduceWindowAdd _ _ _ _ _ x _ _ = _
  unfold Ideal.hostReduceWindowAdd Host.reduceWindow
  dsimp only
  refine (foldl_add _ _).trans ?_
  rw [show broadcastInDim S_ ![] bcast_S_S_ (constant (F := Ideal) S_ .f32 0x00000000#32) (Shape.Idx.first h_S_) = (0 : EReal) by pointwise [], zero_add]
  refine Eq.trans (Finset.sum_congr rfl fun i _ => dite_congr rfl (fun _ => rfl) (fun _ => rfl)) ((Equiv.sum_comp (Shape.rowMajor ⟨2, ![2, 1]⟩).symm (fun i => if hin : ∀ a : Fin 2, (![1, 0] : Fin 2 → ℕ) a ≤ (ix2 (0 : Fin 2) j a).val * (![1, 1] : Fin 2 → ℕ) a + (i a).val
      ∧ (ix2 (0 : Fin 2) j a).val * (![1, 1] : Fin 2 → ℕ) a + (i a).val - (![1, 0] : Fin 2 → ℕ) a < S2x512.size a then
      x (fun a => ⟨(ix2 (0 : Fin 2) j a).val * (![1, 1] : Fin 2 → ℕ) a + (i a).val - (![1, 0] : Fin 2 → ℕ) a, (hin a).2⟩) else 0)).trans ?_)
  rw [sum_idx2]
  simp only [Finset.univ_unique, Finset.sum_singleton]
  have hj := j.isLt
  rw [Fin.sum_univ_two, dif_neg (fun hin => by have := (hin 0).1; change 1 ≤ 0 * 1 + 0 at this; omega), zero_add]
  refine (dif_pos ?_).trans ?_
  · intro a
    match a with
    | ⟨0, _⟩ => exact ⟨le_refl 1, by show 0 * 1 + 1 - 1 < 2; omega⟩
    | ⟨1, _⟩ => exact ⟨Nat.zero_le _, by show j.val * 1 + 0 - 0 < 512; omega⟩
  · refine congrArg x (funext fun a => Fin.ext ?_)
    match a with
    | ⟨0, _⟩ => rfl
    | ⟨1, _⟩ => show j.val * 1 + 0 - 0 = j.val; omega

/-- The lower bound, of real logits. -/
theorem low_apply (L : S2x512.Idx → EReal) (a : Fin 2 → Fin 512 → ℝ) (hL : ∀ i j, L (ix2 i j) = (a i j : EReal)) (j : Fin 512) :
    low L (ix1 j) = lowK (L (ix2 0 j)) (L (ix2 1 j)) := by
  have ht : top L (ix1 j) = ((max (a 0 j) (a 1 j) : ℝ) : EReal) := by
    pointwise [top]
    rw [ofBits_bot, max_eq_right bot_le, show (Finset.univ : Finset (Fin 2)) = {0, 1} from rfl, Finset.fold_insert (by decide), Finset.fold_singleton,
      max_eq_left (bot_le : (⊥ : EReal) ≤ _), hL, hL]
    exact (EReal.coe_strictMono.monotone.map_max).symm
  refine Eq.trans (b := soft L (ix2 0 j)) (by pointwise [low]; exact sum2_first _ j) ?_
  pointwise [soft, expo, ht, hL]
  rw [Fin.sum_univ_two]
  exact soft_two _ _ _
end Cert.HgfRIdeal.Value
-- ==== Proof.HgfTail.lean ====
module
public import proofs.«01_k».proof.Proof.HgfPre
public import proofs.«01_k».proof.Proof.GlafTail

/-! What the reference of the forward HGRU recurrence computes of its chunks before its loop. The running sums, the
    scores and the mask are those of gated linear attention. -/

@[expose] public section
noncomputable section
namespace Cert.HgfRIdeal.Value
open Cert.HgfRIdeal Cert.HgfRIdeal.Gen Idealize.ShloMosaic Idealize.ShloMosaic.TcCoe Idealize.SL.Sem
open Cert.GlafRIdeal.Value (Q5 cumT lastT midT rowsT scoreT maskT mask_apply score_apply cumT_apply)
open Idealize.ShloMosaic.StableHlo

variable (U : Valuation τ sig (Elt Ideal))

set_option maxRecDepth 8192
set_option maxHeartbeats 2000000

/-- The operations from the running sums to the loop. -/
abbrev preB : List (List (HloOp τ sig (Elt Ideal))) := [hostOps0_13, hostOps0_14, hostOps0_15, hostOps0_16, hostOps0_17, hostOps0_18]

/-- The outputs inside a chunk. -/
def intraT (q k : Q5) (v : Q5) (g : Q5) : Q5 :=
  Host.dotGeneral (F := Ideal) (φ₁ := .f32) (φ₂ := .f32) dot_S2x4x64x64x64_S2x4x64x64x128_S2x4x64x64x128_4_3_3_4_012_012 none
    (select (broadcastInDim S2x4x64x64x64 ![3, 4] bcast_S64x64_S2x4x64x64x64_3_4 maskT) (scoreT q k g)
      (broadcastInDim S2x4x64x64x64 ![] bcast_S_S2x4x64x64x64 (id (constant (F := Ideal) S_ .f32 0x00000000#32)))) v

/-- The updates of the states. -/
def updT (k : Q5) (v : Q5) (g : Q5) : S2x4x64x128x128.Idx → EReal :=
  Host.dotGeneral (F := Ideal) (φ₁ := .f32) (φ₂ := .f32) dot_S2x4x64x64x128_S2x4x64x64x128_S2x4x64x128x128_3_3_4_4_012_012 none
    (mulf (F := Ideal) (φ := .f32) k (Host.exp (F := Ideal) (φ := .f32) (subf (F := Ideal) (φ := .f32) (rowsT (lastT g)) (cumT g)))) v

theorem b0 : afterL preB U (Proc.devRef .tc main_v137_0) = transpose S64x2x4x128 [2, 0, 1, 3]
    (Host.exp (F := Ideal) (φ := .f32) (shapeCast S2x4x64x128 (lastT (U (Proc.devRef .tc main_v104))) shapeCasts_S2x4x64x1x128_S2x4x64x128))
    transposes_S2x4x64x128_S64x2x4x128_2_0_1_3 := by
  simp only [preB, afterL_cons, afterL_nil]
  after_results
  rfl

theorem b1 : afterL preB U (Proc.devRef .tc main_v137_1) = transpose S64x2x4x128x128 [2, 0, 1, 3, 4]
    (updT (U (Proc.devRef .tc main_v102)) (U (Proc.devRef .tc main_v103)) (U (Proc.devRef .tc main_v104))) transposes_S2x4x64x128x128_S64x2x4x128x128_2_0_1_3_4 := by
  simp only [preB, afterL_cons, afterL_nil]
  after_results
  rfl

theorem b2 : afterL preB U (Proc.devRef .tc main_v137_2) = transpose S64x2x4x64x128 [2, 0, 1, 3, 4]
    (mulf (F := Ideal) (φ := .f32) (U (Proc.devRef .tc main_v101)) (Host.exp (F := Ideal) (φ := .f32) (cumT (U (Proc.devRef .tc main_v104)))))
    transposes_S2x4x64x64x128_S64x2x4x64x128_2_0_1_3_4 := by
  simp only [preB, afterL_cons, afterL_nil]
  after_results
  rfl

theorem b3 : afterL preB U (Proc.devRef .tc main_v137_3) = transpose S64x2x4x64x128 [2, 0, 1, 3, 4]
    (intraT (U (Proc.devRef .tc main_v101)) (U (Proc.devRef .tc main_v102)) (U (Proc.devRef .tc main_v103)) (U (Proc.devRef .tc main_v104)))
    transposes_S2x4x64x64x128_S64x2x4x64x128_2_0_1_3_4 := by
  simp only [preB, afterL_cons, afterL_nil]
  after_results
  rfl

theorem b5 : afterL preB U (Proc.devRef .tc main_v137_5) = broadcastInDim S2x4x128x128 ![] bcast_S_S2x4x128x128 (constant (F := Ideal) S_ .f32 0x00000000#32) := by
  simp only [preB, afterL_cons, afterL_nil]
  after_results
  rfl

theorem intra_apply (q k : Q5) (v : Q5) (g : Q5) (d : Fin 2) (h : Fin 4) (n l : Fin 64) (e : Fin 128) : intraT q k v g (ix5 d h n l e)
    = ∑ m : Fin 64, (if m ≤ l then scoreT q k g (ix5 d h n l m) else 0) * v (ix5 d h n m e) := by
  have hz : id (constant (F := Ideal) S_ .f32 0x00000000#32) ix0 = (0 : EReal) := by
    show (constant (F := Ideal) S_ .f32 0x00000000#32) ix0 = (0 : EReal)
    pointwise []
  pointwise [intraT, mask_apply]
  refine Finset.sum_congr rfl fun m _ => congrArg (· * _) ?_
  by_cases hm : m ≤ l
  · rw [if_pos hm, if_pos hm]
    rfl
  · rw [if_neg hm, if_neg hm]
    exact hz

theorem upd_apply (k : Q5) (v : Q5) (g : Q5) (d : Fin 2) (h : Fin 4) (n : Fin 64) (c : Fin 128) (e : Fin 128) : updT k v g (ix5 d h n c e)
    = ∑ l : Fin 64, (k (ix5 d h n l c) * Ideal.exp (cumT g (ix5 d h n 63 c) - cumT g (ix5 d h n l c))) * v (ix5 d h n l e) := by
  pointwise [updT, rowsT, lastT]

end Cert.HgfRIdeal.Value
-- ==== Proof.HgfLoop.lean ====
module
public import proofs.«01_k».proof.Proof.HgfTail
public import proofs.«01_k».proof.Proof.GlafLoop

/-! One pass of the loop of the HGRU recurrence's reference. -/

@[expose] public section
noncomputable section
namespace Cert.HgfRIdeal.Value
open Cert.HgfRIdeal Cert.HgfRIdeal.Gen Idealize.ShloMosaic Idealize.ShloMosaic.TcCoe Idealize.SL.Sem
open Cert.GlafRIdeal.Value (toInt_ofNat layer4 layer5 put5 toNat_succ)
open Idealize.ShloMosaic.StableHlo

set_option maxRecDepth 8192
set_option maxHeartbeats 2000000

variable (W : Valuation τ sig (Elt Ideal)) (k : Fin 64) (hk : W (Proc.devRef .tc main_v137_4) = fun _ => BitVec.ofNat 32 k.val)
include hk

theorem counter_at : (W (Proc.devRef .tc main_v137_4) (Shape.Idx.first h_S_)).toInt = (k.val : ℤ) := by
  rw [hk]
  exact toInt_ofNat k

theorem step5 (d : Fin 2) (h : Fin 4) (c : Fin 128) (e : Fin 128) : step_main_v137_5 W (ix4 d h c e)
    = (show EReal from W (Proc.devRef .tc main_v137_0) (ix4 k d h c)) * (show EReal from W (Proc.devRef .tc main_v137_5) (ix4 d h c e))
      + (show EReal from W (Proc.devRef .tc main_v137_1) (ix5 k d h c e)) := by
  unfold step_main_v137_5
  rw [id_eq, layer4 (W (Proc.devRef .tc main_v137_0)) _ k ?_ ?_ ?_ ?_, layer5 (W (Proc.devRef .tc main_v137_1)) _ k ?_ ?_ ?_ ?_ ?_]
  · pointwise []
  all_goals first | exact counter_at W k hk | rfl

theorem step6 (n : Fin 64) (d : Fin 2) (h : Fin 4) (c : Fin 128) (e : Fin 128) : step_main_v137_6 W (ix5 n d h c e)
    = if n = k then W (Proc.devRef .tc main_v137_5) (ix4 d h c e) else W (Proc.devRef .tc main_v137_6) (ix5 n d h c e) := by
  unfold step_main_v137_6
  rw [id_eq, put5 (W (Proc.devRef .tc main_v137_6)) _ _ k ?_ ?_ ?_ ?_ ?_]
  · pointwise []
  all_goals first | exact counter_at W k hk | rfl

theorem step7 (n : Fin 64) (d : Fin 2) (h : Fin 4) (l : Fin 64) (e : Fin 128) : step_main_v137_7 W (ix5 n d h l e)
    = if n = k then (show EReal from W (Proc.devRef .tc main_v137_3) (ix5 k d h l e))
        + ∑ c : Fin 128, (show EReal from W (Proc.devRef .tc main_v137_2) (ix5 k d h l c)) * (show EReal from W (Proc.devRef .tc main_v137_5) (ix4 d h c e))
      else W (Proc.devRef .tc main_v137_7) (ix5 n d h l e) := by
  unfold step_main_v137_7
  rw [id_eq, put5 (W (Proc.devRef .tc main_v137_7)) _ _ k ?_ ?_ ?_ ?_ ?_, layer5 (W (Proc.devRef .tc main_v137_3)) _ k ?_ ?_ ?_ ?_ ?_,
    layer5 (W (Proc.devRef .tc main_v137_2)) _ k ?_ ?_ ?_ ?_ ?_]
  · pointwise []
  all_goals first | exact counter_at W k hk | rfl

theorem step4 : step_main_v137_4 W = fun _ => BitVec.ofNat 32 (k.val + 1) := by
  unfold step_main_v137_4
  rw [id_eq, hk]
  funext j
  exact toNat_succ k
end Cert.HgfRIdeal.Value
-- ==== Proof.HgfEntry.lean ====
module
public import proofs.«01_k».proof.Proof.HgfTail

/-! The arrays over which the reference's loop of the HGRU recurrence runs, as functions of the arguments. -/

@[expose] public section
noncomputable section
namespace Cert.HgfRIdeal.Value
open Cert.HgfRIdeal Cert.HgfRIdeal.Gen Idealize.ShloMosaic Idealize.ShloMosaic.TcCoe Idealize.SL.Sem Cert.Reals Cert.Hgf
open Cert.Glaf (col cum tot score)
open Cert.GlafRIdeal.Value (heads pair heads_apply pair_apply turn turn_row rowA Q5 cumT lastT cumT_apply score_apply)
open Idealize.ShloMosaic.StableHlo

set_option maxRecDepth 8192
set_option maxHeartbeats 2000000

/-- The queries of the chunk that direction `d` takes after `n` others. -/
def QA (p : S4096x3584.Idx → EReal) (d : Fin 2) (n : ℕ) (l : Fin 64) (j : Fin 512) : EReal := actK (p (ix2 (rowA d n l) ⟨1024 + j.val, by omega⟩))

/-- Its keys. -/
def KA (p : S4096x3584.Idx → EReal) (L : S2x512.Idx → EReal) (d : Fin 2) (n : ℕ) (l : Fin 64) (j : Fin 512) : EReal :=
  keyK (lowK (L (ix2 0 j)) (L (ix2 1 j))) (p (ix2 (rowA d n l) ⟨1536 + 512 * d.val + j.val, by omega⟩))

/-- Its values. -/
def VA (p : S4096x3584.Idx → EReal) (d : Fin 2) (n : ℕ) (l : Fin 64) (j : Fin 512) : EReal := p (ix2 (rowA d n l) ⟨2560 + j.val, by omega⟩)

/-- The logarithms of its decays. -/
def GA (p : S4096x3584.Idx → EReal) (L : S2x512.Idx → EReal) (d : Fin 2) (n : ℕ) (l : Fin 64) (j : Fin 512) : EReal :=
  lgK (lowK (L (ix2 0 j)) (L (ix2 1 j))) (p (ix2 (rowA d n l) ⟨1536 + 512 * d.val + j.val, by omega⟩))

section
variable (V : Valuation τ sig (Elt Ideal)) (p : S4096x3584.Idx → EReal) (hp : V (Proc.devRef .tc main_arg0) = p)
  (L : S2x512.Idx → EReal) (hl : V (Proc.devRef .tc main_arg1) = L) (a : Fin 2 → Fin 512 → ℝ) (ha : ∀ i j, L (ix2 i j) = (a i j : EReal))
include hp
theorem q_entry (d : Fin 2) (h : Fin 4) (n l : Fin 64) (c : Fin 128) : afterL preA V (Proc.devRef .tc main_v101) (ix5 d h n l c) = QA p d n.val l (col h c) := by
  rw [a101, hp, pair_apply, ite_self, turn_row, heads_apply, acts_apply]
  rfl
theorem v_entry (d : Fin 2) (h : Fin 4) (n l : Fin 64) (c : Fin 128) : afterL preA V (Proc.devRef .tc main_v103) (ix5 d h n l c) = VA p d n.val l (col h c) := by
  rw [a103, hp, pair_apply, ite_self, turn_row, heads_apply, vals_apply]
  rfl
include hl ha
theorem k_entry (d : Fin 2) (h : Fin 4) (n l : Fin 64) (c : Fin 128) : afterL preA V (Proc.devRef .tc main_v102) (ix5 d h n l c) = KA p L d n.val l (col h c) := by
  rw [a102, hp, hl, pair_apply, turn_row]
  unfold KA
  rw [← low_apply L a ha]
  fin_cases d
  · exact (heads_apply _ h _ c).trans ((keys_apply _ _ _ _).trans (by rw [fg0_apply]; rfl))
  · exact (heads_apply _ h _ c).trans ((keys_apply _ _ _ _).trans (by rw [fg1_apply]; rfl))
theorem g_entry (d : Fin 2) (h : Fin 4) (n l : Fin 64) (c : Fin 128) : afterL preA V (Proc.devRef .tc main_v104) (ix5 d h n l c) = GA p L d n.val l (col h c) := by
  rw [a104, hp, hl, pair_apply, turn_row]
  unfold GA
  rw [← low_apply L a ha]
  fin_cases d
  · exact (heads_apply _ h _ c).trans ((logd_apply _ _ _ _).trans (by rw [fg0_apply]; rfl))
  · exact (heads_apply _ h _ c).trans ((logd_apply _ _ _ _).trans (by rw [fg1_apply]; rfl))
end

section
variable (U : Valuation τ sig (Elt Ideal)) (q k g : Fin 2 → ℕ → Fin 64 → Fin 512 → EReal) (v : Fin 2 → ℕ → Fin 64 → Fin 512 → EReal)
  (hq : ∀ (d : Fin 2) (h : Fin 4) (n l : Fin 64) (c : Fin 128), U (Proc.devRef .tc main_v101) (ix5 d h n l c) = q d n.val l (col h c))
  (hk : ∀ (d : Fin 2) (h : Fin 4) (n l : Fin 64) (c : Fin 128), U (Proc.devRef .tc main_v102) (ix5 d h n l c) = k d n.val l (col h c))
  (hv : ∀ (d : Fin 2) (h : Fin 4) (n l : Fin 64) (e : Fin 128), U (Proc.devRef .tc main_v103) (ix5 d h n l e) = v d n.val l (col h e))
  (hg : ∀ (d : Fin 2) (h : Fin 4) (n l : Fin 64) (c : Fin 128), U (Proc.devRef .tc main_v104) (ix5 d h n l c) = g d n.val l (col h c))

include hg
theorem cum_entry (d : Fin 2) (h : Fin 4) (n l : Fin 64) (c : Fin 128) : cumT (U (Proc.devRef .tc main_v104)) (ix5 d h n l c) = cum (g d n.val) l (col h c) := by
  rw [cumT_apply]
  unfold cum
  exact Finset.sum_congr rfl fun m _ => by rw [hg]

theorem tot_entry (d : Fin 2) (h : Fin 4) (n : Fin 64) (c : Fin 128) : cumT (U (Proc.devRef .tc main_v104)) (ix5 d h n 63 c) = tot (g d n.val) (col h c) := by
  rw [cum_entry U g hg]
  unfold cum tot
  exact Finset.sum_congr rfl fun m _ => if_pos (Fin.le_def.2 (by have := m.isLt; show m.val ≤ 63; omega))

theorem e0 (n : Fin 64) (d : Fin 2) (h : Fin 4) (c : Fin 128) : afterL preB U (Proc.devRef .tc main_v137_0) (ix4 n d h c) = Ideal.exp (tot (g d n.val) (col h c)) := by
  rw [b0, ← tot_entry U g hg]
  pointwise [lastT]

include hk hv
theorem e1 (n : Fin 64) (d : Fin 2) (h : Fin 4) (c : Fin 128) (e : Fin 128) : afterL preB U (Proc.devRef .tc main_v137_1) (ix5 n d h c e)
    = upd (k d n.val) (v d n.val) (g d n.val) h e c := by
  rw [b1]
  refine Eq.trans (b := updT (U (Proc.devRef .tc main_v102)) (U (Proc.devRef .tc main_v103)) (U (Proc.devRef .tc main_v104)) (ix5 d h n c e)) (by pointwise []) ?_
  rw [upd_apply]
  unfold upd
  exact Finset.sum_congr rfl fun l _ => by rw [hk, hv, tot_entry U g hg, cum_entry U g hg, mul_comm]

include hq
omit hk hv in
theorem e2 (n : Fin 64) (d : Fin 2) (h : Fin 4) (l : Fin 64) (c : Fin 128) : afterL preB U (Proc.devRef .tc main_v137_2) (ix5 n d h l c)
    = q d n.val l (col h c) * Ideal.exp (cum (g d n.val) l (col h c)) := by
  rw [b2, ← hq, ← cum_entry U g hg]
  pointwise []

theorem e3 (n : Fin 64) (d : Fin 2) (h : Fin 4) (l : Fin 64) (e : Fin 128) : afterL preB U (Proc.devRef .tc main_v137_3) (ix5 n d h l e)
    = ∑ m, (if m ≤ l then score (q d n.val) (k d n.val) (g d n.val) h l m else 0) * v d n.val m (col h e) := by
  rw [b3]
  refine Eq.trans (b := intraT (U (Proc.devRef .tc main_v101)) (U (Proc.devRef .tc main_v102)) (U (Proc.devRef .tc main_v103)) (U (Proc.devRef .tc main_v104)) (ix5 d h n l e)) (by pointwise []) ?_
  rw [intra_apply]
  refine Finset.sum_congr rfl fun m _ => ?_
  rw [hv, score_apply]
  unfold score
  refine congrArg (fun x => (if m ≤ l then x else 0) * _) (Finset.sum_congr rfl fun c _ => ?_)
  rw [hq, hk, cum_entry U g hg, cum_entry U g hg, cum_entry U g hg]
end

end Cert.HgfRIdeal.Value
-- ==== Proof.HgfAll.lean ====
module
public import proofs.«01_k».proof.Proof.HgfLoop
public import proofs.«01_k».proof.Proof.HgfEntry

/-! What the loop of the HGRU recurrence's reference has done after any number of passes, and what the reference returns. -/

@[expose] public section
noncomputable section
namespace Cert.HgfRIdeal.Value
open Cert.HgfRIdeal Cert.HgfRIdeal.Gen Idealize.ShloMosaic Idealize.ShloMosaic.TcCoe Idealize.SL.Sem Cert.Hgf
open Cert.Glaf (col cum tot score)
open Idealize.ShloMosaic.StableHlo

set_option maxRecDepth 8192
set_option maxHeartbeats 2000000

/-- What the loop's buffers hold after `s` passes. -/
structure Held (q k g : Fin 2 → ℕ → Fin 64 → Fin 512 → EReal) (v : Fin 2 → ℕ → Fin 64 → Fin 512 → EReal) (s : ℕ) (W : Valuation τ sig (Elt Ideal)) : Prop where
  decay : ∀ (n : Fin 64) (d : Fin 2) (h : Fin 4) (c : Fin 128), W (Proc.devRef .tc main_v137_0) (ix4 n d h c) = Ideal.exp (tot (g d n.val) (col h c))
  update : ∀ (n : Fin 64) (d : Fin 2) (h : Fin 4) (c : Fin 128) (e : Fin 128), W (Proc.devRef .tc main_v137_1) (ix5 n d h c e) = upd (k d n.val) (v d n.val) (g d n.val) h e c
  query : ∀ (n : Fin 64) (d : Fin 2) (h : Fin 4) (l : Fin 64) (c : Fin 128), W (Proc.devRef .tc main_v137_2) (ix5 n d h l c) = q d n.val l (col h c) * Ideal.exp (cum (g d n.val) l (col h c))
  inside : ∀ (n : Fin 64) (d : Fin 2) (h : Fin 4) (l : Fin 64) (e : Fin 128), W (Proc.devRef .tc main_v137_3) (ix5 n d h l e)
    = ∑ m, (if m ≤ l then score (q d n.val) (k d n.val) (g d n.val) h l m else 0) * v d n.val m (col h e)
  count : W (Proc.devRef .tc main_v137_4) = fun _ => BitVec.ofNat 32 s
  state : ∀ (d : Fin 2) (h : Fin 4) (c : Fin 128) (e : Fin 128), W (Proc.devRef .tc main_v137_5) (ix4 d h c e) = states (k d) (v d) (g d) s h e c
  kept : ∀ (n : Fin 64), n.val < s → ∀ (d : Fin 2) (h : Fin 4) (c : Fin 128) (e : Fin 128), W (Proc.devRef .tc main_v137_6) (ix5 n d h c e) = states (k d) (v d) (g d) n.val h e c
  out : ∀ (n : Fin 64), n.val < s → ∀ (d : Fin 2) (h : Fin 4) (l : Fin 64) (e : Fin 128), W (Proc.devRef .tc main_v137_7) (ix5 n d h l e)
    = outO (q d n.val) (k d n.val) (v d n.val) (g d n.val) (states (k d) (v d) (g d) n.val) h l e

variable (q k g : Fin 2 → ℕ → Fin 64 → Fin 512 → EReal) (v : Fin 2 → ℕ → Fin 64 → Fin 512 → EReal)

/-- One pass. -/
theorem Held.step {s : ℕ} (hs : s < 64) {W : Valuation τ sig (Elt Ideal)} (H : Held q k g v s W) : Held q k g v (s + 1) (STEP W) where
  decay := by rw [STEP_main_v137_0]; exact H.decay
  update := by rw [STEP_main_v137_1]; exact H.update
  query := by rw [STEP_main_v137_2]; exact H.query
  inside := by rw [STEP_main_v137_3]; exact H.inside
  count := by rw [STEP_main_v137_4]; exact step4 W ⟨s, hs⟩ H.count
  state := by
    intro d h c e
    rw [STEP_main_v137_5, step5 W ⟨s, hs⟩ H.count, H.decay, H.update, H.state]
    show _ = stepS (k d s) (v d s) (g d s) (states (k d) (v d) (g d) s) h e c
    unfold stepS
    rw [mul_comm]
  kept := by
    intro n hn d h c e
    rw [STEP_main_v137_6, step6 W ⟨s, hs⟩ H.count]
    split
    · next hc => subst hc; exact H.state d h c e
    · next hc => exact H.kept n (by have : n.val ≠ s := fun hh => hc (Fin.ext hh); omega) d h c e
  out := by
    intro n hn d h l e
    rw [STEP_main_v137_7, step7 W ⟨s, hs⟩ H.count]
    split
    · next hc =>
      subst hc
      rw [H.inside]
      unfold outO
      refine congrArg (_ + ·) (Finset.sum_congr rfl fun c _ => ?_)
      rw [H.query, H.state]
    · next hc => exact H.out n (by have : n.val ≠ s := fun hh => hc (Fin.ext hh); omega) d h l e

/-- Any number of passes. -/
theorem Held.passes {W : Valuation τ sig (Elt Ideal)} (H : Held q k g v 0 W) : ∀ s, s ≤ 64 → Held q k g v s (STEP^[s] W)
  | 0, _ => H
  | s + 1, hs => by
    rw [Function.iterate_succ_apply']
    exact (Held.passes H s (by omega)).step q k g v (by omega)

variable (m : (ℓ : Loc nD τ sig) → Buf (Elt Ideal) ℓ) (c : Dev nD)
  (a : Fin 2 → Fin 512 → ℝ) (ha : ∀ i j, m (c, Proc.devRef .tc main_arg1) (ix2 i j) = (a i j : EReal))

include ha
/-- Before the first. -/
theorem held_entry : Held (QA (m (c, Proc.devRef .tc main_arg0))) (KA (m (c, Proc.devRef .tc main_arg0)) (m (c, Proc.devRef .tc main_arg1))) (GA (m (c, Proc.devRef .tc main_arg0)) (m (c, Proc.devRef .tc main_arg1))) (VA (m (c, Proc.devRef .tc main_arg0))) 0 (entryContents preI m c) := by
  have hE : (entryContents preI m c : Valuation τ sig (Elt Ideal)) = afterL preB (afterL preA (launchContents m c)) := rfl
  have hq := q_entry (launchContents m c) _ rfl
  have hk := k_entry (launchContents m c) _ rfl _ rfl a ha
  have hv := v_entry (launchContents m c) _ rfl
  have hg := g_entry (launchContents m c) _ rfl _ rfl a ha
  exact {
    decay := e0 _ _ hg
    update := e1 _ _ _ _ hk hv hg
    query := e2 _ _ _ hq hg
    inside := e3 _ _ _ _ _ hq hk hv hg
    count := ctr_entry m c
    state := by
      intro d h x e
      rw [hE, b5]
      pointwise []
      rfl
    kept := fun n hn => absurd hn (Nat.not_lt_zero _)
    out := fun n hn => absurd hn (Nat.not_lt_zero _) }

/-- What the buffers hold when the loop is done. -/
@[irreducible] def done : Valuation τ sig (Elt Ideal) := STEP^[64] (entryContents preI m c)

omit ha in
/-- The run, with what its loop leaves under a name. -/
theorem run_done (ρ : Dev nD → PrngReg) : θ_run (defs (F := Ideal)) (onTc (τ := τ) (main (F := Ideal))) ⟨m, fun _ => 0, ρ⟩ fun r => ∀ c : Dev nD,
      r.2.mem ((c.tc : Thread nD τ).loc main_v144) = out_main_v144 (done m c)
      ∧ r.2.mem ((c.tc : Thread nD τ).loc main_v149) = out_main_v149 (done m c)
      ∧ r.2.mem ((c.tc : Thread nD τ).loc main_v151) = out_main_v151 (done m c)
      ∧ r.2.mem ((c.tc : Thread nD τ).loc main_v154) = out_main_v154 (done m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold done
  exact run m ρ

/-- After all of them. -/
theorem held_end : Held (QA (m (c, Proc.devRef .tc main_arg0))) (KA (m (c, Proc.devRef .tc main_arg0)) (m (c, Proc.devRef .tc main_arg1))) (GA (m (c, Proc.devRef .tc main_arg0)) (m (c, Proc.devRef .tc main_arg1))) (VA (m (c, Proc.devRef .tc main_arg0))) 64 (done m c) := by
  unfold done
  exact Held.passes _ _ _ _ (held_entry m c a ha) 64 le_rfl
omit ha
section
variable (W : Valuation τ sig (Elt Ideal))
theorem out144 (r : Fin 4096) (j : Fin 512) : out_main_v144 W (ix2 r j) = W (Proc.devRef .tc main_v137_7)
    (ix5 ⟨r.val / 64, by omega⟩ 0 ⟨j.val / 128, by omega⟩ ⟨r.val % 64, by omega⟩ ⟨j.val % 128, by omega⟩) := by
  pointwise [out_main_v144]
theorem out149 (r : Fin 4096) (j : Fin 512) : out_main_v149 W (ix2 r j) = W (Proc.devRef .tc main_v137_7)
    (ix5 ⟨r.rev.val / 64, by omega⟩ 1 ⟨j.val / 128, by omega⟩ ⟨r.rev.val % 64, by omega⟩ ⟨j.val % 128, by omega⟩) := by
  pointwise [out_main_v149]
  rfl
theorem out151 (n : Fin 64) (h : Fin 4) (e : Fin 128) (x : Fin 128) : out_main_v151 W (ix4 n h e x) = W (Proc.devRef .tc main_v137_6) (ix5 n 0 h x e) := by
  pointwise [out_main_v151]
theorem out154 (n : Fin 64) (h : Fin 4) (e : Fin 128) (x : Fin 128) : out_main_v154 W (ix4 n h e x) = W (Proc.devRef .tc main_v137_6) (ix5 n.rev 1 h x e) := by
  pointwise [out_main_v154]
  rfl
end
end Cert.HgfRIdeal.Value
-- ==== Proof.HgfClaim.lean ====
/- The forward HGRU recurrence: the kernel's outputs and saved states are the reference's, on finite logits of the lower
   bound. -/
module

public import proofs.«01_k».proof.Defs
public import proofs.«01_k».proof.Proof.HgfKernel
public import proofs.«01_k».proof.Proof.HgfAll
public import proofs.«01_k».proof.Proof.Gen.HgfKIdeal.Value
public import proofs.«01_k».proof.Proof.Gen.Pre_finite_hgf

@[expose] public section

set_option maxRecDepth 16384

noncomputable section

open Idealize.ShloMosaic Idealize.ShloMosaic.TcCoe Idealize.SL.Sem Cert.Reals Cert.Hgf
open Cert.Glaf (rowOf)

namespace Cert.HgfClaim

instance : Cert.HgfKIdeal.Facts := Cert.HgfKIdeal.Gen.facts

/-- The precondition makes the two rows of logits real numbers. -/
theorem real {m : (ℓ : Loc Cert.HgfKIdeal.nD Cert.HgfKIdeal.τ Cert.HgfKIdeal.sig) → Buf (Elt Ideal) ℓ}
    (hp : Pre_HgfKIdeal_finite_hgf (hPre_finite_hgf := Cert.Pre_finite_hgf.Gen.facts) m) (c : Dev Cert.HgfKIdeal.nD) :
    ∃ a : Fin 2 → Fin 512 → ℝ, ∀ i j, m ((c : Thread Cert.HgfKIdeal.nD Cert.HgfKIdeal.τ).loc Cert.HgfKIdeal.main_arg1) (ix2 i j) = (a i j : EReal) := by
  have h := congrFun (hp c) (Shape.Idx.first (by decide))
  unfold Cert.Pre_finite_hgf.fn at h
  haveI : Subsingleton Cert.Pre_finite_hgf.S_.Idx := ⟨fun a b => funext fun i => i.elim0⟩
  obtain ⟨Z, hZ⟩ := finite_of_all _ _ _ _ _ _ h
  exact ⟨fun i j => Z (ix2 i j), fun i j => congrFun hZ _⟩

section
open Cert.HgfKIdeal Cert.HgfKIdeal.Value
variable {m : (ℓ : Loc nD τ sig) → Buf (Elt Ideal) ℓ} {m' : (ℓ : Loc Cert.HgfRIdeal.nD Cert.HgfRIdeal.τ Cert.HgfRIdeal.sig) → Buf (Elt Ideal) ℓ}
  {c : Dev nD}

/-- The logarithms of the decays are real numbers. -/
theorem gate_real {a : Fin 2 → Fin 512 → ℝ} (ha : ∀ i j, m ((c : Thread nD τ).loc main_arg1) (ix2 i j) = (a i j : EReal)) :
    ∃ γ : Fin 2 → Fin 4096 → Fin 512 → ℝ, ∀ d r j, lgK (lo m c j) (P m c r (fcol d j)) = (γ d r j : EReal) := by
  have h : ∀ d r j, ∃ g : ℝ, lgK (lo m c j) (P m c r (fcol d j)) = (g : EReal) := fun d r j => by
    unfold lo
    rw [ha, ha]
    exact lgK_real _ _ _
  choose γ hγ using h
  exact ⟨γ, hγ⟩

/-- The reference's output row is the kernel's. -/
theorem out_row (d : Fin 2) (r : Fin 4096) (j : Fin 512) :
    OD m c d r j = outO (Cert.HgfRIdeal.Value.QA (m ((c : Thread nD τ).loc main_arg0)) d (chunkOf d r)) (Cert.HgfRIdeal.Value.KA (m ((c : Thread nD τ).loc main_arg0)) (m ((c : Thread nD τ).loc main_arg1)) d (chunkOf d r))
      (Cert.HgfRIdeal.Value.VA (m ((c : Thread nD τ).loc main_arg0)) d (chunkOf d r)) (Cert.HgfRIdeal.Value.GA (m ((c : Thread nD τ).loc main_arg0)) (m ((c : Thread nD τ).loc main_arg1)) d (chunkOf d r))
      (states (Cert.HgfRIdeal.Value.KA (m ((c : Thread nD τ).loc main_arg0)) (m ((c : Thread nD τ).loc main_arg1)) d) (Cert.HgfRIdeal.Value.VA (m ((c : Thread nD τ).loc main_arg0)) d) (Cert.HgfRIdeal.Value.GA (m ((c : Thread nD τ).loc main_arg0)) (m ((c : Thread nD τ).loc main_arg1)) d) (chunkOf d r))
      (headOf j) (inChunk d r) (inHead j) := by
  unfold OD SD
  rfl

/-- The reference's saved state is the kernel's. -/
theorem state_at (d : Fin 2) (n : Fin 64) :
    TD m c d n = states (Cert.HgfRIdeal.Value.KA (m ((c : Thread nD τ).loc main_arg0)) (m ((c : Thread nD τ).loc main_arg1)) d) (Cert.HgfRIdeal.Value.VA (m ((c : Thread nD τ).loc main_arg0)) d) (Cert.HgfRIdeal.Value.GA (m ((c : Thread nD τ).loc main_arg0)) (m ((c : Thread nD τ).loc main_arg1)) d)
      (if d.val = 0 then n.val else 63 - n.val) := by
  unfold TD SD
  rfl

/-- The same of the reverse direction, its rows counted from the last. -/
theorem out_row1 (r : Fin 4096) (j : Fin 512) :
    OD m c 1 r j = outO (Cert.HgfRIdeal.Value.QA (m ((c : Thread nD τ).loc main_arg0)) 1 (r.rev.val / 64)) (Cert.HgfRIdeal.Value.KA (m ((c : Thread nD τ).loc main_arg0)) (m ((c : Thread nD τ).loc main_arg1)) 1 (r.rev.val / 64))
      (Cert.HgfRIdeal.Value.VA (m ((c : Thread nD τ).loc main_arg0)) 1 (r.rev.val / 64)) (Cert.HgfRIdeal.Value.GA (m ((c : Thread nD τ).loc main_arg0)) (m ((c : Thread nD τ).loc main_arg1)) 1 (r.rev.val / 64))
      (states (Cert.HgfRIdeal.Value.KA (m ((c : Thread nD τ).loc main_arg0)) (m ((c : Thread nD τ).loc main_arg1)) 1) (Cert.HgfRIdeal.Value.VA (m ((c : Thread nD τ).loc main_arg0)) 1) (Cert.HgfRIdeal.Value.GA (m ((c : Thread nD τ).loc main_arg0)) (m ((c : Thread nD τ).loc main_arg1)) 1) (r.rev.val / 64))
      (headOf j) ⟨r.rev.val % 64, by omega⟩ (inHead j) := by
  have hc : chunkOf 1 r = r.rev.val / 64 := congrArg (· / 64) (show 4095 - r.val = r.rev.val by rw [Fin.val_rev]; omega)
  have hi : inChunk 1 r = ⟨r.rev.val % 64, by omega⟩ := Fin.ext (congrArg (· % 64) (show 4095 - r.val = r.rev.val by rw [Fin.val_rev]; omega))
  rw [out_row, hc, hi]

/-- The reverse direction's states, its chunks counted from the last. -/
theorem state_at1 (n : Fin 64) :
    TD m c 1 n = states (Cert.HgfRIdeal.Value.KA (m ((c : Thread nD τ).loc main_arg0)) (m ((c : Thread nD τ).loc main_arg1)) 1) (Cert.HgfRIdeal.Value.VA (m ((c : Thread nD τ).loc main_arg0)) 1) (Cert.HgfRIdeal.Value.GA (m ((c : Thread nD τ).loc main_arg0)) (m ((c : Thread nD τ).loc main_arg1)) 1) n.rev.val := by
  have hn : (if (1 : Fin 2).val = 0 then n.val else 63 - n.val) = n.rev.val := by
    rw [if_neg (by decide), Fin.val_rev]
    omega
  rw [state_at, hn]
end

set_option maxHeartbeats 400000 in
theorem algebraic : Cert.algebraic_HgfKIdeal_HgfRIdeal_pre_finite_hgf (hHgfKIdeal := Cert.HgfKIdeal.Gen.facts)
    (hHgfRIdeal := Cert.HgfRIdeal.Gen.facts) (hPre_finite_hgf := Cert.Pre_finite_hgf.Gen.facts) := by
  pair_intro
  · run_from Cert.HgfKIdeal.Value.run_blocks m g
  · refine (θ_run _ _ _).mono (fun r h c => ?_) (Cert.HgfRIdeal.Value.run_done m' g')
    obtain ⟨a, ha⟩ := real hpre c
    have H := Cert.HgfRIdeal.Value.held_end m' c a (fun i j => (congrFun (hagree c).2 _).trans (ha i j))
    have e0 : m' (c, Proc.devRef .tc Cert.HgfRIdeal.main_arg0) = m ((c : Thread Cert.HgfKIdeal.nD Cert.HgfKIdeal.τ).loc Cert.HgfKIdeal.main_arg0) := (hagree c).1
    have e1 : m' (c, Proc.devRef .tc Cert.HgfRIdeal.main_arg1) = m ((c : Thread Cert.HgfKIdeal.nD Cert.HgfKIdeal.τ).loc Cert.HgfKIdeal.main_arg1) := (hagree c).2
    rw [e0, e1] at H
    obtain ⟨γ, hg⟩ := gate_real ha
    refine ⟨(h c).1.trans ?_, (h c).2.1.trans ?_, (h c).2.2.1.trans ?_, (h c).2.2.2.1.trans ?_, (h c).2.2.2.2.1, (h c).2.2.2.2.2⟩
    · refine Eq.trans ?_ (Cert.HgfKIdeal.Value.final8 m c γ hg).symm
      funext j
      idx_vars j
      exact (Cert.HgfRIdeal.Value.out144 _ _ _).trans ((H.out _ (Fin.isLt _) _ _ _ _).trans (out_row 0 j0 j1).symm)
    · refine Eq.trans ?_ (Cert.HgfKIdeal.Value.final9 m c γ hg).symm
      funext j
      idx_vars j
      exact (Cert.HgfRIdeal.Value.out149 _ _ _).trans ((H.out _ (Fin.isLt _) _ _ _ _).trans (out_row1 j0 j1).symm)
    · refine Eq.trans ?_ (Cert.HgfKIdeal.Value.final10 m c γ hg).symm
      funext j
      idx_vars j
      exact (Cert.HgfRIdeal.Value.out151 _ _ _ _ _).trans ((H.kept _ (Fin.isLt _) _ _ _ _).trans (congrFun (congrFun (congrFun (state_at 0 j0) j1) j2) j3).symm)
    · refine Eq.trans ?_ (Cert.HgfKIdeal.Value.final11 m c γ hg).symm
      funext j
      idx_vars j
      exact (Cert.HgfRIdeal.Value.out154 _ _ _ _ _).trans ((H.kept _ (Fin.isLt _) _ _ _ _).trans (congrFun (congrFun (congrFun (state_at1 j0) j1) j2) j3).symm)

end Cert.HgfClaim

end
-- ==== Proof.MresKernel.lean ====
/- A product with the residual added: what one block of 512 rows computes, and what the result array holds after the run. -/
module

public import proofs.«01_k».proof.Proof.Gen.MresKIdeal.Value
public import proofs.«01_k».proof.Proof.Reals
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Reals
open Idealize.ShloMosaic.Pipeline (Dat)

namespace Cert.MresKIdeal.Value

open Cert.MresKIdeal Cert.MresKIdeal.Gen

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

variable (m : (ℓ : Loc nD τ sig) → Buf (Elt Ideal) ℓ) (c : Dev nD)

/-- The row of the array that row `r` of block `t` is. -/
def row (t : Fin cfg0.N) (r : Fin 512) : Fin 4096 := ⟨t.val * 512 + r.val, by have := lt_of_lt_of_eq t.isLt N_0; omega⟩

/-- The entries of the arguments. -/
def aA (i : Fin 4096) (k : Fin 1024) : EReal := m ((c : Thread nD τ).loc main_arg0) (ix2 i k)
def aW (i : Fin 1024) (k : Fin 1024) : EReal := m ((c : Thread nD τ).loc main_arg1) (ix2 i k)
def aR (i : Fin 4096) (k : Fin 1024) : EReal := m ((c : Thread nD τ).loc main_arg2) (ix2 i k)

variable (t : Fin cfg0.N) (r : Fin 512)

theorem blk0 (k : Fin 1024) : iblk m c 0 t (ix2 r k) = aA m c (row t r) k := by
  unfold aA
  blk_simp [iblk, idx t]
  entry_read
  pointwise
  blk_ext [idx t, row]
theorem blk1 (k n : Fin 1024) : iblk m c 1 t (ix2 k n) = aW m c k n := by
  unfold aW
  blk_simp [iblk, idx t]
  entry_read
  pointwise
  blk_ext [idx t]
theorem blk2 (k : Fin 1024) : iblk m c 2 t (ix2 r k) = aR m c (row t r) k := by
  unfold aR
  blk_ext [iblk, V, idx t, row]

/-- An entry of the result. -/
def out (i : Fin 4096) (n : Fin 1024) : EReal := aR m c i n + ∑ k, aA m c i k * aW m c k n

theorem after3 (y : S512x1024.Idx) : (dats m 0 c).after 3 t y = out m c (row t (y 0)) (y 1) := by
  rw [after0_3]
  idx_vars y
  frame_out
  unfold out
  pointwise [k0_pay1, blk0, blk1, blk2]

/-- The result after the run. -/
theorem final3 : (dats m 0 c).arrAt 3 (cfgs 0).N = fun i => out m c (i 0) (i 1) := by
  refine (dats m 0 c).arrAt_eq_of_covers 3 _ (by decide +kernel) fun t _ y => ?_
  rw [after3]
  blk_simp [idx t, row]
  refine congrArg₂ (out m c) (Fin.ext ?_) (Fin.ext ?_) <;> blk_simp [idx t] <;> try omega

end Cert.MresKIdeal.Value

end
-- ==== Proof.MresClaim.lean ====
/- A product with the residual added: the kernel's result is that of the reference, on any extended reals. -/
module

public import proofs.«01_k».proof.Defs
public import proofs.«01_k».proof.Proof.MresKernel
public import proofs.«01_k».proof.Proof.Gen.MresRIdeal.Run

@[expose] public section

set_option maxRecDepth 16384

noncomputable section

open Idealize.ShloMosaic Idealize.ShloMosaic.TcCoe Idealize.SL.Sem Cert.Reals

namespace Cert.MresClaim

instance : Cert.MresKIdeal.Facts := Cert.MresKIdeal.Gen.facts

open Cert.MresKIdeal.Value

set_option maxHeartbeats 2000000 in
theorem algebraic : Cert.algebraic_MresKIdeal_MresRIdeal (hMresKIdeal := Cert.MresKIdeal.Gen.facts)
    (hMresRIdeal := Cert.MresRIdeal.Gen.facts) := by
  pair_intro
  · run_from Cert.MresKIdeal.Value.run_blocks m g
  · run_from Cert.MresRIdeal.Value.run m' g'
    · rw [Cert.MresKIdeal.Value.final3]
      funext j
      idx_vars j
      pointwise
      show _ = _
      rfl

end Cert.MresClaim

end
-- ==== Proof.WgrKernel.lean ====
/- A weight's gradient in the column ranges of the eight devices: what one block of 512 columns computes, and what the result array
   holds after the run. -/
module

public import proofs.«01_k».proof.Proof.Gen.WgrKIdeal.Value
public import proofs.«01_k».proof.Proof.Reals
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Reals
open Idealize.ShloMosaic.Pipeline (Dat)

namespace Cert.WgrKIdeal.Value

open Cert.WgrKIdeal Cert.WgrKIdeal.Gen

theorem idx : ∀ t : Fin cfg0.N, win0_0.index t = ![0, 0] ∧ win0_1.index t = ![0, t.val] ∧ win0_2.index t = ![t.val, 0, 0] :=
  (by decide +kernel : ∀ t : Fin grid0.N, _)

variable (m : (ℓ : Loc nD τ sig) → Buf (Elt Ideal) ℓ) (c : Dev nD)

/-- The device of block `t`. -/
def dev (t : Fin cfg0.N) : Fin 8 := ⟨t.val, lt_of_lt_of_eq t.isLt N_0⟩

/-- The entries of the arguments. -/
def aA (i : Fin 4096) (k : Fin 1024) : EReal := m ((c : Thread nD τ).loc main_arg0) (ix2 i k)
def aB (i : Fin 4096) (k : Fin 4096) : EReal := m ((c : Thread nD τ).loc main_arg1) (ix2 i k)

variable (t : Fin cfg0.N) (r : Fin 4096)

theorem blk0 (k : Fin 1024) : iblk m c 0 t (ix2 r k) = aA m c r k := by
  unfold aA
  blk_simp [iblk, idx t]
  entry_read
  pointwise
  blk_ext [idx t]
theorem blk1 (n : Fin 512) : iblk m c 1 t (ix2 r n) = aB m c r ⟨(dev t).val * 512 + n.val, by omega⟩ := by
  unfold aB
  blk_simp [iblk, idx t]
  entry_read
  pointwise
  blk_ext [idx t, dev]

/-- An entry of the result. -/
def out (d : Fin 8) (k : Fin 1024) (n : Fin 512) : EReal := ∑ r, aA m c r k * aB m c r ⟨d.val * 512 + n.val, by omega⟩

theorem after2 (y : S1x1024x512.Idx) : (dats m 0 c).after 2 t y = out m c (dev t) (y 1) (y 2) := by
  rw [after0_2]
  idx_vars y
  frame_out
  unfold out
  pointwise [k0_pay1, blk0, blk1]

theorem out_congr {d d' : Fin 8} {k k' : Fin 1024} {n n' : Fin 512} (hd : d.val = d'.val) (hk : k.val = k'.val) (hn : n.val = n'.val) :
    out m c d k n = out m c d' k' n' := by
  obtain rfl := Fin.ext hd
  obtain rfl := Fin.ext hk
  obtain rfl := Fin.ext hn
  rfl

/-- The result after the run. -/
theorem final2 : (dats m 0 c).arrAt 2 (cfgs 0).N = fun i => out m c (i 0) (i 1) (i 2) := by
  refine (dats m 0 c).arrAt_eq_of_covers 2 _ (by decide +kernel) fun t _ y => ?_
  rw [after2]
  blk_simp [idx t, dev]
  refine out_congr m c ?_ ?_ ?_ <;> blk_simp [idx t] <;> try omega

end Cert.WgrKIdeal.Value

end
-- ==== Proof.WgrClaim.lean ====
/- A weight's gradient: the kernel's result is that of the reference, on any extended reals. -/
module

public import proofs.«01_k».proof.Defs
public import proofs.«01_k».proof.Proof.WgrKernel
public import proofs.«01_k».proof.Proof.Gen.WgrRIdeal.Run

@[expose] public section

set_option maxRecDepth 16384

noncomputable section

open Idealize.ShloMosaic Idealize.ShloMosaic.TcCoe Idealize.SL.Sem Cert.Reals

namespace Cert.WgrClaim

instance : Cert.WgrKIdeal.Facts := Cert.WgrKIdeal.Gen.facts

open Cert.WgrKIdeal.Value

set_option maxHeartbeats 2000000 in
theorem algebraic : Cert.algebraic_WgrKIdeal_WgrRIdeal (hWgrKIdeal := Cert.WgrKIdeal.Gen.facts)
    (hWgrRIdeal := Cert.WgrRIdeal.Gen.facts) := by
  pair_intro
  · run_from Cert.WgrKIdeal.Value.run_blocks m g
  · run_from Cert.WgrRIdeal.Value.run m' g'
    · rw [Cert.WgrKIdeal.Value.final2]
      funext j
      idx_vars j
      pointwise
      exact Finset.sum_congr rfl fun x _ => mul_comm (aB m c x ⟨j0.val * 512 + j2.val, by omega⟩) (aA m c x j1)

end Cert.WgrClaim

end
-- ==== Proof.AdamW.lean ====
/- One step of the optimiser at one entry, over the extended reals. -/
module

public import proofs.«01_k».proof.Proof.Reals

@[expose] public section

noncomputable section

open Idealize.ShloMosaic

namespace Cert.AdamW

/-- The two moments after the step, from those before and the gradient, -/
def mom1 (m g : EReal) : EReal := Ideal.ofBits .f32 0x3F666666#32 * m + Ideal.ofBits .f32 0x3DCCCCCD#32 * g
def mom2 (v g : EReal) : EReal := Ideal.ofBits .f32 0x3F7FBE77#32 * v + Ideal.ofBits .f32 0x3A83126F#32 * (g * g)

/-- and the change of the weight. -/
def delta (w g m v : EReal) : EReal :=
  Ideal.ofBits .f32 0xBA83126F#32 * (Ideal.div (Ideal.div (mom1 m g) (Ideal.ofBits .f32 0x3F26BD02#32))
    (Ideal.sqrt (Ideal.div (mom2 v g) (Ideal.ofBits .f32 0x3C231ACC#32)) + Ideal.ofBits .f32 0x322BCC77#32)
      + Ideal.ofBits .f32 0x3C23D70A#32 * w)

end Cert.AdamW

end
-- ==== Proof.AdwKernel.lean ====
/- The optimiser on one weight: what one block of 256 rows computes, and what the result arrays hold after the run. -/
module

public import proofs.«01_k».proof.Proof.Gen.AdwKIdeal.Value
public import proofs.«01_k».proof.Proof.AdamW
public import proofs.«01_k».proof.Proof.Reals
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Reals
open Idealize.ShloMosaic.Pipeline (Dat)
open Cert.AdamW

namespace Cert.AdwKIdeal.Value

open Cert.AdwKIdeal Cert.AdwKIdeal.Gen

theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

variable (m : (ℓ : Loc nD τ sig) → Buf (Elt Ideal) ℓ) (c : Dev nD)

/-- The row of the array that row `r` of block `t` is. -/
def row (t : Fin cfg0.N) (r : Fin 256) : Fin 1024 := ⟨t.val * 256 + r.val, by have := lt_of_lt_of_eq t.isLt N_0; omega⟩

/-- The entries of the arguments. -/
def aW (i : Fin 1024) (k : Fin 448) : EReal := m ((c : Thread nD τ).loc main_arg0) (ix3 0 i k)
def aG (i : Fin 1024) (k : Fin 448) : EReal := m ((c : Thread nD τ).loc main_arg1) (ix2 i k)
def aP (j : Fin 3) (i : Fin 1024) (k : Fin 448) : EReal := m ((c : Thread nD τ).loc main_arg2) (ix3 j i k)
def aM (i : Fin 1024) (k : Fin 448) : EReal := m ((c : Thread nD τ).loc main_arg3) (ix3 0 i k)
def aV (i : Fin 1024) (k : Fin 448) : EReal := m ((c : Thread nD τ).loc main_arg4) (ix3 0 i k)

variable (t : Fin cfg0.N) (r : Fin 256)

theorem blk0 (k : Fin 448) : iblk m c 0 t (ix3 0 r k) = aW m c (row t r) k := by
  unfold aW
  blk_ext [iblk, V, idx t, row]
theorem blk1 (k : Fin 448) : iblk m c 1 t (ix2 r k) = aG m c (row t r) k := by
  unfold aG
  blk_ext [iblk, V, idx t, row]
theorem blk2 (j : Fin 3) (k : Fin 448) : iblk m c 2 t (ix3 j r k) = aP m c j (row t r) k := by
  unfold aP
  blk_simp [iblk, idx t]
  entry_read
  pointwise
  blk_ext [idx t, row]
theorem blk3 (k : Fin 448) : iblk m c 3 t (ix3 0 r k) = aM m c (row t r) k := by
  unfold aM
  blk_ext [iblk, V, idx t, row]
theorem blk4 (k : Fin 448) : iblk m c 4 t (ix3 0 r k) = aV m c (row t r) k := by
  unfold aV
  blk_ext [iblk, V, idx t, row]

/-- An entry of the gradient, the sum of the four parts; of the change of the weight; of the two moments. -/
def grad (i : Fin 1024) (k : Fin 448) : EReal := aG m c i k + ∑ j, aP m c j i k
def dlt (i : Fin 1024) (k : Fin 448) : EReal := delta (aW m c i k) (grad m c i k) (aM m c i k) (aV m c i k)
def m1 (i : Fin 1024) (k : Fin 448) : EReal := mom1 (aM m c i k) (grad m c i k)
def m2 (i : Fin 1024) (k : Fin 448) : EReal := mom2 (aV m c i k) (grad m c i k)

theorem grad_eq (i : Fin 1024) (k : Fin 448) : grad m c i k = aG m c i k + aP m c 0 i k + aP m c 1 i k + aP m c 2 i k := by
  unfold grad
  rw [Fin.sum_univ_three, ← add_assoc, ← add_assoc]

theorem after5 (y : S1x256x448.Idx) : (dats m 0 c).after 5 t y = grad m c (row t (y 1)) (y 2) := by
  rw [after0_5]
  idx_vars y
  frame_out
  rw [grad_eq]
  pointwise [k0_pay1, k0_pay5, blk0, blk1, blk2, blk3, blk4]

/-- The result after the run. -/
theorem final5 : (dats m 0 c).arrAt 5 (cfgs 0).N = fun i => grad m c (i 1) (i 2) := by
  refine (dats m 0 c).arrAt_eq_of_covers 5 _ (by decide +kernel) fun t _ y => ?_
  rw [after5]
  blk_simp [idx t, row]
  refine congrArg₂ (grad m c) (Fin.ext ?_) (Fin.ext ?_) <;> blk_simp [idx t] <;> try omega

theorem after6 (y : S1x256x448.Idx) : (dats m 0 c).after 6 t y = dlt m c (row t (y 1)) (y 2) := by
  rw [after0_6]
  idx_vars y
  frame_out
  unfold dlt
  unfold delta mom1 mom2
  rw [grad_eq]
  pointwise [k0_pay2, k0_pay5, k0_pay6, k0_pay7, k0_pay8, k0_pay9, k0_pay10, k0_pay11, blk0, blk1, blk2, blk3, blk4]

/-- The result after the run. -/
theorem final6 : (dats m 0 c).arrAt 6 (cfgs 0).N = fun i => dlt m c (i 1) (i 2) := by
  refine (dats m 0 c).arrAt_eq_of_covers 6 _ (by decide +kernel) fun t _ y => ?_
  rw [after6]
  blk_simp [idx t, row]
  refine congrArg₂ (dlt m c) (Fin.ext ?_) (Fin.ext ?_) <;> blk_simp [idx t] <;> try omega

theorem after7 (y : S1x256x448.Idx) : (dats m 0 c).after 7 t y = m1 m c (row t (y 1)) (y 2) := by
  rw [after0_7]
  idx_vars y
  frame_out
  unfold m1
  unfold mom1
  rw [grad_eq]
  pointwise [k0_pay3, k0_pay7, k0_pay5, blk0, blk1, blk2, blk3, blk4]

/-- The result after the run. -/
theorem final7 : (dats m 0 c).arrAt 7 (cfgs 0).N = fun i => m1 m c (i 1) (i 2) := by
  refine (dats m 0 c).arrAt_eq_of_covers 7 _ (by decide +kernel) fun t _ y => ?_
  rw [after7]
  blk_simp [idx t, row]
  refine congrArg₂ (m1 m c) (Fin.ext ?_) (Fin.ext ?_) <;> blk_simp [idx t] <;> try omega

theorem after8 (y : S1x256x448.Idx) : (dats m 0 c).after 8 t y = m2 m c (row t (y 1)) (y 2) := by
  rw [after0_8]
  idx_vars y
  frame_out
  unfold m2
  unfold mom2
  rw [grad_eq]
  pointwise [k0_pay4, k0_pay11, k0_pay8, k0_pay5, blk0, blk1, blk2, blk3, blk4]

/-- The result after the run. -/
theorem final8 : (dats m 0 c).arrAt 8 (cfgs 0).N = fun i => m2 m c (i 1) (i 2) := by
  refine (dats m 0 c).arrAt_eq_of_covers 8 _ (by decide +kernel) fun t _ y => ?_
  rw [after8]
  blk_simp [idx t, row]
  refine congrArg₂ (m2 m c) (Fin.ext ?_) (Fin.ext ?_) <;> blk_simp [idx t] <;> try omega

end Cert.AdwKIdeal.Value

end
-- ==== Proof.AdwClaim.lean ====
/- The optimiser on one weight: the kernel's results are those of the reference, on any extended reals. -/
module

public import proofs.«01_k».proof.Defs
public import proofs.«01_k».proof.Proof.AdwKernel
public import proofs.«01_k».proof.Proof.Gen.AdwRIdeal.Run

@[expose] public section

set_option maxRecDepth 16384

noncomputable section

open Idealize.ShloMosaic Idealize.ShloMosaic.TcCoe Idealize.SL.Sem Cert.Reals

namespace Cert.AdwClaim

instance : Cert.AdwKIdeal.Facts := Cert.AdwKIdeal.Gen.facts

open Cert.AdwKIdeal.Value

set_option maxHeartbeats 2000000 in
theorem algebraic : Cert.algebraic_AdwKIdeal_AdwRIdeal (hAdwKIdeal := Cert.AdwKIdeal.Gen.facts)
    (hAdwRIdeal := Cert.AdwRIdeal.Gen.facts) := by
  pair_intro
  · run_from Cert.AdwKIdeal.Value.run_blocks m g
  · run_from Cert.AdwRIdeal.Value.run m' g'
    · rw [Cert.AdwKIdeal.Value.final5]
      funext j
      idx_vars j
      pointwise
      obtain rfl : j0 = 0 := Subsingleton.elim _ _
      show _ = _
      rfl
    · rw [Cert.AdwKIdeal.Value.final6]
      funext j
      idx_vars j
      pointwise
      obtain rfl : j0 = 0 := Subsingleton.elim _ _
      show _ = _
      rfl
    · rw [Cert.AdwKIdeal.Value.final7]
      funext j
      idx_vars j
      pointwise
      obtain rfl : j0 = 0 := Subsingleton.elim _ _
      show _ = _
      rfl
    · rw [Cert.AdwKIdeal.Value.final8]
      funext j
      idx_vars j
      pointwise
      obtain rfl : j0 = 0 := Subsingleton.elim _ _
      show _ = _
      rfl

end Cert.AdwClaim

end
-- ==== Proof.AdlKernel.lean ====
/- The optimiser on two layers' weight: what one block of 256 rows of a layer computes, and what the result arrays hold after the run. -/
module

public import proofs.«01_k».proof.Proof.Gen.AdlKIdeal.Value
public import proofs.«01_k».proof.Proof.AdamW
public import proofs.«01_k».proof.Proof.Reals
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Reals
open Idealize.ShloMosaic.Pipeline (Dat)
open Cert.AdamW

namespace Cert.AdlKIdeal.Value

open Cert.AdlKIdeal Cert.AdlKIdeal.Gen

theorem idx : ∀ t : Fin cfg0.N, win0_0.index t = ![t.val / 4, t.val % 4, 0] ∧ win0_1.index t = ![t.val % 4, 0]
    ∧ win0_2.index t = ![0, t.val % 4, 0] ∧ win0_3.index t = ![t.val % 4, 0] ∧ win0_4.index t = ![0, t.val % 4, 0]
    ∧ win0_5.index t = ![t.val / 4, t.val % 4, 0] ∧ win0_6.index t = ![t.val / 4, t.val % 4, 0]
    ∧ win0_7.index t = ![t.val / 4, t.val % 4, 0] ∧ win0_8.index t = ![t.val / 4, t.val % 4, 0]
    ∧ win0_9.index t = ![t.val / 4, t.val % 4, 0] ∧ win0_10.index t = ![t.val / 4, t.val % 4, 0] :=
  (by decide +kernel : ∀ t : Fin grid0.N, _)

/-- The layer of block `t`, -/
def lay (t : Fin cfg0.N) : Fin 2 := ⟨t.val / 4, by have := lt_of_lt_of_eq t.isLt N_0; omega⟩

/-- and the test for the first one. -/
theorem first : ∀ t : Fin cfg0.N, Scalar.cmpi .eq (BitVec.ofNat 32 ((grid0.coords t) 0).val) 0#32 = if (lay t).val < 1 then 1#1 else 0#1 :=
  (by decide +kernel : ∀ t : Fin grid0.N, _)

variable (m : (ℓ : Loc nD τ sig) → Buf (Elt Ideal) ℓ) (c : Dev nD)

/-- The row of the array that row `r` of block `t` is. -/
def row (t : Fin cfg0.N) (r : Fin 256) : Fin 1024 := ⟨t.val % 4 * 256 + r.val, by omega⟩

/-- The entries of the arguments. -/
def aW (l : Fin 2) (i : Fin 1024) (k : Fin 512) : EReal := m ((c : Thread nD τ).loc main_arg0) (ix3 l i k)
def aG0 (i : Fin 1024) (k : Fin 512) : EReal := m ((c : Thread nD τ).loc main_arg1) (ix2 i k)
def aP0 (j : Fin 3) (i : Fin 1024) (k : Fin 512) : EReal := m ((c : Thread nD τ).loc main_arg2) (ix3 j i k)
def aG1 (i : Fin 1024) (k : Fin 512) : EReal := m ((c : Thread nD τ).loc main_arg3) (ix2 i k)
def aP1 (j : Fin 3) (i : Fin 1024) (k : Fin 512) : EReal := m ((c : Thread nD τ).loc main_arg4) (ix3 j i k)
def aM (l : Fin 2) (i : Fin 1024) (k : Fin 512) : EReal := m ((c : Thread nD τ).loc main_arg5) (ix3 l i k)
def aV (l : Fin 2) (i : Fin 1024) (k : Fin 512) : EReal := m ((c : Thread nD τ).loc main_arg6) (ix3 l i k)

variable (t : Fin cfg0.N) (r : Fin 256)

theorem blk0 (k : Fin 512) : iblk m c 0 t (ix3 0 r k) = aW m c (lay t) (row t r) k := by
  unfold aW
  blk_ext [iblk, V, idx t, row, lay]
theorem blk1 (k : Fin 512) : iblk m c 1 t (ix2 r k) = aG0 m c (row t r) k := by
  unfold aG0
  blk_ext [iblk, V, idx t, row]
theorem blk2 (j : Fin 3) (k : Fin 512) : iblk m c 2 t (ix3 j r k) = aP0 m c j (row t r) k := by
  unfold aP0
  blk_simp [iblk, idx t]
  entry_read
  pointwise
  blk_ext [idx t, row]
theorem blk3 (k : Fin 512) : iblk m c 3 t (ix2 r k) = aG1 m c (row t r) k := by
  unfold aG1
  blk_ext [iblk, V, idx t, row]
theorem blk4 (j : Fin 3) (k : Fin 512) : iblk m c 4 t (ix3 j r k) = aP1 m c j (row t r) k := by
  unfold aP1
  blk_simp [iblk, idx t]
  entry_read
  pointwise
  blk_ext [idx t, row]
theorem blk5 (k : Fin 512) : iblk m c 5 t (ix3 0 r k) = aM m c (lay t) (row t r) k := by
  unfold aM
  blk_ext [iblk, V, idx t, row, lay]
theorem blk6 (k : Fin 512) : iblk m c 6 t (ix3 0 r k) = aV m c (lay t) (row t r) k := by
  unfold aV
  blk_ext [iblk, V, idx t, row, lay]

/-- An entry of a layer's gradient, the sum of the four parts; of the change of the weight; of the two moments. -/
def grad (l : Fin 2) (i : Fin 1024) (k : Fin 512) : EReal :=
  if h : l.val < 1 then aG0 m c i k + ∑ j, aP0 m c j i k else aG1 m c i k + ∑ j, aP1 m c j i k
def dlt (l : Fin 2) (i : Fin 1024) (k : Fin 512) : EReal := delta (aW m c l i k) (grad m c l i k) (aM m c l i k) (aV m c l i k)
def m1 (l : Fin 2) (i : Fin 1024) (k : Fin 512) : EReal := mom1 (aM m c l i k) (grad m c l i k)
def m2 (l : Fin 2) (i : Fin 1024) (k : Fin 512) : EReal := mom2 (aV m c l i k) (grad m c l i k)

/-- The gradient's block. -/
theorem grad_blk (k : Fin 512) : k0_pay9 (grid0.coords t) (iblk m c 0 t) (iblk m c 1 t) (iblk m c 2 t) (iblk m c 3 t) (iblk m c 4 t)
    (iblk m c 5 t) (iblk m c 6 t) (ix2 r k) = grad m c (lay t) (row t r) k := by
  unfold grad k0_pay9
  simp only [Fin.sum_univ_three, ← add_assoc]
  open_payloads
  pointwise [k0_pay3, first, blk1, blk2, blk3, blk4]
  by_cases h : (lay t).val < 1
  · rw [if_pos h, dif_pos h]
    rfl
  · rw [if_neg h, dif_neg h]
    rfl

/-- Three equal indices give equal entries. -/
theorem congr3 (f : Fin 2 → Fin 1024 → Fin 512 → EReal) {l l' : Fin 2} {i i' : Fin 1024} {k k' : Fin 512} (hl : l.val = l'.val)
    (hi : i.val = i'.val) (hk : k.val = k'.val) : f l i k = f l' i' k' := by
  obtain rfl := Fin.ext hl
  obtain rfl := Fin.ext hi
  obtain rfl := Fin.ext hk
  rfl

theorem after7 (y : S1x256x512.Idx) : (dats m 0 c).after 7 t y = grad m c (lay t) (row t (y 1)) (y 2) := by
  rw [after0_7]
  idx_vars y
  frame_out
  pointwise [k0_pay7, grad_blk, blk0, blk5, blk6]

/-- The result after the run. -/
theorem final7 : (dats m 0 c).arrAt 7 (cfgs 0).N = fun i => grad m c (i 0) (i 1) (i 2) := by
  refine (dats m 0 c).arrAt_eq_of_covers 7 _ (by decide +kernel) fun t _ y => ?_
  rw [after7]
  blk_simp [idx t, row, lay]
  refine congr3 (grad m c) ?_ ?_ ?_ <;> blk_simp [idx t] <;> try omega

theorem after8 (y : S1x256x512.Idx) : (dats m 0 c).after 8 t y = dlt m c (lay t) (row t (y 1)) (y 2) := by
  rw [after0_8]
  idx_vars y
  frame_out
  unfold dlt delta mom1 mom2
  pointwise [k0_pay8, k0_pay5, k0_pay6, k0_pay4, grad_blk, blk0, blk5, blk6]

/-- The result after the run. -/
theorem final8 : (dats m 0 c).arrAt 8 (cfgs 0).N = fun i => dlt m c (i 0) (i 1) (i 2) := by
  refine (dats m 0 c).arrAt_eq_of_covers 8 _ (by decide +kernel) fun t _ y => ?_
  rw [after8]
  blk_simp [idx t, row, lay]
  refine congr3 (dlt m c) ?_ ?_ ?_ <;> blk_simp [idx t] <;> try omega

theorem after9 (y : S1x256x512.Idx) : (dats m 0 c).after 9 t y = m1 m c (lay t) (row t (y 1)) (y 2) := by
  rw [after0_9]
  idx_vars y
  frame_out
  unfold m1 mom1
  pointwise [k0_pay1, k0_pay5, grad_blk, blk0, blk5, blk6]

/-- The result after the run. -/
theorem final9 : (dats m 0 c).arrAt 9 (cfgs 0).N = fun i => m1 m c (i 0) (i 1) (i 2) := by
  refine (dats m 0 c).arrAt_eq_of_covers 9 _ (by decide +kernel) fun t _ y => ?_
  rw [after9]
  blk_simp [idx t, row, lay]
  refine congr3 (m1 m c) ?_ ?_ ?_ <;> blk_simp [idx t] <;> try omega

theorem after10 (y : S1x256x512.Idx) : (dats m 0 c).after 10 t y = m2 m c (lay t) (row t (y 1)) (y 2) := by
  rw [after0_10]
  idx_vars y
  frame_out
  unfold m2 mom2
  pointwise [k0_pay2, k0_pay6, grad_blk, blk0, blk5, blk6]

/-- The result after the run. -/
theorem final10 : (dats m 0 c).arrAt 10 (cfgs 0).N = fun i => m2 m c (i 0) (i 1) (i 2) := by
  refine (dats m 0 c).arrAt_eq_of_covers 10 _ (by decide +kernel) fun t _ y => ?_
  rw [after10]
  blk_simp [idx t, row, lay]
  refine congr3 (m2 m c) ?_ ?_ ?_ <;> blk_simp [idx t] <;> try omega

end Cert.AdlKIdeal.Value

end
-- ==== Proof.AdlClaim.lean ====
/- The optimiser on two layers' weight: the kernel's results are those of the reference, on any extended reals. -/
module

public import proofs.«01_k».proof.Defs
public import proofs.«01_k».proof.Proof.AdlKernel
public import proofs.«01_k».proof.Proof.Gen.AdlRIdeal.Run

@[expose] public section

set_option maxRecDepth 16384

noncomputable section

open Idealize.ShloMosaic Idealize.ShloMosaic.TcCoe Idealize.SL.Sem Cert.Reals

namespace Cert.AdlClaim

instance : Cert.AdlKIdeal.Facts := Cert.AdlKIdeal.Gen.facts

open Cert.AdlKIdeal.Value

set_option maxHeartbeats 2000000 in
theorem algebraic : Cert.algebraic_AdlKIdeal_AdlRIdeal (hAdlKIdeal := Cert.AdlKIdeal.Gen.facts)
    (hAdlRIdeal := Cert.AdlRIdeal.Gen.facts) := by
  pair_intro
  · run_from Cert.AdlKIdeal.Value.run_blocks m g
  · run_from Cert.AdlRIdeal.Value.run m' g'
    · obtain ⟨_, h1, h2, h3, h4, _⟩ := hagree c
      rw [Cert.AdlKIdeal.Value.final7]
      funext j
      idx_vars j
      pointwise
      rw [h1, h2, h3, h4]
      rfl
    · obtain ⟨_, h1, h2, h3, h4, _⟩ := hagree c
      rw [Cert.AdlKIdeal.Value.final8]
      funext j
      idx_vars j
      pointwise
      rw [h1, h2, h3, h4]
      rfl
    · obtain ⟨_, h1, h2, h3, h4, _⟩ := hagree c
      rw [Cert.AdlKIdeal.Value.final9]
      funext j
      idx_vars j
      pointwise
      rw [h1, h2, h3, h4]
      rfl
    · obtain ⟨_, h1, h2, h3, h4, _⟩ := hagree c
      rw [Cert.AdlKIdeal.Value.final10]
      funext j
      idx_vars j
      pointwise
      rw [h1, h2, h3, h4]
      rfl

end Cert.AdlClaim

end
-- ==== Proof.AdhClaim.lean ====
/- The optimiser on a small weight: the kernel's results are those of the reference, on any extended reals. -/
module

public import proofs.«01_k».proof.Defs
public import proofs.«01_k».proof.Proof.Gen.AdhKIdeal.Value
public import proofs.«01_k».proof.Proof.Reals
public import Idealize.ShloMosaic.Lib.Pipeline.ValueKit
public import Idealize.ShloMosaic.Lib.Claim
public import proofs.«01_k».proof.Proof.Gen.AdhRIdeal.Run

@[expose] public section

set_option maxRecDepth 16384

noncomputable section

open Idealize.ShloMosaic Idealize.ShloMosaic.TcCoe Idealize.SL.Sem Cert.Reals

namespace Cert.AdhClaim

instance : Cert.AdhKIdeal.Facts := Cert.AdhKIdeal.Gen.facts

open Cert.AdhKIdeal.Value

set_option maxHeartbeats 2000000 in
theorem algebraic : Cert.algebraic_AdhKIdeal_AdhRIdeal (hAdhKIdeal := Cert.AdhKIdeal.Gen.facts)
    (hAdhRIdeal := Cert.AdhRIdeal.Gen.facts) := by
  pair_intro
  · run_from Cert.AdhKIdeal.Value.run m g
  · run_from Cert.AdhRIdeal.Value.run m' g'
    · funext j
      idx_vars j
      pointwise [Cert.AdhKIdeal.Gen.k0_pay1, Cert.AdhKIdeal.Gen.k0_pay2, Cert.AdhKIdeal.Gen.k0_pay3, Cert.AdhKIdeal.Value.G5]
    · funext j
      idx_vars j
      pointwise [Cert.AdhKIdeal.Gen.k0_pay1, Cert.AdhKIdeal.Gen.k0_pay2, Cert.AdhKIdeal.Gen.k0_pay3, Cert.AdhKIdeal.Value.G6]
    · funext j
      idx_vars j
      pointwise [Cert.AdhKIdeal.Gen.k0_pay1, Cert.AdhKIdeal.Gen.k0_pay2, Cert.AdhKIdeal.Gen.k0_pay3, Cert.AdhKIdeal.Value.G7]

end Cert.AdhClaim

end
-- ==== Proof.SumsKernel.lean ====
/- The sum over the eight parts: what one block of 256 rows computes, and what the result array holds after the run. -/
module

public import proofs.«01_k».proof.Proof.Gen.SumsKIdeal.Value
public import proofs.«01_k».proof.Proof.Reals
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Reals
open Idealize.ShloMosaic.Pipeline (Dat)

namespace Cert.SumsKIdeal.Value

open Cert.SumsKIdeal Cert.SumsKIdeal.Gen

theorem idx : ∀ t : Fin cfg0.N, win0_0.index t = ![0, t.val, 0] ∧ win0_1.index t = ![t.val, 0] :=
  (by decide +kernel : ∀ t : Fin grid0.N, _)

variable (m : (ℓ : Loc nD τ sig) → Buf (Elt Ideal) ℓ) (c : Dev nD)

/-- The row of the array that row `r` of block `t` is. -/
def row (t : Fin cfg0.N) (r : Fin 256) : Fin 1280 := ⟨t.val * 256 + r.val, by have := lt_of_lt_of_eq t.isLt N_0; omega⟩

/-- The entries of the argument. -/
def aG (j : Fin 8) (i : Fin 1280) (k : Fin 128) : EReal := m ((c : Thread nD τ).loc main_arg0) (ix3 j i k)

variable (t : Fin cfg0.N) (r : Fin 256)

theorem blk0 (j : Fin 8) (k : Fin 128) : iblk m c 0 t (ix3 j r k) = aG m c j (row t r) k := by
  unfold aG
  blk_ext [iblk, V, idx t, row]

/-- An entry of the result. -/
def out (i : Fin 1280) (k : Fin 128) : EReal := ∑ j, aG m c j i k

theorem after1 (y : S256x128.Idx) : (dats m 0 c).after 1 t y = out m c (row t (y 0)) (y 1) := by
  rw [after0_1]
  idx_vars y
  frame_out
  unfold out
  rw [Fin.sum_univ_eight]
  pointwise [k0_pay1, blk0]

/-- The result after the run. -/
theorem final1 : (dats m 0 c).arrAt 1 (cfgs 0).N = fun i => out m c (i 0) (i 1) := by
  refine (dats m 0 c).arrAt_eq_of_covers 1 _ (by decide +kernel) fun t _ y => ?_
  rw [after1]
  blk_simp [idx t, row]
  refine congrArg₂ (out m c) (Fin.ext ?_) (Fin.ext ?_) <;> blk_simp [idx t] <;> try omega

end Cert.SumsKIdeal.Value

end
-- ==== Proof.SumsClaim.lean ====
/- The sum over the eight parts: the kernel's result is that of the reference, on any extended reals. -/
module

public import proofs.«01_k».proof.Defs
public import proofs.«01_k».proof.Proof.SumsKernel
public import proofs.«01_k».proof.Proof.Gen.SumsRIdeal.Run

@[expose] public section

set_option maxRecDepth 16384

noncomputable section

open Idealize.ShloMosaic Idealize.ShloMosaic.TcCoe Idealize.SL.Sem Cert.Reals

namespace Cert.SumsClaim

instance : Cert.SumsKIdeal.Facts := Cert.SumsKIdeal.Gen.facts

open Cert.SumsKIdeal.Value

set_option maxHeartbeats 2000000 in
theorem algebraic : Cert.algebraic_SumsKIdeal_SumsRIdeal (hSumsKIdeal := Cert.SumsKIdeal.Gen.facts)
    (hSumsRIdeal := Cert.SumsRIdeal.Gen.facts) := by
  pair_intro
  · run_from Cert.SumsKIdeal.Value.run_blocks m g
  · run_from Cert.SumsRIdeal.Value.run m' g'
    · rw [Cert.SumsKIdeal.Value.final1]
      funext j
      idx_vars j
      pointwise
      show _ = _
      rfl

end Cert.SumsClaim

end
-- ==== Proof.As0Kernel.lean ====
/- The gradient of the first layer's projection, put together: what one block of 512 rows computes, and what the result array holds
   after the run. -/
module

public import proofs.«01_k».proof.Proof.Gen.As0KIdeal.Value
public import proofs.«01_k».proof.Proof.Reals
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Reals
open Idealize.ShloMosaic.Pipeline (Dat)

namespace Cert.As0KIdeal.Value

open Cert.As0KIdeal Cert.As0KIdeal.Gen

theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)

variable (m : (ℓ : Loc nD τ sig) → Buf (Elt Ideal) ℓ) (c : Dev nD)

/-- The row of the array that row `r` of block `t` is. -/
def row (t : Fin cfg0.N) (r : Fin 512) : Fin 4096 := ⟨t.val * 512 + r.val, by have := lt_of_lt_of_eq t.isLt N_0; omega⟩

/-- The entries of the arguments. -/
def a0 (i : Fin 4096) (k : Fin 512) : EReal := m ((c : Thread nD τ).loc main_arg0) (ix2 i k)
def a1 (i : Fin 4096) (k : Fin 512) : EReal := m ((c : Thread nD τ).loc main_arg1) (ix2 i k)
def a2 (i : Fin 4096) (k : Fin 512) : EReal := m ((c : Thread nD τ).loc main_arg2) (ix2 i k)
def a3 (i : Fin 4096) (k : Fin 512) : EReal := m ((c : Thread nD τ).loc main_arg3) (ix2 i k)
def a4 (i : Fin 4096) (k : Fin 512) : EReal := m ((c : Thread nD τ).loc main_arg4) (ix2 i k)
def a5 (i : Fin 4096) (k : Fin 512) : EReal := m ((c : Thread nD τ).loc main_arg5) (ix2 i k)
def a6 (i : Fin 4096) (k : Fin 512) : EReal := m ((c : Thread nD τ).loc main_arg6) (ix2 i k)
def a7 (i : Fin 4096) (k : Fin 512) : EReal := m ((c : Thread nD τ).loc main_arg7) (ix2 i k)
def a8 (i : Fin 4096) (k : Fin 512) : EReal := m ((c : Thread nD τ).loc main_arg8) (ix2 i k)

variable (t : Fin cfg0.N) (r : Fin 512)

theorem blk0 (k : Fin 512) : iblk m c 0 t (ix2 r k) = a0 m c (row t r) k := by
  unfold a0
  blk_ext [iblk, V, idx t, row]
theorem blk1 (k : Fin 512) : iblk m c 1 t (ix2 r k) = a1 m c (row t r) k := by
  unfold a1
  blk_ext [iblk, V, idx t, row]
theorem blk2 (k : Fin 512) : iblk m c 2 t (ix2 r k) = a2 m c (row t r) k := by
  unfold a2
  blk_simp [iblk, idx t]
  entry_read
  pointwise
  blk_ext [idx t, row]
theorem blk3 (k : Fin 512) : iblk m c 3 t (ix2 r k) = a3 m c (row t r) k := by
  unfold a3
  blk_simp [iblk, idx t]
  entry_read
  pointwise
  blk_ext [idx t, row]
theorem blk4 (k : Fin 512) : iblk m c 4 t (ix2 r k) = a4 m c (row t r) k := by
  unfold a4
  blk_simp [iblk, idx t]
  entry_read
  pointwise
  blk_ext [idx t, row]
theorem blk5 (k : Fin 512) : iblk m c 5 t (ix2 r k) = a5 m c (row t r) k := by
  unfold a5
  blk_simp [iblk, idx t]
  entry_read
  pointwise
  blk_ext [idx t, row]
theorem blk6 (k : Fin 512) : iblk m c 6 t (ix2 r k) = a6 m c (row t r) k := by
  unfold a6
  blk_simp [iblk, idx t]
  entry_read
  pointwise
  blk_ext [idx t, row]
theorem blk7 (k : Fin 512) : iblk m c 7 t (ix2 r k) = a7 m c (row t r) k := by
  unfold a7
  blk_simp [iblk, idx t]
  entry_read
  pointwise
  blk_ext [idx t, row]
theorem blk8 (k : Fin 512) : iblk m c 8 t (ix2 r k) = a8 m c (row t r) k := by
  unfold a8
  blk_ext [iblk, V, idx t, row]

/-- An entry of the result: the column is that of one of the 7 parts. -/
def out (i : Fin 4096) (n : Fin 3584) : EReal :=
  if h : n.val < 512 then a0 m c i ⟨n.val, h⟩ else
    if h : n.val - 512 < 512 then a1 m c i ⟨n.val - 512, h⟩ else
    if h : n.val - 512 - 512 < 512 then a2 m c i ⟨n.val - 512 - 512, h⟩ + a3 m c i ⟨n.val - 512 - 512, h⟩ else
    if h : n.val - 512 - 512 - 512 < 512 then a4 m c i ⟨n.val - 512 - 512 - 512, h⟩ else
    if h : n.val - 512 - 512 - 512 - 512 < 512 then a5 m c i ⟨n.val - 512 - 512 - 512 - 512, h⟩ else
    if h : n.val - 512 - 512 - 512 - 512 - 512 < 512 then a6 m c i ⟨n.val - 512 - 512 - 512 - 512 - 512, h⟩ + a7 m c i ⟨n.val - 512 - 512 - 512 - 512 - 512, h⟩ else
    a8 m c i ⟨n.val - 512 - 512 - 512 - 512 - 512 - 512, by omega⟩

theorem after9 (y : S512x3584.Idx) : (dats m 0 c).after 9 t y = out m c (row t (y 0)) (y 1) := by
  rw [after0_9]
  idx_vars y
  frame_out
  unfold out
  pointwise [k0_pay1, blk0, blk1, blk2, blk3, blk4, blk5, blk6, blk7, blk8]

/-- The result after the run. -/
theorem final9 : (dats m 0 c).arrAt 9 (cfgs 0).N = fun i => out m c (i 0) (i 1) := by
  refine (dats m 0 c).arrAt_eq_of_covers 9 _ (by decide +kernel) fun t _ y => ?_
  rw [after9]
  blk_simp [idx t, row]
  refine congrArg₂ (out m c) (Fin.ext ?_) (Fin.ext ?_) <;> blk_simp [idx t] <;> try omega

end Cert.As0KIdeal.Value

end
-- ==== Proof.As0Claim.lean ====
/- The gradient of the first layer's projection, put together: the kernel's result is that of the reference, on any extended reals. -/
module

public import proofs.«01_k».proof.Defs
public import proofs.«01_k».proof.Proof.As0Kernel
public import proofs.«01_k».proof.Proof.Gen.As0RIdeal.Run

@[expose] public section

set_option maxRecDepth 16384

noncomputable section

open Idealize.ShloMosaic Idealize.ShloMosaic.TcCoe Idealize.SL.Sem Cert.Reals

namespace Cert.As0Claim

instance : Cert.As0KIdeal.Facts := Cert.As0KIdeal.Gen.facts

open Cert.As0KIdeal.Value

set_option maxHeartbeats 2000000 in
theorem algebraic : Cert.algebraic_As0KIdeal_As0RIdeal (hAs0KIdeal := Cert.As0KIdeal.Gen.facts)
    (hAs0RIdeal := Cert.As0RIdeal.Gen.facts) := by
  pair_intro
  · run_from Cert.As0KIdeal.Value.run_blocks m g
  · run_from Cert.As0RIdeal.Value.run m' g'
    · obtain ⟨_, _, _, _, h4, h5, h6, h7, h8⟩ := hagree c
      rw [Cert.As0KIdeal.Value.final9]
      funext j
      idx_vars j
      pointwise
      rw [h4, h5, h6, h7, h8]
      rfl

end Cert.As0Claim

end
-- ==== Proof.As1Kernel.lean ====
/- The gradient of the second layer's projection, put together: what one block of 512 rows computes, and what the result array holds
   after the run. -/
module

public import proofs.«01_k».proof.Proof.Gen.As1KIdeal.Value
public import proofs.«01_k».proof.Proof.Reals
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Reals
open Idealize.ShloMosaic.Pipeline (Dat)

namespace Cert.As1KIdeal.Value

open Cert.As1KIdeal Cert.As1KIdeal.Gen

theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- The row of the array that row `r` of block `t` is. -/
def row (t : Fin cfg0.N) (r : Fin 512) : Fin 4096 := ⟨t.val * 512 + r.val, by have := lt_of_lt_of_eq t.isLt N_0; omega⟩

/-- The entries of the arguments. -/
def a0 (i : Fin 4096) (k : Fin 512) : EReal := m ((c : Thread nD τ).loc main_arg0) (ix2 i k)
def a1 (i : Fin 4096) (k : Fin 512) : EReal := m ((c : Thread nD τ).loc main_arg1) (ix2 i k)
def a2 (i : Fin 4096) (k : Fin 512) : EReal := m ((c : Thread nD τ).loc main_arg2) (ix2 i k)
def a3 (i : Fin 4096) (k : Fin 512) : EReal := m ((c : Thread nD τ).loc main_arg3) (ix2 i k)
def a4 (i : Fin 4096) (k : Fin 1024) : EReal := m ((c : Thread nD τ).loc main_arg4) (ix2 i k)
def a5 (i : Fin 4096) (k : Fin 1024) : EReal := m ((c : Thread nD τ).loc main_arg5) (ix2 i k)
def a6 (i : Fin 4096) (k : Fin 1024) : EReal := m ((c : Thread nD τ).loc main_arg6) (ix2 i k)
def a7 (i : Fin 4096) (k : Fin 128) : EReal := m ((c : Thread nD τ).loc main_arg7) (ix2 i k)

variable (t : Fin cfg0.N) (r : Fin 512)

theorem blk0 (k : Fin 512) : iblk m c 0 t (ix2 r k) = a0 m c (row t r) k := by
  unfold a0
  blk_simp [iblk, idx t]
  entry_read
  pointwise
  blk_ext [idx t, row]
theorem blk1 (k : Fin 512) : iblk m c 1 t (ix2 r k) = a1 m c (row t r) k := by
  unfold a1
  blk_simp [iblk, idx t]
  entry_read
  pointwise
  blk_ext [idx t, row]
theorem blk2 (k : Fin 512) : iblk m c 2 t (ix2 r k) = a2 m c (row t r) k := by
  unfold a2
  blk_simp [iblk, idx t]
  entry_read
  pointwise
  blk_ext [idx t, row]
theorem blk3 (k : Fin 512) : iblk m c 3 t (ix2 r k) = a3 m c (row t r) k := by
  unfold a3
  blk_simp [iblk, idx t]
  entry_read
  pointwise
  blk_ext [idx t, row]
theorem blk4 (k : Fin 1024) : iblk m c 4 t (ix2 r k) = a4 m c (row t r) k := by
  unfold a4
  blk_simp [iblk, idx t]
  entry_read
  pointwise
  blk_ext [idx t, row]
theorem blk5 (k : Fin 1024) : iblk m c 5 t (ix2 r k) = a5 m c (row t r) k := by
  unfold a5
  blk_simp [iblk, idx t]
  entry_read
  pointwise
  blk_ext [idx t, row]
theorem blk6 (k : Fin 1024) : iblk m c 6 t (ix2 r k) = a6 m c (row t r) k := by
  unfold a6
  blk_ext [iblk, V, idx t, row]
theorem blk7 (k : Fin 128) : iblk m c 7 t (ix2 r k) = a7 m c (row t r) k := by
  unfold a7
  blk_ext [iblk, V, idx t, row]

/-- An entry of the result: the column is that of one of the 5 parts. -/
def out (i : Fin 4096) (n : Fin 3200) : EReal :=
  if h : n.val < 512 then a0 m c i ⟨n.val, h⟩ + a1 m c i ⟨n.val, h⟩ else
    if h : n.val - 512 < 512 then a2 m c i ⟨n.val - 512, h⟩ + a3 m c i ⟨n.val - 512, h⟩ else
    if h : n.val - 512 - 512 < 1024 then a4 m c i ⟨n.val - 512 - 512, h⟩ + a5 m c i ⟨n.val - 512 - 512, h⟩ else
    if h : n.val - 512 - 512 - 1024 < 1024 then a6 m c i ⟨n.val - 512 - 512 - 1024, h⟩ else
    a7 m c i ⟨n.val - 512 - 512 - 1024 - 1024, by omega⟩

theorem after8 (y : S512x3200.Idx) : (dats m 0 c).after 8 t y = out m c (row t (y 0)) (y 1) := by
  rw [after0_8]
  idx_vars y
  frame_out
  unfold out
  pointwise [k0_pay1, blk0, blk1, blk2, blk3, blk4, blk5, blk6, blk7]

/-- The result after the run. -/
theorem final8 : (dats m 0 c).arrAt 8 (cfgs 0).N = fun i => out m c (i 0) (i 1) := by
  refine (dats m 0 c).arrAt_eq_of_covers 8 _ (by decide +kernel) fun t _ y => ?_
  rw [after8]
  blk_simp [idx t, row]
  refine congrArg₂ (out m c) (Fin.ext ?_) (Fin.ext ?_) <;> blk_simp [idx t] <;> try omega

end Cert.As1KIdeal.Value

end
-- ==== Proof.As1Claim.lean ====
/- The gradient of the second layer's projection, put together: the kernel's result is that of the reference, on any extended reals. -/
module

public import proofs.«01_k».proof.Defs
public import proofs.«01_k».proof.Proof.As1Kernel
public import proofs.«01_k».proof.Proof.Gen.As1RIdeal.Run

@[expose] public section

set_option maxRecDepth 16384

noncomputable section

open Idealize.ShloMosaic Idealize.ShloMosaic.TcCoe Idealize.SL.Sem Cert.Reals

namespace Cert.As1Claim

instance : Cert.As1KIdeal.Facts := Cert.As1KIdeal.Gen.facts

open Cert.As1KIdeal.Value

set_option maxHeartbeats 2000000 in
theorem algebraic : Cert.algebraic_As1KIdeal_As1RIdeal (hAs1KIdeal := Cert.As1KIdeal.Gen.facts)
    (hAs1RIdeal := Cert.As1RIdeal.Gen.facts) := by
  pair_intro
  · run_from Cert.As1KIdeal.Value.run_blocks m g
  · run_from Cert.As1RIdeal.Value.run m' g'
    · obtain ⟨_, _, _, _, h4, h5, h6, h7⟩ := hagree c
      rw [Cert.As1KIdeal.Value.final8]
      funext j
      idx_vars j
      pointwise
      rw [h4, h5, h6, h7]
      rfl

end Cert.As1Claim

end
-- ==== Proof.lean ====
/- The claims of the certificate, assembled: the frames are the generated launch theorems, each value claim is proved in a module
   of its own. -/
module

public import proofs.«01_k».proof.Defs
public import proofs.«01_k».proof.Proof.Gen.LossK
public import proofs.«01_k».proof.Proof.Gen.LossK.Skeleton
public import proofs.«01_k».proof.Proof.Gen.LossK.Launch
public import proofs.«01_k».proof.Proof.Gen.LossK.Points
public import proofs.«01_k».proof.Proof.Gen.LossK.Frame
public import proofs.«01_k».proof.Proof.Gen.LossKIdeal
public import proofs.«01_k».proof.Proof.Gen.LossKIdeal.Skeleton
public import proofs.«01_k».proof.Proof.Gen.LossKIdeal.Launch
public import proofs.«01_k».proof.Proof.Gen.LossKIdeal.Points
public import proofs.«01_k».proof.Proof.Gen.LossKIdeal.Frame
public import proofs.«01_k».proof.Proof.Gen.LossRIdeal
public import proofs.«01_k».proof.Proof.Gen.LossKIdeal.Value
public import proofs.«01_k».proof.Proof.Gen.LossRIdeal.Run
public import proofs.«01_k».proof.Proof.Gen.GateK
public import proofs.«01_k».proof.Proof.Gen.GateK.Skeleton
public import proofs.«01_k».proof.Proof.Gen.GateK.Launch
public import proofs.«01_k».proof.Proof.Gen.GateK.Points
public import proofs.«01_k».proof.Proof.Gen.GateK.Frame
public import proofs.«01_k».proof.Proof.Gen.GateKIdeal
public import proofs.«01_k».proof.Proof.Gen.GateKIdeal.Skeleton
public import proofs.«01_k».proof.Proof.Gen.GateKIdeal.Launch
public import proofs.«01_k».proof.Proof.Gen.GateKIdeal.Points
public import proofs.«01_k».proof.Proof.Gen.GateKIdeal.Frame
public import proofs.«01_k».proof.Proof.Gen.GateRIdeal
public import proofs.«01_k».proof.Proof.Gen.GateKIdeal.Value
public import proofs.«01_k».proof.Proof.Gen.GateRIdeal.Run
public import proofs.«01_k».proof.Proof.Gen.ConvK
public import proofs.«01_k».proof.Proof.Gen.ConvK.Skeleton
public import proofs.«01_k».proof.Proof.Gen.ConvK.Launch
public import proofs.«01_k».proof.Proof.Gen.ConvK.Points
public import proofs.«01_k».proof.Proof.Gen.ConvK.Frame
public import proofs.«01_k».proof.Proof.Gen.ConvKIdeal
public import proofs.«01_k».proof.Proof.Gen.ConvKIdeal.Skeleton
public import proofs.«01_k».proof.Proof.Gen.ConvKIdeal.Launch
public import proofs.«01_k».proof.Proof.Gen.ConvKIdeal.Points
public import proofs.«01_k».proof.Proof.Gen.ConvKIdeal.Frame
public import proofs.«01_k».proof.Proof.Gen.ConvRIdeal
public import proofs.«01_k».proof.Proof.Gen.ConvKIdeal.Value
public import proofs.«01_k».proof.Proof.Gen.ConvRIdeal.Run
public import proofs.«01_k».proof.Proof.Gen.DgnK
public import proofs.«01_k».proof.Proof.Gen.DgnK.Skeleton
public import proofs.«01_k».proof.Proof.Gen.DgnK.Launch
public import proofs.«01_k».proof.Proof.Gen.DgnK.Points
public import proofs.«01_k».proof.Proof.Gen.DgnK.Frame
public import proofs.«01_k».proof.Proof.Gen.DgnKIdeal
public import proofs.«01_k».proof.Proof.Gen.DgnKIdeal.Skeleton
public import proofs.«01_k».proof.Proof.Gen.DgnKIdeal.Launch
public import proofs.«01_k».proof.Proof.Gen.DgnKIdeal.Points
public import proofs.«01_k».proof.Proof.Gen.DgnKIdeal.Frame
public import proofs.«01_k».proof.Proof.Gen.DgnRIdeal
public import proofs.«01_k».proof.Proof.Gen.DgnKIdeal.Value
public import proofs.«01_k».proof.Proof.Gen.DgnRIdeal.Run
public import proofs.«01_k».proof.Proof.Gen.MlpbK
public import proofs.«01_k».proof.Proof.Gen.MlpbK.Skeleton
public import proofs.«01_k».proof.Proof.Gen.MlpbK.Launch
public import proofs.«01_k».proof.Proof.Gen.MlpbK.Points
public import proofs.«01_k».proof.Proof.Gen.MlpbK.Frame
public import proofs.«01_k».proof.Proof.Gen.MlpbKIdeal
public import proofs.«01_k».proof.Proof.Gen.MlpbKIdeal.Skeleton
public import proofs.«01_k».proof.Proof.Gen.MlpbKIdeal.Launch
public import proofs.«01_k».proof.Proof.Gen.MlpbKIdeal.Points
public import proofs.«01_k».proof.Proof.Gen.MlpbKIdeal.Frame
public import proofs.«01_k».proof.Proof.Gen.MlpbRIdeal
public import proofs.«01_k».proof.Proof.Gen.MlpbRIdeal.Run
public import proofs.«01_k».proof.Proof.Gen.Comb1K
public import proofs.«01_k».proof.Proof.Gen.Comb1K.Skeleton
public import proofs.«01_k».proof.Proof.Gen.Comb1K.Launch
public import proofs.«01_k».proof.Proof.Gen.Comb1K.Points
public import proofs.«01_k».proof.Proof.Gen.Comb1K.Frame
public import proofs.«01_k».proof.Proof.Gen.Comb1KIdeal
public import proofs.«01_k».proof.Proof.Gen.Comb1KIdeal.Skeleton
public import proofs.«01_k».proof.Proof.Gen.Comb1KIdeal.Launch
public import proofs.«01_k».proof.Proof.Gen.Comb1KIdeal.Points
public import proofs.«01_k».proof.Proof.Gen.Comb1KIdeal.Frame
public import proofs.«01_k».proof.Proof.Gen.Comb1RIdeal
public import proofs.«01_k».proof.Proof.Gen.Comb1KIdeal.Value
public import proofs.«01_k».proof.Proof.Gen.Comb1RIdeal.Run
public import proofs.«01_k».proof.Proof.Gen.Comb0K
public import proofs.«01_k».proof.Proof.Gen.Comb0K.Skeleton
public import proofs.«01_k».proof.Proof.Gen.Comb0K.Launch
public import proofs.«01_k».proof.Proof.Gen.Comb0K.Points
public import proofs.«01_k».proof.Proof.Gen.Comb0K.Frame
public import proofs.«01_k».proof.Proof.Gen.Comb0KIdeal
public import proofs.«01_k».proof.Proof.Gen.Comb0KIdeal.Skeleton
public import proofs.«01_k».proof.Proof.Gen.Comb0KIdeal.Launch
public import proofs.«01_k».proof.Proof.Gen.Comb0KIdeal.Points
public import proofs.«01_k».proof.Proof.Gen.Comb0KIdeal.Frame
public import proofs.«01_k».proof.Proof.Gen.Comb0RIdeal
public import proofs.«01_k».proof.Proof.Gen.Comb0KIdeal.Value
public import proofs.«01_k».proof.Proof.Gen.Comb0RIdeal.Run
public import proofs.«01_k».proof.Proof.Gen.ConvfK
public import proofs.«01_k».proof.Proof.Gen.ConvfK.Skeleton
public import proofs.«01_k».proof.Proof.Gen.ConvfK.Launch
public import proofs.«01_k».proof.Proof.Gen.ConvfK.Points
public import proofs.«01_k».proof.Proof.Gen.ConvfK.Frame
public import proofs.«01_k».proof.Proof.Gen.ConvfKIdeal
public import proofs.«01_k».proof.Proof.Gen.ConvfKIdeal.Skeleton
public import proofs.«01_k».proof.Proof.Gen.ConvfKIdeal.Launch
public import proofs.«01_k».proof.Proof.Gen.ConvfKIdeal.Points
public import proofs.«01_k».proof.Proof.Gen.ConvfKIdeal.Frame
public import proofs.«01_k».proof.Proof.Gen.ConvfRIdeal
public import proofs.«01_k».proof.Proof.Gen.ConvfKIdeal.Value
public import proofs.«01_k».proof.Proof.Gen.ConvfRIdeal.Run
public import proofs.«01_k».proof.Proof.Gen.GlogK
public import proofs.«01_k».proof.Proof.Gen.GlogK.Skeleton
public import proofs.«01_k».proof.Proof.Gen.GlogK.Launch
public import proofs.«01_k».proof.Proof.Gen.GlogK.Points
public import proofs.«01_k».proof.Proof.Gen.GlogK.Frame
public import proofs.«01_k».proof.Proof.Gen.GlogKIdeal
public import proofs.«01_k».proof.Proof.Gen.GlogKIdeal.Skeleton
public import proofs.«01_k».proof.Proof.Gen.GlogKIdeal.Launch
public import proofs.«01_k».proof.Proof.Gen.GlogKIdeal.Points
public import proofs.«01_k».proof.Proof.Gen.GlogKIdeal.Frame
public import proofs.«01_k».proof.Proof.Gen.GlogRIdeal
public import proofs.«01_k».proof.Proof.Gen.GlogKIdeal.Value
public import proofs.«01_k».proof.Proof.Gen.GlogRIdeal.Run
public import proofs.«01_k».proof.Proof.Gen.NmmK
public import proofs.«01_k».proof.Proof.Gen.NmmK.Skeleton
public import proofs.«01_k».proof.Proof.Gen.NmmK.Launch
public import proofs.«01_k».proof.Proof.Gen.NmmK.Points
public import proofs.«01_k».proof.Proof.Gen.NmmK.Frame
public import proofs.«01_k».proof.Proof.Gen.NmmKIdeal
public import proofs.«01_k».proof.Proof.Gen.NmmKIdeal.Skeleton
public import proofs.«01_k».proof.Proof.Gen.NmmKIdeal.Launch
public import proofs.«01_k».proof.Proof.Gen.NmmKIdeal.Points
public import proofs.«01_k».proof.Proof.Gen.NmmKIdeal.Frame
public import proofs.«01_k».proof.Proof.Gen.NmmRIdeal
public import proofs.«01_k».proof.Proof.Gen.NmmKIdeal.Value
public import proofs.«01_k».proof.Proof.Gen.NmmRIdeal.Run
public import proofs.«01_k».proof.Proof.Gen.Mix1K
public import proofs.«01_k».proof.Proof.Gen.Mix1K.Skeleton
public import proofs.«01_k».proof.Proof.Gen.Mix1K.Launch
public import proofs.«01_k».proof.Proof.Gen.Mix1K.Points
public import proofs.«01_k».proof.Proof.Gen.Mix1K.Frame
public import proofs.«01_k».proof.Proof.Gen.Mix1KIdeal
public import proofs.«01_k».proof.Proof.Gen.Mix1KIdeal.Skeleton
public import proofs.«01_k».proof.Proof.Gen.Mix1KIdeal.Launch
public import proofs.«01_k».proof.Proof.Gen.Mix1KIdeal.Points
public import proofs.«01_k».proof.Proof.Gen.Mix1KIdeal.Frame
public import proofs.«01_k».proof.Proof.Gen.Mix1RIdeal
public import proofs.«01_k».proof.Proof.Gen.Mix1KIdeal.Value
public import proofs.«01_k».proof.Proof.Gen.Mix1RIdeal.Run
public import proofs.«01_k».proof.Proof.Gen.Mix0K
public import proofs.«01_k».proof.Proof.Gen.Mix0K.Skeleton
public import proofs.«01_k».proof.Proof.Gen.Mix0K.Launch
public import proofs.«01_k».proof.Proof.Gen.Mix0K.Points
public import proofs.«01_k».proof.Proof.Gen.Mix0K.Frame
public import proofs.«01_k».proof.Proof.Gen.Mix0KIdeal
public import proofs.«01_k».proof.Proof.Gen.Mix0KIdeal.Skeleton
public import proofs.«01_k».proof.Proof.Gen.Mix0KIdeal.Launch
public import proofs.«01_k».proof.Proof.Gen.Mix0KIdeal.Points
public import proofs.«01_k».proof.Proof.Gen.Mix0KIdeal.Frame
public import proofs.«01_k».proof.Proof.Gen.Mix0RIdeal
public import proofs.«01_k».proof.Proof.Gen.Mix0KIdeal.Value
public import proofs.«01_k».proof.Proof.Gen.Mix0RIdeal.Run
public import proofs.«01_k».proof.Proof.Gen.GlafK
public import proofs.«01_k».proof.Proof.Gen.GlafK.Skeleton
public import proofs.«01_k».proof.Proof.Gen.GlafK.Launch
public import proofs.«01_k».proof.Proof.Gen.GlafK.Points
public import proofs.«01_k».proof.Proof.Gen.GlafK.Frame
public import proofs.«01_k».proof.Proof.Gen.GlafKIdeal
public import proofs.«01_k».proof.Proof.Gen.GlafKIdeal.Skeleton
public import proofs.«01_k».proof.Proof.Gen.GlafKIdeal.Launch
public import proofs.«01_k».proof.Proof.Gen.GlafKIdeal.Points
public import proofs.«01_k».proof.Proof.Gen.GlafKIdeal.Frame
public import proofs.«01_k».proof.Proof.Gen.GlafRIdeal
public import proofs.«01_k».proof.Proof.Gen.GlafKIdeal.Value
public import proofs.«01_k».proof.Proof.Gen.GlafRIdeal.Run
public import proofs.«01_k».proof.Proof.Gen.HgfK
public import proofs.«01_k».proof.Proof.Gen.HgfK.Skeleton
public import proofs.«01_k».proof.Proof.Gen.HgfK.Launch
public import proofs.«01_k».proof.Proof.Gen.HgfK.Points
public import proofs.«01_k».proof.Proof.Gen.HgfK.Frame
public import proofs.«01_k».proof.Proof.Gen.HgfKIdeal
public import proofs.«01_k».proof.Proof.Gen.HgfKIdeal.Skeleton
public import proofs.«01_k».proof.Proof.Gen.HgfKIdeal.Launch
public import proofs.«01_k».proof.Proof.Gen.HgfKIdeal.Points
public import proofs.«01_k».proof.Proof.Gen.HgfKIdeal.Frame
public import proofs.«01_k».proof.Proof.Gen.HgfRIdeal
public import proofs.«01_k».proof.Proof.Gen.HgfKIdeal.Value
public import proofs.«01_k».proof.Proof.Gen.HgfRIdeal.Run
public import proofs.«01_k».proof.Proof.Gen.MresK
public import proofs.«01_k».proof.Proof.Gen.MresK.Skeleton
public import proofs.«01_k».proof.Proof.Gen.MresK.Launch
public import proofs.«01_k».proof.Proof.Gen.MresK.Points
public import proofs.«01_k».proof.Proof.Gen.MresK.Frame
public import proofs.«01_k».proof.Proof.Gen.MresKIdeal
public import proofs.«01_k».proof.Proof.Gen.MresKIdeal.Skeleton
public import proofs.«01_k».proof.Proof.Gen.MresKIdeal.Launch
public import proofs.«01_k».proof.Proof.Gen.MresKIdeal.Points
public import proofs.«01_k».proof.Proof.Gen.MresKIdeal.Frame
public import proofs.«01_k».proof.Proof.Gen.MresRIdeal
public import proofs.«01_k».proof.Proof.Gen.MresKIdeal.Value
public import proofs.«01_k».proof.Proof.Gen.MresRIdeal.Run
public import proofs.«01_k».proof.Proof.Gen.WgrK
public import proofs.«01_k».proof.Proof.Gen.WgrK.Skeleton
public import proofs.«01_k».proof.Proof.Gen.WgrK.Launch
public import proofs.«01_k».proof.Proof.Gen.WgrK.Points
public import proofs.«01_k».proof.Proof.Gen.WgrK.Frame
public import proofs.«01_k».proof.Proof.Gen.WgrKIdeal
public import proofs.«01_k».proof.Proof.Gen.WgrKIdeal.Skeleton
public import proofs.«01_k».proof.Proof.Gen.WgrKIdeal.Launch
public import proofs.«01_k».proof.Proof.Gen.WgrKIdeal.Points
public import proofs.«01_k».proof.Proof.Gen.WgrKIdeal.Frame
public import proofs.«01_k».proof.Proof.Gen.WgrRIdeal
public import proofs.«01_k».proof.Proof.Gen.WgrKIdeal.Value
public import proofs.«01_k».proof.Proof.Gen.WgrRIdeal.Run
public import proofs.«01_k».proof.Proof.Gen.AdwK
public import proofs.«01_k».proof.Proof.Gen.AdwK.Skeleton
public import proofs.«01_k».proof.Proof.Gen.AdwK.Launch
public import proofs.«01_k».proof.Proof.Gen.AdwK.Points
public import proofs.«01_k».proof.Proof.Gen.AdwK.Frame
public import proofs.«01_k».proof.Proof.Gen.AdwKIdeal
public import proofs.«01_k».proof.Proof.Gen.AdwKIdeal.Skeleton
public import proofs.«01_k».proof.Proof.Gen.AdwKIdeal.Launch
public import proofs.«01_k».proof.Proof.Gen.AdwKIdeal.Points
public import proofs.«01_k».proof.Proof.Gen.AdwKIdeal.Frame
public import proofs.«01_k».proof.Proof.Gen.AdwRIdeal
public import proofs.«01_k».proof.Proof.Gen.AdwKIdeal.Value
public import proofs.«01_k».proof.Proof.Gen.AdwRIdeal.Run
public import proofs.«01_k».proof.Proof.Gen.AdlK
public import proofs.«01_k».proof.Proof.Gen.AdlK.Skeleton
public import proofs.«01_k».proof.Proof.Gen.AdlK.Launch
public import proofs.«01_k».proof.Proof.Gen.AdlK.Points
public import proofs.«01_k».proof.Proof.Gen.AdlK.Frame
public import proofs.«01_k».proof.Proof.Gen.AdlKIdeal
public import proofs.«01_k».proof.Proof.Gen.AdlKIdeal.Skeleton
public import proofs.«01_k».proof.Proof.Gen.AdlKIdeal.Launch
public import proofs.«01_k».proof.Proof.Gen.AdlKIdeal.Points
public import proofs.«01_k».proof.Proof.Gen.AdlKIdeal.Frame
public import proofs.«01_k».proof.Proof.Gen.AdlRIdeal
public import proofs.«01_k».proof.Proof.Gen.AdlKIdeal.Value
public import proofs.«01_k».proof.Proof.Gen.AdlRIdeal.Run
public import proofs.«01_k».proof.Proof.Gen.AdhK
public import proofs.«01_k».proof.Proof.Gen.AdhK.Skeleton
public import proofs.«01_k».proof.Proof.Gen.AdhK.Launch
public import proofs.«01_k».proof.Proof.Gen.AdhK.Points
public import proofs.«01_k».proof.Proof.Gen.AdhK.Frame
public import proofs.«01_k».proof.Proof.Gen.AdhKIdeal
public import proofs.«01_k».proof.Proof.Gen.AdhKIdeal.Skeleton
public import proofs.«01_k».proof.Proof.Gen.AdhKIdeal.Launch
public import proofs.«01_k».proof.Proof.Gen.AdhKIdeal.Points
public import proofs.«01_k».proof.Proof.Gen.AdhKIdeal.Frame
public import proofs.«01_k».proof.Proof.Gen.AdhRIdeal
public import proofs.«01_k».proof.Proof.Gen.AdhKIdeal.Value
public import proofs.«01_k».proof.Proof.Gen.AdhRIdeal.Run
public import proofs.«01_k».proof.Proof.Gen.SumsK
public import proofs.«01_k».proof.Proof.Gen.SumsK.Skeleton
public import proofs.«01_k».proof.Proof.Gen.SumsK.Launch
public import proofs.«01_k».proof.Proof.Gen.SumsK.Points
public import proofs.«01_k».proof.Proof.Gen.SumsK.Frame
public import proofs.«01_k».proof.Proof.Gen.SumsKIdeal
public import proofs.«01_k».proof.Proof.Gen.SumsKIdeal.Skeleton
public import proofs.«01_k».proof.Proof.Gen.SumsKIdeal.Launch
public import proofs.«01_k».proof.Proof.Gen.SumsKIdeal.Points
public import proofs.«01_k».proof.Proof.Gen.SumsKIdeal.Frame
public import proofs.«01_k».proof.Proof.Gen.SumsRIdeal
public import proofs.«01_k».proof.Proof.Gen.SumsKIdeal.Value
public import proofs.«01_k».proof.Proof.Gen.SumsRIdeal.Run
public import proofs.«01_k».proof.Proof.Gen.As0K
public import proofs.«01_k».proof.Proof.Gen.As0K.Skeleton
public import proofs.«01_k».proof.Proof.Gen.As0K.Launch
public import proofs.«01_k».proof.Proof.Gen.As0K.Points
public import proofs.«01_k».proof.Proof.Gen.As0K.Frame
public import proofs.«01_k».proof.Proof.Gen.As0KIdeal
public import proofs.«01_k».proof.Proof.Gen.As0KIdeal.Skeleton
public import proofs.«01_k».proof.Proof.Gen.As0KIdeal.Launch
public import proofs.«01_k».proof.Proof.Gen.As0KIdeal.Points
public import proofs.«01_k».proof.Proof.Gen.As0KIdeal.Frame
public import proofs.«01_k».proof.Proof.Gen.As0RIdeal
public import proofs.«01_k».proof.Proof.Gen.As0KIdeal.Value
public import proofs.«01_k».proof.Proof.Gen.As0RIdeal.Run
public import proofs.«01_k».proof.Proof.Gen.As1K
public import proofs.«01_k».proof.Proof.Gen.As1K.Skeleton
public import proofs.«01_k».proof.Proof.Gen.As1K.Launch
public import proofs.«01_k».proof.Proof.Gen.As1K.Points
public import proofs.«01_k».proof.Proof.Gen.As1K.Frame
public import proofs.«01_k».proof.Proof.Gen.As1KIdeal
public import proofs.«01_k».proof.Proof.Gen.As1KIdeal.Skeleton
public import proofs.«01_k».proof.Proof.Gen.As1KIdeal.Launch
public import proofs.«01_k».proof.Proof.Gen.As1KIdeal.Points
public import proofs.«01_k».proof.Proof.Gen.As1KIdeal.Frame
public import proofs.«01_k».proof.Proof.Gen.As1RIdeal
public import proofs.«01_k».proof.Proof.Gen.As1KIdeal.Value
public import proofs.«01_k».proof.Proof.Gen.As1RIdeal.Run
public import proofs.«01_k».proof.Proof.Gen.Pre_finite_loss
public import proofs.«01_k».proof.Proof.Gen.Pre_finite_dgn
public import proofs.«01_k».proof.Proof.Gen.Pre_finite_mlpb
public import proofs.«01_k».proof.Proof.Gen.Pre_finite_glaf
public import proofs.«01_k».proof.Proof.Gen.Pre_finite_hgf
public import proofs.«01_k».proof.Proof.LossClaim
public import proofs.«01_k».proof.Proof.GateClaim
public import proofs.«01_k».proof.Proof.ConvClaim
public import proofs.«01_k».proof.Proof.DgnClaim
public import proofs.«01_k».proof.Proof.MlpbClaim
public import proofs.«01_k».proof.Proof.Comb1Claim
public import proofs.«01_k».proof.Proof.Comb0Claim
public import proofs.«01_k».proof.Proof.ConvfClaim
public import proofs.«01_k».proof.Proof.GlogClaim
public import proofs.«01_k».proof.Proof.NmmClaim
public import proofs.«01_k».proof.Proof.Mix1Claim
public import proofs.«01_k».proof.Proof.Mix0Claim
public import proofs.«01_k».proof.Proof.GlafClaim
public import proofs.«01_k».proof.Proof.HgfClaim
public import proofs.«01_k».proof.Proof.MresClaim
public import proofs.«01_k».proof.Proof.WgrClaim
public import proofs.«01_k».proof.Proof.AdwClaim
public import proofs.«01_k».proof.Proof.AdlClaim
public import proofs.«01_k».proof.Proof.AdhClaim
public import proofs.«01_k».proof.Proof.SumsClaim
public import proofs.«01_k».proof.Proof.As0Claim
public import proofs.«01_k».proof.Proof.As1Claim
public import proofs.«01_k».proof.Proof.Gen.Glab1.Frame
public import proofs.«01_k».proof.Proof.Gen.Glab1Ideal.Frame
public import proofs.«01_k».proof.Proof.Gen.Hgb1.Frame
public import proofs.«01_k».proof.Proof.Gen.Hgb1Ideal.Frame
public import Idealize.ShloMosaic.Adequacy
public import Idealize.ShloMosaic.Init

@[expose] public section

noncomputable section

namespace Cert.Proof

open Idealize.ShloMosaic Idealize.SL.Sem

/-- The reference's frame (final loss): it ends with its arguments unchanged, and has no semaphores. -/
theorem frame_loss_ref : Cert.quiescent_LossRIdeal (hLossRIdeal := Cert.LossRIdeal.Gen.facts) := fun m g _ =>
  (θ_run _ _ _).mono (fun _ h => ⟨fun c => (h c).2.2.2.2, sem_eq_zero_of_no_sems (sig := Cert.LossRIdeal.sig) (by decide) _⟩)
    (Cert.LossRIdeal.Value.run m g)

/-- The reference's frame (low-rank gate): it ends with its arguments unchanged, and has no semaphores. -/
theorem frame_gate_ref : Cert.quiescent_GateRIdeal (hGateRIdeal := Cert.GateRIdeal.Gen.facts) := fun m g _ =>
  (θ_run _ _ _).mono (fun _ h => ⟨fun c => (h c).2.2.2, sem_eq_zero_of_no_sems (sig := Cert.GateRIdeal.sig) (by decide) _⟩)
    (Cert.GateRIdeal.Value.run m g)

/-- The reference's frame (convolution): it ends with its arguments unchanged, and has no semaphores. -/
theorem frame_conv_ref : Cert.quiescent_ConvRIdeal (hConvRIdeal := Cert.ConvRIdeal.Gen.facts) := fun m g _ =>
  (θ_run _ _ _).mono (fun _ h => ⟨fun c => (h c).2.2.2, sem_eq_zero_of_no_sems (sig := Cert.ConvRIdeal.sig) (by decide) _⟩)
    (Cert.ConvRIdeal.Value.run m g)

/-- The reference's frame (normalised product): it ends with its arguments unchanged, and has no semaphores. -/
theorem frame_dgn_ref : Cert.quiescent_DgnRIdeal (hDgnRIdeal := Cert.DgnRIdeal.Gen.facts) := fun m g _ =>
  (θ_run _ _ _).mono (fun _ h => ⟨fun c => (h c).2.2.2, sem_eq_zero_of_no_sems (sig := Cert.DgnRIdeal.sig) (by decide) _⟩)
    (Cert.DgnRIdeal.Value.run m g)

/-- The reference's frame (MLP): it ends with its arguments unchanged, and has no semaphores. -/
theorem frame_mlpb_ref : Cert.quiescent_MlpbRIdeal (hMlpbRIdeal := Cert.MlpbRIdeal.Gen.facts) := fun m g _ =>
  (θ_run _ _ _).mono (fun _ h => ⟨fun c => (h c).2.2.2.2.2.2.2.2, sem_eq_zero_of_no_sems (sig := Cert.MlpbRIdeal.sig) (by decide) _⟩)
    (Cert.MlpbRIdeal.Value.run m g)

/-- The reference's frame (second layer combination): it ends with its arguments unchanged, and has no semaphores. -/
theorem frame_comb1_ref : Cert.quiescent_Comb1RIdeal (hComb1RIdeal := Cert.Comb1RIdeal.Gen.facts) := fun m g _ =>
  (θ_run _ _ _).mono (fun _ h => ⟨fun c => (h c).2.2.2, sem_eq_zero_of_no_sems (sig := Cert.Comb1RIdeal.sig) (by decide) _⟩)
    (Cert.Comb1RIdeal.Value.run m g)

/-- The reference's frame (first layer combination): it ends with its arguments unchanged, and has no semaphores. -/
theorem frame_comb0_ref : Cert.quiescent_Comb0RIdeal (hComb0RIdeal := Cert.Comb0RIdeal.Gen.facts) := fun m g _ =>
  (θ_run _ _ _).mono (fun _ h => ⟨fun c => (h c).2.2.2.2.2, sem_eq_zero_of_no_sems (sig := Cert.Comb0RIdeal.sig) (by decide) _⟩)
    (Cert.Comb0RIdeal.Value.run m g)

/-- The reference's frame (convolution, forward): it ends with its arguments unchanged, and has no semaphores. -/
theorem frame_convf_ref : Cert.quiescent_ConvfRIdeal (hConvfRIdeal := Cert.ConvfRIdeal.Gen.facts) := fun m g _ =>
  (θ_run _ _ _).mono (fun _ h => ⟨fun c => (h c).2, sem_eq_zero_of_no_sems (sig := Cert.ConvfRIdeal.sig) (by decide) _⟩)
    (Cert.ConvfRIdeal.Value.run m g)

/-- The reference's frame (low-rank gate, forward): it ends with its arguments unchanged, and has no semaphores. -/
theorem frame_glog_ref : Cert.quiescent_GlogRIdeal (hGlogRIdeal := Cert.GlogRIdeal.Gen.facts) := fun m g _ =>
  (θ_run _ _ _).mono (fun _ h => ⟨fun c => (h c).2.2, sem_eq_zero_of_no_sems (sig := Cert.GlogRIdeal.sig) (by decide) _⟩)
    (Cert.GlogRIdeal.Value.run m g)

/-- The reference's frame (norm and projection): it ends with its arguments unchanged, and has no semaphores. -/
theorem frame_nmm_ref : Cert.quiescent_NmmRIdeal (hNmmRIdeal := Cert.NmmRIdeal.Gen.facts) := fun m g _ =>
  (θ_run _ _ _).mono (fun _ h => ⟨fun c => (h c).2.2, sem_eq_zero_of_no_sems (sig := Cert.NmmRIdeal.sig) (by decide) _⟩)
    (Cert.NmmRIdeal.Value.run m g)

/-- The reference's frame (second layer combination, forward): it ends with its arguments unchanged, and has no semaphores. -/
theorem frame_mix1_ref : Cert.quiescent_Mix1RIdeal (hMix1RIdeal := Cert.Mix1RIdeal.Gen.facts) := fun m g _ =>
  (θ_run _ _ _).mono (fun _ h => ⟨fun c => (h c).2, sem_eq_zero_of_no_sems (sig := Cert.Mix1RIdeal.sig) (by decide) _⟩)
    (Cert.Mix1RIdeal.Value.run m g)

/-- The reference's frame (first layer combination, forward): it ends with its arguments unchanged, and has no semaphores. -/
theorem frame_mix0_ref : Cert.quiescent_Mix0RIdeal (hMix0RIdeal := Cert.Mix0RIdeal.Gen.facts) := fun m g _ =>
  (θ_run _ _ _).mono (fun _ h => ⟨fun c => (h c).2, sem_eq_zero_of_no_sems (sig := Cert.Mix0RIdeal.sig) (by decide) _⟩)
    (Cert.Mix0RIdeal.Value.run m g)

/-- The reference's frame (gated linear attention): it ends with its arguments unchanged, and has no semaphores. -/
theorem frame_glaf_ref : Cert.quiescent_GlafRIdeal (hGlafRIdeal := Cert.GlafRIdeal.Gen.facts) := fun m g _ =>
  (θ_run _ _ _).mono (fun _ h => ⟨fun c => (h c).2.2.2.2, sem_eq_zero_of_no_sems (sig := Cert.GlafRIdeal.sig) (by decide) _⟩)
    (Cert.GlafRIdeal.Value.run m g)

/-- The reference's frame (HGRU recurrence): it ends with its arguments unchanged, and has no semaphores. -/
theorem frame_hgf_ref : Cert.quiescent_HgfRIdeal (hHgfRIdeal := Cert.HgfRIdeal.Gen.facts) := fun m g _ =>
  (θ_run _ _ _).mono (fun _ h => ⟨fun c => (h c).2.2.2.2, sem_eq_zero_of_no_sems (sig := Cert.HgfRIdeal.sig) (by decide) _⟩)
    (Cert.HgfRIdeal.Value.run m g)

/-- The reference's frame (product with a residual): it ends with its arguments unchanged, and has no semaphores. -/
theorem frame_mres_ref : Cert.quiescent_MresRIdeal (hMresRIdeal := Cert.MresRIdeal.Gen.facts) := fun m g _ =>
  (θ_run _ _ _).mono (fun _ h => ⟨fun c => (h c).2, sem_eq_zero_of_no_sems (sig := Cert.MresRIdeal.sig) (by decide) _⟩)
    (Cert.MresRIdeal.Value.run m g)

/-- The reference's frame (a weight's gradient): it ends with its arguments unchanged, and has no semaphores. -/
theorem frame_wgr_ref : Cert.quiescent_WgrRIdeal (hWgrRIdeal := Cert.WgrRIdeal.Gen.facts) := fun m g _ =>
  (θ_run _ _ _).mono (fun _ h => ⟨fun c => (h c).2, sem_eq_zero_of_no_sems (sig := Cert.WgrRIdeal.sig) (by decide) _⟩)
    (Cert.WgrRIdeal.Value.run m g)

/-- The reference's frame (optimiser, one weight): it ends with its arguments unchanged, and has no semaphores. -/
theorem frame_adw_ref : Cert.quiescent_AdwRIdeal (hAdwRIdeal := Cert.AdwRIdeal.Gen.facts) := fun m g _ =>
  (θ_run _ _ _).mono (fun _ h => ⟨fun c => (h c).2.2.2.2, sem_eq_zero_of_no_sems (sig := Cert.AdwRIdeal.sig) (by decide) _⟩)
    (Cert.AdwRIdeal.Value.run m g)

/-- The reference's frame (optimiser, two layers): it ends with its arguments unchanged, and has no semaphores. -/
theorem frame_adl_ref : Cert.quiescent_AdlRIdeal (hAdlRIdeal := Cert.AdlRIdeal.Gen.facts) := fun m g _ =>
  (θ_run _ _ _).mono (fun _ h => ⟨fun c => (h c).2.2.2.2, sem_eq_zero_of_no_sems (sig := Cert.AdlRIdeal.sig) (by decide) _⟩)
    (Cert.AdlRIdeal.Value.run m g)

/-- The reference's frame (optimiser, small weight): it ends with its arguments unchanged, and has no semaphores. -/
theorem frame_adh_ref : Cert.quiescent_AdhRIdeal (hAdhRIdeal := Cert.AdhRIdeal.Gen.facts) := fun m g _ =>
  (θ_run _ _ _).mono (fun _ h => ⟨fun c => (h c).2.2.2.2, sem_eq_zero_of_no_sems (sig := Cert.AdhRIdeal.sig) (by decide) _⟩)
    (Cert.AdhRIdeal.Value.run m g)

/-- The reference's frame (sum of the parts): it ends with its arguments unchanged, and has no semaphores. -/
theorem frame_sums_ref : Cert.quiescent_SumsRIdeal (hSumsRIdeal := Cert.SumsRIdeal.Gen.facts) := fun m g _ =>
  (θ_run _ _ _).mono (fun _ h => ⟨fun c => (h c).2, sem_eq_zero_of_no_sems (sig := Cert.SumsRIdeal.sig) (by decide) _⟩)
    (Cert.SumsRIdeal.Value.run m g)

/-- The reference's frame (first packing): it ends with its arguments unchanged, and has no semaphores. -/
theorem frame_as0_ref : Cert.quiescent_As0RIdeal (hAs0RIdeal := Cert.As0RIdeal.Gen.facts) := fun m g _ =>
  (θ_run _ _ _).mono (fun _ h => ⟨fun c => (h c).2, sem_eq_zero_of_no_sems (sig := Cert.As0RIdeal.sig) (by decide) _⟩)
    (Cert.As0RIdeal.Value.run m g)

/-- The reference's frame (second packing): it ends with its arguments unchanged, and has no semaphores. -/
theorem frame_as1_ref : Cert.quiescent_As1RIdeal (hAs1RIdeal := Cert.As1RIdeal.Gen.facts) := fun m g _ =>
  (θ_run _ _ _).mono (fun _ h => ⟨fun c => (h c).2, sem_eq_zero_of_no_sems (sig := Cert.As1RIdeal.sig) (by decide) _⟩)
    (Cert.As1RIdeal.Value.run m g)

theorem claim : Cert.Claim := ⟨Cert.LossK.Gen.facts, Cert.LossKIdeal.Gen.facts, Cert.LossRIdeal.Gen.facts,
  Cert.GateK.Gen.facts, Cert.GateKIdeal.Gen.facts, Cert.GateRIdeal.Gen.facts,
  Cert.ConvK.Gen.facts, Cert.ConvKIdeal.Gen.facts, Cert.ConvRIdeal.Gen.facts,
  Cert.DgnK.Gen.facts, Cert.DgnKIdeal.Gen.facts, Cert.DgnRIdeal.Gen.facts,
  Cert.MlpbK.Gen.facts, Cert.MlpbKIdeal.Gen.facts, Cert.MlpbRIdeal.Gen.facts,
  Cert.Comb1K.Gen.facts, Cert.Comb1KIdeal.Gen.facts, Cert.Comb1RIdeal.Gen.facts,
  Cert.Comb0K.Gen.facts, Cert.Comb0KIdeal.Gen.facts, Cert.Comb0RIdeal.Gen.facts,
  Cert.ConvfK.Gen.facts, Cert.ConvfKIdeal.Gen.facts, Cert.ConvfRIdeal.Gen.facts,
  Cert.GlogK.Gen.facts, Cert.GlogKIdeal.Gen.facts, Cert.GlogRIdeal.Gen.facts,
  Cert.NmmK.Gen.facts, Cert.NmmKIdeal.Gen.facts, Cert.NmmRIdeal.Gen.facts,
  Cert.Mix1K.Gen.facts, Cert.Mix1KIdeal.Gen.facts, Cert.Mix1RIdeal.Gen.facts,
  Cert.Mix0K.Gen.facts, Cert.Mix0KIdeal.Gen.facts, Cert.Mix0RIdeal.Gen.facts,
  Cert.GlafK.Gen.facts, Cert.GlafKIdeal.Gen.facts, Cert.GlafRIdeal.Gen.facts,
  Cert.HgfK.Gen.facts, Cert.HgfKIdeal.Gen.facts, Cert.HgfRIdeal.Gen.facts,
  Cert.Glab1.Gen.facts, Cert.Glab1Ideal.Gen.facts, Cert.Hgb1.Gen.facts,
  Cert.Hgb1Ideal.Gen.facts, Cert.MresK.Gen.facts, Cert.MresKIdeal.Gen.facts,
  Cert.MresRIdeal.Gen.facts, Cert.WgrK.Gen.facts, Cert.WgrKIdeal.Gen.facts,
  Cert.WgrRIdeal.Gen.facts, Cert.AdwK.Gen.facts, Cert.AdwKIdeal.Gen.facts,
  Cert.AdwRIdeal.Gen.facts, Cert.AdlK.Gen.facts, Cert.AdlKIdeal.Gen.facts,
  Cert.AdlRIdeal.Gen.facts, Cert.AdhK.Gen.facts, Cert.AdhKIdeal.Gen.facts,
  Cert.AdhRIdeal.Gen.facts, Cert.SumsK.Gen.facts, Cert.SumsKIdeal.Gen.facts,
  Cert.SumsRIdeal.Gen.facts, Cert.As0K.Gen.facts, Cert.As0KIdeal.Gen.facts,
  Cert.As0RIdeal.Gen.facts, Cert.As1K.Gen.facts, Cert.As1KIdeal.Gen.facts,
  Cert.As1RIdeal.Gen.facts, Cert.Pre_finite_loss.Gen.facts, Cert.Pre_finite_dgn.Gen.facts,
  Cert.Pre_finite_mlpb.Gen.facts, Cert.Pre_finite_glaf.Gen.facts, Cert.Pre_finite_hgf.Gen.facts,
  fun m ρ _ => Cert.LossK.Gen.frame m ρ,
  fun m ρ _ => Cert.LossKIdeal.Gen.frame m ρ,
  fun m ρ _ => Cert.LossKIdeal.Gen.frame m ρ,
  fun m g _ => frame_loss_ref m g trivial,
  fun m g _ => frame_loss_ref m g trivial,
  fun m ρ _ => Cert.GateK.Gen.frame m ρ,
  fun m ρ _ => Cert.GateKIdeal.Gen.frame m ρ,
  fun m g _ => frame_gate_ref m g trivial,
  fun m ρ _ => Cert.ConvK.Gen.frame m ρ,
  fun m ρ _ => Cert.ConvKIdeal.Gen.frame m ρ,
  fun m g _ => frame_conv_ref m g trivial,
  fun m ρ _ => Cert.DgnK.Gen.frame m ρ,
  fun m ρ _ => Cert.DgnKIdeal.Gen.frame m ρ,
  fun m ρ _ => Cert.DgnKIdeal.Gen.frame m ρ,
  fun m g _ => frame_dgn_ref m g trivial,
  fun m g _ => frame_dgn_ref m g trivial,
  fun m ρ _ => Cert.MlpbK.Gen.frame m ρ,
  fun m ρ _ => Cert.MlpbKIdeal.Gen.frame m ρ,
  fun m ρ _ => Cert.MlpbKIdeal.Gen.frame m ρ,
  fun m g _ => frame_mlpb_ref m g trivial,
  fun m g _ => frame_mlpb_ref m g trivial,
  fun m ρ _ => Cert.Comb1K.Gen.frame m ρ,
  fun m ρ _ => Cert.Comb1KIdeal.Gen.frame m ρ,
  fun m g _ => frame_comb1_ref m g trivial,
  fun m ρ _ => Cert.Comb0K.Gen.frame m ρ,
  fun m ρ _ => Cert.Comb0KIdeal.Gen.frame m ρ,
  fun m g _ => frame_comb0_ref m g trivial,
  fun m ρ _ => Cert.ConvfK.Gen.frame m ρ,
  fun m ρ _ => Cert.ConvfKIdeal.Gen.frame m ρ,
  fun m g _ => frame_convf_ref m g trivial,
  fun m ρ _ => Cert.GlogK.Gen.frame m ρ,
  fun m ρ _ => Cert.GlogKIdeal.Gen.frame m ρ,
  fun m g _ => frame_glog_ref m g trivial,
  fun m ρ _ => Cert.NmmK.Gen.frame m ρ,
  fun m ρ _ => Cert.NmmKIdeal.Gen.frame m ρ,
  fun m g _ => frame_nmm_ref m g trivial,
  fun m ρ _ => Cert.Mix1K.Gen.frame m ρ,
  fun m ρ _ => Cert.Mix1KIdeal.Gen.frame m ρ,
  fun m g _ => frame_mix1_ref m g trivial,
  fun m ρ _ => Cert.Mix0K.Gen.frame m ρ,
  fun m ρ _ => Cert.Mix0KIdeal.Gen.frame m ρ,
  fun m g _ => frame_mix0_ref m g trivial,
  fun m ρ _ => Cert.GlafK.Gen.frame m ρ,
  fun m ρ _ => Cert.GlafKIdeal.Gen.frame m ρ,
  fun m ρ _ => Cert.GlafKIdeal.Gen.frame m ρ,
  fun m g _ => frame_glaf_ref m g trivial,
  fun m g _ => frame_glaf_ref m g trivial,
  fun m ρ _ => Cert.HgfK.Gen.frame m ρ,
  fun m ρ _ => Cert.HgfKIdeal.Gen.frame m ρ,
  fun m ρ _ => Cert.HgfKIdeal.Gen.frame m ρ,
  fun m g _ => frame_hgf_ref m g trivial,
  fun m g _ => frame_hgf_ref m g trivial,
  fun m ρ _ => Cert.Glab1.Gen.frame m ρ,
  fun m ρ _ => Cert.Glab1Ideal.Gen.frame m ρ,
  fun m ρ _ => Cert.Hgb1.Gen.frame m ρ,
  fun m ρ _ => Cert.Hgb1Ideal.Gen.frame m ρ,
  fun m ρ _ => Cert.MresK.Gen.frame m ρ,
  fun m ρ _ => Cert.MresKIdeal.Gen.frame m ρ,
  fun m g _ => frame_mres_ref m g trivial,
  fun m ρ _ => Cert.WgrK.Gen.frame m ρ,
  fun m ρ _ => Cert.WgrKIdeal.Gen.frame m ρ,
  fun m g _ => frame_wgr_ref m g trivial,
  fun m ρ _ => Cert.AdwK.Gen.frame m ρ,
  fun m ρ _ => Cert.AdwKIdeal.Gen.frame m ρ,
  fun m g _ => frame_adw_ref m g trivial,
  fun m ρ _ => Cert.AdlK.Gen.frame m ρ,
  fun m ρ _ => Cert.AdlKIdeal.Gen.frame m ρ,
  fun m g _ => frame_adl_ref m g trivial,
  fun m ρ _ => Cert.AdhK.Gen.frame m ρ,
  fun m ρ _ => Cert.AdhKIdeal.Gen.frame m ρ,
  fun m g _ => frame_adh_ref m g trivial,
  fun m ρ _ => Cert.SumsK.Gen.frame m ρ,
  fun m ρ _ => Cert.SumsKIdeal.Gen.frame m ρ,
  fun m g _ => frame_sums_ref m g trivial,
  fun m ρ _ => Cert.As0K.Gen.frame m ρ,
  fun m ρ _ => Cert.As0KIdeal.Gen.frame m ρ,
  fun m g _ => frame_as0_ref m g trivial,
  fun m ρ _ => Cert.As1K.Gen.frame m ρ,
  fun m ρ _ => Cert.As1KIdeal.Gen.frame m ρ,
  fun m g _ => frame_as1_ref m g trivial,
  trivial,
  Cert.LossClaim.algebraic,
  trivial,
  Cert.GateClaim.algebraic,
  trivial,
  Cert.ConvClaim.algebraic,
  trivial,
  Cert.DgnClaim.algebraic,
  trivial,
  Cert.MlpbClaim.algebraic,
  trivial,
  Cert.Comb1Claim.algebraic,
  trivial,
  Cert.Comb0Claim.algebraic,
  trivial,
  Cert.ConvfClaim.algebraic,
  trivial,
  Cert.GlogClaim.algebraic,
  trivial,
  Cert.NmmClaim.algebraic,
  trivial,
  Cert.Mix1Claim.algebraic,
  trivial,
  Cert.Mix0Claim.algebraic,
  trivial,
  Cert.GlafClaim.algebraic,
  trivial,
  Cert.HgfClaim.algebraic,
  trivial,
  trivial,
  trivial,
  Cert.MresClaim.algebraic,
  trivial,
  Cert.WgrClaim.algebraic,
  trivial,
  Cert.AdwClaim.algebraic,
  trivial,
  Cert.AdlClaim.algebraic,
  trivial,
  Cert.AdhClaim.algebraic,
  trivial,
  Cert.SumsClaim.algebraic,
  trivial,
  Cert.As0Claim.algebraic,
  trivial,
  Cert.As1Claim.algebraic⟩

end Cert.Proof

end
